-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v144) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v30) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)) →
    ∃ (v0 : (c : Dev Cert.Kernel6Ideal.nD) → Buf (Elt Ideal) ((c.tc : Thread Cert.Kernel6Ideal.nD Cert.Kernel6Ideal.τ).loc Cert.Kernel6Ideal.main_v27)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v144) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S4x8192x4608 : Shape := ⟨3, ![4, 8192, 4608]⟩
abbrev S4x512 : Shape := ⟨2, ![4, 512]⟩
abbrev S512 : Shape := ⟨1, ![512]⟩
abbrev S4x128x128 : Shape := ⟨3, ![4, 128, 128]⟩
abbrev S4x8192x512 : Shape := ⟨3, ![4, 8192, 512]⟩
abbrev S_ : Shape := ⟨0, ![]⟩
abbrev S1x1x512 : Shape := ⟨3, ![1, 1, 512]⟩
abbrev S1x512 : Shape := ⟨2, ![1, 512]⟩

class Facts : Prop where
  slices_S4x8192x4608_S4x8192x512_0_0_2560 : S4x8192x4608.Slices ![0, 0, 2560] S4x8192x512
  bcast_S_S4x8192x512 : S_.BroadcastsInDim S4x8192x512 (![] : Fin 0 → Fin S4x8192x512.rank)
  bcast_S_S512 : S_.BroadcastsInDim S512 (![] : Fin 0 → Fin S512.rank)
  bcast_S512_S1x1x512_2 : S512.BroadcastsInDim S1x1x512 (![2] : Fin 1 → Fin S1x1x512.rank)
  bcast_S1x1x512_S4x8192x512_0_1_2 : S1x1x512.BroadcastsInDim S4x8192x512 (![0, 1, 2] : Fin 3 → Fin S4x8192x512.rank)
  slices_S4x512_S1x512_0_0 : S4x512.Slices ![0, 0] S1x512
  shapeCasts_S1x512_S512 : S1x512.ShapeCasts S512
  slices_S4x512_S1x512_1_0 : S4x512.Slices ![1, 0] S1x512
  slices_S4x512_S1x512_2_0 : S4x512.Slices ![2, 0] S1x512
  slices_S4x512_S1x512_3_0 : S4x512.Slices ![3, 0] S1x512

variable [Facts]

def fn_part1 {F : FTy → Type} [FloatOps F] (main_arg1 : FVec F S4x512 .f32) (main_v17 : IVec S4x8192x512 1) (main_v20 : FVec F S512 .f32) : IVec S4x8192x512 1 :=
  let main_cst_2 : FVec F S_ .f32 := constant S_ .f32 0x7F800000#32
  let main_v21 : FVec F S512 .f32 := broadcastInDim S512 ![] bcast_S_S512 main_cst_2
  let main_v22 : IVec S512 1 := cmpf .olt main_v20 main_v21
  let main_v23 : IVec S1x1x512 1 := broadcastInDim S1x1x512 ![2] bcast_S512_S1x1x512_2 main_v22
  let main_v24 : IVec S4x8192x512 1 := broadcastInDim S4x8192x512 ![0, 1, 2] bcast_S1x1x512_S4x8192x512_0_1_2 main_v23
  let main_v25 : IVec S4x8192x512 1 := andi main_v17 main_v24
  let main_v26 : FVec F S1x512 .f32 := (extractStridedSlice S1x512 ![2, 0] · slices_S4x512_S1x512_2_0) main_arg1
  let main_v27 : FVec F S512 .f32 := shapeCast S512 main_v26 shapeCasts_S1x512_S512
  let main_v28 : FVec F S512 .f32 := Host.absf main_v27
  let main_cst_3 : FVec F S_ .f32 := constant S_ .f32 0x7F800000#32
  let main_v29 : FVec F S512 .f32 := broadcastInDim S512 ![] bcast_S_S512 main_cst_3
  let main_v30 : IVec S512 1 := cmpf .olt main_v28 main_v29
  let main_v31 : IVec S1x1x512 1 := broadcastInDim S1x1x512 ![2] bcast_S512_S1x1x512_2 main_v30
  let main_v32 : IVec S4x8192x512 1 := broadcastInDim S4x8192x512 ![0, 1, 2] bcast_S1x1x512_S4x8192x512_0_1_2 main_v31
  let main_v33 : IVec S4x8192x512 1 := andi main_v25 main_v32
  let main_v34 : FVec F S1x512 .f32 := (extractStridedSlice S1x512 ![3, 0] · slices_S4x512_S1x512_3_0) main_arg1
  let main_v35 : FVec F S512 .f32 := shapeCast S512 main_v34 shapeCasts_S1x512_S512
  let main_v36 : FVec F S512 .f32 := Host.absf main_v35
  let main_cst_4 : FVec F S_ .f32 := constant S_ .f32 0x7F800000#32
  let main_v37 : FVec F S512 .f32 := broadcastInDim S512 ![] bcast_S_S512 main_cst_4
  let main_v38 : IVec S512 1 := cmpf .olt main_v36 main_v37
  let main_v39 : IVec S1x1x512 1 := broadcastInDim S1x1x512 ![2] bcast_S512_S1x1x512_2 main_v38
  let main_v40 : IVec S4x8192x512 1 := broadcastInDim S4x8192x512 ![0, 1, 2] bcast_S1x1x512_S4x8192x512_0_1_2 main_v39
  let main_v41 : IVec S4x8192x512 1 := andi main_v33 main_v40
  main_v41

def fn {F : FTy → Type} [FloatOps F] (main_arg0 : FVec F S4x8192x4608 .f32) (main_arg1 : FVec F S4x512 .f32) (main_arg2 : FVec F S512 .f32) (main_arg3 : FVec F S4x128x128 .f32) (main_arg4 : FVec F S512 .f32) (main_arg5 : FVec F S4x128x128 .f32) (main_arg6 : FVec F S512 .f32) (main_arg7 : FVec F S512 .f32) : IVec S4x8192x512 1 :=
  let main_v0 : FVec F S4x8192x512 .f32 := (extractStridedSlice S4x8192x512 ![0, 0, 2560] · slices_S4x8192x4608_S4x8192x512_0_0_2560) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_v7 : IVec S1x1x512 1 := broadcastInDim S1x1x512 ![2] bcast_S512_S1x1x512_2 main_v6
  let main_v8 : IVec S4x8192x512 1 := broadcastInDim S4x8192x512 ![0, 1, 2] bcast_S1x1x512_S4x8192x512_0_1_2 main_v7
  let main_v9 : IVec S4x8192x512 1 := andi main_v3 main_v8
  let main_v10 : FVec F S1x512 .f32 := (extractStridedSlice S1x512 ![0, 0] · slices_S4x512_S1x512_0_0) main_arg1
  let main_v11 : FVec F S512 .f32 := shapeCast S512 main_v10 shapeCasts_S1x512_S512
  let main_v12 : FVec F S512 .f32 := Host.absf main_v11
  let main_cst_1 : FVec F S_ .f32 := constant S_ .f32 0x7F800000#32
  let main_v13 : FVec F S512 .f32 := broadcastInDim S512 ![] bcast_S_S512 main_cst_1
  let main_v14 : IVec S512 1 := cmpf .olt main_v12 main_v13
  let main_v15 : IVec S1x1x512 1 := broadcastInDim S1x1x512 ![2] bcast_S512_S1x1x512_2 main_v14
  let main_v16 : IVec S4x8192x512 1 := broadcastInDim S4x8192x512 ![0, 1, 2] bcast_S1x1x512_S4x8192x512_0_1_2 main_v15
  let main_v17 : IVec S4x8192x512 1 := andi main_v9 main_v16
  let main_v18 : FVec F S1x512 .f32 := (extractStridedSlice S1x512 ![1, 0] · slices_S4x512_S1x512_1_0) main_arg1
  let main_v19 : FVec F S512 .f32 := shapeCast S512 main_v18 shapeCasts_S1x512_S512
  let main_v20 : FVec F S512 .f32 := Host.absf main_v19
  fn_part1 (F := F) main_arg1 main_v17 main_v20
-- ==== Kernel.lean ====
abbrev S4x8192x4608 : Shape := ⟨3, ![4, 8192, 4608]⟩
abbrev S4x512 : Shape := ⟨2, ![4, 512]⟩
abbrev S512 : Shape := ⟨1, ![512]⟩
abbrev S4x128x128 : Shape := ⟨3, ![4, 128, 128]⟩
abbrev S512x64 : Shape := ⟨2, ![512, 64]⟩
abbrev S_ : Shape := ⟨0, ![]⟩
abbrev S1x512 : Shape := ⟨2, ![1, 512]⟩
abbrev S4x8192x512 : Shape := ⟨3, ![4, 8192, 512]⟩
abbrev S1x512x512 : Shape := ⟨3, ![1, 512, 512]⟩
abbrev S520x512 : Shape := ⟨2, ![520, 512]⟩
abbrev S4x512x128 : Shape := ⟨3, ![4, 512, 128]⟩
abbrev S8x512 : Shape := ⟨2, ![8, 512]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x512x128 : Shape := ⟨3, ![1, 512, 128]⟩
abbrev S1x64x128 : Shape := ⟨3, ![1, 64, 128]⟩
abbrev S64x128 : Shape := ⟨2, ![64, 128]⟩
abbrev S64x512 : Shape := ⟨2, ![64, 512]⟩

abbrev nBuf : Space → Nat
  | .hbm => 34
  | .vmem => 18
  | .smem => 0
  | _ => 0

abbrev bufTy : (tb : Table) → Fin (tcTables nBuf tb) → BufTy
  | .hbm, ⟨0, _⟩ => ⟨S4x8192x4608, .f32⟩
  | .hbm, ⟨1, _⟩ => ⟨S4x512, .f32⟩
  | .hbm, ⟨2, _⟩ => ⟨S512, .f32⟩
  | .hbm, ⟨3, _⟩ => ⟨S4x128x128, .f32⟩
  | .hbm, ⟨4, _⟩ => ⟨S512, .f32⟩
  | .hbm, ⟨5, _⟩ => ⟨S4x128x128, .f32⟩
  | .hbm, ⟨6, _⟩ => ⟨S512, .f32⟩
  | .hbm, ⟨7, _⟩ => ⟨S512, .f32⟩
  | .hbm, ⟨8, _⟩ => ⟨S512x64, .bf16⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .i1⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S1x512, .f32⟩
  | .hbm, ⟨29, _⟩ => ⟨S4x128x128, .bf16⟩
  | .hbm, ⟨30, _⟩ => ⟨S1x512, .f32⟩
  | .hbm, ⟨31, _⟩ => ⟨S4x128x128, .bf16⟩
  | .hbm, ⟨32, _⟩ => ⟨S1x512, .f32⟩
  | .hbm, ⟨33, _⟩ => ⟨S4x8192x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S4x512, .f32⟩
  | .local _ .vmem, ⟨5, _⟩ => ⟨S1x512, .f32⟩
  | .local _ .vmem, ⟨6, _⟩ => ⟨S4x128x128, .bf16⟩
  | .local _ .vmem, ⟨7, _⟩ => ⟨S1x512, .f32⟩
  | .local _ .vmem, ⟨8, _⟩ => ⟨S4x128x128, .bf16⟩
  | .local _ .vmem, ⟨9, _⟩ => ⟨S1x512, .f32⟩
  | .local _ .vmem, ⟨10, _⟩ => ⟨S1x512, .f32⟩
  | .local _ .vmem, ⟨11, _⟩ => ⟨S512x64, .bf16⟩
  | .local _ .vmem, ⟨12, _⟩ => ⟨S1x512x512, .bf16⟩
  | .local _ .vmem, ⟨13, _⟩ => ⟨S1x512x512, .bf16⟩
  | .local _ .vmem, ⟨14, _⟩ => ⟨S520x512, .f32⟩
  | .local _ .vmem, ⟨15, _⟩ => ⟨S1x512, .f32⟩
  | .local _ .vmem, ⟨16, _⟩ => ⟨S4x512x128, .f32⟩
  | .local _ .vmem, ⟨17, _⟩ => ⟨S4x512x128, .f32⟩
  | _, _ => ⟨S4x8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x8192x4608 : Shape := ⟨3, ![4, 8192, 4608]⟩
abbrev S4x512 : Shape := ⟨2, ![4, 512]⟩
abbrev S512 : Shape := ⟨1, ![512]⟩
abbrev S4x128x128 : Shape := ⟨3, ![4, 128, 128]⟩
abbrev S4x8192x512 : Shape := ⟨3, ![4, 8192, 512]⟩
abbrev S_ : Shape := ⟨0, ![]⟩
abbrev S4x8195x512 : Shape := ⟨3, ![4, 8195, 512]⟩
abbrev S1x512 : Shape := ⟨2, ![1, 512]⟩
abbrev S1x1x512 : Shape := ⟨3, ![1, 1, 512]⟩
abbrev S4x8192x4x128 : Shape := ⟨4, ![4, 8192, 4, 128]⟩
abbrev S4x128x4x8192 : Shape := ⟨4, ![4, 128, 4, 8192]⟩
abbrev S8192x4x512 : Shape := ⟨3, ![8192, 4, 512]⟩
abbrev S1x4x512 : Shape := ⟨3, ![1, 4, 512]⟩

abbrev nBuf : Space → Nat
  | .hbm => 152
  | .vmem => 0
  | .smem => 0
  | _ => 0

abbrev hbmTy0_0 (i : Nat) : BufTy := match i % 128 with
  | 0 => ⟨S4x8192x4608, .f32⟩
  | 1 => ⟨S4x512, .f32⟩
  | 2 => ⟨S512, .f32⟩
  | 3 => ⟨S4x128x128, .f32⟩
  | 4 => ⟨S512, .f32⟩
  | 5 => ⟨S4x128x128, .f32⟩
  | 6 => ⟨S512, .f32⟩
  | 7 => ⟨S512, .f32⟩
  | 8 => ⟨S4x8192x512, .f32⟩
  | 9 => ⟨S_, .i32⟩
  | 10 => ⟨S_, .f32⟩
  | 11 => ⟨S4x8195x512, .f32⟩
  | 12 => ⟨S4x8192x512, .f32⟩
  | 13 => ⟨S1x512, .f32⟩
  | 14 => ⟨S512, .f32⟩
  | 15 => ⟨S1x1x512, .f32⟩
  | 16 => ⟨S4x8192x512, .f32⟩
  | 17 => ⟨S4x8192x512, .f32⟩
  | 18 => ⟨S1x1x512, .f32⟩
  | 19 => ⟨S4x8192x512, .f32⟩
  | 20 => ⟨S4x8192x512, .f32⟩
  | 21 => ⟨S4x8192x512, .f32⟩
  | 22 => ⟨S1x512, .f32⟩
  | 23 => ⟨S512, .f32⟩
  | 24 => ⟨S1x1x512, .f32⟩
  | 25 => ⟨S4x8192x512, .f32⟩
  | 26 => ⟨S4x8192x512, .f32⟩
  | 27 => ⟨S4x8192x512, .f32⟩
  | 28 => ⟨S4x8192x512, .f32⟩
  | 29 => ⟨S1x512, .f32⟩
  | 30 => ⟨S512, .f32⟩
  | 31 => ⟨S1x1x512, .f32⟩
  | 32 => ⟨S4x8192x512, .f32⟩
  | 33 => ⟨S4x8192x512, .f32⟩
  | 34 => ⟨S4x8192x512, .f32⟩
  | 35 => ⟨S4x8192x512, .f32⟩
  | 36 => ⟨S1x512, .f32⟩
  | 37 => ⟨S512, .f32⟩
  | 38 => ⟨S1x1x512, .f32⟩
  | 39 => ⟨S4x8192x512, .f32⟩
  | 40 => ⟨S4x8192x512, .f32⟩
  | 41 => ⟨S4x8192x512, .f32⟩
  | 42 => ⟨S4x8192x4x128, .f32⟩
  | 43 => ⟨S4x128x4x8192, .f32⟩
  | 44 => ⟨S4x8192x4x128, .f32⟩
  | 45 => ⟨S4x8192x512, .f32⟩
  | 46 => ⟨S1x1x512, .f32⟩
  | 47 => ⟨S4x8192x512, .f32⟩
  | 48 => ⟨S4x8192x512, .f32⟩
  | 49 => ⟨S4x8192x512, .f32⟩
  | 50 => ⟨S4x8192x512, .f32⟩
  | 51 => ⟨S_, .f32⟩
  | 52 => ⟨S4x8192x512, .f32⟩
  | 53 => ⟨S4x8192x512, .f32⟩
  | 54 => ⟨S_, .f32⟩
  | 55 => ⟨S4x8192x512, .f32⟩
  | 56 => ⟨S4x8192x512, .f32⟩
  | 57 => ⟨S4x128x4x8192, .f32⟩
  | 58 => ⟨S4x8192x4x128, .f32⟩
  | 59 => ⟨S4x8192x512, .f32⟩
  | 60 => ⟨S1x1x512, .f32⟩
  | 61 => ⟨S4x8192x512, .f32⟩
  | 62 => ⟨S4x8192x512, .f32⟩
  | 63 => ⟨S4x8192x512, .f32⟩
  | 64 => ⟨S4x8192x512, .f32⟩
  | 65 => ⟨S_, .f32⟩
  | 66 => ⟨S4x8192x512, .f32⟩
  | 67 => ⟨S4x8192x512, .f32⟩
  | 68 => ⟨S_, .f32⟩
  | 69 => ⟨S4x8192x512, .f32⟩
  | 70 => ⟨S4x8192x512, .f32⟩
  | 71 => ⟨S_, .f32⟩
  | 72 => ⟨S4x8192x512, .f32⟩
  | 73 => ⟨S4x8192x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S1x1x512, .f32⟩
  | 90 => ⟨S4x8192x512, .f32⟩
  | 91 => ⟨S4x8192x512, .f32⟩
  | 92 => ⟨S4x8192x512, .f32⟩
  | 93 => ⟨S_, .f32⟩
  | 94 => ⟨S4x8192x512, .f32⟩
  | 95 => ⟨S4x8192x512, .f32⟩
  | 96 => ⟨S4x8192x512, .f32⟩
  | 97 => ⟨S4x8192x512, .f32⟩
  | 98 => ⟨S4x8192x512, .f32⟩
  | 99 => ⟨S4x8192x512, .f32⟩
  | 100 => ⟨S4x8192x512, .f32⟩
  | 101 => ⟨S_, .f32⟩
  | 102 => ⟨S4x512, .f32⟩
  | 103 => ⟨S8192x4x512, .f32⟩
  | 104 => ⟨S8192x4x512, .f32⟩
  | 105 => ⟨S_, .f32⟩
  | 106 => ⟨S8192x4x512, .f32⟩
  | 107 => ⟨S_, .i32⟩
  | 108 => ⟨S8192x4x512, .f32⟩
  | 109 => ⟨S8192x4x512, .f32⟩
  | 110 => ⟨S_, .i32⟩
  | 111 => ⟨S4x512, .f32⟩
  | 112 => ⟨S8192x4x512, .f32⟩
  | 113 => ⟨S_, .i32⟩
  | 114 => ⟨S_, .i1⟩
  | 115 => ⟨S_, .i32⟩
  | 116 => ⟨S_, .i32⟩
  | 117 => ⟨S1x4x512, .f32⟩
  | 118 => ⟨S4x512, .f32⟩
  | 119 => ⟨S_, .i32⟩
  | 120 => ⟨S_, .i32⟩
  | 121 => ⟨S1x4x512, .f32⟩
  | 122 => ⟨S4x512, .f32⟩
  | 123 => ⟨S4x512, .f32⟩
  | 124 => ⟨S4x512, .f32⟩
  | 125 => ⟨S1x4x512, .f32⟩
  | 126 => ⟨S_, .i32⟩
  | 127 => ⟨S_, .i32⟩
  | _ => ⟨S4x8192x4608, .f32⟩

abbrev hbmTy0_1 (i : Nat) : BufTy := match i % 128 with
  | 0 => ⟨S8192x4x512, .f32⟩
  | 1 => ⟨S_, .i32⟩
  | 2 => ⟨S_, .i32⟩
  | 3 => ⟨S4x8192x512, .f32⟩
  | 4 => ⟨S4x8192x512, .f32⟩
  | 5 => ⟨S4x8192x512, .f32⟩
  | 6 => ⟨S4x8192x512, .f32⟩
  | 7 => ⟨S_, .f32⟩
  | 8 => ⟨S4x8192x512, .f32⟩
  | 9 => ⟨S4x8192x512, .f32⟩
  | 10 => ⟨S4x8192x512, .f32⟩
  | 11 => ⟨S_, .f32⟩
  | 12 => ⟨S4x8192x512, .f32⟩
  | 13 => ⟨S4x8192x512, .f32⟩
  | 14 => ⟨S4x8192x512, .f32⟩
  | 15 => ⟨S_, .f32⟩
  | 16 => ⟨S4x8192x512, .f32⟩
  | 17 => ⟨S4x8192x512, .f32⟩
  | 18 => ⟨S_, .f32⟩
  | 19 => ⟨S4x8192x512, .f32⟩
  | 20 => ⟨S4x8192x512, .f32⟩
  | 21 => ⟨S4x8192x512, .f32⟩
  | 22 => ⟨S4x8192x512, .f32⟩
  | 23 => ⟨S4x8192x512, .bf16⟩
  | _ => ⟨S4x8192x4608, .f32⟩

abbrev hbmTy (i : Nat) : BufTy := match i / 128 with
  | 0 => hbmTy0_0 i
  | 1 => hbmTy0_1 i
  | _ => ⟨S4x8192x4608, .f32⟩

abbrev bufTy : (tb : Table) → Fin (tcTables nBuf tb) → BufTy
  | .hbm, ⟨i, _⟩ => hbmTy i
  | _, _ => ⟨S4x8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_5 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_6 : Ref sig .tc := ⟨.hbm, 105, rfl⟩
abbrev main_v75 : Ref sig .tc := ⟨.hbm, 106, rfl⟩
abbrev main_c_7 : Ref sig .tc := ⟨.hbm, 107, rfl⟩
abbrev main_v76_0 : Ref sig .tc := ⟨.hbm, 108, rfl⟩
abbrev main_v76_1 : Ref sig .tc := ⟨.hbm, 109, rfl⟩
abbrev main_v76_2 : Ref sig .tc := ⟨.hbm, 110, rfl⟩
abbrev main_v76_3 : Ref sig .tc := ⟨.hbm, 111, rfl⟩
abbrev main_v76_4 : Ref sig .tc := ⟨.hbm, 112, rfl⟩
abbrev main_while0c_c_16 : Ref sig .tc := ⟨.hbm, 113, rfl⟩
abbrev main_while0c_v94 : Ref sig .tc := ⟨.hbm, 114, rfl⟩
abbrev main_while0b_call2_c : Ref sig .tc := ⟨.hbm, 115, rfl⟩
abbrev main_while0b_call2_c_0 : Ref sig .tc := ⟨.hbm, 116, rfl⟩
abbrev main_while0b_call2_v0 : Ref sig .tc := ⟨.hbm, 117, rfl⟩
abbrev main_while0b_v94 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_v0 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_v98 : Ref sig .tc := ⟨.hbm, 128, rfl⟩
abbrev main_while0b_c_16 : Ref sig .tc := ⟨.hbm, 129, rfl⟩
abbrev main_while0b_v99 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_8 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_9 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_cst_10 : Ref sig .tc := ⟨.hbm, 143, rfl⟩
abbrev main_v87 : Ref sig .tc := ⟨.hbm, 144, rfl⟩
abbrev main_v88 : Ref sig .tc := ⟨.hbm, 145, rfl⟩
abbrev main_cst_11 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x1024 : Shape := ⟨3, ![4, 8192, 1024]⟩
abbrev S4x8192x512 : Shape := ⟨3, ![4, 8192, 512]⟩
abbrev S32768x3072 : Shape := ⟨2, ![32768, 3072]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S32768x1024 : Shape := ⟨2, ![32768, 1024]⟩
abbrev S32768x512 : Shape := ⟨2, ![32768, 512]⟩
abbrev S1x1024 : Shape := ⟨2, ![1, 1024]⟩
abbrev S1024 : Shape := ⟨1, ![1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S512x1024 : Shape := ⟨2, ![512, 1024]⟩
abbrev S512x512 : Shape := ⟨2, ![512, 512]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S520x256 : Shape := ⟨2, ![520, 256]⟩
abbrev S8x2816 : Shape := ⟨2, ![8, 2816]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S3x256 : Shape := ⟨2, ![3, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 45
  | .vmem => 33
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S32768x3072, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x5632, .f32⟩
  | .hbm, ⟨12, _⟩ => ⟨S2x3x2816, .f32⟩
  | .hbm, ⟨13, _⟩ => ⟨S2x2816, .f32⟩
  | .hbm, ⟨14, _⟩ => ⟨S2x2816x1024, .f32⟩
  | .hbm, ⟨15, _⟩ => ⟨S2x1024, .f32⟩
  | .hbm, ⟨16, _⟩ => ⟨S2x1024, .f32⟩
  | .hbm, ⟨17, _⟩ => ⟨S32768x1024, .f32⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x3x2816, .f32⟩
  | .hbm, ⟨26, _⟩ => ⟨S3x2816, .f32⟩
  | .hbm, ⟨27, _⟩ => ⟨S1x2816, .f32⟩
  | .hbm, ⟨28, _⟩ => ⟨S2816, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S2x512x1024, .bf16⟩
  | .hbm, ⟨34, _⟩ => ⟨S2x512x1024, .bf16⟩
  | .hbm, ⟨35, _⟩ => ⟨S2x512x1024, .bf16⟩
  | .hbm, ⟨36, _⟩ => ⟨S2x1024x1024, .bf16⟩
  | .hbm, ⟨37, _⟩ => ⟨S2x1024x5632, .bf16⟩
  | .hbm, ⟨38, _⟩ => ⟨S2x2816x1024, .bf16⟩
  | .hbm, ⟨39, _⟩ => ⟨S1x1024, .f32⟩
  | .hbm, ⟨40, _⟩ => ⟨S1x1024, .f32⟩
  | .hbm, ⟨41, _⟩ => ⟨S1x2816, .f32⟩
  | .hbm, ⟨42, _⟩ => ⟨S1x1024, .f32⟩
  | .hbm, ⟨43, _⟩ => ⟨S1x1024, .f32⟩
  | .hbm, ⟨44, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024x2816, .bf16⟩
  | .local _ .vmem, ⟨21, _⟩ => ⟨S1x1024x2816, .bf16⟩
  | .local _ .vmem, ⟨22, _⟩ => ⟨S3x2816, .f32⟩
  | .local _ .vmem, ⟨23, _⟩ => ⟨S1x2816, .f32⟩
  | .local _ .vmem, ⟨24, _⟩ => ⟨S1x2816x1024, .bf16⟩
  | .local _ .vmem, ⟨25, _⟩ => ⟨S1x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S520x256, .f32⟩
  | .local _ .vmem, ⟨32, _⟩ => ⟨S8x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S4x8192x1024 : Shape := ⟨3, ![4, 8192, 1024]⟩
abbrev S4x8192x512 : Shape := ⟨3, ![4, 8192, 512]⟩
abbrev S32768x3072 : Shape := ⟨2, ![32768, 3072]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S4x8192x3x1024 : Shape := ⟨4, ![4, 8192, 3, 1024]⟩
abbrev S_ : Shape := ⟨0, ![]⟩
abbrev S4x8192x1x1024 : Shape := ⟨4, ![4, 8192, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 182
  | .vmem => 0
  | .smem => 0
  | _ => 0

abbrev hbmTy0_0 (i : Nat) : BufTy := match i % 128 with
  | 0 => ⟨S4x8192x1024, .f32⟩
  | 1 => ⟨S4x8192x512, .bf16⟩
  | 2 => ⟨S4x8192x512, .bf16⟩
  | 3 => ⟨S4x8192x512, .bf16⟩
  | 4 => ⟨S32768x3072, .bf16⟩
  | 5 => ⟨S2x512x1024, .f32⟩
  | 6 => ⟨S2x512x1024, .f32⟩
  | 7 => ⟨S2x512x1024, .f32⟩
  | 8 => ⟨S2x1024x1024, .f32⟩
  | 9 => ⟨S2x1024, .f32⟩
  | 10 => ⟨S2x1024, .f32⟩
  | 11 => ⟨S2x1024x5632, .f32⟩
  | 12 => ⟨S2x3x2816, .f32⟩
  | 13 => ⟨S2x2816, .f32⟩
  | 14 => ⟨S2x2816x1024, .f32⟩
  | 15 => ⟨S2x1024, .f32⟩
  | 16 => ⟨S2x1024, .f32⟩
  | 17 => ⟨S32768x3072, .f32⟩
  | 18 => ⟨S4x8192x3x1024, .f32⟩
  | 19 => ⟨S4x8192x3x1024, .f32⟩
  | 20 => ⟨S4x8192x3x1024, .f32⟩
  | 21 => ⟨S_, .f32⟩
  | 22 => ⟨S4x8192x3x1024, .f32⟩
  | 23 => ⟨S4x8192x3x1024, .f32⟩
  | 24 => ⟨S_, .f32⟩
  | 25 => ⟨S4x8192x3x1024, .f32⟩
  | 26 => ⟨S4x8192x3x1024, .f32⟩
  | 27 => ⟨S4x8192x1x1024, .f32⟩
  | 28 => ⟨S4x8192x1024, .f32⟩
  | 29 => ⟨S4x8192x512, .f32⟩
  | 30 => ⟨S1x512x1024, .f32⟩
  | 31 => ⟨S512x1024, .f32⟩
  | 32 => ⟨S4x8192x1024, .f32⟩
  | 33 => ⟨S4x8192x1024, .f32⟩
  | 34 => ⟨S4x8192x1x1024, .f32⟩
  | 35 => ⟨S4x8192x1024, .f32⟩
  | 36 => ⟨S4x8192x512, .f32⟩
  | 37 => ⟨S1x512x1024, .f32⟩
  | 38 => ⟨S512x1024, .f32⟩
  | 39 => ⟨S4x8192x1024, .f32⟩
  | 40 => ⟨S4x8192x1024, .f32⟩
  | 41 => ⟨S4x8192x1024, .f32⟩
  | 42 => ⟨S4x8192x1x1024, .f32⟩
  | 43 => ⟨S4x8192x1024, .f32⟩
  | 44 => ⟨S4x8192x512, .f32⟩
  | 45 => ⟨S1x512x1024, .f32⟩
  | 46 => ⟨S512x1024, .f32⟩
  | 47 => ⟨S4x8192x1024, .f32⟩
  | 48 => ⟨S4x8192x1024, .f32⟩
  | 49 => ⟨S4x8192x1024, .f32⟩
  | 50 => ⟨S_, .f32⟩
  | 51 => ⟨S4x8192x1024, .f32⟩
  | 52 => ⟨S4x8192x1024, .f32⟩
  | 53 => ⟨S1x1024x1024, .f32⟩
  | 54 => ⟨S1024x1024, .f32⟩
  | 55 => ⟨S4x8192x1024, .f32⟩
  | 56 => ⟨S4x8192x1024, .f32⟩
  | 57 => ⟨S1x1024, .f32⟩
  | 58 => ⟨S1024, .f32⟩
  | 59 => ⟨S1x1024, .f32⟩
  | 60 => ⟨S1024, .f32⟩
  | 61 => ⟨S_, .f32⟩
  | 62 => ⟨S4x8192, .f32⟩
  | 63 => ⟨S4x8192x1, .f32⟩
  | 64 => ⟨S_, .f32⟩
  | 65 => ⟨S4x8192x1, .f32⟩
  | 66 => ⟨S4x8192x1, .f32⟩
  | 67 => ⟨S4x8192x1024, .f32⟩
  | 68 => ⟨S4x8192x1024, .f32⟩
  | 69 => ⟨S4x8192x1024, .f32⟩
  | 70 => ⟨S_, .f32⟩
  | 71 => ⟨S4x8192, .f32⟩
  | 72 => ⟨S4x8192x1, .f32⟩
  | 73 => ⟨S_, .f32⟩
  | 74 => ⟨S4x8192x1, .f32⟩
  | 75 => ⟨S4x8192x1, .f32⟩
  | 76 => ⟨S4x8192x1024, .f32⟩
  | 77 => ⟨S4x8192x1024, .f32⟩
  | 78 => ⟨S_, .f32⟩
  | 79 => ⟨S4x8192x1, .f32⟩
  | 80 => ⟨S4x8192x1, .f32⟩
  | 81 => ⟨S4x8192x1, .f32⟩
  | 82 => ⟨S4x8192x1024, .f32⟩
  | 83 => ⟨S4x8192x1024, .f32⟩
  | 84 => ⟨S1x1x1024, .f32⟩
  | 85 => ⟨S4x8192x1024, .f32⟩
  | 86 => ⟨S4x8192x1024, .f32⟩
  | 87 => ⟨S1x1x1024, .f32⟩
  | 88 => ⟨S4x8192x1024, .f32⟩
  | 89 => ⟨S4x8192x1024, .f32⟩
  | 90 => ⟨S1x1024x5632, .f32⟩
  | 91 => ⟨S1024x5632, .f32⟩
  | 92 => ⟨S4x8192x5632, .f32⟩
  | 93 => ⟨S4x8192x2816, .f32⟩
  | 94 => ⟨S4x8192x2816, .f32⟩
  | 95 => ⟨S_, .i32⟩
  | 96 => ⟨S_, .f32⟩
  | 97 => ⟨S4x8194x2816, .f32⟩
  | 98 => ⟨S1x2816, .f32⟩
  | 99 => ⟨S2816, .f32⟩
  | 100 => ⟨S4x8192x2816, .f32⟩
  | 101 => ⟨S1x1x2816, .f32⟩
  | 102 => ⟨S2816, .f32⟩
  | 103 => ⟨S1x1x2816, .f32⟩
  | 104 => ⟨S4x8192x2816, .f32⟩
  | 105 => ⟨S4x8192x2816, .f32⟩
  | 106 => ⟨S1x1x2816, .f32⟩
  | 107 => ⟨S4x8192x2816, .f32⟩
  | 108 => ⟨S4x8192x2816, .f32⟩
  | 109 => ⟨S4x8192x2816, .f32⟩
  | 110 => ⟨S1x1x2816, .f32⟩
  | 111 => ⟨S2816, .f32⟩
  | 112 => ⟨S1x1x2816, .f32⟩
  | 113 => ⟨S4x8192x2816, .f32⟩
  | 114 => ⟨S4x8192x2816, .f32⟩
  | 115 => ⟨S4x8192x2816, .f32⟩
  | 116 => ⟨S4x8192x2816, .f32⟩
  | 117 => ⟨S1x1x2816, .f32⟩
  | 118 => ⟨S2816, .f32⟩
  | 119 => ⟨S1x1x2816, .f32⟩
  | 120 => ⟨S4x8192x2816, .f32⟩
  | 121 => ⟨S4x8192x2816, .f32⟩
  | 122 => ⟨S4x8192x2816, .f32⟩
  | 123 => ⟨S4x8192x2816, .f32⟩
  | 124 => ⟨S4x8192x2816, .f32⟩
  | 125 => ⟨S_, .f32⟩
  | 126 => ⟨S4x8192x2816, .f32⟩
  | 127 => ⟨S4x8192x2816, .f32⟩
  | _ => ⟨S4x8192x1024, .f32⟩

abbrev hbmTy0_1 (i : Nat) : BufTy := match i % 128 with
  | 0 => ⟨S4x8192x2816, .f32⟩
  | 1 => ⟨S_, .f32⟩
  | 2 => ⟨S4x8192x2816, .f32⟩
  | 3 => ⟨S4x8192x2816, .f32⟩
  | 4 => ⟨S4x8192x2816, .f32⟩
  | 5 => ⟨S_, .f32⟩
  | 6 => ⟨S4x8192x2816, .f32⟩
  | 7 => ⟨S4x8192x2816, .f32⟩
  | 8 => ⟨S_, .f32⟩
  | 9 => ⟨S4x8192x2816, .f32⟩
  | 10 => ⟨S4x8192x2816, .f32⟩
  | 11 => ⟨S4x8192x2816, .f32⟩
  | 12 => ⟨S4x8192x2816, .f32⟩
  | 13 => ⟨S1x2816x1024, .f32⟩
  | 14 => ⟨S2816x1024, .f32⟩
  | 15 => ⟨S4x8192x1024, .f32⟩
  | 16 => ⟨S_, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S1x1024, .f32⟩
  | 23 => ⟨S1024, .f32⟩
  | 24 => ⟨S_, .f32⟩
  | 25 => ⟨S4x8192, .f32⟩
  | 26 => ⟨S4x8192x1, .f32⟩
  | 27 => ⟨S_, .f32⟩
  | 28 => ⟨S4x8192x1, .f32⟩
  | 29 => ⟨S4x8192x1, .f32⟩
  | 30 => ⟨S4x8192x1024, .f32⟩
  | 31 => ⟨S4x8192x1024, .f32⟩
  | 32 => ⟨S4x8192x1024, .f32⟩
  | 33 => ⟨S_, .f32⟩
  | 34 => ⟨S4x8192, .f32⟩
  | 35 => ⟨S4x8192x1, .f32⟩
  | 36 => ⟨S_, .f32⟩
  | 37 => ⟨S4x8192x1, .f32⟩
  | 38 => ⟨S4x8192x1, .f32⟩
  | 39 => ⟨S4x8192x1024, .f32⟩
  | 40 => ⟨S4x8192x1024, .f32⟩
  | 41 => ⟨S_, .f32⟩
  | 42 => ⟨S4x8192x1, .f32⟩
  | 43 => ⟨S4x8192x1, .f32⟩
  | 44 => ⟨S4x8192x1, .f32⟩
  | 45 => ⟨S4x8192x1024, .f32⟩
  | 46 => ⟨S4x8192x1024, .f32⟩
  | 47 => ⟨S1x1x1024, .f32⟩
  | 48 => ⟨S4x8192x1024, .f32⟩
  | 49 => ⟨S4x8192x1024, .f32⟩
  | 50 => ⟨S1x1x1024, .f32⟩
  | 51 => ⟨S4x8192x1024, .f32⟩
  | 52 => ⟨S4x8192x1024, .f32⟩
  | 53 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c : Ref sig .tc := ⟨.hbm, 95, rfl⟩
abbrev main_call0_v0 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_7 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_8 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_9 : Ref sig .tc := ⟨.hbm, 133, rfl⟩
abbrev main_v104 : Ref sig .tc := ⟨.hbm, 134, rfl⟩
abbrev main_v105 : Ref sig .tc := ⟨.hbm, 135, rfl⟩
abbrev main_cst_10 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_11 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_12 : Ref sig .tc := ⟨.hbm, 152, rfl⟩
abbrev main_v120 : Ref sig .tc := ⟨.hbm, 153, rfl⟩
abbrev main_v121 : Ref sig .tc := ⟨.hbm, 154, rfl⟩
abbrev main_cst_13 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_14 : Ref sig .tc := ⟨.hbm, 161, rfl⟩
abbrev main_v127 : Ref sig .tc := ⟨.hbm, 162, rfl⟩
abbrev main_v128 : Ref sig .tc := ⟨.hbm, 163, rfl⟩
abbrev main_cst_15 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_16 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S2x1024x7448 : Shape := ⟨3, ![2, 1024, 7448]⟩
abbrev S2x7448 : Shape := ⟨2, ![2, 7448]⟩
abbrev S2x1024x3072 : Shape := ⟨3, ![2, 1024, 3072]⟩
abbrev S2x1024x512 : Shape := ⟨3, ![2, 1024, 512]⟩
abbrev S2x1024x128 : Shape := ⟨3, ![2, 1024, 128]⟩
abbrev S2x3072 : Shape := ⟨2, ![2, 3072]⟩
abbrev S2x512 : Shape := ⟨2, ![2, 512]⟩
abbrev S2x128 : Shape := ⟨2, ![2, 128]⟩
abbrev S2x1024x12 : Shape := ⟨3, ![2, 1024, 12]⟩
abbrev S_ : Shape := ⟨0, ![]⟩
abbrev S2x1024x116 : Shape := ⟨3, ![2, 1024, 116]⟩
abbrev S2x12 : Shape := ⟨2, ![2, 12]⟩
abbrev S2x116 : Shape := ⟨2, ![2, 116]⟩
abbrev S2x1024x7552 : Shape := ⟨3, ![2, 1024, 7552]⟩
abbrev S2x1024x7680 : Shape := ⟨3, ![2, 1024, 7680]⟩
abbrev S2x7552 : Shape := ⟨2, ![2, 7552]⟩
abbrev S2x7680 : Shape := ⟨2, ![2, 7680]⟩
abbrev S2x1x7680 : Shape := ⟨3, ![2, 1, 7680]⟩
abbrev S32768x1024 : Shape := ⟨2, ![32768, 1024]⟩
abbrev S1x1024 : Shape := ⟨2, ![1, 1024]⟩
abbrev S32768x3072 : Shape := ⟨2, ![32768, 3072]⟩
abbrev S32768x4608 : Shape := ⟨2, ![32768, 4608]⟩
abbrev S512x1024 : Shape := ⟨2, ![512, 1024]⟩
abbrev S1x1024x7680 : Shape := ⟨3, ![1, 1024, 7680]⟩
abbrev S1x1x7680 : Shape := ⟨3, ![1, 1, 7680]⟩
abbrev S512x3072 : Shape := ⟨2, ![512, 3072]⟩
abbrev S512x4608 : Shape := ⟨2, ![512, 4608]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1x1536 : Shape := ⟨3, ![1, 1, 1536]⟩
abbrev S1x1536 : Shape := ⟨2, ![1, 1536]⟩

abbrev nBuf : Space → Nat
  | .hbm => 59
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S2x1024x7448, .f32⟩
  | .hbm, ⟨4, _⟩ => ⟨S2x7448, .f32⟩
  | .hbm, ⟨5, _⟩ => ⟨S2x1024x7448, .bf16⟩
  | .hbm, ⟨6, _⟩ => ⟨S2x1024x3072, .bf16⟩
  | .hbm, ⟨7, _⟩ => ⟨S2x1024x512, .bf16⟩
  | .hbm, ⟨8, _⟩ => ⟨S2x1024x512, .bf16⟩
  | .hbm, ⟨9, _⟩ => ⟨S2x1024x512, .bf16⟩
  | .hbm, ⟨10, _⟩ => ⟨S2x1024x512, .bf16⟩
  | .hbm, ⟨11, _⟩ => ⟨S2x1024x512, .bf16⟩
  | .hbm, ⟨12, _⟩ => ⟨S2x1024x512, .bf16⟩
  | .hbm, ⟨13, _⟩ => ⟨S2x1024x512, .bf16⟩
  | .hbm, ⟨14, _⟩ => ⟨S2x1024x128, .bf16⟩
  | .hbm, ⟨15, _⟩ => ⟨S2x1024x128, .bf16⟩
  | .hbm, ⟨16, _⟩ => ⟨S2x1024x128, .bf16⟩
  | .hbm, ⟨17, _⟩ => ⟨S2x1024x128, .bf16⟩
  | .hbm, ⟨18, _⟩ => ⟨S2x1024x128, .bf16⟩
  | .hbm, ⟨19, _⟩ => ⟨S2x1024x128, .bf16⟩
  | .hbm, ⟨20, _⟩ => ⟨S2x3072, .f32⟩
  | .hbm, ⟨21, _⟩ => ⟨S2x512, .f32⟩
  | .hbm, ⟨22, _⟩ => ⟨S2x512, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S2x512, .f32⟩
  | .hbm, ⟨27, _⟩ => ⟨S2x512, .f32⟩
  | .hbm, ⟨28, _⟩ => ⟨S2x128, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S2x1024x12, .bf16⟩
  | .hbm, ⟨35, _⟩ => ⟨S_, .bf16⟩
  | .hbm, ⟨36, _⟩ => ⟨S2x1024x116, .bf16⟩
  | .hbm, ⟨37, _⟩ => ⟨S2x12, .f32⟩
  | .hbm, ⟨38, _⟩ => ⟨S_, .f32⟩
  | .hbm, ⟨39, _⟩ => ⟨S2x116, .f32⟩
  | .hbm, ⟨40, _⟩ => ⟨S2x1024x12, .bf16⟩
  | .hbm, ⟨41, _⟩ => ⟨S_, .bf16⟩
  | .hbm, ⟨42, _⟩ => ⟨S2x1024x116, .bf16⟩
  | .hbm, ⟨43, _⟩ => ⟨S2x12, .f32⟩
  | .hbm, ⟨44, _⟩ => ⟨S_, .f32⟩
  | .hbm, ⟨45, _⟩ => ⟨S2x116, .f32⟩
  | .hbm, ⟨46, _⟩ => ⟨S2x1024x7552, .bf16⟩
  | .hbm, ⟨47, _⟩ => ⟨S2x1024x128, .bf16⟩
  | .hbm, ⟨48, _⟩ => ⟨S2x1024x7680, .bf16⟩
  | .hbm, ⟨49, _⟩ => ⟨S2x7552, .f32⟩
  | .hbm, ⟨50, _⟩ => ⟨S2x128, .f32⟩
  | .hbm, ⟨51, _⟩ => ⟨S2x7680, .f32⟩
  | .hbm, ⟨52, _⟩ => ⟨S2x1x7680, .f32⟩
  | .hbm, ⟨53, _⟩ => ⟨S32768x1024, .f32⟩
  | .hbm, ⟨54, _⟩ => ⟨S1x1024, .f32⟩
  | .hbm, ⟨55, _⟩ => ⟨S1x1024, .f32⟩
  | .hbm, ⟨56, _⟩ => ⟨S32768x3072, .bf16⟩
  | .hbm, ⟨57, _⟩ => ⟨S32768x4608, .f32⟩
  | .hbm, ⟨58, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024x7680, .bf16⟩
  | .local _ .vmem, ⟨5, _⟩ => ⟨S1x1x7680, .f32⟩
  | .local _ .vmem, ⟨6, _⟩ => ⟨S512x3072, .bf16⟩
  | .local _ .vmem, ⟨7, _⟩ => ⟨S512x3072, .bf16⟩
  | .local _ .vmem, ⟨8, _⟩ => ⟨S512x4608, .f32⟩
  | .local _ .vmem, ⟨9, _⟩ => ⟨S512x4608, .f32⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_cst_2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47_0 : Ref sig .tc := ⟨.hbm, 56, rfl⟩
abbrev main_v47_1 : Ref sig .tc := ⟨.hbm, 57, rfl⟩
abbrev main_v47_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x7680 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4608 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x1024 : Shape := ⟨3, ![4, 8192, 1024]⟩
abbrev S1024 : Shape := ⟨1, ![1024]⟩
abbrev S2x1024x7448 : Shape := ⟨3, ![2, 1024, 7448]⟩
abbrev S2x7448 : Shape := ⟨2, ![2, 7448]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x7448 : Shape := ⟨3, ![1, 1024, 7448]⟩
abbrev S1024x7448 : Shape := ⟨2, ![1024, 7448]⟩
abbrev S4x8192x7448 : Shape := ⟨3, ![4, 8192, 7448]⟩
abbrev S1x7448 : Shape := ⟨2, ![1, 7448]⟩
abbrev S7448 : Shape := ⟨1, ![7448]⟩
abbrev S1x1x7448 : Shape := ⟨3, ![1, 1, 7448]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x8192x3072 : Shape := ⟨3, ![4, 8192, 3072]⟩
abbrev S4x8192x116 : Shape := ⟨3, ![4, 8192, 116]⟩
abbrev S4x8192x12 : Shape := ⟨3, ![4, 8192, 12]⟩
abbrev S4x8192x256 : Shape := ⟨3, ![4, 8192, 256]⟩
abbrev S4x8192x4608 : Shape := ⟨3, ![4, 8192, 4608]⟩
abbrev S32768x3072 : Shape := ⟨2, ![32768, 3072]⟩
abbrev S32768x4608 : Shape := ⟨2, ![32768, 4608]⟩
abbrev S32768x1024 : Shape := ⟨2, ![32768, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S2x1024x7448, .f32⟩
  | .hbm, ⟨4, _⟩ => ⟨S2x7448, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S1x1024x7448, .f32⟩
  | .hbm, ⟨35, _⟩ => ⟨S1024x7448, .f32⟩
  | .hbm, ⟨36, _⟩ => ⟨S4x8192x7448, .f32⟩
  | .hbm, ⟨37, _⟩ => ⟨S1x7448, .f32⟩
  | .hbm, ⟨38, _⟩ => ⟨S7448, .f32⟩
  | .hbm, ⟨39, _⟩ => ⟨S1x1x7448, .f32⟩
  | .hbm, ⟨40, _⟩ => ⟨S4x8192x7448, .f32⟩
  | .hbm, ⟨41, _⟩ => ⟨S4x8192x7448, .f32⟩
  | .hbm, ⟨42, _⟩ => ⟨S4x8192x512, .f32⟩
  | .hbm, ⟨43, _⟩ => ⟨S4x8192x512, .f32⟩
  | .hbm, ⟨44, _⟩ => ⟨S4x8192x512, .f32⟩
  | .hbm, ⟨45, _⟩ => ⟨S4x8192x512, .f32⟩
  | .hbm, ⟨46, _⟩ => ⟨S4x8192x512, .f32⟩
  | .hbm, ⟨47, _⟩ => ⟨S4x8192x128, .f32⟩
  | .hbm, ⟨48, _⟩ => ⟨S4x8192x128, .f32⟩
  | .hbm, ⟨49, _⟩ => ⟨S4x8192x128, .f32⟩
  | .hbm, ⟨50, _⟩ => ⟨S4x8192x128, .f32⟩
  | .hbm, ⟨51, _⟩ => ⟨S4x8192x128, .f32⟩
  | .hbm, ⟨52, _⟩ => ⟨S4x8192x128, .f32⟩
  | .hbm, ⟨53, _⟩ => ⟨S4x8192x24, .f32⟩
  | .hbm, ⟨54, _⟩ => ⟨S4x8192x512, .f32⟩
  | .hbm, ⟨55, _⟩ => ⟨S4x8192x512, .f32⟩
  | .hbm, ⟨56, _⟩ => ⟨S4x8192x3072, .f32⟩
  | .hbm, ⟨57, _⟩ => ⟨S_, .f32⟩
  | .hbm, ⟨58, _⟩ => ⟨S4x8192x116, .f32⟩
  | .hbm, ⟨59, _⟩ => ⟨S4x8192x12, .f32⟩
  | .hbm, ⟨60, _⟩ => ⟨S4x8192x12, .f32⟩
  | .hbm, ⟨61, _⟩ => ⟨S4x8192x256, .f32⟩
  | .hbm, ⟨62, _⟩ => ⟨S4x8192x4608, .f32⟩
  | .hbm, ⟨63, _⟩ => ⟨S4x8192x3072, .bf16⟩
  | .hbm, ⟨64, _⟩ => ⟨S32768x3072, .bf16⟩
  | .hbm, ⟨65, _⟩ => ⟨S32768x4608, .f32⟩
  | .hbm, ⟨66, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Kernel4.lean ====
abbrev S4x8192x4608 : Shape := ⟨3, ![4, 8192, 4608]⟩
abbrev S512 : Shape := ⟨1, ![512]⟩
abbrev S320x64 : Shape := ⟨2, ![320, 64]⟩
abbrev S3x64x64 : Shape := ⟨3, ![3, 64, 64]⟩
abbrev S4x1x128 : Shape := ⟨3, ![4, 1, 128]⟩
abbrev S4x8192x512 : Shape := ⟨3, ![4, 8192, 512]⟩
abbrev S1x512x512 : Shape := ⟨3, ![1, 512, 512]⟩
abbrev S4x128x128 : Shape := ⟨3, ![4, 128, 128]⟩
abbrev S1x1x128 : Shape := ⟨3, ![1, 1, 128]⟩
abbrev S1x128 : Shape := ⟨2, ![1, 128]⟩
abbrev S8x8x128 : Shape := ⟨3, ![8, 8, 128]⟩
abbrev S512x512 : Shape := ⟨2, ![512, 512]⟩
abbrev S512x128 : Shape := ⟨2, ![512, 128]⟩
abbrev S64x128 : Shape := ⟨2, ![64, 128]⟩
abbrev S64x4096 : Shape := ⟨2, ![64, 4096]⟩
abbrev S320x4096 : Shape := ⟨2, ![320, 4096]⟩
abbrev S1x64x128 : Shape := ⟨3, ![1, 64, 128]⟩
abbrev S320x128 : Shape := ⟨2, ![320, 128]⟩
abbrev S64x64 : Shape := ⟨2, ![64, 64]⟩
abbrev S1x64x64 : Shape := ⟨3, ![1, 64, 64]⟩
abbrev S8x1x128 : Shape := ⟨3, ![8, 1, 128]⟩
abbrev S8x8 : Shape := ⟨2, ![8, 8]⟩
abbrev S8x8x1 : Shape := ⟨3, ![8, 8, 1]⟩
abbrev S1x128x128 : Shape := ⟨3, ![1, 128, 128]⟩
abbrev S128x128 : Shape := ⟨2, ![128, 128]⟩
abbrev S128x64 : Shape := ⟨2, ![128, 64]⟩
abbrev S64 : Shape := ⟨1, ![64]⟩
abbrev S64x1 : Shape := ⟨2, ![64, 1]⟩

abbrev nBuf : Space → Nat
  | .hbm => 8
  | .vmem => 15
  | .smem => 0
  | _ => 0

abbrev bufTy : (tb : Table) → Fin (tcTables nBuf tb) → BufTy
  | .hbm, ⟨0, _⟩ => ⟨S4x8192x4608, .f32⟩
  | .hbm, ⟨1, _⟩ => ⟨S512, .f32⟩
  | .hbm, ⟨2, _⟩ => ⟨S512, .f32⟩
  | .hbm, ⟨3, _⟩ => ⟨S320x64, .bf16⟩
  | .hbm, ⟨4, _⟩ => ⟨S3x64x64, .f32⟩
  | .hbm, ⟨5, _⟩ => ⟨S4x1x128, .f32⟩
  | .hbm, ⟨6, _⟩ => ⟨S4x1x128, .f32⟩
  | .hbm, ⟨7, _⟩ => ⟨S4x8192x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S4x1x128, .f32⟩
  | .local _ .vmem, ⟨9, _⟩ => ⟨S4x1x128, .f32⟩
  | .local _ .vmem, ⟨10, _⟩ => ⟨S320x64, .bf16⟩
  | .local _ .vmem, ⟨11, _⟩ => ⟨S3x64x64, .f32⟩
  | .local _ .vmem, ⟨12, _⟩ => ⟨S1x512x512, .bf16⟩
  | .local _ .vmem, ⟨13, _⟩ => ⟨S1x512x512, .bf16⟩
  | .local _ .vmem, ⟨14, _⟩ => ⟨S4x128x128, .f32⟩
  | _, _ => ⟨S4x8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S320x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S3x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel5.lean ====
abbrev S4x8192x1024 : Shape := ⟨3, ![4, 8192, 1024]⟩
abbrev S2x1024x7448 : Shape := ⟨3, ![2, 1024, 7448]⟩
abbrev S2x7448 : Shape := ⟨2, ![2, 7448]⟩
abbrev S2x1024x3072 : Shape := ⟨3, ![2, 1024, 3072]⟩
abbrev S2x1024x512 : Shape := ⟨3, ![2, 1024, 512]⟩
abbrev S2x1024x128 : Shape := ⟨3, ![2, 1024, 128]⟩
abbrev S2x3072 : Shape := ⟨2, ![2, 3072]⟩
abbrev S2x512 : Shape := ⟨2, ![2, 512]⟩
abbrev S2x128 : Shape := ⟨2, ![2, 128]⟩
abbrev S2x1024x12 : Shape := ⟨3, ![2, 1024, 12]⟩
abbrev S_ : Shape := ⟨0, ![]⟩
abbrev S2x1024x116 : Shape := ⟨3, ![2, 1024, 116]⟩
abbrev S2x12 : Shape := ⟨2, ![2, 12]⟩
abbrev S2x116 : Shape := ⟨2, ![2, 116]⟩
abbrev S2x1024x7552 : Shape := ⟨3, ![2, 1024, 7552]⟩
abbrev S2x1024x7680 : Shape := ⟨3, ![2, 1024, 7680]⟩
abbrev S2x7552 : Shape := ⟨2, ![2, 7552]⟩
abbrev S2x7680 : Shape := ⟨2, ![2, 7680]⟩
abbrev S2x1x7680 : Shape := ⟨3, ![2, 1, 7680]⟩
abbrev S32768x1024 : Shape := ⟨2, ![32768, 1024]⟩
abbrev S32768x3072 : Shape := ⟨2, ![32768, 3072]⟩
abbrev S32768x4608 : Shape := ⟨2, ![32768, 4608]⟩
abbrev S512x1024 : Shape := ⟨2, ![512, 1024]⟩
abbrev S1x1024x7680 : Shape := ⟨3, ![1, 1024, 7680]⟩
abbrev S1x1x7680 : Shape := ⟨3, ![1, 1, 7680]⟩
abbrev S512x3072 : Shape := ⟨2, ![512, 3072]⟩
abbrev S512x4608 : Shape := ⟨2, ![512, 4608]⟩
abbrev S1x1024x1536 : Shape := ⟨3, ![1, 1024, 1536]⟩
abbrev S1024x1536 : Shape := ⟨2, ![1024, 1536]⟩
abbrev S512x1536 : Shape := ⟨2, ![512, 1536]⟩
abbrev S1x1x1536 : Shape := ⟨3, ![1, 1, 1536]⟩
abbrev S1x1536 : Shape := ⟨2, ![1, 1536]⟩

abbrev nBuf : Space → Nat
  | .hbm => 54
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S2x1024x7448, .f32⟩
  | .hbm, ⟨2, _⟩ => ⟨S2x7448, .f32⟩
  | .hbm, ⟨3, _⟩ => ⟨S2x1024x7448, .bf16⟩
  | .hbm, ⟨4, _⟩ => ⟨S2x1024x3072, .bf16⟩
  | .hbm, ⟨5, _⟩ => ⟨S2x1024x512, .bf16⟩
  | .hbm, ⟨6, _⟩ => ⟨S2x1024x512, .bf16⟩
  | .hbm, ⟨7, _⟩ => ⟨S2x1024x512, .bf16⟩
  | .hbm, ⟨8, _⟩ => ⟨S2x1024x512, .bf16⟩
  | .hbm, ⟨9, _⟩ => ⟨S2x1024x512, .bf16⟩
  | .hbm, ⟨10, _⟩ => ⟨S2x1024x512, .bf16⟩
  | .hbm, ⟨11, _⟩ => ⟨S2x1024x512, .bf16⟩
  | .hbm, ⟨12, _⟩ => ⟨S2x1024x128, .bf16⟩
  | .hbm, ⟨13, _⟩ => ⟨S2x1024x128, .bf16⟩
  | .hbm, ⟨14, _⟩ => ⟨S2x1024x128, .bf16⟩
  | .hbm, ⟨15, _⟩ => ⟨S2x1024x128, .bf16⟩
  | .hbm, ⟨16, _⟩ => ⟨S2x1024x128, .bf16⟩
  | .hbm, ⟨17, _⟩ => ⟨S2x1024x128, .bf16⟩
  | .hbm, ⟨18, _⟩ => ⟨S2x3072, .f32⟩
  | .hbm, ⟨19, _⟩ => ⟨S2x512, .f32⟩
  | .hbm, ⟨20, _⟩ => ⟨S2x512, .f32⟩
  | .hbm, ⟨21, _⟩ => ⟨S2x512, .f32⟩
  | .hbm, ⟨22, _⟩ => ⟨S2x512, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S2x128, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S2x1024x12, .bf16⟩
  | .hbm, ⟨33, _⟩ => ⟨S_, .bf16⟩
  | .hbm, ⟨34, _⟩ => ⟨S2x1024x116, .bf16⟩
  | .hbm, ⟨35, _⟩ => ⟨S2x12, .f32⟩
  | .hbm, ⟨36, _⟩ => ⟨S_, .f32⟩
  | .hbm, ⟨37, _⟩ => ⟨S2x116, .f32⟩
  | .hbm, ⟨38, _⟩ => ⟨S2x1024x12, .bf16⟩
  | .hbm, ⟨39, _⟩ => ⟨S_, .bf16⟩
  | .hbm, ⟨40, _⟩ => ⟨S2x1024x116, .bf16⟩
  | .hbm, ⟨41, _⟩ => ⟨S2x12, .f32⟩
  | .hbm, ⟨42, _⟩ => ⟨S_, .f32⟩
  | .hbm, ⟨43, _⟩ => ⟨S2x116, .f32⟩
  | .hbm, ⟨44, _⟩ => ⟨S2x1024x7552, .bf16⟩
  | .hbm, ⟨45, _⟩ => ⟨S2x1024x128, .bf16⟩
  | .hbm, ⟨46, _⟩ => ⟨S2x1024x7680, .bf16⟩
  | .hbm, ⟨47, _⟩ => ⟨S2x7552, .f32⟩
  | .hbm, ⟨48, _⟩ => ⟨S2x128, .f32⟩
  | .hbm, ⟨49, _⟩ => ⟨S2x7680, .f32⟩
  | .hbm, ⟨50, _⟩ => ⟨S2x1x7680, .f32⟩
  | .hbm, ⟨51, _⟩ => ⟨S32768x1024, .f32⟩
  | .hbm, ⟨52, _⟩ => ⟨S32768x3072, .bf16⟩
  | .hbm, ⟨53, _⟩ => ⟨S32768x4608, .f32⟩
  | .local _ .vmem, ⟨0, _⟩ => ⟨S512x1024, .f32⟩
  | .local _ .vmem, ⟨1, _⟩ => ⟨S512x1024, .f32⟩
  | .local _ .vmem, ⟨2, _⟩ => ⟨S1x1024x7680, .bf16⟩
  | .local _ .vmem, ⟨3, _⟩ => ⟨S1x1x7680, .f32⟩
  | .local _ .vmem, ⟨4, _⟩ => ⟨S512x3072, .bf16⟩
  | .local _ .vmem, ⟨5, _⟩ => ⟨S512x3072, .bf16⟩
  | .local _ .vmem, ⟨6, _⟩ => ⟨S512x4608, .f32⟩
  | .local _ .vmem, ⟨7, _⟩ => ⟨S512x4608, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45_0 : Ref sig .tc := ⟨.hbm, 52, rfl⟩
abbrev main_v45_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x7680 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4x8192x1024 : Shape := ⟨3, ![4, 8192, 1024]⟩
abbrev S2x1024x7448 : Shape := ⟨3, ![2, 1024, 7448]⟩
abbrev S2x7448 : Shape := ⟨2, ![2, 7448]⟩
abbrev S1x1024x7448 : Shape := ⟨3, ![1, 1024, 7448]⟩
abbrev S1024x7448 : Shape := ⟨2, ![1024, 7448]⟩
abbrev S4x8192x7448 : Shape := ⟨3, ![4, 8192, 7448]⟩
abbrev S1x7448 : Shape := ⟨2, ![1, 7448]⟩
abbrev S7448 : Shape := ⟨1, ![7448]⟩
abbrev S1x1x7448 : Shape := ⟨3, ![1, 1, 7448]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x8192x3072 : Shape := ⟨3, ![4, 8192, 3072]⟩
abbrev S_ : Shape := ⟨0, ![]⟩
abbrev S4x8192x116 : Shape := ⟨3, ![4, 8192, 116]⟩
abbrev S4x8192x12 : Shape := ⟨3, ![4, 8192, 12]⟩
abbrev S4x8192x256 : Shape := ⟨3, ![4, 8192, 256]⟩
abbrev S4x8192x4608 : Shape := ⟨3, ![4, 8192, 4608]⟩
abbrev S32768x3072 : Shape := ⟨2, ![32768, 3072]⟩
abbrev S32768x4608 : Shape := ⟨2, ![32768, 4608]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024x7448, .f32⟩
  | .hbm, ⟨2, _⟩ => ⟨S2x7448, .f32⟩
  | .hbm, ⟨3, _⟩ => ⟨S1x1024x7448, .f32⟩
  | .hbm, ⟨4, _⟩ => ⟨S1024x7448, .f32⟩
  | .hbm, ⟨5, _⟩ => ⟨S4x8192x7448, .f32⟩
  | .hbm, ⟨6, _⟩ => ⟨S1x7448, .f32⟩
  | .hbm, ⟨7, _⟩ => ⟨S7448, .f32⟩
  | .hbm, ⟨8, _⟩ => ⟨S1x1x7448, .f32⟩
  | .hbm, ⟨9, _⟩ => ⟨S4x8192x7448, .f32⟩
  | .hbm, ⟨10, _⟩ => ⟨S4x8192x7448, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S4x8192x512, .f32⟩
  | .hbm, ⟨16, _⟩ => ⟨S4x8192x128, .f32⟩
  | .hbm, ⟨17, _⟩ => ⟨S4x8192x128, .f32⟩
  | .hbm, ⟨18, _⟩ => ⟨S4x8192x128, .f32⟩
  | .hbm, ⟨19, _⟩ => ⟨S4x8192x128, .f32⟩
  | .hbm, ⟨20, _⟩ => ⟨S4x8192x128, .f32⟩
  | .hbm, ⟨21, _⟩ => ⟨S4x8192x128, .f32⟩
  | .hbm, ⟨22, _⟩ => ⟨S4x8192x24, .f32⟩
  | .hbm, ⟨23, _⟩ => ⟨S4x8192x512, .f32⟩
  | .hbm, ⟨24, _⟩ => ⟨S4x8192x512, .f32⟩
  | .hbm, ⟨25, _⟩ => ⟨S4x8192x3072, .f32⟩
  | .hbm, ⟨26, _⟩ => ⟨S_, .f32⟩
  | .hbm, ⟨27, _⟩ => ⟨S4x8192x116, .f32⟩
  | .hbm, ⟨28, _⟩ => ⟨S4x8192x12, .f32⟩
  | .hbm, ⟨29, _⟩ => ⟨S4x8192x12, .f32⟩
  | .hbm, ⟨30, _⟩ => ⟨S4x8192x256, .f32⟩
  | .hbm, ⟨31, _⟩ => ⟨S4x8192x4608, .f32⟩
  | .hbm, ⟨32, _⟩ => ⟨S4x8192x3072, .bf16⟩
  | .hbm, ⟨33, _⟩ => ⟨S32768x3072, .bf16⟩
  | .hbm, ⟨34, _⟩ => ⟨S32768x4608, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x8192x512 : Shape := ⟨3, ![4, 8192, 512]⟩
abbrev S32768x3072 : Shape := ⟨2, ![32768, 3072]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S32768x1024 : Shape := ⟨2, ![32768, 1024]⟩
abbrev S32768x512 : Shape := ⟨2, ![32768, 512]⟩
abbrev S1x1024 : Shape := ⟨2, ![1, 1024]⟩
abbrev S1024 : Shape := ⟨1, ![1024]⟩
abbrev S1x3x2816 : Shape := ⟨3, ![1, 3, 2816]⟩
abbrev S3x2816 : Shape := ⟨2, ![3, 2816]⟩
abbrev S1x2816 : Shape := ⟨2, ![1, 2816]⟩
abbrev S2816 : Shape := ⟨1, ![2816]⟩
abbrev S512x1024 : Shape := ⟨2, ![512, 1024]⟩
abbrev S512x512 : Shape := ⟨2, ![512, 512]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S520x256 : Shape := ⟨2, ![520, 256]⟩
abbrev S8x2816 : Shape := ⟨2, ![8, 2816]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S3x256 : Shape := ⟨2, ![3, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 45
  | .vmem => 33
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .bf16⟩
  | .hbm, ⟨3, _⟩ => ⟨S4x8192x512, .bf16⟩
  | .hbm, ⟨4, _⟩ => ⟨S32768x3072, .bf16⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x5632, .f32⟩
  | .hbm, ⟨12, _⟩ => ⟨S2x3x2816, .f32⟩
  | .hbm, ⟨13, _⟩ => ⟨S2x2816, .f32⟩
  | .hbm, ⟨14, _⟩ => ⟨S2x2816x1024, .f32⟩
  | .hbm, ⟨15, _⟩ => ⟨S2x1024, .f32⟩
  | .hbm, ⟨16, _⟩ => ⟨S2x1024, .f32⟩
  | .hbm, ⟨17, _⟩ => ⟨S32768x1024, .f32⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x3x2816, .f32⟩
  | .hbm, ⟨26, _⟩ => ⟨S3x2816, .f32⟩
  | .hbm, ⟨27, _⟩ => ⟨S1x2816, .f32⟩
  | .hbm, ⟨28, _⟩ => ⟨S2816, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S2x512x1024, .bf16⟩
  | .hbm, ⟨34, _⟩ => ⟨S2x512x1024, .bf16⟩
  | .hbm, ⟨35, _⟩ => ⟨S2x512x1024, .bf16⟩
  | .hbm, ⟨36, _⟩ => ⟨S2x1024x1024, .bf16⟩
  | .hbm, ⟨37, _⟩ => ⟨S2x1024x5632, .bf16⟩
  | .hbm, ⟨38, _⟩ => ⟨S2x2816x1024, .bf16⟩
  | .hbm, ⟨39, _⟩ => ⟨S1x1024, .f32⟩
  | .hbm, ⟨40, _⟩ => ⟨S1x1024, .f32⟩
  | .hbm, ⟨41, _⟩ => ⟨S1x2816, .f32⟩
  | .hbm, ⟨42, _⟩ => ⟨S1x1024, .f32⟩
  | .hbm, ⟨43, _⟩ => ⟨S1x1024, .f32⟩
  | .hbm, ⟨44, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024x2816, .bf16⟩
  | .local _ .vmem, ⟨21, _⟩ => ⟨S1x1024x2816, .bf16⟩
  | .local _ .vmem, ⟨22, _⟩ => ⟨S3x2816, .f32⟩
  | .local _ .vmem, ⟨23, _⟩ => ⟨S1x2816, .f32⟩
  | .local _ .vmem, ⟨24, _⟩ => ⟨S1x2816x1024, .bf16⟩
  | .local _ .vmem, ⟨25, _⟩ => ⟨S1x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S520x256, .f32⟩
  | .local _ .vmem, ⟨32, _⟩ => ⟨S8x2816, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S4x8192x1024 : Shape := ⟨3, ![4, 8192, 1024]⟩
abbrev S4x8192x512 : Shape := ⟨3, ![4, 8192, 512]⟩
abbrev S32768x3072 : Shape := ⟨2, ![32768, 3072]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x2816 : Shape := ⟨3, ![2, 3, 2816]⟩
abbrev S2x2816 : Shape := ⟨2, ![2, 2816]⟩
abbrev S2x2816x1024 : Shape := ⟨3, ![2, 2816, 1024]⟩
abbrev S4x8192x3x1024 : Shape := ⟨4, ![4, 8192, 3, 1024]⟩
abbrev S_ : Shape := ⟨0, ![]⟩
abbrev S4x8192x1x1024 : Shape := ⟨4, ![4, 8192, 1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 182
  | .vmem => 0
  | .smem => 0
  | _ => 0

abbrev hbmTy0_0 (i : Nat) : BufTy := match i % 128 with
  | 0 => ⟨S4x8192x1024, .f32⟩
  | 1 => ⟨S4x8192x512, .bf16⟩
  | 2 => ⟨S4x8192x512, .bf16⟩
  | 3 => ⟨S4x8192x512, .bf16⟩
  | 4 => ⟨S32768x3072, .bf16⟩
  | 5 => ⟨S2x512x1024, .f32⟩
  | 6 => ⟨S2x512x1024, .f32⟩
  | 7 => ⟨S2x512x1024, .f32⟩
  | 8 => ⟨S2x1024x1024, .f32⟩
  | 9 => ⟨S2x1024, .f32⟩
  | 10 => ⟨S2x1024, .f32⟩
  | 11 => ⟨S2x1024x5632, .f32⟩
  | 12 => ⟨S2x3x2816, .f32⟩
  | 13 => ⟨S2x2816, .f32⟩
  | 14 => ⟨S2x2816x1024, .f32⟩
  | 15 => ⟨S2x1024, .f32⟩
  | 16 => ⟨S2x1024, .f32⟩
  | 17 => ⟨S32768x3072, .f32⟩
  | 18 => ⟨S4x8192x3x1024, .f32⟩
  | 19 => ⟨S4x8192x3x1024, .f32⟩
  | 20 => ⟨S4x8192x3x1024, .f32⟩
  | 21 => ⟨S_, .f32⟩
  | 22 => ⟨S4x8192x3x1024, .f32⟩
  | 23 => ⟨S4x8192x3x1024, .f32⟩
  | 24 => ⟨S_, .f32⟩
  | 25 => ⟨S4x8192x3x1024, .f32⟩
  | 26 => ⟨S4x8192x3x1024, .f32⟩
  | 27 => ⟨S4x8192x1x1024, .f32⟩
  | 28 => ⟨S4x8192x1024, .f32⟩
  | 29 => ⟨S4x8192x512, .f32⟩
  | 30 => ⟨S1x512x1024, .f32⟩
  | 31 => ⟨S512x1024, .f32⟩
  | 32 => ⟨S4x8192x1024, .f32⟩
  | 33 => ⟨S4x8192x1024, .f32⟩
  | 34 => ⟨S4x8192x1x1024, .f32⟩
  | 35 => ⟨S4x8192x1024, .f32⟩
  | 36 => ⟨S4x8192x512, .f32⟩
  | 37 => ⟨S1x512x1024, .f32⟩
  | 38 => ⟨S512x1024, .f32⟩
  | 39 => ⟨S4x8192x1024, .f32⟩
  | 40 => ⟨S4x8192x1024, .f32⟩
  | 41 => ⟨S4x8192x1024, .f32⟩
  | 42 => ⟨S4x8192x1x1024, .f32⟩
  | 43 => ⟨S4x8192x1024, .f32⟩
  | 44 => ⟨S4x8192x512, .f32⟩
  | 45 => ⟨S1x512x1024, .f32⟩
  | 46 => ⟨S512x1024, .f32⟩
  | 47 => ⟨S4x8192x1024, .f32⟩
  | 48 => ⟨S4x8192x1024, .f32⟩
  | 49 => ⟨S4x8192x1024, .f32⟩
  | 50 => ⟨S_, .f32⟩
  | 51 => ⟨S4x8192x1024, .f32⟩
  | 52 => ⟨S4x8192x1024, .f32⟩
  | 53 => ⟨S1x1024x1024, .f32⟩
  | 54 => ⟨S1024x1024, .f32⟩
  | 55 => ⟨S4x8192x1024, .f32⟩
  | 56 => ⟨S4x8192x1024, .f32⟩
  | 57 => ⟨S1x1024, .f32⟩
  | 58 => ⟨S1024, .f32⟩
  | 59 => ⟨S1x1024, .f32⟩
  | 60 => ⟨S1024, .f32⟩
  | 61 => ⟨S_, .f32⟩
  | 62 => ⟨S4x8192, .f32⟩
  | 63 => ⟨S4x8192x1, .f32⟩
  | 64 => ⟨S_, .f32⟩
  | 65 => ⟨S4x8192x1, .f32⟩
  | 66 => ⟨S4x8192x1, .f32⟩
  | 67 => ⟨S4x8192x1024, .f32⟩
  | 68 => ⟨S4x8192x1024, .f32⟩
  | 69 => ⟨S4x8192x1024, .f32⟩
  | 70 => ⟨S_, .f32⟩
  | 71 => ⟨S4x8192, .f32⟩
  | 72 => ⟨S4x8192x1, .f32⟩
  | 73 => ⟨S_, .f32⟩
  | 74 => ⟨S4x8192x1, .f32⟩
  | 75 => ⟨S4x8192x1, .f32⟩
  | 76 => ⟨S4x8192x1024, .f32⟩
  | 77 => ⟨S4x8192x1024, .f32⟩
  | 78 => ⟨S_, .f32⟩
  | 79 => ⟨S4x8192x1, .f32⟩
  | 80 => ⟨S4x8192x1, .f32⟩
  | 81 => ⟨S4x8192x1, .f32⟩
  | 82 => ⟨S4x8192x1024, .f32⟩
  | 83 => ⟨S4x8192x1024, .f32⟩
  | 84 => ⟨S1x1x1024, .f32⟩
  | 85 => ⟨S4x8192x1024, .f32⟩
  | 86 => ⟨S4x8192x1024, .f32⟩
  | 87 => ⟨S1x1x1024, .f32⟩
  | 88 => ⟨S4x8192x1024, .f32⟩
  | 89 => ⟨S4x8192x1024, .f32⟩
  | 90 => ⟨S1x1024x5632, .f32⟩
  | 91 => ⟨S1024x5632, .f32⟩
  | 92 => ⟨S4x8192x5632, .f32⟩
  | 93 => ⟨S4x8192x2816, .f32⟩
  | 94 => ⟨S4x8192x2816, .f32⟩
  | 95 => ⟨S_, .i32⟩
  | 96 => ⟨S_, .f32⟩
  | 97 => ⟨S4x8194x2816, .f32⟩
  | 98 => ⟨S1x2816, .f32⟩
  | 99 => ⟨S2816, .f32⟩
  | 100 => ⟨S4x8192x2816, .f32⟩
  | 101 => ⟨S1x1x2816, .f32⟩
  | 102 => ⟨S2816, .f32⟩
  | 103 => ⟨S1x1x2816, .f32⟩
  | 104 => ⟨S4x8192x2816, .f32⟩
  | 105 => ⟨S4x8192x2816, .f32⟩
  | 106 => ⟨S1x1x2816, .f32⟩
  | 107 => ⟨S4x8192x2816, .f32⟩
  | 108 => ⟨S4x8192x2816, .f32⟩
  | 109 => ⟨S4x8192x2816, .f32⟩
  | 110 => ⟨S1x1x2816, .f32⟩
  | 111 => ⟨S2816, .f32⟩
  | 112 => ⟨S1x1x2816, .f32⟩
  | 113 => ⟨S4x8192x2816, .f32⟩
  | 114 => ⟨S4x8192x2816, .f32⟩
  | 115 => ⟨S4x8192x2816, .f32⟩
  | 116 => ⟨S4x8192x2816, .f32⟩
  | 117 => ⟨S1x1x2816, .f32⟩
  | 118 => ⟨S2816, .f32⟩
  | 119 => ⟨S1x1x2816, .f32⟩
  | 120 => ⟨S4x8192x2816, .f32⟩
  | 121 => ⟨S4x8192x2816, .f32⟩
  | 122 => ⟨S4x8192x2816, .f32⟩
  | 123 => ⟨S4x8192x2816, .f32⟩
  | 124 => ⟨S4x8192x2816, .f32⟩
  | 125 => ⟨S_, .f32⟩
  | 126 => ⟨S4x8192x2816, .f32⟩
  | 127 => ⟨S4x8192x2816, .f32⟩
  | _ => ⟨S4x8192x1024, .f32⟩

abbrev hbmTy0_1 (i : Nat) : BufTy := match i % 128 with
  | 0 => ⟨S4x8192x2816, .f32⟩
  | 1 => ⟨S_, .f32⟩
  | 2 => ⟨S4x8192x2816, .f32⟩
  | 3 => ⟨S4x8192x2816, .f32⟩
  | 4 => ⟨S4x8192x2816, .f32⟩
  | 5 => ⟨S_, .f32⟩
  | 6 => ⟨S4x8192x2816, .f32⟩
  | 7 => ⟨S4x8192x2816, .f32⟩
  | 8 => ⟨S_, .f32⟩
  | 9 => ⟨S4x8192x2816, .f32⟩
  | 10 => ⟨S4x8192x2816, .f32⟩
  | 11 => ⟨S4x8192x2816, .f32⟩
  | 12 => ⟨S4x8192x2816, .f32⟩
  | 13 => ⟨S1x2816x1024, .f32⟩
  | 14 => ⟨S2816x1024, .f32⟩
  | 15 => ⟨S4x8192x1024, .f32⟩
  | 16 => ⟨S_, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S1x1024, .f32⟩
  | 23 => ⟨S1024, .f32⟩
  | 24 => ⟨S_, .f32⟩
  | 25 => ⟨S4x8192, .f32⟩
  | 26 => ⟨S4x8192x1, .f32⟩
  | 27 => ⟨S_, .f32⟩
  | 28 => ⟨S4x8192x1, .f32⟩
  | 29 => ⟨S4x8192x1, .f32⟩
  | 30 => ⟨S4x8192x1024, .f32⟩
  | 31 => ⟨S4x8192x1024, .f32⟩
  | 32 => ⟨S4x8192x1024, .f32⟩
  | 33 => ⟨S_, .f32⟩
  | 34 => ⟨S4x8192, .f32⟩
  | 35 => ⟨S4x8192x1, .f32⟩
  | 36 => ⟨S_, .f32⟩
  | 37 => ⟨S4x8192x1, .f32⟩
  | 38 => ⟨S4x8192x1, .f32⟩
  | 39 => ⟨S4x8192x1024, .f32⟩
  | 40 => ⟨S4x8192x1024, .f32⟩
  | 41 => ⟨S_, .f32⟩
  | 42 => ⟨S4x8192x1, .f32⟩
  | 43 => ⟨S4x8192x1, .f32⟩
  | 44 => ⟨S4x8192x1, .f32⟩
  | 45 => ⟨S4x8192x1024, .f32⟩
  | 46 => ⟨S4x8192x1024, .f32⟩
  | 47 => ⟨S1x1x1024, .f32⟩
  | 48 => ⟨S4x8192x1024, .f32⟩
  | 49 => ⟨S4x8192x1024, .f32⟩
  | 50 => ⟨S1x1x1024, .f32⟩
  | 51 => ⟨S4x8192x1024, .f32⟩
  | 52 => ⟨S4x8192x1024, .f32⟩
  | 53 => ⟨S32768x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c : Ref sig .tc := ⟨.hbm, 95, rfl⟩
abbrev main_call0_v0 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_7 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_8 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_9 : Ref sig .tc := ⟨.hbm, 133, rfl⟩
abbrev main_v104 : Ref sig .tc := ⟨.hbm, 134, rfl⟩
abbrev main_v105 : Ref sig .tc := ⟨.hbm, 135, rfl⟩
abbrev main_cst_10 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_11 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_12 : Ref sig .tc := ⟨.hbm, 152, rfl⟩
abbrev main_v120 : Ref sig .tc := ⟨.hbm, 153, rfl⟩
abbrev main_v121 : Ref sig .tc := ⟨.hbm, 154, rfl⟩
abbrev main_cst_13 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_14 : Ref sig .tc := ⟨.hbm, 161, rfl⟩
abbrev main_v127 : Ref sig .tc := ⟨.hbm, 162, rfl⟩
abbrev main_v128 : Ref sig .tc := ⟨.hbm, 163, rfl⟩
abbrev main_cst_15 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_16 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩

abbrev nD : Nat := 1
abbrev τ : Topo := Topo.v7x

variable {F : FTy → Type} [FloatOps F]
-- ==== Proof.FfnTile.lean ====
/- One grid point of the merge and feed-forward kernel as a function of its input blocks: the attention residual's
   layer norm, the eleven 256-column chunks of the feed-forward layer added into the accumulator one by one, and
   the closing layer norm. Nothing here speaks of memory; `Proof.FfnRunA` and `Proof.FfnRunB` show that the kernel's run computes it. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F]

/-- The twenty input blocks of a grid point, in the order of the kernel's operands. -/
structure Blk (F : FTy → Type) [FloatOps F] where
  x0 : Vec F S512x1024 .f32
  x1 : Vec F S512x512 .bf16
  x2 : Vec F S512x512 .bf16
  x3 : Vec F S512x512 .bf16
  x4 : Vec F S512x1024 .bf16
  x5 : Vec F S512x1024 .bf16
  x6 : Vec F S512x1024 .bf16
  x7 : Vec F S1x512x1024 .bf16
  x8 : Vec F S1x512x1024 .bf16
  x9 : Vec F S1x512x1024 .bf16
  x10 : Vec F S1x1024x1024 .bf16
  x11 : Vec F S1x1024 .f32
  x12 : Vec F S1x1024 .f32
  x13 : Vec F S1x1024x2816 .bf16
  x14 : Vec F S1x1024x2816 .bf16
  x15 : Vec F S3x2816 .f32
  x16 : Vec F S1x2816 .f32
  x17 : Vec F S1x2816x1024 .bf16
  x18 : Vec F S1x1024 .f32
  x19 : Vec F S1x1024 .f32

variable (b : Blk F) (prev : Vec F S8x2816 .f32)

/-- The three gated branch products, added. -/
def merged : FVec F S512x1024 .f32 := k0_pay2 b.x4 b.x1 b.x7 b.x5 b.x2 b.x8 b.x6 b.x3 b.x9

/-- The first layer norm's rows. -/
def h1 : FVec F S512x1024 .f32 := k0_pay5 (merged b) (k0_pay3 b.x0) k0_pay4 b.x10 b.x11 b.x12

/-- The same rows as the up projection reads them. -/
def h1b : FVec F S512x1024 .bf16 := k0_pay7 (merged b) (k0_pay3 b.x0) k0_pay4 b.x10 b.x11 b.x12

theorem inb3 (k : Fin 11) : ∀ a : Fin 3, (![0, 0, 256 * k.val] : Fin 3 → ℕ) a + S1x1024x256.size a ≤ S1x1024x2816.size a := by
  intro a; have := k.isLt; match a with
  | ⟨0, _⟩ => show 0 + 1 ≤ 1; omega
  | ⟨1, _⟩ => show 0 + 1024 ≤ 1024; omega
  | ⟨2, _⟩ => show 256 * k.val + 256 ≤ 2816; omega

theorem inbd (k : Fin 11) : ∀ a : Fin 3, (![0, 256 * k.val, 0] : Fin 3 → ℕ) a + S1x256x1024.size a ≤ S1x2816x1024.size a := by
  intro a; have := k.isLt; match a with
  | ⟨0, _⟩ => show 0 + 1 ≤ 1; omega
  | ⟨1, _⟩ => show 256 * k.val + 256 ≤ 2816; omega
  | ⟨2, _⟩ => show 0 + 1024 ≤ 1024; omega

theorem inbc (k : Fin 11) : ∀ a : Fin 2, (![0, 256 * k.val] : Fin 2 → ℕ) a + S3x256.size a ≤ S3x2816.size a := by
  intro a; have := k.isLt; match a with
  | ⟨0, _⟩ => show 0 + 3 ≤ 3; omega
  | ⟨1, _⟩ => show 256 * k.val + 256 ≤ 2816; omega

theorem inbb (k : Fin 11) : ∀ a : Fin 2, (![0, 256 * k.val] : Fin 2 → ℕ) a + S1x256.size a ≤ S1x2816.size a := by
  intro a; have := k.isLt; match a with
  | ⟨0, _⟩ => show 0 + 1 ≤ 1; omega
  | ⟨1, _⟩ => show 256 * k.val + 256 ≤ 2816; omega

theorem inbp (k : Fin 11) : ∀ a : Fin 2, (![0, 256 * k.val] : Fin 2 → ℕ) a + S8x256.size a ≤ S8x2816.size a := by
  intro a; have := k.isLt; match a with
  | ⟨0, _⟩ => show 0 + 8 ≤ 8; omega
  | ⟨1, _⟩ => show 256 * k.val + 256 ≤ 2816; omega

/-- Chunk `k`'s columns of the up projection's two halves, of the convolution's weights and bias, of the rows carried
    from the tile before, and chunk `k`'s rows of the down projection. -/
def wu (k : Fin 11) : Vec F S1x1024x256 .bf16 := View.ld b.x13 (Rect.unit ![0, 0, 256 * k.val] S1x1024x256.size (inb3 k))
def wv (k : Fin 11) : Vec F S1x1024x256 .bf16 := View.ld b.x14 (Rect.unit ![0, 0, 256 * k.val] S1x1024x256.size (inb3 k))
def cw (k : Fin 11) : Vec F S3x256 .f32 := View.ld b.x15 (Rect.unit ![0, 256 * k.val] S3x256.size (inbc k))
def cb (k : Fin 11) : Vec F S1x256 .f32 := View.ld b.x16 (Rect.unit ![0, 256 * k.val] S1x256.size (inbb k))
def wd (k : Fin 11) : Vec F S1x256x1024 .bf16 := View.ld b.x17 (Rect.unit ![0, 256 * k.val, 0] S1x256x1024.size (inbd k))
def pc (k : Fin 11) : Vec F S8x256 .f32 := View.ld prev (Rect.unit ![0, 256 * k.val] S8x256.size (inbp k))

/-- Chunk `k` of the up projection's first half. -/
def uc (k : Fin 11) : FVec F S512x256 .f32 := k0_pay10 (h1b b) (wu b k)

/-- 512 rows, from row `off` on, of the eight rows `p` followed by the 512 rows `u`. -/
def shiftRows (off : ℕ) (hoff : off ≤ 8) (p : Vec F S8x256 .f32) (u : Vec F S512x256 .f32) : Vec F S512x256 .f32 := fun j =>
  if h : off + (j 0).val < 8 then p (ix2 ⟨off + (j 0).val, h⟩ (j 1))
  else u (ix2 ⟨off + (j 0).val - 8, by have h0 : (j 0).val < 512 := (j 0).isLt; omega⟩ (j 1))

/-- What a chunk adds to the accumulator `acc`: the convolution's output under gelu, times the second half, through the
    down projection. -/
def chunk (h : FVec F S512x1024 .bf16) (wu wv : Vec F S1x1024x256 .bf16) (cw : Vec F S3x256 .f32) (cb : Vec F S1x256 .f32)
    (p q : Vec F S512x256 .f32) (acc : Vec F S512x1024 .f32) (wd : Vec F S1x256x1024 .bf16) : FVec F S512x1024 .f32 :=
  k0_pay18 (k0_pay11 h wv) (k0_pay14 cw) (k0_pay15 cb) (k0_pay16 h wu cw) p q acc wd

/-- The accumulator after the first `k` chunks. -/
def acc : (k : ℕ) → k ≤ 11 → FVec F S512x1024 .f32
  | 0, _ => k0_pay9
  | k + 1, hk => chunk (h1b b) (wu b ⟨k, hk⟩) (wv b ⟨k, hk⟩) (cw b ⟨k, hk⟩) (cb b ⟨k, hk⟩)
      (shiftRows 6 (by omega) (pc prev ⟨k, hk⟩) (uc b ⟨k, hk⟩)) (shiftRows 7 (by omega) (pc prev ⟨k, hk⟩) (uc b ⟨k, hk⟩))
      (acc k (Nat.le_of_succ_le hk)) (wd b ⟨k, hk⟩)

/-- The grid point's output block. -/
def out : FVec F S512x1024 .f32 :=
  k0_pay1 (k0_pay99 b.x18) (k0_pay100 b.x19) (k0_pay101 (h1 b) (acc b prev 11 le_rfl)) (k0_pay102 (h1 b) (acc b prev 11 le_rfl))
    (FloatOps.ofBits FTy.f32 1149239296#32)

/-- The rows carried to the next tile: the last eight rows of the up projection's first half, chunk by chunk. -/
def carry (k : Fin 11) : FVec F S8x256 .f32 := k0_pay17 (uc b k)

/-- The carried rows as one array: column `f` is column `f % 256` of chunk `f / 256`. -/
def carryAt : Vec F S8x2816 .f32 := fun i =>
  carry b ⟨(i 1).val / 256, by have h : (i 1).val < 2816 := (i 1).isLt; omega⟩ (ix2 (i 0) (⟨(i 1).val % 256, Nat.mod_lt _ (by omega)⟩ : Fin 256))

theorem carryAt_eq (k : Fin 11) (x : S8x256.Idx) (y : S8x2816.Idx) (h0 : (y 0).val = (x 0).val) (h1 : (y 1).val = 256 * k.val + (x 1).val) :
    carryAt b y = carry b k x := by
  have hx : (x 1).val < 256 := (x 1).isLt
  unfold carryAt
  congr 1
  · apply Fin.ext; show (y 1).val / 256 = k.val; omega
  · funext a; apply Fin.ext
    match a with
    | ⟨0, _⟩ => exact h0
    | ⟨1, _⟩ => show (y 1).val % 256 = (x 1).val; omega

section Reads
variable {sig : RefSig} {κ : Kind} {sp : Space} {Val : EltTy → Type} [∀ e, Nonempty (Val e)]

/-- The 520-row buffer holds the eight carried rows and then the chunk's rows; a load of 512 rows from row `off` on reads
    the carried rows first. -/
theorem readCov_up (v : View sig κ sp S520x256 .f32) (p : Vec F S8x256 .f32) (u : Vec F S512x256 .f32)
    (L : List (View.Piece (Elt F) S520x256 .f32)) (off : ℕ) (hoff : off ≤ 8) (h8 h0 hb) :
    v.readCov ((⟨Rect.unit ![8, 0] S512x256.size h8, u⟩ : View.Piece (Elt F) S520x256 .f32) :: ⟨Rect.unit ![0, 0] S8x256.size h0, p⟩ :: L)
      (Rect.unit (s := S520x256) ![off, 0] S512x256.size hb).toLoadRect = shiftRows off hoff p u := by
  rw [View.readCov_eq_canon']
  funext j
  have hj0 : (j 0).val < 512 := (j 0).isLt
  have hj1 : (j 1).val < 256 := (j 1).isLt
  unfold shiftRows
  split_ifs with h
  · rw [View.canon_cons_of_not_mem]
    · refine Eq.trans (congrArg _ ?_) (View.canon_cons_emb (Rect.unit (s := S520x256) ![0, 0] S8x256.size h0) p L (ix2 (⟨off + (j 0).val, h⟩ : Fin 8) (⟨(j 1).val, hj1⟩ : Fin 256)))
      funext a; apply Fin.ext
      match a with
      | ⟨0, _⟩ => show off + 1 * (j 0).val = 0 + 1 * (off + (j 0).val); omega
      | ⟨1, _⟩ => show 0 + 1 * (j 1).val = 0 + 1 * (j 1).val; omega
    · intro hm
      rw [Rect.mem_set_unit] at hm
      have h1 : 8 ≤ off + 1 * (j 0).val := (hm 0).1
      omega
  · refine Eq.trans (congrArg _ ?_) (View.canon_cons_emb (Rect.unit (s := S520x256) ![8, 0] S512x256.size h8) u _ (ix2 (⟨off + (j 0).val - 8, by omega⟩ : Fin 512) (⟨(j 1).val, hj1⟩ : Fin 256)))
    funext a; apply Fin.ext
    match a with
    | ⟨0, _⟩ => show off + 1 * (j 0).val = 8 + 1 * (off + (j 0).val - 8); omega
    | ⟨1, _⟩ => show 0 + 1 * (j 1).val = 0 + 1 * (j 1).val; omega

end Reads

end Cert.Kernel2Ideal.Ffn

end
-- ==== Proof.FfnSpec.lean ====
/- The arithmetic of the merge and feed-forward layer on one row, over plain functions: the gated merge of the three
   branches, the residual, the layer norm, the convolution over three rows, gelu, and the row the layer returns. Both the
   kernel and the reference are read as these functions. -/
module

public import Idealize.ShloMosaic.Lib.ValueIdx
public import Idealize.ShloMosaic.PureOps.Ideal.Laws
public import Idealize.ShloMosaic.Lib.Pointwise

@[expose] public section

noncomputable section

namespace Cert.FfnSpec

open Idealize.ShloMosaic

/-- The residual's factor, the square root of two as the programs write it. -/
def alpha : EReal := Ideal.ofBits FTy.f32 1068827891#32

/-- The mean of a row of 1024 values. -/
def mean (z : Fin 1024 → EReal) : EReal := Ideal.div (∑ x, z x) (Ideal.ofBits FTy.f32 1149239296#32)

/-- The layer norm of a row. -/
def lnorm (z g b : Fin 1024 → EReal) (d : Fin 1024) : EReal :=
  (z d - mean z) * Ideal.rsqrt (mean (fun x => (z x - mean z) * (z x - mean z)) + Ideal.ofBits FTy.f32 925353388#32) * g d + b d

/-- The gated sum of the three branches' projections. -/
def merge (g0 g1 g2 : Fin 1024 → EReal) (ya yb yc : Fin 512 → EReal) (wa wb wc : Fin 512 → Fin 1024 → EReal) (d : Fin 1024) : EReal :=
  Ideal.logistic (g0 d) * (∑ k, ya k * wa k d) + Ideal.logistic (g1 d) * (∑ k, yb k * wb k d)
    + Ideal.logistic (g2 d) * (∑ k, yc k * wc k d)

/-- The attention residual before its layer norm. -/
def resid (x m : Fin 1024 → EReal) (wo : Fin 1024 → Fin 1024 → EReal) (d : Fin 1024) : EReal :=
  alpha * x d + ∑ k, m k * wo k d

/-- The convolution's output from the row two before, the row before and the row itself. -/
def conv (u2 u1 u0 w0 w1 w2 cb : EReal) : EReal := cb + u2 * w0 + u1 * w1 + u0 * w2

/-- The same sum with the row itself added first. -/
theorem conv_eq (u2 u1 u0 w0 w1 w2 cb : EReal) : cb + w2 * u0 + w0 * u2 + w1 * u1 = conv u2 u1 u0 w0 w1 w2 cb := by
  unfold conv
  ac_rfl

/-- The tanh form of gelu. -/
def gelu (c : EReal) : EReal :=
  c * (Ideal.ofBits FTy.f32 1056964608#32 * (1 + Ideal.tanh (Ideal.ofBits FTy.f32 1061962282#32 *
    (c + Ideal.ofBits FTy.f32 1027024659#32 * (c * (c * c))))))

/-- The row the layer returns, from the first norm's row `h`, the hidden row `y` and the last norm's weights. -/
def last (h : Fin 1024 → EReal) (y : Fin 2816 → EReal) (wd : Fin 2816 → Fin 1024 → EReal) (g b : Fin 1024 → EReal) (d : Fin 1024) : EReal :=
  lnorm (fun d => alpha * h d + ∑ f, y f * wd f d) g b d

/-- The arrays the layer reads, the weights at the layer's own index. -/
structure Args where
  x : Fin 4 → Fin 8192 → Fin 1024 → EReal
  ya : Fin 4 → Fin 8192 → Fin 512 → EReal
  yb : Fin 4 → Fin 8192 → Fin 512 → EReal
  yc : Fin 4 → Fin 8192 → Fin 512 → EReal
  g : Fin 32768 → Fin 3072 → EReal
  wa : Fin 512 → Fin 1024 → EReal
  wb : Fin 512 → Fin 1024 → EReal
  wc : Fin 512 → Fin 1024 → EReal
  wo : Fin 1024 → Fin 1024 → EReal
  g1 : Fin 1024 → EReal
  b1 : Fin 1024 → EReal
  wu : Fin 1024 → Fin 5632 → EReal
  cw : Fin 3 → Fin 2816 → EReal
  cb : Fin 2816 → EReal
  wd : Fin 2816 → Fin 1024 → EReal
  g2 : Fin 1024 → EReal
  b2 : Fin 1024 → EReal

variable (A : Args)

/-- The row of sequence `s` at position `p` in the flattened arrays. -/
def flat (s : Fin 4) (p : Fin 8192) : Fin 32768 := ⟨8192 * s.val + p.val, by omega⟩

/-- The first layer norm's row. -/
def hid (s : Fin 4) (p : Fin 8192) : Fin 1024 → EReal :=
  lnorm (resid (A.x s p)
      (merge (fun d => A.g (flat s p) ⟨d.val, by omega⟩) (fun d => A.g (flat s p) ⟨1024 + d.val, by omega⟩) (fun d => A.g (flat s p) ⟨2048 + d.val, by omega⟩)
        (A.ya s p) (A.yb s p) (A.yc s p) A.wa A.wb A.wc)
      A.wo) A.g1 A.b1

/-- The up projection's two halves. -/
def up (s : Fin 4) (p : Fin 8192) (f : Fin 2816) : EReal := ∑ k, hid A s p k * A.wu k ⟨f.val, by omega⟩
def gateUp (s : Fin 4) (p : Fin 8192) (f : Fin 2816) : EReal := ∑ k, hid A s p k * A.wu k ⟨2816 + f.val, by omega⟩

/-- The up projection `2 - off` rows before position `p`, zero before the sequence's start. -/
def upBack (off : ℕ) (hoff : off ≤ 2) (s : Fin 4) (p : Fin 8192) (f : Fin 2816) : EReal :=
  if h : 2 ≤ off + p.val then up A s ⟨off + p.val - 2, by omega⟩ f else 0

/-- The hidden layer's row. -/
def hiddenRow (s : Fin 4) (p : Fin 8192) (f : Fin 2816) : EReal :=
  gelu (conv (upBack A 0 (by omega) s p f) (upBack A 1 (by omega) s p f) (up A s p f) (A.cw 0 f) (A.cw 1 f) (A.cw 2 f) (A.cb f)) * gateUp A s p f

/-- The layer's output row. -/
def layer (s : Fin 4) (p : Fin 8192) (d : Fin 1024) : EReal := last (hid A s p) (hiddenRow A s p) A.wd A.g2 A.b2 d

/-- A sum over 2816 indices, taken 256 at a time. -/
theorem sum_chunks (t : Fin 2816 → EReal) :
    ∑ i : Fin 11, ∑ x : Fin 256, t ⟨256 * i.val + x.val, by omega⟩ = ∑ f, t f := by
  rw [← Fintype.sum_prod_type' (f := fun (i : Fin 11) (x : Fin 256) => t ⟨256 * i.val + x.val, by omega⟩)]
  refine Fintype.sum_equiv (finProdFinEquiv (m := 11) (n := 256)) _ t fun p => congrArg t ?_
  apply Fin.ext
  show 256 * p.1.val + p.2.val = p.2.val + 256 * p.1.val
  omega

end Cert.FfnSpec

end
-- ==== Proof.FfnIndex.lean ====
/- A grid point of the merge and feed-forward kernel read at an index, over the idealized floats: its output block, row by
   row, is `Cert.FfnSpec.last`, and the rows it carries on are the up projection's last eight. -/
module

public import proofs.«01_k».proof.Proof.FfnTile
public import proofs.«01_k».proof.Proof.FfnSpec

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (b : Blk Ideal) (prev : Vec Ideal S8x2816 .f32)

theorem merged_apply (r : Fin 512) (d : Fin 1024) : merged b (ix2 r d) =
    merge (fun d => b.x4 (ix2 r d)) (fun d => b.x5 (ix2 r d)) (fun d => b.x6 (ix2 r d)) (fun k => b.x1 (ix2 r k)) (fun k => b.x2 (ix2 r k))
      (fun k => b.x3 (ix2 r k)) (fun k d => b.x7 (ix3 0 k d)) (fun k d => b.x8 (ix3 0 k d)) (fun k d => b.x9 (ix3 0 k d)) d := by
  unfold merge
  pointwise [merged, k0_pay2]

/-- The first layer norm's row `r`. -/
def hrow (r : Fin 512) : Fin 1024 → EReal :=
  lnorm (resid (fun d => b.x0 (ix2 r d))
      (merge (fun d => b.x4 (ix2 r d)) (fun d => b.x5 (ix2 r d)) (fun d => b.x6 (ix2 r d)) (fun k => b.x1 (ix2 r k)) (fun k => b.x2 (ix2 r k))
        (fun k => b.x3 (ix2 r k)) (fun k d => b.x7 (ix3 0 k d)) (fun k d => b.x8 (ix3 0 k d)) (fun k d => b.x9 (ix3 0 k d)))
      (fun k d => b.x10 (ix3 0 k d)))
    (fun d => b.x11 (ix2 0 d)) (fun d => b.x12 (ix2 0 d))

theorem pay5_apply (M : FVec Ideal S512x1024 .f32) (r : Fin 512) (d : Fin 1024) :
    k0_pay5 M (k0_pay3 b.x0) k0_pay4 b.x10 b.x11 b.x12 (ix2 r d) =
    lnorm (resid (fun d => b.x0 (ix2 r d)) (fun d => M (ix2 r d)) (fun k d => b.x10 (ix3 0 k d)))
      (fun d => b.x11 (ix2 0 d)) (fun d => b.x12 (ix2 0 d)) d := by
  unfold lnorm mean resid alpha
  pointwise [k0_pay5, k0_pay3, k0_pay4]

theorem h1_apply (r : Fin 512) (d : Fin 1024) : h1 b (ix2 r d) = hrow b r d := by
  unfold h1 hrow
  rw [pay5_apply]
  have e : (fun d => merged b (ix2 r d)) = _ := funext fun d => merged_apply b r d
  rw [e]

theorem h1b_apply (r : Fin 512) (d : Fin 1024) : h1b b (ix2 r d) = hrow b r d := by
  rw [← h1_apply]; rfl

/-- Row `r` of the up projection's first half, and of its second. -/
def urow (r : Fin 512) (f : Fin 2816) : EReal := ∑ k, hrow b r k * b.x13 (ix3 0 k f)
def vrow (r : Fin 512) (f : Fin 2816) : EReal := ∑ k, hrow b r k * b.x14 (ix3 0 k f)

/-- Row `off + r` of the eight carried rows followed by the up projection's rows. -/
def ushift (off : ℕ) (hoff : off ≤ 8) (r : Fin 512) (f : Fin 2816) : EReal :=
  if h : off + r.val < 8 then prev (ix2 ⟨off + r.val, h⟩ f) else urow b ⟨off + r.val - 8, by omega⟩ f

/-- Row `r` of the hidden layer. -/
def yrow (r : Fin 512) (f : Fin 2816) : EReal :=
  gelu (conv (ushift b prev 6 (by omega) r f) (ushift b prev 7 (by omega) r f) (urow b r f)
    (b.x15 (ix2 0 f)) (b.x15 (ix2 1 f)) (b.x15 (ix2 2 f)) (b.x16 (ix2 0 f))) * vrow b r f

theorem uc_apply (k : Fin 11) (r : Fin 512) (f : Fin 256) : uc b k (ix2 r f) = urow b r ⟨256 * k.val + f.val, by omega⟩ := by
  unfold urow
  simp only [← h1b_apply]
  pointwise [uc, k0_pay10, wu]

theorem chunk_apply (h : FVec Ideal S512x1024 .bf16) (wu wv : Vec Ideal S1x1024x256 .bf16) (cw : Vec Ideal S3x256 .f32) (cb : Vec Ideal S1x256 .f32)
    (p q : Vec Ideal S512x256 .f32) (acc : Vec Ideal S512x1024 .f32) (wd : Vec Ideal S1x256x1024 .bf16) (r : Fin 512) (d : Fin 1024) :
    chunk h wu wv cw cb p q acc wd (ix2 r d) = acc (ix2 r d) + ∑ x,
      gelu (cb (ix2 0 x) + cw (ix2 2 x) * (∑ k, h (ix2 r k) * wu (ix3 0 k x)) + cw (ix2 0 x) * p (ix2 r x) + cw (ix2 1 x) * q (ix2 r x))
        * (∑ k, h (ix2 r k) * wv (ix3 0 k x)) * wd (ix3 0 x d) := by
  unfold gelu
  pointwise [chunk, k0_pay18, k0_pay11, k0_pay14, k0_pay15, k0_pay16, k0_pay10]

theorem shift_apply (off : ℕ) (hoff : off ≤ 8) (k : Fin 11) (r : Fin 512) (f : Fin 256) :
    shiftRows off hoff (pc prev k) (uc b k) (ix2 r f) = ushift b prev off hoff r ⟨256 * k.val + f.val, by omega⟩ := by
  unfold shiftRows ushift
  have e : ((ix2 r f : S512x256.Idx) 0).val = r.val := rfl
  by_cases h : off + r.val < 8
  · rw [dif_pos (show off + ((ix2 r f : S512x256.Idx) 0).val < 8 from h), dif_pos h]
    show pc prev k (ix2 ⟨off + r.val, _⟩ f) = _
    pointwise [pc]
  · rw [dif_neg (show ¬ off + ((ix2 r f : S512x256.Idx) 0).val < 8 from h), dif_neg h]
    exact uc_apply b k ⟨off + r.val - 8, by omega⟩ f

theorem wu_apply (k : Fin 11) (j : Fin 1024) (f : Fin 256) : wu b k (ix3 0 j f) = b.x13 (ix3 0 j ⟨256 * k.val + f.val, by omega⟩) := by
  pointwise [wu]
theorem wv_apply (k : Fin 11) (j : Fin 1024) (f : Fin 256) : wv b k (ix3 0 j f) = b.x14 (ix3 0 j ⟨256 * k.val + f.val, by omega⟩) := by
  pointwise [wv]
theorem wd_apply (k : Fin 11) (f : Fin 256) (d : Fin 1024) : wd b k (ix3 0 f d) = b.x17 (ix3 0 ⟨256 * k.val + f.val, by omega⟩ d) := by
  pointwise [wd]
theorem cw_apply (k : Fin 11) (i : Fin 3) (f : Fin 256) : cw b k (ix2 i f) = b.x15 (ix2 i ⟨256 * k.val + f.val, by omega⟩) := by
  pointwise [cw]
theorem cb_apply (k : Fin 11) (f : Fin 256) : cb b k (ix2 0 f) = b.x16 (ix2 0 ⟨256 * k.val + f.val, by omega⟩) := by
  pointwise [cb]

theorem acc_zero (h : 0 ≤ 11) : acc b prev 0 h = k0_pay9 := rfl

theorem acc_succ (k : ℕ) (hk : k + 1 ≤ 11) : acc b prev (k + 1) hk =
    chunk (h1b b) (wu b ⟨k, hk⟩) (wv b ⟨k, hk⟩) (cw b ⟨k, hk⟩) (cb b ⟨k, hk⟩)
      (shiftRows 6 (by omega) (pc prev ⟨k, hk⟩) (uc b ⟨k, hk⟩)) (shiftRows 7 (by omega) (pc prev ⟨k, hk⟩) (uc b ⟨k, hk⟩))
      (acc b prev k (Nat.le_of_succ_le hk)) (wd b ⟨k, hk⟩) := rfl

/-- The accumulator after `k` chunks is the sum over the first `256 * k` columns of the hidden layer. -/
theorem acc_apply (r : Fin 512) (d : Fin 1024) (k : ℕ) : ∀ hk : k ≤ 11, acc b prev k hk (ix2 r d) =
    ∑ i : Fin k, ∑ x : Fin 256, yrow b prev r ⟨256 * i.val + x.val, by omega⟩ * b.x17 (ix3 0 ⟨256 * i.val + x.val, by omega⟩ d) := by
  induction k with
  | zero =>
    intro hk
    rw [Fin.sum_univ_zero, acc_zero]
    pointwise [k0_pay9]
  | succ k ih =>
    intro hk
    rw [Fin.sum_univ_castSucc, acc_succ, chunk_apply, ih (Nat.le_of_succ_le hk)]
    refine congrArg₂ (· + ·) rfl (Finset.sum_congr rfl fun x _ => ?_)
    simp only [shift_apply, wu_apply, wv_apply, wd_apply, cw_apply, cb_apply, h1b_apply]
    unfold yrow vrow
    simp only [Fin.val_last]
    exact congrArg₂ (· * ·) (congrArg₂ (· * ·) (congrArg gelu (conv_eq _ _ _ _ _ _ _)) rfl) rfl

theorem out_apply (r : Fin 512) (d : Fin 1024) : out b prev (ix2 r d) =
    last (hrow b r) (yrow b prev r) (fun f d => b.x17 (ix3 0 f d)) (fun d => b.x18 (ix2 0 d)) (fun d => b.x19 (ix2 0 d)) d := by
  have e : ∀ A H : FVec Ideal S512x1024 .f32, k0_pay1 (k0_pay99 b.x18) (k0_pay100 b.x19) (k0_pay101 H A) (k0_pay102 H A)
      (FloatOps.ofBits FTy.f32 1149239296#32) (ix2 r d) =
      lnorm (fun d => alpha * H (ix2 r d) + A (ix2 r d)) (fun d => b.x18 (ix2 0 d)) (fun d => b.x19 (ix2 0 d)) d := by
    intro A H
    unfold lnorm mean alpha
    pointwise [k0_pay1, k0_pay99, k0_pay100, k0_pay101, k0_pay102, k0_pay98]
  unfold out last
  rw [e]
  refine congrArg (fun z => lnorm z (fun d => b.x18 (ix2 0 d)) (fun d => b.x19 (ix2 0 d)) d) (funext fun d => ?_)
  rw [h1_apply, acc_apply]
  refine congrArg (alpha * hrow b r d + ·) ?_
  exact sum_chunks fun f => yrow b prev r f * b.x17 (ix3 0 f d)

theorem carryAt_apply (r : Fin 8) (f : Fin 2816) : carryAt b (ix2 r f) = urow b ⟨504 + r.val, by omega⟩ f := by
  rw [carryAt_eq b ⟨f.val / 256, by omega⟩ (ix2 r ⟨f.val % 256, Nat.mod_lt _ (by omega)⟩) _ rfl (show f.val = 256 * (f.val / 256) + f.val % 256 by omega)]
  have e : carry b ⟨f.val / 256, by omega⟩ (ix2 r (⟨f.val % 256, Nat.mod_lt _ (by omega)⟩ : Fin 256)) =
      uc b ⟨f.val / 256, by omega⟩ (ix2 (⟨504 + r.val, by omega⟩ : Fin 512) ⟨f.val % 256, Nat.mod_lt _ (by omega)⟩) := by
    pointwise [carry, k0_pay17]
  rw [e, uc_apply]
  congr 1
  apply Fin.ext
  show 256 * (f.val / 256) + f.val % 256 = f.val
  omega

end Cert.Kernel2Ideal.Ffn

end
-- ==== Proof.FfnBlocks.lean ====
/- The blocks of a grid point of the merge and feed-forward kernel, read from the launch arguments: the tile's rows of
   the residual, of the branches and of the gates, and the layer's weights. -/
module

public import proofs.«01_k».proof.Proof.FfnIndex

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Which block each input window holds at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 1] ∧ win0_6.index t = ![t.val, 2] ∧ win0_7.index t = ![1, 0, 0] ∧ win0_8.index t = ![1, 0, 0]
    ∧ win0_9.index t = ![1, 0, 0] ∧ win0_10.index t = ![1, 0, 0] ∧ win0_11.index t = ![0, 0] ∧ win0_12.index t = ![0, 0] ∧ win0_13.index t = ![1, 0, 0]
    ∧ win0_14.index t = ![1, 0, 1] ∧ win0_15.index t = ![0, 0] ∧ win0_16.index t = ![0, 0] ∧ win0_17.index t = ![1, 0, 0] ∧ win0_18.index t = ![0, 0] ∧ win0_19.index t = ![0, 0] :=
  (by decide +kernel : ∀ t : Fin grid0.N, _)

theorem tlt (t : Fin cfg0.N) : t.val < 64 := lt_of_lt_of_eq t.isLt N_0

/-- Tile `t`'s row `r` belongs to sequence `(512 * t + r) / 8192`, at position `(512 * t + r) % 8192`. -/
def seqOf (t : Fin cfg0.N) (r : Fin 512) : Fin 4 := ⟨(512 * t.val + r.val) / 8192, by have := tlt t; omega⟩
def posOf (t : Fin cfg0.N) (r : Fin 512) : Fin 8192 := ⟨(512 * t.val + r.val) % 8192, by omega⟩
def rowOf (t : Fin cfg0.N) (r : Fin 512) : Fin 32768 := ⟨512 * t.val + r.val, by have := tlt t; omega⟩

theorem x0_apply (t : Fin cfg0.N) (r : Fin 512) (d : Fin 1024) : (iblk m c 0 t : Vec Ideal S512x1024 .f32) (ix2 r d) = m ((c : Thread nD τ).loc main_arg0) (ix3 (seqOf t r) (posOf t r) d) := by
  have ht := tlt t
  unfold seqOf posOf
  blk_simp [iblk, idx t]
  entry_read
  pointwise
  blk_ext [idx t]

theorem x1_apply (t : Fin cfg0.N) (r : Fin 512) (d : Fin 512) : (iblk m c 1 t : Vec Ideal S512x512 .bf16) (ix2 r d) = m ((c : Thread nD τ).loc main_arg1) (ix3 (seqOf t r) (posOf t r) d) := by
  have ht := tlt t
  unfold seqOf posOf
  blk_simp [iblk, idx t]
  entry_read
  pointwise
  blk_ext [idx t]

theorem x2_apply (t : Fin cfg0.N) (r : Fin 512) (d : Fin 512) : (iblk m c 2 t : Vec Ideal S512x512 .bf16) (ix2 r d) = m ((c : Thread nD τ).loc main_arg2) (ix3 (seqOf t r) (posOf t r) d) := by
  have ht := tlt t
  unfold seqOf posOf
  blk_simp [iblk, idx t]
  entry_read
  pointwise
  blk_ext [idx t]

theorem x3_apply (t : Fin cfg0.N) (r : Fin 512) (d : Fin 512) : (iblk m c 3 t : Vec Ideal S512x512 .bf16) (ix2 r d) = m ((c : Thread nD τ).loc main_arg3) (ix3 (seqOf t r) (posOf t r) d) := by
  have ht := tlt t
  unfold seqOf posOf
  blk_simp [iblk, idx t]
  entry_read
  pointwise
  blk_ext [idx t]

theorem x4_apply (t : Fin cfg0.N) (r : Fin 512) (d : Fin 1024) : (iblk m c 4 t : Vec Ideal S512x1024 .bf16) (ix2 r d) = m ((c : Thread nD τ).loc main_arg4) (ix2 (rowOf t r) ⟨d.val, by omega⟩) := by
  have ht := tlt t
  unfold rowOf
  blk_ext [iblk, V, idx t]

theorem x5_apply (t : Fin cfg0.N) (r : Fin 512) (d : Fin 1024) : (iblk m c 5 t : Vec Ideal S512x1024 .bf16) (ix2 r d) = m ((c : Thread nD τ).loc main_arg4) (ix2 (rowOf t r) ⟨1024 + d.val, by omega⟩) := by
  have ht := tlt t
  unfold rowOf
  blk_ext [iblk, V, idx t]

theorem x6_apply (t : Fin cfg0.N) (r : Fin 512) (d : Fin 1024) : (iblk m c 6 t : Vec Ideal S512x1024 .bf16) (ix2 r d) = m ((c : Thread nD τ).loc main_arg4) (ix2 (rowOf t r) ⟨2048 + d.val, by omega⟩) := by
  have ht := tlt t
  unfold rowOf
  blk_ext [iblk, V, idx t]

theorem x7_apply (t : Fin cfg0.N) (k : Fin 512) (d : Fin 1024) : (iblk m c 7 t : Vec Ideal S1x512x1024 .bf16) (ix3 0 k d) = m ((c : Thread nD τ).loc main_arg5) (ix3 1 k d) := by
  have ht := tlt t
  blk_simp [iblk, idx t]
  entry_read
  pointwise
  blk_ext [idx t]

theorem x8_apply (t : Fin cfg0.N) (k : Fin 512) (d : Fin 1024) : (iblk m c 8 t : Vec Ideal S1x512x1024 .bf16) (ix3 0 k d) = m ((c : Thread nD τ).loc main_arg6) (ix3 1 k d) := by
  have ht := tlt t
  blk_simp [iblk, idx t]
  entry_read
  pointwise
  blk_ext [idx t]

theorem x9_apply (t : Fin cfg0.N) (k : Fin 512) (d : Fin 1024) : (iblk m c 9 t : Vec Ideal S1x512x1024 .bf16) (ix3 0 k d) = m ((c : Thread nD τ).loc main_arg7) (ix3 1 k d) := by
  have ht := tlt t
  blk_simp [iblk, idx t]
  entry_read
  pointwise
  blk_ext [idx t]

theorem x10_apply (t : Fin cfg0.N) (k : Fin 1024) (d : Fin 1024) : (iblk m c 10 t : Vec Ideal S1x1024x1024 .bf16) (ix3 0 k d) = m ((c : Thread nD τ).loc main_arg8) (ix3 1 k d) := by
  have ht := tlt t
  blk_simp [iblk, idx t]
  entry_read
  pointwise
  blk_ext [idx t]

theorem x13_apply (t : Fin cfg0.N) (k : Fin 1024) (d : Fin 2816) : (iblk m c 13 t : Vec Ideal S1x1024x2816 .bf16) (ix3 0 k d) = m ((c : Thread nD τ).loc main_arg11) (ix3 1 k ⟨d.val, by omega⟩) := by
  have ht := tlt t
  blk_simp [iblk, idx t]
  entry_read
  pointwise
  blk_ext [idx t]

theorem x14_apply (t : Fin cfg0.N) (k : Fin 1024) (d : Fin 2816) : (iblk m c 14 t : Vec Ideal S1x1024x2816 .bf16) (ix3 0 k d) = m ((c : Thread nD τ).loc main_arg11) (ix3 1 k ⟨2816 + d.val, by omega⟩) := by
  have ht := tlt t
  blk_simp [iblk, idx t]
  entry_read
  pointwise
  blk_ext [idx t]

theorem x17_apply (t : Fin cfg0.N) (k : Fin 2816) (d : Fin 1024) : (iblk m c 17 t : Vec Ideal S1x2816x1024 .bf16) (ix3 0 k d) = m ((c : Thread nD τ).loc main_arg14) (ix3 1 k d) := by
  have ht := tlt t
  blk_simp [iblk, idx t]
  entry_read
  pointwise
  blk_ext [idx t]

theorem x11_apply (t : Fin cfg0.N) (d : Fin 1024) : (iblk m c 11 t : Vec Ideal S1x1024 .f32) (ix2 0 d) = m ((c : Thread nD τ).loc main_arg9) (ix2 1 d) := by
  have ht := tlt t
  blk_simp [iblk, idx t]
  entry_read
  pointwise
  blk_ext [idx t]

theorem x12_apply (t : Fin cfg0.N) (d : Fin 1024) : (iblk m c 12 t : Vec Ideal S1x1024 .f32) (ix2 0 d) = m ((c : Thread nD τ).loc main_arg10) (ix2 1 d) := by
  have ht := tlt t
  blk_simp [iblk, idx t]
  entry_read
  pointwise
  blk_ext [idx t]

theorem x16_apply (t : Fin cfg0.N) (d : Fin 2816) : (iblk m c 16 t : Vec Ideal S1x2816 .f32) (ix2 0 d) = m ((c : Thread nD τ).loc main_arg13) (ix2 1 d) := by
  have ht := tlt t
  blk_simp [iblk, idx t]
  entry_read
  pointwise
  blk_ext [idx t]

theorem x18_apply (t : Fin cfg0.N) (d : Fin 1024) : (iblk m c 18 t : Vec Ideal S1x1024 .f32) (ix2 0 d) = m ((c : Thread nD τ).loc main_arg15) (ix2 1 d) := by
  have ht := tlt t
  blk_simp [iblk, idx t]
  entry_read
  pointwise
  blk_ext [idx t]

theorem x19_apply (t : Fin cfg0.N) (d : Fin 1024) : (iblk m c 19 t : Vec Ideal S1x1024 .f32) (ix2 0 d) = m ((c : Thread nD τ).loc main_arg16) (ix2 1 d) := by
  have ht := tlt t
  blk_simp [iblk, idx t]
  entry_read
  pointwise
  blk_ext [idx t]

theorem x15_apply (t : Fin cfg0.N) (i : Fin 3) (d : Fin 2816) : (iblk m c 15 t : Vec Ideal S3x2816 .f32) (ix2 i d) = m ((c : Thread nD τ).loc main_arg12) (ix3 1 i d) := by
  have ht := tlt t
  blk_simp [iblk, idx t]
  entry_read
  pointwise
  blk_ext [idx t]

end Cert.Kernel2Ideal.Ffn

end
-- ==== Proof.FfnRunA.lean ====
/- The merge and feed-forward kernel's run, read: at the first tile of a sequence, where the carried rows are zeroed first,
   the values the run names are the stages of `Proof.FfnTile`, so its output block and the rows it carries on are `out` and
   `carry` of the point's input blocks. -/
module

public import proofs.«01_k».proof.Proof.FfnTile

@[expose] public section

set_option maxRecDepth 16384

noncomputable section

namespace Cert.Kernel2Ideal.Ffn.RunA

open Cert.Kernel2Ideal Cert.Kernel2Ideal.Gen Idealize.ShloMosaic Idealize.ShloMosaic.TcCoe Idealize.SL.Sem
open Cert.Kernel2Ideal.Gen.kernelRun0_A
open Cert.Kernel2Ideal.Ffn

variable {F : FTy → Type} [FloatOps F]
variable (b : Blk F)
variable (c : Dev nD) (i : grid0.Coords) (a1 : Memref sig .tc .vmem S512x1024 .f32) (e1 : a1.IsWhole) (a2 : Memref sig .tc .vmem S512x512 .bf16) (e2 : a2.IsWhole) (a3 : Memref sig .tc .vmem S512x512 .bf16) (e3 : a3.IsWhole) (a4 : Memref sig .tc .vmem S512x512 .bf16) (e4 : a4.IsWhole) (a5 : Memref sig .tc .vmem S512x1024 .bf16) (e5 : a5.IsWhole) (a6 : Memref sig .tc .vmem S512x1024 .bf16) (e6 : a6.IsWhole) (a7 : Memref sig .tc .vmem S512x1024 .bf16) (e7 : a7.IsWhole) (a8 : Memref sig .tc .vmem S1x512x1024 .bf16) (e8 : a8.IsWhole) (a9 : Memref sig .tc .vmem S1x512x1024 .bf16) (e9 : a9.IsWhole) (a10 : Memref sig .tc .vmem S1x512x1024 .bf16) (e10 : a10.IsWhole) (a11 : Memref sig .tc .vmem S1x1024x1024 .bf16) (e11 : a11.IsWhole) (a12 : Memref sig .tc .vmem S1x1024 .f32) (e12 : a12.IsWhole) (a13 : Memref sig .tc .vmem S1x1024 .f32) (e13 : a13.IsWhole) (a14 : Memref sig .tc .vmem S1x1024x2816 .bf16) (e14 : a14.IsWhole) (a15 : Memref sig .tc .vmem S1x1024x2816 .bf16) (e15 : a15.IsWhole) (a16 : Memref sig .tc .vmem S3x2816 .f32) (e16 : a16.IsWhole) (a17 : Memref sig .tc .vmem S1x2816 .f32) (e17 : a17.IsWhole) (a18 : Memref sig .tc .vmem S1x2816x1024 .bf16) (e18 : a18.IsWhole) (a19 : Memref sig .tc .vmem S1x1024 .f32) (e19 : a19.IsWhole) (a20 : Memref sig .tc .vmem S1x1024 .f32) (e20 : a20.IsWhole) (a21 : Memref sig .tc .vmem S512x1024 .f32) (e21 : a21.IsWhole) (a22 : Memref sig .tc .vmem S512x1024 .f32) (e22 : a22.IsWhole) (a23 : Memref sig .tc .vmem S512x1024 .f32) (e23 : a23.IsWhole) (a24 : Memref sig .tc .vmem S520x256 .f32) (e24 : a24.IsWhole) (a25 : Memref sig .tc .vmem S8x2816 .f32) (e25 : a25.IsWhole) (hc0 : cond0_0 i)

theorem r_eq : sl.r c a2 e2 a3 e3 a4 e4 a5 e5 a6 e6 a7 e7 a8 e8 a9 e9 a10 e10 b.x1 b.x2 b.x3 b.x4 b.x5 b.x6 b.x7 b.x8 b.x9 = merged b := by
  unfold sl.r; simp only [View.readAt_eq_ld, Memref.IsWhole.read_unread]; rw [View.ld_unit_lit, View.ld_unit_lit, View.ld_unit_lit, View.ld_unit_lit, View.ld_unit_lit, View.ld_unit_lit, View.ld_unit_lit, View.ld_unit_lit, View.ld_unit_lit] <;> first | rfl | decide

theorem r_1_eq : sl.r_1 c a1 e1 b.x0 = k0_pay3 b.x0 := by
  unfold sl.r_1; simp only [View.readAt_eq_ld, Memref.IsWhole.read_unread]; rw [View.ld_unit_lit] <;> first | rfl | decide

theorem r_2_eq : sl.r_2 c a1 e1 a2 e2 a3 e3 a4 e4 a5 e5 a6 e6 a7 e7 a8 e8 a9 e9 a10 e10 a11 e11 a12 e12 a13 e13 b.x0 b.x1 b.x2 b.x3 b.x4 b.x5 b.x6 b.x7 b.x8 b.x9 b.x10 b.x11 b.x12 = h1b b := by
  unfold sl.r_2; rw [r_eq, r_1_eq]; simp only [View.readAt_eq_ld, Memref.IsWhole.read_unread]; rw [View.ld_unit_lit, View.ld_unit_lit, View.ld_unit_lit] <;> first | rfl | decide

theorem v732_eq : sl.v732 c a1 e1 a2 e2 a3 e3 a4 e4 a5 e5 a6 e6 a7 e7 a8 e8 a9 e9 a10 e10 a11 e11 a12 e12 a13 e13 a22 b.x0 b.x1 b.x2 b.x3 b.x4 b.x5 b.x6 b.x7 b.x8 b.x9 b.x10 b.x11 b.x12 = h1 b := by
  unfold sl.v732 sl.HS0_1; rw [View.readCov_cons_toLoadRect, r_eq, r_1_eq]; simp only [View.readAt_eq_ld, Memref.IsWhole.read_unread]; rw [View.ld_unit_lit, View.ld_unit_lit, View.ld_unit_lit]
  · exact shapeCast_id _ _
  all_goals decide

theorem v134_eq : sl.v134 c a23 = k0_pay9 (F := F) := by
  unfold sl.v134 sl.HS1_1; rw [View.readCov_cons_toLoadRect]

theorem v89_eq : sl.v89 c a25 = pc (k0_pay8 (F := F)) 0 := by
  unfold sl.v89 sl.HS3_1
  rw [View.readCov_fill]
  · rfl
  all_goals decide

theorem v106_eq : sl.v106 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 0) (uc b 0) := by
  unfold sl.v106 sl.HS2_2
  rw [readCov_up _ _ _ _ 6 (by omega)]
  simp only [View.readAt_eq_ld, Memref.IsWhole.read_unread, r_2_eq, v89_eq]
  exact congrArg₂ (shiftRows 6 (by omega)) (shapeCast_id _ _) (shapeCast_id _ _)

theorem v111_eq : sl.v111 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 0) (uc b 0) := by
  unfold sl.v111 sl.HS2_2
  rw [readCov_up _ _ _ _ 7 (by omega)]
  simp only [View.readAt_eq_ld, Memref.IsWhole.read_unread, r_2_eq, v89_eq]
  exact congrArg₂ (shiftRows 7 (by omega)) (shapeCast_id _ _) (shapeCast_id _ _)

theorem v193_eq : sl.v193 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 1 (by omega) := by
  unfold sl.v193 sl.HS1_2 sl.r_4 sl.r_5 sl.r_6 sl.r_7
  rw [View.readCov_cons_toLoadRect]
  simp only [View.readAt_eq_ld, Memref.IsWhole.read_unread, v106_eq, v111_eq, v134_eq, r_2_eq]
  rfl

theorem v148_eq : sl.v148 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 1 := by
  unfold sl.v148 sl.HS3_2 sl.HS3_1
  rw [View.readCov_skip, View.readCov_fill]
  · rfl
  all_goals decide

theorem v165_eq : sl.v165 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 1) (uc b 1) := by
  unfold sl.v165 sl.HS2_4
  rw [readCov_up _ _ _ _ 6 (by omega)]
  simp only [View.readAt_eq_ld, Memref.IsWhole.read_unread, r_2_eq, v148_eq]
  exact congrArg₂ (shiftRows 6 (by omega)) (shapeCast_id _ _) (shapeCast_id _ _)

theorem v170_eq : sl.v170 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 1) (uc b 1) := by
  unfold sl.v170 sl.HS2_4
  rw [readCov_up _ _ _ _ 7 (by omega)]
  simp only [View.readAt_eq_ld, Memref.IsWhole.read_unread, r_2_eq, v148_eq]
  exact congrArg₂ (shiftRows 7 (by omega)) (shapeCast_id _ _) (shapeCast_id _ _)

theorem v252_eq : sl.v252 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 2 (by omega) := by
  unfold sl.v252 sl.HS1_3 sl.r_8 sl.r_9
  rw [View.readCov_cons_toLoadRect]
  simp only [View.readAt_eq_ld, Memref.IsWhole.read_unread, v193_eq, r_2_eq, v165_eq, v170_eq]
  rfl

theorem v207_eq : sl.v207 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 2 := by
  unfold sl.v207 sl.HS3_3 sl.HS3_2 sl.HS3_1
  rw [View.readCov_skip, View.readCov_skip, View.readCov_fill]
  · rfl
  all_goals decide

theorem v224_eq : sl.v224 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 2) (uc b 2) := by
  unfold sl.v224 sl.HS2_6 sl.r_11 sl.r_13
  rw [readCov_up _ _ _ _ 6 (by omega)]
  simp only [View.readAt_eq_ld, Memref.IsWhole.read_unread, r_2_eq, v207_eq]
  exact congrArg₂ (shiftRows 6 (by omega)) (shapeCast_id _ _) (shapeCast_id _ _)

theorem v229_eq : sl.v229 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 2) (uc b 2) := by
  unfold sl.v229 sl.HS2_6 sl.r_11 sl.r_13
  rw [readCov_up _ _ _ _ 7 (by omega)]
  simp only [View.readAt_eq_ld, Memref.IsWhole.read_unread, r_2_eq, v207_eq]
  exact congrArg₂ (shiftRows 7 (by omega)) (shapeCast_id _ _) (shapeCast_id _ _)

theorem v311_eq : sl.v311 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 3 (by omega) := by
  unfold sl.v311 sl.HS1_4 sl.r_14 sl.r_11 sl.r_12
  rw [View.readCov_cons_toLoadRect]
  simp only [View.readAt_eq_ld, Memref.IsWhole.read_unread, v252_eq, v224_eq, v229_eq, r_2_eq]
  rfl

theorem v266_eq : sl.v266 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 3 := by
  unfold sl.v266 sl.HS3_4 sl.HS3_3 sl.HS3_2 sl.HS3_1
  rw [View.readCov_skip, View.readCov_skip, View.readCov_skip, View.readCov_fill]
  · rfl
  all_goals decide

theorem v283_eq : sl.v283 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 3) (uc b 3) := by
  unfold sl.v283 sl.HS2_8
  rw [readCov_up _ _ _ _ 6 (by omega)]
  simp only [View.readAt_eq_ld, Memref.IsWhole.read_unread, r_2_eq, v266_eq]
  exact congrArg₂ (shiftRows 6 (by omega)) (shapeCast_id _ _) (shapeCast_id _ _)

theorem v288_eq : sl.v288 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 3) (uc b 3) := by
  unfold sl.v288 sl.HS2_8
  rw [readCov_up _ _ _ _ 7 (by omega)]
  simp only [View.readAt_eq_ld, Memref.IsWhole.read_unread, r_2_eq, v266_eq]
  exact congrArg₂ (shiftRows 7 (by omega)) (shapeCast_id _ _) (shapeCast_id _ _)

theorem v370_eq : sl.v370 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 4 (by omega) := by
  unfold sl.v370 sl.HS1_5 sl.r_16 sl.r_17 sl.r_18 sl.r_19
  rw [View.readCov_cons_toLoadRect]
  simp only [View.readAt_eq_ld, Memref.IsWhole.read_unread, v283_eq, v288_eq, v311_eq, r_2_eq]
  rfl

theorem v325_eq : sl.v325 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 4 := by
  unfold sl.v325 sl.HS3_5 sl.HS3_4 sl.HS3_3 sl.HS3_2 sl.HS3_1
  rw [View.readCov_skip, View.readCov_skip, View.readCov_skip, View.readCov_skip, View.readCov_fill]
  · rfl
  all_goals decide

theorem v342_eq : sl.v342 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 4) (uc b 4) := by
  unfold sl.v342 sl.HS2_10 sl.r_20
  rw [readCov_up _ _ _ _ 6 (by omega)]
  simp only [View.readAt_eq_ld, Memref.IsWhole.read_unread, r_2_eq, v325_eq]
  exact congrArg₂ (shiftRows 6 (by omega)) (shapeCast_id _ _) (shapeCast_id _ _)

theorem v347_eq : sl.v347 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 4) (uc b 4) := by
  unfold sl.v347 sl.HS2_10 sl.r_20
  rw [readCov_up _ _ _ _ 7 (by omega)]
  simp only [View.readAt_eq_ld, Memref.IsWhole.read_unread, r_2_eq, v325_eq]
  exact congrArg₂ (shiftRows 7 (by omega)) (shapeCast_id _ _) (shapeCast_id _ _)

theorem v429_eq : sl.v429 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 5 (by omega) := by
  unfold sl.v429 sl.HS1_6 sl.r_21 sl.r_22 sl.r_23 sl.r_20
  rw [View.readCov_cons_toLoadRect]
  simp only [View.readAt_eq_ld, Memref.IsWhole.read_unread, v370_eq, r_2_eq, v342_eq, v347_eq]
  rfl

theorem v384_eq : sl.v384 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 5 := by
  unfold sl.v384 sl.HS3_6 sl.HS3_5 sl.HS3_4 sl.HS3_3 sl.HS3_2 sl.HS3_1
  rw [View.readCov_skip, View.readCov_skip, View.readCov_skip, View.readCov_skip, View.readCov_skip, View.readCov_fill]
  · rfl
  all_goals decide

theorem v401_eq : sl.v401 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 5) (uc b 5) := by
  unfold sl.v401 sl.HS2_12 sl.r_24
  rw [readCov_up _ _ _ _ 6 (by omega)]
  simp only [View.readAt_eq_ld, Memref.IsWhole.read_unread, v384_eq, r_2_eq]
  exact congrArg₂ (shiftRows 6 (by omega)) (shapeCast_id _ _) (shapeCast_id _ _)

theorem v406_eq : sl.v406 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 5) (uc b 5) := by
  unfold sl.v406 sl.HS2_12 sl.r_24
  rw [readCov_up _ _ _ _ 7 (by omega)]
  simp only [View.readAt_eq_ld, Memref.IsWhole.read_unread, v384_eq, r_2_eq]
  exact congrArg₂ (shiftRows 7 (by omega)) (shapeCast_id _ _) (shapeCast_id _ _)

theorem v488_eq : sl.v488 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 6 (by omega) := by
  unfold sl.v488 sl.HS1_7 sl.r_26 sl.r_24 sl.r_25
  rw [View.readCov_cons_toLoadRect]
  simp only [View.readAt_eq_ld, Memref.IsWhole.read_unread, v429_eq, v401_eq, v406_eq, r_2_eq]
  rfl

theorem v443_eq : sl.v443 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 6 := by
  unfold sl.v443 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_fill]
  · rfl
  all_goals decide

theorem v460_eq : sl.v460 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 6) (uc b 6) := by
  unfold sl.v460 sl.HS2_14
  rw [readCov_up _ _ _ _ 6 (by omega)]
  simp only [View.readAt_eq_ld, Memref.IsWhole.read_unread, r_2_eq, v443_eq]
  exact congrArg₂ (shiftRows 6 (by omega)) (shapeCast_id _ _) (shapeCast_id _ _)

theorem v465_eq : sl.v465 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 6) (uc b 6) := by
  unfold sl.v465 sl.HS2_14
  rw [readCov_up _ _ _ _ 7 (by omega)]
  simp only [View.readAt_eq_ld, Memref.IsWhole.read_unread, r_2_eq, v443_eq]
  exact congrArg₂ (shiftRows 7 (by omega)) (shapeCast_id _ _) (shapeCast_id _ _)

theorem v547_eq : sl.v547 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 7 (by omega) := by
  unfold sl.v547 sl.HS1_8 sl.r_28 sl.r_29 sl.r_30 sl.r_31
  rw [View.readCov_cons_toLoadRect]
  simp only [View.readAt_eq_ld, Memref.IsWhole.read_unread, v460_eq, v465_eq, v488_eq, r_2_eq]
  rfl

theorem v502_eq : sl.v502 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 7 := by
  unfold sl.v502 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_fill]
  · rfl
  all_goals decide

theorem v519_eq : sl.v519 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 7) (uc b 7) := by
  unfold sl.v519 sl.HS2_16 sl.r_32
  rw [readCov_up _ _ _ _ 6 (by omega)]
  simp only [View.readAt_eq_ld, Memref.IsWhole.read_unread, v502_eq, r_2_eq]
  exact congrArg₂ (shiftRows 6 (by omega)) (shapeCast_id _ _) (shapeCast_id _ _)

theorem v524_eq : sl.v524 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 7) (uc b 7) := by
  unfold sl.v524 sl.HS2_16 sl.r_32
  rw [readCov_up _ _ _ _ 7 (by omega)]
  simp only [View.readAt_eq_ld, Memref.IsWhole.read_unread, v502_eq, r_2_eq]
  exact congrArg₂ (shiftRows 7 (by omega)) (shapeCast_id _ _) (shapeCast_id _ _)

theorem v606_eq : sl.v606 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 8 (by omega) := by
  unfold sl.v606 sl.HS1_9 sl.r_33 sl.r_34 sl.r_35 sl.r_32
  rw [View.readCov_cons_toLoadRect]
  simp only [View.readAt_eq_ld, Memref.IsWhole.read_unread, v547_eq, r_2_eq, v519_eq, v524_eq]
  rfl

theorem v561_eq : sl.v561 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 8 := by
  unfold sl.v561 sl.HS3_9 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_skip, View.readCov_fill]
  · rfl
  all_goals decide

theorem v578_eq : sl.v578 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 8) (uc b 8) := by
  unfold sl.v578 sl.HS2_18 sl.r_38
  rw [readCov_up _ _ _ _ 6 (by omega)]
  simp only [View.readAt_eq_ld, Memref.IsWhole.read_unread, v561_eq, r_2_eq]
  exact congrArg₂ (shiftRows 6 (by omega)) (shapeCast_id _ _) (shapeCast_id _ _)

theorem v583_eq : sl.v583 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 8) (uc b 8) := by
  unfold sl.v583 sl.HS2_18 sl.r_38
  rw [readCov_up _ _ _ _ 7 (by omega)]
  simp only [View.readAt_eq_ld, Memref.IsWhole.read_unread, v561_eq, r_2_eq]
  exact congrArg₂ (shiftRows 7 (by omega)) (shapeCast_id _ _) (shapeCast_id _ _)

theorem v665_eq : sl.v665 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 9 (by omega) := by
  unfold sl.v665 sl.HS1_10 sl.r_39 sl.r_36 sl.r_37
  rw [View.readCov_cons_toLoadRect]
  simp only [View.readAt_eq_ld, Memref.IsWhole.read_unread, v606_eq, v578_eq, v583_eq, r_2_eq]
  rfl

theorem v620_eq : sl.v620 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 9 := by
  unfold sl.v620 sl.HS3_10 sl.HS3_9 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_skip, View.readCov_skip, View.readCov_fill]
  · rfl
  all_goals decide

theorem v637_eq : sl.v637 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 9) (uc b 9) := by
  unfold sl.v637 sl.HS2_20
  rw [readCov_up _ _ _ _ 6 (by omega)]
  simp only [View.readAt_eq_ld, Memref.IsWhole.read_unread, r_2_eq, v620_eq]
  exact congrArg₂ (shiftRows 6 (by omega)) (shapeCast_id _ _) (shapeCast_id _ _)

theorem v642_eq : sl.v642 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 9) (uc b 9) := by
  unfold sl.v642 sl.HS2_20
  rw [readCov_up _ _ _ _ 7 (by omega)]
  simp only [View.readAt_eq_ld, Memref.IsWhole.read_unread, r_2_eq, v620_eq]
  exact congrArg₂ (shiftRows 7 (by omega)) (shapeCast_id _ _) (shapeCast_id _ _)

theorem v724_eq : sl.v724 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 10 (by omega) := by
  unfold sl.v724 sl.HS1_11 sl.r_41 sl.r_42 sl.r_43
  rw [View.readCov_cons_toLoadRect]
  simp only [View.readAt_eq_ld, Memref.IsWhole.read_unread, v642_eq, v665_eq, r_2_eq, v637_eq]
  rfl

theorem v679_eq : sl.v679 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 10 := by
  unfold sl.v679 sl.HS3_11 sl.HS3_10 sl.HS3_9 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_skip, View.readCov_skip, View.readCov_skip, View.readCov_fill]
  · rfl
  all_goals decide

theorem v696_eq : sl.v696 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 10) (uc b 10) := by
  unfold sl.v696 sl.HS2_22 sl.r_44
  rw [readCov_up _ _ _ _ 6 (by omega)]
  simp only [View.readAt_eq_ld, Memref.IsWhole.read_unread, v679_eq, r_2_eq]
  exact congrArg₂ (shiftRows 6 (by omega)) (shapeCast_id _ _) (shapeCast_id _ _)

theorem v701_eq : sl.v701 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 10) (uc b 10) := by
  unfold sl.v701 sl.HS2_22 sl.r_44
  rw [readCov_up _ _ _ _ 7 (by omega)]
  simp only [View.readAt_eq_ld, Memref.IsWhole.read_unread, v679_eq, r_2_eq]
  exact congrArg₂ (shiftRows 7 (by omega)) (shapeCast_id _ _) (shapeCast_id _ _)

theorem v735_eq : sl.v735 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 11 (by omega) := by
  unfold sl.v735 sl.HS1_12 sl.r_45 sl.r_46 sl.r_47 sl.cst_420 sl.r_44
  rw [View.readCov_cons_toLoadRect]
  simp only [View.readAt_eq_ld, Memref.IsWhole.read_unread, v724_eq, r_2_eq, v696_eq, v701_eq]
  rfl

/-- The output block of the run. -/
theorem out_eq : out0_A_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 = out b (k0_pay8 (F := F)) := by
  unfold out0_A_20
  rw [View.read_writes_eq_canon _ _ _ (cover0_A_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19)]
  unfold kernelRun0_A
  dsimp only
  rw [View.canon_cons_unit_lit _ _ _ (by decide)]
  unfold sl.r_48 sl.r_49 sl.r_50 sl.r_51 sl.cst_443
  rw [v732_eq, v735_eq]
  simp only [View.readAt_eq_ld, Memref.IsWhole.read_unread]
  rw [View.ld_unit_lit, View.ld_unit_lit]
  · rfl
  all_goals decide

/-- What the run leaves in the carried rows. -/
theorem carry_eq : sout0_A_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 = carryAt b := by
  unfold sout0_A_3
  rw [View.read_writes_eq_canon _ _ _ (scover0_A_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19)]
  unfold kernelRun0_A sl.HS3_11 sl.HS3_10 sl.HS3_9 sl.HS3_8 sl.HS3_7 sl.HS3_6 sl.HS3_5 sl.HS3_4 sl.HS3_3 sl.HS3_2 sl.HS3_1
  dsimp only
  unfold sl.r_3 sl.r_10 sl.r_11 sl.r_15 sl.r_20 sl.r_24 sl.r_27 sl.r_32 sl.r_36 sl.r_40 sl.r_44
  simp only [View.readAt_eq_ld, Memref.IsWhole.read_unread, r_2_eq]
  funext y
  have hy0 : (y 0).val < 8 := (y 0).isLt
  have hy1 : (y 1).val < 2816 := (y 1).isLt
  refine View.canon_append_of_piecesOf (carryAt b) [_] [_, _, _, _, _, _, _, _, _, _, _]
    ⟨fun x => ?_, fun x => ?_, fun x => ?_, fun x => ?_, fun x => ?_, fun x => ?_, fun x => ?_, fun x => ?_, fun x => ?_, fun x => ?_, fun x => ?_, trivial⟩ y ?_
  · exact Eq.trans (b := carry b 10 x) rfl (carryAt_eq b 10 x _ (by show 0 + 1 * (x 0).val = (x 0).val; omega) (by show 2560 + 1 * (x 1).val = 256 * 10 + (x 1).val; omega)).symm
  · exact Eq.trans (b := carry b 9 x) rfl (carryAt_eq b 9 x _ (by show 0 + 1 * (x 0).val = (x 0).val; omega) (by show 2304 + 1 * (x 1).val = 256 * 9 + (x 1).val; omega)).symm
  · exact Eq.trans (b := carry b 8 x) rfl (carryAt_eq b 8 x _ (by show 0 + 1 * (x 0).val = (x 0).val; omega) (by show 2048 + 1 * (x 1).val = 256 * 8 + (x 1).val; omega)).symm
  · exact Eq.trans (b := carry b 7 x) rfl (carryAt_eq b 7 x _ (by show 0 + 1 * (x 0).val = (x 0).val; omega) (by show 1792 + 1 * (x 1).val = 256 * 7 + (x 1).val; omega)).symm
  · exact Eq.trans (b := carry b 6 x) rfl (carryAt_eq b 6 x _ (by show 0 + 1 * (x 0).val = (x 0).val; omega) (by show 1536 + 1 * (x 1).val = 256 * 6 + (x 1).val; omega)).symm
  · exact Eq.trans (b := carry b 5 x) rfl (carryAt_eq b 5 x _ (by show 0 + 1 * (x 0).val = (x 0).val; omega) (by show 1280 + 1 * (x 1).val = 256 * 5 + (x 1).val; omega)).symm
  · exact Eq.trans (b := carry b 4 x) rfl (carryAt_eq b 4 x _ (by show 0 + 1 * (x 0).val = (x 0).val; omega) (by show 1024 + 1 * (x 1).val = 256 * 4 + (x 1).val; omega)).symm
  · exact Eq.trans (b := carry b 3 x) rfl (carryAt_eq b 3 x _ (by show 0 + 1 * (x 0).val = (x 0).val; omega) (by show 768 + 1 * (x 1).val = 256 * 3 + (x 1).val; omega)).symm
  · exact Eq.trans (b := carry b 2 x) rfl (carryAt_eq b 2 x _ (by show 0 + 1 * (x 0).val = (x 0).val; omega) (by show 512 + 1 * (x 1).val = 256 * 2 + (x 1).val; omega)).symm
  · exact Eq.trans (b := carry b 1 x) rfl (carryAt_eq b 1 x _ (by show 0 + 1 * (x 0).val = (x 0).val; omega) (by show 256 + 1 * (x 1).val = 256 * 1 + (x 1).val; omega)).symm
  · exact Eq.trans (b := carry b 0 x) rfl (carryAt_eq b 0 x _ (by show 0 + 1 * (x 0).val = (x 0).val; omega) (by show 0 + 1 * (x 1).val = 256 * 0 + (x 1).val; omega)).symm
  · have hk : (y 1).val / 256 < 11 := by omega
    generalize hq : (y 1).val / 256 = q at hk
    have hb : 256 * q ≤ (y 1).val ∧ (y 1).val < 256 * q + 256 := by omega
    clear hq
    interval_cases q
    · refine ⟨_, .tail _ (.tail _ (.tail _ (.tail _ (.tail _ (.tail _ (.tail _ (.tail _ (.tail _ (.tail _ (.head _)))))))))), ?_⟩
      rw [Rect.mem_set_unit]
      exact fun a => match a with
        | ⟨0, _⟩ => ⟨Nat.zero_le _, by show (y 0).val < 0 + 8; omega⟩
        | ⟨1, _⟩ => ⟨by show 0 ≤ (y 1).val; omega, by show (y 1).val < 0 + 256; omega⟩
    · refine ⟨_, .tail _ (.tail _ (.tail _ (.tail _ (.tail _ (.tail _ (.tail _ (.tail _ (.tail _ (.head _))))))))), ?_⟩
      rw [Rect.mem_set_unit]
      exact fun a => match a with
        | ⟨0, _⟩ => ⟨Nat.zero_le _, by show (y 0).val < 0 + 8; omega⟩
        | ⟨1, _⟩ => ⟨by show 256 ≤ (y 1).val; omega, by show (y 1).val < 256 + 256; omega⟩
    · refine ⟨_, .tail _ (.tail _ (.tail _ (.tail _ (.tail _ (.tail _ (.tail _ (.tail _ (.head _)))))))), ?_⟩
      rw [Rect.mem_set_unit]
      exact fun a => match a with
        | ⟨0, _⟩ => ⟨Nat.zero_le _, by show (y 0).val < 0 + 8; omega⟩
        | ⟨1, _⟩ => ⟨by show 512 ≤ (y 1).val; omega, by show (y 1).val < 512 + 256; omega⟩
    · refine ⟨_, .tail _ (.tail _ (.tail _ (.tail _ (.tail _ (.tail _ (.tail _ (.head _))))))), ?_⟩
      rw [Rect.mem_set_unit]
      exact fun a => match a with
        | ⟨0, _⟩ => ⟨Nat.zero_le _, by show (y 0).val < 0 + 8; omega⟩
        | ⟨1, _⟩ => ⟨by show 768 ≤ (y 1).val; omega, by show (y 1).val < 768 + 256; omega⟩
    · refine ⟨_, .tail _ (.tail _ (.tail _ (.tail _ (.tail _ (.tail _ (.head _)))))), ?_⟩
      rw [Rect.mem_set_unit]
      exact fun a => match a with
        | ⟨0, _⟩ => ⟨Nat.zero_le _, by show (y 0).val < 0 + 8; omega⟩
        | ⟨1, _⟩ => ⟨by show 1024 ≤ (y 1).val; omega, by show (y 1).val < 1024 + 256; omega⟩
    · refine ⟨_, .tail _ (.tail _ (.tail _ (.tail _ (.tail _ (.head _))))), ?_⟩
      rw [Rect.mem_set_unit]
      exact fun a => match a with
        | ⟨0, _⟩ => ⟨Nat.zero_le _, by show (y 0).val < 0 + 8; omega⟩
        | ⟨1, _⟩ => ⟨by show 1280 ≤ (y 1).val; omega, by show (y 1).val < 1280 + 256; omega⟩
    · refine ⟨_, .tail _ (.tail _ (.tail _ (.tail _ (.head _)))), ?_⟩
      rw [Rect.mem_set_unit]
      exact fun a => match a with
        | ⟨0, _⟩ => ⟨Nat.zero_le _, by show (y 0).val < 0 + 8; omega⟩
        | ⟨1, _⟩ => ⟨by show 1536 ≤ (y 1).val; omega, by show (y 1).val < 1536 + 256; omega⟩
    · refine ⟨_, .tail _ (.tail _ (.tail _ (.head _))), ?_⟩
      rw [Rect.mem_set_unit]
      exact fun a => match a with
        | ⟨0, _⟩ => ⟨Nat.zero_le _, by show (y 0).val < 0 + 8; omega⟩
        | ⟨1, _⟩ => ⟨by show 1792 ≤ (y 1).val; omega, by show (y 1).val < 1792 + 256; omega⟩
    · refine ⟨_, .tail _ (.tail _ (.head _)), ?_⟩
      rw [Rect.mem_set_unit]
      exact fun a => match a with
        | ⟨0, _⟩ => ⟨Nat.zero_le _, by show (y 0).val < 0 + 8; omega⟩
        | ⟨1, _⟩ => ⟨by show 2048 ≤ (y 1).val; omega, by show (y 1).val < 2048 + 256; omega⟩
    · refine ⟨_, .tail _ (.head _), ?_⟩
      rw [Rect.mem_set_unit]
      exact fun a => match a with
        | ⟨0, _⟩ => ⟨Nat.zero_le _, by show (y 0).val < 0 + 8; omega⟩
        | ⟨1, _⟩ => ⟨by show 2304 ≤ (y 1).val; omega, by show (y 1).val < 2304 + 256; omega⟩
    · refine ⟨_, .head _, ?_⟩
      rw [Rect.mem_set_unit]
      exact fun a => match a with
        | ⟨0, _⟩ => ⟨Nat.zero_le _, by show (y 0).val < 0 + 8; omega⟩
        | ⟨1, _⟩ => ⟨by show 2560 ≤ (y 1).val; omega, by show (y 1).val < 2560 + 256; omega⟩

/-- The same two facts over the twenty blocks one by one. -/
theorem out_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    out0_A_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 = out ⟨x0, x1, x2, x3, x4, x5, x6, x7, x8, x9, x10, x11, x12, x13, x14, x15, x16, x17, x18, x19⟩ (k0_pay8 (F := F)) := out_eq (b := ⟨x0, x1, x2, x3, x4, x5, x6, x7, x8, x9, x10, x11, x12, x13, x14, x15, x16, x17, x18, x19⟩) ..

theorem carry_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    sout0_A_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 = carryAt ⟨x0, x1, x2, x3, x4, x5, x6, x7, x8, x9, x10, x11, x12, x13, x14, x15, x16, x17, x18, x19⟩ := carry_eq (b := ⟨x0, x1, x2, x3, x4, x5, x6, x7, x8, x9, x10, x11, x12, x13, x14, x15, x16, x17, x18, x19⟩) ..

end Cert.Kernel2Ideal.Ffn.RunA

end
-- ==== Proof.FfnRunB.lean ====
/- The merge and feed-forward kernel's run, read: at a tile that takes the rows carried from the tile before,
   the values the run names are the stages of `Proof.FfnTile`, so its output block and the rows it carries on are `out` and
   `carry` of the point's input blocks. -/
module

public import proofs.«01_k».proof.Proof.FfnTile

@[expose] public section

set_option maxRecDepth 16384

noncomputable section

namespace Cert.Kernel2Ideal.Ffn.RunB

open Cert.Kernel2Ideal Cert.Kernel2Ideal.Gen Idealize.ShloMosaic Idealize.ShloMosaic.TcCoe Idealize.SL.Sem
open Cert.Kernel2Ideal.Gen.kernelRun0_B
open Cert.Kernel2Ideal.Ffn

variable {F : FTy → Type} [FloatOps F]
variable (b : Blk F) (prev : Vec F S8x2816 .f32)
variable (c : Dev nD) (i : grid0.Coords) (a1 : Memref sig .tc .vmem S512x1024 .f32) (e1 : a1.IsWhole) (a2 : Memref sig .tc .vmem S512x512 .bf16) (e2 : a2.IsWhole) (a3 : Memref sig .tc .vmem S512x512 .bf16) (e3 : a3.IsWhole) (a4 : Memref sig .tc .vmem S512x512 .bf16) (e4 : a4.IsWhole) (a5 : Memref sig .tc .vmem S512x1024 .bf16) (e5 : a5.IsWhole) (a6 : Memref sig .tc .vmem S512x1024 .bf16) (e6 : a6.IsWhole) (a7 : Memref sig .tc .vmem S512x1024 .bf16) (e7 : a7.IsWhole) (a8 : Memref sig .tc .vmem S1x512x1024 .bf16) (e8 : a8.IsWhole) (a9 : Memref sig .tc .vmem S1x512x1024 .bf16) (e9 : a9.IsWhole) (a10 : Memref sig .tc .vmem S1x512x1024 .bf16) (e10 : a10.IsWhole) (a11 : Memref sig .tc .vmem S1x1024x1024 .bf16) (e11 : a11.IsWhole) (a12 : Memref sig .tc .vmem S1x1024 .f32) (e12 : a12.IsWhole) (a13 : Memref sig .tc .vmem S1x1024 .f32) (e13 : a13.IsWhole) (a14 : Memref sig .tc .vmem S1x1024x2816 .bf16) (e14 : a14.IsWhole) (a15 : Memref sig .tc .vmem S1x1024x2816 .bf16) (e15 : a15.IsWhole) (a16 : Memref sig .tc .vmem S3x2816 .f32) (e16 : a16.IsWhole) (a17 : Memref sig .tc .vmem S1x2816 .f32) (e17 : a17.IsWhole) (a18 : Memref sig .tc .vmem S1x2816x1024 .bf16) (e18 : a18.IsWhole) (a19 : Memref sig .tc .vmem S1x1024 .f32) (e19 : a19.IsWhole) (a20 : Memref sig .tc .vmem S1x1024 .f32) (e20 : a20.IsWhole) (a21 : Memref sig .tc .vmem S512x1024 .f32) (e21 : a21.IsWhole) (a22 : Memref sig .tc .vmem S512x1024 .f32) (e22 : a22.IsWhole) (a23 : Memref sig .tc .vmem S512x1024 .f32) (e23 : a23.IsWhole) (a24 : Memref sig .tc .vmem S520x256 .f32) (e24 : a24.IsWhole) (a25 : Memref sig .tc .vmem S8x2816 .f32) (e25 : a25.IsWhole) (hc0 : ¬cond0_0 i)

theorem r_eq : sl.r c a2 e2 a3 e3 a4 e4 a5 e5 a6 e6 a7 e7 a8 e8 a9 e9 a10 e10 b.x1 b.x2 b.x3 b.x4 b.x5 b.x6 b.x7 b.x8 b.x9 = merged b := by
  unfold sl.r; simp only [View.readAt_eq_ld, Memref.IsWhole.read_unread]; rw [View.ld_unit_lit, View.ld_unit_lit, View.ld_unit_lit, View.ld_unit_lit, View.ld_unit_lit, View.ld_unit_lit, View.ld_unit_lit, View.ld_unit_lit, View.ld_unit_lit] <;> first | rfl | decide

theorem r_1_eq : sl.r_1 c a1 e1 b.x0 = k0_pay3 b.x0 := by
  unfold sl.r_1; simp only [View.readAt_eq_ld, Memref.IsWhole.read_unread]; rw [View.ld_unit_lit] <;> first | rfl | decide

theorem r_2_eq : sl.r_2 c a1 e1 a2 e2 a3 e3 a4 e4 a5 e5 a6 e6 a7 e7 a8 e8 a9 e9 a10 e10 a11 e11 a12 e12 a13 e13 b.x0 b.x1 b.x2 b.x3 b.x4 b.x5 b.x6 b.x7 b.x8 b.x9 b.x10 b.x11 b.x12 = h1b b := by
  unfold sl.r_2; rw [r_eq, r_1_eq]; simp only [View.readAt_eq_ld, Memref.IsWhole.read_unread]; rw [View.ld_unit_lit, View.ld_unit_lit, View.ld_unit_lit] <;> first | rfl | decide

theorem v732_eq : sl.v732 c a1 e1 a2 e2 a3 e3 a4 e4 a5 e5 a6 e6 a7 e7 a8 e8 a9 e9 a10 e10 a11 e11 a12 e12 a13 e13 a22 b.x0 b.x1 b.x2 b.x3 b.x4 b.x5 b.x6 b.x7 b.x8 b.x9 b.x10 b.x11 b.x12 = h1 b := by
  unfold sl.v732 sl.HS0_1; rw [View.readCov_cons_toLoadRect, r_eq, r_1_eq]; simp only [View.readAt_eq_ld, Memref.IsWhole.read_unread]; rw [View.ld_unit_lit, View.ld_unit_lit, View.ld_unit_lit]
  · exact shapeCast_id _ _
  all_goals decide

theorem v134_eq : sl.v134 c a23 = k0_pay9 (F := F) := by
  unfold sl.v134 sl.HS1_1; rw [View.readCov_cons_toLoadRect]

theorem v106_eq : sl.v106 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 0) (uc b 0) := by
  unfold sl.v106 sl.HS2_2
  rw [readCov_up _ _ _ _ 6 (by omega)]
  simp only [View.readAt_eq_ld, Memref.IsWhole.read_unread, r_2_eq]
  exact congrArg₂ (shiftRows 6 (by omega)) (shapeCast_id _ _) (shapeCast_id _ _)

theorem v111_eq : sl.v111 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 0) (uc b 0) := by
  unfold sl.v111 sl.HS2_2
  rw [readCov_up _ _ _ _ 7 (by omega)]
  simp only [View.readAt_eq_ld, Memref.IsWhole.read_unread, r_2_eq]
  exact congrArg₂ (shiftRows 7 (by omega)) (shapeCast_id _ _) (shapeCast_id _ _)

theorem v193_eq : sl.v193 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 1 (by omega) := by
  unfold sl.v193 sl.HS1_2 sl.r_4 sl.r_5 sl.r_6 sl.r_7
  rw [View.readCov_cons_toLoadRect]
  simp only [View.readAt_eq_ld, Memref.IsWhole.read_unread, v106_eq, v111_eq, v134_eq, r_2_eq]
  rfl

theorem v148_eq : sl.v148 c a25 e25 prev = pc prev 1 := by
  unfold sl.v148; rw [View.readAt_eq_ld, Memref.IsWhole.read_unread]; rfl

theorem v165_eq : sl.v165 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 1) (uc b 1) := by
  unfold sl.v165 sl.HS2_4
  rw [readCov_up _ _ _ _ 6 (by omega)]
  simp only [View.readAt_eq_ld, Memref.IsWhole.read_unread, r_2_eq, v148_eq]
  exact congrArg₂ (shiftRows 6 (by omega)) (shapeCast_id _ _) (shapeCast_id _ _)

theorem v170_eq : sl.v170 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 1) (uc b 1) := by
  unfold sl.v170 sl.HS2_4
  rw [readCov_up _ _ _ _ 7 (by omega)]
  simp only [View.readAt_eq_ld, Memref.IsWhole.read_unread, r_2_eq, v148_eq]
  exact congrArg₂ (shiftRows 7 (by omega)) (shapeCast_id _ _) (shapeCast_id _ _)

theorem v252_eq : sl.v252 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 2 (by omega) := by
  unfold sl.v252 sl.HS1_3 sl.r_8 sl.r_9
  rw [View.readCov_cons_toLoadRect]
  simp only [View.readAt_eq_ld, Memref.IsWhole.read_unread, v193_eq, r_2_eq, v165_eq, v170_eq]
  rfl

theorem v207_eq : sl.v207 c a25 e25 prev = pc prev 2 := by
  unfold sl.v207; rw [View.readAt_eq_ld, Memref.IsWhole.read_unread]; rfl

theorem v224_eq : sl.v224 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 2) (uc b 2) := by
  unfold sl.v224 sl.HS2_6 sl.r_11 sl.r_13
  rw [readCov_up _ _ _ _ 6 (by omega)]
  simp only [View.readAt_eq_ld, Memref.IsWhole.read_unread, r_2_eq, v207_eq]
  exact congrArg₂ (shiftRows 6 (by omega)) (shapeCast_id _ _) (shapeCast_id _ _)

theorem v229_eq : sl.v229 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 2) (uc b 2) := by
  unfold sl.v229 sl.HS2_6 sl.r_11 sl.r_13
  rw [readCov_up _ _ _ _ 7 (by omega)]
  simp only [View.readAt_eq_ld, Memref.IsWhole.read_unread, r_2_eq, v207_eq]
  exact congrArg₂ (shiftRows 7 (by omega)) (shapeCast_id _ _) (shapeCast_id _ _)

theorem v311_eq : sl.v311 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 3 (by omega) := by
  unfold sl.v311 sl.HS1_4 sl.r_14 sl.r_11 sl.r_12
  rw [View.readCov_cons_toLoadRect]
  simp only [View.readAt_eq_ld, Memref.IsWhole.read_unread, v252_eq, v224_eq, v229_eq, r_2_eq]
  rfl

theorem v266_eq : sl.v266 c a25 e25 prev = pc prev 3 := by
  unfold sl.v266; rw [View.readAt_eq_ld, Memref.IsWhole.read_unread]; rfl

theorem v283_eq : sl.v283 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 3) (uc b 3) := by
  unfold sl.v283 sl.HS2_8
  rw [readCov_up _ _ _ _ 6 (by omega)]
  simp only [View.readAt_eq_ld, Memref.IsWhole.read_unread, r_2_eq, v266_eq]
  exact congrArg₂ (shiftRows 6 (by omega)) (shapeCast_id _ _) (shapeCast_id _ _)

theorem v288_eq : sl.v288 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 3) (uc b 3) := by
  unfold sl.v288 sl.HS2_8
  rw [readCov_up _ _ _ _ 7 (by omega)]
  simp only [View.readAt_eq_ld, Memref.IsWhole.read_unread, r_2_eq, v266_eq]
  exact congrArg₂ (shiftRows 7 (by omega)) (shapeCast_id _ _) (shapeCast_id _ _)

theorem v370_eq : sl.v370 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 4 (by omega) := by
  unfold sl.v370 sl.HS1_5 sl.r_16 sl.r_17 sl.r_18 sl.r_19
  rw [View.readCov_cons_toLoadRect]
  simp only [View.readAt_eq_ld, Memref.IsWhole.read_unread, v283_eq, v288_eq, v311_eq, r_2_eq]
  rfl

theorem v325_eq : sl.v325 c a25 e25 prev = pc prev 4 := by
  unfold sl.v325; rw [View.readAt_eq_ld, Memref.IsWhole.read_unread]; rfl

theorem v342_eq : sl.v342 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 4) (uc b 4) := by
  unfold sl.v342 sl.HS2_10 sl.r_20
  rw [readCov_up _ _ _ _ 6 (by omega)]
  simp only [View.readAt_eq_ld, Memref.IsWhole.read_unread, r_2_eq, v325_eq]
  exact congrArg₂ (shiftRows 6 (by omega)) (shapeCast_id _ _) (shapeCast_id _ _)

theorem v347_eq : sl.v347 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 4) (uc b 4) := by
  unfold sl.v347 sl.HS2_10 sl.r_20
  rw [readCov_up _ _ _ _ 7 (by omega)]
  simp only [View.readAt_eq_ld, Memref.IsWhole.read_unread, r_2_eq, v325_eq]
  exact congrArg₂ (shiftRows 7 (by omega)) (shapeCast_id _ _) (shapeCast_id _ _)

theorem v429_eq : sl.v429 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 5 (by omega) := by
  unfold sl.v429 sl.HS1_6 sl.r_21 sl.r_22 sl.r_23 sl.r_20
  rw [View.readCov_cons_toLoadRect]
  simp only [View.readAt_eq_ld, Memref.IsWhole.read_unread, v370_eq, r_2_eq, v342_eq, v347_eq]
  rfl

theorem v384_eq : sl.v384 c a25 e25 prev = pc prev 5 := by
  unfold sl.v384; rw [View.readAt_eq_ld, Memref.IsWhole.read_unread]; rfl

theorem v401_eq : sl.v401 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 5) (uc b 5) := by
  unfold sl.v401 sl.HS2_12 sl.r_24
  rw [readCov_up _ _ _ _ 6 (by omega)]
  simp only [View.readAt_eq_ld, Memref.IsWhole.read_unread, v384_eq, r_2_eq]
  exact congrArg₂ (shiftRows 6 (by omega)) (shapeCast_id _ _) (shapeCast_id _ _)

theorem v406_eq : sl.v406 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 5) (uc b 5) := by
  unfold sl.v406 sl.HS2_12 sl.r_24
  rw [readCov_up _ _ _ _ 7 (by omega)]
  simp only [View.readAt_eq_ld, Memref.IsWhole.read_unread, v384_eq, r_2_eq]
  exact congrArg₂ (shiftRows 7 (by omega)) (shapeCast_id _ _) (shapeCast_id _ _)

theorem v488_eq : sl.v488 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 6 (by omega) := by
  unfold sl.v488 sl.HS1_7 sl.r_26 sl.r_24 sl.r_25
  rw [View.readCov_cons_toLoadRect]
  simp only [View.readAt_eq_ld, Memref.IsWhole.read_unread, v429_eq, v401_eq, v406_eq, r_2_eq]
  rfl

theorem v443_eq : sl.v443 c a25 e25 prev = pc prev 6 := by
  unfold sl.v443; rw [View.readAt_eq_ld, Memref.IsWhole.read_unread]; rfl

theorem v460_eq : sl.v460 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 6) (uc b 6) := by
  unfold sl.v460 sl.HS2_14
  rw [readCov_up _ _ _ _ 6 (by omega)]
  simp only [View.readAt_eq_ld, Memref.IsWhole.read_unread, r_2_eq, v443_eq]
  exact congrArg₂ (shiftRows 6 (by omega)) (shapeCast_id _ _) (shapeCast_id _ _)

theorem v465_eq : sl.v465 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 6) (uc b 6) := by
  unfold sl.v465 sl.HS2_14
  rw [readCov_up _ _ _ _ 7 (by omega)]
  simp only [View.readAt_eq_ld, Memref.IsWhole.read_unread, r_2_eq, v443_eq]
  exact congrArg₂ (shiftRows 7 (by omega)) (shapeCast_id _ _) (shapeCast_id _ _)

theorem v547_eq : sl.v547 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 7 (by omega) := by
  unfold sl.v547 sl.HS1_8 sl.r_28 sl.r_29 sl.r_30 sl.r_31
  rw [View.readCov_cons_toLoadRect]
  simp only [View.readAt_eq_ld, Memref.IsWhole.read_unread, v460_eq, v465_eq, v488_eq, r_2_eq]
  rfl

theorem v502_eq : sl.v502 c a25 e25 prev = pc prev 7 := by
  unfold sl.v502; rw [View.readAt_eq_ld, Memref.IsWhole.read_unread]; rfl

theorem v519_eq : sl.v519 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 7) (uc b 7) := by
  unfold sl.v519 sl.HS2_16 sl.r_32
  rw [readCov_up _ _ _ _ 6 (by omega)]
  simp only [View.readAt_eq_ld, Memref.IsWhole.read_unread, v502_eq, r_2_eq]
  exact congrArg₂ (shiftRows 6 (by omega)) (shapeCast_id _ _) (shapeCast_id _ _)

theorem v524_eq : sl.v524 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 7) (uc b 7) := by
  unfold sl.v524 sl.HS2_16 sl.r_32
  rw [readCov_up _ _ _ _ 7 (by omega)]
  simp only [View.readAt_eq_ld, Memref.IsWhole.read_unread, v502_eq, r_2_eq]
  exact congrArg₂ (shiftRows 7 (by omega)) (shapeCast_id _ _) (shapeCast_id _ _)

theorem v606_eq : sl.v606 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 8 (by omega) := by
  unfold sl.v606 sl.HS1_9 sl.r_33 sl.r_34 sl.r_35 sl.r_32
  rw [View.readCov_cons_toLoadRect]
  simp only [View.readAt_eq_ld, Memref.IsWhole.read_unread, v547_eq, r_2_eq, v519_eq, v524_eq]
  rfl

theorem v561_eq : sl.v561 c a25 e25 prev = pc prev 8 := by
  unfold sl.v561; rw [View.readAt_eq_ld, Memref.IsWhole.read_unread]; rfl

theorem v578_eq : sl.v578 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 8) (uc b 8) := by
  unfold sl.v578 sl.HS2_18 sl.r_38
  rw [readCov_up _ _ _ _ 6 (by omega)]
  simp only [View.readAt_eq_ld, Memref.IsWhole.read_unread, v561_eq, r_2_eq]
  exact congrArg₂ (shiftRows 6 (by omega)) (shapeCast_id _ _) (shapeCast_id _ _)

theorem v583_eq : sl.v583 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 8) (uc b 8) := by
  unfold sl.v583 sl.HS2_18 sl.r_38
  rw [readCov_up _ _ _ _ 7 (by omega)]
  simp only [View.readAt_eq_ld, Memref.IsWhole.read_unread, v561_eq, r_2_eq]
  exact congrArg₂ (shiftRows 7 (by omega)) (shapeCast_id _ _) (shapeCast_id _ _)

theorem v665_eq : sl.v665 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 9 (by omega) := by
  unfold sl.v665 sl.HS1_10 sl.r_39 sl.r_36 sl.r_37
  rw [View.readCov_cons_toLoadRect]
  simp only [View.readAt_eq_ld, Memref.IsWhole.read_unread, v606_eq, v578_eq, v583_eq, r_2_eq]
  rfl

theorem v620_eq : sl.v620 c a25 e25 prev = pc prev 9 := by
  unfold sl.v620; rw [View.readAt_eq_ld, Memref.IsWhole.read_unread]; rfl

theorem v637_eq : sl.v637 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 9) (uc b 9) := by
  unfold sl.v637 sl.HS2_20
  rw [readCov_up _ _ _ _ 6 (by omega)]
  simp only [View.readAt_eq_ld, Memref.IsWhole.read_unread, r_2_eq, v620_eq]
  exact congrArg₂ (shiftRows 6 (by omega)) (shapeCast_id _ _) (shapeCast_id _ _)

theorem v642_eq : sl.v642 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 9) (uc b 9) := by
  unfold sl.v642 sl.HS2_20
  rw [readCov_up _ _ _ _ 7 (by omega)]
  simp only [View.readAt_eq_ld, Memref.IsWhole.read_unread, r_2_eq, v620_eq]
  exact congrArg₂ (shiftRows 7 (by omega)) (shapeCast_id _ _) (shapeCast_id _ _)

theorem v724_eq : sl.v724 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 10 (by omega) := by
  unfold sl.v724 sl.HS1_11 sl.r_41 sl.r_42 sl.r_43
  rw [View.readCov_cons_toLoadRect]
  simp only [View.readAt_eq_ld, Memref.IsWhole.read_unread, v642_eq, v665_eq, r_2_eq, v637_eq]
  rfl

theorem v679_eq : sl.v679 c a25 e25 prev = pc prev 10 := by
  unfold sl.v679; rw [View.readAt_eq_ld, Memref.IsWhole.read_unread]; rfl

theorem v696_eq : sl.v696 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 10) (uc b 10) := by
  unfold sl.v696 sl.HS2_22 sl.r_44
  rw [readCov_up _ _ _ _ 6 (by omega)]
  simp only [View.readAt_eq_ld, Memref.IsWhole.read_unread, v679_eq, r_2_eq]
  exact congrArg₂ (shiftRows 6 (by omega)) (shapeCast_id _ _) (shapeCast_id _ _)

theorem v701_eq : sl.v701 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 10) (uc b 10) := by
  unfold sl.v701 sl.HS2_22 sl.r_44
  rw [readCov_up _ _ _ _ 7 (by omega)]
  simp only [View.readAt_eq_ld, Memref.IsWhole.read_unread, v679_eq, r_2_eq]
  exact congrArg₂ (shiftRows 7 (by omega)) (shapeCast_id _ _) (shapeCast_id _ _)

theorem v735_eq : sl.v735 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 11 (by omega) := by
  unfold sl.v735 sl.HS1_12 sl.r_45 sl.r_46 sl.r_47 sl.cst_420 sl.r_44
  rw [View.readCov_cons_toLoadRect]
  simp only [View.readAt_eq_ld, Memref.IsWhole.read_unread, v724_eq, r_2_eq, v696_eq, v701_eq]
  rfl

/-- The output block of the run. -/
theorem out_eq : out0_B_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev = out b prev := by
  unfold out0_B_20
  rw [View.read_writes_eq_canon _ _ _ (cover0_B_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev)]
  unfold kernelRun0_B
  dsimp only
  rw [View.canon_cons_unit_lit _ _ _ (by decide)]
  unfold sl.r_48 sl.r_49 sl.r_50 sl.r_51 sl.cst_443
  rw [v732_eq, v735_eq]
  simp only [View.readAt_eq_ld, Memref.IsWhole.read_unread]
  rw [View.ld_unit_lit, View.ld_unit_lit]
  · rfl
  all_goals decide

/-- What the run leaves in the carried rows. -/
theorem carry_eq : sout0_B_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev = carryAt b := by
  unfold sout0_B_3
  rw [View.read_writes_eq_canon _ _ _ (scover0_B_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev)]
  unfold kernelRun0_B
  dsimp only
  unfold sl.r_3 sl.r_10 sl.r_11 sl.r_15 sl.r_20 sl.r_24 sl.r_27 sl.r_32 sl.r_36 sl.r_40 sl.r_44
  simp only [View.readAt_eq_ld, Memref.IsWhole.read_unread, r_2_eq]
  funext y
  have hy0 : (y 0).val < 8 := (y 0).isLt
  have hy1 : (y 1).val < 2816 := (y 1).isLt
  refine View.canon_append_of_piecesOf (carryAt b) [] [_, _, _, _, _, _, _, _, _, _, _]
    ⟨fun x => ?_, fun x => ?_, fun x => ?_, fun x => ?_, fun x => ?_, fun x => ?_, fun x => ?_, fun x => ?_, fun x => ?_, fun x => ?_, fun x => ?_, trivial⟩ y ?_
  · exact Eq.trans (b := carry b 10 x) rfl (carryAt_eq b 10 x _ (by show 0 + 1 * (x 0).val = (x 0).val; omega) (by show 2560 + 1 * (x 1).val = 256 * 10 + (x 1).val; omega)).symm
  · exact Eq.trans (b := carry b 9 x) rfl (carryAt_eq b 9 x _ (by show 0 + 1 * (x 0).val = (x 0).val; omega) (by show 2304 + 1 * (x 1).val = 256 * 9 + (x 1).val; omega)).symm
  · exact Eq.trans (b := carry b 8 x) rfl (carryAt_eq b 8 x _ (by show 0 + 1 * (x 0).val = (x 0).val; omega) (by show 2048 + 1 * (x 1).val = 256 * 8 + (x 1).val; omega)).symm
  · exact Eq.trans (b := carry b 7 x) rfl (carryAt_eq b 7 x _ (by show 0 + 1 * (x 0).val = (x 0).val; omega) (by show 1792 + 1 * (x 1).val = 256 * 7 + (x 1).val; omega)).symm
  · exact Eq.trans (b := carry b 6 x) rfl (carryAt_eq b 6 x _ (by show 0 + 1 * (x 0).val = (x 0).val; omega) (by show 1536 + 1 * (x 1).val = 256 * 6 + (x 1).val; omega)).symm
  · exact Eq.trans (b := carry b 5 x) rfl (carryAt_eq b 5 x _ (by show 0 + 1 * (x 0).val = (x 0).val; omega) (by show 1280 + 1 * (x 1).val = 256 * 5 + (x 1).val; omega)).symm
  · exact Eq.trans (b := carry b 4 x) rfl (carryAt_eq b 4 x _ (by show 0 + 1 * (x 0).val = (x 0).val; omega) (by show 1024 + 1 * (x 1).val = 256 * 4 + (x 1).val; omega)).symm
  · exact Eq.trans (b := carry b 3 x) rfl (carryAt_eq b 3 x _ (by show 0 + 1 * (x 0).val = (x 0).val; omega) (by show 768 + 1 * (x 1).val = 256 * 3 + (x 1).val; omega)).symm
  · exact Eq.trans (b := carry b 2 x) rfl (carryAt_eq b 2 x _ (by show 0 + 1 * (x 0).val = (x 0).val; omega) (by show 512 + 1 * (x 1).val = 256 * 2 + (x 1).val; omega)).symm
  · exact Eq.trans (b := carry b 1 x) rfl (carryAt_eq b 1 x _ (by show 0 + 1 * (x 0).val = (x 0).val; omega) (by show 256 + 1 * (x 1).val = 256 * 1 + (x 1).val; omega)).symm
  · exact Eq.trans (b := carry b 0 x) rfl (carryAt_eq b 0 x _ (by show 0 + 1 * (x 0).val = (x 0).val; omega) (by show 0 + 1 * (x 1).val = 256 * 0 + (x 1).val; omega)).symm
  · have hk : (y 1).val / 256 < 11 := by omega
    generalize hq : (y 1).val / 256 = q at hk
    have hb : 256 * q ≤ (y 1).val ∧ (y 1).val < 256 * q + 256 := by omega
    clear hq
    interval_cases q
    · refine ⟨_, .tail _ (.tail _ (.tail _ (.tail _ (.tail _ (.tail _ (.tail _ (.tail _ (.tail _ (.tail _ (.head _)))))))))), ?_⟩
      rw [Rect.mem_set_unit]
      exact fun a => match a with
        | ⟨0, _⟩ => ⟨Nat.zero_le _, by show (y 0).val < 0 + 8; omega⟩
        | ⟨1, _⟩ => ⟨by show 0 ≤ (y 1).val; omega, by show (y 1).val < 0 + 256; omega⟩
    · refine ⟨_, .tail _ (.tail _ (.tail _ (.tail _ (.tail _ (.tail _ (.tail _ (.tail _ (.tail _ (.head _))))))))), ?_⟩
      rw [Rect.mem_set_unit]
      exact fun a => match a with
        | ⟨0, _⟩ => ⟨Nat.zero_le _, by show (y 0).val < 0 + 8; omega⟩
        | ⟨1, _⟩ => ⟨by show 256 ≤ (y 1).val; omega, by show (y 1).val < 256 + 256; omega⟩
    · refine ⟨_, .tail _ (.tail _ (.tail _ (.tail _ (.tail _ (.tail _ (.tail _ (.tail _ (.head _)))))))), ?_⟩
      rw [Rect.mem_set_unit]
      exact fun a => match a with
        | ⟨0, _⟩ => ⟨Nat.zero_le _, by show (y 0).val < 0 + 8; omega⟩
        | ⟨1, _⟩ => ⟨by show 512 ≤ (y 1).val; omega, by show (y 1).val < 512 + 256; omega⟩
    · refine ⟨_, .tail _ (.tail _ (.tail _ (.tail _ (.tail _ (.tail _ (.tail _ (.head _))))))), ?_⟩
      rw [Rect.mem_set_unit]
      exact fun a => match a with
        | ⟨0, _⟩ => ⟨Nat.zero_le _, by show (y 0).val < 0 + 8; omega⟩
        | ⟨1, _⟩ => ⟨by show 768 ≤ (y 1).val; omega, by show (y 1).val < 768 + 256; omega⟩
    · refine ⟨_, .tail _ (.tail _ (.tail _ (.tail _ (.tail _ (.tail _ (.head _)))))), ?_⟩
      rw [Rect.mem_set_unit]
      exact fun a => match a with
        | ⟨0, _⟩ => ⟨Nat.zero_le _, by show (y 0).val < 0 + 8; omega⟩
        | ⟨1, _⟩ => ⟨by show 1024 ≤ (y 1).val; omega, by show (y 1).val < 1024 + 256; omega⟩
    · refine ⟨_, .tail _ (.tail _ (.tail _ (.tail _ (.tail _ (.head _))))), ?_⟩
      rw [Rect.mem_set_unit]
      exact fun a => match a with
        | ⟨0, _⟩ => ⟨Nat.zero_le _, by show (y 0).val < 0 + 8; omega⟩
        | ⟨1, _⟩ => ⟨by show 1280 ≤ (y 1).val; omega, by show (y 1).val < 1280 + 256; omega⟩
    · refine ⟨_, .tail _ (.tail _ (.tail _ (.tail _ (.head _)))), ?_⟩
      rw [Rect.mem_set_unit]
      exact fun a => match a with
        | ⟨0, _⟩ => ⟨Nat.zero_le _, by show (y 0).val < 0 + 8; omega⟩
        | ⟨1, _⟩ => ⟨by show 1536 ≤ (y 1).val; omega, by show (y 1).val < 1536 + 256; omega⟩
    · refine ⟨_, .tail _ (.tail _ (.tail _ (.head _))), ?_⟩
      rw [Rect.mem_set_unit]
      exact fun a => match a with
        | ⟨0, _⟩ => ⟨Nat.zero_le _, by show (y 0).val < 0 + 8; omega⟩
        | ⟨1, _⟩ => ⟨by show 1792 ≤ (y 1).val; omega, by show (y 1).val < 1792 + 256; omega⟩
    · refine ⟨_, .tail _ (.tail _ (.head _)), ?_⟩
      rw [Rect.mem_set_unit]
      exact fun a => match a with
        | ⟨0, _⟩ => ⟨Nat.zero_le _, by show (y 0).val < 0 + 8; omega⟩
        | ⟨1, _⟩ => ⟨by show 2048 ≤ (y 1).val; omega, by show (y 1).val < 2048 + 256; omega⟩
    · refine ⟨_, .tail _ (.head _), ?_⟩
      rw [Rect.mem_set_unit]
      exact fun a => match a with
        | ⟨0, _⟩ => ⟨Nat.zero_le _, by show (y 0).val < 0 + 8; omega⟩
        | ⟨1, _⟩ => ⟨by show 2304 ≤ (y 1).val; omega, by show (y 1).val < 2304 + 256; omega⟩
    · refine ⟨_, .head _, ?_⟩
      rw [Rect.mem_set_unit]
      exact fun a => match a with
        | ⟨0, _⟩ => ⟨Nat.zero_le _, by show (y 0).val < 0 + 8; omega⟩
        | ⟨1, _⟩ => ⟨by show 2560 ≤ (y 1).val; omega, by show (y 1).val < 2560 + 256; omega⟩

/-- The same two facts over the twenty blocks one by one. -/
theorem out_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    out0_B_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 prev = out ⟨x0, x1, x2, x3, x4, x5, x6, x7, x8, x9, x10, x11, x12, x13, x14, x15, x16, x17, x18, x19⟩ prev := out_eq (b := ⟨x0, x1, x2, x3, x4, x5, x6, x7, x8, x9, x10, x11, x12, x13, x14, x15, x16, x17, x18, x19⟩) ..

theorem carry_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    sout0_B_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 prev = carryAt ⟨x0, x1, x2, x3, x4, x5, x6, x7, x8, x9, x10, x11, x12, x13, x14, x15, x16, x17, x18, x19⟩ := carry_eq (b := ⟨x0, x1, x2, x3, x4, x5, x6, x7, x8, x9, x10, x11, x12, x13, x14, x15, x16, x17, x18, x19⟩) ..

end Cert.Kernel2Ideal.Ffn.RunB

end
-- ==== Proof.FfnValue.lean ====
/- The merge and feed-forward kernel's output array: row `8192 * s + p` is the layer's row for sequence `s`, position `p`.
   A tile that starts a sequence starts from zero carried rows; any other tile from the last rows of the tile before. -/
module

public import proofs.«01_k».proof.Proof.FfnBlocks
public import proofs.«01_k».proof.Proof.FfnRunA
public import proofs.«01_k».proof.Proof.FfnRunB

@[expose] public section

set_option maxRecDepth 16384

noncomputable section

namespace Cert.Kernel2Ideal.Ffn

open Cert.Kernel2Ideal Cert.Kernel2Ideal.Gen Cert.FfnSpec Idealize.ShloMosaic Idealize.ShloMosaic.TcCoe Idealize.SL.Sem

variable (m : (ℓ : Loc nD τ sig) → Buf (Elt Ideal) ℓ) (c : Dev nD)

/-- The blocks of grid point `t`. -/
def blkAt (t : Fin cfg0.N) : Blk Ideal :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t, iblk m c 13 t, iblk m c 14 t, iblk m c 15 t, iblk m c 16 t, iblk m c 17 t, iblk m c 18 t, iblk m c 19 t⟩

/-- The launch's arguments as the layer's arrays. -/
def args : Args where
  x s p d := m ((c : Thread nD τ).loc main_arg0) (ix3 s p d)
  ya s p k := m ((c : Thread nD τ).loc main_arg1) (ix3 s p k)
  yb s p k := m ((c : Thread nD τ).loc main_arg2) (ix3 s p k)
  yc s p k := m ((c : Thread nD τ).loc main_arg3) (ix3 s p k)
  g t d := m ((c : Thread nD τ).loc main_arg4) (ix2 t d)
  wa k d := m ((c : Thread nD τ).loc main_arg5) (ix3 1 k d)
  wb k d := m ((c : Thread nD τ).loc main_arg6) (ix3 1 k d)
  wc k d := m ((c : Thread nD τ).loc main_arg7) (ix3 1 k d)
  wo k d := m ((c : Thread nD τ).loc main_arg8) (ix3 1 k d)
  g1 d := m ((c : Thread nD τ).loc main_arg9) (ix2 1 d)
  b1 d := m ((c : Thread nD τ).loc main_arg10) (ix2 1 d)
  wu k f := m ((c : Thread nD τ).loc main_arg11) (ix3 1 k f)
  cw i f := m ((c : Thread nD τ).loc main_arg12) (ix3 1 i f)
  cb f := m ((c : Thread nD τ).loc main_arg13) (ix2 1 f)
  wd f d := m ((c : Thread nD τ).loc main_arg14) (ix3 1 f d)
  g2 d := m ((c : Thread nD τ).loc main_arg15) (ix2 1 d)
  b2 d := m ((c : Thread nD τ).loc main_arg16) (ix2 1 d)

theorem flat_of (t : Fin cfg0.N) (r : Fin 512) : rowOf t r = flat (seqOf t r) (posOf t r) := by
  apply Fin.ext
  show 512 * t.val + r.val = 8192 * ((512 * t.val + r.val) / 8192) + (512 * t.val + r.val) % 8192
  omega

theorem hrow_eq (t : Fin cfg0.N) (r : Fin 512) : hrow (blkAt m c t) r = hid (args m c) (seqOf t r) (posOf t r) := by
  unfold hrow hid blkAt
  simp only [x0_apply, x1_apply, x2_apply, x3_apply, x4_apply, x5_apply, x6_apply, x7_apply, x8_apply, x9_apply, x10_apply, x11_apply, x12_apply, flat_of]
  rfl

theorem urow_eq (t : Fin cfg0.N) (r : Fin 512) (f : Fin 2816) : urow (blkAt m c t) r f = up (args m c) (seqOf t r) (posOf t r) f := by
  unfold urow up
  rw [hrow_eq]
  exact Finset.sum_congr rfl fun k _ => congrArg _ (x13_apply m c t k f)

theorem vrow_eq (t : Fin cfg0.N) (r : Fin 512) (f : Fin 2816) : vrow (blkAt m c t) r f = gateUp (args m c) (seqOf t r) (posOf t r) f := by
  unfold vrow gateUp
  rw [hrow_eq]
  exact Finset.sum_congr rfl fun k _ => congrArg _ (x14_apply m c t k f)

/-- The rows carried into grid point `t`. -/
def prevAt (t : Fin cfg0.N) : Vec Ideal S8x2816 .f32 :=
  if t.val % 16 = 0 then k0_pay8 (F := Ideal) else carryAt (blkAt m c ⟨t.val - 1, lt_of_le_of_lt (Nat.sub_le _ _) t.isLt⟩)

theorem outs_snd (t : Fin cfg0.N) : (outsAt0 m c t.val t.isLt).2 = carryAt (blkAt m c t) := by
  by_cases h0 : t.val % 16 = 0
  · rw [outsAt0_A m c t h0]
    dsimp only [blkAt]
    exact RunA.carry_eq' (F := Ideal) ..
  · rw [outsAt0_B m c t h0]
    dsimp only [blkAt]
    exact RunB.carry_eq' (F := Ideal) ..

theorem outs_fst (t : Fin cfg0.N) : (outsAt0 m c t.val t.isLt).1 = out (blkAt m c t) (prevAt m c t) := by
  unfold prevAt
  by_cases h0 : t.val % 16 = 0
  · rw [outsAt0_A m c t h0, if_pos h0]
    dsimp only [blkAt]
    exact RunA.out_eq' (F := Ideal) ..
  · rw [outsAt0_B m c t h0, if_neg h0, ← outs_snd]
    dsimp only [blkAt]
    exact RunB.out_eq' (F := Ideal) ..

/-- The row before a tile's first rows is the sequence's, or zero before its start. -/
theorem ushift_eq (t : Fin cfg0.N) (off : ℕ) (hoff : off ≤ 2) (r : Fin 512) (f : Fin 2816) :
    ushift (blkAt m c t) (prevAt m c t) (6 + off) (by omega) r f = upBack (args m c) off hoff (seqOf t r) (posOf t r) f := by
  have ht := tlt t
  have hr := r.isLt
  have hp : (posOf t r).val = (512 * t.val + r.val) % 8192 := rfl
  have hs : (seqOf t r).val = (512 * t.val + r.val) / 8192 := rfl
  unfold ushift upBack
  by_cases h : 6 + off + r.val < 8
  · rw [dif_pos h]
    unfold prevAt
    by_cases h0 : t.val % 16 = 0
    · rw [if_pos h0, dif_neg (by omega)]
      pointwise [k0_pay8]
    · rw [if_neg h0, dif_pos (by omega), carryAt_apply, urow_eq]
      congr 1
      · apply Fin.ext
        show (512 * (t.val - 1) + (504 + (6 + off + r.val))) / 8192 = (512 * t.val + r.val) / 8192
        omega
      · apply Fin.ext
        show (512 * (t.val - 1) + (504 + (6 + off + r.val))) % 8192 = off + (512 * t.val + r.val) % 8192 - 2
        omega
  · rw [dif_neg h, dif_pos (by omega), urow_eq]
    congr 1
    · apply Fin.ext
      show (512 * t.val + (6 + off + r.val - 8)) / 8192 = (512 * t.val + r.val) / 8192
      omega
    · apply Fin.ext
      show (512 * t.val + (6 + off + r.val - 8)) % 8192 = off + (512 * t.val + r.val) % 8192 - 2
      omega

theorem out_eq (t : Fin cfg0.N) (r : Fin 512) (d : Fin 1024) :
    out (blkAt m c t) (prevAt m c t) (ix2 r d) = layer (args m c) (seqOf t r) (posOf t r) d := by
  have ey : yrow (blkAt m c t) (prevAt m c t) r = hiddenRow (args m c) (seqOf t r) (posOf t r) := by
    funext f
    unfold yrow hiddenRow
    rw [ushift_eq m c t 0, ushift_eq m c t 1, urow_eq, vrow_eq]
    dsimp only [blkAt]
    simp only [x15_apply, x16_apply]
    rfl
  rw [out_apply, hrow_eq, ey]
  unfold blkAt layer
  simp only [x17_apply, x18_apply, x19_apply]
  rfl

/-- The output array at an index. -/
theorem final (i : S32768x1024.Idx) : Cert.Kernel2Ideal.Value.G20 m c i =
    layer (args m c) ⟨(i 0).val / 8192, by have h : (i 0).val < 32768 := (i 0).isLt; omega⟩ ⟨(i 0).val % 8192, by omega⟩ (i 1) := by
  have h0 : (i 0).val < 32768 := (i 0).isLt
  have h1 : (i 1).val < 1024 := (i 1).isLt
  have hN : cfg0.N = 64 := N_0
  have hp : Cert.Kernel2Ideal.Value.pt20Of i = (i 0).val / 512 := by
    show 1 * ((i 0).val / 512 - 0) + 1 * ((i 1).val / 1024 - 0) = _
    omega
  have hlt : Cert.Kernel2Ideal.Value.pt20Of i < cfg0.N := by rw [hp, hN]; omega
  unfold Cert.Kernel2Ideal.Value.G20
  rw [dif_pos hlt, ← Cert.Kernel2Ideal.Value.outsAt0_sweep m c _ hlt, outs_fst m c ⟨_, hlt⟩]
  have hl : Cert.Kernel2Ideal.Value.loc20Of i = ix2 (⟨(i 0).val % 512, Nat.mod_lt _ (by decide)⟩ : Fin 512) (⟨(i 1).val, h1⟩ : Fin 1024) := by
    funext a
    match a with
    | ⟨0, _⟩ => rfl
    | ⟨1, _⟩ => apply Fin.ext; show (i 1).val % 1024 = (i 1).val; omega
  rw [hl, out_eq]
  congr 1
  · apply Fin.ext
    show (512 * Cert.Kernel2Ideal.Value.pt20Of i + (i 0).val % 512) / 8192 = (i 0).val / 8192
    rw [hp]; omega
  · apply Fin.ext
    show (512 * Cert.Kernel2Ideal.Value.pt20Of i + (i 0).val % 512) % 8192 = (i 0).val % 8192
    rw [hp]; omega

end Cert.Kernel2Ideal.Ffn

end
-- ==== Proof.FfnRef.lean ====
/- The merge and feed-forward reference, one operation at a time, read at an index: its result's row `8192 * s + p` is the
   layer's row for sequence `s`, position `p`. -/
module

public import proofs.«01_k».proof.Proof.FfnSpec
public import proofs.«01_k».proof.Proof.Gen.Reference2Ideal.Read

@[expose] public section

set_option maxRecDepth 16384

noncomputable section

namespace Cert.Reference2Ideal.Ffn

open Cert.Reference2Ideal Cert.Reference2Ideal.Gen Cert.Reference2Ideal.Read Cert.FfnSpec Idealize.ShloMosaic Idealize.ShloMosaic.TcCoe Idealize.SL.Sem

variable (x0 : FVec Ideal S4x8192x1024 .f32) (x1 x2 x3 : FVec Ideal S4x8192x512 .bf16) (x4 : FVec Ideal S32768x3072 .bf16)
  (x5 x6 x7 : FVec Ideal S2x512x1024 .f32) (x8 : FVec Ideal S2x1024x1024 .f32) (x9 x10 : FVec Ideal S2x1024 .f32)
  (x11 : FVec Ideal S2x1024x5632 .f32) (x12 : FVec Ideal S2x3x2816 .f32) (x13 : FVec Ideal S2x2816 .f32)
  (x14 : FVec Ideal S2x2816x1024 .f32) (x15 x16 : FVec Ideal S2x1024 .f32)

/-- The reference's arguments as the layer's arrays. -/
def args : Args where
  x s p d := x0 (ix3 s p d)
  ya s p k := x1 (ix3 s p k)
  yb s p k := x2 (ix3 s p k)
  yc s p k := x3 (ix3 s p k)
  g t d := x4 (ix2 t d)
  wa k d := x5 (ix3 1 k d)
  wb k d := x6 (ix3 1 k d)
  wc k d := x7 (ix3 1 k d)
  wo k d := x8 (ix3 1 k d)
  g1 d := x9 (ix2 1 d)
  b1 d := x10 (ix2 1 d)
  wu k f := x11 (ix3 1 k f)
  cw i f := x12 (ix3 1 i f)
  cb f := x13 (ix2 1 f)
  wd f d := x14 (ix3 1 f d)
  g2 d := x15 (ix2 1 d)
  b2 d := x16 (ix2 1 d)

theorem flat_spelt (s : Fin 4) (p : Fin 8192) (h : s.val * 8192 + p.val < 32768) : (⟨s.val * 8192 + p.val, h⟩ : Fin 32768) = flat s p := by
  apply Fin.ext
  show s.val * 8192 + p.val = 8192 * s.val + p.val
  omega

theorem gate_apply (s : Fin 4) (p : Fin 8192) (k : Fin 3) (d : Fin 1024) :
    val_main_v7 (F := Ideal) x4 (ix4 s p k d) = Ideal.logistic (x4 (ix2 (flat s p) ⟨k.val * 1024 + d.val, by omega⟩)) := by
  unfold Ideal.logistic
  rw [← flat_spelt s p (by omega)]
  pointwise [val_main_v0, val_main_v1, val_main_v2, val_main_v3, val_main_v4, val_main_v5, val_main_v6, val_main_v7, val_main_cst, val_main_cst_0]

theorem merged_apply (s : Fin 4) (p : Fin 8192) (d : Fin 1024) :
    val_main_v30 (F := Ideal) x1 x2 x3 x4 x5 x6 x7 (ix3 s p d) =
    merge (fun d => x4 (ix2 (flat s p) ⟨d.val, by omega⟩)) (fun d => x4 (ix2 (flat s p) ⟨1024 + d.val, by omega⟩)) (fun d => x4 (ix2 (flat s p) ⟨2048 + d.val, by omega⟩))
      (fun k => x1 (ix3 s p k)) (fun k => x2 (ix3 s p k)) (fun k => x3 (ix3 s p k)) (fun k d => x5 (ix3 1 k d)) (fun k d => x6 (ix3 1 k d)) (fun k d => x7 (ix3 1 k d)) d := by
  have e0 : val_main_v9 (F := Ideal) x4 (ix3 s p d) = val_main_v7 (F := Ideal) x4 (ix4 s p 0 d) := by
    pointwise [val_main_v9, val_main_v8]
  have e1 : val_main_v16 (F := Ideal) x4 (ix3 s p d) = val_main_v7 (F := Ideal) x4 (ix4 s p 1 d) := by
    pointwise [val_main_v16, val_main_v15]
  have e2 : val_main_v24 (F := Ideal) x4 (ix3 s p d) = val_main_v7 (F := Ideal) x4 (ix4 s p 2 d) := by
    pointwise [val_main_v24, val_main_v23]
  have d0 : val_main_v13 (F := Ideal) x1 x5 (ix3 s p d) = ∑ k, x1 (ix3 s p k) * x5 (ix3 1 k d) := by
    pointwise [val_main_v10, val_main_v11, val_main_v12, val_main_v13]
  have d1 : val_main_v20 (F := Ideal) x2 x6 (ix3 s p d) = ∑ k, x2 (ix3 s p k) * x6 (ix3 1 k d) := by
    pointwise [val_main_v17, val_main_v18, val_main_v19, val_main_v20]
  have d2 : val_main_v28 (F := Ideal) x3 x7 (ix3 s p d) = ∑ k, x3 (ix3 s p k) * x7 (ix3 1 k d) := by
    pointwise [val_main_v25, val_main_v26, val_main_v27, val_main_v28]
  show val_main_v9 (F := Ideal) x4 (ix3 s p d) * val_main_v13 (F := Ideal) x1 x5 (ix3 s p d)
    + val_main_v16 (F := Ideal) x4 (ix3 s p d) * val_main_v20 (F := Ideal) x2 x6 (ix3 s p d)
    + val_main_v24 (F := Ideal) x4 (ix3 s p d) * val_main_v28 (F := Ideal) x3 x7 (ix3 s p d) = _
  rw [e0, e1, e2, d0, d1, d2, gate_apply, gate_apply, gate_apply]
  unfold merge
  refine congrArg₂ (· + ·) (congrArg₂ (· + ·) (congrArg₂ (· * ·) (congrArg (fun q => Ideal.logistic (x4 (ix2 (flat s p) q))) (Fin.ext ?_)) rfl) rfl) rfl
  show 0 * 1024 + d.val = d.val
  omega

theorem resid_apply (s : Fin 4) (p : Fin 8192) (d : Fin 1024) :
    val_main_v36 (F := Ideal) x0 x1 x2 x3 x4 x5 x6 x7 x8 (ix3 s p d) =
    resid (fun d => x0 (ix3 s p d)) (fun k => val_main_v30 (F := Ideal) x1 x2 x3 x4 x5 x6 x7 (ix3 s p k)) (fun k d => x8 (ix3 1 k d)) d := by
  unfold resid alpha
  pointwise [val_main_v31, val_main_v32, val_main_v33, val_main_v34, val_main_v35, val_main_v36, val_main_cst_1]

theorem norm1_apply (s : Fin 4) (p : Fin 8192) (d : Fin 1024) :
    val_main_v64 (F := Ideal) x0 x1 x2 x3 x4 x5 x6 x7 x8 x9 x10 (ix3 s p d) =
    lnorm (fun d => val_main_v36 (F := Ideal) x0 x1 x2 x3 x4 x5 x6 x7 x8 (ix3 s p d)) (fun d => x9 (ix2 1 d)) (fun d => x10 (ix2 1 d)) d := by
  unfold lnorm mean
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_cst_2, val_main_cst_3, val_main_cst_4, val_main_cst_5, val_main_cst_6]

theorem hid_apply (s : Fin 4) (p : Fin 8192) (d : Fin 1024) :
    val_main_v64 (F := Ideal) x0 x1 x2 x3 x4 x5 x6 x7 x8 x9 x10 (ix3 s p d) = hid (args x0 x1 x2 x3 x4 x5 x6 x7 x8 x9 x10 x11 x12 x13 x14 x15 x16) s p d := by
  have e : (fun d => val_main_v36 (F := Ideal) x0 x1 x2 x3 x4 x5 x6 x7 x8 (ix3 s p d)) = resid (fun d => x0 (ix3 s p d)) _ (fun k d => x8 (ix3 1 k d)) :=
    funext fun d => resid_apply x0 x1 x2 x3 x4 x5 x6 x7 x8 s p d
  have e' : (fun k => val_main_v30 (F := Ideal) x1 x2 x3 x4 x5 x6 x7 (ix3 s p k)) = _ := funext fun k => merged_apply x1 x2 x3 x4 x5 x6 x7 s p k
  rw [norm1_apply, e, e']
  rfl

theorem proj_apply (s : Fin 4) (p : Fin 8192) (f : Fin 5632) :
    val_main_v67 (F := Ideal) x0 x1 x2 x3 x4 x5 x6 x7 x8 x9 x10 x11 (ix3 s p f) = ∑ k, hid (args x0 x1 x2 x3 x4 x5 x6 x7 x8 x9 x10 x11 x12 x13 x14 x15 x16) s p k * x11 (ix3 1 k f) := by
  have e : val_main_v67 (F := Ideal) x0 x1 x2 x3 x4 x5 x6 x7 x8 x9 x10 x11 (ix3 s p f) = ∑ k, val_main_v64 (F := Ideal) x0 x1 x2 x3 x4 x5 x6 x7 x8 x9 x10 (ix3 s p k) * x11 (ix3 1 k f) := by
    pointwise [val_main_v65, val_main_v66, val_main_v67]
  rw [e]
  exact Finset.sum_congr rfl fun k _ => congrArg (· * x11 (ix3 1 k f)) (hid_apply x0 x1 x2 x3 x4 x5 x6 x7 x8 x9 x10 x11 x12 x13 x14 x15 x16 s p k)

theorem up_apply (s : Fin 4) (p : Fin 8192) (f : Fin 2816) :
    val_main_v68 (F := Ideal) x0 x1 x2 x3 x4 x5 x6 x7 x8 x9 x10 x11 (ix3 s p f) = up (args x0 x1 x2 x3 x4 x5 x6 x7 x8 x9 x10 x11 x12 x13 x14 x15 x16) s p f := by
  have e : val_main_v68 (F := Ideal) x0 x1 x2 x3 x4 x5 x6 x7 x8 x9 x10 x11 (ix3 s p f) = val_main_v67 (F := Ideal) x0 x1 x2 x3 x4 x5 x6 x7 x8 x9 x10 x11 (ix3 s p ⟨f.val, by omega⟩) := by
    pointwise [val_main_v68]
  rw [e, proj_apply x0 x1 x2 x3 x4 x5 x6 x7 x8 x9 x10 x11 x12 x13 x14 x15 x16]
  rfl

theorem gateUp_apply (s : Fin 4) (p : Fin 8192) (f : Fin 2816) :
    val_main_v69 (F := Ideal) x0 x1 x2 x3 x4 x5 x6 x7 x8 x9 x10 x11 (ix3 s p f) = gateUp (args x0 x1 x2 x3 x4 x5 x6 x7 x8 x9 x10 x11 x12 x13 x14 x15 x16) s p f := by
  have e : val_main_v69 (F := Ideal) x0 x1 x2 x3 x4 x5 x6 x7 x8 x9 x10 x11 (ix3 s p f) = val_main_v67 (F := Ideal) x0 x1 x2 x3 x4 x5 x6 x7 x8 x9 x10 x11 (ix3 s p ⟨2816 + f.val, by omega⟩) := by
    pointwise [val_main_v69]
  rw [e, proj_apply x0 x1 x2 x3 x4 x5 x6 x7 x8 x9 x10 x11 x12 x13 x14 x15 x16]
  rfl

theorem zero_i32 : (FloatOps.sitofp FTy.f32 0#32 : Ideal FTy.f32) = (0 : EReal) := by
  show ((((0#32 : BitVec 32).toInt : ℤ) : ℝ) : EReal) = 0
  simp

/-- The padded rows: two rows of zeros, then the up projection's. -/
theorem pad_apply (s : Fin 4) (q : Fin 8194) (f : Fin 2816) :
    val_main_v70 (F := Ideal) x0 x1 x2 x3 x4 x5 x6 x7 x8 x9 x10 x11 (ix3 s q f) = if h : 2 ≤ q.val then up (args x0 x1 x2 x3 x4 x5 x6 x7 x8 x9 x10 x11 x12 x13 x14 x15 x16) s ⟨q.val - 2, by omega⟩ f else 0 := by
  have e : val_main_v70 (F := Ideal) x0 x1 x2 x3 x4 x5 x6 x7 x8 x9 x10 x11 (ix3 s q f) =
      if h : 2 ≤ q.val ∧ q.val - 2 < 8192 then val_main_v68 (F := Ideal) x0 x1 x2 x3 x4 x5 x6 x7 x8 x9 x10 x11 (ix3 s ⟨q.val - 2, h.2⟩ f) else (FloatOps.sitofp FTy.f32 0#32 : Ideal FTy.f32) := by
    pointwise [val_main_v70, val_main_call0_v0, val_main_c]
  rw [e]
  by_cases h : 2 ≤ q.val
  · rw [dif_pos ⟨h, by omega⟩, dif_pos h, up_apply x0 x1 x2 x3 x4 x5 x6 x7 x8 x9 x10 x11 x12 x13 x14 x15 x16]
  · rw [dif_neg (fun h' => h h'.1), dif_neg h, zero_i32]

theorem conv_apply (s : Fin 4) (p : Fin 8192) (f : Fin 2816) :
    val_main_v95 (F := Ideal) x0 x1 x2 x3 x4 x5 x6 x7 x8 x9 x10 x11 x12 x13 (ix3 s p f) =
    conv (upBack (args x0 x1 x2 x3 x4 x5 x6 x7 x8 x9 x10 x11 x12 x13 x14 x15 x16) 0 (by omega) s p f) (upBack (args x0 x1 x2 x3 x4 x5 x6 x7 x8 x9 x10 x11 x12 x13 x14 x15 x16) 1 (by omega) s p f) (up (args x0 x1 x2 x3 x4 x5 x6 x7 x8 x9 x10 x11 x12 x13 x14 x15 x16) s p f)
      (x12 (ix3 1 0 f)) (x12 (ix3 1 1 f)) (x12 (ix3 1 2 f)) (x13 (ix2 1 f)) := by
  have s0 : val_main_v73 (F := Ideal) x0 x1 x2 x3 x4 x5 x6 x7 x8 x9 x10 x11 (ix3 s p f) = upBack (args x0 x1 x2 x3 x4 x5 x6 x7 x8 x9 x10 x11 x12 x13 x14 x15 x16) 0 (by omega) s p f := by
    have e : val_main_v73 (F := Ideal) x0 x1 x2 x3 x4 x5 x6 x7 x8 x9 x10 x11 (ix3 s p f) = val_main_v70 (F := Ideal) x0 x1 x2 x3 x4 x5 x6 x7 x8 x9 x10 x11 (ix3 s ⟨p.val, by omega⟩ f) := by
      pointwise [val_main_v73]
    rw [e, pad_apply x0 x1 x2 x3 x4 x5 x6 x7 x8 x9 x10 x11 x12 x13 x14 x15 x16]
    unfold upBack
    simp only [Nat.zero_add]
  have s1 : val_main_v82 (F := Ideal) x0 x1 x2 x3 x4 x5 x6 x7 x8 x9 x10 x11 (ix3 s p f) = upBack (args x0 x1 x2 x3 x4 x5 x6 x7 x8 x9 x10 x11 x12 x13 x14 x15 x16) 1 (by omega) s p f := by
    have e : val_main_v82 (F := Ideal) x0 x1 x2 x3 x4 x5 x6 x7 x8 x9 x10 x11 (ix3 s p f) = val_main_v70 (F := Ideal) x0 x1 x2 x3 x4 x5 x6 x7 x8 x9 x10 x11 (ix3 s ⟨1 + p.val, by omega⟩ f) := by
      pointwise [val_main_v82]
    rw [e, pad_apply x0 x1 x2 x3 x4 x5 x6 x7 x8 x9 x10 x11 x12 x13 x14 x15 x16]
    rfl
  have s2 : val_main_v89 (F := Ideal) x0 x1 x2 x3 x4 x5 x6 x7 x8 x9 x10 x11 (ix3 s p f) = up (args x0 x1 x2 x3 x4 x5 x6 x7 x8 x9 x10 x11 x12 x13 x14 x15 x16) s p f := by
    have e : val_main_v89 (F := Ideal) x0 x1 x2 x3 x4 x5 x6 x7 x8 x9 x10 x11 (ix3 s p f) = val_main_v70 (F := Ideal) x0 x1 x2 x3 x4 x5 x6 x7 x8 x9 x10 x11 (ix3 s ⟨2 + p.val, by omega⟩ f) := by
      pointwise [val_main_v89]
    rw [e, pad_apply x0 x1 x2 x3 x4 x5 x6 x7 x8 x9 x10 x11 x12 x13 x14 x15 x16, dif_pos (show 2 ≤ 2 + p.val by omega)]
    congr 1
    apply Fin.ext
    show 2 + p.val - 2 = p.val
    omega
  have w0 : val_main_v77 (F := Ideal) x12 (ix3 s p f) = x12 (ix3 1 0 f) := by
    pointwise [val_main_v74, val_main_v75, val_main_v76, val_main_v77]
  have w1 : val_main_v86 (F := Ideal) x12 (ix3 s p f) = x12 (ix3 1 1 f) := by
    pointwise [val_main_v83, val_main_v84, val_main_v85, val_main_v86]
  have w2 : val_main_v93 (F := Ideal) x12 (ix3 s p f) = x12 (ix3 1 2 f) := by
    pointwise [val_main_v90, val_main_v91, val_main_v92, val_main_v93]
  have b : val_main_v80 (F := Ideal) x13 (ix3 s p f) = x13 (ix2 1 f) := by
    pointwise [val_main_v71, val_main_v72, val_main_v79, val_main_v80]
  show val_main_v80 (F := Ideal) x13 (ix3 s p f) + val_main_v73 (F := Ideal) x0 x1 x2 x3 x4 x5 x6 x7 x8 x9 x10 x11 (ix3 s p f) * val_main_v77 (F := Ideal) x12 (ix3 s p f)
    + val_main_v82 (F := Ideal) x0 x1 x2 x3 x4 x5 x6 x7 x8 x9 x10 x11 (ix3 s p f) * val_main_v86 (F := Ideal) x12 (ix3 s p f)
    + val_main_v89 (F := Ideal) x0 x1 x2 x3 x4 x5 x6 x7 x8 x9 x10 x11 (ix3 s p f) * val_main_v93 (F := Ideal) x12 (ix3 s p f) = _
  rw [s0, s1, s2, w0, w1, w2, b]
  rfl

theorem hidden_apply (s : Fin 4) (p : Fin 8192) (f : Fin 2816) :
    val_main_v109 (F := Ideal) x0 x1 x2 x3 x4 x5 x6 x7 x8 x9 x10 x11 x12 x13 (ix3 s p f) = hiddenRow (args x0 x1 x2 x3 x4 x5 x6 x7 x8 x9 x10 x11 x12 x13 x14 x15 x16) s p f := by
  have e : val_main_v109 (F := Ideal) x0 x1 x2 x3 x4 x5 x6 x7 x8 x9 x10 x11 x12 x13 (ix3 s p f) =
      gelu (val_main_v95 (F := Ideal) x0 x1 x2 x3 x4 x5 x6 x7 x8 x9 x10 x11 x12 x13 (ix3 s p f)) * val_main_v69 (F := Ideal) x0 x1 x2 x3 x4 x5 x6 x7 x8 x9 x10 x11 (ix3 s p f) := by
    unfold gelu
    rw [← mul_assoc (val_main_v95 (F := Ideal) x0 x1 x2 x3 x4 x5 x6 x7 x8 x9 x10 x11 x12 x13 (ix3 s p f)) (val_main_v95 (F := Ideal) x0 x1 x2 x3 x4 x5 x6 x7 x8 x9 x10 x11 x12 x13 (ix3 s p f)) (val_main_v95 (F := Ideal) x0 x1 x2 x3 x4 x5 x6 x7 x8 x9 x10 x11 x12 x13 (ix3 s p f))]
    pointwise [val_main_v96, val_main_v97, val_main_v98, val_main_v99, val_main_v100, val_main_v101, val_main_v102, val_main_v103, val_main_v104, val_main_v105, val_main_v106, val_main_v107, val_main_v108, val_main_v109, val_main_cst_7, val_main_cst_8, val_main_cst_9, val_main_cst_10]
  rw [e, conv_apply x0 x1 x2 x3 x4 x5 x6 x7 x8 x9 x10 x11 x12 x13 x14 x15 x16, gateUp_apply x0 x1 x2 x3 x4 x5 x6 x7 x8 x9 x10 x11 x12 x13 x14 x15 x16]
  rfl

theorem resid2_apply (s : Fin 4) (p : Fin 8192) (d : Fin 1024) :
    val_main_v115 (F := Ideal) x0 x1 x2 x3 x4 x5 x6 x7 x8 x9 x10 x11 x12 x13 x14 (ix3 s p d) =
    alpha * hid (args x0 x1 x2 x3 x4 x5 x6 x7 x8 x9 x10 x11 x12 x13 x14 x15 x16) s p d + ∑ f, hiddenRow (args x0 x1 x2 x3 x4 x5 x6 x7 x8 x9 x10 x11 x12 x13 x14 x15 x16) s p f * x14 (ix3 1 f d) := by
  have e : val_main_v115 (F := Ideal) x0 x1 x2 x3 x4 x5 x6 x7 x8 x9 x10 x11 x12 x13 x14 (ix3 s p d) =
      alpha * val_main_v64 (F := Ideal) x0 x1 x2 x3 x4 x5 x6 x7 x8 x9 x10 (ix3 s p d) + ∑ f, val_main_v109 (F := Ideal) x0 x1 x2 x3 x4 x5 x6 x7 x8 x9 x10 x11 x12 x13 (ix3 s p f) * x14 (ix3 1 f d) := by
    unfold alpha
    pointwise [val_main_v110, val_main_v111, val_main_v112, val_main_v113, val_main_v114, val_main_v115, val_main_cst_11]
  rw [e, hid_apply x0 x1 x2 x3 x4 x5 x6 x7 x8 x9 x10 x11 x12 x13 x14 x15 x16]
  exact congrArg _ (Finset.sum_congr rfl fun f _ => congrArg (· * x14 (ix3 1 f d)) (hidden_apply x0 x1 x2 x3 x4 x5 x6 x7 x8 x9 x10 x11 x12 x13 x14 x15 x16 s p f))

theorem layer_apply (s : Fin 4) (p : Fin 8192) (d : Fin 1024) :
    val_main_v143 (F := Ideal) x0 x1 x2 x3 x4 x5 x6 x7 x8 x9 x10 x11 x12 x13 x14 x15 x16 (ix3 s p d) = layer (args x0 x1 x2 x3 x4 x5 x6 x7 x8 x9 x10 x11 x12 x13 x14 x15 x16) s p d := by
  have e : val_main_v143 (F := Ideal) x0 x1 x2 x3 x4 x5 x6 x7 x8 x9 x10 x11 x12 x13 x14 x15 x16 (ix3 s p d) =
      lnorm (fun d => val_main_v115 (F := Ideal) x0 x1 x2 x3 x4 x5 x6 x7 x8 x9 x10 x11 x12 x13 x14 (ix3 s p d)) (fun d => x15 (ix2 1 d)) (fun d => x16 (ix2 1 d)) d := by
    unfold lnorm mean
    pointwise [val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_cst_12, val_main_cst_13, val_main_cst_14, val_main_cst_15, val_main_cst_16]
  have e' : (fun d => val_main_v115 (F := Ideal) x0 x1 x2 x3 x4 x5 x6 x7 x8 x9 x10 x11 x12 x13 x14 (ix3 s p d)) = _ := funext fun d => resid2_apply x0 x1 x2 x3 x4 x5 x6 x7 x8 x9 x10 x11 x12 x13 x14 x15 x16 s p d
  rw [e, e']
  rfl

/-- The reference's result at an index. -/
theorem final (i : S32768x1024.Idx) : val_main_v144 (F := Ideal) x0 x1 x2 x3 x4 x5 x6 x7 x8 x9 x10 x11 x12 x13 x14 x15 x16 i =
    layer (args x0 x1 x2 x3 x4 x5 x6 x7 x8 x9 x10 x11 x12 x13 x14 x15 x16) ⟨(i 0).val / 8192, by have h : (i 0).val < 32768 := (i 0).isLt; omega⟩ ⟨(i 0).val % 8192, by omega⟩ (⟨(i 1).val, (i 1).isLt⟩ : Fin 1024) := by
  rw [← layer_apply]
  idx_vars i
  pointwise [val_main_v144]

end Cert.Reference2Ideal.Ffn

end
-- ==== Proof.FfnClaim.lean ====
/- The merge and feed-forward kernel and its reference, from the same arguments, leave the same result. -/
module

public import proofs.«01_k».proof.Defs
public import proofs.«01_k».proof.Proof.FfnValue
public import proofs.«01_k».proof.Proof.FfnRef

@[expose] public section

set_option maxRecDepth 16384

noncomputable section

namespace Cert.Proof

open Idealize.ShloMosaic Idealize.ShloMosaic.TcCoe Idealize.SL.Sem

theorem ffn_algebraic : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Value.G20 m c, Cert.Kernel2Ideal.Value.run m g, ?_⟩
  refine (θ_run Cert.Reference2Ideal.defs _ _).mono (fun r h c => ⟨?_, (h c).2⟩) (Cert.Reference2Ideal.Value.run m' g')
  rw [(h c).1, Cert.Reference2Ideal.Read.val_main_v144_eq]
  funext i
  refine Eq.trans ?_ (Cert.Kernel2Ideal.Ffn.final m c i).symm
  refine (Cert.Reference2Ideal.Ffn.final _ _ _ _ _ _ _ _ _ _ _ _ _ _ _ _ _ i).trans ?_
  obtain ⟨e0, e1, e2, e3, e4, e5, e6, e7, e8, e9, e10, e11, e12, e13, e14, e15, e16⟩ := hagree c
  simp only [StableHlo.launchContents_devRef, e0, e1, e2, e3, e4, e5, e6, e7, e8, e9, e10, e11, e12, e13, e14, e15, e16]
  rfl

end Cert.Proof

end
-- ==== Proof.FirstFfnTile.lean ====
/- One grid point of the first layer's merge and feed-forward kernel as a function of its input blocks: the attention residual's
   layer norm, the eleven 256-column chunks of the feed-forward layer added into the accumulator one by one, and
   the closing layer norm. Nothing here speaks of memory; `Proof.FirstFfnRunA` and `Proof.FirstFfnRunB` show that the kernel's run computes it. -/
module

public import proofs.«01_k».proof.Proof.Gen.Kernel6Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Ffn

open Cert.Kernel6Ideal Cert.Kernel6Ideal.Gen Idealize.ShloMosaic Idealize.ShloMosaic.TcCoe Idealize.SL.Sem

variable {F : FTy → Type} [FloatOps F]

/-- The twenty input blocks of a grid point, in the order of the kernel's operands. -/
structure Blk (F : FTy → Type) [FloatOps F] where
  x0 : Vec F S512x1024 .f32
  x1 : Vec F S512x512 .bf16
  x2 : Vec F S512x512 .bf16
  x3 : Vec F S512x512 .bf16
  x4 : Vec F S512x1024 .bf16
  x5 : Vec F S512x1024 .bf16
  x6 : Vec F S512x1024 .bf16
  x7 : Vec F S1x512x1024 .bf16
  x8 : Vec F S1x512x1024 .bf16
  x9 : Vec F S1x512x1024 .bf16
  x10 : Vec F S1x1024x1024 .bf16
  x11 : Vec F S1x1024 .f32
  x12 : Vec F S1x1024 .f32
  x13 : Vec F S1x1024x2816 .bf16
  x14 : Vec F S1x1024x2816 .bf16
  x15 : Vec F S3x2816 .f32
  x16 : Vec F S1x2816 .f32
  x17 : Vec F S1x2816x1024 .bf16
  x18 : Vec F S1x1024 .f32
  x19 : Vec F S1x1024 .f32

variable (b : Blk F) (prev : Vec F S8x2816 .f32)

/-- The three gated branch products, added. -/
def merged : FVec F S512x1024 .f32 := k0_pay2 b.x4 b.x1 b.x7 b.x5 b.x2 b.x8 b.x6 b.x3 b.x9

/-- The first layer norm's rows. -/
def h1 : FVec F S512x1024 .f32 := k0_pay5 (merged b) (k0_pay3 b.x0) k0_pay4 b.x10 b.x11 b.x12

/-- The same rows as the up projection reads them. -/
def h1b : FVec F S512x1024 .bf16 := k0_pay7 (merged b) (k0_pay3 b.x0) k0_pay4 b.x10 b.x11 b.x12

theorem inb3 (k : Fin 11) : ∀ a : Fin 3, (![0, 0, 256 * k.val] : Fin 3 → ℕ) a + S1x1024x256.size a ≤ S1x1024x2816.size a := by
  intro a; have := k.isLt; match a with
  | ⟨0, _⟩ => show 0 + 1 ≤ 1; omega
  | ⟨1, _⟩ => show 0 + 1024 ≤ 1024; omega
  | ⟨2, _⟩ => show 256 * k.val + 256 ≤ 2816; omega

theorem inbd (k : Fin 11) : ∀ a : Fin 3, (![0, 256 * k.val, 0] : Fin 3 → ℕ) a + S1x256x1024.size a ≤ S1x2816x1024.size a := by
  intro a; have := k.isLt; match a with
  | ⟨0, _⟩ => show 0 + 1 ≤ 1; omega
  | ⟨1, _⟩ => show 256 * k.val + 256 ≤ 2816; omega
  | ⟨2, _⟩ => show 0 + 1024 ≤ 1024; omega

theorem inbc (k : Fin 11) : ∀ a : Fin 2, (![0, 256 * k.val] : Fin 2 → ℕ) a + S3x256.size a ≤ S3x2816.size a := by
  intro a; have := k.isLt; match a with
  | ⟨0, _⟩ => show 0 + 3 ≤ 3; omega
  | ⟨1, _⟩ => show 256 * k.val + 256 ≤ 2816; omega

theorem inbb (k : Fin 11) : ∀ a : Fin 2, (![0, 256 * k.val] : Fin 2 → ℕ) a + S1x256.size a ≤ S1x2816.size a := by
  intro a; have := k.isLt; match a with
  | ⟨0, _⟩ => show 0 + 1 ≤ 1; omega
  | ⟨1, _⟩ => show 256 * k.val + 256 ≤ 2816; omega

theorem inbp (k : Fin 11) : ∀ a : Fin 2, (![0, 256 * k.val] : Fin 2 → ℕ) a + S8x256.size a ≤ S8x2816.size a := by
  intro a; have := k.isLt; match a with
  | ⟨0, _⟩ => show 0 + 8 ≤ 8; omega
  | ⟨1, _⟩ => show 256 * k.val + 256 ≤ 2816; omega

/-- Chunk `k`'s columns of the up projection's two halves, of the convolution's weights and bias, of the rows carried
    from the tile before, and chunk `k`'s rows of the down projection. -/
def wu (k : Fin 11) : Vec F S1x1024x256 .bf16 := View.ld b.x13 (Rect.unit ![0, 0, 256 * k.val] S1x1024x256.size (inb3 k))
def wv (k : Fin 11) : Vec F S1x1024x256 .bf16 := View.ld b.x14 (Rect.unit ![0, 0, 256 * k.val] S1x1024x256.size (inb3 k))
def cw (k : Fin 11) : Vec F S3x256 .f32 := View.ld b.x15 (Rect.unit ![0, 256 * k.val] S3x256.size (inbc k))
def cb (k : Fin 11) : Vec F S1x256 .f32 := View.ld b.x16 (Rect.unit ![0, 256 * k.val] S1x256.size (inbb k))
def wd (k : Fin 11) : Vec F S1x256x1024 .bf16 := View.ld b.x17 (Rect.unit ![0, 256 * k.val, 0] S1x256x1024.size (inbd k))
def pc (k : Fin 11) : Vec F S8x256 .f32 := View.ld prev (Rect.unit ![0, 256 * k.val] S8x256.size (inbp k))

/-- Chunk `k` of the up projection's first half. -/
def uc (k : Fin 11) : FVec F S512x256 .f32 := k0_pay10 (h1b b) (wu b k)

/-- 512 rows, from row `off` on, of the eight rows `p` followed by the 512 rows `u`. -/
def shiftRows (off : ℕ) (hoff : off ≤ 8) (p : Vec F S8x256 .f32) (u : Vec F S512x256 .f32) : Vec F S512x256 .f32 := fun j =>
  if h : off + (j 0).val < 8 then p (ix2 ⟨off + (j 0).val, h⟩ (j 1))
  else u (ix2 ⟨off + (j 0).val - 8, by have h0 : (j 0).val < 512 := (j 0).isLt; omega⟩ (j 1))

/-- What a chunk adds to the accumulator `acc`: the convolution's output under gelu, times the second half, through the
    down projection. -/
def chunk (h : FVec F S512x1024 .bf16) (wu wv : Vec F S1x1024x256 .bf16) (cw : Vec F S3x256 .f32) (cb : Vec F S1x256 .f32)
    (p q : Vec F S512x256 .f32) (acc : Vec F S512x1024 .f32) (wd : Vec F S1x256x1024 .bf16) : FVec F S512x1024 .f32 :=
  k0_pay18 (k0_pay11 h wv) (k0_pay14 cw) (k0_pay15 cb) (k0_pay16 h wu cw) p q acc wd

/-- The accumulator after the first `k` chunks. -/
def acc : (k : ℕ) → k ≤ 11 → FVec F S512x1024 .f32
  | 0, _ => k0_pay9
  | k + 1, hk => chunk (h1b b) (wu b ⟨k, hk⟩) (wv b ⟨k, hk⟩) (cw b ⟨k, hk⟩) (cb b ⟨k, hk⟩)
      (shiftRows 6 (by omega) (pc prev ⟨k, hk⟩) (uc b ⟨k, hk⟩)) (shiftRows 7 (by omega) (pc prev ⟨k, hk⟩) (uc b ⟨k, hk⟩))
      (acc k (Nat.le_of_succ_le hk)) (wd b ⟨k, hk⟩)

/-- The grid point's output block. -/
def out : FVec F S512x1024 .f32 :=
  k0_pay1 (k0_pay99 b.x18) (k0_pay100 b.x19) (k0_pay101 (h1 b) (acc b prev 11 le_rfl)) (k0_pay102 (h1 b) (acc b prev 11 le_rfl))
    (FloatOps.ofBits FTy.f32 1149239296#32)

/-- The rows carried to the next tile: the last eight rows of the up projection's first half, chunk by chunk. -/
def carry (k : Fin 11) : FVec F S8x256 .f32 := k0_pay17 (uc b k)

/-- The carried rows as one array: column `f` is column `f % 256` of chunk `f / 256`. -/
def carryAt : Vec F S8x2816 .f32 := fun i =>
  carry b ⟨(i 1).val / 256, by have h : (i 1).val < 2816 := (i 1).isLt; omega⟩ (ix2 (i 0) (⟨(i 1).val % 256, Nat.mod_lt _ (by omega)⟩ : Fin 256))

theorem carryAt_eq (k : Fin 11) (x : S8x256.Idx) (y : S8x2816.Idx) (h0 : (y 0).val = (x 0).val) (h1 : (y 1).val = 256 * k.val + (x 1).val) :
    carryAt b y = carry b k x := by
  have hx : (x 1).val < 256 := (x 1).isLt
  unfold carryAt
  congr 1
  · apply Fin.ext; show (y 1).val / 256 = k.val; omega
  · funext a; apply Fin.ext
    match a with
    | ⟨0, _⟩ => exact h0
    | ⟨1, _⟩ => show (y 1).val % 256 = (x 1).val; omega

section Reads
variable {sig : RefSig} {κ : Kind} {sp : Space} {Val : EltTy → Type} [∀ e, Nonempty (Val e)]

/-- The 520-row buffer holds the eight carried rows and then the chunk's rows; a load of 512 rows from row `off` on reads
    the carried rows first. -/
theorem readCov_up (v : View sig κ sp S520x256 .f32) (p : Vec F S8x256 .f32) (u : Vec F S512x256 .f32)
    (L : List (View.Piece (Elt F) S520x256 .f32)) (off : ℕ) (hoff : off ≤ 8) (h8 h0 hb) :
    v.readCov ((⟨Rect.unit ![8, 0] S512x256.size h8, u⟩ : View.Piece (Elt F) S520x256 .f32) :: ⟨Rect.unit ![0, 0] S8x256.size h0, p⟩ :: L)
      (Rect.unit (s := S520x256) ![off, 0] S512x256.size hb).toLoadRect = shiftRows off hoff p u := by
  rw [View.readCov_eq_canon']
  funext j
  have hj0 : (j 0).val < 512 := (j 0).isLt
  have hj1 : (j 1).val < 256 := (j 1).isLt
  unfold shiftRows
  split_ifs with h
  · rw [View.canon_cons_of_not_mem]
    · refine Eq.trans (congrArg _ ?_) (View.canon_cons_emb (Rect.unit (s := S520x256) ![0, 0] S8x256.size h0) p L (ix2 (⟨off + (j 0).val, h⟩ : Fin 8) (⟨(j 1).val, hj1⟩ : Fin 256)))
      funext a; apply Fin.ext
      match a with
      | ⟨0, _⟩ => show off + 1 * (j 0).val = 0 + 1 * (off + (j 0).val); omega
      | ⟨1, _⟩ => show 0 + 1 * (j 1).val = 0 + 1 * (j 1).val; omega
    · intro hm
      rw [Rect.mem_set_unit] at hm
      have h1 : 8 ≤ off + 1 * (j 0).val := (hm 0).1
      omega
  · refine Eq.trans (congrArg _ ?_) (View.canon_cons_emb (Rect.unit (s := S520x256) ![8, 0] S512x256.size h8) u _ (ix2 (⟨off + (j 0).val - 8, by omega⟩ : Fin 512) (⟨(j 1).val, hj1⟩ : Fin 256)))
    funext a; apply Fin.ext
    match a with
    | ⟨0, _⟩ => show off + 1 * (j 0).val = 8 + 1 * (off + (j 0).val - 8); omega
    | ⟨1, _⟩ => show 0 + 1 * (j 1).val = 0 + 1 * (j 1).val; omega

end Reads

end Cert.Kernel6Ideal.Ffn

end
-- ==== Proof.FirstFfnIndex.lean ====
/- A grid point of the first layer's merge and feed-forward kernel read at an index, over the idealized floats: its output block, row by
   row, is `Cert.FfnSpec.last`, and the rows it carries on are the up projection's last eight. -/
module

public import proofs.«01_k».proof.Proof.FirstFfnTile
public import proofs.«01_k».proof.Proof.FfnSpec

@[expose] public section

set_option maxRecDepth 16384

noncomputable section

namespace Cert.Kernel6Ideal.Ffn

open Cert.Kernel6Ideal Cert.Kernel6Ideal.Gen Cert.FfnSpec Idealize.ShloMosaic Idealize.ShloMosaic.TcCoe Idealize.SL.Sem

variable (b : Blk Ideal) (prev : Vec Ideal S8x2816 .f32)

theorem merged_apply (r : Fin 512) (d : Fin 1024) : merged b (ix2 r d) =
    merge (fun d => b.x4 (ix2 r d)) (fun d => b.x5 (ix2 r d)) (fun d => b.x6 (ix2 r d)) (fun k => b.x1 (ix2 r k)) (fun k => b.x2 (ix2 r k))
      (fun k => b.x3 (ix2 r k)) (fun k d => b.x7 (ix3 0 k d)) (fun k d => b.x8 (ix3 0 k d)) (fun k d => b.x9 (ix3 0 k d)) d := by
  unfold merge
  pointwise [merged, k0_pay2]

/-- The first layer norm's row `r`. -/
def hrow (r : Fin 512) : Fin 1024 → EReal :=
  lnorm (resid (fun d => b.x0 (ix2 r d))
      (merge (fun d => b.x4 (ix2 r d)) (fun d => b.x5 (ix2 r d)) (fun d => b.x6 (ix2 r d)) (fun k => b.x1 (ix2 r k)) (fun k => b.x2 (ix2 r k))
        (fun k => b.x3 (ix2 r k)) (fun k d => b.x7 (ix3 0 k d)) (fun k d => b.x8 (ix3 0 k d)) (fun k d => b.x9 (ix3 0 k d)))
      (fun k d => b.x10 (ix3 0 k d)))
    (fun d => b.x11 (ix2 0 d)) (fun d => b.x12 (ix2 0 d))

theorem pay5_apply (M : FVec Ideal S512x1024 .f32) (r : Fin 512) (d : Fin 1024) :
    k0_pay5 M (k0_pay3 b.x0) k0_pay4 b.x10 b.x11 b.x12 (ix2 r d) =
    lnorm (resid (fun d => b.x0 (ix2 r d)) (fun d => M (ix2 r d)) (fun k d => b.x10 (ix3 0 k d)))
      (fun d => b.x11 (ix2 0 d)) (fun d => b.x12 (ix2 0 d)) d := by
  unfold lnorm mean resid alpha
  pointwise [k0_pay5, k0_pay3, k0_pay4]

theorem h1_apply (r : Fin 512) (d : Fin 1024) : h1 b (ix2 r d) = hrow b r d := by
  unfold h1 hrow
  rw [pay5_apply]
  have e : (fun d => merged b (ix2 r d)) = _ := funext fun d => merged_apply b r d
  rw [e]

theorem h1b_apply (r : Fin 512) (d : Fin 1024) : h1b b (ix2 r d) = hrow b r d := by
  rw [← h1_apply]; rfl

/-- Row `r` of the up projection's first half, and of its second. -/
def urow (r : Fin 512) (f : Fin 2816) : EReal := ∑ k, hrow b r k * b.x13 (ix3 0 k f)
def vrow (r : Fin 512) (f : Fin 2816) : EReal := ∑ k, hrow b r k * b.x14 (ix3 0 k f)

/-- Row `off + r` of the eight carried rows followed by the up projection's rows. -/
def ushift (off : ℕ) (hoff : off ≤ 8) (r : Fin 512) (f : Fin 2816) : EReal :=
  if h : off + r.val < 8 then prev (ix2 ⟨off + r.val, h⟩ f) else urow b ⟨off + r.val - 8, by omega⟩ f

/-- Row `r` of the hidden layer. -/
def yrow (r : Fin 512) (f : Fin 2816) : EReal :=
  gelu (conv (ushift b prev 6 (by omega) r f) (ushift b prev 7 (by omega) r f) (urow b r f)
    (b.x15 (ix2 0 f)) (b.x15 (ix2 1 f)) (b.x15 (ix2 2 f)) (b.x16 (ix2 0 f))) * vrow b r f

theorem uc_apply (k : Fin 11) (r : Fin 512) (f : Fin 256) : uc b k (ix2 r f) = urow b r ⟨256 * k.val + f.val, by omega⟩ := by
  unfold urow
  simp only [← h1b_apply]
  pointwise [uc, k0_pay10, wu]

theorem chunk_apply (h : FVec Ideal S512x1024 .bf16) (wu wv : Vec Ideal S1x1024x256 .bf16) (cw : Vec Ideal S3x256 .f32) (cb : Vec Ideal S1x256 .f32)
    (p q : Vec Ideal S512x256 .f32) (acc : Vec Ideal S512x1024 .f32) (wd : Vec Ideal S1x256x1024 .bf16) (r : Fin 512) (d : Fin 1024) :
    chunk h wu wv cw cb p q acc wd (ix2 r d) = acc (ix2 r d) + ∑ x,
      gelu (cb (ix2 0 x) + cw (ix2 2 x) * (∑ k, h (ix2 r k) * wu (ix3 0 k x)) + cw (ix2 0 x) * p (ix2 r x) + cw (ix2 1 x) * q (ix2 r x))
        * (∑ k, h (ix2 r k) * wv (ix3 0 k x)) * wd (ix3 0 x d) := by
  unfold gelu
  pointwise [chunk, k0_pay18, k0_pay11, k0_pay14, k0_pay15, k0_pay16, k0_pay10]

theorem shift_apply (off : ℕ) (hoff : off ≤ 8) (k : Fin 11) (r : Fin 512) (f : Fin 256) :
    shiftRows off hoff (pc prev k) (uc b k) (ix2 r f) = ushift b prev off hoff r ⟨256 * k.val + f.val, by omega⟩ := by
  unfold shiftRows ushift
  have e : ((ix2 r f : S512x256.Idx) 0).val = r.val := rfl
  by_cases h : off + r.val < 8
  · rw [dif_pos (show off + ((ix2 r f : S512x256.Idx) 0).val < 8 from h), dif_pos h]
    show pc prev k (ix2 ⟨off + r.val, _⟩ f) = _
    pointwise [pc]
  · rw [dif_neg (show ¬ off + ((ix2 r f : S512x256.Idx) 0).val < 8 from h), dif_neg h]
    exact uc_apply b k ⟨off + r.val - 8, by omega⟩ f

theorem wu_apply (k : Fin 11) (j : Fin 1024) (f : Fin 256) : wu b k (ix3 0 j f) = b.x13 (ix3 0 j ⟨256 * k.val + f.val, by omega⟩) := by
  pointwise [wu]
theorem wv_apply (k : Fin 11) (j : Fin 1024) (f : Fin 256) : wv b k (ix3 0 j f) = b.x14 (ix3 0 j ⟨256 * k.val + f.val, by omega⟩) := by
  pointwise [wv]
theorem wd_apply (k : Fin 11) (f : Fin 256) (d : Fin 1024) : wd b k (ix3 0 f d) = b.x17 (ix3 0 ⟨256 * k.val + f.val, by omega⟩ d) := by
  pointwise [wd]
theorem cw_apply (k : Fin 11) (i : Fin 3) (f : Fin 256) : cw b k (ix2 i f) = b.x15 (ix2 i ⟨256 * k.val + f.val, by omega⟩) := by
  pointwise [cw]
theorem cb_apply (k : Fin 11) (f : Fin 256) : cb b k (ix2 0 f) = b.x16 (ix2 0 ⟨256 * k.val + f.val, by omega⟩) := by
  pointwise [cb]

theorem acc_zero (h : 0 ≤ 11) : acc b prev 0 h = k0_pay9 := rfl

theorem acc_succ (k : ℕ) (hk : k + 1 ≤ 11) : acc b prev (k + 1) hk =
    chunk (h1b b) (wu b ⟨k, hk⟩) (wv b ⟨k, hk⟩) (cw b ⟨k, hk⟩) (cb b ⟨k, hk⟩)
      (shiftRows 6 (by omega) (pc prev ⟨k, hk⟩) (uc b ⟨k, hk⟩)) (shiftRows 7 (by omega) (pc prev ⟨k, hk⟩) (uc b ⟨k, hk⟩))
      (acc b prev k (Nat.le_of_succ_le hk)) (wd b ⟨k, hk⟩) := rfl

/-- The accumulator after `k` chunks is the sum over the first `256 * k` columns of the hidden layer. -/
theorem acc_apply (r : Fin 512) (d : Fin 1024) (k : ℕ) : ∀ hk : k ≤ 11, acc b prev k hk (ix2 r d) =
    ∑ i : Fin k, ∑ x : Fin 256, yrow b prev r ⟨256 * i.val + x.val, by omega⟩ * b.x17 (ix3 0 ⟨256 * i.val + x.val, by omega⟩ d) := by
  induction k with
  | zero =>
    intro hk
    rw [Fin.sum_univ_zero, acc_zero]
    pointwise [k0_pay9]
  | succ k ih =>
    intro hk
    rw [Fin.sum_univ_castSucc, acc_succ, chunk_apply, ih (Nat.le_of_succ_le hk)]
    refine congrArg₂ (· + ·) rfl (Finset.sum_congr rfl fun x _ => ?_)
    simp only [shift_apply, wu_apply, wv_apply, wd_apply, cw_apply, cb_apply, h1b_apply]
    unfold yrow vrow
    simp only [Fin.val_last]
    exact congrArg₂ (· * ·) (congrArg₂ (· * ·) (congrArg gelu (conv_eq _ _ _ _ _ _ _)) rfl) rfl

theorem out_apply (r : Fin 512) (d : Fin 1024) : out b prev (ix2 r d) =
    last (hrow b r) (yrow b prev r) (fun f d => b.x17 (ix3 0 f d)) (fun d => b.x18 (ix2 0 d)) (fun d => b.x19 (ix2 0 d)) d := by
  have e : ∀ A H : FVec Ideal S512x1024 .f32, k0_pay1 (k0_pay99 b.x18) (k0_pay100 b.x19) (k0_pay101 H A) (k0_pay102 H A)
      (FloatOps.ofBits FTy.f32 1149239296#32) (ix2 r d) =
      lnorm (fun d => alpha * H (ix2 r d) + A (ix2 r d)) (fun d => b.x18 (ix2 0 d)) (fun d => b.x19 (ix2 0 d)) d := by
    intro A H
    unfold lnorm mean alpha
    pointwise [k0_pay1, k0_pay99, k0_pay100, k0_pay101, k0_pay102, k0_pay98]
  unfold out last
  rw [e]
  refine congrArg (fun z => lnorm z (fun d => b.x18 (ix2 0 d)) (fun d => b.x19 (ix2 0 d)) d) (funext fun d => ?_)
  rw [h1_apply, acc_apply]
  refine congrArg (alpha * hrow b r d + ·) ?_
  exact sum_chunks fun f => yrow b prev r f * b.x17 (ix3 0 f d)

theorem carryAt_apply (r : Fin 8) (f : Fin 2816) : carryAt b (ix2 r f) = urow b ⟨504 + r.val, by omega⟩ f := by
  rw [carryAt_eq b ⟨f.val / 256, by omega⟩ (ix2 r ⟨f.val % 256, Nat.mod_lt _ (by omega)⟩) _ rfl (show f.val = 256 * (f.val / 256) + f.val % 256 by omega)]
  have e : carry b ⟨f.val / 256, by omega⟩ (ix2 r (⟨f.val % 256, Nat.mod_lt _ (by omega)⟩ : Fin 256)) =
      uc b ⟨f.val / 256, by omega⟩ (ix2 (⟨504 + r.val, by omega⟩ : Fin 512) ⟨f.val % 256, Nat.mod_lt _ (by omega)⟩) := by
    pointwise [carry, k0_pay17]
  rw [e, uc_apply]
  congr 1
  apply Fin.ext
  show 256 * (f.val / 256) + f.val % 256 = f.val
  omega

end Cert.Kernel6Ideal.Ffn

end
-- ==== Proof.FirstFfnBlocks.lean ====
/- The blocks of a grid point of the first layer's merge and feed-forward kernel, read from the launch arguments: the tile's rows of
   the residual, of the branches and of the gates, and the layer's weights. -/
module

public import proofs.«01_k».proof.Proof.FirstFfnIndex

@[expose] public section

set_option maxRecDepth 16384

noncomputable section

namespace Cert.Kernel6Ideal.Ffn

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- Which block each input window holds at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 1] ∧ win0_6.index t = ![t.val, 2] ∧ win0_7.index t = ![0, 0, 0] ∧ win0_8.index t = ![0, 0, 0]
    ∧ win0_9.index t = ![0, 0, 0] ∧ win0_10.index t = ![0, 0, 0] ∧ win0_11.index t = ![0, 0] ∧ win0_12.index t = ![0, 0] ∧ win0_13.index t = ![0, 0, 0]
    ∧ win0_14.index t = ![0, 0, 1] ∧ win0_15.index t = ![0, 0] ∧ win0_16.index t = ![0, 0] ∧ win0_17.index t = ![0, 0, 0] ∧ win0_18.index t = ![0, 0] ∧ win0_19.index t = ![0, 0] :=
  (by decide +kernel : ∀ t : Fin grid0.N, _)

theorem tlt (t : Fin cfg0.N) : t.val < 64 := lt_of_lt_of_eq t.isLt N_0

/-- Tile `t`'s row `r` belongs to sequence `(512 * t + r) / 8192`, at position `(512 * t + r) % 8192`. -/
def seqOf (t : Fin cfg0.N) (r : Fin 512) : Fin 4 := ⟨(512 * t.val + r.val) / 8192, by have := tlt t; omega⟩
def posOf (t : Fin cfg0.N) (r : Fin 512) : Fin 8192 := ⟨(512 * t.val + r.val) % 8192, by omega⟩
def rowOf (t : Fin cfg0.N) (r : Fin 512) : Fin 32768 := ⟨512 * t.val + r.val, by have := tlt t; omega⟩

theorem x0_apply (t : Fin cfg0.N) (r : Fin 512) (d : Fin 1024) : (iblk m c 0 t : Vec Ideal S512x1024 .f32) (ix2 r d) = m ((c : Thread nD τ).loc main_arg0) (ix3 (seqOf t r) (posOf t r) d) := by
  have ht := tlt t
  unfold seqOf posOf
  blk_simp [iblk, idx t]
  entry_read
  pointwise
  blk_ext [idx t]

theorem x1_apply (t : Fin cfg0.N) (r : Fin 512) (d : Fin 512) : (iblk m c 1 t : Vec Ideal S512x512 .bf16) (ix2 r d) = m ((c : Thread nD τ).loc main_arg1) (ix3 (seqOf t r) (posOf t r) d) := by
  have ht := tlt t
  unfold seqOf posOf
  blk_simp [iblk, idx t]
  entry_read
  pointwise
  blk_ext [idx t]

theorem x2_apply (t : Fin cfg0.N) (r : Fin 512) (d : Fin 512) : (iblk m c 2 t : Vec Ideal S512x512 .bf16) (ix2 r d) = m ((c : Thread nD τ).loc main_arg2) (ix3 (seqOf t r) (posOf t r) d) := by
  have ht := tlt t
  unfold seqOf posOf
  blk_simp [iblk, idx t]
  entry_read
  pointwise
  blk_ext [idx t]

theorem x3_apply (t : Fin cfg0.N) (r : Fin 512) (d : Fin 512) : (iblk m c 3 t : Vec Ideal S512x512 .bf16) (ix2 r d) = m ((c : Thread nD τ).loc main_arg3) (ix3 (seqOf t r) (posOf t r) d) := by
  have ht := tlt t
  unfold seqOf posOf
  blk_simp [iblk, idx t]
  entry_read
  pointwise
  blk_ext [idx t]

theorem x4_apply (t : Fin cfg0.N) (r : Fin 512) (d : Fin 1024) : (iblk m c 4 t : Vec Ideal S512x1024 .bf16) (ix2 r d) = m ((c : Thread nD τ).loc main_arg4) (ix2 (rowOf t r) ⟨d.val, by omega⟩) := by
  have ht := tlt t
  unfold rowOf
  blk_ext [iblk, V, idx t]

theorem x5_apply (t : Fin cfg0.N) (r : Fin 512) (d : Fin 1024) : (iblk m c 5 t : Vec Ideal S512x1024 .bf16) (ix2 r d) = m ((c : Thread nD τ).loc main_arg4) (ix2 (rowOf t r) ⟨1024 + d.val, by omega⟩) := by
  have ht := tlt t
  unfold rowOf
  blk_ext [iblk, V, idx t]

theorem x6_apply (t : Fin cfg0.N) (r : Fin 512) (d : Fin 1024) : (iblk m c 6 t : Vec Ideal S512x1024 .bf16) (ix2 r d) = m ((c : Thread nD τ).loc main_arg4) (ix2 (rowOf t r) ⟨2048 + d.val, by omega⟩) := by
  have ht := tlt t
  unfold rowOf
  blk_ext [iblk, V, idx t]

theorem x7_apply (t : Fin cfg0.N) (k : Fin 512) (d : Fin 1024) : (iblk m c 7 t : Vec Ideal S1x512x1024 .bf16) (ix3 0 k d) = m ((c : Thread nD τ).loc main_arg5) (ix3 0 k d) := by
  have ht := tlt t
  blk_simp [iblk, idx t]
  entry_read
  pointwise
  blk_ext [idx t]

theorem x8_apply (t : Fin cfg0.N) (k : Fin 512) (d : Fin 1024) : (iblk m c 8 t : Vec Ideal S1x512x1024 .bf16) (ix3 0 k d) = m ((c : Thread nD τ).loc main_arg6) (ix3 0 k d) := by
  have ht := tlt t
  blk_simp [iblk, idx t]
  entry_read
  pointwise
  blk_ext [idx t]

theorem x9_apply (t : Fin cfg0.N) (k : Fin 512) (d : Fin 1024) : (iblk m c 9 t : Vec Ideal S1x512x1024 .bf16) (ix3 0 k d) = m ((c : Thread nD τ).loc main_arg7) (ix3 0 k d) := by
  have ht := tlt t
  blk_simp [iblk, idx t]
  entry_read
  pointwise
  blk_ext [idx t]

theorem x10_apply (t : Fin cfg0.N) (k : Fin 1024) (d : Fin 1024) : (iblk m c 10 t : Vec Ideal S1x1024x1024 .bf16) (ix3 0 k d) = m ((c : Thread nD τ).loc main_arg8) (ix3 0 k d) := by
  have ht := tlt t
  blk_simp [iblk, idx t]
  entry_read
  pointwise
  blk_ext [idx t]

theorem x13_apply (t : Fin cfg0.N) (k : Fin 1024) (d : Fin 2816) : (iblk m c 13 t : Vec Ideal S1x1024x2816 .bf16) (ix3 0 k d) = m ((c : Thread nD τ).loc main_arg11) (ix3 0 k ⟨d.val, by omega⟩) := by
  have ht := tlt t
  blk_simp [iblk, idx t]
  entry_read
  pointwise
  blk_ext [idx t]

theorem x14_apply (t : Fin cfg0.N) (k : Fin 1024) (d : Fin 2816) : (iblk m c 14 t : Vec Ideal S1x1024x2816 .bf16) (ix3 0 k d) = m ((c : Thread nD τ).loc main_arg11) (ix3 0 k ⟨2816 + d.val, by omega⟩) := by
  have ht := tlt t
  blk_simp [iblk, idx t]
  entry_read
  pointwise
  blk_ext [idx t]

theorem x17_apply (t : Fin cfg0.N) (k : Fin 2816) (d : Fin 1024) : (iblk m c 17 t : Vec Ideal S1x2816x1024 .bf16) (ix3 0 k d) = m ((c : Thread nD τ).loc main_arg14) (ix3 0 k d) := by
  have ht := tlt t
  blk_simp [iblk, idx t]
  entry_read
  pointwise
  blk_ext [idx t]

theorem x11_apply (t : Fin cfg0.N) (d : Fin 1024) : (iblk m c 11 t : Vec Ideal S1x1024 .f32) (ix2 0 d) = m ((c : Thread nD τ).loc main_arg9) (ix2 0 d) := by
  have ht := tlt t
  blk_simp [iblk, idx t]
  entry_read
  pointwise
  blk_ext [idx t]

theorem x12_apply (t : Fin cfg0.N) (d : Fin 1024) : (iblk m c 12 t : Vec Ideal S1x1024 .f32) (ix2 0 d) = m ((c : Thread nD τ).loc main_arg10) (ix2 0 d) := by
  have ht := tlt t
  blk_simp [iblk, idx t]
  entry_read
  pointwise
  blk_ext [idx t]

theorem x16_apply (t : Fin cfg0.N) (d : Fin 2816) : (iblk m c 16 t : Vec Ideal S1x2816 .f32) (ix2 0 d) = m ((c : Thread nD τ).loc main_arg13) (ix2 0 d) := by
  have ht := tlt t
  blk_simp [iblk, idx t]
  entry_read
  pointwise
  blk_ext [idx t]

theorem x18_apply (t : Fin cfg0.N) (d : Fin 1024) : (iblk m c 18 t : Vec Ideal S1x1024 .f32) (ix2 0 d) = m ((c : Thread nD τ).loc main_arg15) (ix2 0 d) := by
  have ht := tlt t
  blk_simp [iblk, idx t]
  entry_read
  pointwise
  blk_ext [idx t]

theorem x19_apply (t : Fin cfg0.N) (d : Fin 1024) : (iblk m c 19 t : Vec Ideal S1x1024 .f32) (ix2 0 d) = m ((c : Thread nD τ).loc main_arg16) (ix2 0 d) := by
  have ht := tlt t
  blk_simp [iblk, idx t]
  entry_read
  pointwise
  blk_ext [idx t]

theorem x15_apply (t : Fin cfg0.N) (i : Fin 3) (d : Fin 2816) : (iblk m c 15 t : Vec Ideal S3x2816 .f32) (ix2 i d) = m ((c : Thread nD τ).loc main_arg12) (ix3 0 i d) := by
  have ht := tlt t
  blk_simp [iblk, idx t]
  entry_read
  pointwise
  blk_ext [idx t]

end Cert.Kernel6Ideal.Ffn

end
-- ==== Proof.FirstFfnRunA.lean ====
/- The first layer's merge and feed-forward kernel's run, read: at the first tile of a sequence, where the carried rows are zeroed first,
   the values the run names are the stages of `Proof.FirstFfnTile`, so its output block and the rows it carries on are `out` and
   `carry` of the point's input blocks. -/
module

public import proofs.«01_k».proof.Proof.FirstFfnTile

@[expose] public section

set_option maxRecDepth 16384

noncomputable section

namespace Cert.Kernel6Ideal.Ffn.RunA

open Cert.Kernel6Ideal Cert.Kernel6Ideal.Gen Idealize.ShloMosaic Idealize.ShloMosaic.TcCoe Idealize.SL.Sem
open Cert.Kernel6Ideal.Gen.kernelRun0_A
open Cert.Kernel6Ideal.Ffn

variable {F : FTy → Type} [FloatOps F]
variable (b : Blk F)
variable (c : Dev nD) (i : grid0.Coords) (a1 : Memref sig .tc .vmem S512x1024 .f32) (e1 : a1.IsWhole) (a2 : Memref sig .tc .vmem S512x512 .bf16) (e2 : a2.IsWhole) (a3 : Memref sig .tc .vmem S512x512 .bf16) (e3 : a3.IsWhole) (a4 : Memref sig .tc .vmem S512x512 .bf16) (e4 : a4.IsWhole) (a5 : Memref sig .tc .vmem S512x1024 .bf16) (e5 : a5.IsWhole) (a6 : Memref sig .tc .vmem S512x1024 .bf16) (e6 : a6.IsWhole) (a7 : Memref sig .tc .vmem S512x1024 .bf16) (e7 : a7.IsWhole) (a8 : Memref sig .tc .vmem S1x512x1024 .bf16) (e8 : a8.IsWhole) (a9 : Memref sig .tc .vmem S1x512x1024 .bf16) (e9 : a9.IsWhole) (a10 : Memref sig .tc .vmem S1x512x1024 .bf16) (e10 : a10.IsWhole) (a11 : Memref sig .tc .vmem S1x1024x1024 .bf16) (e11 : a11.IsWhole) (a12 : Memref sig .tc .vmem S1x1024 .f32) (e12 : a12.IsWhole) (a13 : Memref sig .tc .vmem S1x1024 .f32) (e13 : a13.IsWhole) (a14 : Memref sig .tc .vmem S1x1024x2816 .bf16) (e14 : a14.IsWhole) (a15 : Memref sig .tc .vmem S1x1024x2816 .bf16) (e15 : a15.IsWhole) (a16 : Memref sig .tc .vmem S3x2816 .f32) (e16 : a16.IsWhole) (a17 : Memref sig .tc .vmem S1x2816 .f32) (e17 : a17.IsWhole) (a18 : Memref sig .tc .vmem S1x2816x1024 .bf16) (e18 : a18.IsWhole) (a19 : Memref sig .tc .vmem S1x1024 .f32) (e19 : a19.IsWhole) (a20 : Memref sig .tc .vmem S1x1024 .f32) (e20 : a20.IsWhole) (a21 : Memref sig .tc .vmem S512x1024 .f32) (e21 : a21.IsWhole) (a22 : Memref sig .tc .vmem S512x1024 .f32) (e22 : a22.IsWhole) (a23 : Memref sig .tc .vmem S512x1024 .f32) (e23 : a23.IsWhole) (a24 : Memref sig .tc .vmem S520x256 .f32) (e24 : a24.IsWhole) (a25 : Memref sig .tc .vmem S8x2816 .f32) (e25 : a25.IsWhole) (hc0 : cond0_0 i)

theorem r_eq : sl.r c a2 e2 a3 e3 a4 e4 a5 e5 a6 e6 a7 e7 a8 e8 a9 e9 a10 e10 b.x1 b.x2 b.x3 b.x4 b.x5 b.x6 b.x7 b.x8 b.x9 = merged b := by
  unfold sl.r; simp only [View.readAt_eq_ld, Memref.IsWhole.read_unread]; rw [View.ld_unit_lit, View.ld_unit_lit, View.ld_unit_lit, View.ld_unit_lit, View.ld_unit_lit, View.ld_unit_lit, View.ld_unit_lit, View.ld_unit_lit, View.ld_unit_lit] <;> first | rfl | decide

theorem r_1_eq : sl.r_1 c a1 e1 b.x0 = k0_pay3 b.x0 := by
  unfold sl.r_1; simp only [View.readAt_eq_ld, Memref.IsWhole.read_unread]; rw [View.ld_unit_lit] <;> first | rfl | decide

theorem r_2_eq : sl.r_2 c a1 e1 a2 e2 a3 e3 a4 e4 a5 e5 a6 e6 a7 e7 a8 e8 a9 e9 a10 e10 a11 e11 a12 e12 a13 e13 b.x0 b.x1 b.x2 b.x3 b.x4 b.x5 b.x6 b.x7 b.x8 b.x9 b.x10 b.x11 b.x12 = h1b b := by
  unfold sl.r_2; rw [r_eq, r_1_eq]; simp only [View.readAt_eq_ld, Memref.IsWhole.read_unread]; rw [View.ld_unit_lit, View.ld_unit_lit, View.ld_unit_lit] <;> first | rfl | decide

theorem v732_eq : sl.v732 c a1 e1 a2 e2 a3 e3 a4 e4 a5 e5 a6 e6 a7 e7 a8 e8 a9 e9 a10 e10 a11 e11 a12 e12 a13 e13 a22 b.x0 b.x1 b.x2 b.x3 b.x4 b.x5 b.x6 b.x7 b.x8 b.x9 b.x10 b.x11 b.x12 = h1 b := by
  unfold sl.v732 sl.HS0_1; rw [View.readCov_cons_toLoadRect, r_eq, r_1_eq]; simp only [View.readAt_eq_ld, Memref.IsWhole.read_unread]; rw [View.ld_unit_lit, View.ld_unit_lit, View.ld_unit_lit]
  · exact shapeCast_id _ _
  all_goals decide

theorem v134_eq : sl.v134 c a23 = k0_pay9 (F := F) := by
  unfold sl.v134 sl.HS1_1; rw [View.readCov_cons_toLoadRect]

theorem v89_eq : sl.v89 c a25 = pc (k0_pay8 (F := F)) 0 := by
  unfold sl.v89 sl.HS3_1
  rw [View.readCov_fill]
  · rfl
  all_goals decide

theorem v106_eq : sl.v106 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 0) (uc b 0) := by
  unfold sl.v106 sl.HS2_2
  rw [readCov_up _ _ _ _ 6 (by omega)]
  simp only [View.readAt_eq_ld, Memref.IsWhole.read_unread, r_2_eq, v89_eq]
  exact congrArg₂ (shiftRows 6 (by omega)) (shapeCast_id _ _) (shapeCast_id _ _)

theorem v111_eq : sl.v111 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 0) (uc b 0) := by
  unfold sl.v111 sl.HS2_2
  rw [readCov_up _ _ _ _ 7 (by omega)]
  simp only [View.readAt_eq_ld, Memref.IsWhole.read_unread, r_2_eq, v89_eq]
  exact congrArg₂ (shiftRows 7 (by omega)) (shapeCast_id _ _) (shapeCast_id _ _)

theorem v193_eq : sl.v193 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 1 (by omega) := by
  unfold sl.v193 sl.HS1_2 sl.r_4 sl.r_5 sl.r_6 sl.r_7
  rw [View.readCov_cons_toLoadRect]
  simp only [View.readAt_eq_ld, Memref.IsWhole.read_unread, v106_eq, v111_eq, v134_eq, r_2_eq]
  rfl

theorem v148_eq : sl.v148 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 1 := by
  unfold sl.v148 sl.HS3_2 sl.HS3_1
  rw [View.readCov_skip, View.readCov_fill]
  · rfl
  all_goals decide

theorem v165_eq : sl.v165 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 1) (uc b 1) := by
  unfold sl.v165 sl.HS2_4
  rw [readCov_up _ _ _ _ 6 (by omega)]
  simp only [View.readAt_eq_ld, Memref.IsWhole.read_unread, r_2_eq, v148_eq]
  exact congrArg₂ (shiftRows 6 (by omega)) (shapeCast_id _ _) (shapeCast_id _ _)

theorem v170_eq : sl.v170 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 1) (uc b 1) := by
  unfold sl.v170 sl.HS2_4
  rw [readCov_up _ _ _ _ 7 (by omega)]
  simp only [View.readAt_eq_ld, Memref.IsWhole.read_unread, r_2_eq, v148_eq]
  exact congrArg₂ (shiftRows 7 (by omega)) (shapeCast_id _ _) (shapeCast_id _ _)

theorem v252_eq : sl.v252 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 2 (by omega) := by
  unfold sl.v252 sl.HS1_3 sl.r_8 sl.r_9
  rw [View.readCov_cons_toLoadRect]
  simp only [View.readAt_eq_ld, Memref.IsWhole.read_unread, v193_eq, r_2_eq, v165_eq, v170_eq]
  rfl

theorem v207_eq : sl.v207 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 2 := by
  unfold sl.v207 sl.HS3_3 sl.HS3_2 sl.HS3_1
  rw [View.readCov_skip, View.readCov_skip, View.readCov_fill]
  · rfl
  all_goals decide

theorem v224_eq : sl.v224 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 2) (uc b 2) := by
  unfold sl.v224 sl.HS2_6 sl.r_11 sl.r_13
  rw [readCov_up _ _ _ _ 6 (by omega)]
  simp only [View.readAt_eq_ld, Memref.IsWhole.read_unread, r_2_eq, v207_eq]
  exact congrArg₂ (shiftRows 6 (by omega)) (shapeCast_id _ _) (shapeCast_id _ _)

theorem v229_eq : sl.v229 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 2) (uc b 2) := by
  unfold sl.v229 sl.HS2_6 sl.r_11 sl.r_13
  rw [readCov_up _ _ _ _ 7 (by omega)]
  simp only [View.readAt_eq_ld, Memref.IsWhole.read_unread, r_2_eq, v207_eq]
  exact congrArg₂ (shiftRows 7 (by omega)) (shapeCast_id _ _) (shapeCast_id _ _)

theorem v311_eq : sl.v311 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 3 (by omega) := by
  unfold sl.v311 sl.HS1_4 sl.r_14 sl.r_11 sl.r_12
  rw [View.readCov_cons_toLoadRect]
  simp only [View.readAt_eq_ld, Memref.IsWhole.read_unread, v252_eq, v224_eq, v229_eq, r_2_eq]
  rfl

theorem v266_eq : sl.v266 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 3 := by
  unfold sl.v266 sl.HS3_4 sl.HS3_3 sl.HS3_2 sl.HS3_1
  rw [View.readCov_skip, View.readCov_skip, View.readCov_skip, View.readCov_fill]
  · rfl
  all_goals decide

theorem v283_eq : sl.v283 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 3) (uc b 3) := by
  unfold sl.v283 sl.HS2_8
  rw [readCov_up _ _ _ _ 6 (by omega)]
  simp only [View.readAt_eq_ld, Memref.IsWhole.read_unread, r_2_eq, v266_eq]
  exact congrArg₂ (shiftRows 6 (by omega)) (shapeCast_id _ _) (shapeCast_id _ _)

theorem v288_eq : sl.v288 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 3) (uc b 3) := by
  unfold sl.v288 sl.HS2_8
  rw [readCov_up _ _ _ _ 7 (by omega)]
  simp only [View.readAt_eq_ld, Memref.IsWhole.read_unread, r_2_eq, v266_eq]
  exact congrArg₂ (shiftRows 7 (by omega)) (shapeCast_id _ _) (shapeCast_id _ _)

theorem v370_eq : sl.v370 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 4 (by omega) := by
  unfold sl.v370 sl.HS1_5 sl.r_16 sl.r_17 sl.r_18 sl.r_19
  rw [View.readCov_cons_toLoadRect]
  simp only [View.readAt_eq_ld, Memref.IsWhole.read_unread, v283_eq, v288_eq, v311_eq, r_2_eq]
  rfl

theorem v325_eq : sl.v325 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 4 := by
  unfold sl.v325 sl.HS3_5 sl.HS3_4 sl.HS3_3 sl.HS3_2 sl.HS3_1
  rw [View.readCov_skip, View.readCov_skip, View.readCov_skip, View.readCov_skip, View.readCov_fill]
  · rfl
  all_goals decide

theorem v342_eq : sl.v342 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 4) (uc b 4) := by
  unfold sl.v342 sl.HS2_10 sl.r_20
  rw [readCov_up _ _ _ _ 6 (by omega)]
  simp only [View.readAt_eq_ld, Memref.IsWhole.read_unread, r_2_eq, v325_eq]
  exact congrArg₂ (shiftRows 6 (by omega)) (shapeCast_id _ _) (shapeCast_id _ _)

theorem v347_eq : sl.v347 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 4) (uc b 4) := by
  unfold sl.v347 sl.HS2_10 sl.r_20
  rw [readCov_up _ _ _ _ 7 (by omega)]
  simp only [View.readAt_eq_ld, Memref.IsWhole.read_unread, r_2_eq, v325_eq]
  exact congrArg₂ (shiftRows 7 (by omega)) (shapeCast_id _ _) (shapeCast_id _ _)

theorem v429_eq : sl.v429 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 5 (by omega) := by
  unfold sl.v429 sl.HS1_6 sl.r_21 sl.r_22 sl.r_23 sl.r_20
  rw [View.readCov_cons_toLoadRect]
  simp only [View.readAt_eq_ld, Memref.IsWhole.read_unread, v370_eq, r_2_eq, v342_eq, v347_eq]
  rfl

theorem v384_eq : sl.v384 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 5 := by
  unfold sl.v384 sl.HS3_6 sl.HS3_5 sl.HS3_4 sl.HS3_3 sl.HS3_2 sl.HS3_1
  rw [View.readCov_skip, View.readCov_skip, View.readCov_skip, View.readCov_skip, View.readCov_skip, View.readCov_fill]
  · rfl
  all_goals decide

theorem v401_eq : sl.v401 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 5) (uc b 5) := by
  unfold sl.v401 sl.HS2_12 sl.r_24
  rw [readCov_up _ _ _ _ 6 (by omega)]
  simp only [View.readAt_eq_ld, Memref.IsWhole.read_unread, v384_eq, r_2_eq]
  exact congrArg₂ (shiftRows 6 (by omega)) (shapeCast_id _ _) (shapeCast_id _ _)

theorem v406_eq : sl.v406 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 5) (uc b 5) := by
  unfold sl.v406 sl.HS2_12 sl.r_24
  rw [readCov_up _ _ _ _ 7 (by omega)]
  simp only [View.readAt_eq_ld, Memref.IsWhole.read_unread, v384_eq, r_2_eq]
  exact congrArg₂ (shiftRows 7 (by omega)) (shapeCast_id _ _) (shapeCast_id _ _)

theorem v488_eq : sl.v488 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 6 (by omega) := by
  unfold sl.v488 sl.HS1_7 sl.r_26 sl.r_24 sl.r_25
  rw [View.readCov_cons_toLoadRect]
  simp only [View.readAt_eq_ld, Memref.IsWhole.read_unread, v429_eq, v401_eq, v406_eq, r_2_eq]
  rfl

theorem v443_eq : sl.v443 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 6 := by
  unfold sl.v443 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_fill]
  · rfl
  all_goals decide

theorem v460_eq : sl.v460 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 6) (uc b 6) := by
  unfold sl.v460 sl.HS2_14
  rw [readCov_up _ _ _ _ 6 (by omega)]
  simp only [View.readAt_eq_ld, Memref.IsWhole.read_unread, r_2_eq, v443_eq]
  exact congrArg₂ (shiftRows 6 (by omega)) (shapeCast_id _ _) (shapeCast_id _ _)

theorem v465_eq : sl.v465 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 6) (uc b 6) := by
  unfold sl.v465 sl.HS2_14
  rw [readCov_up _ _ _ _ 7 (by omega)]
  simp only [View.readAt_eq_ld, Memref.IsWhole.read_unread, r_2_eq, v443_eq]
  exact congrArg₂ (shiftRows 7 (by omega)) (shapeCast_id _ _) (shapeCast_id _ _)

theorem v547_eq : sl.v547 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 7 (by omega) := by
  unfold sl.v547 sl.HS1_8 sl.r_28 sl.r_29 sl.r_30 sl.r_31
  rw [View.readCov_cons_toLoadRect]
  simp only [View.readAt_eq_ld, Memref.IsWhole.read_unread, v460_eq, v465_eq, v488_eq, r_2_eq]
  rfl

theorem v502_eq : sl.v502 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 7 := by
  unfold sl.v502 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_fill]
  · rfl
  all_goals decide

theorem v519_eq : sl.v519 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 7) (uc b 7) := by
  unfold sl.v519 sl.HS2_16 sl.r_32
  rw [readCov_up _ _ _ _ 6 (by omega)]
  simp only [View.readAt_eq_ld, Memref.IsWhole.read_unread, v502_eq, r_2_eq]
  exact congrArg₂ (shiftRows 6 (by omega)) (shapeCast_id _ _) (shapeCast_id _ _)

theorem v524_eq : sl.v524 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 7) (uc b 7) := by
  unfold sl.v524 sl.HS2_16 sl.r_32
  rw [readCov_up _ _ _ _ 7 (by omega)]
  simp only [View.readAt_eq_ld, Memref.IsWhole.read_unread, v502_eq, r_2_eq]
  exact congrArg₂ (shiftRows 7 (by omega)) (shapeCast_id _ _) (shapeCast_id _ _)

theorem v606_eq : sl.v606 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 8 (by omega) := by
  unfold sl.v606 sl.HS1_9 sl.r_33 sl.r_34 sl.r_35 sl.r_32
  rw [View.readCov_cons_toLoadRect]
  simp only [View.readAt_eq_ld, Memref.IsWhole.read_unread, v547_eq, r_2_eq, v519_eq, v524_eq]
  rfl

theorem v561_eq : sl.v561 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 8 := by
  unfold sl.v561 sl.HS3_9 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_skip, View.readCov_fill]
  · rfl
  all_goals decide

theorem v578_eq : sl.v578 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 8) (uc b 8) := by
  unfold sl.v578 sl.HS2_18 sl.r_38
  rw [readCov_up _ _ _ _ 6 (by omega)]
  simp only [View.readAt_eq_ld, Memref.IsWhole.read_unread, v561_eq, r_2_eq]
  exact congrArg₂ (shiftRows 6 (by omega)) (shapeCast_id _ _) (shapeCast_id _ _)

theorem v583_eq : sl.v583 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 8) (uc b 8) := by
  unfold sl.v583 sl.HS2_18 sl.r_38
  rw [readCov_up _ _ _ _ 7 (by omega)]
  simp only [View.readAt_eq_ld, Memref.IsWhole.read_unread, v561_eq, r_2_eq]
  exact congrArg₂ (shiftRows 7 (by omega)) (shapeCast_id _ _) (shapeCast_id _ _)

theorem v665_eq : sl.v665 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 9 (by omega) := by
  unfold sl.v665 sl.HS1_10 sl.r_39 sl.r_36 sl.r_37
  rw [View.readCov_cons_toLoadRect]
  simp only [View.readAt_eq_ld, Memref.IsWhole.read_unread, v606_eq, v578_eq, v583_eq, r_2_eq]
  rfl

theorem v620_eq : sl.v620 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 9 := by
  unfold sl.v620 sl.HS3_10 sl.HS3_9 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_skip, View.readCov_skip, View.readCov_fill]
  · rfl
  all_goals decide

theorem v637_eq : sl.v637 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 9) (uc b 9) := by
  unfold sl.v637 sl.HS2_20
  rw [readCov_up _ _ _ _ 6 (by omega)]
  simp only [View.readAt_eq_ld, Memref.IsWhole.read_unread, r_2_eq, v620_eq]
  exact congrArg₂ (shiftRows 6 (by omega)) (shapeCast_id _ _) (shapeCast_id _ _)

theorem v642_eq : sl.v642 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 9) (uc b 9) := by
  unfold sl.v642 sl.HS2_20
  rw [readCov_up _ _ _ _ 7 (by omega)]
  simp only [View.readAt_eq_ld, Memref.IsWhole.read_unread, r_2_eq, v620_eq]
  exact congrArg₂ (shiftRows 7 (by omega)) (shapeCast_id _ _) (shapeCast_id _ _)

theorem v724_eq : sl.v724 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 10 (by omega) := by
  unfold sl.v724 sl.HS1_11 sl.r_41 sl.r_42 sl.r_43
  rw [View.readCov_cons_toLoadRect]
  simp only [View.readAt_eq_ld, Memref.IsWhole.read_unread, v642_eq, v665_eq, r_2_eq, v637_eq]
  rfl

theorem v679_eq : sl.v679 c a1 e1 a2 e2 a3 e3 a4 e4 a5 e5 a6 e6 a7 e7 a8 e8 a9 e9 a10 e10 a11 e11 a12 e12 a13 e13 a14 e14 a25 b.x0 b.x1 b.x2 b.x3 b.x4 b.x5 b.x6 b.x7 b.x8 b.x9 b.x10 b.x11 b.x12 b.x13 = pc (k0_pay8 (F := F)) 10 := by
  unfold sl.v679 sl.HS3_11 sl.HS3_10 sl.HS3_9 sl.HS3_8 sl.HS3_7 sl.HS3_6 sl.HS3_5 sl.HS3_4 sl.HS3_3 sl.HS3_2 sl.HS3_1
  rw [View.readCov_skip, View.readCov_skip, View.readCov_skip, View.readCov_skip, View.readCov_skip, View.readCov_skip, View.readCov_skip, View.readCov_skip, View.readCov_skip, View.readCov_skip, View.readCov_fill]
  · rfl
  all_goals decide

theorem v696_eq : sl.v696 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 6 (by omega) (pc (k0_pay8 (F := F)) 10) (uc b 10) := by
  unfold sl.v696 sl.HS2_22 sl.r_44
  rw [readCov_up _ _ _ _ 6 (by omega)]
  simp only [View.readAt_eq_ld, Memref.IsWhole.read_unread, v679_eq, r_2_eq]
  exact congrArg₂ (shiftRows 6 (by omega)) (shapeCast_id _ _) (shapeCast_id _ _)

theorem v701_eq : sl.v701 c a1 e1 a2 e2 a3 e3 a4 e4 a5 e5 a6 e6 a7 e7 a8 e8 a9 e9 a10 e10 a11 e11 a12 e12 a13 e13 a14 e14 a24 a25 b.x0 b.x1 b.x2 b.x3 b.x4 b.x5 b.x6 b.x7 b.x8 b.x9 b.x10 b.x11 b.x12 b.x13 = shiftRows 7 (by omega) (pc (k0_pay8 (F := F)) 10) (uc b 10) := by
  unfold sl.v701 sl.HS2_22 sl.r_44
  rw [readCov_up _ _ _ _ 7 (by omega)]
  simp only [View.readAt_eq_ld, Memref.IsWhole.read_unread, v679_eq, r_2_eq]
  exact congrArg₂ (shiftRows 7 (by omega)) (shapeCast_id _ _) (shapeCast_id _ _)

theorem v735_eq : sl.v735 c a1 e1 a2 e2 a3 e3 a4 e4 a5 e5 a6 e6 a7 e7 a8 e8 a9 e9 a10 e10 a11 e11 a12 e12 a13 e13 a14 e14 a15 e15 a16 e16 a17 e17 a18 e18 a23 a24 a25 b.x0 b.x1 b.x2 b.x3 b.x4 b.x5 b.x6 b.x7 b.x8 b.x9 b.x10 b.x11 b.x12 b.x13 b.x14 b.x15 b.x16 b.x17 = acc b (k0_pay8 (F := F)) 11 (by omega) := by
  unfold sl.v735 sl.HS1_12 sl.r_45 sl.r_46 sl.r_47 sl.cst_420 sl.r_44
  rw [View.readCov_cons_toLoadRect]
  simp only [View.readAt_eq_ld, Memref.IsWhole.read_unread, v724_eq, r_2_eq, v696_eq, v701_eq]
  rfl

/-- The output block of the run. -/
theorem out_eq : out0_A_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 = out b (k0_pay8 (F := F)) := by
  unfold out0_A_20
  rw [View.read_writes_eq_canon _ _ _ (cover0_A_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19)]
  unfold kernelRun0_A
  dsimp only
  rw [View.canon_cons_unit_lit _ _ _ (by decide)]
  unfold sl.r_48 sl.r_49 sl.r_50 sl.r_51 sl.cst_443
  rw [v732_eq, v735_eq]
  simp only [View.readAt_eq_ld, Memref.IsWhole.read_unread]
  rw [View.ld_unit_lit, View.ld_unit_lit]
  · rfl
  all_goals decide

/-- What the run leaves in the carried rows. -/
theorem carry_eq : sout0_A_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 = carryAt b := by
  unfold sout0_A_3
  rw [View.read_writes_eq_canon _ _ _ (scover0_A_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19)]
  unfold kernelRun0_A sl.HS3_11 sl.HS3_10 sl.HS3_9 sl.HS3_8 sl.HS3_7 sl.HS3_6 sl.HS3_5 sl.HS3_4 sl.HS3_3 sl.HS3_2 sl.HS3_1
  dsimp only
  unfold sl.r_3 sl.r_10 sl.r_11 sl.r_15 sl.r_20 sl.r_24 sl.r_27 sl.r_32 sl.r_36 sl.r_40 sl.r_44
  simp only [View.readAt_eq_ld, Memref.IsWhole.read_unread, r_2_eq]
  funext y
  have hy0 : (y 0).val < 8 := (y 0).isLt
  have hy1 : (y 1).val < 2816 := (y 1).isLt
  refine View.canon_append_of_piecesOf (carryAt b) [_] [_, _, _, _, _, _, _, _, _, _, _]
    ⟨fun x => ?_, fun x => ?_, fun x => ?_, fun x => ?_, fun x => ?_, fun x => ?_, fun x => ?_, fun x => ?_, fun x => ?_, fun x => ?_, fun x => ?_, trivial⟩ y ?_
  · exact Eq.trans (b := carry b 10 x) rfl (carryAt_eq b 10 x _ (by show 0 + 1 * (x 0).val = (x 0).val; omega) (by show 2560 + 1 * (x 1).val = 256 * 10 + (x 1).val; omega)).symm
  · exact Eq.trans (b := carry b 9 x) rfl (carryAt_eq b 9 x _ (by show 0 + 1 * (x 0).val = (x 0).val; omega) (by show 2304 + 1 * (x 1).val = 256 * 9 + (x 1).val; omega)).symm
  · exact Eq.trans (b := carry b 8 x) rfl (carryAt_eq b 8 x _ (by show 0 + 1 * (x 0).val = (x 0).val; omega) (by show 2048 + 1 * (x 1).val = 256 * 8 + (x 1).val; omega)).symm
  · exact Eq.trans (b := carry b 7 x) rfl (carryAt_eq b 7 x _ (by show 0 + 1 * (x 0).val = (x 0).val; omega) (by show 1792 + 1 * (x 1).val = 256 * 7 + (x 1).val; omega)).symm
  · exact Eq.trans (b := carry b 6 x) rfl (carryAt_eq b 6 x _ (by show 0 + 1 * (x 0).val = (x 0).val; omega) (by show 1536 + 1 * (x 1).val = 256 * 6 + (x 1).val; omega)).symm
  · exact Eq.trans (b := carry b 5 x) rfl (carryAt_eq b 5 x _ (by show 0 + 1 * (x 0).val = (x 0).val; omega) (by show 1280 + 1 * (x 1).val = 256 * 5 + (x 1).val; omega)).symm
  · exact Eq.trans (b := carry b 4 x) rfl (carryAt_eq b 4 x _ (by show 0 + 1 * (x 0).val = (x 0).val; omega) (by show 1024 + 1 * (x 1).val = 256 * 4 + (x 1).val; omega)).symm
  · exact Eq.trans (b := carry b 3 x) rfl (carryAt_eq b 3 x _ (by show 0 + 1 * (x 0).val = (x 0).val; omega) (by show 768 + 1 * (x 1).val = 256 * 3 + (x 1).val; omega)).symm
  · exact Eq.trans (b := carry b 2 x) rfl (carryAt_eq b 2 x _ (by show 0 + 1 * (x 0).val = (x 0).val; omega) (by show 512 + 1 * (x 1).val = 256 * 2 + (x 1).val; omega)).symm
  · exact Eq.trans (b := carry b 1 x) rfl (carryAt_eq b 1 x _ (by show 0 + 1 * (x 0).val = (x 0).val; omega) (by show 256 + 1 * (x 1).val = 256 * 1 + (x 1).val; omega)).symm
  · exact Eq.trans (b := carry b 0 x) rfl (carryAt_eq b 0 x _ (by show 0 + 1 * (x 0).val = (x 0).val; omega) (by show 0 + 1 * (x 1).val = 256 * 0 + (x 1).val; omega)).symm
  · have hk : (y 1).val / 256 < 11 := by omega
    generalize hq : (y 1).val / 256 = q at hk
    have hb : 256 * q ≤ (y 1).val ∧ (y 1).val < 256 * q + 256 := by omega
    clear hq
    interval_cases q
    · refine ⟨_, .tail _ (.tail _ (.tail _ (.tail _ (.tail _ (.tail _ (.tail _ (.tail _ (.tail _ (.tail _ (.head _)))))))))), ?_⟩
      rw [Rect.mem_set_unit]
      exact fun a => match a with
        | ⟨0, _⟩ => ⟨Nat.zero_le _, by show (y 0).val < 0 + 8; omega⟩
        | ⟨1, _⟩ => ⟨by show 0 ≤ (y 1).val; omega, by show (y 1).val < 0 + 256; omega⟩
    · refine ⟨_, .tail _ (.tail _ (.tail _ (.tail _ (.tail _ (.tail _ (.tail _ (.tail _ (.tail _ (.head _))))))))), ?_⟩
      rw [Rect.mem_set_unit]
      exact fun a => match a with
        | ⟨0, _⟩ => ⟨Nat.zero_le _, by show (y 0).val < 0 + 8; omega⟩
        | ⟨1, _⟩ => ⟨by show 256 ≤ (y 1).val; omega, by show (y 1).val < 256 + 256; omega⟩
    · refine ⟨_, .tail _ (.tail _ (.tail _ (.tail _ (.tail _ (.tail _ (.tail _ (.tail _ (.head _)))))))), ?_⟩
      rw [Rect.mem_set_unit]
      exact fun a => match a with
        | ⟨0, _⟩ => ⟨Nat.zero_le _, by show (y 0).val < 0 + 8; omega⟩
        | ⟨1, _⟩ => ⟨by show 512 ≤ (y 1).val; omega, by show (y 1).val < 512 + 256; omega⟩
    · refine ⟨_, .tail _ (.tail _ (.tail _ (.tail _ (.tail _ (.tail _ (.tail _ (.head _))))))), ?_⟩
      rw [Rect.mem_set_unit]
      exact fun a => match a with
        | ⟨0, _⟩ => ⟨Nat.zero_le _, by show (y 0).val < 0 + 8; omega⟩
        | ⟨1, _⟩ => ⟨by show 768 ≤ (y 1).val; omega, by show (y 1).val < 768 + 256; omega⟩
    · refine ⟨_, .tail _ (.tail _ (.tail _ (.tail _ (.tail _ (.tail _ (.head _)))))), ?_⟩
      rw [Rect.mem_set_unit]
      exact fun a => match a with
        | ⟨0, _⟩ => ⟨Nat.zero_le _, by show (y 0).val < 0 + 8; omega⟩
        | ⟨1, _⟩ => ⟨by show 1024 ≤ (y 1).val; omega, by show (y 1).val < 1024 + 256; omega⟩
    · refine ⟨_, .tail _ (.tail _ (.tail _ (.tail _ (.tail _ (.head _))))), ?_⟩
      rw [Rect.mem_set_unit]
      exact fun a => match a with
        | ⟨0, _⟩ => ⟨Nat.zero_le _, by show (y 0).val < 0 + 8; omega⟩
        | ⟨1, _⟩ => ⟨by show 1280 ≤ (y 1).val; omega, by show (y 1).val < 1280 + 256; omega⟩
    · refine ⟨_, .tail _ (.tail _ (.tail _ (.tail _ (.head _)))), ?_⟩
      rw [Rect.mem_set_unit]
      exact fun a => match a with
        | ⟨0, _⟩ => ⟨Nat.zero_le _, by show (y 0).val < 0 + 8; omega⟩
        | ⟨1, _⟩ => ⟨by show 1536 ≤ (y 1).val; omega, by show (y 1).val < 1536 + 256; omega⟩
    · refine ⟨_, .tail _ (.tail _ (.tail _ (.head _))), ?_⟩
      rw [Rect.mem_set_unit]
      exact fun a => match a with
        | ⟨0, _⟩ => ⟨Nat.zero_le _, by show (y 0).val < 0 + 8; omega⟩
        | ⟨1, _⟩ => ⟨by show 1792 ≤ (y 1).val; omega, by show (y 1).val < 1792 + 256; omega⟩
    · refine ⟨_, .tail _ (.tail _ (.head _)), ?_⟩
      rw [Rect.mem_set_unit]
      exact fun a => match a with
        | ⟨0, _⟩ => ⟨Nat.zero_le _, by show (y 0).val < 0 + 8; omega⟩
        | ⟨1, _⟩ => ⟨by show 2048 ≤ (y 1).val; omega, by show (y 1).val < 2048 + 256; omega⟩
    · refine ⟨_, .tail _ (.head _), ?_⟩
      rw [Rect.mem_set_unit]
      exact fun a => match a with
        | ⟨0, _⟩ => ⟨Nat.zero_le _, by show (y 0).val < 0 + 8; omega⟩
        | ⟨1, _⟩ => ⟨by show 2304 ≤ (y 1).val; omega, by show (y 1).val < 2304 + 256; omega⟩
    · refine ⟨_, .head _, ?_⟩
      rw [Rect.mem_set_unit]
      exact fun a => match a with
        | ⟨0, _⟩ => ⟨Nat.zero_le _, by show (y 0).val < 0 + 8; omega⟩
        | ⟨1, _⟩ => ⟨by show 2560 ≤ (y 1).val; omega, by show (y 1).val < 2560 + 256; omega⟩

/-- The same two facts over the twenty blocks one by one. -/
theorem out_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    out0_A_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 = out ⟨x0, x1, x2, x3, x4, x5, x6, x7, x8, x9, x10, x11, x12, x13, x14, x15, x16, x17, x18, x19⟩ (k0_pay8 (F := F)) := out_eq (b := ⟨x0, x1, x2, x3, x4, x5, x6, x7, x8, x9, x10, x11, x12, x13, x14, x15, x16, x17, x18, x19⟩) ..

theorem carry_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    sout0_A_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 = carryAt ⟨x0, x1, x2, x3, x4, x5, x6, x7, x8, x9, x10, x11, x12, x13, x14, x15, x16, x17, x18, x19⟩ := carry_eq (b := ⟨x0, x1, x2, x3, x4, x5, x6, x7, x8, x9, x10, x11, x12, x13, x14, x15, x16, x17, x18, x19⟩) ..

end Cert.Kernel6Ideal.Ffn.RunA

end
-- ==== Proof.FirstFfnRunB.lean ====
/- The first layer's merge and feed-forward kernel's run, read: at a tile that takes the rows carried from the tile before,
   the values the run names are the stages of `Proof.FirstFfnTile`, so its output block and the rows it carries on are `out` and
   `carry` of the point's input blocks. -/
module

public import proofs.«01_k».proof.Proof.FirstFfnTile

@[expose] public section

set_option maxRecDepth 16384

noncomputable section

namespace Cert.Kernel6Ideal.Ffn.RunB

open Cert.Kernel6Ideal Cert.Kernel6Ideal.Gen Idealize.ShloMosaic Idealize.ShloMosaic.TcCoe Idealize.SL.Sem
open Cert.Kernel6Ideal.Gen.kernelRun0_B
open Cert.Kernel6Ideal.Ffn

variable {F : FTy → Type} [FloatOps F]
variable (b : Blk F) (prev : Vec F S8x2816 .f32)
variable (c : Dev nD) (i : grid0.Coords) (a1 : Memref sig .tc .vmem S512x1024 .f32) (e1 : a1.IsWhole) (a2 : Memref sig .tc .vmem S512x512 .bf16) (e2 : a2.IsWhole) (a3 : Memref sig .tc .vmem S512x512 .bf16) (e3 : a3.IsWhole) (a4 : Memref sig .tc .vmem S512x512 .bf16) (e4 : a4.IsWhole) (a5 : Memref sig .tc .vmem S512x1024 .bf16) (e5 : a5.IsWhole) (a6 : Memref sig .tc .vmem S512x1024 .bf16) (e6 : a6.IsWhole) (a7 : Memref sig .tc .vmem S512x1024 .bf16) (e7 : a7.IsWhole) (a8 : Memref sig .tc .vmem S1x512x1024 .bf16) (e8 : a8.IsWhole) (a9 : Memref sig .tc .vmem S1x512x1024 .bf16) (e9 : a9.IsWhole) (a10 : Memref sig .tc .vmem S1x512x1024 .bf16) (e10 : a10.IsWhole) (a11 : Memref sig .tc .vmem S1x1024x1024 .bf16) (e11 : a11.IsWhole) (a12 : Memref sig .tc .vmem S1x1024 .f32) (e12 : a12.IsWhole) (a13 : Memref sig .tc .vmem S1x1024 .f32) (e13 : a13.IsWhole) (a14 : Memref sig .tc .vmem S1x1024x2816 .bf16) (e14 : a14.IsWhole) (a15 : Memref sig .tc .vmem S1x1024x2816 .bf16) (e15 : a15.IsWhole) (a16 : Memref sig .tc .vmem S3x2816 .f32) (e16 : a16.IsWhole) (a17 : Memref sig .tc .vmem S1x2816 .f32) (e17 : a17.IsWhole) (a18 : Memref sig .tc .vmem S1x2816x1024 .bf16) (e18 : a18.IsWhole) (a19 : Memref sig .tc .vmem S1x1024 .f32) (e19 : a19.IsWhole) (a20 : Memref sig .tc .vmem S1x1024 .f32) (e20 : a20.IsWhole) (a21 : Memref sig .tc .vmem S512x1024 .f32) (e21 : a21.IsWhole) (a22 : Memref sig .tc .vmem S512x1024 .f32) (e22 : a22.IsWhole) (a23 : Memref sig .tc .vmem S512x1024 .f32) (e23 : a23.IsWhole) (a24 : Memref sig .tc .vmem S520x256 .f32) (e24 : a24.IsWhole) (a25 : Memref sig .tc .vmem S8x2816 .f32) (e25 : a25.IsWhole) (hc0 : ¬cond0_0 i)

theorem r_eq : sl.r c a2 e2 a3 e3 a4 e4 a5 e5 a6 e6 a7 e7 a8 e8 a9 e9 a10 e10 b.x1 b.x2 b.x3 b.x4 b.x5 b.x6 b.x7 b.x8 b.x9 = merged b := by
  unfold sl.r; simp only [View.readAt_eq_ld, Memref.IsWhole.read_unread]; rw [View.ld_unit_lit, View.ld_unit_lit, View.ld_unit_lit, View.ld_unit_lit, View.ld_unit_lit, View.ld_unit_lit, View.ld_unit_lit, View.ld_unit_lit, View.ld_unit_lit] <;> first | rfl | decide

theorem r_1_eq : sl.r_1 c a1 e1 b.x0 = k0_pay3 b.x0 := by
  unfold sl.r_1; simp only [View.readAt_eq_ld, Memref.IsWhole.read_unread]; rw [View.ld_unit_lit] <;> first | rfl | decide

theorem r_2_eq : sl.r_2 c a1 e1 a2 e2 a3 e3 a4 e4 a5 e5 a6 e6 a7 e7 a8 e8 a9 e9 a10 e10 a11 e11 a12 e12 a13 e13 b.x0 b.x1 b.x2 b.x3 b.x4 b.x5 b.x6 b.x7 b.x8 b.x9 b.x10 b.x11 b.x12 = h1b b := by
  unfold sl.r_2; rw [r_eq, r_1_eq]; simp only [View.readAt_eq_ld, Memref.IsWhole.read_unread]; rw [View.ld_unit_lit, View.ld_unit_lit, View.ld_unit_lit] <;> first | rfl | decide

theorem v732_eq : sl.v732 c a1 e1 a2 e2 a3 e3 a4 e4 a5 e5 a6 e6 a7 e7 a8 e8 a9 e9 a10 e10 a11 e11 a12 e12 a13 e13 a22 b.x0 b.x1 b.x2 b.x3 b.x4 b.x5 b.x6 b.x7 b.x8 b.x9 b.x10 b.x11 b.x12 = h1 b := by
  unfold sl.v732 sl.HS0_1; rw [View.readCov_cons_toLoadRect, r_eq, r_1_eq]; simp only [View.readAt_eq_ld, Memref.IsWhole.read_unread]; rw [View.ld_unit_lit, View.ld_unit_lit, View.ld_unit_lit]
  · exact shapeCast_id _ _
  all_goals decide

theorem v134_eq : sl.v134 c a23 = k0_pay9 (F := F) := by
  unfold sl.v134 sl.HS1_1; rw [View.readCov_cons_toLoadRect]

theorem v106_eq : sl.v106 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 0) (uc b 0) := by
  unfold sl.v106 sl.HS2_2
  rw [readCov_up _ _ _ _ 6 (by omega)]
  simp only [View.readAt_eq_ld, Memref.IsWhole.read_unread, r_2_eq]
  exact congrArg₂ (shiftRows 6 (by omega)) (shapeCast_id _ _) (shapeCast_id _ _)

theorem v111_eq : sl.v111 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 0) (uc b 0) := by
  unfold sl.v111 sl.HS2_2
  rw [readCov_up _ _ _ _ 7 (by omega)]
  simp only [View.readAt_eq_ld, Memref.IsWhole.read_unread, r_2_eq]
  exact congrArg₂ (shiftRows 7 (by omega)) (shapeCast_id _ _) (shapeCast_id _ _)

theorem v193_eq : sl.v193 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 1 (by omega) := by
  unfold sl.v193 sl.HS1_2 sl.r_4 sl.r_5 sl.r_6 sl.r_7
  rw [View.readCov_cons_toLoadRect]
  simp only [View.readAt_eq_ld, Memref.IsWhole.read_unread, v106_eq, v111_eq, v134_eq, r_2_eq]
  rfl

theorem v148_eq : sl.v148 c a25 e25 prev = pc prev 1 := by
  unfold sl.v148; rw [View.readAt_eq_ld, Memref.IsWhole.read_unread]; rfl

theorem v165_eq : sl.v165 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 1) (uc b 1) := by
  unfold sl.v165 sl.HS2_4
  rw [readCov_up _ _ _ _ 6 (by omega)]
  simp only [View.readAt_eq_ld, Memref.IsWhole.read_unread, r_2_eq, v148_eq]
  exact congrArg₂ (shiftRows 6 (by omega)) (shapeCast_id _ _) (shapeCast_id _ _)

theorem v170_eq : sl.v170 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 1) (uc b 1) := by
  unfold sl.v170 sl.HS2_4
  rw [readCov_up _ _ _ _ 7 (by omega)]
  simp only [View.readAt_eq_ld, Memref.IsWhole.read_unread, r_2_eq, v148_eq]
  exact congrArg₂ (shiftRows 7 (by omega)) (shapeCast_id _ _) (shapeCast_id _ _)

theorem v252_eq : sl.v252 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 2 (by omega) := by
  unfold sl.v252 sl.HS1_3 sl.r_8 sl.r_9
  rw [View.readCov_cons_toLoadRect]
  simp only [View.readAt_eq_ld, Memref.IsWhole.read_unread, v193_eq, r_2_eq, v165_eq, v170_eq]
  rfl

theorem v207_eq : sl.v207 c a25 e25 prev = pc prev 2 := by
  unfold sl.v207; rw [View.readAt_eq_ld, Memref.IsWhole.read_unread]; rfl

theorem v224_eq : sl.v224 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 2) (uc b 2) := by
  unfold sl.v224 sl.HS2_6 sl.r_11 sl.r_13
  rw [readCov_up _ _ _ _ 6 (by omega)]
  simp only [View.readAt_eq_ld, Memref.IsWhole.read_unread, r_2_eq, v207_eq]
  exact congrArg₂ (shiftRows 6 (by omega)) (shapeCast_id _ _) (shapeCast_id _ _)

theorem v229_eq : sl.v229 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 2) (uc b 2) := by
  unfold sl.v229 sl.HS2_6 sl.r_11 sl.r_13
  rw [readCov_up _ _ _ _ 7 (by omega)]
  simp only [View.readAt_eq_ld, Memref.IsWhole.read_unread, r_2_eq, v207_eq]
  exact congrArg₂ (shiftRows 7 (by omega)) (shapeCast_id _ _) (shapeCast_id _ _)

theorem v311_eq : sl.v311 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 3 (by omega) := by
  unfold sl.v311 sl.HS1_4 sl.r_14 sl.r_11 sl.r_12
  rw [View.readCov_cons_toLoadRect]
  simp only [View.readAt_eq_ld, Memref.IsWhole.read_unread, v252_eq, v224_eq, v229_eq, r_2_eq]
  rfl

theorem v266_eq : sl.v266 c a25 e25 prev = pc prev 3 := by
  unfold sl.v266; rw [View.readAt_eq_ld, Memref.IsWhole.read_unread]; rfl

theorem v283_eq : sl.v283 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 3) (uc b 3) := by
  unfold sl.v283 sl.HS2_8
  rw [readCov_up _ _ _ _ 6 (by omega)]
  simp only [View.readAt_eq_ld, Memref.IsWhole.read_unread, r_2_eq, v266_eq]
  exact congrArg₂ (shiftRows 6 (by omega)) (shapeCast_id _ _) (shapeCast_id _ _)

theorem v288_eq : sl.v288 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 3) (uc b 3) := by
  unfold sl.v288 sl.HS2_8
  rw [readCov_up _ _ _ _ 7 (by omega)]
  simp only [View.readAt_eq_ld, Memref.IsWhole.read_unread, r_2_eq, v266_eq]
  exact congrArg₂ (shiftRows 7 (by omega)) (shapeCast_id _ _) (shapeCast_id _ _)

theorem v370_eq : sl.v370 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 4 (by omega) := by
  unfold sl.v370 sl.HS1_5 sl.r_16 sl.r_17 sl.r_18 sl.r_19
  rw [View.readCov_cons_toLoadRect]
  simp only [View.readAt_eq_ld, Memref.IsWhole.read_unread, v283_eq, v288_eq, v311_eq, r_2_eq]
  rfl

theorem v325_eq : sl.v325 c a25 e25 prev = pc prev 4 := by
  unfold sl.v325; rw [View.readAt_eq_ld, Memref.IsWhole.read_unread]; rfl

theorem v342_eq : sl.v342 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 4) (uc b 4) := by
  unfold sl.v342 sl.HS2_10 sl.r_20
  rw [readCov_up _ _ _ _ 6 (by omega)]
  simp only [View.readAt_eq_ld, Memref.IsWhole.read_unread, r_2_eq, v325_eq]
  exact congrArg₂ (shiftRows 6 (by omega)) (shapeCast_id _ _) (shapeCast_id _ _)

theorem v347_eq : sl.v347 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 4) (uc b 4) := by
  unfold sl.v347 sl.HS2_10 sl.r_20
  rw [readCov_up _ _ _ _ 7 (by omega)]
  simp only [View.readAt_eq_ld, Memref.IsWhole.read_unread, r_2_eq, v325_eq]
  exact congrArg₂ (shiftRows 7 (by omega)) (shapeCast_id _ _) (shapeCast_id _ _)

theorem v429_eq : sl.v429 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 5 (by omega) := by
  unfold sl.v429 sl.HS1_6 sl.r_21 sl.r_22 sl.r_23 sl.r_20
  rw [View.readCov_cons_toLoadRect]
  simp only [View.readAt_eq_ld, Memref.IsWhole.read_unread, v370_eq, r_2_eq, v342_eq, v347_eq]
  rfl

theorem v384_eq : sl.v384 c a25 e25 prev = pc prev 5 := by
  unfold sl.v384; rw [View.readAt_eq_ld, Memref.IsWhole.read_unread]; rfl

theorem v401_eq : sl.v401 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 5) (uc b 5) := by
  unfold sl.v401 sl.HS2_12 sl.r_24
  rw [readCov_up _ _ _ _ 6 (by omega)]
  simp only [View.readAt_eq_ld, Memref.IsWhole.read_unread, v384_eq, r_2_eq]
  exact congrArg₂ (shiftRows 6 (by omega)) (shapeCast_id _ _) (shapeCast_id _ _)

theorem v406_eq : sl.v406 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 5) (uc b 5) := by
  unfold sl.v406 sl.HS2_12 sl.r_24
  rw [readCov_up _ _ _ _ 7 (by omega)]
  simp only [View.readAt_eq_ld, Memref.IsWhole.read_unread, v384_eq, r_2_eq]
  exact congrArg₂ (shiftRows 7 (by omega)) (shapeCast_id _ _) (shapeCast_id _ _)

theorem v488_eq : sl.v488 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 6 (by omega) := by
  unfold sl.v488 sl.HS1_7 sl.r_26 sl.r_24 sl.r_25
  rw [View.readCov_cons_toLoadRect]
  simp only [View.readAt_eq_ld, Memref.IsWhole.read_unread, v429_eq, v401_eq, v406_eq, r_2_eq]
  rfl

theorem v443_eq : sl.v443 c a25 e25 prev = pc prev 6 := by
  unfold sl.v443; rw [View.readAt_eq_ld, Memref.IsWhole.read_unread]; rfl

theorem v460_eq : sl.v460 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 6) (uc b 6) := by
  unfold sl.v460 sl.HS2_14
  rw [readCov_up _ _ _ _ 6 (by omega)]
  simp only [View.readAt_eq_ld, Memref.IsWhole.read_unread, r_2_eq, v443_eq]
  exact congrArg₂ (shiftRows 6 (by omega)) (shapeCast_id _ _) (shapeCast_id _ _)

theorem v465_eq : sl.v465 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 6) (uc b 6) := by
  unfold sl.v465 sl.HS2_14
  rw [readCov_up _ _ _ _ 7 (by omega)]
  simp only [View.readAt_eq_ld, Memref.IsWhole.read_unread, r_2_eq, v443_eq]
  exact congrArg₂ (shiftRows 7 (by omega)) (shapeCast_id _ _) (shapeCast_id _ _)

theorem v547_eq : sl.v547 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 7 (by omega) := by
  unfold sl.v547 sl.HS1_8 sl.r_28 sl.r_29 sl.r_30 sl.r_31
  rw [View.readCov_cons_toLoadRect]
  simp only [View.readAt_eq_ld, Memref.IsWhole.read_unread, v460_eq, v465_eq, v488_eq, r_2_eq]
  rfl

theorem v502_eq : sl.v502 c a25 e25 prev = pc prev 7 := by
  unfold sl.v502; rw [View.readAt_eq_ld, Memref.IsWhole.read_unread]; rfl

theorem v519_eq : sl.v519 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 7) (uc b 7) := by
  unfold sl.v519 sl.HS2_16 sl.r_32
  rw [readCov_up _ _ _ _ 6 (by omega)]
  simp only [View.readAt_eq_ld, Memref.IsWhole.read_unread, v502_eq, r_2_eq]
  exact congrArg₂ (shiftRows 6 (by omega)) (shapeCast_id _ _) (shapeCast_id _ _)

theorem v524_eq : sl.v524 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 7) (uc b 7) := by
  unfold sl.v524 sl.HS2_16 sl.r_32
  rw [readCov_up _ _ _ _ 7 (by omega)]
  simp only [View.readAt_eq_ld, Memref.IsWhole.read_unread, v502_eq, r_2_eq]
  exact congrArg₂ (shiftRows 7 (by omega)) (shapeCast_id _ _) (shapeCast_id _ _)

theorem v606_eq : sl.v606 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 8 (by omega) := by
  unfold sl.v606 sl.HS1_9 sl.r_33 sl.r_34 sl.r_35 sl.r_32
  rw [View.readCov_cons_toLoadRect]
  simp only [View.readAt_eq_ld, Memref.IsWhole.read_unread, v547_eq, r_2_eq, v519_eq, v524_eq]
  rfl

theorem v561_eq : sl.v561 c a25 e25 prev = pc prev 8 := by
  unfold sl.v561; rw [View.readAt_eq_ld, Memref.IsWhole.read_unread]; rfl

theorem v578_eq : sl.v578 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 8) (uc b 8) := by
  unfold sl.v578 sl.HS2_18 sl.r_38
  rw [readCov_up _ _ _ _ 6 (by omega)]
  simp only [View.readAt_eq_ld, Memref.IsWhole.read_unread, v561_eq, r_2_eq]
  exact congrArg₂ (shiftRows 6 (by omega)) (shapeCast_id _ _) (shapeCast_id _ _)

theorem v583_eq : sl.v583 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 8) (uc b 8) := by
  unfold sl.v583 sl.HS2_18 sl.r_38
  rw [readCov_up _ _ _ _ 7 (by omega)]
  simp only [View.readAt_eq_ld, Memref.IsWhole.read_unread, v561_eq, r_2_eq]
  exact congrArg₂ (shiftRows 7 (by omega)) (shapeCast_id _ _) (shapeCast_id _ _)

theorem v665_eq : sl.v665 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 9 (by omega) := by
  unfold sl.v665 sl.HS1_10 sl.r_39 sl.r_36 sl.r_37
  rw [View.readCov_cons_toLoadRect]
  simp only [View.readAt_eq_ld, Memref.IsWhole.read_unread, v606_eq, v578_eq, v583_eq, r_2_eq]
  rfl

theorem v620_eq : sl.v620 c a25 e25 prev = pc prev 9 := by
  unfold sl.v620; rw [View.readAt_eq_ld, Memref.IsWhole.read_unread]; rfl

theorem v637_eq : sl.v637 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 9) (uc b 9) := by
  unfold sl.v637 sl.HS2_20
  rw [readCov_up _ _ _ _ 6 (by omega)]
  simp only [View.readAt_eq_ld, Memref.IsWhole.read_unread, r_2_eq, v620_eq]
  exact congrArg₂ (shiftRows 6 (by omega)) (shapeCast_id _ _) (shapeCast_id _ _)

theorem v642_eq : sl.v642 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 9) (uc b 9) := by
  unfold sl.v642 sl.HS2_20
  rw [readCov_up _ _ _ _ 7 (by omega)]
  simp only [View.readAt_eq_ld, Memref.IsWhole.read_unread, r_2_eq, v620_eq]
  exact congrArg₂ (shiftRows 7 (by omega)) (shapeCast_id _ _) (shapeCast_id _ _)

theorem v724_eq : sl.v724 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 10 (by omega) := by
  unfold sl.v724 sl.HS1_11 sl.r_41 sl.r_42 sl.r_43
  rw [View.readCov_cons_toLoadRect]
  simp only [View.readAt_eq_ld, Memref.IsWhole.read_unread, v642_eq, v665_eq, r_2_eq, v637_eq]
  rfl

theorem v679_eq : sl.v679 c a25 e25 prev = pc prev 10 := by
  unfold sl.v679; rw [View.readAt_eq_ld, Memref.IsWhole.read_unread]; rfl

theorem v696_eq : sl.v696 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 6 (by omega) (pc prev 10) (uc b 10) := by
  unfold sl.v696 sl.HS2_22 sl.r_44
  rw [readCov_up _ _ _ _ 6 (by omega)]
  simp only [View.readAt_eq_ld, Memref.IsWhole.read_unread, v679_eq, r_2_eq]
  exact congrArg₂ (shiftRows 6 (by omega)) (shapeCast_id _ _) (shapeCast_id _ _)

theorem v701_eq : sl.v701 c a1 e1 a2 e2 a3 e3 a4 e4 a5 e5 a6 e6 a7 e7 a8 e8 a9 e9 a10 e10 a11 e11 a12 e12 a13 e13 a14 e14 a24 a25 e25 b.x0 b.x1 b.x2 b.x3 b.x4 b.x5 b.x6 b.x7 b.x8 b.x9 b.x10 b.x11 b.x12 b.x13 prev = shiftRows 7 (by omega) (pc prev 10) (uc b 10) := by
  unfold sl.v701 sl.HS2_22 sl.r_44
  rw [readCov_up _ _ _ _ 7 (by omega)]
  simp only [View.readAt_eq_ld, Memref.IsWhole.read_unread, v679_eq, r_2_eq]
  exact congrArg₂ (shiftRows 7 (by omega)) (shapeCast_id _ _) (shapeCast_id _ _)

theorem v735_eq : sl.v735 c a1 e1 a2 e2 a3 e3 a4 e4 a5 e5 a6 e6 a7 e7 a8 e8 a9 e9 a10 e10 a11 e11 a12 e12 a13 e13 a14 e14 a15 e15 a16 e16 a17 e17 a18 e18 a23 a24 a25 e25 b.x0 b.x1 b.x2 b.x3 b.x4 b.x5 b.x6 b.x7 b.x8 b.x9 b.x10 b.x11 b.x12 b.x13 b.x14 b.x15 b.x16 b.x17 prev = acc b prev 11 (by omega) := by
  unfold sl.v735 sl.HS1_12 sl.r_45 sl.r_46 sl.r_47 sl.cst_420 sl.r_44
  rw [View.readCov_cons_toLoadRect]
  simp only [View.readAt_eq_ld, Memref.IsWhole.read_unread, v724_eq, r_2_eq, v696_eq, v701_eq]
  rfl

/-- The output block of the run. -/
theorem out_eq : out0_B_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev = out b prev := by
  unfold out0_B_20
  rw [View.read_writes_eq_canon _ _ _ (cover0_B_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev)]
  unfold kernelRun0_B
  dsimp only
  rw [View.canon_cons_unit_lit _ _ _ (by decide)]
  unfold sl.r_48 sl.r_49 sl.r_50 sl.r_51 sl.cst_443
  rw [v732_eq, v735_eq]
  simp only [View.readAt_eq_ld, Memref.IsWhole.read_unread]
  rw [View.ld_unit_lit, View.ld_unit_lit]
  · rfl
  all_goals decide

/-- What the run leaves in the carried rows. -/
theorem carry_eq : sout0_B_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev = carryAt b := by
  unfold sout0_B_3
  rw [View.read_writes_eq_canon _ _ _ (scover0_B_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 b.x0 b.x1 b.x2 b.x3 b.x4 b.x5 b.x6 b.x7 b.x8 b.x9 b.x10 b.x11 b.x12 b.x13 b.x14 b.x15 b.x16 b.x17 b.x18 b.x19 prev)]
  unfold kernelRun0_B
  dsimp only
  unfold sl.r_3 sl.r_10 sl.r_11 sl.r_15 sl.r_20 sl.r_24 sl.r_27 sl.r_32 sl.r_36 sl.r_40 sl.r_44
  simp only [View.readAt_eq_ld, Memref.IsWhole.read_unread, r_2_eq]
  funext y
  have hy0 : (y 0).val < 8 := (y 0).isLt
  have hy1 : (y 1).val < 2816 := (y 1).isLt
  refine View.canon_append_of_piecesOf (carryAt b) [] [_, _, _, _, _, _, _, _, _, _, _]
    ⟨fun x => ?_, fun x => ?_, fun x => ?_, fun x => ?_, fun x => ?_, fun x => ?_, fun x => ?_, fun x => ?_, fun x => ?_, fun x => ?_, fun x => ?_, trivial⟩ y ?_
  · exact Eq.trans (b := carry b 10 x) rfl (carryAt_eq b 10 x _ (by show 0 + 1 * (x 0).val = (x 0).val; omega) (by show 2560 + 1 * (x 1).val = 256 * 10 + (x 1).val; omega)).symm
  · exact Eq.trans (b := carry b 9 x) rfl (carryAt_eq b 9 x _ (by show 0 + 1 * (x 0).val = (x 0).val; omega) (by show 2304 + 1 * (x 1).val = 256 * 9 + (x 1).val; omega)).symm
  · exact Eq.trans (b := carry b 8 x) rfl (carryAt_eq b 8 x _ (by show 0 + 1 * (x 0).val = (x 0).val; omega) (by show 2048 + 1 * (x 1).val = 256 * 8 + (x 1).val; omega)).symm
  · exact Eq.trans (b := carry b 7 x) rfl (carryAt_eq b 7 x _ (by show 0 + 1 * (x 0).val = (x 0).val; omega) (by show 1792 + 1 * (x 1).val = 256 * 7 + (x 1).val; omega)).symm
  · exact Eq.trans (b := carry b 6 x) rfl (carryAt_eq b 6 x _ (by show 0 + 1 * (x 0).val = (x 0).val; omega) (by show 1536 + 1 * (x 1).val = 256 * 6 + (x 1).val; omega)).symm
  · exact Eq.trans (b := carry b 5 x) rfl (carryAt_eq b 5 x _ (by show 0 + 1 * (x 0).val = (x 0).val; omega) (by show 1280 + 1 * (x 1).val = 256 * 5 + (x 1).val; omega)).symm
  · exact Eq.trans (b := carry b 4 x) rfl (carryAt_eq b 4 x _ (by show 0 + 1 * (x 0).val = (x 0).val; omega) (by show 1024 + 1 * (x 1).val = 256 * 4 + (x 1).val; omega)).symm
  · exact Eq.trans (b := carry b 3 x) rfl (carryAt_eq b 3 x _ (by show 0 + 1 * (x 0).val = (x 0).val; omega) (by show 768 + 1 * (x 1).val = 256 * 3 + (x 1).val; omega)).symm
  · exact Eq.trans (b := carry b 2 x) rfl (carryAt_eq b 2 x _ (by show 0 + 1 * (x 0).val = (x 0).val; omega) (by show 512 + 1 * (x 1).val = 256 * 2 + (x 1).val; omega)).symm
  · exact Eq.trans (b := carry b 1 x) rfl (carryAt_eq b 1 x _ (by show 0 + 1 * (x 0).val = (x 0).val; omega) (by show 256 + 1 * (x 1).val = 256 * 1 + (x 1).val; omega)).symm
  · exact Eq.trans (b := carry b 0 x) rfl (carryAt_eq b 0 x _ (by show 0 + 1 * (x 0).val = (x 0).val; omega) (by show 0 + 1 * (x 1).val = 256 * 0 + (x 1).val; omega)).symm
  · have hk : (y 1).val / 256 < 11 := by omega
    generalize hq : (y 1).val / 256 = q at hk
    have hb : 256 * q ≤ (y 1).val ∧ (y 1).val < 256 * q + 256 := by omega
    clear hq
    interval_cases q
    · refine ⟨_, .tail _ (.tail _ (.tail _ (.tail _ (.tail _ (.tail _ (.tail _ (.tail _ (.tail _ (.tail _ (.head _)))))))))), ?_⟩
      rw [Rect.mem_set_unit]
      exact fun a => match a with
        | ⟨0, _⟩ => ⟨Nat.zero_le _, by show (y 0).val < 0 + 8; omega⟩
        | ⟨1, _⟩ => ⟨by show 0 ≤ (y 1).val; omega, by show (y 1).val < 0 + 256; omega⟩
    · refine ⟨_, .tail _ (.tail _ (.tail _ (.tail _ (.tail _ (.tail _ (.tail _ (.tail _ (.tail _ (.head _))))))))), ?_⟩
      rw [Rect.mem_set_unit]
      exact fun a => match a with
        | ⟨0, _⟩ => ⟨Nat.zero_le _, by show (y 0).val < 0 + 8; omega⟩
        | ⟨1, _⟩ => ⟨by show 256 ≤ (y 1).val; omega, by show (y 1).val < 256 + 256; omega⟩
    · refine ⟨_, .tail _ (.tail _ (.tail _ (.tail _ (.tail _ (.tail _ (.tail _ (.tail _ (.head _)))))))), ?_⟩
      rw [Rect.mem_set_unit]
      exact fun a => match a with
        | ⟨0, _⟩ => ⟨Nat.zero_le _, by show (y 0).val < 0 + 8; omega⟩
        | ⟨1, _⟩ => ⟨by show 512 ≤ (y 1).val; omega, by show (y 1).val < 512 + 256; omega⟩
    · refine ⟨_, .tail _ (.tail _ (.tail _ (.tail _ (.tail _ (.tail _ (.tail _ (.head _))))))), ?_⟩
      rw [Rect.mem_set_unit]
      exact fun a => match a with
        | ⟨0, _⟩ => ⟨Nat.zero_le _, by show (y 0).val < 0 + 8; omega⟩
        | ⟨1, _⟩ => ⟨by show 768 ≤ (y 1).val; omega, by show (y 1).val < 768 + 256; omega⟩
    · refine ⟨_, .tail _ (.tail _ (.tail _ (.tail _ (.tail _ (.tail _ (.head _)))))), ?_⟩
      rw [Rect.mem_set_unit]
      exact fun a => match a with
        | ⟨0, _⟩ => ⟨Nat.zero_le _, by show (y 0).val < 0 + 8; omega⟩
        | ⟨1, _⟩ => ⟨by show 1024 ≤ (y 1).val; omega, by show (y 1).val < 1024 + 256; omega⟩
    · refine ⟨_, .tail _ (.tail _ (.tail _ (.tail _ (.tail _ (.head _))))), ?_⟩
      rw [Rect.mem_set_unit]
      exact fun a => match a with
        | ⟨0, _⟩ => ⟨Nat.zero_le _, by show (y 0).val < 0 + 8; omega⟩
        | ⟨1, _⟩ => ⟨by show 1280 ≤ (y 1).val; omega, by show (y 1).val < 1280 + 256; omega⟩
    · refine ⟨_, .tail _ (.tail _ (.tail _ (.tail _ (.head _)))), ?_⟩
      rw [Rect.mem_set_unit]
      exact fun a => match a with
        | ⟨0, _⟩ => ⟨Nat.zero_le _, by show (y 0).val < 0 + 8; omega⟩
        | ⟨1, _⟩ => ⟨by show 1536 ≤ (y 1).val; omega, by show (y 1).val < 1536 + 256; omega⟩
    · refine ⟨_, .tail _ (.tail _ (.tail _ (.head _))), ?_⟩
      rw [Rect.mem_set_unit]
      exact fun a => match a with
        | ⟨0, _⟩ => ⟨Nat.zero_le _, by show (y 0).val < 0 + 8; omega⟩
        | ⟨1, _⟩ => ⟨by show 1792 ≤ (y 1).val; omega, by show (y 1).val < 1792 + 256; omega⟩
    · refine ⟨_, .tail _ (.tail _ (.head _)), ?_⟩
      rw [Rect.mem_set_unit]
      exact fun a => match a with
        | ⟨0, _⟩ => ⟨Nat.zero_le _, by show (y 0).val < 0 + 8; omega⟩
        | ⟨1, _⟩ => ⟨by show 2048 ≤ (y 1).val; omega, by show (y 1).val < 2048 + 256; omega⟩
    · refine ⟨_, .tail _ (.head _), ?_⟩
      rw [Rect.mem_set_unit]
      exact fun a => match a with
        | ⟨0, _⟩ => ⟨Nat.zero_le _, by show (y 0).val < 0 + 8; omega⟩
        | ⟨1, _⟩ => ⟨by show 2304 ≤ (y 1).val; omega, by show (y 1).val < 2304 + 256; omega⟩
    · refine ⟨_, .head _, ?_⟩
      rw [Rect.mem_set_unit]
      exact fun a => match a with
        | ⟨0, _⟩ => ⟨Nat.zero_le _, by show (y 0).val < 0 + 8; omega⟩
        | ⟨1, _⟩ => ⟨by show 2560 ≤ (y 1).val; omega, by show (y 1).val < 2560 + 256; omega⟩

/-- The same two facts over the twenty blocks one by one. -/
theorem out_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    out0_B_20 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 prev = out ⟨x0, x1, x2, x3, x4, x5, x6, x7, x8, x9, x10, x11, x12, x13, x14, x15, x16, x17, x18, x19⟩ prev := out_eq (b := ⟨x0, x1, x2, x3, x4, x5, x6, x7, x8, x9, x10, x11, x12, x13, x14, x15, x16, x17, x18, x19⟩) ..

theorem carry_eq' (x0 : Vec F S512x1024 .f32) (x1 : Vec F S512x512 .bf16) (x2 : Vec F S512x512 .bf16) (x3 : Vec F S512x512 .bf16) (x4 : Vec F S512x1024 .bf16) (x5 : Vec F S512x1024 .bf16) (x6 : Vec F S512x1024 .bf16) (x7 : Vec F S1x512x1024 .bf16) (x8 : Vec F S1x512x1024 .bf16) (x9 : Vec F S1x512x1024 .bf16) (x10 : Vec F S1x1024x1024 .bf16) (x11 : Vec F S1x1024 .f32) (x12 : Vec F S1x1024 .f32) (x13 : Vec F S1x1024x2816 .bf16) (x14 : Vec F S1x1024x2816 .bf16) (x15 : Vec F S3x2816 .f32) (x16 : Vec F S1x2816 .f32) (x17 : Vec F S1x2816x1024 .bf16) (x18 : Vec F S1x1024 .f32) (x19 : Vec F S1x1024 .f32) :
    sout0_B_3 c i a1 e1 a2 e2 a3 e3 a4 e4 a5 e5 a6 e6 a7 e7 a8 e8 a9 e9 a10 e10 a11 e11 a12 e12 a13 e13 a14 e14 a15 e15 a16 e16 a17 e17 a18 e18 a19 e19 a20 e20 a21 e21 a22 e22 a23 e23 a24 e24 a25 e25 hc0 x0 x1 x2 x3 x4 x5 x6 x7 x8 x9 x10 x11 x12 x13 x14 x15 x16 x17 x18 x19 prev = carryAt ⟨x0, x1, x2, x3, x4, x5, x6, x7, x8, x9, x10, x11, x12, x13, x14, x15, x16, x17, x18, x19⟩ := carry_eq (b := ⟨x0, x1, x2, x3, x4, x5, x6, x7, x8, x9, x10, x11, x12, x13, x14, x15, x16, x17, x18, x19⟩) ..

end Cert.Kernel6Ideal.Ffn.RunB

end
-- ==== Proof.FirstFfnValue.lean ====
/- The first layer's merge and feed-forward kernel's output array: row `8192 * s + p` is the layer's row for sequence `s`, position `p`.
   A tile that starts a sequence starts from zero carried rows; any other tile from the last rows of the tile before. -/
module

public import proofs.«01_k».proof.Proof.FirstFfnBlocks
public import proofs.«01_k».proof.Proof.FirstFfnRunA
public import proofs.«01_k».proof.Proof.FirstFfnRunB

@[expose] public section

set_option maxRecDepth 16384

noncomputable section

namespace Cert.Kernel6Ideal.Ffn

open Cert.Kernel6Ideal Cert.Kernel6Ideal.Gen Cert.FfnSpec Idealize.ShloMosaic Idealize.ShloMosaic.TcCoe Idealize.SL.Sem

variable (m : (ℓ : Loc nD τ sig) → Buf (Elt Ideal) ℓ) (c : Dev nD)

/-- The blocks of grid point `t`. -/
def blkAt (t : Fin cfg0.N) : Blk Ideal :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t, iblk m c 13 t, iblk m c 14 t, iblk m c 15 t, iblk m c 16 t, iblk m c 17 t, iblk m c 18 t, iblk m c 19 t⟩

/-- The launch's arguments as the layer's arrays. -/
def args : Args where
  x s p d := m ((c : Thread nD τ).loc main_arg0) (ix3 s p d)
  ya s p k := m ((c : Thread nD τ).loc main_arg1) (ix3 s p k)
  yb s p k := m ((c : Thread nD τ).loc main_arg2) (ix3 s p k)
  yc s p k := m ((c : Thread nD τ).loc main_arg3) (ix3 s p k)
  g t d := m ((c : Thread nD τ).loc main_arg4) (ix2 t d)
  wa k d := m ((c : Thread nD τ).loc main_arg5) (ix3 0 k d)
  wb k d := m ((c : Thread nD τ).loc main_arg6) (ix3 0 k d)
  wc k d := m ((c : Thread nD τ).loc main_arg7) (ix3 0 k d)
  wo k d := m ((c : Thread nD τ).loc main_arg8) (ix3 0 k d)
  g1 d := m ((c : Thread nD τ).loc main_arg9) (ix2 0 d)
  b1 d := m ((c : Thread nD τ).loc main_arg10) (ix2 0 d)
  wu k f := m ((c : Thread nD τ).loc main_arg11) (ix3 0 k f)
  cw i f := m ((c : Thread nD τ).loc main_arg12) (ix3 0 i f)
  cb f := m ((c : Thread nD τ).loc main_arg13) (ix2 0 f)
  wd f d := m ((c : Thread nD τ).loc main_arg14) (ix3 0 f d)
  g2 d := m ((c : Thread nD τ).loc main_arg15) (ix2 0 d)
  b2 d := m ((c : Thread nD τ).loc main_arg16) (ix2 0 d)

theorem flat_of (t : Fin cfg0.N) (r : Fin 512) : rowOf t r = flat (seqOf t r) (posOf t r) := by
  apply Fin.ext
  show 512 * t.val + r.val = 8192 * ((512 * t.val + r.val) / 8192) + (512 * t.val + r.val) % 8192
  omega

theorem hrow_eq (t : Fin cfg0.N) (r : Fin 512) : hrow (blkAt m c t) r = hid (args m c) (seqOf t r) (posOf t r) := by
  unfold hrow hid blkAt
  simp only [x0_apply, x1_apply, x2_apply, x3_apply, x4_apply, x5_apply, x6_apply, x7_apply, x8_apply, x9_apply, x10_apply, x11_apply, x12_apply, flat_of]
  rfl

theorem urow_eq (t : Fin cfg0.N) (r : Fin 512) (f : Fin 2816) : urow (blkAt m c t) r f = up (args m c) (seqOf t r) (posOf t r) f := by
  unfold urow up
  rw [hrow_eq]
  exact Finset.sum_congr rfl fun k _ => congrArg _ (x13_apply m c t k f)

theorem vrow_eq (t : Fin cfg0.N) (r : Fin 512) (f : Fin 2816) : vrow (blkAt m c t) r f = gateUp (args m c) (seqOf t r) (posOf t r) f := by
  unfold vrow gateUp
  rw [hrow_eq]
  exact Finset.sum_congr rfl fun k _ => congrArg _ (x14_apply m c t k f)

/-- The rows carried into grid point `t`. -/
def prevAt (t : Fin cfg0.N) : Vec Ideal S8x2816 .f32 :=
  if t.val % 16 = 0 then k0_pay8 (F := Ideal) else carryAt (blkAt m c ⟨t.val - 1, lt_of_le_of_lt (Nat.sub_le _ _) t.isLt⟩)

theorem outs_snd (t : Fin cfg0.N) : (outsAt0 m c t.val t.isLt).2 = carryAt (blkAt m c t) := by
  by_cases h0 : t.val % 16 = 0
  · rw [outsAt0_A m c t h0]
    dsimp only [blkAt]
    exact RunA.carry_eq' (F := Ideal) ..
  · rw [outsAt0_B m c t h0]
    dsimp only [blkAt]
    exact RunB.carry_eq' (F := Ideal) ..

theorem outs_fst (t : Fin cfg0.N) : (outsAt0 m c t.val t.isLt).1 = out (blkAt m c t) (prevAt m c t) := by
  unfold prevAt
  by_cases h0 : t.val % 16 = 0
  · rw [outsAt0_A m c t h0, if_pos h0]
    dsimp only [blkAt]
    exact RunA.out_eq' (F := Ideal) ..
  · rw [outsAt0_B m c t h0, if_neg h0, ← outs_snd]
    dsimp only [blkAt]
    exact RunB.out_eq' (F := Ideal) ..

/-- The row before a tile's first rows is the sequence's, or zero before its start. -/
theorem ushift_eq (t : Fin cfg0.N) (off : ℕ) (hoff : off ≤ 2) (r : Fin 512) (f : Fin 2816) :
    ushift (blkAt m c t) (prevAt m c t) (6 + off) (by omega) r f = upBack (args m c) off hoff (seqOf t r) (posOf t r) f := by
  have ht := tlt t
  have hr := r.isLt
  have hp : (posOf t r).val = (512 * t.val + r.val) % 8192 := rfl
  have hs : (seqOf t r).val = (512 * t.val + r.val) / 8192 := rfl
  unfold ushift upBack
  by_cases h : 6 + off + r.val < 8
  · rw [dif_pos h]
    unfold prevAt
    by_cases h0 : t.val % 16 = 0
    · rw [if_pos h0, dif_neg (by omega)]
      pointwise [k0_pay8]
    · rw [if_neg h0, dif_pos (by omega), carryAt_apply, urow_eq]
      congr 1
      · apply Fin.ext
        show (512 * (t.val - 1) + (504 + (6 + off + r.val))) / 8192 = (512 * t.val + r.val) / 8192
        omega
      · apply Fin.ext
        show (512 * (t.val - 1) + (504 + (6 + off + r.val))) % 8192 = off + (512 * t.val + r.val) % 8192 - 2
        omega
  · rw [dif_neg h, dif_pos (by omega), urow_eq]
    congr 1
    · apply Fin.ext
      show (512 * t.val + (6 + off + r.val - 8)) / 8192 = (512 * t.val + r.val) / 8192
      omega
    · apply Fin.ext
      show (512 * t.val + (6 + off + r.val - 8)) % 8192 = off + (512 * t.val + r.val) % 8192 - 2
      omega

theorem out_eq (t : Fin cfg0.N) (r : Fin 512) (d : Fin 1024) :
    out (blkAt m c t) (prevAt m c t) (ix2 r d) = layer (args m c) (seqOf t r) (posOf t r) d := by
  have ey : yrow (blkAt m c t) (prevAt m c t) r = hiddenRow (args m c) (seqOf t r) (posOf t r) := by
    funext f
    unfold yrow hiddenRow
    rw [ushift_eq m c t 0, ushift_eq m c t 1, urow_eq, vrow_eq]
    dsimp only [blkAt]
    simp only [x15_apply, x16_apply]
    rfl
  rw [out_apply, hrow_eq, ey]
  unfold blkAt layer
  simp only [x17_apply, x18_apply, x19_apply]
  rfl

/-- The output array at an index. -/
theorem final (i : S32768x1024.Idx) : Cert.Kernel6Ideal.Value.G20 m c i =
    layer (args m c) ⟨(i 0).val / 8192, by have h : (i 0).val < 32768 := (i 0).isLt; omega⟩ ⟨(i 0).val % 8192, by omega⟩ (i 1) := by
  have h0 : (i 0).val < 32768 := (i 0).isLt
  have h1 : (i 1).val < 1024 := (i 1).isLt
  have hN : cfg0.N = 64 := N_0
  have hp : Cert.Kernel6Ideal.Value.pt20Of i = (i 0).val / 512 := by
    show 1 * ((i 0).val / 512 - 0) + 1 * ((i 1).val / 1024 - 0) = _
    omega
  have hlt : Cert.Kernel6Ideal.Value.pt20Of i < cfg0.N := by rw [hp, hN]; omega
  unfold Cert.Kernel6Ideal.Value.G20
  rw [dif_pos hlt, ← Cert.Kernel6Ideal.Value.outsAt0_sweep m c _ hlt, outs_fst m c ⟨_, hlt⟩]
  have hl : Cert.Kernel6Ideal.Value.loc20Of i = ix2 (⟨(i 0).val % 512, Nat.mod_lt _ (by decide)⟩ : Fin 512) (⟨(i 1).val, h1⟩ : Fin 1024) := by
    funext a
    match a with
    | ⟨0, _⟩ => rfl
    | ⟨1, _⟩ => apply Fin.ext; show (i 1).val % 1024 = (i 1).val; omega
  rw [hl, out_eq]
  congr 1
  · apply Fin.ext
    show (512 * Cert.Kernel6Ideal.Value.pt20Of i + (i 0).val % 512) / 8192 = (i 0).val / 8192
    rw [hp]; omega
  · apply Fin.ext
    show (512 * Cert.Kernel6Ideal.Value.pt20Of i + (i 0).val % 512) % 8192 = (i 0).val % 8192
    rw [hp]; omega

end Cert.Kernel6Ideal.Ffn

end
-- ==== Proof.FirstFfnRef.lean ====
/- The first layer's merge and feed-forward reference, one operation at a time, read at an index: its result's row `8192 * s + p` is the
   layer's row for sequence `s`, position `p`. -/
module

public import proofs.«01_k».proof.Proof.FfnSpec
public import proofs.«01_k».proof.Proof.Gen.Reference6Ideal.Read

@[expose] public section

set_option maxRecDepth 16384

noncomputable section

namespace Cert.Reference6Ideal.Ffn

open Cert.Reference6Ideal Cert.Reference6Ideal.Gen Cert.Reference6Ideal.Read Cert.FfnSpec Idealize.ShloMosaic Idealize.ShloMosaic.TcCoe Idealize.SL.Sem

variable (x0 : FVec Ideal S4x8192x1024 .f32) (x1 x2 x3 : FVec Ideal S4x8192x512 .bf16) (x4 : FVec Ideal S32768x3072 .bf16)
  (x5 x6 x7 : FVec Ideal S2x512x1024 .f32) (x8 : FVec Ideal S2x1024x1024 .f32) (x9 x10 : FVec Ideal S2x1024 .f32)
  (x11 : FVec Ideal S2x1024x5632 .f32) (x12 : FVec Ideal S2x3x2816 .f32) (x13 : FVec Ideal S2x2816 .f32)
  (x14 : FVec Ideal S2x2816x1024 .f32) (x15 x16 : FVec Ideal S2x1024 .f32)

/-- The reference's arguments as the layer's arrays. -/
def args : Args where
  x s p d := x0 (ix3 s p d)
  ya s p k := x1 (ix3 s p k)
  yb s p k := x2 (ix3 s p k)
  yc s p k := x3 (ix3 s p k)
  g t d := x4 (ix2 t d)
  wa k d := x5 (ix3 0 k d)
  wb k d := x6 (ix3 0 k d)
  wc k d := x7 (ix3 0 k d)
  wo k d := x8 (ix3 0 k d)
  g1 d := x9 (ix2 0 d)
  b1 d := x10 (ix2 0 d)
  wu k f := x11 (ix3 0 k f)
  cw i f := x12 (ix3 0 i f)
  cb f := x13 (ix2 0 f)
  wd f d := x14 (ix3 0 f d)
  g2 d := x15 (ix2 0 d)
  b2 d := x16 (ix2 0 d)

theorem flat_spelt (s : Fin 4) (p : Fin 8192) (h : s.val * 8192 + p.val < 32768) : (⟨s.val * 8192 + p.val, h⟩ : Fin 32768) = flat s p := by
  apply Fin.ext
  show s.val * 8192 + p.val = 8192 * s.val + p.val
  omega

theorem gate_apply (s : Fin 4) (p : Fin 8192) (k : Fin 3) (d : Fin 1024) :
    val_main_v7 (F := Ideal) x4 (ix4 s p k d) = Ideal.logistic (x4 (ix2 (flat s p) ⟨k.val * 1024 + d.val, by omega⟩)) := by
  unfold Ideal.logistic
  rw [← flat_spelt s p (by omega)]
  pointwise [val_main_v0, val_main_v1, val_main_v2, val_main_v3, val_main_v4, val_main_v5, val_main_v6, val_main_v7, val_main_cst, val_main_cst_0]

theorem merged_apply (s : Fin 4) (p : Fin 8192) (d : Fin 1024) :
    val_main_v30 (F := Ideal) x1 x2 x3 x4 x5 x6 x7 (ix3 s p d) =
    merge (fun d => x4 (ix2 (flat s p) ⟨d.val, by omega⟩)) (fun d => x4 (ix2 (flat s p) ⟨1024 + d.val, by omega⟩)) (fun d => x4 (ix2 (flat s p) ⟨2048 + d.val, by omega⟩))
      (fun k => x1 (ix3 s p k)) (fun k => x2 (ix3 s p k)) (fun k => x3 (ix3 s p k)) (fun k d => x5 (ix3 0 k d)) (fun k d => x6 (ix3 0 k d)) (fun k d => x7 (ix3 0 k d)) d := by
  have e0 : val_main_v9 (F := Ideal) x4 (ix3 s p d) = val_main_v7 (F := Ideal) x4 (ix4 s p 0 d) := by
    pointwise [val_main_v9, val_main_v8]
  have e1 : val_main_v16 (F := Ideal) x4 (ix3 s p d) = val_main_v7 (F := Ideal) x4 (ix4 s p 1 d) := by
    pointwise [val_main_v16, val_main_v15]
  have e2 : val_main_v24 (F := Ideal) x4 (ix3 s p d) = val_main_v7 (F := Ideal) x4 (ix4 s p 2 d) := by
    pointwise [val_main_v24, val_main_v23]
  have d0 : val_main_v13 (F := Ideal) x1 x5 (ix3 s p d) = ∑ k, x1 (ix3 s p k) * x5 (ix3 0 k d) := by
    pointwise [val_main_v10, val_main_v11, val_main_v12, val_main_v13]
  have d1 : val_main_v20 (F := Ideal) x2 x6 (ix3 s p d) = ∑ k, x2 (ix3 s p k) * x6 (ix3 0 k d) := by
    pointwise [val_main_v17, val_main_v18, val_main_v19, val_main_v20]
  have d2 : val_main_v28 (F := Ideal) x3 x7 (ix3 s p d) = ∑ k, x3 (ix3 s p k) * x7 (ix3 0 k d) := by
    pointwise [val_main_v25, val_main_v26, val_main_v27, val_main_v28]
  show val_main_v9 (F := Ideal) x4 (ix3 s p d) * val_main_v13 (F := Ideal) x1 x5 (ix3 s p d)
    + val_main_v16 (F := Ideal) x4 (ix3 s p d) * val_main_v20 (F := Ideal) x2 x6 (ix3 s p d)
    + val_main_v24 (F := Ideal) x4 (ix3 s p d) * val_main_v28 (F := Ideal) x3 x7 (ix3 s p d) = _
  rw [e0, e1, e2, d0, d1, d2, gate_apply, gate_apply, gate_apply]
  unfold merge
  refine congrArg₂ (· + ·) (congrArg₂ (· + ·) (congrArg₂ (· * ·) (congrArg (fun q => Ideal.logistic (x4 (ix2 (flat s p) q))) (Fin.ext ?_)) rfl) rfl) rfl
  show 0 * 1024 + d.val = d.val
  omega

theorem resid_apply (s : Fin 4) (p : Fin 8192) (d : Fin 1024) :
    val_main_v36 (F := Ideal) x0 x1 x2 x3 x4 x5 x6 x7 x8 (ix3 s p d) =
    resid (fun d => x0 (ix3 s p d)) (fun k => val_main_v30 (F := Ideal) x1 x2 x3 x4 x5 x6 x7 (ix3 s p k)) (fun k d => x8 (ix3 0 k d)) d := by
  unfold resid alpha
  pointwise [val_main_v31, val_main_v32, val_main_v33, val_main_v34, val_main_v35, val_main_v36, val_main_cst_1]

theorem norm1_apply (s : Fin 4) (p : Fin 8192) (d : Fin 1024) :
    val_main_v64 (F := Ideal) x0 x1 x2 x3 x4 x5 x6 x7 x8 x9 x10 (ix3 s p d) =
    lnorm (fun d => val_main_v36 (F := Ideal) x0 x1 x2 x3 x4 x5 x6 x7 x8 (ix3 s p d)) (fun d => x9 (ix2 0 d)) (fun d => x10 (ix2 0 d)) d := by
  unfold lnorm mean
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_cst_2, val_main_cst_3, val_main_cst_4, val_main_cst_5, val_main_cst_6]

theorem hid_apply (s : Fin 4) (p : Fin 8192) (d : Fin 1024) :
    val_main_v64 (F := Ideal) x0 x1 x2 x3 x4 x5 x6 x7 x8 x9 x10 (ix3 s p d) = hid (args x0 x1 x2 x3 x4 x5 x6 x7 x8 x9 x10 x11 x12 x13 x14 x15 x16) s p d := by
  have e : (fun d => val_main_v36 (F := Ideal) x0 x1 x2 x3 x4 x5 x6 x7 x8 (ix3 s p d)) = resid (fun d => x0 (ix3 s p d)) _ (fun k d => x8 (ix3 0 k d)) :=
    funext fun d => resid_apply x0 x1 x2 x3 x4 x5 x6 x7 x8 s p d
  have e' : (fun k => val_main_v30 (F := Ideal) x1 x2 x3 x4 x5 x6 x7 (ix3 s p k)) = _ := funext fun k => merged_apply x1 x2 x3 x4 x5 x6 x7 s p k
  rw [norm1_apply, e, e']
  rfl

theorem proj_apply (s : Fin 4) (p : Fin 8192) (f : Fin 5632) :
    val_main_v67 (F := Ideal) x0 x1 x2 x3 x4 x5 x6 x7 x8 x9 x10 x11 (ix3 s p f) = ∑ k, hid (args x0 x1 x2 x3 x4 x5 x6 x7 x8 x9 x10 x11 x12 x13 x14 x15 x16) s p k * x11 (ix3 0 k f) := by
  have e : val_main_v67 (F := Ideal) x0 x1 x2 x3 x4 x5 x6 x7 x8 x9 x10 x11 (ix3 s p f) = ∑ k, val_main_v64 (F := Ideal) x0 x1 x2 x3 x4 x5 x6 x7 x8 x9 x10 (ix3 s p k) * x11 (ix3 0 k f) := by
    pointwise [val_main_v65, val_main_v66, val_main_v67]
  rw [e]
  exact Finset.sum_congr rfl fun k _ => congrArg (· * x11 (ix3 0 k f)) (hid_apply x0 x1 x2 x3 x4 x5 x6 x7 x8 x9 x10 x11 x12 x13 x14 x15 x16 s p k)

theorem up_apply (s : Fin 4) (p : Fin 8192) (f : Fin 2816) :
    val_main_v68 (F := Ideal) x0 x1 x2 x3 x4 x5 x6 x7 x8 x9 x10 x11 (ix3 s p f) = up (args x0 x1 x2 x3 x4 x5 x6 x7 x8 x9 x10 x11 x12 x13 x14 x15 x16) s p f := by
  have e : val_main_v68 (F := Ideal) x0 x1 x2 x3 x4 x5 x6 x7 x8 x9 x10 x11 (ix3 s p f) = val_main_v67 (F := Ideal) x0 x1 x2 x3 x4 x5 x6 x7 x8 x9 x10 x11 (ix3 s p ⟨f.val, by omega⟩) := by
    pointwise [val_main_v68]
  rw [e, proj_apply x0 x1 x2 x3 x4 x5 x6 x7 x8 x9 x10 x11 x12 x13 x14 x15 x16]
  rfl

theorem gateUp_apply (s : Fin 4) (p : Fin 8192) (f : Fin 2816) :
    val_main_v69 (F := Ideal) x0 x1 x2 x3 x4 x5 x6 x7 x8 x9 x10 x11 (ix3 s p f) = gateUp (args x0 x1 x2 x3 x4 x5 x6 x7 x8 x9 x10 x11 x12 x13 x14 x15 x16) s p f := by
  have e : val_main_v69 (F := Ideal) x0 x1 x2 x3 x4 x5 x6 x7 x8 x9 x10 x11 (ix3 s p f) = val_main_v67 (F := Ideal) x0 x1 x2 x3 x4 x5 x6 x7 x8 x9 x10 x11 (ix3 s p ⟨2816 + f.val, by omega⟩) := by
    pointwise [val_main_v69]
  rw [e, proj_apply x0 x1 x2 x3 x4 x5 x6 x7 x8 x9 x10 x11 x12 x13 x14 x15 x16]
  rfl

theorem zero_i32 : (FloatOps.sitofp FTy.f32 0#32 : Ideal FTy.f32) = (0 : EReal) := by
  show ((((0#32 : BitVec 32).toInt : ℤ) : ℝ) : EReal) = 0
  simp

/-- The padded rows: two rows of zeros, then the up projection's. -/
theorem pad_apply (s : Fin 4) (q : Fin 8194) (f : Fin 2816) :
    val_main_v70 (F := Ideal) x0 x1 x2 x3 x4 x5 x6 x7 x8 x9 x10 x11 (ix3 s q f) = if h : 2 ≤ q.val then up (args x0 x1 x2 x3 x4 x5 x6 x7 x8 x9 x10 x11 x12 x13 x14 x15 x16) s ⟨q.val - 2, by omega⟩ f else 0 := by
  have e : val_main_v70 (F := Ideal) x0 x1 x2 x3 x4 x5 x6 x7 x8 x9 x10 x11 (ix3 s q f) =
      if h : 2 ≤ q.val ∧ q.val - 2 < 8192 then val_main_v68 (F := Ideal) x0 x1 x2 x3 x4 x5 x6 x7 x8 x9 x10 x11 (ix3 s ⟨q.val - 2, h.2⟩ f) else (FloatOps.sitofp FTy.f32 0#32 : Ideal FTy.f32) := by
    pointwise [val_main_v70, val_main_call0_v0, val_main_c]
  rw [e]
  by_cases h : 2 ≤ q.val
  · rw [dif_pos ⟨h, by omega⟩, dif_pos h, up_apply x0 x1 x2 x3 x4 x5 x6 x7 x8 x9 x10 x11 x12 x13 x14 x15 x16]
  · rw [dif_neg (fun h' => h h'.1), dif_neg h, zero_i32]

theorem conv_apply (s : Fin 4) (p : Fin 8192) (f : Fin 2816) :
    val_main_v95 (F := Ideal) x0 x1 x2 x3 x4 x5 x6 x7 x8 x9 x10 x11 x12 x13 (ix3 s p f) =
    conv (upBack (args x0 x1 x2 x3 x4 x5 x6 x7 x8 x9 x10 x11 x12 x13 x14 x15 x16) 0 (by omega) s p f) (upBack (args x0 x1 x2 x3 x4 x5 x6 x7 x8 x9 x10 x11 x12 x13 x14 x15 x16) 1 (by omega) s p f) (up (args x0 x1 x2 x3 x4 x5 x6 x7 x8 x9 x10 x11 x12 x13 x14 x15 x16) s p f)
      (x12 (ix3 0 0 f)) (x12 (ix3 0 1 f)) (x12 (ix3 0 2 f)) (x13 (ix2 0 f)) := by
  have s0 : val_main_v73 (F := Ideal) x0 x1 x2 x3 x4 x5 x6 x7 x8 x9 x10 x11 (ix3 s p f) = upBack (args x0 x1 x2 x3 x4 x5 x6 x7 x8 x9 x10 x11 x12 x13 x14 x15 x16) 0 (by omega) s p f := by
    have e : val_main_v73 (F := Ideal) x0 x1 x2 x3 x4 x5 x6 x7 x8 x9 x10 x11 (ix3 s p f) = val_main_v70 (F := Ideal) x0 x1 x2 x3 x4 x5 x6 x7 x8 x9 x10 x11 (ix3 s ⟨p.val, by omega⟩ f) := by
      pointwise [val_main_v73]
    rw [e, pad_apply x0 x1 x2 x3 x4 x5 x6 x7 x8 x9 x10 x11 x12 x13 x14 x15 x16]
    unfold upBack
    simp only [Nat.zero_add]
  have s1 : val_main_v82 (F := Ideal) x0 x1 x2 x3 x4 x5 x6 x7 x8 x9 x10 x11 (ix3 s p f) = upBack (args x0 x1 x2 x3 x4 x5 x6 x7 x8 x9 x10 x11 x12 x13 x14 x15 x16) 1 (by omega) s p f := by
    have e : val_main_v82 (F := Ideal) x0 x1 x2 x3 x4 x5 x6 x7 x8 x9 x10 x11 (ix3 s p f) = val_main_v70 (F := Ideal) x0 x1 x2 x3 x4 x5 x6 x7 x8 x9 x10 x11 (ix3 s ⟨1 + p.val, by omega⟩ f) := by
      pointwise [val_main_v82]
    rw [e, pad_apply x0 x1 x2 x3 x4 x5 x6 x7 x8 x9 x10 x11 x12 x13 x14 x15 x16]
    rfl
  have s2 : val_main_v89 (F := Ideal) x0 x1 x2 x3 x4 x5 x6 x7 x8 x9 x10 x11 (ix3 s p f) = up (args x0 x1 x2 x3 x4 x5 x6 x7 x8 x9 x10 x11 x12 x13 x14 x15 x16) s p f := by
    have e : val_main_v89 (F := Ideal) x0 x1 x2 x3 x4 x5 x6 x7 x8 x9 x10 x11 (ix3 s p f) = val_main_v70 (F := Ideal) x0 x1 x2 x3 x4 x5 x6 x7 x8 x9 x10 x11 (ix3 s ⟨2 + p.val, by omega⟩ f) := by
      pointwise [val_main_v89]
    rw [e, pad_apply x0 x1 x2 x3 x4 x5 x6 x7 x8 x9 x10 x11 x12 x13 x14 x15 x16, dif_pos (show 2 ≤ 2 + p.val by omega)]
    congr 1
    apply Fin.ext
    show 2 + p.val - 2 = p.val
    omega
  have w0 : val_main_v77 (F := Ideal) x12 (ix3 s p f) = x12 (ix3 0 0 f) := by
    pointwise [val_main_v74, val_main_v75, val_main_v76, val_main_v77]
  have w1 : val_main_v86 (F := Ideal) x12 (ix3 s p f) = x12 (ix3 0 1 f) := by
    pointwise [val_main_v83, val_main_v84, val_main_v85, val_main_v86]
  have w2 : val_main_v93 (F := Ideal) x12 (ix3 s p f) = x12 (ix3 0 2 f) := by
    pointwise [val_main_v90, val_main_v91, val_main_v92, val_main_v93]
  have b : val_main_v80 (F := Ideal) x13 (ix3 s p f) = x13 (ix2 0 f) := by
    pointwise [val_main_v71, val_main_v72, val_main_v79, val_main_v80]
  show val_main_v80 (F := Ideal) x13 (ix3 s p f) + val_main_v73 (F := Ideal) x0 x1 x2 x3 x4 x5 x6 x7 x8 x9 x10 x11 (ix3 s p f) * val_main_v77 (F := Ideal) x12 (ix3 s p f)
    + val_main_v82 (F := Ideal) x0 x1 x2 x3 x4 x5 x6 x7 x8 x9 x10 x11 (ix3 s p f) * val_main_v86 (F := Ideal) x12 (ix3 s p f)
    + val_main_v89 (F := Ideal) x0 x1 x2 x3 x4 x5 x6 x7 x8 x9 x10 x11 (ix3 s p f) * val_main_v93 (F := Ideal) x12 (ix3 s p f) = _
  rw [s0, s1, s2, w0, w1, w2, b]
  rfl

theorem hidden_apply (s : Fin 4) (p : Fin 8192) (f : Fin 2816) :
    val_main_v109 (F := Ideal) x0 x1 x2 x3 x4 x5 x6 x7 x8 x9 x10 x11 x12 x13 (ix3 s p f) = hiddenRow (args x0 x1 x2 x3 x4 x5 x6 x7 x8 x9 x10 x11 x12 x13 x14 x15 x16) s p f := by
  have e : val_main_v109 (F := Ideal) x0 x1 x2 x3 x4 x5 x6 x7 x8 x9 x10 x11 x12 x13 (ix3 s p f) =
      gelu (val_main_v95 (F := Ideal) x0 x1 x2 x3 x4 x5 x6 x7 x8 x9 x10 x11 x12 x13 (ix3 s p f)) * val_main_v69 (F := Ideal) x0 x1 x2 x3 x4 x5 x6 x7 x8 x9 x10 x11 (ix3 s p f) := by
    unfold gelu
    rw [← mul_assoc (val_main_v95 (F := Ideal) x0 x1 x2 x3 x4 x5 x6 x7 x8 x9 x10 x11 x12 x13 (ix3 s p f)) (val_main_v95 (F := Ideal) x0 x1 x2 x3 x4 x5 x6 x7 x8 x9 x10 x11 x12 x13 (ix3 s p f)) (val_main_v95 (F := Ideal) x0 x1 x2 x3 x4 x5 x6 x7 x8 x9 x10 x11 x12 x13 (ix3 s p f))]
    pointwise [val_main_v96, val_main_v97, val_main_v98, val_main_v99, val_main_v100, val_main_v101, val_main_v102, val_main_v103, val_main_v104, val_main_v105, val_main_v106, val_main_v107, val_main_v108, val_main_v109, val_main_cst_7, val_main_cst_8, val_main_cst_9, val_main_cst_10]
  rw [e, conv_apply x0 x1 x2 x3 x4 x5 x6 x7 x8 x9 x10 x11 x12 x13 x14 x15 x16, gateUp_apply x0 x1 x2 x3 x4 x5 x6 x7 x8 x9 x10 x11 x12 x13 x14 x15 x16]
  rfl

theorem resid2_apply (s : Fin 4) (p : Fin 8192) (d : Fin 1024) :
    val_main_v115 (F := Ideal) x0 x1 x2 x3 x4 x5 x6 x7 x8 x9 x10 x11 x12 x13 x14 (ix3 s p d) =
    alpha * hid (args x0 x1 x2 x3 x4 x5 x6 x7 x8 x9 x10 x11 x12 x13 x14 x15 x16) s p d + ∑ f, hiddenRow (args x0 x1 x2 x3 x4 x5 x6 x7 x8 x9 x10 x11 x12 x13 x14 x15 x16) s p f * x14 (ix3 0 f d) := by
  have e : val_main_v115 (F := Ideal) x0 x1 x2 x3 x4 x5 x6 x7 x8 x9 x10 x11 x12 x13 x14 (ix3 s p d) =
      alpha * val_main_v64 (F := Ideal) x0 x1 x2 x3 x4 x5 x6 x7 x8 x9 x10 (ix3 s p d) + ∑ f, val_main_v109 (F := Ideal) x0 x1 x2 x3 x4 x5 x6 x7 x8 x9 x10 x11 x12 x13 (ix3 s p f) * x14 (ix3 0 f d) := by
    unfold alpha
    pointwise [val_main_v110, val_main_v111, val_main_v112, val_main_v113, val_main_v114, val_main_v115, val_main_cst_11]
  rw [e, hid_apply x0 x1 x2 x3 x4 x5 x6 x7 x8 x9 x10 x11 x12 x13 x14 x15 x16]
  exact congrArg _ (Finset.sum_congr rfl fun f _ => congrArg (· * x14 (ix3 0 f d)) (hidden_apply x0 x1 x2 x3 x4 x5 x6 x7 x8 x9 x10 x11 x12 x13 x14 x15 x16 s p f))

theorem layer_apply (s : Fin 4) (p : Fin 8192) (d : Fin 1024) :
    val_main_v143 (F := Ideal) x0 x1 x2 x3 x4 x5 x6 x7 x8 x9 x10 x11 x12 x13 x14 x15 x16 (ix3 s p d) = layer (args x0 x1 x2 x3 x4 x5 x6 x7 x8 x9 x10 x11 x12 x13 x14 x15 x16) s p d := by
  have e : val_main_v143 (F := Ideal) x0 x1 x2 x3 x4 x5 x6 x7 x8 x9 x10 x11 x12 x13 x14 x15 x16 (ix3 s p d) =
      lnorm (fun d => val_main_v115 (F := Ideal) x0 x1 x2 x3 x4 x5 x6 x7 x8 x9 x10 x11 x12 x13 x14 (ix3 s p d)) (fun d => x15 (ix2 0 d)) (fun d => x16 (ix2 0 d)) d := by
    unfold lnorm mean
    pointwise [val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_cst_12, val_main_cst_13, val_main_cst_14, val_main_cst_15, val_main_cst_16]
  have e' : (fun d => val_main_v115 (F := Ideal) x0 x1 x2 x3 x4 x5 x6 x7 x8 x9 x10 x11 x12 x13 x14 (ix3 s p d)) = _ := funext fun d => resid2_apply x0 x1 x2 x3 x4 x5 x6 x7 x8 x9 x10 x11 x12 x13 x14 x15 x16 s p d
  rw [e, e']
  rfl

/-- The reference's result at an index. -/
theorem final (i : S32768x1024.Idx) : val_main_v144 (F := Ideal) x0 x1 x2 x3 x4 x5 x6 x7 x8 x9 x10 x11 x12 x13 x14 x15 x16 i =
    layer (args x0 x1 x2 x3 x4 x5 x6 x7 x8 x9 x10 x11 x12 x13 x14 x15 x16) ⟨(i 0).val / 8192, by have h : (i 0).val < 32768 := (i 0).isLt; omega⟩ ⟨(i 0).val % 8192, by omega⟩ (⟨(i 1).val, (i 1).isLt⟩ : Fin 1024) := by
  rw [← layer_apply]
  idx_vars i
  pointwise [val_main_v144]

end Cert.Reference6Ideal.Ffn

end
-- ==== Proof.FirstFfnClaim.lean ====
/- The first layer's merge and feed-forward kernel and its reference, from the same arguments, leave the same result. -/
module

public import proofs.«01_k».proof.Defs
public import proofs.«01_k».proof.Proof.FirstFfnValue
public import proofs.«01_k».proof.Proof.FirstFfnRef

@[expose] public section

set_option maxRecDepth 16384

noncomputable section

namespace Cert.Proof

open Idealize.ShloMosaic Idealize.ShloMosaic.TcCoe Idealize.SL.Sem

theorem first_ffn_algebraic : Cert.algebraic_Kernel6Ideal_Reference6Ideal (hKernel6Ideal := Cert.Kernel6Ideal.Gen.facts) (hReference6Ideal := Cert.Reference6Ideal.Gen.facts) := by
  intro m g m' g' _ hagree
  refine ⟨fun c => Cert.Kernel6Ideal.Value.G20 m c, Cert.Kernel6Ideal.Value.run m g, ?_⟩
  refine (θ_run Cert.Reference6Ideal.defs _ _).mono (fun r h c => ⟨?_, (h c).2⟩) (Cert.Reference6Ideal.Value.run m' g')
  rw [(h c).1, Cert.Reference6Ideal.Read.val_main_v144_eq]
  funext i
  refine Eq.trans ?_ (Cert.Kernel6Ideal.Ffn.final m c i).symm
  refine (Cert.Reference6Ideal.Ffn.final _ _ _ _ _ _ _ _ _ _ _ _ _ _ _ _ _ i).trans ?_
  obtain ⟨e0, e1, e2, e3, e4, e5, e6, e7, e8, e9, e10, e11, e12, e13, e14, e15, e16⟩ := hagree c
  simp only [StableHlo.launchContents_devRef, e0, e1, e2, e3, e4, e5, e6, e7, e8, e9, e10, e11, e12, e13, e14, e15, e16]
  rfl

end Cert.Proof

end
-- ==== Proof.ProjSpec.lean ====
/- The arithmetic of the input projection on one row, over plain functions: the order the columns of its result have,
   and the value a column takes. Both the kernel and the reference are read as these functions. -/
module

public import proofs.«01_k».proof.Proof.FfnSpec

@[expose] public section

noncomputable section

namespace Cert.ProjSpec

open Idealize.ShloMosaic

/-- The weights' column that column `n` of the branches' result is the projection onto; 7448 where the result is padding. -/
def source (n : ℕ) : ℕ :=
  if n < 2560 then n
  else if n < 3584 then n + 792
  else if n < 4352 then n - 1024
  else if n < 4364 then n - 1024
  else if n < 4480 then 7448
  else if n < 4492 then n - 1140
  else 7448

/-- The entry `s` of a row of 7448 entries, zero past its end. -/
def entry (w : Fin 7448 → EReal) (s : ℕ) : EReal := if h : s < 7448 then w ⟨s, h⟩ else 0

/-- Column `n` of the kernel's weights: the merge gates' columns first, then the branches'. -/
def moved (n : ℕ) : ℕ := if n < 3072 then 4376 + n else source (n - 3072)

theorem entry_of_lt (w : Fin 7448 → EReal) (s : ℕ) (h : s < 7448) : entry w s = w ⟨s, h⟩ := dif_pos h

theorem entry_pad (w : Fin 7448 → EReal) (s : ℕ) (h : ¬ s < 7448) : entry w s = 0 := dif_neg h

theorem moved_gate (n : ℕ) (h : n < 3072) : moved n = 4376 + n := if_pos h

theorem moved_branch (n : ℕ) : moved (3072 + n) = source n := by
  unfold moved
  rw [if_neg (by omega), show 3072 + n - 3072 = n by omega]

/-- The arrays the projection reads, the weights and the bias at the layer's own index. -/
structure Args where
  x : Fin 4 → Fin 8192 → Fin 1024 → EReal
  g : Fin 1024 → EReal
  b : Fin 1024 → EReal
  w : Fin 1024 → Fin 7448 → EReal
  bias : Fin 7448 → EReal

/-- The layer norm's row for sequence `s`, position `p`. -/
def rowNorm (A : Args) (s : Fin 4) (p : Fin 8192) : Fin 1024 → EReal := FfnSpec.lnorm (A.x s p) A.g A.b

/-- The projection of that row onto column `q` of the weights; zero past the last column. -/
def project (A : Args) (s : Fin 4) (p : Fin 8192) (q : ℕ) : EReal := ∑ k, rowNorm A s p k * entry (A.w k) q + entry A.bias q

theorem project_pad (A : Args) (s : Fin 4) (p : Fin 8192) (q : ℕ) (h : ¬ q < 7448) : project A s p q = 0 := by
  unfold project
  simp only [entry_pad _ q h, mul_zero, Finset.sum_const_zero, add_zero]

theorem project_col (A : Args) (s : Fin 4) (p : Fin 8192) (q : ℕ) (h : q < 7448) :
    project A s p q = ∑ k, rowNorm A s p k * A.w k ⟨q, h⟩ + A.bias ⟨q, h⟩ := by
  unfold project
  simp only [entry_of_lt _ q h]

/-- The sequence and the position a row of the flattened batch belongs to. -/
def seqIx (i : Fin 32768) : Fin 4 := ⟨i.val / 8192, by omega⟩
def posIx (i : Fin 32768) : Fin 8192 := ⟨i.val % 8192, by omega⟩

end Cert.ProjSpec

end
-- ==== Proof.ProjHost.lean ====
/- The weights and biases of the input projection as the kernel's host code prepares them: slices of the launch
   arguments and zero padding laid side by side. -/
module

public import proofs.«01_k».proof.Proof.Gen.Kernel3Ideal.Value
public import proofs.«01_k».proof.Proof.ProjSpec
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel3Ideal.Proj

open Cert.Kernel3Ideal Cert.Kernel3Ideal.Gen Cert.ProjSpec Idealize.ShloMosaic Idealize.ShloMosaic.TcCoe Idealize.SL.Sem

variable (m : (ℓ : Loc nD τ sig) → Buf (Elt Ideal) ℓ) (c : Dev nD) (σ : Valuation τ sig (Elt Ideal))

/-- `a` is the entry `s` of a row of 7448 entries, zero past its end. -/
def IsEntry (w : Fin 7448 → EReal) (s : ℕ) (a : EReal) : Prop := (∀ h : s < 7448, a = w ⟨s, h⟩) ∧ (¬ s < 7448 → a = 0)

theorem IsEntry.eq {w : Fin 7448 → EReal} {s : ℕ} {a : EReal} (h : IsEntry w s a) : a = entry w s := by
  by_cases hs : s < 7448
  · rw [entry_of_lt w _ hs]; exact h.1 hs
  · rw [entry_pad w _ hs]; exact h.2 hs

theorem IsEntry.either {w : Fin 7448 → EReal} {s : ℕ} {p : Prop} [Decidable p] {t : p → EReal} {e : ¬ p → EReal}
    (ht : ∀ h, IsEntry w s (t h)) (he : ∀ h, IsEntry w s (e h)) : IsEntry w s (if h : p then t h else e h) := by
  by_cases h : p
  · rw [dif_pos h]; exact ht h
  · rw [dif_neg h]; exact he h

theorem IsEntry.here {w : Fin 7448 → EReal} {s k : ℕ} (hk : k < 7448) (e : s = k) : IsEntry w s (w ⟨k, hk⟩) := by
  subst e
  exact ⟨fun _ => rfl, fun h => absurd hk h⟩

theorem IsEntry.pad {w : Fin 7448 → EReal} {s : ℕ} (e : 7448 ≤ s) : IsEntry w s 0 :=
  ⟨fun h => absurd h (by omega), fun _ => rfl⟩

def bCat (a0 : Vec Ideal S2x3072 .f32) (a1 : Vec Ideal S2x512 .f32) (a2 : Vec Ideal S2x512 .f32) (a3 : Vec Ideal S2x512 .f32) (a4 : Vec Ideal S2x512 .f32) (a5 : Vec Ideal S2x512 .f32) (a6 : Vec Ideal S2x512 .f32) (a7 : Vec Ideal S2x512 .f32) (a8 : Vec Ideal S2x128 .f32) (a9 : Vec Ideal S2x128 .f32) (a10 : Vec Ideal S2x128 .f32) (a11 : Vec Ideal S2x128 .f32) (a12 : Vec Ideal S2x128 .f32) (a13 : Vec Ideal S2x128 .f32) (a14 : Vec Ideal S2x12 .f32) (a15 : Vec Ideal S2x116 .f32) (a16 : Vec Ideal S2x12 .f32) (a17 : Vec Ideal S2x116 .f32) : Vec Ideal S2x7680 .f32 :=
  concatenate S2x7680 1 [⟨S2x7552, (concatenate S2x7552 1 [⟨S2x3072, a0⟩, ⟨S2x512, a1⟩, ⟨S2x512, a2⟩, ⟨S2x512, a3⟩, ⟨S2x512, a4⟩, ⟨S2x512, a5⟩, ⟨S2x512, a6⟩, ⟨S2x512, a7⟩, ⟨S2x128, a8⟩, ⟨S2x128, a9⟩, ⟨S2x128, a10⟩, ⟨S2x128, a11⟩, ⟨S2x128, a12⟩, ⟨S2x128, a13⟩, ⟨S2x12, a14⟩, ⟨S2x116, a15⟩] concatenates_S2x3072_S2x512_S2x512_S2x512_S2x512_S2x512_S2x512_S2x512_S2x128_S2x128_S2x128_S2x128_S2x128_S2x128_S2x12_S2x116_S2x7552_d1 : Vec Ideal S2x7552 .f32)⟩,
    ⟨S2x128, (concatenate S2x128 1 [⟨S2x12, a16⟩, ⟨S2x116, a17⟩] concatenates_S2x12_S2x116_S2x128_d1 : Vec Ideal S2x128 .f32)⟩] concatenates_S2x7552_S2x128_S2x7680_d1

theorem bCat_read : StableHlo.after (List.drop 41 hostOps0) σ main_v42 = bCat (σ main_v15) (σ main_v16) (σ main_v17) (σ main_v18) (σ main_v19) (σ main_v20) (σ main_v21) (σ main_v22) (σ main_v23) (σ main_v24) (σ main_v25) (σ main_v26) (σ main_v27) (σ main_v28) (σ main_v31) (σ main_v32) (σ main_v35) (σ main_v36) := by
  simp only [hostOps0, List.drop_succ_cons, List.drop_zero]
  after_reads_simp
  rfl

theorem bPart0 : (StableHlo.after (List.take 41 hostOps0) σ main_v15 : Vec Ideal S2x3072 .f32) = extractStridedSlice S2x3072 ![0, 4376] (σ main_arg4 : Vec Ideal S2x7448 .f32) slices_S2x7448_S2x3072_0_4376 := by
  simp only [hostOps0, List.take_succ_cons, List.take_zero]
  after_reads_simp

theorem bPart1 : (StableHlo.after (List.take 41 hostOps0) σ main_v16 : Vec Ideal S2x512 .f32) = extractStridedSlice S2x512 ![0, 0] (σ main_arg4 : Vec Ideal S2x7448 .f32) slices_S2x7448_S2x512_0_0 := by
  simp only [hostOps0, List.take_succ_cons, List.take_zero]
  after_reads_simp

theorem bPart2 : (StableHlo.after (List.take 41 hostOps0) σ main_v17 : Vec Ideal S2x512 .f32) = extractStridedSlice S2x512 ![0, 512] (σ main_arg4 : Vec Ideal S2x7448 .f32) slices_S2x7448_S2x512_0_512 := by
  simp only [hostOps0, List.take_succ_cons, List.take_zero]
  after_reads_simp

theorem bPart3 : (StableHlo.after (List.take 41 hostOps0) σ main_v18 : Vec Ideal S2x512 .f32) = extractStridedSlice S2x512 ![0, 1024] (σ main_arg4 : Vec Ideal S2x7448 .f32) slices_S2x7448_S2x512_0_1024 := by
  simp only [hostOps0, List.take_succ_cons, List.take_zero]
  after_reads_simp

theorem bPart4 : (StableHlo.after (List.take 41 hostOps0) σ main_v19 : Vec Ideal S2x512 .f32) = extractStridedSlice S2x512 ![0, 1536] (σ main_arg4 : Vec Ideal S2x7448 .f32) slices_S2x7448_S2x512_0_1536 := by
  simp only [hostOps0, List.take_succ_cons, List.take_zero]
  after_reads_simp

theorem bPart5 : (StableHlo.after (List.take 41 hostOps0) σ main_v20 : Vec Ideal S2x512 .f32) = extractStridedSlice S2x512 ![0, 2048] (σ main_arg4 : Vec Ideal S2x7448 .f32) slices_S2x7448_S2x512_0_2048 := by
  simp only [hostOps0, List.take_succ_cons, List.take_zero]
  after_reads_simp

theorem bPart6 : (StableHlo.after (List.take 41 hostOps0) σ main_v21 : Vec Ideal S2x512 .f32) = extractStridedSlice S2x512 ![0, 3352] (σ main_arg4 : Vec Ideal S2x7448 .f32) slices_S2x7448_S2x512_0_3352 := by
  simp only [hostOps0, List.take_succ_cons, List.take_zero]
  after_reads_simp

theorem bPart7 : (StableHlo.after (List.take 41 hostOps0) σ main_v22 : Vec Ideal S2x512 .f32) = extractStridedSlice S2x512 ![0, 3864] (σ main_arg4 : Vec Ideal S2x7448 .f32) slices_S2x7448_S2x512_0_3864 := by
  simp only [hostOps0, List.take_succ_cons, List.take_zero]
  after_reads_simp

theorem bPart8 : (StableHlo.after (List.take 41 hostOps0) σ main_v23 : Vec Ideal S2x128 .f32) = extractStridedSlice S2x128 ![0, 2560] (σ main_arg4 : Vec Ideal S2x7448 .f32) slices_S2x7448_S2x128_0_2560 := by
  simp only [hostOps0, List.take_succ_cons, List.take_zero]
  after_reads_simp

theorem bPart9 : (StableHlo.after (List.take 41 hostOps0) σ main_v24 : Vec Ideal S2x128 .f32) = extractStridedSlice S2x128 ![0, 2688] (σ main_arg4 : Vec Ideal S2x7448 .f32) slices_S2x7448_S2x128_0_2688 := by
  simp only [hostOps0, List.take_succ_cons, List.take_zero]
  after_reads_simp

theorem bPart10 : (StableHlo.after (List.take 41 hostOps0) σ main_v25 : Vec Ideal S2x128 .f32) = extractStridedSlice S2x128 ![0, 2816] (σ main_arg4 : Vec Ideal S2x7448 .f32) slices_S2x7448_S2x128_0_2816 := by
  simp only [hostOps0, List.take_succ_cons, List.take_zero]
  after_reads_simp

theorem bPart11 : (StableHlo.after (List.take 41 hostOps0) σ main_v26 : Vec Ideal S2x128 .f32) = extractStridedSlice S2x128 ![0, 2944] (σ main_arg4 : Vec Ideal S2x7448 .f32) slices_S2x7448_S2x128_0_2944 := by
  simp only [hostOps0, List.take_succ_cons, List.take_zero]
  after_reads_simp

theorem bPart12 : (StableHlo.after (List.take 41 hostOps0) σ main_v27 : Vec Ideal S2x128 .f32) = extractStridedSlice S2x128 ![0, 3072] (σ main_arg4 : Vec Ideal S2x7448 .f32) slices_S2x7448_S2x128_0_3072 := by
  simp only [hostOps0, List.take_succ_cons, List.take_zero]
  after_reads_simp

theorem bPart13 : (StableHlo.after (List.take 41 hostOps0) σ main_v28 : Vec Ideal S2x128 .f32) = extractStridedSlice S2x128 ![0, 3200] (σ main_arg4 : Vec Ideal S2x7448 .f32) slices_S2x7448_S2x128_0_3200 := by
  simp only [hostOps0, List.take_succ_cons, List.take_zero]
  after_reads_simp

theorem bPart14 : (StableHlo.after (List.take 41 hostOps0) σ main_v31 : Vec Ideal S2x12 .f32) = extractStridedSlice S2x12 ![0, 3328] (σ main_arg4 : Vec Ideal S2x7448 .f32) slices_S2x7448_S2x12_0_3328 := by
  simp only [hostOps0, List.take_succ_cons, List.take_zero]
  after_reads_simp

theorem bPart15 : (StableHlo.after (List.take 41 hostOps0) σ main_v32 : Vec Ideal S2x116 .f32) = broadcastInDim S2x116 ![] bcast_S_S2x116 (constant S_ .f32 0x00000000#32 : FVec Ideal S_ .f32) := by
  simp only [hostOps0, List.take_succ_cons, List.take_zero]
  after_reads_simp

theorem bPart16 : (StableHlo.after (List.take 41 hostOps0) σ main_v35 : Vec Ideal S2x12 .f32) = extractStridedSlice S2x12 ![0, 3340] (σ main_arg4 : Vec Ideal S2x7448 .f32) slices_S2x7448_S2x12_0_3340 := by
  simp only [hostOps0, List.take_succ_cons, List.take_zero]
  after_reads_simp

theorem bPart17 : (StableHlo.after (List.take 41 hostOps0) σ main_v36 : Vec Ideal S2x116 .f32) = broadcastInDim S2x116 ![] bcast_S_S2x116 (constant S_ .f32 0x00000000#32 : FVec Ideal S_ .f32) := by
  simp only [hostOps0, List.take_succ_cons, List.take_zero]
  after_reads_simp

theorem b_split (b : Ref sig .tc) : V m c b = StableHlo.after (List.drop 41 hostOps0) (StableHlo.after (List.take 41 hostOps0) fun b => m (c, b)) b := by
  unfold V
  rw [← StableHlo.after_append, List.take_append_drop]

set_option maxHeartbeats 4000000 in
theorem bMoved (n : Fin 7680) : (V m c main_v42 : Vec Ideal S2x7680 .f32) (ix2 0 n) = entry (fun s => m ((c : Thread nD τ).loc main_arg4) (ix2 0 s)) (moved n.val) := by
  rw [b_split, bCat_read]
  rw [bPart0, bPart1, bPart2, bPart3, bPart4, bPart5, bPart6, bPart7, bPart8, bPart9, bPart10, bPart11, bPart12, bPart13, bPart14, bPart15, bPart16, bPart17]
  unfold bCat
  refine IsEntry.eq ?_
  obtain ⟨s, hs⟩ : ∃ s, s = moved n.val := ⟨_, rfl⟩
  rw [← hs]
  unfold moved source at hs
  have hn := n.isLt
  unfold IsEntry
  pointwise
  show IsEntry (fun s => m ((c : Thread nD τ).loc main_arg4) (ix2 0 s)) s _
  repeat' refine IsEntry.either (fun _ => ?_) (fun _ => ?_)
  all_goals first | exact IsEntry.pad (by split_ifs at hs <;> omega) | exact IsEntry.here (w := fun s => m ((c : Thread nD τ).loc main_arg4) (ix2 0 s)) _ (by split_ifs at hs <;> omega)

def wCat (a0 : Vec Ideal S2x1024x3072 .bf16) (a1 : Vec Ideal S2x1024x512 .bf16) (a2 : Vec Ideal S2x1024x512 .bf16) (a3 : Vec Ideal S2x1024x512 .bf16) (a4 : Vec Ideal S2x1024x512 .bf16) (a5 : Vec Ideal S2x1024x512 .bf16) (a6 : Vec Ideal S2x1024x512 .bf16) (a7 : Vec Ideal S2x1024x512 .bf16) (a8 : Vec Ideal S2x1024x128 .bf16) (a9 : Vec Ideal S2x1024x128 .bf16) (a10 : Vec Ideal S2x1024x128 .bf16) (a11 : Vec Ideal S2x1024x128 .bf16) (a12 : Vec Ideal S2x1024x128 .bf16) (a13 : Vec Ideal S2x1024x128 .bf16) (a14 : Vec Ideal S2x1024x12 .bf16) (a15 : Vec Ideal S2x1024x116 .bf16) (a16 : Vec Ideal S2x1024x12 .bf16) (a17 : Vec Ideal S2x1024x116 .bf16) : Vec Ideal S2x1024x7680 .bf16 :=
  concatenate S2x1024x7680 2 [⟨S2x1024x7552, (concatenate S2x1024x7552 2 [⟨S2x1024x3072, a0⟩, ⟨S2x1024x512, a1⟩, ⟨S2x1024x512, a2⟩, ⟨S2x1024x512, a3⟩, ⟨S2x1024x512, a4⟩, ⟨S2x1024x512, a5⟩, ⟨S2x1024x512, a6⟩, ⟨S2x1024x512, a7⟩, ⟨S2x1024x128, a8⟩, ⟨S2x1024x128, a9⟩, ⟨S2x1024x128, a10⟩, ⟨S2x1024x128, a11⟩, ⟨S2x1024x128, a12⟩, ⟨S2x1024x128, a13⟩, ⟨S2x1024x12, a14⟩, ⟨S2x1024x116, a15⟩] concatenates_S2x1024x3072_S2x1024x512_S2x1024x512_S2x1024x512_S2x1024x512_S2x1024x512_S2x1024x512_S2x1024x512_S2x1024x128_S2x1024x128_S2x1024x128_S2x1024x128_S2x1024x128_S2x1024x128_S2x1024x12_S2x1024x116_S2x1024x7552_d2 : Vec Ideal S2x1024x7552 .bf16)⟩,
    ⟨S2x1024x128, (concatenate S2x1024x128 2 [⟨S2x1024x12, a16⟩, ⟨S2x1024x116, a17⟩] concatenates_S2x1024x12_S2x1024x116_S2x1024x128_d2 : Vec Ideal S2x1024x128 .bf16)⟩] concatenates_S2x1024x7552_S2x1024x128_S2x1024x7680_d2

theorem wCat_read : StableHlo.after (List.drop 41 hostOps0) σ main_v39 = wCat (σ main_v1) (σ main_v2) (σ main_v3) (σ main_v4) (σ main_v5) (σ main_v6) (σ main_v7) (σ main_v8) (σ main_v9) (σ main_v10) (σ main_v11) (σ main_v12) (σ main_v13) (σ main_v14) (σ main_v29) (σ main_v30) (σ main_v33) (σ main_v34) := by
  simp only [hostOps0, List.drop_succ_cons, List.drop_zero]
  after_reads_simp
  rfl

theorem wPart0 : (StableHlo.after (List.take 41 hostOps0) σ main_v1 : Vec Ideal S2x1024x3072 .bf16) = extractStridedSlice S2x1024x3072 ![0, 0, 4376] (truncf .bf16 (σ main_arg3 : FVec Ideal S2x1024x7448 .f32) bitsLt_bf16_f32 : FVec Ideal S2x1024x7448 .bf16) slices_S2x1024x7448_S2x1024x3072_0_0_4376 := by
  simp only [hostOps0, List.take_succ_cons, List.take_zero]
  after_reads_simp

theorem wPart1 : (StableHlo.after (List.take 41 hostOps0) σ main_v2 : Vec Ideal S2x1024x512 .bf16) = extractStridedSlice S2x1024x512 ![0, 0, 0] (truncf .bf16 (σ main_arg3 : FVec Ideal S2x1024x7448 .f32) bitsLt_bf16_f32 : FVec Ideal S2x1024x7448 .bf16) slices_S2x1024x7448_S2x1024x512_0_0_0 := by
  simp only [hostOps0, List.take_succ_cons, List.take_zero]
  after_reads_simp

theorem wPart2 : (StableHlo.after (List.take 41 hostOps0) σ main_v3 : Vec Ideal S2x1024x512 .bf16) = extractStridedSlice S2x1024x512 ![0, 0, 512] (truncf .bf16 (σ main_arg3 : FVec Ideal S2x1024x7448 .f32) bitsLt_bf16_f32 : FVec Ideal S2x1024x7448 .bf16) slices_S2x1024x7448_S2x1024x512_0_0_512 := by
  simp only [hostOps0, List.take_succ_cons, List.take_zero]
  after_reads_simp

theorem wPart3 : (StableHlo.after (List.take 41 hostOps0) σ main_v4 : Vec Ideal S2x1024x512 .bf16) = extractStridedSlice S2x1024x512 ![0, 0, 1024] (truncf .bf16 (σ main_arg3 : FVec Ideal S2x1024x7448 .f32) bitsLt_bf16_f32 : FVec Ideal S2x1024x7448 .bf16) slices_S2x1024x7448_S2x1024x512_0_0_1024 := by
  simp only [hostOps0, List.take_succ_cons, List.take_zero]
  after_reads_simp

theorem wPart4 : (StableHlo.after (List.take 41 hostOps0) σ main_v5 : Vec Ideal S2x1024x512 .bf16) = extractStridedSlice S2x1024x512 ![0, 0, 1536] (truncf .bf16 (σ main_arg3 : FVec Ideal S2x1024x7448 .f32) bitsLt_bf16_f32 : FVec Ideal S2x1024x7448 .bf16) slices_S2x1024x7448_S2x1024x512_0_0_1536 := by
  simp only [hostOps0, List.take_succ_cons, List.take_zero]
  after_reads_simp

theorem wPart5 : (StableHlo.after (List.take 41 hostOps0) σ main_v6 : Vec Ideal S2x1024x512 .bf16) = extractStridedSlice S2x1024x512 ![0, 0, 2048] (truncf .bf16 (σ main_arg3 : FVec Ideal S2x1024x7448 .f32) bitsLt_bf16_f32 : FVec Ideal S2x1024x7448 .bf16) slices_S2x1024x7448_S2x1024x512_0_0_2048 := by
  simp only [hostOps0, List.take_succ_cons, List.take_zero]
  after_reads_simp

theorem wPart6 : (StableHlo.after (List.take 41 hostOps0) σ main_v7 : Vec Ideal S2x1024x512 .bf16) = extractStridedSlice S2x1024x512 ![0, 0, 3352] (truncf .bf16 (σ main_arg3 : FVec Ideal S2x1024x7448 .f32) bitsLt_bf16_f32 : FVec Ideal S2x1024x7448 .bf16) slices_S2x1024x7448_S2x1024x512_0_0_3352 := by
  simp only [hostOps0, List.take_succ_cons, List.take_zero]
  after_reads_simp

theorem wPart7 : (StableHlo.after (List.take 41 hostOps0) σ main_v8 : Vec Ideal S2x1024x512 .bf16) = extractStridedSlice S2x1024x512 ![0, 0, 3864] (truncf .bf16 (σ main_arg3 : FVec Ideal S2x1024x7448 .f32) bitsLt_bf16_f32 : FVec Ideal S2x1024x7448 .bf16) slices_S2x1024x7448_S2x1024x512_0_0_3864 := by
  simp only [hostOps0, List.take_succ_cons, List.take_zero]
  after_reads_simp

theorem wPart8 : (StableHlo.after (List.take 41 hostOps0) σ main_v9 : Vec Ideal S2x1024x128 .bf16) = extractStridedSlice S2x1024x128 ![0, 0, 2560] (truncf .bf16 (σ main_arg3 : FVec Ideal S2x1024x7448 .f32) bitsLt_bf16_f32 : FVec Ideal S2x1024x7448 .bf16) slices_S2x1024x7448_S2x1024x128_0_0_2560 := by
  simp only [hostOps0, List.take_succ_cons, List.take_zero]
  after_reads_simp

theorem wPart9 : (StableHlo.after (List.take 41 hostOps0) σ main_v10 : Vec Ideal S2x1024x128 .bf16) = extractStridedSlice S2x1024x128 ![0, 0, 2688] (truncf .bf16 (σ main_arg3 : FVec Ideal S2x1024x7448 .f32) bitsLt_bf16_f32 : FVec Ideal S2x1024x7448 .bf16) slices_S2x1024x7448_S2x1024x128_0_0_2688 := by
  simp only [hostOps0, List.take_succ_cons, List.take_zero]
  after_reads_simp

theorem wPart10 : (StableHlo.after (List.take 41 hostOps0) σ main_v11 : Vec Ideal S2x1024x128 .bf16) = extractStridedSlice S2x1024x128 ![0, 0, 2816] (truncf .bf16 (σ main_arg3 : FVec Ideal S2x1024x7448 .f32) bitsLt_bf16_f32 : FVec Ideal S2x1024x7448 .bf16) slices_S2x1024x7448_S2x1024x128_0_0_2816 := by
  simp only [hostOps0, List.take_succ_cons, List.take_zero]
  after_reads_simp

theorem wPart11 : (StableHlo.after (List.take 41 hostOps0) σ main_v12 : Vec Ideal S2x1024x128 .bf16) = extractStridedSlice S2x1024x128 ![0, 0, 2944] (truncf .bf16 (σ main_arg3 : FVec Ideal S2x1024x7448 .f32) bitsLt_bf16_f32 : FVec Ideal S2x1024x7448 .bf16) slices_S2x1024x7448_S2x1024x128_0_0_2944 := by
  simp only [hostOps0, List.take_succ_cons, List.take_zero]
  after_reads_simp

theorem wPart12 : (StableHlo.after (List.take 41 hostOps0) σ main_v13 : Vec Ideal S2x1024x128 .bf16) = extractStridedSlice S2x1024x128 ![0, 0, 3072] (truncf .bf16 (σ main_arg3 : FVec Ideal S2x1024x7448 .f32) bitsLt_bf16_f32 : FVec Ideal S2x1024x7448 .bf16) slices_S2x1024x7448_S2x1024x128_0_0_3072 := by
  simp only [hostOps0, List.take_succ_cons, List.take_zero]
  after_reads_simp

theorem wPart13 : (StableHlo.after (List.take 41 hostOps0) σ main_v14 : Vec Ideal S2x1024x128 .bf16) = extractStridedSlice S2x1024x128 ![0, 0, 3200] (truncf .bf16 (σ main_arg3 : FVec Ideal S2x1024x7448 .f32) bitsLt_bf16_f32 : FVec Ideal S2x1024x7448 .bf16) slices_S2x1024x7448_S2x1024x128_0_0_3200 := by
  simp only [hostOps0, List.take_succ_cons, List.take_zero]
  after_reads_simp

theorem wPart14 : (StableHlo.after (List.take 41 hostOps0) σ main_v29 : Vec Ideal S2x1024x12 .bf16) = extractStridedSlice S2x1024x12 ![0, 0, 3328] (truncf .bf16 (σ main_arg3 : FVec Ideal S2x1024x7448 .f32) bitsLt_bf16_f32 : FVec Ideal S2x1024x7448 .bf16) slices_S2x1024x7448_S2x1024x12_0_0_3328 := by
  simp only [hostOps0, List.take_succ_cons, List.take_zero]
  after_reads_simp

theorem wPart15 : (StableHlo.after (List.take 41 hostOps0) σ main_v30 : Vec Ideal S2x1024x116 .bf16) = broadcastInDim S2x1024x116 ![] bcast_S_S2x1024x116 (constant S_ .bf16 0x0000#16 : FVec Ideal S_ .bf16) := by
  simp only [hostOps0, List.take_succ_cons, List.take_zero]
  after_reads_simp

theorem wPart16 : (StableHlo.after (List.take 41 hostOps0) σ main_v33 : Vec Ideal S2x1024x12 .bf16) = extractStridedSlice S2x1024x12 ![0, 0, 3340] (truncf .bf16 (σ main_arg3 : FVec Ideal S2x1024x7448 .f32) bitsLt_bf16_f32 : FVec Ideal S2x1024x7448 .bf16) slices_S2x1024x7448_S2x1024x12_0_0_3340 := by
  simp only [hostOps0, List.take_succ_cons, List.take_zero]
  after_reads_simp

theorem wPart17 : (StableHlo.after (List.take 41 hostOps0) σ main_v34 : Vec Ideal S2x1024x116 .bf16) = broadcastInDim S2x1024x116 ![] bcast_S_S2x1024x116 (constant S_ .bf16 0x0000#16 : FVec Ideal S_ .bf16) := by
  simp only [hostOps0, List.take_succ_cons, List.take_zero]
  after_reads_simp

theorem w_split (b : Ref sig .tc) : V m c b = StableHlo.after (List.drop 41 hostOps0) (StableHlo.after (List.take 41 hostOps0) fun b => m (c, b)) b := by
  unfold V
  rw [← StableHlo.after_append, List.take_append_drop]

set_option maxHeartbeats 4000000 in
theorem wMoved (k : Fin 1024) (n : Fin 7680) : (V m c main_v39 : Vec Ideal S2x1024x7680 .bf16) (ix3 0 k n) = entry (fun s => m ((c : Thread nD τ).loc main_arg3) (ix3 0 k s)) (moved n.val) := by
  rw [w_split, wCat_read]
  rw [wPart0, wPart1, wPart2, wPart3, wPart4, wPart5, wPart6, wPart7, wPart8, wPart9, wPart10, wPart11, wPart12, wPart13, wPart14, wPart15, wPart16, wPart17]
  unfold wCat
  refine IsEntry.eq ?_
  obtain ⟨s, hs⟩ : ∃ s, s = moved n.val := ⟨_, rfl⟩
  rw [← hs]
  unfold moved source at hs
  have hn := n.isLt
  unfold IsEntry
  pointwise
  show IsEntry (fun s => m ((c : Thread nD τ).loc main_arg3) (ix3 0 k s)) s _
  repeat' refine IsEntry.either (fun _ => ?_) (fun _ => ?_)
  all_goals first | exact IsEntry.pad (by split_ifs at hs <;> omega) | exact IsEntry.here (w := fun s => m ((c : Thread nD τ).loc main_arg3) (ix3 0 k s)) _ (by split_ifs at hs <;> omega)

end Cert.Kernel3Ideal.Proj

end
-- ==== Proof.NextHost.lean ====
/- The weights and biases of the second layer's input projection as the kernel's host code prepares them: slices of the launch
   arguments and zero padding laid side by side. -/
module

public import proofs.«01_k».proof.Proof.Gen.Kernel5Ideal.Value
public import proofs.«01_k».proof.Proof.ProjHost
public import Idealize.ShloMosaic.Lib.Pipeline.ValueKit
public import Idealize.ShloMosaic.Lib.StableHlo.RunRead
public import Idealize.ShloMosaic.Lib.Pointwise

@[expose] public section

set_option maxRecDepth 16384

noncomputable section

namespace Cert.Kernel5Ideal.Next

open Cert.Kernel3Ideal.Proj (IsEntry IsEntry.eq IsEntry.either IsEntry.here IsEntry.pad)
open Cert.Kernel5Ideal Cert.Kernel5Ideal.Gen Cert.ProjSpec Idealize.ShloMosaic Idealize.ShloMosaic.TcCoe Idealize.SL.Sem

variable (m : (ℓ : Loc nD τ sig) → Buf (Elt Ideal) ℓ) (c : Dev nD) (σ : Valuation τ sig (Elt Ideal))

def bCat (a0 : Vec Ideal S2x3072 .f32) (a1 : Vec Ideal S2x512 .f32) (a2 : Vec Ideal S2x512 .f32) (a3 : Vec Ideal S2x512 .f32) (a4 : Vec Ideal S2x512 .f32) (a5 : Vec Ideal S2x512 .f32) (a6 : Vec Ideal S2x512 .f32) (a7 : Vec Ideal S2x512 .f32) (a8 : Vec Ideal S2x128 .f32) (a9 : Vec Ideal S2x128 .f32) (a10 : Vec Ideal S2x128 .f32) (a11 : Vec Ideal S2x128 .f32) (a12 : Vec Ideal S2x128 .f32) (a13 : Vec Ideal S2x128 .f32) (a14 : Vec Ideal S2x12 .f32) (a15 : Vec Ideal S2x116 .f32) (a16 : Vec Ideal S2x12 .f32) (a17 : Vec Ideal S2x116 .f32) : Vec Ideal S2x7680 .f32 :=
  concatenate S2x7680 1 [⟨S2x7552, (concatenate S2x7552 1 [⟨S2x3072, a0⟩, ⟨S2x512, a1⟩, ⟨S2x512, a2⟩, ⟨S2x512, a3⟩, ⟨S2x512, a4⟩, ⟨S2x512, a5⟩, ⟨S2x512, a6⟩, ⟨S2x512, a7⟩, ⟨S2x128, a8⟩, ⟨S2x128, a9⟩, ⟨S2x128, a10⟩, ⟨S2x128, a11⟩, ⟨S2x128, a12⟩, ⟨S2x128, a13⟩, ⟨S2x12, a14⟩, ⟨S2x116, a15⟩] concatenates_S2x3072_S2x512_S2x512_S2x512_S2x512_S2x512_S2x512_S2x512_S2x128_S2x128_S2x128_S2x128_S2x128_S2x128_S2x12_S2x116_S2x7552_d1 : Vec Ideal S2x7552 .f32)⟩,
    ⟨S2x128, (concatenate S2x128 1 [⟨S2x12, a16⟩, ⟨S2x116, a17⟩] concatenates_S2x12_S2x116_S2x128_d1 : Vec Ideal S2x128 .f32)⟩] concatenates_S2x7552_S2x128_S2x7680_d1

theorem bCat_read : StableHlo.after (List.drop 41 hostOps0) σ main_v42 = bCat (σ main_v15) (σ main_v16) (σ main_v17) (σ main_v18) (σ main_v19) (σ main_v20) (σ main_v21) (σ main_v22) (σ main_v23) (σ main_v24) (σ main_v25) (σ main_v26) (σ main_v27) (σ main_v28) (σ main_v31) (σ main_v32) (σ main_v35) (σ main_v36) := by
  simp only [hostOps0, List.drop_succ_cons, List.drop_zero]
  after_reads_simp
  rfl

theorem bPart0 : (StableHlo.after (List.take 41 hostOps0) σ main_v15 : Vec Ideal S2x3072 .f32) = extractStridedSlice S2x3072 ![0, 4376] (σ main_arg2 : Vec Ideal S2x7448 .f32) slices_S2x7448_S2x3072_0_4376 := by
  simp only [hostOps0, List.take_succ_cons, List.take_zero]
  after_reads_simp

theorem bPart1 : (StableHlo.after (List.take 41 hostOps0) σ main_v16 : Vec Ideal S2x512 .f32) = extractStridedSlice S2x512 ![0, 0] (σ main_arg2 : Vec Ideal S2x7448 .f32) slices_S2x7448_S2x512_0_0 := by
  simp only [hostOps0, List.take_succ_cons, List.take_zero]
  after_reads_simp

theorem bPart2 : (StableHlo.after (List.take 41 hostOps0) σ main_v17 : Vec Ideal S2x512 .f32) = extractStridedSlice S2x512 ![0, 512] (σ main_arg2 : Vec Ideal S2x7448 .f32) slices_S2x7448_S2x512_0_512 := by
  simp only [hostOps0, List.take_succ_cons, List.take_zero]
  after_reads_simp

theorem bPart3 : (StableHlo.after (List.take 41 hostOps0) σ main_v18 : Vec Ideal S2x512 .f32) = extractStridedSlice S2x512 ![0, 1024] (σ main_arg2 : Vec Ideal S2x7448 .f32) slices_S2x7448_S2x512_0_1024 := by
  simp only [hostOps0, List.take_succ_cons, List.take_zero]
  after_reads_simp

theorem bPart4 : (StableHlo.after (List.take 41 hostOps0) σ main_v19 : Vec Ideal S2x512 .f32) = extractStridedSlice S2x512 ![0, 1536] (σ main_arg2 : Vec Ideal S2x7448 .f32) slices_S2x7448_S2x512_0_1536 := by
  simp only [hostOps0, List.take_succ_cons, List.take_zero]
  after_reads_simp

theorem bPart5 : (StableHlo.after (List.take 41 hostOps0) σ main_v20 : Vec Ideal S2x512 .f32) = extractStridedSlice S2x512 ![0, 2048] (σ main_arg2 : Vec Ideal S2x7448 .f32) slices_S2x7448_S2x512_0_2048 := by
  simp only [hostOps0, List.take_succ_cons, List.take_zero]
  after_reads_simp

theorem bPart6 : (StableHlo.after (List.take 41 hostOps0) σ main_v21 : Vec Ideal S2x512 .f32) = extractStridedSlice S2x512 ![0, 3352] (σ main_arg2 : Vec Ideal S2x7448 .f32) slices_S2x7448_S2x512_0_3352 := by
  simp only [hostOps0, List.take_succ_cons, List.take_zero]
  after_reads_simp

theorem bPart7 : (StableHlo.after (List.take 41 hostOps0) σ main_v22 : Vec Ideal S2x512 .f32) = extractStridedSlice S2x512 ![0, 3864] (σ main_arg2 : Vec Ideal S2x7448 .f32) slices_S2x7448_S2x512_0_3864 := by
  simp only [hostOps0, List.take_succ_cons, List.take_zero]
  after_reads_simp

theorem bPart8 : (StableHlo.after (List.take 41 hostOps0) σ main_v23 : Vec Ideal S2x128 .f32) = extractStridedSlice S2x128 ![0, 2560] (σ main_arg2 : Vec Ideal S2x7448 .f32) slices_S2x7448_S2x128_0_2560 := by
  simp only [hostOps0, List.take_succ_cons, List.take_zero]
  after_reads_simp

theorem bPart9 : (StableHlo.after (List.take 41 hostOps0) σ main_v24 : Vec Ideal S2x128 .f32) = extractStridedSlice S2x128 ![0, 2688] (σ main_arg2 : Vec Ideal S2x7448 .f32) slices_S2x7448_S2x128_0_2688 := by
  simp only [hostOps0, List.take_succ_cons, List.take_zero]
  after_reads_simp

theorem bPart10 : (StableHlo.after (List.take 41 hostOps0) σ main_v25 : Vec Ideal S2x128 .f32) = extractStridedSlice S2x128 ![0, 2816] (σ main_arg2 : Vec Ideal S2x7448 .f32) slices_S2x7448_S2x128_0_2816 := by
  simp only [hostOps0, List.take_succ_cons, List.take_zero]
  after_reads_simp

theorem bPart11 : (StableHlo.after (List.take 41 hostOps0) σ main_v26 : Vec Ideal S2x128 .f32) = extractStridedSlice S2x128 ![0, 2944] (σ main_arg2 : Vec Ideal S2x7448 .f32) slices_S2x7448_S2x128_0_2944 := by
  simp only [hostOps0, List.take_succ_cons, List.take_zero]
  after_reads_simp

theorem bPart12 : (StableHlo.after (List.take 41 hostOps0) σ main_v27 : Vec Ideal S2x128 .f32) = extractStridedSlice S2x128 ![0, 3072] (σ main_arg2 : Vec Ideal S2x7448 .f32) slices_S2x7448_S2x128_0_3072 := by
  simp only [hostOps0, List.take_succ_cons, List.take_zero]
  after_reads_simp

theorem bPart13 : (StableHlo.after (List.take 41 hostOps0) σ main_v28 : Vec Ideal S2x128 .f32) = extractStridedSlice S2x128 ![0, 3200] (σ main_arg2 : Vec Ideal S2x7448 .f32) slices_S2x7448_S2x128_0_3200 := by
  simp only [hostOps0, List.take_succ_cons, List.take_zero]
  after_reads_simp

theorem bPart14 : (StableHlo.after (List.take 41 hostOps0) σ main_v31 : Vec Ideal S2x12 .f32) = extractStridedSlice S2x12 ![0, 3328] (σ main_arg2 : Vec Ideal S2x7448 .f32) slices_S2x7448_S2x12_0_3328 := by
  simp only [hostOps0, List.take_succ_cons, List.take_zero]
  after_reads_simp

theorem bPart15 : (StableHlo.after (List.take 41 hostOps0) σ main_v32 : Vec Ideal S2x116 .f32) = broadcastInDim S2x116 ![] bcast_S_S2x116 (constant S_ .f32 0x00000000#32 : FVec Ideal S_ .f32) := by
  simp only [hostOps0, List.take_succ_cons, List.take_zero]
  after_reads_simp

theorem bPart16 : (StableHlo.after (List.take 41 hostOps0) σ main_v35 : Vec Ideal S2x12 .f32) = extractStridedSlice S2x12 ![0, 3340] (σ main_arg2 : Vec Ideal S2x7448 .f32) slices_S2x7448_S2x12_0_3340 := by
  simp only [hostOps0, List.take_succ_cons, List.take_zero]
  after_reads_simp

theorem bPart17 : (StableHlo.after (List.take 41 hostOps0) σ main_v36 : Vec Ideal S2x116 .f32) = broadcastInDim S2x116 ![] bcast_S_S2x116 (constant S_ .f32 0x00000000#32 : FVec Ideal S_ .f32) := by
  simp only [hostOps0, List.take_succ_cons, List.take_zero]
  after_reads_simp

theorem b_split (b : Ref sig .tc) : V m c b = StableHlo.after (List.drop 41 hostOps0) (StableHlo.after (List.take 41 hostOps0) fun b => m (c, b)) b := by
  unfold V
  rw [← StableHlo.after_append, List.take_append_drop]

set_option maxHeartbeats 4000000 in
theorem bMoved (n : Fin 7680) : (V m c main_v42 : Vec Ideal S2x7680 .f32) (ix2 1 n) = entry (fun s => m ((c : Thread nD τ).loc main_arg2) (ix2 1 s)) (moved n.val) := by
  rw [b_split, bCat_read]
  rw [bPart0, bPart1, bPart2, bPart3, bPart4, bPart5, bPart6, bPart7, bPart8, bPart9, bPart10, bPart11, bPart12, bPart13, bPart14, bPart15, bPart16, bPart17]
  unfold bCat
  refine IsEntry.eq ?_
  obtain ⟨s, hs⟩ : ∃ s, s = moved n.val := ⟨_, rfl⟩
  rw [← hs]
  unfold moved source at hs
  have hn := n.isLt
  unfold IsEntry
  pointwise
  show IsEntry (fun s => m ((c : Thread nD τ).loc main_arg2) (ix2 1 s)) s _
  repeat' refine IsEntry.either (fun _ => ?_) (fun _ => ?_)
  all_goals first | exact IsEntry.pad (by split_ifs at hs <;> omega) | exact IsEntry.here (w := fun s => m ((c : Thread nD τ).loc main_arg2) (ix2 1 s)) _ (by split_ifs at hs <;> omega)

def wCat (a0 : Vec Ideal S2x1024x3072 .bf16) (a1 : Vec Ideal S2x1024x512 .bf16) (a2 : Vec Ideal S2x1024x512 .bf16) (a3 : Vec Ideal S2x1024x512 .bf16) (a4 : Vec Ideal S2x1024x512 .bf16) (a5 : Vec Ideal S2x1024x512 .bf16) (a6 : Vec Ideal S2x1024x512 .bf16) (a7 : Vec Ideal S2x1024x512 .bf16) (a8 : Vec Ideal S2x1024x128 .bf16) (a9 : Vec Ideal S2x1024x128 .bf16) (a10 : Vec Ideal S2x1024x128 .bf16) (a11 : Vec Ideal S2x1024x128 .bf16) (a12 : Vec Ideal S2x1024x128 .bf16) (a13 : Vec Ideal S2x1024x128 .bf16) (a14 : Vec Ideal S2x1024x12 .bf16) (a15 : Vec Ideal S2x1024x116 .bf16) (a16 : Vec Ideal S2x1024x12 .bf16) (a17 : Vec Ideal S2x1024x116 .bf16) : Vec Ideal S2x1024x7680 .bf16 :=
  concatenate S2x1024x7680 2 [⟨S2x1024x7552, (concatenate S2x1024x7552 2 [⟨S2x1024x3072, a0⟩, ⟨S2x1024x512, a1⟩, ⟨S2x1024x512, a2⟩, ⟨S2x1024x512, a3⟩, ⟨S2x1024x512, a4⟩, ⟨S2x1024x512, a5⟩, ⟨S2x1024x512, a6⟩, ⟨S2x1024x512, a7⟩, ⟨S2x1024x128, a8⟩, ⟨S2x1024x128, a9⟩, ⟨S2x1024x128, a10⟩, ⟨S2x1024x128, a11⟩, ⟨S2x1024x128, a12⟩, ⟨S2x1024x128, a13⟩, ⟨S2x1024x12, a14⟩, ⟨S2x1024x116, a15⟩] concatenates_S2x1024x3072_S2x1024x512_S2x1024x512_S2x1024x512_S2x1024x512_S2x1024x512_S2x1024x512_S2x1024x512_S2x1024x128_S2x1024x128_S2x1024x128_S2x1024x128_S2x1024x128_S2x1024x128_S2x1024x12_S2x1024x116_S2x1024x7552_d2 : Vec Ideal S2x1024x7552 .bf16)⟩,
    ⟨S2x1024x128, (concatenate S2x1024x128 2 [⟨S2x1024x12, a16⟩, ⟨S2x1024x116, a17⟩] concatenates_S2x1024x12_S2x1024x116_S2x1024x128_d2 : Vec Ideal S2x1024x128 .bf16)⟩] concatenates_S2x1024x7552_S2x1024x128_S2x1024x7680_d2

theorem wCat_read : StableHlo.after (List.drop 41 hostOps0) σ main_v39 = wCat (σ main_v1) (σ main_v2) (σ main_v3) (σ main_v4) (σ main_v5) (σ main_v6) (σ main_v7) (σ main_v8) (σ main_v9) (σ main_v10) (σ main_v11) (σ main_v12) (σ main_v13) (σ main_v14) (σ main_v29) (σ main_v30) (σ main_v33) (σ main_v34) := by
  simp only [hostOps0, List.drop_succ_cons, List.drop_zero]
  after_reads_simp
  rfl

theorem wPart0 : (StableHlo.after (List.take 41 hostOps0) σ main_v1 : Vec Ideal S2x1024x3072 .bf16) = extractStridedSlice S2x1024x3072 ![0, 0, 4376] (truncf .bf16 (σ main_arg1 : FVec Ideal S2x1024x7448 .f32) bitsLt_bf16_f32 : FVec Ideal S2x1024x7448 .bf16) slices_S2x1024x7448_S2x1024x3072_0_0_4376 := by
  simp only [hostOps0, List.take_succ_cons, List.take_zero]
  after_reads_simp

theorem wPart1 : (StableHlo.after (List.take 41 hostOps0) σ main_v2 : Vec Ideal S2x1024x512 .bf16) = extractStridedSlice S2x1024x512 ![0, 0, 0] (truncf .bf16 (σ main_arg1 : FVec Ideal S2x1024x7448 .f32) bitsLt_bf16_f32 : FVec Ideal S2x1024x7448 .bf16) slices_S2x1024x7448_S2x1024x512_0_0_0 := by
  simp only [hostOps0, List.take_succ_cons, List.take_zero]
  after_reads_simp

theorem wPart2 : (StableHlo.after (List.take 41 hostOps0) σ main_v3 : Vec Ideal S2x1024x512 .bf16) = extractStridedSlice S2x1024x512 ![0, 0, 512] (truncf .bf16 (σ main_arg1 : FVec Ideal S2x1024x7448 .f32) bitsLt_bf16_f32 : FVec Ideal S2x1024x7448 .bf16) slices_S2x1024x7448_S2x1024x512_0_0_512 := by
  simp only [hostOps0, List.take_succ_cons, List.take_zero]
  after_reads_simp

theorem wPart3 : (StableHlo.after (List.take 41 hostOps0) σ main_v4 : Vec Ideal S2x1024x512 .bf16) = extractStridedSlice S2x1024x512 ![0, 0, 1024] (truncf .bf16 (σ main_arg1 : FVec Ideal S2x1024x7448 .f32) bitsLt_bf16_f32 : FVec Ideal S2x1024x7448 .bf16) slices_S2x1024x7448_S2x1024x512_0_0_1024 := by
  simp only [hostOps0, List.take_succ_cons, List.take_zero]
  after_reads_simp

theorem wPart4 : (StableHlo.after (List.take 41 hostOps0) σ main_v5 : Vec Ideal S2x1024x512 .bf16) = extractStridedSlice S2x1024x512 ![0, 0, 1536] (truncf .bf16 (σ main_arg1 : FVec Ideal S2x1024x7448 .f32) bitsLt_bf16_f32 : FVec Ideal S2x1024x7448 .bf16) slices_S2x1024x7448_S2x1024x512_0_0_1536 := by
  simp only [hostOps0, List.take_succ_cons, List.take_zero]
  after_reads_simp

theorem wPart5 : (StableHlo.after (List.take 41 hostOps0) σ main_v6 : Vec Ideal S2x1024x512 .bf16) = extractStridedSlice S2x1024x512 ![0, 0, 2048] (truncf .bf16 (σ main_arg1 : FVec Ideal S2x1024x7448 .f32) bitsLt_bf16_f32 : FVec Ideal S2x1024x7448 .bf16) slices_S2x1024x7448_S2x1024x512_0_0_2048 := by
  simp only [hostOps0, List.take_succ_cons, List.take_zero]
  after_reads_simp

theorem wPart6 : (StableHlo.after (List.take 41 hostOps0) σ main_v7 : Vec Ideal S2x1024x512 .bf16) = extractStridedSlice S2x1024x512 ![0, 0, 3352] (truncf .bf16 (σ main_arg1 : FVec Ideal S2x1024x7448 .f32) bitsLt_bf16_f32 : FVec Ideal S2x1024x7448 .bf16) slices_S2x1024x7448_S2x1024x512_0_0_3352 := by
  simp only [hostOps0, List.take_succ_cons, List.take_zero]
  after_reads_simp

theorem wPart7 : (StableHlo.after (List.take 41 hostOps0) σ main_v8 : Vec Ideal S2x1024x512 .bf16) = extractStridedSlice S2x1024x512 ![0, 0, 3864] (truncf .bf16 (σ main_arg1 : FVec Ideal S2x1024x7448 .f32) bitsLt_bf16_f32 : FVec Ideal S2x1024x7448 .bf16) slices_S2x1024x7448_S2x1024x512_0_0_3864 := by
  simp only [hostOps0, List.take_succ_cons, List.take_zero]
  after_reads_simp

theorem wPart8 : (StableHlo.after (List.take 41 hostOps0) σ main_v9 : Vec Ideal S2x1024x128 .bf16) = extractStridedSlice S2x1024x128 ![0, 0, 2560] (truncf .bf16 (σ main_arg1 : FVec Ideal S2x1024x7448 .f32) bitsLt_bf16_f32 : FVec Ideal S2x1024x7448 .bf16) slices_S2x1024x7448_S2x1024x128_0_0_2560 := by
  simp only [hostOps0, List.take_succ_cons, List.take_zero]
  after_reads_simp

theorem wPart9 : (StableHlo.after (List.take 41 hostOps0) σ main_v10 : Vec Ideal S2x1024x128 .bf16) = extractStridedSlice S2x1024x128 ![0, 0, 2688] (truncf .bf16 (σ main_arg1 : FVec Ideal S2x1024x7448 .f32) bitsLt_bf16_f32 : FVec Ideal S2x1024x7448 .bf16) slices_S2x1024x7448_S2x1024x128_0_0_2688 := by
  simp only [hostOps0, List.take_succ_cons, List.take_zero]
  after_reads_simp

theorem wPart10 : (StableHlo.after (List.take 41 hostOps0) σ main_v11 : Vec Ideal S2x1024x128 .bf16) = extractStridedSlice S2x1024x128 ![0, 0, 2816] (truncf .bf16 (σ main_arg1 : FVec Ideal S2x1024x7448 .f32) bitsLt_bf16_f32 : FVec Ideal S2x1024x7448 .bf16) slices_S2x1024x7448_S2x1024x128_0_0_2816 := by
  simp only [hostOps0, List.take_succ_cons, List.take_zero]
  after_reads_simp

theorem wPart11 : (StableHlo.after (List.take 41 hostOps0) σ main_v12 : Vec Ideal S2x1024x128 .bf16) = extractStridedSlice S2x1024x128 ![0, 0, 2944] (truncf .bf16 (σ main_arg1 : FVec Ideal S2x1024x7448 .f32) bitsLt_bf16_f32 : FVec Ideal S2x1024x7448 .bf16) slices_S2x1024x7448_S2x1024x128_0_0_2944 := by
  simp only [hostOps0, List.take_succ_cons, List.take_zero]
  after_reads_simp

theorem wPart12 : (StableHlo.after (List.take 41 hostOps0) σ main_v13 : Vec Ideal S2x1024x128 .bf16) = extractStridedSlice S2x1024x128 ![0, 0, 3072] (truncf .bf16 (σ main_arg1 : FVec Ideal S2x1024x7448 .f32) bitsLt_bf16_f32 : FVec Ideal S2x1024x7448 .bf16) slices_S2x1024x7448_S2x1024x128_0_0_3072 := by
  simp only [hostOps0, List.take_succ_cons, List.take_zero]
  after_reads_simp

theorem wPart13 : (StableHlo.after (List.take 41 hostOps0) σ main_v14 : Vec Ideal S2x1024x128 .bf16) = extractStridedSlice S2x1024x128 ![0, 0, 3200] (truncf .bf16 (σ main_arg1 : FVec Ideal S2x1024x7448 .f32) bitsLt_bf16_f32 : FVec Ideal S2x1024x7448 .bf16) slices_S2x1024x7448_S2x1024x128_0_0_3200 := by
  simp only [hostOps0, List.take_succ_cons, List.take_zero]
  after_reads_simp

theorem wPart14 : (StableHlo.after (List.take 41 hostOps0) σ main_v29 : Vec Ideal S2x1024x12 .bf16) = extractStridedSlice S2x1024x12 ![0, 0, 3328] (truncf .bf16 (σ main_arg1 : FVec Ideal S2x1024x7448 .f32) bitsLt_bf16_f32 : FVec Ideal S2x1024x7448 .bf16) slices_S2x1024x7448_S2x1024x12_0_0_3328 := by
  simp only [hostOps0, List.take_succ_cons, List.take_zero]
  after_reads_simp

theorem wPart15 : (StableHlo.after (List.take 41 hostOps0) σ main_v30 : Vec Ideal S2x1024x116 .bf16) = broadcastInDim S2x1024x116 ![] bcast_S_S2x1024x116 (constant S_ .bf16 0x0000#16 : FVec Ideal S_ .bf16) := by
  simp only [hostOps0, List.take_succ_cons, List.take_zero]
  after_reads_simp

theorem wPart16 : (StableHlo.after (List.take 41 hostOps0) σ main_v33 : Vec Ideal S2x1024x12 .bf16) = extractStridedSlice S2x1024x12 ![0, 0, 3340] (truncf .bf16 (σ main_arg1 : FVec Ideal S2x1024x7448 .f32) bitsLt_bf16_f32 : FVec Ideal S2x1024x7448 .bf16) slices_S2x1024x7448_S2x1024x12_0_0_3340 := by
  simp only [hostOps0, List.take_succ_cons, List.take_zero]
  after_reads_simp

theorem wPart17 : (StableHlo.after (List.take 41 hostOps0) σ main_v34 : Vec Ideal S2x1024x116 .bf16) = broadcastInDim S2x1024x116 ![] bcast_S_S2x1024x116 (constant S_ .bf16 0x0000#16 : FVec Ideal S_ .bf16) := by
  simp only [hostOps0, List.take_succ_cons, List.take_zero]
  after_reads_simp

theorem w_split (b : Ref sig .tc) : V m c b = StableHlo.after (List.drop 41 hostOps0) (StableHlo.after (List.take 41 hostOps0) fun b => m (c, b)) b := by
  unfold V
  rw [← StableHlo.after_append, List.take_append_drop]

set_option maxHeartbeats 4000000 in
theorem wMoved (k : Fin 1024) (n : Fin 7680) : (V m c main_v39 : Vec Ideal S2x1024x7680 .bf16) (ix3 1 k n) = entry (fun s => m ((c : Thread nD τ).loc main_arg1) (ix3 1 k s)) (moved n.val) := by
  rw [w_split, wCat_read]
  rw [wPart0, wPart1, wPart2, wPart3, wPart4, wPart5, wPart6, wPart7, wPart8, wPart9, wPart10, wPart11, wPart12, wPart13, wPart14, wPart15, wPart16, wPart17]
  unfold wCat
  refine IsEntry.eq ?_
  obtain ⟨s, hs⟩ : ∃ s, s = moved n.val := ⟨_, rfl⟩
  rw [← hs]
  unfold moved source at hs
  have hn := n.isLt
  unfold IsEntry
  pointwise
  show IsEntry (fun s => m ((c : Thread nD τ).loc main_arg1) (ix3 1 k s)) s _
  repeat' refine IsEntry.either (fun _ => ?_) (fun _ => ?_)
  all_goals first | exact IsEntry.pad (by split_ifs at hs <;> omega) | exact IsEntry.here (w := fun s => m ((c : Thread nD τ).loc main_arg1) (ix3 1 k s)) _ (by split_ifs at hs <;> omega)

end Cert.Kernel5Ideal.Next

end
-- ==== Proof.NextSpec.lean ====
/- The input projection of a layer past the first on one row, over plain functions: the same columns, without the
   embedding's layer norm. -/
module

public import proofs.«01_k».proof.Proof.ProjSpec

@[expose] public section

noncomputable section

namespace Cert.NextSpec

open Cert.ProjSpec Idealize.ShloMosaic

/-- The arrays the projection reads, the weights and the bias at the layer's own index. -/
structure Args where
  x : Fin 4 → Fin 8192 → Fin 1024 → EReal
  w : Fin 1024 → Fin 7448 → EReal
  bias : Fin 7448 → EReal

/-- The projection of the row of sequence `s`, position `p` onto column `q` of the weights; zero past the last column. -/
def project (A : Args) (s : Fin 4) (p : Fin 8192) (q : ℕ) : EReal := ∑ k, A.x s p k * entry (A.w k) q + entry A.bias q

theorem project_pad (A : Args) (s : Fin 4) (p : Fin 8192) (q : ℕ) (h : ¬ q < 7448) : project A s p q = 0 := by
  unfold project
  simp only [entry_pad _ q h, mul_zero, Finset.sum_const_zero, add_zero]

theorem project_col (A : Args) (s : Fin 4) (p : Fin 8192) (q : ℕ) (h : q < 7448) :
    project A s p q = ∑ k, A.x s p k * A.w k ⟨q, h⟩ + A.bias ⟨q, h⟩ := by
  unfold project
  simp only [entry_of_lt _ q h]

end Cert.NextSpec

end
-- ==== Proof.NextBlocks.lean ====
/- The blocks of a grid point of the second layer's input projection, read from the launch arguments: the tile's rows
   of the input, and that layer's weights and biases with their columns moved. -/
module

public import proofs.«01_k».proof.Proof.NextHost
public import Idealize.ShloMosaic.Lib.Pipeline.ValueKit
public import Idealize.ShloMosaic.Lib.Pipeline.ReadBack
public import Idealize.ShloMosaic.Lib.Pointwise
public import proofs.«01_k».proof.Proof.NextSpec

@[expose] public section

set_option maxRecDepth 16384

noncomputable section

namespace Cert.Kernel5Ideal.Next

open Cert.Kernel5Ideal Cert.Kernel5Ideal.Gen Cert.ProjSpec Idealize.ShloMosaic Idealize.ShloMosaic.TcCoe Idealize.SL.Sem

variable (m : (ℓ : Loc nD τ sig) → Buf (Elt Ideal) ℓ) (c : Dev nD)

/-- Which block each window holds at a grid point. -/
theorem idx : ∀ t : Fin cfg0.N, win0_0.index t = ![t.val, 0] ∧ win0_1.index t = ![1, 0, 0] ∧ win0_2.index t = ![1, 0, 0]
    ∧ win0_3.index t = ![t.val, 0] ∧ win0_4.index t = ![t.val, 0] :=
  (by decide +kernel : ∀ t : Fin grid0.N, _)

theorem tlt (t : Fin cfg0.N) : t.val < 64 := lt_of_lt_of_eq t.isLt N_0

/-- Tile `t`'s row `r` belongs to sequence `(512 * t + r) / 8192`, at position `(512 * t + r) % 8192`. -/
def seqOf (t : Fin cfg0.N) (r : Fin 512) : Fin 4 := ⟨(512 * t.val + r.val) / 8192, by have := tlt t; omega⟩
def posOf (t : Fin cfg0.N) (r : Fin 512) : Fin 8192 := ⟨(512 * t.val + r.val) % 8192, by omega⟩
def rowOf (t : Fin cfg0.N) (r : Fin 512) : Fin 32768 := ⟨512 * t.val + r.val, by have := tlt t; omega⟩

theorem x0_apply (t : Fin cfg0.N) (r : Fin 512) (d : Fin 1024) : (iblk m c 0 t : Vec Ideal S512x1024 .f32) (ix2 r d) = m ((c : Thread nD τ).loc main_arg0) (ix3 (seqOf t r) (posOf t r) d) := by
  have ht := tlt t
  unfold seqOf posOf
  blk_simp [iblk, idx t]
  entry_read
  pointwise
  blk_ext [idx t]

theorem x1_apply (t : Fin cfg0.N) (k : Fin 1024) (n : Fin 7680) :
    (iblk m c 1 t : Vec Ideal S1x1024x7680 .bf16) (ix3 0 k n) = entry (fun s => m ((c : Thread nD τ).loc main_arg1) (ix3 1 k s)) (moved n.val) := by
  rw [← wMoved]
  have ht := tlt t
  blk_ext [iblk, idx t]

theorem bias_row (n : Fin 7680) : (V m c main_v43 : Vec Ideal S2x1x7680 .f32) (ix3 1 0 n) = (V m c main_v42 : Vec Ideal S2x7680 .f32) (ix2 1 n) := by
  have e : ∀ σ : Valuation τ sig (Elt Ideal), StableHlo.after (List.drop 41 hostOps0) σ main_v43 =
      broadcastInDim S2x1x7680 ![0, 2] bcast_S2x7680_S2x1x7680_0_2 (StableHlo.after (List.drop 41 hostOps0) σ main_v42 : Vec Ideal S2x7680 .f32) := by
    intro σ
    simp only [hostOps0, List.drop_succ_cons, List.drop_zero]
    after_reads_simp
  rw [b_split, e, b_split]
  generalize StableHlo.after (List.drop 41 hostOps0) (StableHlo.after (List.take 41 hostOps0) fun b => m (c, b)) main_v42 = v
  pointwise

theorem x2_apply (t : Fin cfg0.N) (n : Fin 7680) :
    (iblk m c 2 t : Vec Ideal S1x1x7680 .f32) (ix3 0 0 n) = entry (fun s => m ((c : Thread nD τ).loc main_arg2) (ix2 1 s)) (moved n.val) := by
  rw [← bMoved, ← bias_row]
  have ht := tlt t
  blk_ext [iblk, idx t]

theorem read3 (t : Fin cfg0.N) (G : S32768x3072.Idx → EReal) (r : Fin 512) (d : Fin 3072) :
    (((cfg0.win 3).blk t).view.read (Elt Ideal) G : Vec Ideal S512x3072 .bf16) (ix2 r d) = G (ix2 (rowOf t r) d) := by
  have ht := tlt t
  unfold rowOf
  blk_ext [idx t]

theorem read4 (t : Fin cfg0.N) (G : S32768x4608.Idx → EReal) (r : Fin 512) (d : Fin 4608) :
    (((cfg0.win 4).blk t).view.read (Elt Ideal) G : Vec Ideal S512x4608 .f32) (ix2 r d) = G (ix2 (rowOf t r) d) := by
  have ht := tlt t
  unfold rowOf
  blk_ext [idx t]

end Cert.Kernel5Ideal.Next

end
-- ==== Proof.NextTile.lean ====
/- What the second layer's input projection leaves in a tile's two result blocks, from the tile's operand blocks: the
   rows' products with the weights' columns plus the bias. -/
module

public import proofs.«01_k».proof.Proof.Gen.Kernel5Ideal.Value
public import proofs.«01_k».proof.Proof.NextSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Next

open Cert.Kernel5Ideal Cert.Kernel5Ideal.Gen Idealize.ShloMosaic Idealize.ShloMosaic.TcCoe Idealize.SL.Sem

variable (x0 : Vec Ideal S512x1024 .f32) (x1 : Vec Ideal S1x1024x7680 .bf16) (x2 : Vec Ideal S1x1x7680 .f32)

/-- Row `r` of a tile. -/
def trow (r : Fin 512) : Fin 1024 → EReal := fun k => x0 (ix2 r k)

/-- Row `r` of a tile against column `q` of the weights, plus the bias. -/
def column (r : Fin 512) (q : Fin 7680) : EReal := ∑ k, trow x0 r k * x1 (ix3 0 k q) + x2 (ix3 0 0 q)

theorem part4_apply (r : Fin 512) (n : Fin 1536) : k0_pay4 (View.ld x0 r0_0) (View.ld x1 r0_1) (View.ld x2 r0_2) (ix2 r n) = column x0 x1 x2 r ⟨n.val, by omega⟩ := by
  unfold column trow
  pointwise [k0_pay4, k0_pay3]

theorem part5_apply (r : Fin 512) (n : Fin 1536) : k0_pay5 (View.ld x0 r0_0) (View.ld x1 r0_4) (View.ld x2 r0_5) (ix2 r n) = column x0 x1 x2 r ⟨1536 + n.val, by omega⟩ := by
  unfold column trow
  pointwise [k0_pay5, k0_pay3]

theorem part6_apply (r : Fin 512) (n : Fin 1536) : k0_pay6 (View.ld x0 r0_0) (View.ld x1 r0_7) (View.ld x2 r0_8) (ix2 r n) = column x0 x1 x2 r ⟨3072 + n.val, by omega⟩ := by
  unfold column trow
  pointwise [k0_pay6, k0_pay3]

theorem part1_apply (r : Fin 512) (n : Fin 1536) : k0_pay1 (k0_pay7 x0 x1 x2) (View.ld x1 r0_10) (View.ld x2 r0_11) (ix2 r n) = column x0 x1 x2 r ⟨4608 + n.val, by omega⟩ := by
  unfold column trow
  pointwise [k0_pay1, k0_pay3, k0_pay7]

theorem part2_apply (r : Fin 512) (n : Fin 1536) : k0_pay2 (k0_pay7 x0 x1 x2) (View.ld x1 r0_13) (View.ld x2 r0_14) (ix2 r n) = column x0 x1 x2 r ⟨6144 + n.val, by omega⟩ := by
  unfold column trow
  pointwise [k0_pay2, k0_pay3, k0_pay7]

theorem out3_apply (r : Fin 512) (n : Fin 3072) : out0_3 x0 x1 x2 (ix2 r n) = column x0 x1 x2 r ⟨n.val, by omega⟩ := by
  unfold out0_3
  refine View.canon_apply_of_pieces (Val := Elt Ideal) (fun y : S512x3072.Idx => column x0 x1 x2 ⟨(y 0).val, (y 0).isLt⟩ ⟨(y 1).val, by have h : (y 1).val < 3072 := (y 1).isLt; omega⟩) _ ?_ (ix2 r n) (cover0_3 _ _ _)
  intro pc hpc
  simp only [List.mem_cons, List.not_mem_nil, or_false] at hpc
  rcases hpc with rfl | rfl
  · intro i
    idx_vars i
    refine (part5_apply x0 x1 x2 _ _).trans ?_
    exact congrArg₂ (column x0 x1 x2) (Fin.ext (by show i0.val = 0 + 1 * i0.val; omega)) (Fin.ext (by show 1536 + i1.val = (1536 + 1 * i1.val); omega))
  · intro i
    idx_vars i
    refine (part4_apply x0 x1 x2 _ _).trans ?_
    exact congrArg₂ (column x0 x1 x2) (Fin.ext (by show i0.val = 0 + 1 * i0.val; omega)) (Fin.ext (by show i1.val = (0 + 1 * i1.val); omega))

theorem out4_apply (r : Fin 512) (n : Fin 4608) : out0_4 x0 x1 x2 (ix2 r n) = column x0 x1 x2 r ⟨3072 + n.val, by omega⟩ := by
  unfold out0_4
  refine View.canon_apply_of_pieces (Val := Elt Ideal) (fun y : S512x4608.Idx => column x0 x1 x2 ⟨(y 0).val, (y 0).isLt⟩ ⟨3072 + (y 1).val, by have h : (y 1).val < 4608 := (y 1).isLt; omega⟩) _ ?_ (ix2 r n) (cover0_4 _ _ _ _)
  intro pc hpc
  simp only [List.mem_cons, List.not_mem_nil, or_false] at hpc
  rcases hpc with rfl | rfl | rfl
  · intro i
    idx_vars i
    refine (part2_apply x0 x1 x2 _ _).trans ?_
    exact congrArg₂ (column x0 x1 x2) (Fin.ext (by show i0.val = 0 + 1 * i0.val; omega)) (Fin.ext (by show 6144 + i1.val = 3072 + (3072 + 1 * i1.val); omega))
  · intro i
    idx_vars i
    refine (part1_apply x0 x1 x2 _ _).trans ?_
    exact congrArg₂ (column x0 x1 x2) (Fin.ext (by show i0.val = 0 + 1 * i0.val; omega)) (Fin.ext (by show 4608 + i1.val = 3072 + (1536 + 1 * i1.val); omega))
  · intro i
    idx_vars i
    refine (part6_apply x0 x1 x2 _ _).trans ?_
    exact congrArg₂ (column x0 x1 x2) (Fin.ext (by show i0.val = 0 + 1 * i0.val; omega)) (Fin.ext (by show 3072 + i1.val = 3072 + (0 + 1 * i1.val); omega))

end Cert.Kernel5Ideal.Next

end
-- ==== Proof.NextValue.lean ====
/- The second layer's input projection's two result arrays: row `8192 * s + p` holds the projections of the row of
   sequence `s`, position `p` onto the merge gates' and the branches' columns. -/
module

public import proofs.«01_k».proof.Proof.NextBlocks
public import proofs.«01_k».proof.Proof.NextTile

@[expose] public section

set_option maxRecDepth 16384

noncomputable section

namespace Cert.Kernel5Ideal.Next

open Cert.Kernel5Ideal Cert.Kernel5Ideal.Gen Cert.ProjSpec Cert.NextSpec Idealize.ShloMosaic Idealize.ShloMosaic.TcCoe Idealize.SL.Sem

variable (m : (ℓ : Loc nD τ sig) → Buf (Elt Ideal) ℓ) (c : Dev nD)

/-- The launch's arguments as the projection's arrays. -/
def args : NextSpec.Args where
  x s p d := m ((c : Thread nD τ).loc main_arg0) (ix3 s p d)
  w k q := m ((c : Thread nD τ).loc main_arg1) (ix3 1 k q)
  bias q := m ((c : Thread nD τ).loc main_arg2) (ix2 1 q)

theorem column_eq (t : Fin cfg0.N) (r : Fin 512) (q : Fin 7680) :
    column (iblk m c 0 t) (iblk m c 1 t) (iblk m c 2 t) r q = NextSpec.project (args m c) (seqOf t r) (posOf t r) (moved q.val) := by
  unfold column NextSpec.project trow
  simp only [x0_apply, x1_apply, x2_apply]
  rfl

/-- The tile and the row in it of a row of the flattened batch. -/
def tileOf (i : Fin 32768) : Fin cfg0.N := ⟨i.val / 512, lt_of_lt_of_eq (show i.val / 512 < 64 by omega) N_0.symm⟩
def inTile (i : Fin 32768) : Fin 512 := ⟨i.val % 512, by omega⟩

theorem row_tile (i : Fin 32768) : rowOf (tileOf i) (inTile i) = i := Fin.ext (by show 512 * (i.val / 512) + i.val % 512 = i.val; omega)
theorem seq_tile (i : Fin 32768) : seqOf (tileOf i) (inTile i) = seqIx i := Fin.ext (by show (512 * (i.val / 512) + i.val % 512) / 8192 = i.val / 8192; omega)
theorem pos_tile (i : Fin 32768) : posOf (tileOf i) (inTile i) = posIx i := Fin.ext (by show (512 * (i.val / 512) + i.val % 512) % 8192 = i.val % 8192; omega)

theorem flush3 : ∀ t : Fin cfg0.N, (cfg0.win 3).flush t = true := (by decide +kernel : ∀ t : Fin grid0.N, _)

theorem value3 (i : Fin 32768) (n : Fin 3072) : ((dats m 0 c).arrAt 3 cfg0.N : S32768x3072.Idx → EReal) (ix2 i n) = NextSpec.project (args m c) (seqIx i) (posIx i) (4376 + n.val) := by
  have h := congrFun (Value.blocks3 m c (tileOf i) (flush3 _)) (ix2 (inTile i) n)
  rw [Value.flushed3] at h
  have e := read3 (tileOf i) ((dats m 0 c).arrAt 3 cfg0.N) (inTile i) n
  rw [row_tile] at e
  refine e.symm.trans (h.trans ?_)
  refine (out3_apply (iblk m c 0 (tileOf i)) (iblk m c 1 (tileOf i)) (iblk m c 2 (tileOf i)) (inTile i) n).trans ?_
  exact (column_eq m c (tileOf i) (inTile i) _).trans (by rw [seq_tile, pos_tile]; exact congrArg _ (moved_gate _ n.isLt))

theorem flush4 : ∀ t : Fin cfg0.N, (cfg0.win 4).flush t = true := (by decide +kernel : ∀ t : Fin grid0.N, _)

theorem value4 (i : Fin 32768) (n : Fin 4608) : ((dats m 0 c).arrAt 4 cfg0.N : S32768x4608.Idx → EReal) (ix2 i n) = NextSpec.project (args m c) (seqIx i) (posIx i) (source n.val) := by
  have h := congrFun (Value.blocks4 m c (tileOf i) (flush4 _)) (ix2 (inTile i) n)
  rw [Value.flushed4] at h
  have e := read4 (tileOf i) ((dats m 0 c).arrAt 4 cfg0.N) (inTile i) n
  rw [row_tile] at e
  refine e.symm.trans (h.trans ?_)
  refine (out4_apply (iblk m c 0 (tileOf i)) (iblk m c 1 (tileOf i)) (iblk m c 2 (tileOf i)) (inTile i) n).trans ?_
  exact (column_eq m c (tileOf i) (inTile i) _).trans (by rw [seq_tile, pos_tile]; exact congrArg _ (moved_branch _))

end Cert.Kernel5Ideal.Next

end
-- ==== Proof.ProjRef.lean ====
/- The input projection's reference at an index: the layer norm's rows, and their projections onto the columns in the
   order of the call's results. -/
module

public import proofs.«01_k».proof.Proof.Gen.Reference3Ideal.Read
public import proofs.«01_k».proof.Proof.ProjSpec
public import Idealize.ShloMosaic.Lib.Pointwise

@[expose] public section

set_option maxRecDepth 16384

noncomputable section

namespace Cert.Reference3Ideal.Proj

open Cert.Reference3Ideal Cert.Reference3Ideal.Read Cert.ProjSpec Cert.FfnSpec Idealize.ShloMosaic Idealize.ShloMosaic.TcCoe

variable (x0 : (⟨S4x8192x1024, .f32⟩ : BufTy).Contents (Elt Ideal)) (x1 x2 : (⟨S1024, .f32⟩ : BufTy).Contents (Elt Ideal))
  (x3 : (⟨S2x1024x7448, .f32⟩ : BufTy).Contents (Elt Ideal)) (x4 : (⟨S2x7448, .f32⟩ : BufTy).Contents (Elt Ideal))

/-- The launch's arguments as the projection's arrays. -/
def args : ProjSpec.Args where
  x s p d := x0 (ix3 s p d)
  g d := x1 (ix1 d)
  b d := x2 (ix1 d)
  w k q := x3 (ix3 0 k q)
  bias q := x4 (ix2 0 q)

include x3 x4 in
theorem norm_apply (s : Fin 4) (p : Fin 8192) (d : Fin 1024) : val_main_v23 (F := Ideal) x0 x1 x2 (ix3 s p d) = rowNorm (args x0 x1 x2 x3 x4) s p d := by
  unfold rowNorm lnorm mean args
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3]

theorem proj_apply (s : Fin 4) (p : Fin 8192) (q : Fin 7448) : val_main_v31 (F := Ideal) x0 x1 x2 x3 x4 (ix3 s p q) = project (args x0 x1 x2 x3 x4) s p q.val := by
  rw [project_col _ _ _ _ q.isLt]
  have e : val_main_v31 (F := Ideal) x0 x1 x2 x3 x4 (ix3 s p q) = ∑ k : Fin 1024, val_main_v23 (F := Ideal) x0 x1 x2 (ix3 s p k) * x3 (ix3 0 k q) + x4 (ix2 0 q) := by
    pointwise [val_main_v31, val_main_v30, val_main_v29, val_main_v28, val_main_v27, val_main_v26, val_main_v25, val_main_v24]
  rw [e]
  exact congrArg (· + _) (Finset.sum_congr rfl fun k _ => congrArg (· * _) (norm_apply x0 x1 x2 x3 x4 s p k))

theorem gates_apply (i : Fin 32768) (n : Fin 3072) : val_main_v53 (F := Ideal) x0 x1 x2 x3 x4 (ix2 i n) = project (args x0 x1 x2 x3 x4) (seqIx i) (posIx i) (4376 + n.val) := by
  refine Eq.trans ?_ (proj_apply x0 x1 x2 x3 x4 (seqIx i) (posIx i) ⟨4376 + n.val, by omega⟩)
  unfold seqIx posIx
  pointwise [val_main_v53, val_main_v52, val_main_v46]

include x3 x4 in
theorem normed_apply (i : Fin 32768) (n : Fin 1024) : val_main_v55 (F := Ideal) x0 x1 x2 (ix2 i n) = rowNorm (args x0 x1 x2 x3 x4) (seqIx i) (posIx i) n := by
  refine Eq.trans ?_ (norm_apply x0 x1 x2 x3 x4 (seqIx i) (posIx i) n)
  unfold seqIx posIx
  pointwise [val_main_v55]

theorem either {p : Prop} [Decidable p] {x : EReal} {t : p → EReal} {e : ¬ p → EReal} (ht : ∀ h, t h = x) (he : ∀ h, e h = x) :
    (if h : p then t h else e h) = x := by
  by_cases h : p
  · rw [dif_pos h]; exact ht h
  · rw [dif_neg h]; exact he h

theorem piece32 (s : Fin 4) (p : Fin 8192) (j : Fin 512) : val_main_v32 (F := Ideal) x0 x1 x2 x3 x4 (ix3 s p j) = project (args x0 x1 x2 x3 x4) s p (j.val) := by
  refine Eq.trans ?_ (proj_apply x0 x1 x2 x3 x4 s p ⟨j.val, by omega⟩)
  pointwise [val_main_v32]

theorem piece33 (s : Fin 4) (p : Fin 8192) (j : Fin 512) : val_main_v33 (F := Ideal) x0 x1 x2 x3 x4 (ix3 s p j) = project (args x0 x1 x2 x3 x4) s p (512 + j.val) := by
  refine Eq.trans ?_ (proj_apply x0 x1 x2 x3 x4 s p ⟨512 + j.val, by omega⟩)
  pointwise [val_main_v33]

theorem piece34 (s : Fin 4) (p : Fin 8192) (j : Fin 512) : val_main_v34 (F := Ideal) x0 x1 x2 x3 x4 (ix3 s p j) = project (args x0 x1 x2 x3 x4) s p (1024 + j.val) := by
  refine Eq.trans ?_ (proj_apply x0 x1 x2 x3 x4 s p ⟨1024 + j.val, by omega⟩)
  pointwise [val_main_v34]

theorem piece35 (s : Fin 4) (p : Fin 8192) (j : Fin 512) : val_main_v35 (F := Ideal) x0 x1 x2 x3 x4 (ix3 s p j) = project (args x0 x1 x2 x3 x4) s p (1536 + j.val) := by
  refine Eq.trans ?_ (proj_apply x0 x1 x2 x3 x4 s p ⟨1536 + j.val, by omega⟩)
  pointwise [val_main_v35]

theorem piece36 (s : Fin 4) (p : Fin 8192) (j : Fin 512) : val_main_v36 (F := Ideal) x0 x1 x2 x3 x4 (ix3 s p j) = project (args x0 x1 x2 x3 x4) s p (2048 + j.val) := by
  refine Eq.trans ?_ (proj_apply x0 x1 x2 x3 x4 s p ⟨2048 + j.val, by omega⟩)
  pointwise [val_main_v36]

theorem piece44 (s : Fin 4) (p : Fin 8192) (j : Fin 512) : val_main_v44 (F := Ideal) x0 x1 x2 x3 x4 (ix3 s p j) = project (args x0 x1 x2 x3 x4) s p (3352 + j.val) := by
  refine Eq.trans ?_ (proj_apply x0 x1 x2 x3 x4 s p ⟨3352 + j.val, by omega⟩)
  pointwise [val_main_v44]

theorem piece45 (s : Fin 4) (p : Fin 8192) (j : Fin 512) : val_main_v45 (F := Ideal) x0 x1 x2 x3 x4 (ix3 s p j) = project (args x0 x1 x2 x3 x4) s p (3864 + j.val) := by
  refine Eq.trans ?_ (proj_apply x0 x1 x2 x3 x4 s p ⟨3864 + j.val, by omega⟩)
  pointwise [val_main_v45]

theorem piece37 (s : Fin 4) (p : Fin 8192) (j : Fin 128) : val_main_v37 (F := Ideal) x0 x1 x2 x3 x4 (ix3 s p j) = project (args x0 x1 x2 x3 x4) s p (2560 + j.val) := by
  refine Eq.trans ?_ (proj_apply x0 x1 x2 x3 x4 s p ⟨2560 + j.val, by omega⟩)
  pointwise [val_main_v37]

theorem piece38 (s : Fin 4) (p : Fin 8192) (j : Fin 128) : val_main_v38 (F := Ideal) x0 x1 x2 x3 x4 (ix3 s p j) = project (args x0 x1 x2 x3 x4) s p (2688 + j.val) := by
  refine Eq.trans ?_ (proj_apply x0 x1 x2 x3 x4 s p ⟨2688 + j.val, by omega⟩)
  pointwise [val_main_v38]

theorem piece39 (s : Fin 4) (p : Fin 8192) (j : Fin 128) : val_main_v39 (F := Ideal) x0 x1 x2 x3 x4 (ix3 s p j) = project (args x0 x1 x2 x3 x4) s p (2816 + j.val) := by
  refine Eq.trans ?_ (proj_apply x0 x1 x2 x3 x4 s p ⟨2816 + j.val, by omega⟩)
  pointwise [val_main_v39]

theorem piece40 (s : Fin 4) (p : Fin 8192) (j : Fin 128) : val_main_v40 (F := Ideal) x0 x1 x2 x3 x4 (ix3 s p j) = project (args x0 x1 x2 x3 x4) s p (2944 + j.val) := by
  refine Eq.trans ?_ (proj_apply x0 x1 x2 x3 x4 s p ⟨2944 + j.val, by omega⟩)
  pointwise [val_main_v40]

theorem piece41 (s : Fin 4) (p : Fin 8192) (j : Fin 128) : val_main_v41 (F := Ideal) x0 x1 x2 x3 x4 (ix3 s p j) = project (args x0 x1 x2 x3 x4) s p (3072 + j.val) := by
  refine Eq.trans ?_ (proj_apply x0 x1 x2 x3 x4 s p ⟨3072 + j.val, by omega⟩)
  pointwise [val_main_v41]

theorem piece42 (s : Fin 4) (p : Fin 8192) (j : Fin 128) : val_main_v42 (F := Ideal) x0 x1 x2 x3 x4 (ix3 s p j) = project (args x0 x1 x2 x3 x4) s p (3200 + j.val) := by
  refine Eq.trans ?_ (proj_apply x0 x1 x2 x3 x4 s p ⟨3200 + j.val, by omega⟩)
  pointwise [val_main_v42]

theorem piece43 (s : Fin 4) (p : Fin 8192) (j : Fin 24) : val_main_v43 (F := Ideal) x0 x1 x2 x3 x4 (ix3 s p j) = project (args x0 x1 x2 x3 x4) s p (3328 + j.val) := by
  refine Eq.trans ?_ (proj_apply x0 x1 x2 x3 x4 s p ⟨3328 + j.val, by omega⟩)
  pointwise [val_main_v43]

theorem pads_apply (s : Fin 4) (p : Fin 8192) (j : Fin 256) : val_main_v50 (F := Ideal) x0 x1 x2 x3 x4 (ix3 s p j) = project (args x0 x1 x2 x3 x4) s p (source (4352 + j.val)) := by
  obtain ⟨q, hq⟩ : ∃ q, q = source (4352 + j.val) := ⟨_, rfl⟩
  rw [← hq]
  unfold source at hq
  have hj := j.isLt
  pointwise [val_main_v50, val_main_v49, val_main_v48, val_main_v47, val_main_cst_4]
  repeat' refine either (fun _ => ?_) (fun _ => ?_)
  all_goals first
    | exact (piece43 x0 x1 x2 x3 x4 s p _).trans (congrArg _ (by split_ifs at hq <;> (dsimp only; omega)))
    | exact (project_pad _ s p q (by split_ifs at hq <;> omega)).symm

set_option maxHeartbeats 4000000 in
/-- The fourteen parts of the branches' columns side by side, each part's columns known. -/
theorem beside (s : Fin 4) (p : Fin 8192) (P : ℕ → EReal) (a0 : FVec Ideal S4x8192x512 .f32) (a1 : FVec Ideal S4x8192x512 .f32) (a2 : FVec Ideal S4x8192x512 .f32) (a3 : FVec Ideal S4x8192x512 .f32) (a4 : FVec Ideal S4x8192x512 .f32) (a5 : FVec Ideal S4x8192x512 .f32) (a6 : FVec Ideal S4x8192x512 .f32) (a7 : FVec Ideal S4x8192x128 .f32) (a8 : FVec Ideal S4x8192x128 .f32) (a9 : FVec Ideal S4x8192x128 .f32) (a10 : FVec Ideal S4x8192x128 .f32) (a11 : FVec Ideal S4x8192x128 .f32) (a12 : FVec Ideal S4x8192x128 .f32) (a13 : FVec Ideal S4x8192x256 .f32)
    (h0 : ∀ j : Fin 512, a0 (ix3 s p j) = P (0 + j.val))
    (h1 : ∀ j : Fin 512, a1 (ix3 s p j) = P (512 + j.val))
    (h2 : ∀ j : Fin 512, a2 (ix3 s p j) = P (1024 + j.val))
    (h3 : ∀ j : Fin 512, a3 (ix3 s p j) = P (1536 + j.val))
    (h4 : ∀ j : Fin 512, a4 (ix3 s p j) = P (2048 + j.val))
    (h5 : ∀ j : Fin 512, a5 (ix3 s p j) = P (3352 + j.val))
    (h6 : ∀ j : Fin 512, a6 (ix3 s p j) = P (3864 + j.val))
    (h7 : ∀ j : Fin 128, a7 (ix3 s p j) = P (2560 + j.val))
    (h8 : ∀ j : Fin 128, a8 (ix3 s p j) = P (2688 + j.val))
    (h9 : ∀ j : Fin 128, a9 (ix3 s p j) = P (2816 + j.val))
    (h10 : ∀ j : Fin 128, a10 (ix3 s p j) = P (2944 + j.val))
    (h11 : ∀ j : Fin 128, a11 (ix3 s p j) = P (3072 + j.val))
    (h12 : ∀ j : Fin 128, a12 (ix3 s p j) = P (3200 + j.val))
    (h13 : ∀ j : Fin 256, a13 (ix3 s p j) = P (source (4352 + j.val))) (n : Fin 4608) :
    Value.fn_main_v51 (F := Ideal) a0 a1 a2 a3 a4 a5 a6 a7 a8 a9 a10 a11 a12 a13 (ix3 s p n) = P (source n.val) := by
  have hn := n.isLt
  have off : ∀ w (j : Fin w) (b : Fin 3), b ≠ 2 → (ix3 s p j b).val = (ix3 s p n b).val := fun w j b hb => by
    fin_cases b
    · rfl
    · rfl
    · exact absurd rfl hb
  unfold Value.fn_main_v51
  by_cases c0 : n.val < 512
  · refine (concatenate_apply_piece (t := S4x8192x4608) 2 _ _ (ix3 s p n) 0 (by show 0 < 14; omega) S4x8192x512 a0 rfl rfl 0 rfl (ix3 s p (⟨n.val - 0, by omega⟩ : Fin 512)) (off 512 _)
      (by show 0 + (n.val - 0) = n.val; omega)).trans ?_
    refine (h0 _).trans (congrArg P ?_)
    unfold source
    split_ifs <;> (dsimp only; omega)
  by_cases c1 : n.val < 1024
  · refine (concatenate_apply_piece (t := S4x8192x4608) 2 _ _ (ix3 s p n) 1 (by show 1 < 14; omega) S4x8192x512 a1 rfl rfl 512 rfl (ix3 s p (⟨n.val - 512, by omega⟩ : Fin 512)) (off 512 _)
      (by show 512 + (n.val - 512) = n.val; omega)).trans ?_
    refine (h1 _).trans (congrArg P ?_)
    unfold source
    split_ifs <;> (dsimp only; omega)
  by_cases c2 : n.val < 1536
  · refine (concatenate_apply_piece (t := S4x8192x4608) 2 _ _ (ix3 s p n) 2 (by show 2 < 14; omega) S4x8192x512 a2 rfl rfl 1024 rfl (ix3 s p (⟨n.val - 1024, by omega⟩ : Fin 512)) (off 512 _)
      (by show 1024 + (n.val - 1024) = n.val; omega)).trans ?_
    refine (h2 _).trans (congrArg P ?_)
    unfold source
    split_ifs <;> (dsimp only; omega)
  by_cases c3 : n.val < 2048
  · refine (concatenate_apply_piece (t := S4x8192x4608) 2 _ _ (ix3 s p n) 3 (by show 3 < 14; omega) S4x8192x512 a3 rfl rfl 1536 rfl (ix3 s p (⟨n.val - 1536, by omega⟩ : Fin 512)) (off 512 _)
      (by show 1536 + (n.val - 1536) = n.val; omega)).trans ?_
    refine (h3 _).trans (congrArg P ?_)
    unfold source
    split_ifs <;> (dsimp only; omega)
  by_cases c4 : n.val < 2560
  · refine (concatenate_apply_piece (t := S4x8192x4608) 2 _ _ (ix3 s p n) 4 (by show 4 < 14; omega) S4x8192x512 a4 rfl rfl 2048 rfl (ix3 s p (⟨n.val - 2048, by omega⟩ : Fin 512)) (off 512 _)
      (by show 2048 + (n.val - 2048) = n.val; omega)).trans ?_
    refine (h4 _).trans (congrArg P ?_)
    unfold source
    split_ifs <;> (dsimp only; omega)
  by_cases c5 : n.val < 3072
  · refine (concatenate_apply_piece (t := S4x8192x4608) 2 _ _ (ix3 s p n) 5 (by show 5 < 14; omega) S4x8192x512 a5 rfl rfl 2560 rfl (ix3 s p (⟨n.val - 2560, by omega⟩ : Fin 512)) (off 512 _)
      (by show 2560 + (n.val - 2560) = n.val; omega)).trans ?_
    refine (h5 _).trans (congrArg P ?_)
    unfold source
    split_ifs <;> (dsimp only; omega)
  by_cases c6 : n.val < 3584
  · refine (concatenate_apply_piece (t := S4x8192x4608) 2 _ _ (ix3 s p n) 6 (by show 6 < 14; omega) S4x8192x512 a6 rfl rfl 3072 rfl (ix3 s p (⟨n.val - 3072, by omega⟩ : Fin 512)) (off 512 _)
      (by show 3072 + (n.val - 3072) = n.val; omega)).trans ?_
    refine (h6 _).trans (congrArg P ?_)
    unfold source
    split_ifs <;> (dsimp only; omega)
  by_cases c7 : n.val < 3712
  · refine (concatenate_apply_piece (t := S4x8192x4608) 2 _ _ (ix3 s p n) 7 (by show 7 < 14; omega) S4x8192x128 a7 rfl rfl 3584 rfl (ix3 s p (⟨n.val - 3584, by omega⟩ : Fin 128)) (off 128 _)
      (by show 3584 + (n.val - 3584) = n.val; omega)).trans ?_
    refine (h7 _).trans (congrArg P ?_)
    unfold source
    split_ifs <;> (dsimp only; omega)
  by_cases c8 : n.val < 3840
  · refine (concatenate_apply_piece (t := S4x8192x4608) 2 _ _ (ix3 s p n) 8 (by show 8 < 14; omega) S4x8192x128 a8 rfl rfl 3712 rfl (ix3 s p (⟨n.val - 3712, by omega⟩ : Fin 128)) (off 128 _)
      (by show 3712 + (n.val - 3712) = n.val; omega)).trans ?_
    refine (h8 _).trans (congrArg P ?_)
    unfold source
    split_ifs <;> (dsimp only; omega)
  by_cases c9 : n.val < 3968
  · refine (concatenate_apply_piece (t := S4x8192x4608) 2 _ _ (ix3 s p n) 9 (by show 9 < 14; omega) S4x8192x128 a9 rfl rfl 3840 rfl (ix3 s p (⟨n.val - 3840, by omega⟩ : Fin 128)) (off 128 _)
      (by show 3840 + (n.val - 3840) = n.val; omega)).trans ?_
    refine (h9 _).trans (congrArg P ?_)
    unfold source
    split_ifs <;> (dsimp only; omega)
  by_cases c10 : n.val < 4096
  · refine (concatenate_apply_piece (t := S4x8192x4608) 2 _ _ (ix3 s p n) 10 (by show 10 < 14; omega) S4x8192x128 a10 rfl rfl 3968 rfl (ix3 s p (⟨n.val - 3968, by omega⟩ : Fin 128)) (off 128 _)
      (by show 3968 + (n.val - 3968) = n.val; omega)).trans ?_
    refine (h10 _).trans (congrArg P ?_)
    unfold source
    split_ifs <;> (dsimp only; omega)
  by_cases c11 : n.val < 4224
  · refine (concatenate_apply_piece (t := S4x8192x4608) 2 _ _ (ix3 s p n) 11 (by show 11 < 14; omega) S4x8192x128 a11 rfl rfl 4096 rfl (ix3 s p (⟨n.val - 4096, by omega⟩ : Fin 128)) (off 128 _)
      (by show 4096 + (n.val - 4096) = n.val; omega)).trans ?_
    refine (h11 _).trans (congrArg P ?_)
    unfold source
    split_ifs <;> (dsimp only; omega)
  by_cases c12 : n.val < 4352
  · refine (concatenate_apply_piece (t := S4x8192x4608) 2 _ _ (ix3 s p n) 12 (by show 12 < 14; omega) S4x8192x128 a12 rfl rfl 4224 rfl (ix3 s p (⟨n.val - 4224, by omega⟩ : Fin 128)) (off 128 _)
      (by show 4224 + (n.val - 4224) = n.val; omega)).trans ?_
    refine (h12 _).trans (congrArg P ?_)
    unfold source
    split_ifs <;> (dsimp only; omega)
  refine (concatenate_apply_piece (t := S4x8192x4608) 2 _ _ (ix3 s p n) 13 (by show 13 < 14; omega) S4x8192x256 a13 rfl rfl 4352 rfl (ix3 s p (⟨n.val - 4352, by omega⟩ : Fin 256)) (off 256 _)
      (by show 4352 + (n.val - 4352) = n.val; omega)).trans ?_
  refine (h13 _).trans (congrArg P ?_)
  exact congrArg source (by dsimp only; omega)

theorem branches_apply (s : Fin 4) (p : Fin 8192) (n : Fin 4608) : val_main_v51 (F := Ideal) x0 x1 x2 x3 x4 (ix3 s p n) = project (args x0 x1 x2 x3 x4) s p (source n.val) := by
  unfold val_main_v51
  exact beside s p (project (args x0 x1 x2 x3 x4) s p) _ _ _ _ _ _ _ _ _ _ _ _ _ _
    (fun j => (piece32 x0 x1 x2 x3 x4 s p j).trans (congrArg _ (Nat.zero_add _).symm)) (piece33 x0 x1 x2 x3 x4 s p) (piece34 x0 x1 x2 x3 x4 s p) (piece35 x0 x1 x2 x3 x4 s p) (piece36 x0 x1 x2 x3 x4 s p) (piece44 x0 x1 x2 x3 x4 s p) (piece45 x0 x1 x2 x3 x4 s p) (piece37 x0 x1 x2 x3 x4 s p) (piece38 x0 x1 x2 x3 x4 s p) (piece39 x0 x1 x2 x3 x4 s p) (piece40 x0 x1 x2 x3 x4 s p) (piece41 x0 x1 x2 x3 x4 s p) (piece42 x0 x1 x2 x3 x4 s p) (pads_apply x0 x1 x2 x3 x4 s p) n

theorem cols_apply (i : Fin 32768) (n : Fin 4608) : val_main_v54 (F := Ideal) x0 x1 x2 x3 x4 (ix2 i n) = project (args x0 x1 x2 x3 x4) (seqIx i) (posIx i) (source n.val) := by
  refine Eq.trans ?_ (branches_apply x0 x1 x2 x3 x4 (seqIx i) (posIx i) n)
  unfold seqIx posIx
  pointwise [val_main_v54]

end Cert.Reference3Ideal.Proj

end
-- ==== Proof.NextRef.lean ====
/- The second layer's input projection's reference at an index: the rows' projections onto the columns in the order of
   the call's results. -/
module

public import proofs.«01_k».proof.Proof.Gen.Reference5Ideal.Read
public import proofs.«01_k».proof.Proof.NextSpec
public import proofs.«01_k».proof.Proof.ProjRef
public import Idealize.ShloMosaic.Lib.Pointwise

@[expose] public section

set_option maxRecDepth 16384

noncomputable section

namespace Cert.Reference5Ideal.Next

open Cert.Reference5Ideal Cert.Reference5Ideal.Read Cert.ProjSpec Cert.NextSpec Idealize.ShloMosaic Idealize.ShloMosaic.TcCoe

variable (x0 : FVec Ideal S4x8192x1024 .f32) (x1 : FVec Ideal S2x1024x7448 .f32) (x2 : FVec Ideal S2x7448 .f32)

/-- The launch's arguments as the projection's arrays. -/
def args : NextSpec.Args where
  x s p d := x0 (ix3 s p d)
  w k q := x1 (ix3 1 k q)
  bias q := x2 (ix2 1 q)

theorem proj_apply (s : Fin 4) (p : Fin 8192) (q : Fin 7448) : val_main_v7 (F := Ideal) x0 x1 x2 (ix3 s p q) = NextSpec.project (args x0 x1 x2) s p q.val := by
  rw [NextSpec.project_col _ _ _ _ q.isLt]
  unfold args
  pointwise [val_main_v7, val_main_v6, val_main_v5, val_main_v4, val_main_v3, val_main_v2, val_main_v1, val_main_v0]

theorem gates_apply (i : Fin 32768) (n : Fin 3072) : val_main_v29 (F := Ideal) x0 x1 x2 (ix2 i n) = NextSpec.project (args x0 x1 x2) (seqIx i) (posIx i) (4376 + n.val) := by
  refine Eq.trans ?_ (proj_apply x0 x1 x2 (seqIx i) (posIx i) ⟨4376 + n.val, by omega⟩)
  unfold seqIx posIx
  pointwise [val_main_v29, val_main_v28, val_main_v22]

theorem piece32 (s : Fin 4) (p : Fin 8192) (j : Fin 512) : val_main_v8 (F := Ideal) x0 x1 x2 (ix3 s p j) = NextSpec.project (args x0 x1 x2) s p (j.val) := by
  refine Eq.trans ?_ (proj_apply x0 x1 x2 s p ⟨j.val, by omega⟩)
  pointwise [val_main_v8]

theorem piece33 (s : Fin 4) (p : Fin 8192) (j : Fin 512) : val_main_v9 (F := Ideal) x0 x1 x2 (ix3 s p j) = NextSpec.project (args x0 x1 x2) s p (512 + j.val) := by
  refine Eq.trans ?_ (proj_apply x0 x1 x2 s p ⟨512 + j.val, by omega⟩)
  pointwise [val_main_v9]

theorem piece34 (s : Fin 4) (p : Fin 8192) (j : Fin 512) : val_main_v10 (F := Ideal) x0 x1 x2 (ix3 s p j) = NextSpec.project (args x0 x1 x2) s p (1024 + j.val) := by
  refine Eq.trans ?_ (proj_apply x0 x1 x2 s p ⟨1024 + j.val, by omega⟩)
  pointwise [val_main_v10]

theorem piece35 (s : Fin 4) (p : Fin 8192) (j : Fin 512) : val_main_v11 (F := Ideal) x0 x1 x2 (ix3 s p j) = NextSpec.project (args x0 x1 x2) s p (1536 + j.val) := by
  refine Eq.trans ?_ (proj_apply x0 x1 x2 s p ⟨1536 + j.val, by omega⟩)
  pointwise [val_main_v11]

theorem piece36 (s : Fin 4) (p : Fin 8192) (j : Fin 512) : val_main_v12 (F := Ideal) x0 x1 x2 (ix3 s p j) = NextSpec.project (args x0 x1 x2) s p (2048 + j.val) := by
  refine Eq.trans ?_ (proj_apply x0 x1 x2 s p ⟨2048 + j.val, by omega⟩)
  pointwise [val_main_v12]

theorem piece44 (s : Fin 4) (p : Fin 8192) (j : Fin 512) : val_main_v20 (F := Ideal) x0 x1 x2 (ix3 s p j) = NextSpec.project (args x0 x1 x2) s p (3352 + j.val) := by
  refine Eq.trans ?_ (proj_apply x0 x1 x2 s p ⟨3352 + j.val, by omega⟩)
  pointwise [val_main_v20]

theorem piece45 (s : Fin 4) (p : Fin 8192) (j : Fin 512) : val_main_v21 (F := Ideal) x0 x1 x2 (ix3 s p j) = NextSpec.project (args x0 x1 x2) s p (3864 + j.val) := by
  refine Eq.trans ?_ (proj_apply x0 x1 x2 s p ⟨3864 + j.val, by omega⟩)
  pointwise [val_main_v21]

theorem piece37 (s : Fin 4) (p : Fin 8192) (j : Fin 128) : val_main_v13 (F := Ideal) x0 x1 x2 (ix3 s p j) = NextSpec.project (args x0 x1 x2) s p (2560 + j.val) := by
  refine Eq.trans ?_ (proj_apply x0 x1 x2 s p ⟨2560 + j.val, by omega⟩)
  pointwise [val_main_v13]

theorem piece38 (s : Fin 4) (p : Fin 8192) (j : Fin 128) : val_main_v14 (F := Ideal) x0 x1 x2 (ix3 s p j) = NextSpec.project (args x0 x1 x2) s p (2688 + j.val) := by
  refine Eq.trans ?_ (proj_apply x0 x1 x2 s p ⟨2688 + j.val, by omega⟩)
  pointwise [val_main_v14]

theorem piece39 (s : Fin 4) (p : Fin 8192) (j : Fin 128) : val_main_v15 (F := Ideal) x0 x1 x2 (ix3 s p j) = NextSpec.project (args x0 x1 x2) s p (2816 + j.val) := by
  refine Eq.trans ?_ (proj_apply x0 x1 x2 s p ⟨2816 + j.val, by omega⟩)
  pointwise [val_main_v15]

theorem piece40 (s : Fin 4) (p : Fin 8192) (j : Fin 128) : val_main_v16 (F := Ideal) x0 x1 x2 (ix3 s p j) = NextSpec.project (args x0 x1 x2) s p (2944 + j.val) := by
  refine Eq.trans ?_ (proj_apply x0 x1 x2 s p ⟨2944 + j.val, by omega⟩)
  pointwise [val_main_v16]

theorem piece41 (s : Fin 4) (p : Fin 8192) (j : Fin 128) : val_main_v17 (F := Ideal) x0 x1 x2 (ix3 s p j) = NextSpec.project (args x0 x1 x2) s p (3072 + j.val) := by
  refine Eq.trans ?_ (proj_apply x0 x1 x2 s p ⟨3072 + j.val, by omega⟩)
  pointwise [val_main_v17]

theorem piece42 (s : Fin 4) (p : Fin 8192) (j : Fin 128) : val_main_v18 (F := Ideal) x0 x1 x2 (ix3 s p j) = NextSpec.project (args x0 x1 x2) s p (3200 + j.val) := by
  refine Eq.trans ?_ (proj_apply x0 x1 x2 s p ⟨3200 + j.val, by omega⟩)
  pointwise [val_main_v18]

theorem piece43 (s : Fin 4) (p : Fin 8192) (j : Fin 24) : val_main_v19 (F := Ideal) x0 x1 x2 (ix3 s p j) = NextSpec.project (args x0 x1 x2) s p (3328 + j.val) := by
  refine Eq.trans ?_ (proj_apply x0 x1 x2 s p ⟨3328 + j.val, by omega⟩)
  pointwise [val_main_v19]

theorem pads_apply (s : Fin 4) (p : Fin 8192) (j : Fin 256) : val_main_v26 (F := Ideal) x0 x1 x2 (ix3 s p j) = NextSpec.project (args x0 x1 x2) s p (source (4352 + j.val)) := by
  obtain ⟨q, hq⟩ : ∃ q, q = source (4352 + j.val) := ⟨_, rfl⟩
  rw [← hq]
  unfold source at hq
  have hj := j.isLt
  pointwise [val_main_v26, val_main_v25, val_main_v24, val_main_v23, val_main_cst]
  repeat' refine Cert.Reference3Ideal.Proj.either (fun _ => ?_) (fun _ => ?_)
  all_goals first
    | exact (piece43 x0 x1 x2 s p _).trans (congrArg _ (by split_ifs at hq <;> (dsimp only; omega)))
    | exact (NextSpec.project_pad _ s p q (by split_ifs at hq <;> omega)).symm

theorem branches_apply (s : Fin 4) (p : Fin 8192) (n : Fin 4608) : val_main_v27 (F := Ideal) x0 x1 x2 (ix3 s p n) = NextSpec.project (args x0 x1 x2) s p (source n.val) := by
  unfold val_main_v27
  exact Cert.Reference3Ideal.Proj.beside s p (NextSpec.project (args x0 x1 x2) s p) _ _ _ _ _ _ _ _ _ _ _ _ _ _
    (fun j => (piece32 x0 x1 x2 s p j).trans (congrArg _ (Nat.zero_add _).symm)) (piece33 x0 x1 x2 s p) (piece34 x0 x1 x2 s p) (piece35 x0 x1 x2 s p) (piece36 x0 x1 x2 s p) (piece44 x0 x1 x2 s p) (piece45 x0 x1 x2 s p) (piece37 x0 x1 x2 s p) (piece38 x0 x1 x2 s p) (piece39 x0 x1 x2 s p) (piece40 x0 x1 x2 s p) (piece41 x0 x1 x2 s p) (piece42 x0 x1 x2 s p) (pads_apply x0 x1 x2 s p) n

theorem cols_apply (i : Fin 32768) (n : Fin 4608) : val_main_v30 (F := Ideal) x0 x1 x2 (ix2 i n) = NextSpec.project (args x0 x1 x2) (seqIx i) (posIx i) (source n.val) := by
  refine Eq.trans ?_ (branches_apply x0 x1 x2 (seqIx i) (posIx i) n)
  unfold seqIx posIx
  pointwise [val_main_v30]

end Cert.Reference5Ideal.Next

end
-- ==== Proof.NextClaim.lean ====
/- The second layer's input projection and its reference, from the same arguments, leave the same two results. -/
module

public import proofs.«01_k».proof.Defs
public import proofs.«01_k».proof.Proof.NextValue
public import proofs.«01_k».proof.Proof.NextRef

@[expose] public section

set_option maxRecDepth 16384

noncomputable section

namespace Cert.Proof

open Idealize.ShloMosaic Idealize.ShloMosaic.TcCoe Idealize.SL.Sem

set_option maxHeartbeats 2000000 in
theorem next_algebraic : Cert.algebraic_Kernel5Ideal_Reference5Ideal (hKernel5Ideal := Cert.Kernel5Ideal.Gen.facts) (hReference5Ideal := Cert.Reference5Ideal.Gen.facts) := by
  intro m g m' g' _ hagree
  have same : ∀ c : Dev Cert.Kernel5Ideal.nD, Cert.Reference5Ideal.Next.args (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = Cert.Kernel5Ideal.Next.args m c := fun c => by
    obtain ⟨e0, e1, e2⟩ := hagree c
    rw [e0, e1, e2]
    rfl
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N, Cert.Kernel5Ideal.Value.run_blocks m g, ?_⟩
  refine (θ_run Cert.Reference5Ideal.defs _ _).mono (fun r h c => ⟨(h c).1.trans ?_, (h c).2.1.trans ?_, (h c).2.2⟩) (Cert.Reference5Ideal.Value.run m' g')
  · refine (Cert.Reference5Ideal.Read.val_main_v29_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans (funext fun i => ?_)
    idx_vars i
    exact (Cert.Reference5Ideal.Next.gates_apply (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) i0 i1).trans ((congrArg (fun A => Cert.NextSpec.project A (Cert.ProjSpec.seqIx i0) (Cert.ProjSpec.posIx i0) (4376 + i1.val)) (same c)).trans (Cert.Kernel5Ideal.Next.value3 m c i0 i1).symm)
  · refine (Cert.Reference5Ideal.Read.val_main_v30_eq m' c).trans (funext fun i => ?_)
    idx_vars i
    exact (Cert.Reference5Ideal.Next.cols_apply (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) i0 i1).trans ((congrArg (fun A => Cert.NextSpec.project A (Cert.ProjSpec.seqIx i0) (Cert.ProjSpec.posIx i0) (Cert.ProjSpec.source i1.val)) (same c)).trans (Cert.Kernel5Ideal.Next.value4 m c i0 i1).symm)

end Cert.Proof

end
-- ==== Proof.LruExpand.lean ====
/- The constant that carries a group's entering state to the group's eight rows: one where the row lies in the group,
   zero elsewhere. Four consecutive tables of the constant hold the rows of one group, and their bits are the same. -/
module

public import proofs.«01_k».proof.KernelIdeal

@[expose] public section

set_option maxRecDepth 16384

noncomputable section

namespace Cert.KernelIdeal.Lru

open Cert.KernelIdeal Idealize.ShloMosaic

/-- The bits of entry `i`: one at `g` in each row of 64. -/
def bits (g i : ℕ) : BitVec 16 := if i % 64 = g then 0x3F80#16 else 0x0000#16

theorem bits_mod (g i : ℕ) : bits g (i % 128) = bits g i := by
  unfold bits
  rw [show i % 128 % 64 = i % 64 by omega]

theorem of_table {f : ℕ → BitVec 16} {g : ℕ} (hf : ∀ i, f i = f (i % 128)) (h : ∀ b : Fin 128, f b.val = bits g b.val) (i : ℕ) : f i = bits g i :=
  (hf i).trans ((h ⟨i % 128, Nat.mod_lt _ (by decide)⟩).trans (bits_mod g i))

theorem table_0 : ∀ b : Fin 128, lit0t0_0 b.val = bits 0 b.val := by decide +kernel
theorem table_1 : ∀ b : Fin 128, lit0t0_4 b.val = bits 1 b.val := by decide +kernel
theorem table_2 : ∀ b : Fin 128, lit0t0_8 b.val = bits 2 b.val := by decide +kernel
theorem table_3 : ∀ b : Fin 128, lit0t0_12 b.val = bits 3 b.val := by decide +kernel
theorem table_4 : ∀ b : Fin 128, lit0t0_16 b.val = bits 4 b.val := by decide +kernel
theorem table_5 : ∀ b : Fin 128, lit0t0_20 b.val = bits 5 b.val := by decide +kernel
theorem table_6 : ∀ b : Fin 128, lit0t0_24 b.val = bits 6 b.val := by decide +kernel
theorem table_7 : ∀ b : Fin 128, lit0t0_28 b.val = bits 7 b.val := by decide +kernel
theorem table_8 : ∀ b : Fin 128, lit0t0_32 b.val = bits 8 b.val := by decide +kernel
theorem table_9 : ∀ b : Fin 128, lit0t0_36 b.val = bits 9 b.val := by decide +kernel
theorem table_10 : ∀ b : Fin 128, lit0t0_40 b.val = bits 10 b.val := by decide +kernel
theorem table_11 : ∀ b : Fin 128, lit0t0_44 b.val = bits 11 b.val := by decide +kernel
theorem table_12 : ∀ b : Fin 128, lit0t0_48 b.val = bits 12 b.val := by decide +kernel
theorem table_13 : ∀ b : Fin 128, lit0t0_52 b.val = bits 13 b.val := by decide +kernel
theorem table_14 : ∀ b : Fin 128, lit0t0_56 b.val = bits 14 b.val := by decide +kernel
theorem table_15 : ∀ b : Fin 128, lit0t0_60 b.val = bits 15 b.val := by decide +kernel
theorem table_16 : ∀ b : Fin 128, lit0t0_64 b.val = bits 16 b.val := by decide +kernel
theorem table_17 : ∀ b : Fin 128, lit0t0_68 b.val = bits 17 b.val := by decide +kernel
theorem table_18 : ∀ b : Fin 128, lit0t0_72 b.val = bits 18 b.val := by decide +kernel
theorem table_19 : ∀ b : Fin 128, lit0t0_76 b.val = bits 19 b.val := by decide +kernel
theorem table_20 : ∀ b : Fin 128, lit0t0_80 b.val = bits 20 b.val := by decide +kernel
theorem table_21 : ∀ b : Fin 128, lit0t0_84 b.val = bits 21 b.val := by decide +kernel
theorem table_22 : ∀ b : Fin 128, lit0t0_88 b.val = bits 22 b.val := by decide +kernel
theorem table_23 : ∀ b : Fin 128, lit0t0_92 b.val = bits 23 b.val := by decide +kernel
theorem table_24 : ∀ b : Fin 128, lit0t0_96 b.val = bits 24 b.val := by decide +kernel
theorem table_25 : ∀ b : Fin 128, lit0t0_100 b.val = bits 25 b.val := by decide +kernel
theorem table_26 : ∀ b : Fin 128, lit0t0_104 b.val = bits 26 b.val := by decide +kernel
theorem table_27 : ∀ b : Fin 128, lit0t0_108 b.val = bits 27 b.val := by decide +kernel
theorem table_28 : ∀ b : Fin 128, lit0t0_112 b.val = bits 28 b.val := by decide +kernel
theorem table_29 : ∀ b : Fin 128, lit0t0_116 b.val = bits 29 b.val := by decide +kernel
theorem table_30 : ∀ b : Fin 128, lit0t0_120 b.val = bits 30 b.val := by decide +kernel
theorem table_31 : ∀ b : Fin 128, lit0t0_124 b.val = bits 31 b.val := by decide +kernel
theorem table_32 : ∀ b : Fin 128, lit0t0_128 b.val = bits 32 b.val := by decide +kernel
theorem table_33 : ∀ b : Fin 128, lit0t0_132 b.val = bits 33 b.val := by decide +kernel
theorem table_34 : ∀ b : Fin 128, lit0t0_136 b.val = bits 34 b.val := by decide +kernel
theorem table_35 : ∀ b : Fin 128, lit0t0_140 b.val = bits 35 b.val := by decide +kernel
theorem table_36 : ∀ b : Fin 128, lit0t0_144 b.val = bits 36 b.val := by decide +kernel
theorem table_37 : ∀ b : Fin 128, lit0t0_148 b.val = bits 37 b.val := by decide +kernel
theorem table_38 : ∀ b : Fin 128, lit0t0_152 b.val = bits 38 b.val := by decide +kernel
theorem table_39 : ∀ b : Fin 128, lit0t0_156 b.val = bits 39 b.val := by decide +kernel
theorem table_40 : ∀ b : Fin 128, lit0t0_160 b.val = bits 40 b.val := by decide +kernel
theorem table_41 : ∀ b : Fin 128, lit0t0_164 b.val = bits 41 b.val := by decide +kernel
theorem table_42 : ∀ b : Fin 128, lit0t0_168 b.val = bits 42 b.val := by decide +kernel
theorem table_43 : ∀ b : Fin 128, lit0t0_172 b.val = bits 43 b.val := by decide +kernel
theorem table_44 : ∀ b : Fin 128, lit0t0_176 b.val = bits 44 b.val := by decide +kernel
theorem table_45 : ∀ b : Fin 128, lit0t0_180 b.val = bits 45 b.val := by decide +kernel
theorem table_46 : ∀ b : Fin 128, lit0t0_184 b.val = bits 46 b.val := by decide +kernel
theorem table_47 : ∀ b : Fin 128, lit0t0_188 b.val = bits 47 b.val := by decide +kernel
theorem table_48 : ∀ b : Fin 128, lit0t0_192 b.val = bits 48 b.val := by decide +kernel
theorem table_49 : ∀ b : Fin 128, lit0t0_196 b.val = bits 49 b.val := by decide +kernel
theorem table_50 : ∀ b : Fin 128, lit0t0_200 b.val = bits 50 b.val := by decide +kernel
theorem table_51 : ∀ b : Fin 128, lit0t0_204 b.val = bits 51 b.val := by decide +kernel
theorem table_52 : ∀ b : Fin 128, lit0t0_208 b.val = bits 52 b.val := by decide +kernel
theorem table_53 : ∀ b : Fin 128, lit0t0_212 b.val = bits 53 b.val := by decide +kernel
theorem table_54 : ∀ b : Fin 128, lit0t0_216 b.val = bits 54 b.val := by decide +kernel
theorem table_55 : ∀ b : Fin 128, lit0t0_220 b.val = bits 55 b.val := by decide +kernel
theorem table_56 : ∀ b : Fin 128, lit0t0_224 b.val = bits 56 b.val := by decide +kernel
theorem table_57 : ∀ b : Fin 128, lit0t0_228 b.val = bits 57 b.val := by decide +kernel
theorem table_58 : ∀ b : Fin 128, lit0t0_232 b.val = bits 58 b.val := by decide +kernel
theorem table_59 : ∀ b : Fin 128, lit0t0_236 b.val = bits 59 b.val := by decide +kernel
theorem table_60 : ∀ b : Fin 128, lit0t0_240 b.val = bits 60 b.val := by decide +kernel
theorem table_61 : ∀ b : Fin 128, lit0t0_244 b.val = bits 61 b.val := by decide +kernel
theorem table_62 : ∀ b : Fin 128, lit0t0_248 b.val = bits 62 b.val := by decide +kernel
theorem table_63 : ∀ b : Fin 128, lit0t0_252 b.val = bits 63 b.val := by decide +kernel

/-- Where `i` lies in table `k`, the constant's bits are the ones of group `k / 4`. -/
def Holds (k : ℕ) : Prop := ∀ i, i / 128 = k → lit0t i = bits (k / 4) i

theorem upto (n : ℕ) (h : Holds n) (r : ∀ k, k < n → Holds k) (k : ℕ) (hk : k < n + 1) : Holds k :=
  if e : k = n then e ▸ h else r k (by omega)

theorem half_0 {i k : ℕ} (h : i / 128 = k) (hk : k < 128) : lit0t i = lit0t1_0 i := by
  unfold lit0t
  rw [show i / 16384 = 0 by omega]
  rfl

theorem half_1 {i k : ℕ} (h : i / 128 = k) (hk : 128 ≤ k ∧ k < 256) : lit0t i = lit0t1_1 i := by
  unfold lit0t
  rw [show i / 16384 = 1 by omega]
  rfl

theorem leaf_0 : Holds 0 := fun i h => by
  rw [half_0 h (by decide)]
  unfold lit0t1_0
  rw [show i / 128 % 128 = 0 by omega]
  exact of_table (f := lit0t0_0) (fun i => by unfold lit0t0_0; rw [Nat.mod_mod]) table_0 i

theorem leaf_1 : Holds 1 := fun i h => by
  rw [half_0 h (by decide)]
  unfold lit0t1_0
  rw [show i / 128 % 128 = 1 by omega]
  exact of_table (f := lit0t0_1) (fun i => by unfold lit0t0_1; rw [Nat.mod_mod]) table_0 i

theorem leaf_2 : Holds 2 := fun i h => by
  rw [half_0 h (by decide)]
  unfold lit0t1_0
  rw [show i / 128 % 128 = 2 by omega]
  exact of_table (f := lit0t0_2) (fun i => by unfold lit0t0_2; rw [Nat.mod_mod]) table_0 i

theorem leaf_3 : Holds 3 := fun i h => by
  rw [half_0 h (by decide)]
  unfold lit0t1_0
  rw [show i / 128 % 128 = 3 by omega]
  exact of_table (f := lit0t0_3) (fun i => by unfold lit0t0_3; rw [Nat.mod_mod]) table_0 i

theorem leaf_4 : Holds 4 := fun i h => by
  rw [half_0 h (by decide)]
  unfold lit0t1_0
  rw [show i / 128 % 128 = 4 by omega]
  exact of_table (f := lit0t0_4) (fun i => by unfold lit0t0_4; rw [Nat.mod_mod]) table_1 i

theorem leaf_5 : Holds 5 := fun i h => by
  rw [half_0 h (by decide)]
  unfold lit0t1_0
  rw [show i / 128 % 128 = 5 by omega]
  exact of_table (f := lit0t0_5) (fun i => by unfold lit0t0_5; rw [Nat.mod_mod]) table_1 i

theorem leaf_6 : Holds 6 := fun i h => by
  rw [half_0 h (by decide)]
  unfold lit0t1_0
  rw [show i / 128 % 128 = 6 by omega]
  exact of_table (f := lit0t0_6) (fun i => by unfold lit0t0_6; rw [Nat.mod_mod]) table_1 i

theorem leaf_7 : Holds 7 := fun i h => by
  rw [half_0 h (by decide)]
  unfold lit0t1_0
  rw [show i / 128 % 128 = 7 by omega]
  exact of_table (f := lit0t0_7) (fun i => by unfold lit0t0_7; rw [Nat.mod_mod]) table_1 i

theorem leaf_8 : Holds 8 := fun i h => by
  rw [half_0 h (by decide)]
  unfold lit0t1_0
  rw [show i / 128 % 128 = 8 by omega]
  exact of_table (f := lit0t0_8) (fun i => by unfold lit0t0_8; rw [Nat.mod_mod]) table_2 i

theorem leaf_9 : Holds 9 := fun i h => by
  rw [half_0 h (by decide)]
  unfold lit0t1_0
  rw [show i / 128 % 128 = 9 by omega]
  exact of_table (f := lit0t0_9) (fun i => by unfold lit0t0_9; rw [Nat.mod_mod]) table_2 i

theorem leaf_10 : Holds 10 := fun i h => by
  rw [half_0 h (by decide)]
  unfold lit0t1_0
  rw [show i / 128 % 128 = 10 by omega]
  exact of_table (f := lit0t0_10) (fun i => by unfold lit0t0_10; rw [Nat.mod_mod]) table_2 i

theorem leaf_11 : Holds 11 := fun i h => by
  rw [half_0 h (by decide)]
  unfold lit0t1_0
  rw [show i / 128 % 128 = 11 by omega]
  exact of_table (f := lit0t0_11) (fun i => by unfold lit0t0_11; rw [Nat.mod_mod]) table_2 i

theorem leaf_12 : Holds 12 := fun i h => by
  rw [half_0 h (by decide)]
  unfold lit0t1_0
  rw [show i / 128 % 128 = 12 by omega]
  exact of_table (f := lit0t0_12) (fun i => by unfold lit0t0_12; rw [Nat.mod_mod]) table_3 i

theorem leaf_13 : Holds 13 := fun i h => by
  rw [half_0 h (by decide)]
  unfold lit0t1_0
  rw [show i / 128 % 128 = 13 by omega]
  exact of_table (f := lit0t0_13) (fun i => by unfold lit0t0_13; rw [Nat.mod_mod]) table_3 i

theorem leaf_14 : Holds 14 := fun i h => by
  rw [half_0 h (by decide)]
  unfold lit0t1_0
  rw [show i / 128 % 128 = 14 by omega]
  exact of_table (f := lit0t0_14) (fun i => by unfold lit0t0_14; rw [Nat.mod_mod]) table_3 i

theorem leaf_15 : Holds 15 := fun i h => by
  rw [half_0 h (by decide)]
  unfold lit0t1_0
  rw [show i / 128 % 128 = 15 by omega]
  exact of_table (f := lit0t0_15) (fun i => by unfold lit0t0_15; rw [Nat.mod_mod]) table_3 i

theorem leaf_16 : Holds 16 := fun i h => by
  rw [half_0 h (by decide)]
  unfold lit0t1_0
  rw [show i / 128 % 128 = 16 by omega]
  exact of_table (f := lit0t0_16) (fun i => by unfold lit0t0_16; rw [Nat.mod_mod]) table_4 i

theorem leaf_17 : Holds 17 := fun i h => by
  rw [half_0 h (by decide)]
  unfold lit0t1_0
  rw [show i / 128 % 128 = 17 by omega]
  exact of_table (f := lit0t0_17) (fun i => by unfold lit0t0_17; rw [Nat.mod_mod]) table_4 i

theorem leaf_18 : Holds 18 := fun i h => by
  rw [half_0 h (by decide)]
  unfold lit0t1_0
  rw [show i / 128 % 128 = 18 by omega]
  exact of_table (f := lit0t0_18) (fun i => by unfold lit0t0_18; rw [Nat.mod_mod]) table_4 i

theorem leaf_19 : Holds 19 := fun i h => by
  rw [half_0 h (by decide)]
  unfold lit0t1_0
  rw [show i / 128 % 128 = 19 by omega]
  exact of_table (f := lit0t0_19) (fun i => by unfold lit0t0_19; rw [Nat.mod_mod]) table_4 i

theorem leaf_20 : Holds 20 := fun i h => by
  rw [half_0 h (by decide)]
  unfold lit0t1_0
  rw [show i / 128 % 128 = 20 by omega]
  exact of_table (f := lit0t0_20) (fun i => by unfold lit0t0_20; rw [Nat.mod_mod]) table_5 i

theorem leaf_21 : Holds 21 := fun i h => by
  rw [half_0 h (by decide)]
  unfold lit0t1_0
  rw [show i / 128 % 128 = 21 by omega]
  exact of_table (f := lit0t0_21) (fun i => by unfold lit0t0_21; rw [Nat.mod_mod]) table_5 i

theorem leaf_22 : Holds 22 := fun i h => by
  rw [half_0 h (by decide)]
  unfold lit0t1_0
  rw [show i / 128 % 128 = 22 by omega]
  exact of_table (f := lit0t0_22) (fun i => by unfold lit0t0_22; rw [Nat.mod_mod]) table_5 i

theorem leaf_23 : Holds 23 := fun i h => by
  rw [half_0 h (by decide)]
  unfold lit0t1_0
  rw [show i / 128 % 128 = 23 by omega]
  exact of_table (f := lit0t0_23) (fun i => by unfold lit0t0_23; rw [Nat.mod_mod]) table_5 i

theorem leaf_24 : Holds 24 := fun i h => by
  rw [half_0 h (by decide)]
  unfold lit0t1_0
  rw [show i / 128 % 128 = 24 by omega]
  exact of_table (f := lit0t0_24) (fun i => by unfold lit0t0_24; rw [Nat.mod_mod]) table_6 i

theorem leaf_25 : Holds 25 := fun i h => by
  rw [half_0 h (by decide)]
  unfold lit0t1_0
  rw [show i / 128 % 128 = 25 by omega]
  exact of_table (f := lit0t0_25) (fun i => by unfold lit0t0_25; rw [Nat.mod_mod]) table_6 i

theorem leaf_26 : Holds 26 := fun i h => by
  rw [half_0 h (by decide)]
  unfold lit0t1_0
  rw [show i / 128 % 128 = 26 by omega]
  exact of_table (f := lit0t0_26) (fun i => by unfold lit0t0_26; rw [Nat.mod_mod]) table_6 i

theorem leaf_27 : Holds 27 := fun i h => by
  rw [half_0 h (by decide)]
  unfold lit0t1_0
  rw [show i / 128 % 128 = 27 by omega]
  exact of_table (f := lit0t0_27) (fun i => by unfold lit0t0_27; rw [Nat.mod_mod]) table_6 i

theorem leaf_28 : Holds 28 := fun i h => by
  rw [half_0 h (by decide)]
  unfold lit0t1_0
  rw [show i / 128 % 128 = 28 by omega]
  exact of_table (f := lit0t0_28) (fun i => by unfold lit0t0_28; rw [Nat.mod_mod]) table_7 i

theorem leaf_29 : Holds 29 := fun i h => by
  rw [half_0 h (by decide)]
  unfold lit0t1_0
  rw [show i / 128 % 128 = 29 by omega]
  exact of_table (f := lit0t0_29) (fun i => by unfold lit0t0_29; rw [Nat.mod_mod]) table_7 i

theorem leaf_30 : Holds 30 := fun i h => by
  rw [half_0 h (by decide)]
  unfold lit0t1_0
  rw [show i / 128 % 128 = 30 by omega]
  exact of_table (f := lit0t0_30) (fun i => by unfold lit0t0_30; rw [Nat.mod_mod]) table_7 i

theorem leaf_31 : Holds 31 := fun i h => by
  rw [half_0 h (by decide)]
  unfold lit0t1_0
  rw [show i / 128 % 128 = 31 by omega]
  exact of_table (f := lit0t0_31) (fun i => by unfold lit0t0_31; rw [Nat.mod_mod]) table_7 i

theorem leaf_32 : Holds 32 := fun i h => by
  rw [half_0 h (by decide)]
  unfold lit0t1_0
  rw [show i / 128 % 128 = 32 by omega]
  exact of_table (f := lit0t0_32) (fun i => by unfold lit0t0_32; rw [Nat.mod_mod]) table_8 i

theorem leaf_33 : Holds 33 := fun i h => by
  rw [half_0 h (by decide)]
  unfold lit0t1_0
  rw [show i / 128 % 128 = 33 by omega]
  exact of_table (f := lit0t0_33) (fun i => by unfold lit0t0_33; rw [Nat.mod_mod]) table_8 i

theorem leaf_34 : Holds 34 := fun i h => by
  rw [half_0 h (by decide)]
  unfold lit0t1_0
  rw [show i / 128 % 128 = 34 by omega]
  exact of_table (f := lit0t0_34) (fun i => by unfold lit0t0_34; rw [Nat.mod_mod]) table_8 i

theorem leaf_35 : Holds 35 := fun i h => by
  rw [half_0 h (by decide)]
  unfold lit0t1_0
  rw [show i / 128 % 128 = 35 by omega]
  exact of_table (f := lit0t0_35) (fun i => by unfold lit0t0_35; rw [Nat.mod_mod]) table_8 i

theorem leaf_36 : Holds 36 := fun i h => by
  rw [half_0 h (by decide)]
  unfold lit0t1_0
  rw [show i / 128 % 128 = 36 by omega]
  exact of_table (f := lit0t0_36) (fun i => by unfold lit0t0_36; rw [Nat.mod_mod]) table_9 i

theorem leaf_37 : Holds 37 := fun i h => by
  rw [half_0 h (by decide)]
  unfold lit0t1_0
  rw [show i / 128 % 128 = 37 by omega]
  exact of_table (f := lit0t0_37) (fun i => by unfold lit0t0_37; rw [Nat.mod_mod]) table_9 i

theorem leaf_38 : Holds 38 := fun i h => by
  rw [half_0 h (by decide)]
  unfold lit0t1_0
  rw [show i / 128 % 128 = 38 by omega]
  exact of_table (f := lit0t0_38) (fun i => by unfold lit0t0_38; rw [Nat.mod_mod]) table_9 i

theorem leaf_39 : Holds 39 := fun i h => by
  rw [half_0 h (by decide)]
  unfold lit0t1_0
  rw [show i / 128 % 128 = 39 by omega]
  exact of_table (f := lit0t0_39) (fun i => by unfold lit0t0_39; rw [Nat.mod_mod]) table_9 i

theorem leaf_40 : Holds 40 := fun i h => by
  rw [half_0 h (by decide)]
  unfold lit0t1_0
  rw [show i / 128 % 128 = 40 by omega]
  exact of_table (f := lit0t0_40) (fun i => by unfold lit0t0_40; rw [Nat.mod_mod]) table_10 i

theorem leaf_41 : Holds 41 := fun i h => by
  rw [half_0 h (by decide)]
  unfold lit0t1_0
  rw [show i / 128 % 128 = 41 by omega]
  exact of_table (f := lit0t0_41) (fun i => by unfold lit0t0_41; rw [Nat.mod_mod]) table_10 i

theorem leaf_42 : Holds 42 := fun i h => by
  rw [half_0 h (by decide)]
  unfold lit0t1_0
  rw [show i / 128 % 128 = 42 by omega]
  exact of_table (f := lit0t0_42) (fun i => by unfold lit0t0_42; rw [Nat.mod_mod]) table_10 i

theorem leaf_43 : Holds 43 := fun i h => by
  rw [half_0 h (by decide)]
  unfold lit0t1_0
  rw [show i / 128 % 128 = 43 by omega]
  exact of_table (f := lit0t0_43) (fun i => by unfold lit0t0_43; rw [Nat.mod_mod]) table_10 i

theorem leaf_44 : Holds 44 := fun i h => by
  rw [half_0 h (by decide)]
  unfold lit0t1_0
  rw [show i / 128 % 128 = 44 by omega]
  exact of_table (f := lit0t0_44) (fun i => by unfold lit0t0_44; rw [Nat.mod_mod]) table_11 i

theorem leaf_45 : Holds 45 := fun i h => by
  rw [half_0 h (by decide)]
  unfold lit0t1_0
  rw [show i / 128 % 128 = 45 by omega]
  exact of_table (f := lit0t0_45) (fun i => by unfold lit0t0_45; rw [Nat.mod_mod]) table_11 i

theorem leaf_46 : Holds 46 := fun i h => by
  rw [half_0 h (by decide)]
  unfold lit0t1_0
  rw [show i / 128 % 128 = 46 by omega]
  exact of_table (f := lit0t0_46) (fun i => by unfold lit0t0_46; rw [Nat.mod_mod]) table_11 i

theorem leaf_47 : Holds 47 := fun i h => by
  rw [half_0 h (by decide)]
  unfold lit0t1_0
  rw [show i / 128 % 128 = 47 by omega]
  exact of_table (f := lit0t0_47) (fun i => by unfold lit0t0_47; rw [Nat.mod_mod]) table_11 i

theorem leaf_48 : Holds 48 := fun i h => by
  rw [half_0 h (by decide)]
  unfold lit0t1_0
  rw [show i / 128 % 128 = 48 by omega]
  exact of_table (f := lit0t0_48) (fun i => by unfold lit0t0_48; rw [Nat.mod_mod]) table_12 i

theorem leaf_49 : Holds 49 := fun i h => by
  rw [half_0 h (by decide)]
  unfold lit0t1_0
  rw [show i / 128 % 128 = 49 by omega]
  exact of_table (f := lit0t0_49) (fun i => by unfold lit0t0_49; rw [Nat.mod_mod]) table_12 i

theorem leaf_50 : Holds 50 := fun i h => by
  rw [half_0 h (by decide)]
  unfold lit0t1_0
  rw [show i / 128 % 128 = 50 by omega]
  exact of_table (f := lit0t0_50) (fun i => by unfold lit0t0_50; rw [Nat.mod_mod]) table_12 i

theorem leaf_51 : Holds 51 := fun i h => by
  rw [half_0 h (by decide)]
  unfold lit0t1_0
  rw [show i / 128 % 128 = 51 by omega]
  exact of_table (f := lit0t0_51) (fun i => by unfold lit0t0_51; rw [Nat.mod_mod]) table_12 i

theorem leaf_52 : Holds 52 := fun i h => by
  rw [half_0 h (by decide)]
  unfold lit0t1_0
  rw [show i / 128 % 128 = 52 by omega]
  exact of_table (f := lit0t0_52) (fun i => by unfold lit0t0_52; rw [Nat.mod_mod]) table_13 i

theorem leaf_53 : Holds 53 := fun i h => by
  rw [half_0 h (by decide)]
  unfold lit0t1_0
  rw [show i / 128 % 128 = 53 by omega]
  exact of_table (f := lit0t0_53) (fun i => by unfold lit0t0_53; rw [Nat.mod_mod]) table_13 i

theorem leaf_54 : Holds 54 := fun i h => by
  rw [half_0 h (by decide)]
  unfold lit0t1_0
  rw [show i / 128 % 128 = 54 by omega]
  exact of_table (f := lit0t0_54) (fun i => by unfold lit0t0_54; rw [Nat.mod_mod]) table_13 i

theorem leaf_55 : Holds 55 := fun i h => by
  rw [half_0 h (by decide)]
  unfold lit0t1_0
  rw [show i / 128 % 128 = 55 by omega]
  exact of_table (f := lit0t0_55) (fun i => by unfold lit0t0_55; rw [Nat.mod_mod]) table_13 i

theorem leaf_56 : Holds 56 := fun i h => by
  rw [half_0 h (by decide)]
  unfold lit0t1_0
  rw [show i / 128 % 128 = 56 by omega]
  exact of_table (f := lit0t0_56) (fun i => by unfold lit0t0_56; rw [Nat.mod_mod]) table_14 i

theorem leaf_57 : Holds 57 := fun i h => by
  rw [half_0 h (by decide)]
  unfold lit0t1_0
  rw [show i / 128 % 128 = 57 by omega]
  exact of_table (f := lit0t0_57) (fun i => by unfold lit0t0_57; rw [Nat.mod_mod]) table_14 i

theorem leaf_58 : Holds 58 := fun i h => by
  rw [half_0 h (by decide)]
  unfold lit0t1_0
  rw [show i / 128 % 128 = 58 by omega]
  exact of_table (f := lit0t0_58) (fun i => by unfold lit0t0_58; rw [Nat.mod_mod]) table_14 i

theorem leaf_59 : Holds 59 := fun i h => by
  rw [half_0 h (by decide)]
  unfold lit0t1_0
  rw [show i / 128 % 128 = 59 by omega]
  exact of_table (f := lit0t0_59) (fun i => by unfold lit0t0_59; rw [Nat.mod_mod]) table_14 i

theorem leaf_60 : Holds 60 := fun i h => by
  rw [half_0 h (by decide)]
  unfold lit0t1_0
  rw [show i / 128 % 128 = 60 by omega]
  exact of_table (f := lit0t0_60) (fun i => by unfold lit0t0_60; rw [Nat.mod_mod]) table_15 i

theorem leaf_61 : Holds 61 := fun i h => by
  rw [half_0 h (by decide)]
  unfold lit0t1_0
  rw [show i / 128 % 128 = 61 by omega]
  exact of_table (f := lit0t0_61) (fun i => by unfold lit0t0_61; rw [Nat.mod_mod]) table_15 i

theorem leaf_62 : Holds 62 := fun i h => by
  rw [half_0 h (by decide)]
  unfold lit0t1_0
  rw [show i / 128 % 128 = 62 by omega]
  exact of_table (f := lit0t0_62) (fun i => by unfold lit0t0_62; rw [Nat.mod_mod]) table_15 i

theorem leaf_63 : Holds 63 := fun i h => by
  rw [half_0 h (by decide)]
  unfold lit0t1_0
  rw [show i / 128 % 128 = 63 by omega]
  exact of_table (f := lit0t0_63) (fun i => by unfold lit0t0_63; rw [Nat.mod_mod]) table_15 i

theorem leaf_64 : Holds 64 := fun i h => by
  rw [half_0 h (by decide)]
  unfold lit0t1_0
  rw [show i / 128 % 128 = 64 by omega]
  exact of_table (f := lit0t0_64) (fun i => by unfold lit0t0_64; rw [Nat.mod_mod]) table_16 i

theorem leaf_65 : Holds 65 := fun i h => by
  rw [half_0 h (by decide)]
  unfold lit0t1_0
  rw [show i / 128 % 128 = 65 by omega]
  exact of_table (f := lit0t0_65) (fun i => by unfold lit0t0_65; rw [Nat.mod_mod]) table_16 i

theorem leaf_66 : Holds 66 := fun i h => by
  rw [half_0 h (by decide)]
  unfold lit0t1_0
  rw [show i / 128 % 128 = 66 by omega]
  exact of_table (f := lit0t0_66) (fun i => by unfold lit0t0_66; rw [Nat.mod_mod]) table_16 i

theorem leaf_67 : Holds 67 := fun i h => by
  rw [half_0 h (by decide)]
  unfold lit0t1_0
  rw [show i / 128 % 128 = 67 by omega]
  exact of_table (f := lit0t0_67) (fun i => by unfold lit0t0_67; rw [Nat.mod_mod]) table_16 i

theorem leaf_68 : Holds 68 := fun i h => by
  rw [half_0 h (by decide)]
  unfold lit0t1_0
  rw [show i / 128 % 128 = 68 by omega]
  exact of_table (f := lit0t0_68) (fun i => by unfold lit0t0_68; rw [Nat.mod_mod]) table_17 i

theorem leaf_69 : Holds 69 := fun i h => by
  rw [half_0 h (by decide)]
  unfold lit0t1_0
  rw [show i / 128 % 128 = 69 by omega]
  exact of_table (f := lit0t0_69) (fun i => by unfold lit0t0_69; rw [Nat.mod_mod]) table_17 i

theorem leaf_70 : Holds 70 := fun i h => by
  rw [half_0 h (by decide)]
  unfold lit0t1_0
  rw [show i / 128 % 128 = 70 by omega]
  exact of_table (f := lit0t0_70) (fun i => by unfold lit0t0_70; rw [Nat.mod_mod]) table_17 i

theorem leaf_71 : Holds 71 := fun i h => by
  rw [half_0 h (by decide)]
  unfold lit0t1_0
  rw [show i / 128 % 128 = 71 by omega]
  exact of_table (f := lit0t0_71) (fun i => by unfold lit0t0_71; rw [Nat.mod_mod]) table_17 i

theorem leaf_72 : Holds 72 := fun i h => by
  rw [half_0 h (by decide)]
  unfold lit0t1_0
  rw [show i / 128 % 128 = 72 by omega]
  exact of_table (f := lit0t0_72) (fun i => by unfold lit0t0_72; rw [Nat.mod_mod]) table_18 i

theorem leaf_73 : Holds 73 := fun i h => by
  rw [half_0 h (by decide)]
  unfold lit0t1_0
  rw [show i / 128 % 128 = 73 by omega]
  exact of_table (f := lit0t0_73) (fun i => by unfold lit0t0_73; rw [Nat.mod_mod]) table_18 i

theorem leaf_74 : Holds 74 := fun i h => by
  rw [half_0 h (by decide)]
  unfold lit0t1_0
  rw [show i / 128 % 128 = 74 by omega]
  exact of_table (f := lit0t0_74) (fun i => by unfold lit0t0_74; rw [Nat.mod_mod]) table_18 i

theorem leaf_75 : Holds 75 := fun i h => by
  rw [half_0 h (by decide)]
  unfold lit0t1_0
  rw [show i / 128 % 128 = 75 by omega]
  exact of_table (f := lit0t0_75) (fun i => by unfold lit0t0_75; rw [Nat.mod_mod]) table_18 i

theorem leaf_76 : Holds 76 := fun i h => by
  rw [half_0 h (by decide)]
  unfold lit0t1_0
  rw [show i / 128 % 128 = 76 by omega]
  exact of_table (f := lit0t0_76) (fun i => by unfold lit0t0_76; rw [Nat.mod_mod]) table_19 i

theorem leaf_77 : Holds 77 := fun i h => by
  rw [half_0 h (by decide)]
  unfold lit0t1_0
  rw [show i / 128 % 128 = 77 by omega]
  exact of_table (f := lit0t0_77) (fun i => by unfold lit0t0_77; rw [Nat.mod_mod]) table_19 i

theorem leaf_78 : Holds 78 := fun i h => by
  rw [half_0 h (by decide)]
  unfold lit0t1_0
  rw [show i / 128 % 128 = 78 by omega]
  exact of_table (f := lit0t0_78) (fun i => by unfold lit0t0_78; rw [Nat.mod_mod]) table_19 i

theorem leaf_79 : Holds 79 := fun i h => by
  rw [half_0 h (by decide)]
  unfold lit0t1_0
  rw [show i / 128 % 128 = 79 by omega]
  exact of_table (f := lit0t0_79) (fun i => by unfold lit0t0_79; rw [Nat.mod_mod]) table_19 i

theorem leaf_80 : Holds 80 := fun i h => by
  rw [half_0 h (by decide)]
  unfold lit0t1_0
  rw [show i / 128 % 128 = 80 by omega]
  exact of_table (f := lit0t0_80) (fun i => by unfold lit0t0_80; rw [Nat.mod_mod]) table_20 i

theorem leaf_81 : Holds 81 := fun i h => by
  rw [half_0 h (by decide)]
  unfold lit0t1_0
  rw [show i / 128 % 128 = 81 by omega]
  exact of_table (f := lit0t0_81) (fun i => by unfold lit0t0_81; rw [Nat.mod_mod]) table_20 i

theorem leaf_82 : Holds 82 := fun i h => by
  rw [half_0 h (by decide)]
  unfold lit0t1_0
  rw [show i / 128 % 128 = 82 by omega]
  exact of_table (f := lit0t0_82) (fun i => by unfold lit0t0_82; rw [Nat.mod_mod]) table_20 i

theorem leaf_83 : Holds 83 := fun i h => by
  rw [half_0 h (by decide)]
  unfold lit0t1_0
  rw [show i / 128 % 128 = 83 by omega]
  exact of_table (f := lit0t0_83) (fun i => by unfold lit0t0_83; rw [Nat.mod_mod]) table_20 i

theorem leaf_84 : Holds 84 := fun i h => by
  rw [half_0 h (by decide)]
  unfold lit0t1_0
  rw [show i / 128 % 128 = 84 by omega]
  exact of_table (f := lit0t0_84) (fun i => by unfold lit0t0_84; rw [Nat.mod_mod]) table_21 i

theorem leaf_85 : Holds 85 := fun i h => by
  rw [half_0 h (by decide)]
  unfold lit0t1_0
  rw [show i / 128 % 128 = 85 by omega]
  exact of_table (f := lit0t0_85) (fun i => by unfold lit0t0_85; rw [Nat.mod_mod]) table_21 i

theorem leaf_86 : Holds 86 := fun i h => by
  rw [half_0 h (by decide)]
  unfold lit0t1_0
  rw [show i / 128 % 128 = 86 by omega]
  exact of_table (f := lit0t0_86) (fun i => by unfold lit0t0_86; rw [Nat.mod_mod]) table_21 i

theorem leaf_87 : Holds 87 := fun i h => by
  rw [half_0 h (by decide)]
  unfold lit0t1_0
  rw [show i / 128 % 128 = 87 by omega]
  exact of_table (f := lit0t0_87) (fun i => by unfold lit0t0_87; rw [Nat.mod_mod]) table_21 i

theorem leaf_88 : Holds 88 := fun i h => by
  rw [half_0 h (by decide)]
  unfold lit0t1_0
  rw [show i / 128 % 128 = 88 by omega]
  exact of_table (f := lit0t0_88) (fun i => by unfold lit0t0_88; rw [Nat.mod_mod]) table_22 i

theorem leaf_89 : Holds 89 := fun i h => by
  rw [half_0 h (by decide)]
  unfold lit0t1_0
  rw [show i / 128 % 128 = 89 by omega]
  exact of_table (f := lit0t0_89) (fun i => by unfold lit0t0_89; rw [Nat.mod_mod]) table_22 i

theorem leaf_90 : Holds 90 := fun i h => by
  rw [half_0 h (by decide)]
  unfold lit0t1_0
  rw [show i / 128 % 128 = 90 by omega]
  exact of_table (f := lit0t0_90) (fun i => by unfold lit0t0_90; rw [Nat.mod_mod]) table_22 i

theorem leaf_91 : Holds 91 := fun i h => by
  rw [half_0 h (by decide)]
  unfold lit0t1_0
  rw [show i / 128 % 128 = 91 by omega]
  exact of_table (f := lit0t0_91) (fun i => by unfold lit0t0_91; rw [Nat.mod_mod]) table_22 i

theorem leaf_92 : Holds 92 := fun i h => by
  rw [half_0 h (by decide)]
  unfold lit0t1_0
  rw [show i / 128 % 128 = 92 by omega]
  exact of_table (f := lit0t0_92) (fun i => by unfold lit0t0_92; rw [Nat.mod_mod]) table_23 i

theorem leaf_93 : Holds 93 := fun i h => by
  rw [half_0 h (by decide)]
  unfold lit0t1_0
  rw [show i / 128 % 128 = 93 by omega]
  exact of_table (f := lit0t0_93) (fun i => by unfold lit0t0_93; rw [Nat.mod_mod]) table_23 i

theorem leaf_94 : Holds 94 := fun i h => by
  rw [half_0 h (by decide)]
  unfold lit0t1_0
  rw [show i / 128 % 128 = 94 by omega]
  exact of_table (f := lit0t0_94) (fun i => by unfold lit0t0_94; rw [Nat.mod_mod]) table_23 i

theorem leaf_95 : Holds 95 := fun i h => by
  rw [half_0 h (by decide)]
  unfold lit0t1_0
  rw [show i / 128 % 128 = 95 by omega]
  exact of_table (f := lit0t0_95) (fun i => by unfold lit0t0_95; rw [Nat.mod_mod]) table_23 i

theorem leaf_96 : Holds 96 := fun i h => by
  rw [half_0 h (by decide)]
  unfold lit0t1_0
  rw [show i / 128 % 128 = 96 by omega]
  exact of_table (f := lit0t0_96) (fun i => by unfold lit0t0_96; rw [Nat.mod_mod]) table_24 i

theorem leaf_97 : Holds 97 := fun i h => by
  rw [half_0 h (by decide)]
  unfold lit0t1_0
  rw [show i / 128 % 128 = 97 by omega]
  exact of_table (f := lit0t0_97) (fun i => by unfold lit0t0_97; rw [Nat.mod_mod]) table_24 i

theorem leaf_98 : Holds 98 := fun i h => by
  rw [half_0 h (by decide)]
  unfold lit0t1_0
  rw [show i / 128 % 128 = 98 by omega]
  exact of_table (f := lit0t0_98) (fun i => by unfold lit0t0_98; rw [Nat.mod_mod]) table_24 i

theorem leaf_99 : Holds 99 := fun i h => by
  rw [half_0 h (by decide)]
  unfold lit0t1_0
  rw [show i / 128 % 128 = 99 by omega]
  exact of_table (f := lit0t0_99) (fun i => by unfold lit0t0_99; rw [Nat.mod_mod]) table_24 i

theorem leaf_100 : Holds 100 := fun i h => by
  rw [half_0 h (by decide)]
  unfold lit0t1_0
  rw [show i / 128 % 128 = 100 by omega]
  exact of_table (f := lit0t0_100) (fun i => by unfold lit0t0_100; rw [Nat.mod_mod]) table_25 i

theorem leaf_101 : Holds 101 := fun i h => by
  rw [half_0 h (by decide)]
  unfold lit0t1_0
  rw [show i / 128 % 128 = 101 by omega]
  exact of_table (f := lit0t0_101) (fun i => by unfold lit0t0_101; rw [Nat.mod_mod]) table_25 i

theorem leaf_102 : Holds 102 := fun i h => by
  rw [half_0 h (by decide)]
  unfold lit0t1_0
  rw [show i / 128 % 128 = 102 by omega]
  exact of_table (f := lit0t0_102) (fun i => by unfold lit0t0_102; rw [Nat.mod_mod]) table_25 i

theorem leaf_103 : Holds 103 := fun i h => by
  rw [half_0 h (by decide)]
  unfold lit0t1_0
  rw [show i / 128 % 128 = 103 by omega]
  exact of_table (f := lit0t0_103) (fun i => by unfold lit0t0_103; rw [Nat.mod_mod]) table_25 i

theorem leaf_104 : Holds 104 := fun i h => by
  rw [half_0 h (by decide)]
  unfold lit0t1_0
  rw [show i / 128 % 128 = 104 by omega]
  exact of_table (f := lit0t0_104) (fun i => by unfold lit0t0_104; rw [Nat.mod_mod]) table_26 i

theorem leaf_105 : Holds 105 := fun i h => by
  rw [half_0 h (by decide)]
  unfold lit0t1_0
  rw [show i / 128 % 128 = 105 by omega]
  exact of_table (f := lit0t0_105) (fun i => by unfold lit0t0_105; rw [Nat.mod_mod]) table_26 i

theorem leaf_106 : Holds 106 := fun i h => by
  rw [half_0 h (by decide)]
  unfold lit0t1_0
  rw [show i / 128 % 128 = 106 by omega]
  exact of_table (f := lit0t0_106) (fun i => by unfold lit0t0_106; rw [Nat.mod_mod]) table_26 i

theorem leaf_107 : Holds 107 := fun i h => by
  rw [half_0 h (by decide)]
  unfold lit0t1_0
  rw [show i / 128 % 128 = 107 by omega]
  exact of_table (f := lit0t0_107) (fun i => by unfold lit0t0_107; rw [Nat.mod_mod]) table_26 i

theorem leaf_108 : Holds 108 := fun i h => by
  rw [half_0 h (by decide)]
  unfold lit0t1_0
  rw [show i / 128 % 128 = 108 by omega]
  exact of_table (f := lit0t0_108) (fun i => by unfold lit0t0_108; rw [Nat.mod_mod]) table_27 i

theorem leaf_109 : Holds 109 := fun i h => by
  rw [half_0 h (by decide)]
  unfold lit0t1_0
  rw [show i / 128 % 128 = 109 by omega]
  exact of_table (f := lit0t0_109) (fun i => by unfold lit0t0_109; rw [Nat.mod_mod]) table_27 i

theorem leaf_110 : Holds 110 := fun i h => by
  rw [half_0 h (by decide)]
  unfold lit0t1_0
  rw [show i / 128 % 128 = 110 by omega]
  exact of_table (f := lit0t0_110) (fun i => by unfold lit0t0_110; rw [Nat.mod_mod]) table_27 i

theorem leaf_111 : Holds 111 := fun i h => by
  rw [half_0 h (by decide)]
  unfold lit0t1_0
  rw [show i / 128 % 128 = 111 by omega]
  exact of_table (f := lit0t0_111) (fun i => by unfold lit0t0_111; rw [Nat.mod_mod]) table_27 i

theorem leaf_112 : Holds 112 := fun i h => by
  rw [half_0 h (by decide)]
  unfold lit0t1_0
  rw [show i / 128 % 128 = 112 by omega]
  exact of_table (f := lit0t0_112) (fun i => by unfold lit0t0_112; rw [Nat.mod_mod]) table_28 i

theorem leaf_113 : Holds 113 := fun i h => by
  rw [half_0 h (by decide)]
  unfold lit0t1_0
  rw [show i / 128 % 128 = 113 by omega]
  exact of_table (f := lit0t0_113) (fun i => by unfold lit0t0_113; rw [Nat.mod_mod]) table_28 i

theorem leaf_114 : Holds 114 := fun i h => by
  rw [half_0 h (by decide)]
  unfold lit0t1_0
  rw [show i / 128 % 128 = 114 by omega]
  exact of_table (f := lit0t0_114) (fun i => by unfold lit0t0_114; rw [Nat.mod_mod]) table_28 i

theorem leaf_115 : Holds 115 := fun i h => by
  rw [half_0 h (by decide)]
  unfold lit0t1_0
  rw [show i / 128 % 128 = 115 by omega]
  exact of_table (f := lit0t0_115) (fun i => by unfold lit0t0_115; rw [Nat.mod_mod]) table_28 i

theorem leaf_116 : Holds 116 := fun i h => by
  rw [half_0 h (by decide)]
  unfold lit0t1_0
  rw [show i / 128 % 128 = 116 by omega]
  exact of_table (f := lit0t0_116) (fun i => by unfold lit0t0_116; rw [Nat.mod_mod]) table_29 i

theorem leaf_117 : Holds 117 := fun i h => by
  rw [half_0 h (by decide)]
  unfold lit0t1_0
  rw [show i / 128 % 128 = 117 by omega]
  exact of_table (f := lit0t0_117) (fun i => by unfold lit0t0_117; rw [Nat.mod_mod]) table_29 i

theorem leaf_118 : Holds 118 := fun i h => by
  rw [half_0 h (by decide)]
  unfold lit0t1_0
  rw [show i / 128 % 128 = 118 by omega]
  exact of_table (f := lit0t0_118) (fun i => by unfold lit0t0_118; rw [Nat.mod_mod]) table_29 i

theorem leaf_119 : Holds 119 := fun i h => by
  rw [half_0 h (by decide)]
  unfold lit0t1_0
  rw [show i / 128 % 128 = 119 by omega]
  exact of_table (f := lit0t0_119) (fun i => by unfold lit0t0_119; rw [Nat.mod_mod]) table_29 i

theorem leaf_120 : Holds 120 := fun i h => by
  rw [half_0 h (by decide)]
  unfold lit0t1_0
  rw [show i / 128 % 128 = 120 by omega]
  exact of_table (f := lit0t0_120) (fun i => by unfold lit0t0_120; rw [Nat.mod_mod]) table_30 i

theorem leaf_121 : Holds 121 := fun i h => by
  rw [half_0 h (by decide)]
  unfold lit0t1_0
  rw [show i / 128 % 128 = 121 by omega]
  exact of_table (f := lit0t0_121) (fun i => by unfold lit0t0_121; rw [Nat.mod_mod]) table_30 i

theorem leaf_122 : Holds 122 := fun i h => by
  rw [half_0 h (by decide)]
  unfold lit0t1_0
  rw [show i / 128 % 128 = 122 by omega]
  exact of_table (f := lit0t0_122) (fun i => by unfold lit0t0_122; rw [Nat.mod_mod]) table_30 i

theorem leaf_123 : Holds 123 := fun i h => by
  rw [half_0 h (by decide)]
  unfold lit0t1_0
  rw [show i / 128 % 128 = 123 by omega]
  exact of_table (f := lit0t0_123) (fun i => by unfold lit0t0_123; rw [Nat.mod_mod]) table_30 i

theorem leaf_124 : Holds 124 := fun i h => by
  rw [half_0 h (by decide)]
  unfold lit0t1_0
  rw [show i / 128 % 128 = 124 by omega]
  exact of_table (f := lit0t0_124) (fun i => by unfold lit0t0_124; rw [Nat.mod_mod]) table_31 i

theorem leaf_125 : Holds 125 := fun i h => by
  rw [half_0 h (by decide)]
  unfold lit0t1_0
  rw [show i / 128 % 128 = 125 by omega]
  exact of_table (f := lit0t0_125) (fun i => by unfold lit0t0_125; rw [Nat.mod_mod]) table_31 i

theorem leaf_126 : Holds 126 := fun i h => by
  rw [half_0 h (by decide)]
  unfold lit0t1_0
  rw [show i / 128 % 128 = 126 by omega]
  exact of_table (f := lit0t0_126) (fun i => by unfold lit0t0_126; rw [Nat.mod_mod]) table_31 i

theorem leaf_127 : Holds 127 := fun i h => by
  rw [half_0 h (by decide)]
  unfold lit0t1_0
  rw [show i / 128 % 128 = 127 by omega]
  exact of_table (f := lit0t0_127) (fun i => by unfold lit0t0_127; rw [Nat.mod_mod]) table_31 i

theorem leaf_128 : Holds 128 := fun i h => by
  rw [half_1 h (by decide)]
  unfold lit0t1_1
  rw [show i / 128 % 128 = 0 by omega]
  exact of_table (f := lit0t0_128) (fun i => by unfold lit0t0_128; rw [Nat.mod_mod]) table_32 i

theorem leaf_129 : Holds 129 := fun i h => by
  rw [half_1 h (by decide)]
  unfold lit0t1_1
  rw [show i / 128 % 128 = 1 by omega]
  exact of_table (f := lit0t0_129) (fun i => by unfold lit0t0_129; rw [Nat.mod_mod]) table_32 i

theorem leaf_130 : Holds 130 := fun i h => by
  rw [half_1 h (by decide)]
  unfold lit0t1_1
  rw [show i / 128 % 128 = 2 by omega]
  exact of_table (f := lit0t0_130) (fun i => by unfold lit0t0_130; rw [Nat.mod_mod]) table_32 i

theorem leaf_131 : Holds 131 := fun i h => by
  rw [half_1 h (by decide)]
  unfold lit0t1_1
  rw [show i / 128 % 128 = 3 by omega]
  exact of_table (f := lit0t0_131) (fun i => by unfold lit0t0_131; rw [Nat.mod_mod]) table_32 i

theorem leaf_132 : Holds 132 := fun i h => by
  rw [half_1 h (by decide)]
  unfold lit0t1_1
  rw [show i / 128 % 128 = 4 by omega]
  exact of_table (f := lit0t0_132) (fun i => by unfold lit0t0_132; rw [Nat.mod_mod]) table_33 i

theorem leaf_133 : Holds 133 := fun i h => by
  rw [half_1 h (by decide)]
  unfold lit0t1_1
  rw [show i / 128 % 128 = 5 by omega]
  exact of_table (f := lit0t0_133) (fun i => by unfold lit0t0_133; rw [Nat.mod_mod]) table_33 i

theorem leaf_134 : Holds 134 := fun i h => by
  rw [half_1 h (by decide)]
  unfold lit0t1_1
  rw [show i / 128 % 128 = 6 by omega]
  exact of_table (f := lit0t0_134) (fun i => by unfold lit0t0_134; rw [Nat.mod_mod]) table_33 i

theorem leaf_135 : Holds 135 := fun i h => by
  rw [half_1 h (by decide)]
  unfold lit0t1_1
  rw [show i / 128 % 128 = 7 by omega]
  exact of_table (f := lit0t0_135) (fun i => by unfold lit0t0_135; rw [Nat.mod_mod]) table_33 i

theorem leaf_136 : Holds 136 := fun i h => by
  rw [half_1 h (by decide)]
  unfold lit0t1_1
  rw [show i / 128 % 128 = 8 by omega]
  exact of_table (f := lit0t0_136) (fun i => by unfold lit0t0_136; rw [Nat.mod_mod]) table_34 i

theorem leaf_137 : Holds 137 := fun i h => by
  rw [half_1 h (by decide)]
  unfold lit0t1_1
  rw [show i / 128 % 128 = 9 by omega]
  exact of_table (f := lit0t0_137) (fun i => by unfold lit0t0_137; rw [Nat.mod_mod]) table_34 i

theorem leaf_138 : Holds 138 := fun i h => by
  rw [half_1 h (by decide)]
  unfold lit0t1_1
  rw [show i / 128 % 128 = 10 by omega]
  exact of_table (f := lit0t0_138) (fun i => by unfold lit0t0_138; rw [Nat.mod_mod]) table_34 i

theorem leaf_139 : Holds 139 := fun i h => by
  rw [half_1 h (by decide)]
  unfold lit0t1_1
  rw [show i / 128 % 128 = 11 by omega]
  exact of_table (f := lit0t0_139) (fun i => by unfold lit0t0_139; rw [Nat.mod_mod]) table_34 i

theorem leaf_140 : Holds 140 := fun i h => by
  rw [half_1 h (by decide)]
  unfold lit0t1_1
  rw [show i / 128 % 128 = 12 by omega]
  exact of_table (f := lit0t0_140) (fun i => by unfold lit0t0_140; rw [Nat.mod_mod]) table_35 i

theorem leaf_141 : Holds 141 := fun i h => by
  rw [half_1 h (by decide)]
  unfold lit0t1_1
  rw [show i / 128 % 128 = 13 by omega]
  exact of_table (f := lit0t0_141) (fun i => by unfold lit0t0_141; rw [Nat.mod_mod]) table_35 i

theorem leaf_142 : Holds 142 := fun i h => by
  rw [half_1 h (by decide)]
  unfold lit0t1_1
  rw [show i / 128 % 128 = 14 by omega]
  exact of_table (f := lit0t0_142) (fun i => by unfold lit0t0_142; rw [Nat.mod_mod]) table_35 i

theorem leaf_143 : Holds 143 := fun i h => by
  rw [half_1 h (by decide)]
  unfold lit0t1_1
  rw [show i / 128 % 128 = 15 by omega]
  exact of_table (f := lit0t0_143) (fun i => by unfold lit0t0_143; rw [Nat.mod_mod]) table_35 i

theorem leaf_144 : Holds 144 := fun i h => by
  rw [half_1 h (by decide)]
  unfold lit0t1_1
  rw [show i / 128 % 128 = 16 by omega]
  exact of_table (f := lit0t0_144) (fun i => by unfold lit0t0_144; rw [Nat.mod_mod]) table_36 i

theorem leaf_145 : Holds 145 := fun i h => by
  rw [half_1 h (by decide)]
  unfold lit0t1_1
  rw [show i / 128 % 128 = 17 by omega]
  exact of_table (f := lit0t0_145) (fun i => by unfold lit0t0_145; rw [Nat.mod_mod]) table_36 i

theorem leaf_146 : Holds 146 := fun i h => by
  rw [half_1 h (by decide)]
  unfold lit0t1_1
  rw [show i / 128 % 128 = 18 by omega]
  exact of_table (f := lit0t0_146) (fun i => by unfold lit0t0_146; rw [Nat.mod_mod]) table_36 i

theorem leaf_147 : Holds 147 := fun i h => by
  rw [half_1 h (by decide)]
  unfold lit0t1_1
  rw [show i / 128 % 128 = 19 by omega]
  exact of_table (f := lit0t0_147) (fun i => by unfold lit0t0_147; rw [Nat.mod_mod]) table_36 i

theorem leaf_148 : Holds 148 := fun i h => by
  rw [half_1 h (by decide)]
  unfold lit0t1_1
  rw [show i / 128 % 128 = 20 by omega]
  exact of_table (f := lit0t0_148) (fun i => by unfold lit0t0_148; rw [Nat.mod_mod]) table_37 i

theorem leaf_149 : Holds 149 := fun i h => by
  rw [half_1 h (by decide)]
  unfold lit0t1_1
  rw [show i / 128 % 128 = 21 by omega]
  exact of_table (f := lit0t0_149) (fun i => by unfold lit0t0_149; rw [Nat.mod_mod]) table_37 i

theorem leaf_150 : Holds 150 := fun i h => by
  rw [half_1 h (by decide)]
  unfold lit0t1_1
  rw [show i / 128 % 128 = 22 by omega]
  exact of_table (f := lit0t0_150) (fun i => by unfold lit0t0_150; rw [Nat.mod_mod]) table_37 i

theorem leaf_151 : Holds 151 := fun i h => by
  rw [half_1 h (by decide)]
  unfold lit0t1_1
  rw [show i / 128 % 128 = 23 by omega]
  exact of_table (f := lit0t0_151) (fun i => by unfold lit0t0_151; rw [Nat.mod_mod]) table_37 i

theorem leaf_152 : Holds 152 := fun i h => by
  rw [half_1 h (by decide)]
  unfold lit0t1_1
  rw [show i / 128 % 128 = 24 by omega]
  exact of_table (f := lit0t0_152) (fun i => by unfold lit0t0_152; rw [Nat.mod_mod]) table_38 i

theorem leaf_153 : Holds 153 := fun i h => by
  rw [half_1 h (by decide)]
  unfold lit0t1_1
  rw [show i / 128 % 128 = 25 by omega]
  exact of_table (f := lit0t0_153) (fun i => by unfold lit0t0_153; rw [Nat.mod_mod]) table_38 i

theorem leaf_154 : Holds 154 := fun i h => by
  rw [half_1 h (by decide)]
  unfold lit0t1_1
  rw [show i / 128 % 128 = 26 by omega]
  exact of_table (f := lit0t0_154) (fun i => by unfold lit0t0_154; rw [Nat.mod_mod]) table_38 i

theorem leaf_155 : Holds 155 := fun i h => by
  rw [half_1 h (by decide)]
  unfold lit0t1_1
  rw [show i / 128 % 128 = 27 by omega]
  exact of_table (f := lit0t0_155) (fun i => by unfold lit0t0_155; rw [Nat.mod_mod]) table_38 i

theorem leaf_156 : Holds 156 := fun i h => by
  rw [half_1 h (by decide)]
  unfold lit0t1_1
  rw [show i / 128 % 128 = 28 by omega]
  exact of_table (f := lit0t0_156) (fun i => by unfold lit0t0_156; rw [Nat.mod_mod]) table_39 i

theorem leaf_157 : Holds 157 := fun i h => by
  rw [half_1 h (by decide)]
  unfold lit0t1_1
  rw [show i / 128 % 128 = 29 by omega]
  exact of_table (f := lit0t0_157) (fun i => by unfold lit0t0_157; rw [Nat.mod_mod]) table_39 i

theorem leaf_158 : Holds 158 := fun i h => by
  rw [half_1 h (by decide)]
  unfold lit0t1_1
  rw [show i / 128 % 128 = 30 by omega]
  exact of_table (f := lit0t0_158) (fun i => by unfold lit0t0_158; rw [Nat.mod_mod]) table_39 i

theorem leaf_159 : Holds 159 := fun i h => by
  rw [half_1 h (by decide)]
  unfold lit0t1_1
  rw [show i / 128 % 128 = 31 by omega]
  exact of_table (f := lit0t0_159) (fun i => by unfold lit0t0_159; rw [Nat.mod_mod]) table_39 i

theorem leaf_160 : Holds 160 := fun i h => by
  rw [half_1 h (by decide)]
  unfold lit0t1_1
  rw [show i / 128 % 128 = 32 by omega]
  exact of_table (f := lit0t0_160) (fun i => by unfold lit0t0_160; rw [Nat.mod_mod]) table_40 i

theorem leaf_161 : Holds 161 := fun i h => by
  rw [half_1 h (by decide)]
  unfold lit0t1_1
  rw [show i / 128 % 128 = 33 by omega]
  exact of_table (f := lit0t0_161) (fun i => by unfold lit0t0_161; rw [Nat.mod_mod]) table_40 i

theorem leaf_162 : Holds 162 := fun i h => by
  rw [half_1 h (by decide)]
  unfold lit0t1_1
  rw [show i / 128 % 128 = 34 by omega]
  exact of_table (f := lit0t0_162) (fun i => by unfold lit0t0_162; rw [Nat.mod_mod]) table_40 i

theorem leaf_163 : Holds 163 := fun i h => by
  rw [half_1 h (by decide)]
  unfold lit0t1_1
  rw [show i / 128 % 128 = 35 by omega]
  exact of_table (f := lit0t0_163) (fun i => by unfold lit0t0_163; rw [Nat.mod_mod]) table_40 i

theorem leaf_164 : Holds 164 := fun i h => by
  rw [half_1 h (by decide)]
  unfold lit0t1_1
  rw [show i / 128 % 128 = 36 by omega]
  exact of_table (f := lit0t0_164) (fun i => by unfold lit0t0_164; rw [Nat.mod_mod]) table_41 i

theorem leaf_165 : Holds 165 := fun i h => by
  rw [half_1 h (by decide)]
  unfold lit0t1_1
  rw [show i / 128 % 128 = 37 by omega]
  exact of_table (f := lit0t0_165) (fun i => by unfold lit0t0_165; rw [Nat.mod_mod]) table_41 i

theorem leaf_166 : Holds 166 := fun i h => by
  rw [half_1 h (by decide)]
  unfold lit0t1_1
  rw [show i / 128 % 128 = 38 by omega]
  exact of_table (f := lit0t0_166) (fun i => by unfold lit0t0_166; rw [Nat.mod_mod]) table_41 i

theorem leaf_167 : Holds 167 := fun i h => by
  rw [half_1 h (by decide)]
  unfold lit0t1_1
  rw [show i / 128 % 128 = 39 by omega]
  exact of_table (f := lit0t0_167) (fun i => by unfold lit0t0_167; rw [Nat.mod_mod]) table_41 i

theorem leaf_168 : Holds 168 := fun i h => by
  rw [half_1 h (by decide)]
  unfold lit0t1_1
  rw [show i / 128 % 128 = 40 by omega]
  exact of_table (f := lit0t0_168) (fun i => by unfold lit0t0_168; rw [Nat.mod_mod]) table_42 i

theorem leaf_169 : Holds 169 := fun i h => by
  rw [half_1 h (by decide)]
  unfold lit0t1_1
  rw [show i / 128 % 128 = 41 by omega]
  exact of_table (f := lit0t0_169) (fun i => by unfold lit0t0_169; rw [Nat.mod_mod]) table_42 i

theorem leaf_170 : Holds 170 := fun i h => by
  rw [half_1 h (by decide)]
  unfold lit0t1_1
  rw [show i / 128 % 128 = 42 by omega]
  exact of_table (f := lit0t0_170) (fun i => by unfold lit0t0_170; rw [Nat.mod_mod]) table_42 i

theorem leaf_171 : Holds 171 := fun i h => by
  rw [half_1 h (by decide)]
  unfold lit0t1_1
  rw [show i / 128 % 128 = 43 by omega]
  exact of_table (f := lit0t0_171) (fun i => by unfold lit0t0_171; rw [Nat.mod_mod]) table_42 i

theorem leaf_172 : Holds 172 := fun i h => by
  rw [half_1 h (by decide)]
  unfold lit0t1_1
  rw [show i / 128 % 128 = 44 by omega]
  exact of_table (f := lit0t0_172) (fun i => by unfold lit0t0_172; rw [Nat.mod_mod]) table_43 i

theorem leaf_173 : Holds 173 := fun i h => by
  rw [half_1 h (by decide)]
  unfold lit0t1_1
  rw [show i / 128 % 128 = 45 by omega]
  exact of_table (f := lit0t0_173) (fun i => by unfold lit0t0_173; rw [Nat.mod_mod]) table_43 i

theorem leaf_174 : Holds 174 := fun i h => by
  rw [half_1 h (by decide)]
  unfold lit0t1_1
  rw [show i / 128 % 128 = 46 by omega]
  exact of_table (f := lit0t0_174) (fun i => by unfold lit0t0_174; rw [Nat.mod_mod]) table_43 i

theorem leaf_175 : Holds 175 := fun i h => by
  rw [half_1 h (by decide)]
  unfold lit0t1_1
  rw [show i / 128 % 128 = 47 by omega]
  exact of_table (f := lit0t0_175) (fun i => by unfold lit0t0_175; rw [Nat.mod_mod]) table_43 i

theorem leaf_176 : Holds 176 := fun i h => by
  rw [half_1 h (by decide)]
  unfold lit0t1_1
  rw [show i / 128 % 128 = 48 by omega]
  exact of_table (f := lit0t0_176) (fun i => by unfold lit0t0_176; rw [Nat.mod_mod]) table_44 i

theorem leaf_177 : Holds 177 := fun i h => by
  rw [half_1 h (by decide)]
  unfold lit0t1_1
  rw [show i / 128 % 128 = 49 by omega]
  exact of_table (f := lit0t0_177) (fun i => by unfold lit0t0_177; rw [Nat.mod_mod]) table_44 i

theorem leaf_178 : Holds 178 := fun i h => by
  rw [half_1 h (by decide)]
  unfold lit0t1_1
  rw [show i / 128 % 128 = 50 by omega]
  exact of_table (f := lit0t0_178) (fun i => by unfold lit0t0_178; rw [Nat.mod_mod]) table_44 i

theorem leaf_179 : Holds 179 := fun i h => by
  rw [half_1 h (by decide)]
  unfold lit0t1_1
  rw [show i / 128 % 128 = 51 by omega]
  exact of_table (f := lit0t0_179) (fun i => by unfold lit0t0_179; rw [Nat.mod_mod]) table_44 i

theorem leaf_180 : Holds 180 := fun i h => by
  rw [half_1 h (by decide)]
  unfold lit0t1_1
  rw [show i / 128 % 128 = 52 by omega]
  exact of_table (f := lit0t0_180) (fun i => by unfold lit0t0_180; rw [Nat.mod_mod]) table_45 i

theorem leaf_181 : Holds 181 := fun i h => by
  rw [half_1 h (by decide)]
  unfold lit0t1_1
  rw [show i / 128 % 128 = 53 by omega]
  exact of_table (f := lit0t0_181) (fun i => by unfold lit0t0_181; rw [Nat.mod_mod]) table_45 i

theorem leaf_182 : Holds 182 := fun i h => by
  rw [half_1 h (by decide)]
  unfold lit0t1_1
  rw [show i / 128 % 128 = 54 by omega]
  exact of_table (f := lit0t0_182) (fun i => by unfold lit0t0_182; rw [Nat.mod_mod]) table_45 i

theorem leaf_183 : Holds 183 := fun i h => by
  rw [half_1 h (by decide)]
  unfold lit0t1_1
  rw [show i / 128 % 128 = 55 by omega]
  exact of_table (f := lit0t0_183) (fun i => by unfold lit0t0_183; rw [Nat.mod_mod]) table_45 i

theorem leaf_184 : Holds 184 := fun i h => by
  rw [half_1 h (by decide)]
  unfold lit0t1_1
  rw [show i / 128 % 128 = 56 by omega]
  exact of_table (f := lit0t0_184) (fun i => by unfold lit0t0_184; rw [Nat.mod_mod]) table_46 i

theorem leaf_185 : Holds 185 := fun i h => by
  rw [half_1 h (by decide)]
  unfold lit0t1_1
  rw [show i / 128 % 128 = 57 by omega]
  exact of_table (f := lit0t0_185) (fun i => by unfold lit0t0_185; rw [Nat.mod_mod]) table_46 i

theorem leaf_186 : Holds 186 := fun i h => by
  rw [half_1 h (by decide)]
  unfold lit0t1_1
  rw [show i / 128 % 128 = 58 by omega]
  exact of_table (f := lit0t0_186) (fun i => by unfold lit0t0_186; rw [Nat.mod_mod]) table_46 i

theorem leaf_187 : Holds 187 := fun i h => by
  rw [half_1 h (by decide)]
  unfold lit0t1_1
  rw [show i / 128 % 128 = 59 by omega]
  exact of_table (f := lit0t0_187) (fun i => by unfold lit0t0_187; rw [Nat.mod_mod]) table_46 i

theorem leaf_188 : Holds 188 := fun i h => by
  rw [half_1 h (by decide)]
  unfold lit0t1_1
  rw [show i / 128 % 128 = 60 by omega]
  exact of_table (f := lit0t0_188) (fun i => by unfold lit0t0_188; rw [Nat.mod_mod]) table_47 i

theorem leaf_189 : Holds 189 := fun i h => by
  rw [half_1 h (by decide)]
  unfold lit0t1_1
  rw [show i / 128 % 128 = 61 by omega]
  exact of_table (f := lit0t0_189) (fun i => by unfold lit0t0_189; rw [Nat.mod_mod]) table_47 i

theorem leaf_190 : Holds 190 := fun i h => by
  rw [half_1 h (by decide)]
  unfold lit0t1_1
  rw [show i / 128 % 128 = 62 by omega]
  exact of_table (f := lit0t0_190) (fun i => by unfold lit0t0_190; rw [Nat.mod_mod]) table_47 i

theorem leaf_191 : Holds 191 := fun i h => by
  rw [half_1 h (by decide)]
  unfold lit0t1_1
  rw [show i / 128 % 128 = 63 by omega]
  exact of_table (f := lit0t0_191) (fun i => by unfold lit0t0_191; rw [Nat.mod_mod]) table_47 i

theorem leaf_192 : Holds 192 := fun i h => by
  rw [half_1 h (by decide)]
  unfold lit0t1_1
  rw [show i / 128 % 128 = 64 by omega]
  exact of_table (f := lit0t0_192) (fun i => by unfold lit0t0_192; rw [Nat.mod_mod]) table_48 i

theorem leaf_193 : Holds 193 := fun i h => by
  rw [half_1 h (by decide)]
  unfold lit0t1_1
  rw [show i / 128 % 128 = 65 by omega]
  exact of_table (f := lit0t0_193) (fun i => by unfold lit0t0_193; rw [Nat.mod_mod]) table_48 i

theorem leaf_194 : Holds 194 := fun i h => by
  rw [half_1 h (by decide)]
  unfold lit0t1_1
  rw [show i / 128 % 128 = 66 by omega]
  exact of_table (f := lit0t0_194) (fun i => by unfold lit0t0_194; rw [Nat.mod_mod]) table_48 i

theorem leaf_195 : Holds 195 := fun i h => by
  rw [half_1 h (by decide)]
  unfold lit0t1_1
  rw [show i / 128 % 128 = 67 by omega]
  exact of_table (f := lit0t0_195) (fun i => by unfold lit0t0_195; rw [Nat.mod_mod]) table_48 i

theorem leaf_196 : Holds 196 := fun i h => by
  rw [half_1 h (by decide)]
  unfold lit0t1_1
  rw [show i / 128 % 128 = 68 by omega]
  exact of_table (f := lit0t0_196) (fun i => by unfold lit0t0_196; rw [Nat.mod_mod]) table_49 i

theorem leaf_197 : Holds 197 := fun i h => by
  rw [half_1 h (by decide)]
  unfold lit0t1_1
  rw [show i / 128 % 128 = 69 by omega]
  exact of_table (f := lit0t0_197) (fun i => by unfold lit0t0_197; rw [Nat.mod_mod]) table_49 i

theorem leaf_198 : Holds 198 := fun i h => by
  rw [half_1 h (by decide)]
  unfold lit0t1_1
  rw [show i / 128 % 128 = 70 by omega]
  exact of_table (f := lit0t0_198) (fun i => by unfold lit0t0_198; rw [Nat.mod_mod]) table_49 i

theorem leaf_199 : Holds 199 := fun i h => by
  rw [half_1 h (by decide)]
  unfold lit0t1_1
  rw [show i / 128 % 128 = 71 by omega]
  exact of_table (f := lit0t0_199) (fun i => by unfold lit0t0_199; rw [Nat.mod_mod]) table_49 i

theorem leaf_200 : Holds 200 := fun i h => by
  rw [half_1 h (by decide)]
  unfold lit0t1_1
  rw [show i / 128 % 128 = 72 by omega]
  exact of_table (f := lit0t0_200) (fun i => by unfold lit0t0_200; rw [Nat.mod_mod]) table_50 i

theorem leaf_201 : Holds 201 := fun i h => by
  rw [half_1 h (by decide)]
  unfold lit0t1_1
  rw [show i / 128 % 128 = 73 by omega]
  exact of_table (f := lit0t0_201) (fun i => by unfold lit0t0_201; rw [Nat.mod_mod]) table_50 i

theorem leaf_202 : Holds 202 := fun i h => by
  rw [half_1 h (by decide)]
  unfold lit0t1_1
  rw [show i / 128 % 128 = 74 by omega]
  exact of_table (f := lit0t0_202) (fun i => by unfold lit0t0_202; rw [Nat.mod_mod]) table_50 i

theorem leaf_203 : Holds 203 := fun i h => by
  rw [half_1 h (by decide)]
  unfold lit0t1_1
  rw [show i / 128 % 128 = 75 by omega]
  exact of_table (f := lit0t0_203) (fun i => by unfold lit0t0_203; rw [Nat.mod_mod]) table_50 i

theorem leaf_204 : Holds 204 := fun i h => by
  rw [half_1 h (by decide)]
  unfold lit0t1_1
  rw [show i / 128 % 128 = 76 by omega]
  exact of_table (f := lit0t0_204) (fun i => by unfold lit0t0_204; rw [Nat.mod_mod]) table_51 i

theorem leaf_205 : Holds 205 := fun i h => by
  rw [half_1 h (by decide)]
  unfold lit0t1_1
  rw [show i / 128 % 128 = 77 by omega]
  exact of_table (f := lit0t0_205) (fun i => by unfold lit0t0_205; rw [Nat.mod_mod]) table_51 i

theorem leaf_206 : Holds 206 := fun i h => by
  rw [half_1 h (by decide)]
  unfold lit0t1_1
  rw [show i / 128 % 128 = 78 by omega]
  exact of_table (f := lit0t0_206) (fun i => by unfold lit0t0_206; rw [Nat.mod_mod]) table_51 i

theorem leaf_207 : Holds 207 := fun i h => by
  rw [half_1 h (by decide)]
  unfold lit0t1_1
  rw [show i / 128 % 128 = 79 by omega]
  exact of_table (f := lit0t0_207) (fun i => by unfold lit0t0_207; rw [Nat.mod_mod]) table_51 i

theorem leaf_208 : Holds 208 := fun i h => by
  rw [half_1 h (by decide)]
  unfold lit0t1_1
  rw [show i / 128 % 128 = 80 by omega]
  exact of_table (f := lit0t0_208) (fun i => by unfold lit0t0_208; rw [Nat.mod_mod]) table_52 i

theorem leaf_209 : Holds 209 := fun i h => by
  rw [half_1 h (by decide)]
  unfold lit0t1_1
  rw [show i / 128 % 128 = 81 by omega]
  exact of_table (f := lit0t0_209) (fun i => by unfold lit0t0_209; rw [Nat.mod_mod]) table_52 i

theorem leaf_210 : Holds 210 := fun i h => by
  rw [half_1 h (by decide)]
  unfold lit0t1_1
  rw [show i / 128 % 128 = 82 by omega]
  exact of_table (f := lit0t0_210) (fun i => by unfold lit0t0_210; rw [Nat.mod_mod]) table_52 i

theorem leaf_211 : Holds 211 := fun i h => by
  rw [half_1 h (by decide)]
  unfold lit0t1_1
  rw [show i / 128 % 128 = 83 by omega]
  exact of_table (f := lit0t0_211) (fun i => by unfold lit0t0_211; rw [Nat.mod_mod]) table_52 i

theorem leaf_212 : Holds 212 := fun i h => by
  rw [half_1 h (by decide)]
  unfold lit0t1_1
  rw [show i / 128 % 128 = 84 by omega]
  exact of_table (f := lit0t0_212) (fun i => by unfold lit0t0_212; rw [Nat.mod_mod]) table_53 i

theorem leaf_213 : Holds 213 := fun i h => by
  rw [half_1 h (by decide)]
  unfold lit0t1_1
  rw [show i / 128 % 128 = 85 by omega]
  exact of_table (f := lit0t0_213) (fun i => by unfold lit0t0_213; rw [Nat.mod_mod]) table_53 i

theorem leaf_214 : Holds 214 := fun i h => by
  rw [half_1 h (by decide)]
  unfold lit0t1_1
  rw [show i / 128 % 128 = 86 by omega]
  exact of_table (f := lit0t0_214) (fun i => by unfold lit0t0_214; rw [Nat.mod_mod]) table_53 i

theorem leaf_215 : Holds 215 := fun i h => by
  rw [half_1 h (by decide)]
  unfold lit0t1_1
  rw [show i / 128 % 128 = 87 by omega]
  exact of_table (f := lit0t0_215) (fun i => by unfold lit0t0_215; rw [Nat.mod_mod]) table_53 i

theorem leaf_216 : Holds 216 := fun i h => by
  rw [half_1 h (by decide)]
  unfold lit0t1_1
  rw [show i / 128 % 128 = 88 by omega]
  exact of_table (f := lit0t0_216) (fun i => by unfold lit0t0_216; rw [Nat.mod_mod]) table_54 i

theorem leaf_217 : Holds 217 := fun i h => by
  rw [half_1 h (by decide)]
  unfold lit0t1_1
  rw [show i / 128 % 128 = 89 by omega]
  exact of_table (f := lit0t0_217) (fun i => by unfold lit0t0_217; rw [Nat.mod_mod]) table_54 i

theorem leaf_218 : Holds 218 := fun i h => by
  rw [half_1 h (by decide)]
  unfold lit0t1_1
  rw [show i / 128 % 128 = 90 by omega]
  exact of_table (f := lit0t0_218) (fun i => by unfold lit0t0_218; rw [Nat.mod_mod]) table_54 i

theorem leaf_219 : Holds 219 := fun i h => by
  rw [half_1 h (by decide)]
  unfold lit0t1_1
  rw [show i / 128 % 128 = 91 by omega]
  exact of_table (f := lit0t0_219) (fun i => by unfold lit0t0_219; rw [Nat.mod_mod]) table_54 i

theorem leaf_220 : Holds 220 := fun i h => by
  rw [half_1 h (by decide)]
  unfold lit0t1_1
  rw [show i / 128 % 128 = 92 by omega]
  exact of_table (f := lit0t0_220) (fun i => by unfold lit0t0_220; rw [Nat.mod_mod]) table_55 i

theorem leaf_221 : Holds 221 := fun i h => by
  rw [half_1 h (by decide)]
  unfold lit0t1_1
  rw [show i / 128 % 128 = 93 by omega]
  exact of_table (f := lit0t0_221) (fun i => by unfold lit0t0_221; rw [Nat.mod_mod]) table_55 i

theorem leaf_222 : Holds 222 := fun i h => by
  rw [half_1 h (by decide)]
  unfold lit0t1_1
  rw [show i / 128 % 128 = 94 by omega]
  exact of_table (f := lit0t0_222) (fun i => by unfold lit0t0_222; rw [Nat.mod_mod]) table_55 i

theorem leaf_223 : Holds 223 := fun i h => by
  rw [half_1 h (by decide)]
  unfold lit0t1_1
  rw [show i / 128 % 128 = 95 by omega]
  exact of_table (f := lit0t0_223) (fun i => by unfold lit0t0_223; rw [Nat.mod_mod]) table_55 i

theorem leaf_224 : Holds 224 := fun i h => by
  rw [half_1 h (by decide)]
  unfold lit0t1_1
  rw [show i / 128 % 128 = 96 by omega]
  exact of_table (f := lit0t0_224) (fun i => by unfold lit0t0_224; rw [Nat.mod_mod]) table_56 i

theorem leaf_225 : Holds 225 := fun i h => by
  rw [half_1 h (by decide)]
  unfold lit0t1_1
  rw [show i / 128 % 128 = 97 by omega]
  exact of_table (f := lit0t0_225) (fun i => by unfold lit0t0_225; rw [Nat.mod_mod]) table_56 i

theorem leaf_226 : Holds 226 := fun i h => by
  rw [half_1 h (by decide)]
  unfold lit0t1_1
  rw [show i / 128 % 128 = 98 by omega]
  exact of_table (f := lit0t0_226) (fun i => by unfold lit0t0_226; rw [Nat.mod_mod]) table_56 i

theorem leaf_227 : Holds 227 := fun i h => by
  rw [half_1 h (by decide)]
  unfold lit0t1_1
  rw [show i / 128 % 128 = 99 by omega]
  exact of_table (f := lit0t0_227) (fun i => by unfold lit0t0_227; rw [Nat.mod_mod]) table_56 i

theorem leaf_228 : Holds 228 := fun i h => by
  rw [half_1 h (by decide)]
  unfold lit0t1_1
  rw [show i / 128 % 128 = 100 by omega]
  exact of_table (f := lit0t0_228) (fun i => by unfold lit0t0_228; rw [Nat.mod_mod]) table_57 i

theorem leaf_229 : Holds 229 := fun i h => by
  rw [half_1 h (by decide)]
  unfold lit0t1_1
  rw [show i / 128 % 128 = 101 by omega]
  exact of_table (f := lit0t0_229) (fun i => by unfold lit0t0_229; rw [Nat.mod_mod]) table_57 i

theorem leaf_230 : Holds 230 := fun i h => by
  rw [half_1 h (by decide)]
  unfold lit0t1_1
  rw [show i / 128 % 128 = 102 by omega]
  exact of_table (f := lit0t0_230) (fun i => by unfold lit0t0_230; rw [Nat.mod_mod]) table_57 i

theorem leaf_231 : Holds 231 := fun i h => by
  rw [half_1 h (by decide)]
  unfold lit0t1_1
  rw [show i / 128 % 128 = 103 by omega]
  exact of_table (f := lit0t0_231) (fun i => by unfold lit0t0_231; rw [Nat.mod_mod]) table_57 i

theorem leaf_232 : Holds 232 := fun i h => by
  rw [half_1 h (by decide)]
  unfold lit0t1_1
  rw [show i / 128 % 128 = 104 by omega]
  exact of_table (f := lit0t0_232) (fun i => by unfold lit0t0_232; rw [Nat.mod_mod]) table_58 i

theorem leaf_233 : Holds 233 := fun i h => by
  rw [half_1 h (by decide)]
  unfold lit0t1_1
  rw [show i / 128 % 128 = 105 by omega]
  exact of_table (f := lit0t0_233) (fun i => by unfold lit0t0_233; rw [Nat.mod_mod]) table_58 i

theorem leaf_234 : Holds 234 := fun i h => by
  rw [half_1 h (by decide)]
  unfold lit0t1_1
  rw [show i / 128 % 128 = 106 by omega]
  exact of_table (f := lit0t0_234) (fun i => by unfold lit0t0_234; rw [Nat.mod_mod]) table_58 i

theorem leaf_235 : Holds 235 := fun i h => by
  rw [half_1 h (by decide)]
  unfold lit0t1_1
  rw [show i / 128 % 128 = 107 by omega]
  exact of_table (f := lit0t0_235) (fun i => by unfold lit0t0_235; rw [Nat.mod_mod]) table_58 i

theorem leaf_236 : Holds 236 := fun i h => by
  rw [half_1 h (by decide)]
  unfold lit0t1_1
  rw [show i / 128 % 128 = 108 by omega]
  exact of_table (f := lit0t0_236) (fun i => by unfold lit0t0_236; rw [Nat.mod_mod]) table_59 i

theorem leaf_237 : Holds 237 := fun i h => by
  rw [half_1 h (by decide)]
  unfold lit0t1_1
  rw [show i / 128 % 128 = 109 by omega]
  exact of_table (f := lit0t0_237) (fun i => by unfold lit0t0_237; rw [Nat.mod_mod]) table_59 i

theorem leaf_238 : Holds 238 := fun i h => by
  rw [half_1 h (by decide)]
  unfold lit0t1_1
  rw [show i / 128 % 128 = 110 by omega]
  exact of_table (f := lit0t0_238) (fun i => by unfold lit0t0_238; rw [Nat.mod_mod]) table_59 i

theorem leaf_239 : Holds 239 := fun i h => by
  rw [half_1 h (by decide)]
  unfold lit0t1_1
  rw [show i / 128 % 128 = 111 by omega]
  exact of_table (f := lit0t0_239) (fun i => by unfold lit0t0_239; rw [Nat.mod_mod]) table_59 i

theorem leaf_240 : Holds 240 := fun i h => by
  rw [half_1 h (by decide)]
  unfold lit0t1_1
  rw [show i / 128 % 128 = 112 by omega]
  exact of_table (f := lit0t0_240) (fun i => by unfold lit0t0_240; rw [Nat.mod_mod]) table_60 i

theorem leaf_241 : Holds 241 := fun i h => by
  rw [half_1 h (by decide)]
  unfold lit0t1_1
  rw [show i / 128 % 128 = 113 by omega]
  exact of_table (f := lit0t0_241) (fun i => by unfold lit0t0_241; rw [Nat.mod_mod]) table_60 i

theorem leaf_242 : Holds 242 := fun i h => by
  rw [half_1 h (by decide)]
  unfold lit0t1_1
  rw [show i / 128 % 128 = 114 by omega]
  exact of_table (f := lit0t0_242) (fun i => by unfold lit0t0_242; rw [Nat.mod_mod]) table_60 i

theorem leaf_243 : Holds 243 := fun i h => by
  rw [half_1 h (by decide)]
  unfold lit0t1_1
  rw [show i / 128 % 128 = 115 by omega]
  exact of_table (f := lit0t0_243) (fun i => by unfold lit0t0_243; rw [Nat.mod_mod]) table_60 i

theorem leaf_244 : Holds 244 := fun i h => by
  rw [half_1 h (by decide)]
  unfold lit0t1_1
  rw [show i / 128 % 128 = 116 by omega]
  exact of_table (f := lit0t0_244) (fun i => by unfold lit0t0_244; rw [Nat.mod_mod]) table_61 i

theorem leaf_245 : Holds 245 := fun i h => by
  rw [half_1 h (by decide)]
  unfold lit0t1_1
  rw [show i / 128 % 128 = 117 by omega]
  exact of_table (f := lit0t0_245) (fun i => by unfold lit0t0_245; rw [Nat.mod_mod]) table_61 i

theorem leaf_246 : Holds 246 := fun i h => by
  rw [half_1 h (by decide)]
  unfold lit0t1_1
  rw [show i / 128 % 128 = 118 by omega]
  exact of_table (f := lit0t0_246) (fun i => by unfold lit0t0_246; rw [Nat.mod_mod]) table_61 i

theorem leaf_247 : Holds 247 := fun i h => by
  rw [half_1 h (by decide)]
  unfold lit0t1_1
  rw [show i / 128 % 128 = 119 by omega]
  exact of_table (f := lit0t0_247) (fun i => by unfold lit0t0_247; rw [Nat.mod_mod]) table_61 i

theorem leaf_248 : Holds 248 := fun i h => by
  rw [half_1 h (by decide)]
  unfold lit0t1_1
  rw [show i / 128 % 128 = 120 by omega]
  exact of_table (f := lit0t0_248) (fun i => by unfold lit0t0_248; rw [Nat.mod_mod]) table_62 i

theorem leaf_249 : Holds 249 := fun i h => by
  rw [half_1 h (by decide)]
  unfold lit0t1_1
  rw [show i / 128 % 128 = 121 by omega]
  exact of_table (f := lit0t0_249) (fun i => by unfold lit0t0_249; rw [Nat.mod_mod]) table_62 i

theorem leaf_250 : Holds 250 := fun i h => by
  rw [half_1 h (by decide)]
  unfold lit0t1_1
  rw [show i / 128 % 128 = 122 by omega]
  exact of_table (f := lit0t0_250) (fun i => by unfold lit0t0_250; rw [Nat.mod_mod]) table_62 i

theorem leaf_251 : Holds 251 := fun i h => by
  rw [half_1 h (by decide)]
  unfold lit0t1_1
  rw [show i / 128 % 128 = 123 by omega]
  exact of_table (f := lit0t0_251) (fun i => by unfold lit0t0_251; rw [Nat.mod_mod]) table_62 i

theorem leaf_252 : Holds 252 := fun i h => by
  rw [half_1 h (by decide)]
  unfold lit0t1_1
  rw [show i / 128 % 128 = 124 by omega]
  exact of_table (f := lit0t0_252) (fun i => by unfold lit0t0_252; rw [Nat.mod_mod]) table_63 i

theorem leaf_253 : Holds 253 := fun i h => by
  rw [half_1 h (by decide)]
  unfold lit0t1_1
  rw [show i / 128 % 128 = 125 by omega]
  exact of_table (f := lit0t0_253) (fun i => by unfold lit0t0_253; rw [Nat.mod_mod]) table_63 i

theorem leaf_254 : Holds 254 := fun i h => by
  rw [half_1 h (by decide)]
  unfold lit0t1_1
  rw [show i / 128 % 128 = 126 by omega]
  exact of_table (f := lit0t0_254) (fun i => by unfold lit0t0_254; rw [Nat.mod_mod]) table_63 i

theorem leaf_255 : Holds 255 := fun i h => by
  rw [half_1 h (by decide)]
  unfold lit0t1_1
  rw [show i / 128 % 128 = 127 by omega]
  exact of_table (f := lit0t0_255) (fun i => by unfold lit0t0_255; rw [Nat.mod_mod]) table_63 i

theorem upto_0 (k : ℕ) (hk : k < 0) : Holds k := absurd hk (Nat.not_lt_zero k)
theorem upto_1 : ∀ k, k < 1 → Holds k := upto 0 leaf_0 upto_0
theorem upto_2 : ∀ k, k < 2 → Holds k := upto 1 leaf_1 upto_1
theorem upto_3 : ∀ k, k < 3 → Holds k := upto 2 leaf_2 upto_2
theorem upto_4 : ∀ k, k < 4 → Holds k := upto 3 leaf_3 upto_3
theorem upto_5 : ∀ k, k < 5 → Holds k := upto 4 leaf_4 upto_4
theorem upto_6 : ∀ k, k < 6 → Holds k := upto 5 leaf_5 upto_5
theorem upto_7 : ∀ k, k < 7 → Holds k := upto 6 leaf_6 upto_6
theorem upto_8 : ∀ k, k < 8 → Holds k := upto 7 leaf_7 upto_7
theorem upto_9 : ∀ k, k < 9 → Holds k := upto 8 leaf_8 upto_8
theorem upto_10 : ∀ k, k < 10 → Holds k := upto 9 leaf_9 upto_9
theorem upto_11 : ∀ k, k < 11 → Holds k := upto 10 leaf_10 upto_10
theorem upto_12 : ∀ k, k < 12 → Holds k := upto 11 leaf_11 upto_11
theorem upto_13 : ∀ k, k < 13 → Holds k := upto 12 leaf_12 upto_12
theorem upto_14 : ∀ k, k < 14 → Holds k := upto 13 leaf_13 upto_13
theorem upto_15 : ∀ k, k < 15 → Holds k := upto 14 leaf_14 upto_14
theorem upto_16 : ∀ k, k < 16 → Holds k := upto 15 leaf_15 upto_15
theorem upto_17 : ∀ k, k < 17 → Holds k := upto 16 leaf_16 upto_16
theorem upto_18 : ∀ k, k < 18 → Holds k := upto 17 leaf_17 upto_17
theorem upto_19 : ∀ k, k < 19 → Holds k := upto 18 leaf_18 upto_18
theorem upto_20 : ∀ k, k < 20 → Holds k := upto 19 leaf_19 upto_19
theorem upto_21 : ∀ k, k < 21 → Holds k := upto 20 leaf_20 upto_20
theorem upto_22 : ∀ k, k < 22 → Holds k := upto 21 leaf_21 upto_21
theorem upto_23 : ∀ k, k < 23 → Holds k := upto 22 leaf_22 upto_22
theorem upto_24 : ∀ k, k < 24 → Holds k := upto 23 leaf_23 upto_23
theorem upto_25 : ∀ k, k < 25 → Holds k := upto 24 leaf_24 upto_24
theorem upto_26 : ∀ k, k < 26 → Holds k := upto 25 leaf_25 upto_25
theorem upto_27 : ∀ k, k < 27 → Holds k := upto 26 leaf_26 upto_26
theorem upto_28 : ∀ k, k < 28 → Holds k := upto 27 leaf_27 upto_27
theorem upto_29 : ∀ k, k < 29 → Holds k := upto 28 leaf_28 upto_28
theorem upto_30 : ∀ k, k < 30 → Holds k := upto 29 leaf_29 upto_29
theorem upto_31 : ∀ k, k < 31 → Holds k := upto 30 leaf_30 upto_30
theorem upto_32 : ∀ k, k < 32 → Holds k := upto 31 leaf_31 upto_31
theorem upto_33 : ∀ k, k < 33 → Holds k := upto 32 leaf_32 upto_32
theorem upto_34 : ∀ k, k < 34 → Holds k := upto 33 leaf_33 upto_33
theorem upto_35 : ∀ k, k < 35 → Holds k := upto 34 leaf_34 upto_34
theorem upto_36 : ∀ k, k < 36 → Holds k := upto 35 leaf_35 upto_35
theorem upto_37 : ∀ k, k < 37 → Holds k := upto 36 leaf_36 upto_36
theorem upto_38 : ∀ k, k < 38 → Holds k := upto 37 leaf_37 upto_37
theorem upto_39 : ∀ k, k < 39 → Holds k := upto 38 leaf_38 upto_38
theorem upto_40 : ∀ k, k < 40 → Holds k := upto 39 leaf_39 upto_39
theorem upto_41 : ∀ k, k < 41 → Holds k := upto 40 leaf_40 upto_40
theorem upto_42 : ∀ k, k < 42 → Holds k := upto 41 leaf_41 upto_41
theorem upto_43 : ∀ k, k < 43 → Holds k := upto 42 leaf_42 upto_42
theorem upto_44 : ∀ k, k < 44 → Holds k := upto 43 leaf_43 upto_43
theorem upto_45 : ∀ k, k < 45 → Holds k := upto 44 leaf_44 upto_44
theorem upto_46 : ∀ k, k < 46 → Holds k := upto 45 leaf_45 upto_45
theorem upto_47 : ∀ k, k < 47 → Holds k := upto 46 leaf_46 upto_46
theorem upto_48 : ∀ k, k < 48 → Holds k := upto 47 leaf_47 upto_47
theorem upto_49 : ∀ k, k < 49 → Holds k := upto 48 leaf_48 upto_48
theorem upto_50 : ∀ k, k < 50 → Holds k := upto 49 leaf_49 upto_49
theorem upto_51 : ∀ k, k < 51 → Holds k := upto 50 leaf_50 upto_50
theorem upto_52 : ∀ k, k < 52 → Holds k := upto 51 leaf_51 upto_51
theorem upto_53 : ∀ k, k < 53 → Holds k := upto 52 leaf_52 upto_52
theorem upto_54 : ∀ k, k < 54 → Holds k := upto 53 leaf_53 upto_53
theorem upto_55 : ∀ k, k < 55 → Holds k := upto 54 leaf_54 upto_54
theorem upto_56 : ∀ k, k < 56 → Holds k := upto 55 leaf_55 upto_55
theorem upto_57 : ∀ k, k < 57 → Holds k := upto 56 leaf_56 upto_56
theorem upto_58 : ∀ k, k < 58 → Holds k := upto 57 leaf_57 upto_57
theorem upto_59 : ∀ k, k < 59 → Holds k := upto 58 leaf_58 upto_58
theorem upto_60 : ∀ k, k < 60 → Holds k := upto 59 leaf_59 upto_59
theorem upto_61 : ∀ k, k < 61 → Holds k := upto 60 leaf_60 upto_60
theorem upto_62 : ∀ k, k < 62 → Holds k := upto 61 leaf_61 upto_61
theorem upto_63 : ∀ k, k < 63 → Holds k := upto 62 leaf_62 upto_62
theorem upto_64 : ∀ k, k < 64 → Holds k := upto 63 leaf_63 upto_63
theorem upto_65 : ∀ k, k < 65 → Holds k := upto 64 leaf_64 upto_64
theorem upto_66 : ∀ k, k < 66 → Holds k := upto 65 leaf_65 upto_65
theorem upto_67 : ∀ k, k < 67 → Holds k := upto 66 leaf_66 upto_66
theorem upto_68 : ∀ k, k < 68 → Holds k := upto 67 leaf_67 upto_67
theorem upto_69 : ∀ k, k < 69 → Holds k := upto 68 leaf_68 upto_68
theorem upto_70 : ∀ k, k < 70 → Holds k := upto 69 leaf_69 upto_69
theorem upto_71 : ∀ k, k < 71 → Holds k := upto 70 leaf_70 upto_70
theorem upto_72 : ∀ k, k < 72 → Holds k := upto 71 leaf_71 upto_71
theorem upto_73 : ∀ k, k < 73 → Holds k := upto 72 leaf_72 upto_72
theorem upto_74 : ∀ k, k < 74 → Holds k := upto 73 leaf_73 upto_73
theorem upto_75 : ∀ k, k < 75 → Holds k := upto 74 leaf_74 upto_74
theorem upto_76 : ∀ k, k < 76 → Holds k := upto 75 leaf_75 upto_75
theorem upto_77 : ∀ k, k < 77 → Holds k := upto 76 leaf_76 upto_76
theorem upto_78 : ∀ k, k < 78 → Holds k := upto 77 leaf_77 upto_77
theorem upto_79 : ∀ k, k < 79 → Holds k := upto 78 leaf_78 upto_78
theorem upto_80 : ∀ k, k < 80 → Holds k := upto 79 leaf_79 upto_79
theorem upto_81 : ∀ k, k < 81 → Holds k := upto 80 leaf_80 upto_80
theorem upto_82 : ∀ k, k < 82 → Holds k := upto 81 leaf_81 upto_81
theorem upto_83 : ∀ k, k < 83 → Holds k := upto 82 leaf_82 upto_82
theorem upto_84 : ∀ k, k < 84 → Holds k := upto 83 leaf_83 upto_83
theorem upto_85 : ∀ k, k < 85 → Holds k := upto 84 leaf_84 upto_84
theorem upto_86 : ∀ k, k < 86 → Holds k := upto 85 leaf_85 upto_85
theorem upto_87 : ∀ k, k < 87 → Holds k := upto 86 leaf_86 upto_86
theorem upto_88 : ∀ k, k < 88 → Holds k := upto 87 leaf_87 upto_87
theorem upto_89 : ∀ k, k < 89 → Holds k := upto 88 leaf_88 upto_88
theorem upto_90 : ∀ k, k < 90 → Holds k := upto 89 leaf_89 upto_89
theorem upto_91 : ∀ k, k < 91 → Holds k := upto 90 leaf_90 upto_90
theorem upto_92 : ∀ k, k < 92 → Holds k := upto 91 leaf_91 upto_91
theorem upto_93 : ∀ k, k < 93 → Holds k := upto 92 leaf_92 upto_92
theorem upto_94 : ∀ k, k < 94 → Holds k := upto 93 leaf_93 upto_93
theorem upto_95 : ∀ k, k < 95 → Holds k := upto 94 leaf_94 upto_94
theorem upto_96 : ∀ k, k < 96 → Holds k := upto 95 leaf_95 upto_95
theorem upto_97 : ∀ k, k < 97 → Holds k := upto 96 leaf_96 upto_96
theorem upto_98 : ∀ k, k < 98 → Holds k := upto 97 leaf_97 upto_97
theorem upto_99 : ∀ k, k < 99 → Holds k := upto 98 leaf_98 upto_98
theorem upto_100 : ∀ k, k < 100 → Holds k := upto 99 leaf_99 upto_99
theorem upto_101 : ∀ k, k < 101 → Holds k := upto 100 leaf_100 upto_100
theorem upto_102 : ∀ k, k < 102 → Holds k := upto 101 leaf_101 upto_101
theorem upto_103 : ∀ k, k < 103 → Holds k := upto 102 leaf_102 upto_102
theorem upto_104 : ∀ k, k < 104 → Holds k := upto 103 leaf_103 upto_103
theorem upto_105 : ∀ k, k < 105 → Holds k := upto 104 leaf_104 upto_104
theorem upto_106 : ∀ k, k < 106 → Holds k := upto 105 leaf_105 upto_105
theorem upto_107 : ∀ k, k < 107 → Holds k := upto 106 leaf_106 upto_106
theorem upto_108 : ∀ k, k < 108 → Holds k := upto 107 leaf_107 upto_107
theorem upto_109 : ∀ k, k < 109 → Holds k := upto 108 leaf_108 upto_108
theorem upto_110 : ∀ k, k < 110 → Holds k := upto 109 leaf_109 upto_109
theorem upto_111 : ∀ k, k < 111 → Holds k := upto 110 leaf_110 upto_110
theorem upto_112 : ∀ k, k < 112 → Holds k := upto 111 leaf_111 upto_111
theorem upto_113 : ∀ k, k < 113 → Holds k := upto 112 leaf_112 upto_112
theorem upto_114 : ∀ k, k < 114 → Holds k := upto 113 leaf_113 upto_113
theorem upto_115 : ∀ k, k < 115 → Holds k := upto 114 leaf_114 upto_114
theorem upto_116 : ∀ k, k < 116 → Holds k := upto 115 leaf_115 upto_115
theorem upto_117 : ∀ k, k < 117 → Holds k := upto 116 leaf_116 upto_116
theorem upto_118 : ∀ k, k < 118 → Holds k := upto 117 leaf_117 upto_117
theorem upto_119 : ∀ k, k < 119 → Holds k := upto 118 leaf_118 upto_118
theorem upto_120 : ∀ k, k < 120 → Holds k := upto 119 leaf_119 upto_119
theorem upto_121 : ∀ k, k < 121 → Holds k := upto 120 leaf_120 upto_120
theorem upto_122 : ∀ k, k < 122 → Holds k := upto 121 leaf_121 upto_121
theorem upto_123 : ∀ k, k < 123 → Holds k := upto 122 leaf_122 upto_122
theorem upto_124 : ∀ k, k < 124 → Holds k := upto 123 leaf_123 upto_123
theorem upto_125 : ∀ k, k < 125 → Holds k := upto 124 leaf_124 upto_124
theorem upto_126 : ∀ k, k < 126 → Holds k := upto 125 leaf_125 upto_125
theorem upto_127 : ∀ k, k < 127 → Holds k := upto 126 leaf_126 upto_126
theorem upto_128 : ∀ k, k < 128 → Holds k := upto 127 leaf_127 upto_127
theorem upto_129 : ∀ k, k < 129 → Holds k := upto 128 leaf_128 upto_128
theorem upto_130 : ∀ k, k < 130 → Holds k := upto 129 leaf_129 upto_129
theorem upto_131 : ∀ k, k < 131 → Holds k := upto 130 leaf_130 upto_130
theorem upto_132 : ∀ k, k < 132 → Holds k := upto 131 leaf_131 upto_131
theorem upto_133 : ∀ k, k < 133 → Holds k := upto 132 leaf_132 upto_132
theorem upto_134 : ∀ k, k < 134 → Holds k := upto 133 leaf_133 upto_133
theorem upto_135 : ∀ k, k < 135 → Holds k := upto 134 leaf_134 upto_134
theorem upto_136 : ∀ k, k < 136 → Holds k := upto 135 leaf_135 upto_135
theorem upto_137 : ∀ k, k < 137 → Holds k := upto 136 leaf_136 upto_136
theorem upto_138 : ∀ k, k < 138 → Holds k := upto 137 leaf_137 upto_137
theorem upto_139 : ∀ k, k < 139 → Holds k := upto 138 leaf_138 upto_138
theorem upto_140 : ∀ k, k < 140 → Holds k := upto 139 leaf_139 upto_139
theorem upto_141 : ∀ k, k < 141 → Holds k := upto 140 leaf_140 upto_140
theorem upto_142 : ∀ k, k < 142 → Holds k := upto 141 leaf_141 upto_141
theorem upto_143 : ∀ k, k < 143 → Holds k := upto 142 leaf_142 upto_142
theorem upto_144 : ∀ k, k < 144 → Holds k := upto 143 leaf_143 upto_143
theorem upto_145 : ∀ k, k < 145 → Holds k := upto 144 leaf_144 upto_144
theorem upto_146 : ∀ k, k < 146 → Holds k := upto 145 leaf_145 upto_145
theorem upto_147 : ∀ k, k < 147 → Holds k := upto 146 leaf_146 upto_146
theorem upto_148 : ∀ k, k < 148 → Holds k := upto 147 leaf_147 upto_147
theorem upto_149 : ∀ k, k < 149 → Holds k := upto 148 leaf_148 upto_148
theorem upto_150 : ∀ k, k < 150 → Holds k := upto 149 leaf_149 upto_149
theorem upto_151 : ∀ k, k < 151 → Holds k := upto 150 leaf_150 upto_150
theorem upto_152 : ∀ k, k < 152 → Holds k := upto 151 leaf_151 upto_151
theorem upto_153 : ∀ k, k < 153 → Holds k := upto 152 leaf_152 upto_152
theorem upto_154 : ∀ k, k < 154 → Holds k := upto 153 leaf_153 upto_153
theorem upto_155 : ∀ k, k < 155 → Holds k := upto 154 leaf_154 upto_154
theorem upto_156 : ∀ k, k < 156 → Holds k := upto 155 leaf_155 upto_155
theorem upto_157 : ∀ k, k < 157 → Holds k := upto 156 leaf_156 upto_156
theorem upto_158 : ∀ k, k < 158 → Holds k := upto 157 leaf_157 upto_157
theorem upto_159 : ∀ k, k < 159 → Holds k := upto 158 leaf_158 upto_158
theorem upto_160 : ∀ k, k < 160 → Holds k := upto 159 leaf_159 upto_159
theorem upto_161 : ∀ k, k < 161 → Holds k := upto 160 leaf_160 upto_160
theorem upto_162 : ∀ k, k < 162 → Holds k := upto 161 leaf_161 upto_161
theorem upto_163 : ∀ k, k < 163 → Holds k := upto 162 leaf_162 upto_162
theorem upto_164 : ∀ k, k < 164 → Holds k := upto 163 leaf_163 upto_163
theorem upto_165 : ∀ k, k < 165 → Holds k := upto 164 leaf_164 upto_164
theorem upto_166 : ∀ k, k < 166 → Holds k := upto 165 leaf_165 upto_165
theorem upto_167 : ∀ k, k < 167 → Holds k := upto 166 leaf_166 upto_166
theorem upto_168 : ∀ k, k < 168 → Holds k := upto 167 leaf_167 upto_167
theorem upto_169 : ∀ k, k < 169 → Holds k := upto 168 leaf_168 upto_168
theorem upto_170 : ∀ k, k < 170 → Holds k := upto 169 leaf_169 upto_169
theorem upto_171 : ∀ k, k < 171 → Holds k := upto 170 leaf_170 upto_170
theorem upto_172 : ∀ k, k < 172 → Holds k := upto 171 leaf_171 upto_171
theorem upto_173 : ∀ k, k < 173 → Holds k := upto 172 leaf_172 upto_172
theorem upto_174 : ∀ k, k < 174 → Holds k := upto 173 leaf_173 upto_173
theorem upto_175 : ∀ k, k < 175 → Holds k := upto 174 leaf_174 upto_174
theorem upto_176 : ∀ k, k < 176 → Holds k := upto 175 leaf_175 upto_175
theorem upto_177 : ∀ k, k < 177 → Holds k := upto 176 leaf_176 upto_176
theorem upto_178 : ∀ k, k < 178 → Holds k := upto 177 leaf_177 upto_177
theorem upto_179 : ∀ k, k < 179 → Holds k := upto 178 leaf_178 upto_178
theorem upto_180 : ∀ k, k < 180 → Holds k := upto 179 leaf_179 upto_179
theorem upto_181 : ∀ k, k < 181 → Holds k := upto 180 leaf_180 upto_180
theorem upto_182 : ∀ k, k < 182 → Holds k := upto 181 leaf_181 upto_181
theorem upto_183 : ∀ k, k < 183 → Holds k := upto 182 leaf_182 upto_182
theorem upto_184 : ∀ k, k < 184 → Holds k := upto 183 leaf_183 upto_183
theorem upto_185 : ∀ k, k < 185 → Holds k := upto 184 leaf_184 upto_184
theorem upto_186 : ∀ k, k < 186 → Holds k := upto 185 leaf_185 upto_185
theorem upto_187 : ∀ k, k < 187 → Holds k := upto 186 leaf_186 upto_186
theorem upto_188 : ∀ k, k < 188 → Holds k := upto 187 leaf_187 upto_187
theorem upto_189 : ∀ k, k < 189 → Holds k := upto 188 leaf_188 upto_188
theorem upto_190 : ∀ k, k < 190 → Holds k := upto 189 leaf_189 upto_189
theorem upto_191 : ∀ k, k < 191 → Holds k := upto 190 leaf_190 upto_190
theorem upto_192 : ∀ k, k < 192 → Holds k := upto 191 leaf_191 upto_191
theorem upto_193 : ∀ k, k < 193 → Holds k := upto 192 leaf_192 upto_192
theorem upto_194 : ∀ k, k < 194 → Holds k := upto 193 leaf_193 upto_193
theorem upto_195 : ∀ k, k < 195 → Holds k := upto 194 leaf_194 upto_194
theorem upto_196 : ∀ k, k < 196 → Holds k := upto 195 leaf_195 upto_195
theorem upto_197 : ∀ k, k < 197 → Holds k := upto 196 leaf_196 upto_196
theorem upto_198 : ∀ k, k < 198 → Holds k := upto 197 leaf_197 upto_197
theorem upto_199 : ∀ k, k < 199 → Holds k := upto 198 leaf_198 upto_198
theorem upto_200 : ∀ k, k < 200 → Holds k := upto 199 leaf_199 upto_199
theorem upto_201 : ∀ k, k < 201 → Holds k := upto 200 leaf_200 upto_200
theorem upto_202 : ∀ k, k < 202 → Holds k := upto 201 leaf_201 upto_201
theorem upto_203 : ∀ k, k < 203 → Holds k := upto 202 leaf_202 upto_202
theorem upto_204 : ∀ k, k < 204 → Holds k := upto 203 leaf_203 upto_203
theorem upto_205 : ∀ k, k < 205 → Holds k := upto 204 leaf_204 upto_204
theorem upto_206 : ∀ k, k < 206 → Holds k := upto 205 leaf_205 upto_205
theorem upto_207 : ∀ k, k < 207 → Holds k := upto 206 leaf_206 upto_206
theorem upto_208 : ∀ k, k < 208 → Holds k := upto 207 leaf_207 upto_207
theorem upto_209 : ∀ k, k < 209 → Holds k := upto 208 leaf_208 upto_208
theorem upto_210 : ∀ k, k < 210 → Holds k := upto 209 leaf_209 upto_209
theorem upto_211 : ∀ k, k < 211 → Holds k := upto 210 leaf_210 upto_210
theorem upto_212 : ∀ k, k < 212 → Holds k := upto 211 leaf_211 upto_211
theorem upto_213 : ∀ k, k < 213 → Holds k := upto 212 leaf_212 upto_212
theorem upto_214 : ∀ k, k < 214 → Holds k := upto 213 leaf_213 upto_213
theorem upto_215 : ∀ k, k < 215 → Holds k := upto 214 leaf_214 upto_214
theorem upto_216 : ∀ k, k < 216 → Holds k := upto 215 leaf_215 upto_215
theorem upto_217 : ∀ k, k < 217 → Holds k := upto 216 leaf_216 upto_216
theorem upto_218 : ∀ k, k < 218 → Holds k := upto 217 leaf_217 upto_217
theorem upto_219 : ∀ k, k < 219 → Holds k := upto 218 leaf_218 upto_218
theorem upto_220 : ∀ k, k < 220 → Holds k := upto 219 leaf_219 upto_219
theorem upto_221 : ∀ k, k < 221 → Holds k := upto 220 leaf_220 upto_220
theorem upto_222 : ∀ k, k < 222 → Holds k := upto 221 leaf_221 upto_221
theorem upto_223 : ∀ k, k < 223 → Holds k := upto 222 leaf_222 upto_222
theorem upto_224 : ∀ k, k < 224 → Holds k := upto 223 leaf_223 upto_223
theorem upto_225 : ∀ k, k < 225 → Holds k := upto 224 leaf_224 upto_224
theorem upto_226 : ∀ k, k < 226 → Holds k := upto 225 leaf_225 upto_225
theorem upto_227 : ∀ k, k < 227 → Holds k := upto 226 leaf_226 upto_226
theorem upto_228 : ∀ k, k < 228 → Holds k := upto 227 leaf_227 upto_227
theorem upto_229 : ∀ k, k < 229 → Holds k := upto 228 leaf_228 upto_228
theorem upto_230 : ∀ k, k < 230 → Holds k := upto 229 leaf_229 upto_229
theorem upto_231 : ∀ k, k < 231 → Holds k := upto 230 leaf_230 upto_230
theorem upto_232 : ∀ k, k < 232 → Holds k := upto 231 leaf_231 upto_231
theorem upto_233 : ∀ k, k < 233 → Holds k := upto 232 leaf_232 upto_232
theorem upto_234 : ∀ k, k < 234 → Holds k := upto 233 leaf_233 upto_233
theorem upto_235 : ∀ k, k < 235 → Holds k := upto 234 leaf_234 upto_234
theorem upto_236 : ∀ k, k < 236 → Holds k := upto 235 leaf_235 upto_235
theorem upto_237 : ∀ k, k < 237 → Holds k := upto 236 leaf_236 upto_236
theorem upto_238 : ∀ k, k < 238 → Holds k := upto 237 leaf_237 upto_237
theorem upto_239 : ∀ k, k < 239 → Holds k := upto 238 leaf_238 upto_238
theorem upto_240 : ∀ k, k < 240 → Holds k := upto 239 leaf_239 upto_239
theorem upto_241 : ∀ k, k < 241 → Holds k := upto 240 leaf_240 upto_240
theorem upto_242 : ∀ k, k < 242 → Holds k := upto 241 leaf_241 upto_241
theorem upto_243 : ∀ k, k < 243 → Holds k := upto 242 leaf_242 upto_242
theorem upto_244 : ∀ k, k < 244 → Holds k := upto 243 leaf_243 upto_243
theorem upto_245 : ∀ k, k < 245 → Holds k := upto 244 leaf_244 upto_244
theorem upto_246 : ∀ k, k < 246 → Holds k := upto 245 leaf_245 upto_245
theorem upto_247 : ∀ k, k < 247 → Holds k := upto 246 leaf_246 upto_246
theorem upto_248 : ∀ k, k < 248 → Holds k := upto 247 leaf_247 upto_247
theorem upto_249 : ∀ k, k < 249 → Holds k := upto 248 leaf_248 upto_248
theorem upto_250 : ∀ k, k < 250 → Holds k := upto 249 leaf_249 upto_249
theorem upto_251 : ∀ k, k < 251 → Holds k := upto 250 leaf_250 upto_250
theorem upto_252 : ∀ k, k < 252 → Holds k := upto 251 leaf_251 upto_251
theorem upto_253 : ∀ k, k < 253 → Holds k := upto 252 leaf_252 upto_252
theorem upto_254 : ∀ k, k < 254 → Holds k := upto 253 leaf_253 upto_253
theorem upto_255 : ∀ k, k < 255 → Holds k := upto 254 leaf_254 upto_254
theorem upto_256 : ∀ k, k < 256 → Holds k := upto 255 leaf_255 upto_255

theorem expand_bits (i : ℕ) (hi : i < 32768) : lit0t i = bits (i / 512) i := by
  have h := upto_256 (i / 128) (by omega) i rfl
  rwa [Nat.div_div_eq_div_mul] at h

end Cert.KernelIdeal.Lru

end
-- ==== Proof.LruSpec.lean ====
/- The gated linear recurrence `h r+1 = a r * h r + u r` over the reals, and the scan that computes it: a step at
   distance `d` multiplies each row's decay by the decay `d` rows before and adds the input found there, inside groups of
   `g` rows. After the steps `1, 2, 4, …` a row holds the product of the decays and the sum of the decayed inputs from its
   group's first row on. -/
module

public import Idealize.ShloMosaic.Lib.Pointwise

@[expose] public section

noncomputable section

namespace Cert.LruSpec

open Idealize.ShloMosaic

/-- The product of the last `k` decays up to row `r`. -/
def decay (a : ℕ → ℝ) (r : ℕ) : ℕ → ℝ
  | 0 => 1
  | k + 1 => decay a r k * a (r - k)

/-- What the last `k` inputs up to row `r` come to at row `r`. -/
def gain (a u : ℕ → ℝ) (r : ℕ) : ℕ → ℝ
  | 0 => 0
  | k + 1 => decay a r k * u (r - k) + gain a u r k

/-- The state before row `r`, from `h`. -/
def state (a u : ℕ → ℝ) (h : ℝ) : ℕ → ℝ
  | 0 => h
  | r + 1 => a r * state a u h r + u r

variable (a u : ℕ → ℝ)

theorem decay_add (r k j : ℕ) : decay a r (k + j) = decay a r k * decay a (r - k) j := by
  induction j with
  | zero => simp [decay]
  | succ j ih =>
    show decay a r (k + j) * a (r - (k + j)) = decay a r k * (decay a (r - k) j * a (r - k - j))
    rw [ih, Nat.sub_sub, mul_assoc]

theorem gain_add (r k j : ℕ) : gain a u r (k + j) = decay a r k * gain a u (r - k) j + gain a u r k := by
  induction j with
  | zero => simp [gain]
  | succ j ih =>
    show decay a r (k + j) * u (r - (k + j)) + gain a u r (k + j) = decay a r k * (decay a (r - k) j * u (r - k - j) + gain a u (r - k) j) + gain a u r k
    rw [ih, decay_add, Nat.sub_sub]
    ring

/-- The state after row `r` from the state `k` rows before. -/
theorem state_back (h : ℝ) (r k : ℕ) (hk : k ≤ r + 1) : state a u h (r + 1) = gain a u r k + decay a r k * state a u h (r + 1 - k) := by
  induction k with
  | zero => simp [gain, decay]
  | succ k ih =>
    rw [ih (by omega), show r + 1 - k = r - k + 1 by omega, show r + 1 - (k + 1) = r - k by omega]
    show gain a u r k + decay a r k * (a (r - k) * state a u h (r - k) + u (r - k)) = decay a r k * u (r - k) + gain a u r k + decay a r k * a (r - k) * state a u h (r - k)
    ring

/-- The states at the starts of groups of eight rows are the states of the groups' own recurrence. -/
theorem state_groups (h : ℝ) (g : ℕ) :
    state (fun g => decay a (8 * g + 7) 8) (fun g => gain a u (8 * g + 7) 8) h g = state a u h (8 * g) := by
  induction g with
  | zero => rfl
  | succ g ih =>
    show decay a (8 * g + 7) 8 * state (fun g => decay a (8 * g + 7) 8) (fun g => gain a u (8 * g + 7) 8) h g + gain a u (8 * g + 7) 8 = _
    rw [ih, show 8 * (g + 1) = (8 * g + 7) + 1 by omega, state_back a u h (8 * g + 7) 8 (by omega), show 8 * g + 7 + 1 - 8 = 8 * g by omega]
    ring

/-- The states of a later stretch of the recurrence. -/
theorem state_shift (h : ℝ) (o r : ℕ) : state (fun r => a (o + r)) (fun r => u (o + r)) (state a u h o) r = state a u h (o + r) := by
  induction r with
  | zero => rfl
  | succ r ih =>
    show a (o + r) * state (fun r => a (o + r)) (fun r => u (o + r)) (state a u h o) r + u (o + r) = a (o + r) * state a u h (o + r) + u (o + r)
    rw [ih]

theorem min_step {g d r : ℕ} (hd : d ≤ r % g) : min (d + d) (r % g + 1) = min d (r % g + 1) + min d ((r - d) % g + 1) ∧ min d (r % g + 1) = d := by
  have hg : r % g ≤ r := Nat.mod_le _ _
  have e : (r - d) % g = r % g - d := by
    rcases Nat.eq_zero_or_pos g with h | h
    · subst h; simp
    · have := Nat.div_add_mod r g
      have hlt := Nat.mod_lt r h
      rw [show r - d = (r % g - d) + g * (r / g) by omega, Nat.add_mul_mod_self_left, Nat.mod_eq_of_lt (by omega)]
  rw [e]
  omega

/-- One step of the scan on the decays. -/
theorem decay_step {g d r : ℕ} {A B : EReal} (hA : A = (decay a r (min d (r % g + 1)) : ℝ))
    (hB : d ≤ r % g → B = (decay a (r - d) (min d ((r - d) % g + 1)) : ℝ)) :
    A * (if d ≤ r % g then B else 1) = (decay a r (min (d + d) (r % g + 1)) : ℝ) := by
  by_cases h : d ≤ r % g
  · obtain ⟨e, e'⟩ := min_step h
    rw [if_pos h, hA, hB h, e, decay_add, e', EReal.coe_mul]
  · rw [if_neg h, mul_one, hA, show min (d + d) (r % g + 1) = min d (r % g + 1) by omega]

/-- One step of the scan on the inputs. -/
theorem gain_step {g d r : ℕ} {A U B : EReal} (hA : A = (decay a r (min d (r % g + 1)) : ℝ)) (hU : U = (gain a u r (min d (r % g + 1)) : ℝ))
    (hB : d ≤ r % g → B = (gain a u (r - d) (min d ((r - d) % g + 1)) : ℝ)) :
    A * (if d ≤ r % g then B else 0) + U = (gain a u r (min (d + d) (r % g + 1)) : ℝ) := by
  by_cases h : d ≤ r % g
  · obtain ⟨e, e'⟩ := min_step h
    rw [if_pos h, hA, hU, hB h, e, gain_add, e', EReal.coe_add, EReal.coe_mul]
  · rw [if_neg h, mul_zero, zero_add, hU, show min (d + d) (r % g + 1) = min d (r % g + 1) by omega]

theorem decay_one {g r : ℕ} : decay a r (min 1 (r % g + 1)) = a r := by
  rw [show min 1 (r % g + 1) = 1 by omega]; simp [decay]

theorem gain_one {g r : ℕ} : gain a u r (min 1 (r % g + 1)) = u r := by
  rw [show min 1 (r % g + 1) = 1 by omega]; simp [gain, decay]

end Cert.LruSpec

end
-- ==== Proof.LruGates.lean ====
/- The gated recurrence on the extended reals, over whole arrays: the causal convolution, the two gates, the decay and the
   input of every step, and the states they lead to. With finite rows and a finite convolution every decay and every input
   is a real number, whatever the gates' weights are, so the states are those of a recurrence over the reals. -/
module

public import proofs.«01_k».proof.Proof.LruSpec
public import Idealize.ShloMosaic.Lib.Pointwise

@[expose] public section

noncomputable section

namespace Cert.LruSpec

open Idealize.ShloMosaic

theorem two_bits : Ideal.ofBits .f32 0x40000000#32 = ((2 : ℝ) : EReal) := by
  simp [Ideal.ofBits, Ideal.ieee, -EReal.coe_mul, -EReal.coe_neg]
  norm_num

theorem neg_eight_bits : Ideal.ofBits .f32 0xC1000000#32 = ((-8 : ℝ) : EReal) := by
  simp [Ideal.ofBits, Ideal.ieee, -EReal.coe_mul, -EReal.coe_neg]
  norm_num

/-- The layer's arguments as arrays of extended reals. -/
structure Args where
  x : Fin 4 → Fin 8192 → Fin 512 → EReal
  y : Fin 4 → Fin 8192 → Fin 512 → EReal
  cw : Fin 4 → Fin 512 → EReal
  cb : Fin 512 → EReal
  wa : Fin 4 → Fin 128 → Fin 128 → EReal
  ba : Fin 512 → EReal
  wx : Fin 4 → Fin 128 → Fin 128 → EReal
  bx : Fin 512 → EReal
  lam : Fin 512 → EReal

/-- `log (1 + exp v)`, as it is computed. -/
def softplus (v : EReal) : EReal := max v 0 + Ideal.log1p (Ideal.exp (-FloatOps.absf (F := Ideal) (φ := .f32) v))

/-- `log a` of the recurrence's decay `a` where the gate is `r`. -/
def logDecay (lam r : EReal) : EReal := Ideal.ofBits .f32 0xC1000000#32 * softplus (-lam) * r

/-- The factor of the recurrence's input. -/
def scale (l : EReal) : EReal := Ideal.sqrt ((0 - Ideal.tanh l) * (Ideal.exp l * Ideal.exp l + 1))

theorem exp_nonneg (v : EReal) : 0 ≤ Ideal.exp v := by
  induction v using EReal.rec with
  | bot => simp
  | coe r => simpa using (Real.exp_pos r).le
  | top => simp

theorem log1p_nonneg {v : EReal} (h : 0 ≤ v) : 0 ≤ Ideal.log1p v := by
  show 0 ≤ Ideal.log (1 + v)
  induction v using EReal.rec with
  | bot => simp at h
  | coe r =>
    have hr : 0 ≤ r := by exact_mod_cast h
    rw [show (1 : EReal) + (r : EReal) = ((1 + r : ℝ) : EReal) by push_cast; rfl, Ideal.log_coe, if_neg (by linarith)]
    exact_mod_cast Real.log_nonneg (by linarith)
  | top => rw [show (1 : EReal) + ⊤ = ⊤ from EReal.add_top_of_ne_bot (by decide)]; simp

theorem softplus_nonneg (v : EReal) : 0 ≤ softplus v :=
  add_nonneg (le_max_right _ _) (log1p_nonneg (exp_nonneg _))

theorem gate_real (v : EReal) : ∃ r : ℝ, 0 ≤ r ∧ Ideal.logistic v = r := by
  induction v using EReal.rec with
  | bot => exact ⟨0, le_rfl, by simp⟩
  | coe r => exact ⟨(1 + Real.exp (-r))⁻¹, by positivity, by simp⟩
  | top => exact ⟨1, zero_le_one, by simp⟩

/-- The decay's logarithm is minus infinity or a real number at most zero. -/
theorem logDecay_cases (lam v : EReal) : logDecay lam (Ideal.logistic v) = ⊥ ∨ ∃ l : ℝ, l ≤ 0 ∧ logDecay lam (Ideal.logistic v) = l := by
  obtain ⟨r, hr, e⟩ := gate_real v
  have hs := softplus_nonneg (-lam)
  unfold logDecay
  rw [e, neg_eight_bits]
  generalize softplus (-lam) = s at hs
  induction s using EReal.rec with
  | bot => simp at hs
  | coe s =>
    have hs' : 0 ≤ s := by exact_mod_cast hs
    exact Or.inr ⟨-8 * s * r, by nlinarith [mul_nonneg hs' hr], by push_cast; rfl⟩
  | top =>
    rw [EReal.coe_mul_top_of_neg (by norm_num : (-8 : ℝ) < 0)]
    rcases hr.eq_or_lt with h | h
    · subst h
      exact Or.inr ⟨0, le_rfl, by simp⟩
    · exact Or.inl (EReal.bot_mul_coe_of_pos h)

theorem decay_real {l : EReal} (h : l = ⊥ ∨ ∃ r : ℝ, r ≤ 0 ∧ l = r) : ∃ a : ℝ, Ideal.exp l = a := by
  rcases h with h | ⟨r, _, h⟩
  · subst h; exact ⟨0, by simp⟩
  · subst h; exact ⟨Real.exp r, by simp⟩

theorem tanh_sinh (r : ℝ) : (0 - Real.tanh r) * (Real.exp r * Real.exp r + 1) = -(Real.exp (2 * r) - 1) := by
  have h := Real.exp_pos r
  rw [Real.tanh_eq_sinh_div_cosh, Real.sinh_eq, Real.cosh_eq, Real.exp_neg, show 2 * r = r + r by ring, Real.exp_add]
  have h2 : Real.exp r + (Real.exp r)⁻¹ ≠ 0 := by positivity
  field_simp
  ring

/-- The factor of the input, written with `tanh` or with `exp (2 l) - 1`. -/
theorem scale_eq {l : EReal} (h : l = ⊥ ∨ ∃ r : ℝ, r ≤ 0 ∧ l = r) :
    Ideal.sqrt (-(Ideal.exp (Ideal.ofBits .f32 0x40000000#32 * l) - 1)) = scale l := by
  unfold scale
  rw [two_bits]
  rcases h with h | ⟨r, _, h⟩
  · subst h
    rw [EReal.coe_mul_bot_of_pos (by norm_num)]
    simp
  · subst h
    have e : (Real.exp (2 * r) : EReal) = Ideal.exp (((2 : ℝ) : EReal) * (r : EReal)) := by
      rw [← EReal.coe_mul, Ideal.exp_coe]
    rw [← e, Ideal.tanh_coe, Ideal.exp_coe]
    congr 1
    have := tanh_sinh r
    exact_mod_cast this.symm

theorem scale_real {l : EReal} (h : l = ⊥ ∨ ∃ r : ℝ, r ≤ 0 ∧ l = r) : ∃ a : ℝ, scale l = a := by
  rcases h with h | ⟨r, hr, h⟩
  · subst h
    refine ⟨Real.sqrt 1, ?_⟩
    unfold scale
    have e : (0 - Ideal.tanh ⊥) * (Ideal.exp ⊥ * Ideal.exp ⊥ + 1) = ((1 : ℝ) : EReal) := by simp
    rw [e, Ideal.sqrt_coe, if_neg (by norm_num)]
  · subst h
    refine ⟨Real.sqrt (-(Real.exp (2 * r) - 1)), ?_⟩
    unfold scale
    have e : (0 - Ideal.tanh r) * (Ideal.exp r * Ideal.exp r + 1) = ((-(Real.exp (2 * r) - 1) : ℝ) : EReal) := by
      rw [Ideal.tanh_coe, Ideal.exp_coe]
      have := tanh_sinh r
      exact_mod_cast this
    have hp : Real.exp (2 * r) ≤ 1 := Real.exp_le_one_iff.mpr (by linarith)
    rw [e, Ideal.sqrt_coe, if_neg (by linarith)]

variable (G : Args)

/-- The row `d` positions before, zero before the sequence's start. -/
def back (s : Fin 4) (p : Fin 8192) (d : ℕ) (n : Fin 512) : EReal :=
  if d ≤ p.val then G.x s ⟨p.val - d, lt_of_le_of_lt (Nat.sub_le _ _) p.isLt⟩ n else 0

/-- The causal convolution over four rows. -/
def conv (s : Fin 4) (p : Fin 8192) (n : Fin 512) : EReal :=
  G.cb n + G.cw 3 n * G.x s p n + G.cw 0 n * back G s p 3 n + G.cw 1 n * back G s p 2 n + G.cw 2 n * back G s p 1 n

/-- A gate, block by block of 128 columns. -/
def gate (W : Fin 4 → Fin 128 → Fin 128 → EReal) (B : Fin 512 → EReal) (s : Fin 4) (p : Fin 8192) (n : Fin 512) : EReal :=
  Ideal.logistic (∑ k : Fin 128, conv G s p ⟨n.val / 128 * 128 + k.val, by omega⟩ * W ⟨n.val / 128, by omega⟩ k ⟨n.val % 128, by omega⟩ + B n)

def logA (s : Fin 4) (p : Fin 8192) (n : Fin 512) : EReal := logDecay (G.lam n) (gate G G.wa G.ba s p n)

/-- The decay and the input of a step. -/
def decayAt (s : Fin 4) (p : Fin 8192) (n : Fin 512) : EReal := Ideal.exp (logA G s p n)
def inputAt (s : Fin 4) (p : Fin 8192) (n : Fin 512) : EReal := scale (logA G s p n) * (gate G G.wx G.bx s p n * conv G s p n)

/-- The same as sequences of real numbers. -/
def aReal (s : Fin 4) (n : Fin 512) (p : ℕ) : ℝ := if h : p < 8192 then (decayAt G s ⟨p, h⟩ n).toReal else 0
def uReal (s : Fin 4) (n : Fin 512) (p : ℕ) : ℝ := if h : p < 8192 then (inputAt G s ⟨p, h⟩ n).toReal else 0

/-- The state after `p` steps. -/
def H (s : Fin 4) (n : Fin 512) (p : ℕ) : ℝ := state (aReal G s n) (uReal G s n) 0 p

/-- The output gate. -/
def gelu (y : EReal) : EReal :=
  y * (Ideal.ofBits .f32 0x3F000000#32 * (1 + Ideal.tanh (Ideal.ofBits .f32 0x3F4C422A#32 * (y + Ideal.ofBits .f32 0x3D372713#32 * (y * (y * y))))))

/-- The layer's output. -/
def layer (s : Fin 4) (p : Fin 8192) (n : Fin 512) : EReal := (H G s n (p.val + 1) : ℝ) * gelu (G.y s p n)

/-- The rows and the convolution are finite. -/
structure Finite : Prop where
  x : ∀ s p n, ∃ r : ℝ, G.x s p n = r
  cw : ∀ j n, ∃ r : ℝ, G.cw j n = r
  cb : ∀ n, ∃ r : ℝ, G.cb n = r

theorem logA_cases (s : Fin 4) (p : Fin 8192) (n : Fin 512) : logA G s p n = ⊥ ∨ ∃ r : ℝ, r ≤ 0 ∧ logA G s p n = r :=
  logDecay_cases _ _

theorem decayAt_real (s : Fin 4) (p : Fin 8192) (n : Fin 512) : decayAt G s p n = (aReal G s n p.val : ℝ) := by
  obtain ⟨a, h⟩ := decay_real (logA_cases G s p n)
  have e : decayAt G s p n = a := h
  unfold aReal
  rw [dif_pos p.isLt, e, EReal.toReal_coe]

variable {G} (hG : Finite G)

include hG

theorem back_real (s : Fin 4) (p : Fin 8192) (d : ℕ) (n : Fin 512) : ∃ r : ℝ, back G s p d n = r := by
  unfold back
  split_ifs
  · exact hG.x _ _ _
  · exact ⟨0, rfl⟩

theorem conv_real (s : Fin 4) (p : Fin 8192) (n : Fin 512) : ∃ r : ℝ, conv G s p n = r := by
  obtain ⟨b, hb⟩ := hG.cb n
  obtain ⟨x, hx⟩ := hG.x s p n
  obtain ⟨x1, h1⟩ := back_real hG s p 1 n
  obtain ⟨x2, h2⟩ := back_real hG s p 2 n
  obtain ⟨x3, h3⟩ := back_real hG s p 3 n
  obtain ⟨w0, hw0⟩ := hG.cw 0 n
  obtain ⟨w1, hw1⟩ := hG.cw 1 n
  obtain ⟨w2, hw2⟩ := hG.cw 2 n
  obtain ⟨w3, hw3⟩ := hG.cw 3 n
  refine ⟨b + w3 * x + w0 * x3 + w1 * x2 + w2 * x1, ?_⟩
  unfold conv
  rw [hb, hx, h1, h2, h3, hw0, hw1, hw2, hw3]
  push_cast
  rfl

theorem inputAt_real (s : Fin 4) (p : Fin 8192) (n : Fin 512) : inputAt G s p n = (uReal G s n p.val : ℝ) := by
  obtain ⟨a, ha⟩ := scale_real (logA_cases G s p n)
  obtain ⟨r, _, hr⟩ := gate_real (∑ k : Fin 128, conv G s p ⟨n.val / 128 * 128 + k.val, by omega⟩ * G.wx ⟨n.val / 128, by omega⟩ k ⟨n.val % 128, by omega⟩ + G.bx n)
  obtain ⟨x, hx⟩ := conv_real hG s p n
  have e : inputAt G s p n = ((a * (r * x) : ℝ) : EReal) := by
    unfold inputAt gate
    rw [ha, hr, hx]
    push_cast
    rfl
  unfold uReal
  rw [dif_pos p.isLt, e, EReal.toReal_coe]

end Cert.LruSpec

end
-- ==== Proof.LruBlocks.lean ====
/- The blocks of a grid point of the recurrence kernel, read from the launch arguments: the tile's rows of the two column
   groups, the convolution, the gates' weights, the decay's factor, and the matrix that repeats each row eight times. -/
module

public import proofs.«01_k».proof.Proof.LruExpand
public import proofs.«01_k».proof.Proof.LruGates
public import proofs.«01_k».proof.Proof.Gen.KernelIdeal.Value
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.IdealHost

@[expose] public section

set_option maxRecDepth 16384

noncomputable section

namespace Cert.KernelIdeal.Lru

open Cert.KernelIdeal Cert.KernelIdeal.Gen Cert.LruSpec Idealize.ShloMosaic Idealize.ShloMosaic.TcCoe Idealize.SL.Sem

variable (m : (ℓ : Loc nD τ sig) → Buf (Elt Ideal) ℓ) (c : Dev nD)

/-- Which block each window holds at a grid point. -/
theorem idx : ∀ t : Fin cfg0.N, win0_0.index t = ![t.val / 16, t.val % 16, 5] ∧ win0_1.index t = ![t.val / 16, t.val % 16, 6] ∧ win0_2.index t = ![0, 0] ∧ win0_3.index t = ![0, 0]
    ∧ win0_4.index t = ![0, 0, 0] ∧ win0_5.index t = ![0, 0] ∧ win0_6.index t = ![0, 0, 0] ∧ win0_7.index t = ![0, 0] ∧ win0_8.index t = ![0, 0] ∧ win0_9.index t = ![0, 0]
    ∧ win0_10.index t = ![t.val / 16, t.val % 16, 0] :=
  (by decide +kernel : ∀ t : Fin grid0.N, _)

theorem tlt (t : Fin cfg0.N) : t.val < 64 := lt_of_lt_of_eq t.isLt N_0

/-- Grid point `t` holds tile `t % 16` of sequence `t / 16`. -/
def seqOf (t : Fin cfg0.N) : Fin 4 := ⟨t.val / 16, by have := tlt t; omega⟩
def tileOf (t : Fin cfg0.N) : Fin 16 := ⟨t.val % 16, by omega⟩

theorem x0_apply (t : Fin cfg0.N) (r n : Fin 512) : (iblk m c 0 t : Vec Ideal S1x512x512 .f32) (ix3 0 r n)
    = m ((c : Thread nD τ).loc main_arg0) (ix3 (seqOf t) ⟨512 * (t.val % 16) + r.val, by omega⟩ ⟨2560 + n.val, by omega⟩) := by
  have ht := tlt t
  unfold seqOf
  blk_simp [iblk, idx t]
  entry_read
  pointwise
  blk_ext [idx t]

theorem x1_apply (t : Fin cfg0.N) (r n : Fin 512) : (iblk m c 1 t : Vec Ideal S1x512x512 .f32) (ix3 0 r n)
    = m ((c : Thread nD τ).loc main_arg0) (ix3 (seqOf t) ⟨512 * (t.val % 16) + r.val, by omega⟩ ⟨3072 + n.val, by omega⟩) := by
  have ht := tlt t
  unfold seqOf
  blk_simp [iblk, idx t]
  entry_read
  pointwise
  blk_ext [idx t]

theorem x2_apply (t : Fin cfg0.N) (j : Fin 4) (n : Fin 512) : (iblk m c 2 t : Vec Ideal S4x512 .f32) (ix2 j n) = m ((c : Thread nD τ).loc main_arg1) (ix2 j n) := by
  have ht := tlt t
  blk_simp [iblk, idx t]
  entry_read
  pointwise
  blk_ext [idx t]

/-- `log (1 + exp v)`, entry by entry, as the host code computes it. -/
def softHost (v : FVec Ideal S512 .f32) : FVec Ideal S512 .f32 :=
  select (cmpf .une (subf v (broadcastInDim S512 ![] bcast_S_S512 (constant S_ .f32 0x00000000#32))) (subf v (broadcastInDim S512 ![] bcast_S_S512 (constant S_ .f32 0x00000000#32))))
    (addf v (broadcastInDim S512 ![] bcast_S_S512 (constant S_ .f32 0x00000000#32)))
    (addf (maximumf v (broadcastInDim S512 ![] bcast_S_S512 (constant S_ .f32 0x00000000#32)))
      (Host.log1p (Host.exp (Host.negf (Host.absf (subf v (broadcastInDim S512 ![] bcast_S_S512 (constant S_ .f32 0x00000000#32))))))))

theorem softHost_apply (v : FVec Ideal S512 .f32) (n : Fin 512) : softHost v (ix1 n) = softplus (v (ix1 n)) := by
  unfold softHost softplus
  pointwise []
  simp

/-- The recurrence's parameter. -/
def lamArg : FVec Ideal S512 .f32 := m ((c : Thread nD τ).loc main_arg7)

theorem host_v5 : (V m c main_v5 : Vec Ideal S1x512 .f32) = shapeCast (α := Ideal .f32) S1x512 (m ((c : Thread nD τ).loc main_arg2) : Vec Ideal S512 .f32) shapeCasts_S512_S1x512 := by
  show StableHlo.after (hostOps0 ++ (hostOps0_1 ++ (hostOps0_2 ++ []))) (fun b => m (c, b)) main_v5 = _
  simp only [hostOps0, hostOps0_1, hostOps0_2, List.cons_append, List.nil_append]
  after_reads_simp
  rfl

theorem host_v7 : (V m c main_v7 : Vec Ideal S1x512 .f32) = shapeCast (α := Ideal .f32) S1x512 (m ((c : Thread nD τ).loc main_arg4) : Vec Ideal S512 .f32) shapeCasts_S512_S1x512 := by
  show StableHlo.after (hostOps0 ++ (hostOps0_1 ++ (hostOps0_2 ++ []))) (fun b => m (c, b)) main_v7 = _
  simp only [hostOps0, hostOps0_1, hostOps0_2, List.cons_append, List.nil_append]
  after_reads_simp
  rfl

theorem host_v9 : (V m c main_v9 : Vec Ideal S1x512 .f32) = shapeCast (α := Ideal .f32) S1x512 (m ((c : Thread nD τ).loc main_arg6) : Vec Ideal S512 .f32) shapeCasts_S512_S1x512 := by
  show StableHlo.after (hostOps0 ++ (hostOps0_1 ++ (hostOps0_2 ++ []))) (fun b => m (c, b)) main_v9 = _
  simp only [hostOps0, hostOps0_1, hostOps0_2, List.cons_append, List.nil_append]
  after_reads_simp
  rfl

theorem host_cst : (V m c main_cst : FVec Ideal S512x64 .bf16) = fun i => FloatOps.ofBits (F := Ideal) .bf16 (lit0 (S512x64.rowMajor i)) := by
  show StableHlo.after (hostOps0 ++ (hostOps0_1 ++ (hostOps0_2 ++ []))) (fun b => m (c, b)) main_cst = _
  simp only [hostOps0, hostOps0_1, hostOps0_2, List.cons_append, List.nil_append]
  after_reads_simp
  rfl

theorem host_v4 : (V m c main_v4 : FVec Ideal S1x512 .f32) = shapeCast (α := Ideal .f32) S1x512
    (mulf (broadcastInDim S512 ![] bcast_S_S512 (constant S_ .f32 0xC1000000#32)) (softHost (Host.negf (lamArg m c)))) shapeCasts_S512_S1x512 := by
  show (StableHlo.after (hostOps0 ++ (hostOps0_1 ++ (hostOps0_2 ++ []))) (fun b => m (c, b)) main_v4 : Vec Ideal S1x512 .f32) = _
  simp only [hostOps0, hostOps0_1, hostOps0_2, List.cons_append, List.nil_append]
  after_reads_simp
  rfl

theorem x3_apply (t : Fin cfg0.N) (n : Fin 512) : (iblk m c 3 t : Vec Ideal S1x512 .f32) (ix2 0 n) = m ((c : Thread nD τ).loc main_arg2) (ix1 n) := by
  have ht := tlt t
  have e : (iblk m c 3 t : Vec Ideal S1x512 .f32) (ix2 0 n) = (V m c main_v5 : Vec Ideal S1x512 .f32) (ix2 0 n) := by blk_ext [iblk, idx t]
  rw [e, host_v5]
  pointwise

theorem x4_apply (t : Fin cfg0.N) (h : Fin 4) (i j : Fin 128) : (iblk m c 4 t : Vec Ideal S4x128x128 .bf16) (ix3 h i j) = m ((c : Thread nD τ).loc main_arg3) (ix3 h i j) := by
  have ht := tlt t
  blk_simp [iblk, idx t]
  entry_read
  pointwise
  blk_ext [idx t]

theorem x5_apply (t : Fin cfg0.N) (n : Fin 512) : (iblk m c 5 t : Vec Ideal S1x512 .f32) (ix2 0 n) = m ((c : Thread nD τ).loc main_arg4) (ix1 n) := by
  have ht := tlt t
  have e : (iblk m c 5 t : Vec Ideal S1x512 .f32) (ix2 0 n) = (V m c main_v7 : Vec Ideal S1x512 .f32) (ix2 0 n) := by blk_ext [iblk, idx t]
  rw [e, host_v7]
  pointwise

theorem x6_apply (t : Fin cfg0.N) (h : Fin 4) (i j : Fin 128) : (iblk m c 6 t : Vec Ideal S4x128x128 .bf16) (ix3 h i j) = m ((c : Thread nD τ).loc main_arg5) (ix3 h i j) := by
  have ht := tlt t
  blk_simp [iblk, idx t]
  entry_read
  pointwise
  blk_ext [idx t]

theorem x7_apply (t : Fin cfg0.N) (n : Fin 512) : (iblk m c 7 t : Vec Ideal S1x512 .f32) (ix2 0 n) = m ((c : Thread nD τ).loc main_arg6) (ix1 n) := by
  have ht := tlt t
  have e : (iblk m c 7 t : Vec Ideal S1x512 .f32) (ix2 0 n) = (V m c main_v9 : Vec Ideal S1x512 .f32) (ix2 0 n) := by blk_ext [iblk, idx t]
  rw [e, host_v9]
  pointwise

theorem x8_apply (t : Fin cfg0.N) (n : Fin 512) : (iblk m c 8 t : Vec Ideal S1x512 .f32) (ix2 0 n)
    = Ideal.ofBits .f32 0xC1000000#32 * softplus (-(lamArg m c (ix1 n) : EReal)) := by
  have ht := tlt t
  have e : (iblk m c 8 t : Vec Ideal S1x512 .f32) (ix2 0 n) = (V m c main_v4 : Vec Ideal S1x512 .f32) (ix2 0 n) := by blk_ext [iblk, idx t]
  rw [e, host_v4]
  have h := softHost_apply (Host.negf (lamArg m c)) n
  revert h
  generalize softHost (Host.negf (lamArg m c)) = v
  intro h
  refine Eq.trans (b := Ideal.ofBits .f32 0xC1000000#32 * v (ix1 n)) (by pointwise []) ?_
  rw [h]
  rfl

theorem x9_apply (t : Fin cfg0.N) (i : Fin 512) (g : Fin 64) : (iblk m c 9 t : Vec Ideal S512x64 .bf16) (ix2 i g) = if i.val / 8 = g.val then (1 : EReal) else 0 := by
  have ht := tlt t
  have e : (iblk m c 9 t : Vec Ideal S512x64 .bf16) (ix2 i g) = (V m c main_cst : Vec Ideal S512x64 .bf16) (ix2 i g) := by blk_ext [iblk, idx t]
  rw [e, host_cst]
  have hp : (S512x64.rowMajor (ix2 i g)).val = 64 * i.val + g.val := by
    rw [Shape.rowMajor_val_two]
    show i.val * 64 + g.val = _
    omega
  have hb : lit0 (S512x64.rowMajor (ix2 i g)) = bits (i.val / 8) (64 * i.val + g.val) := by
    have h := expand_bits (64 * i.val + g.val) (by omega)
    rw [show (64 * i.val + g.val) / 512 = i.val / 8 by omega] at h
    rw [← h, ← hp]
  show FloatOps.ofBits (F := Ideal) .bf16 (lit0 (S512x64.rowMajor (ix2 i g))) = _
  rw [hb]
  unfold bits
  rw [show (64 * i.val + g.val) % 64 = g.val by omega]
  by_cases h : g.val = i.val / 8
  · rw [if_pos h, if_pos h.symm]; exact Ideal.ofBits_one_bf16
  · rw [if_neg h, if_neg (fun e => h e.symm)]; exact Ideal.ofBits_zero_bf16

end Cert.KernelIdeal.Lru

end
-- ==== Proof.LruScan.lean ====
/- The scan of a tile at an index: eight rows a group in three steps, then the sixty-four groups' ends in six, each step
   one rotation of the rows under a mask of the row's place in its group. -/
module

public import proofs.«01_k».proof.Proof.Gen.KernelIdeal.Skeleton
public import proofs.«01_k».proof.Proof.LruSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Lru

open Cert.KernelIdeal Cert.KernelIdeal.Gen Cert.LruSpec Idealize.ShloMosaic Idealize.ShloMosaic.TcCoe

/-- A rotated row under its mask: the row `d` before, where there is one in the group. -/
theorem pick {N : ℕ} (r : Fin N) (d c : ℕ) (hd : d ≤ N) (hc : c ≤ r.val) (m : BitVec 1) (hm : m = if d ≤ c then 1#1 else 0#1) (f : Fin N → EReal) (z : EReal)
    (i : Fin N) (hi : i.val = (r.val + N - d) % N) :
    Scalar.select m (f i) z = if d ≤ c then f ⟨r.val - d, lt_of_le_of_lt (Nat.sub_le _ _) r.isLt⟩ else z := by
  subst hm
  by_cases h : d ≤ c
  · rw [if_pos h, if_pos h]
    show f i = _
    refine congrArg f (Fin.ext ?_)
    have := r.isLt
    show i.val = r.val - d
    rw [hi, show r.val + N - d = (r.val - d) + N by omega, Nat.add_mod_right, Nat.mod_eq_of_lt (by omega)]
  · rw [if_neg h, if_neg h]
    rfl

/-- One step of the scan of 512 rows on the decays. -/
def decayStep512 (d : BitVec 32) (M : IVec S512x512 1) (A : FVec Ideal S512x512 .f32) : FVec Ideal S512x512 .f32 :=
  mulf A (select M (dynamicRotate 0 d none A rotates_S512x512_d0) (broadcast S512x512 (Scalar.ofBits .f32 0x3F800000#32)))

/-- One step of the scan of 512 rows on the inputs. -/
def gainStep512 (d : BitVec 32) (M : IVec S512x512 1) (A U : FVec Ideal S512x512 .f32) : FVec Ideal S512x512 .f32 :=
  addf (mulf A (select M (dynamicRotate 0 d none U rotates_S512x512_d0) (broadcast S512x512 (Scalar.ofBits .f32 0x00000000#32)))) U

/-- The rows' decays after the steps up to distance `d`. -/
def Decays512 (a : Fin 512 → ℕ → ℝ) (d : ℕ) (A : FVec Ideal S512x512 .f32) : Prop :=
  ∀ (r : Fin 512) (n : Fin 512), A (ix2 r n) = (decay (a n) r.val (min d (r.val % 8 + 1)) : ℝ)

/-- The rows' gathered inputs after the steps up to distance `d`. -/
def Gains512 (a u : Fin 512 → ℕ → ℝ) (d : ℕ) (U : FVec Ideal S512x512 .f32) : Prop :=
  ∀ (r : Fin 512) (n : Fin 512), U (ix2 r n) = (gain (a n) (u n) r.val (min d (r.val % 8 + 1)) : ℝ)

/-- The mask of a step: the row's place in its group is at least `d`. -/
def Masks512 (d : ℕ) (M : IVec S512x512 1) : Prop := ∀ (r : Fin 512) (n : Fin 512), M (ix2 r n) = if d ≤ r.val % 8 then 1#1 else 0#1

theorem zeros512 (r : Fin 512) (n : Fin 512) : broadcast S512x512 (Scalar.ofBits .f32 0x00000000#32 : Ideal .f32) (ix2 r n) = (0 : EReal) := by pointwise []

theorem ones512 (r : Fin 512) (n : Fin 512) : broadcast S512x512 (Scalar.ofBits .f32 0x3F800000#32 : Ideal .f32) (ix2 r n) = (1 : EReal) := by pointwise []

theorem rotate512_1 (U : FVec Ideal S512x512 .f32) (r : Fin 512) (n : Fin 512) :
    dynamicRotate 0 1#32 none U rotates_S512x512_d0 (ix2 r n) = U (ix2 ⟨(r.val + 512 - 1) % 512, Nat.mod_lt _ (by decide)⟩ n) := by pointwise []

theorem decays512_1 {a : Fin 512 → ℕ → ℝ} {M : IVec S512x512 1} {A : FVec Ideal S512x512 .f32} (hM : Masks512 1 M) (hA : Decays512 a 1 A) :
    Decays512 a 2 (decayStep512 1#32 M A) := fun r n => by
  have e : decayStep512 1#32 M A (ix2 r n) = A (ix2 r n) * (if 1 ≤ r.val % 8 then A (ix2 ⟨r.val - 1, lt_of_le_of_lt (Nat.sub_le _ _) r.isLt⟩ n) else 1) := by
    show A (ix2 r n) * Scalar.select (M (ix2 r n)) (dynamicRotate 0 1#32 none A rotates_S512x512_d0 (ix2 r n)) (broadcast S512x512 (Scalar.ofBits .f32 0x3F800000#32) (ix2 r n)) = _
    rw [rotate512_1, ones512]
    exact congrArg (A (ix2 r n) * ·) (pick r 1 (r.val % 8) (by decide) (Nat.mod_le _ _) _ (hM r n) (fun i => A (ix2 i n)) 1 ⟨(r.val + 512 - 1) % 512, Nat.mod_lt _ (by decide)⟩ rfl)
  rw [e]
  exact decay_step (d := 1) (a n) (hA r n) fun _ => hA _ n

theorem gains512_1 {a u : Fin 512 → ℕ → ℝ} {M : IVec S512x512 1} {A U : FVec Ideal S512x512 .f32} (hM : Masks512 1 M) (hA : Decays512 a 1 A) (hU : Gains512 a u 1 U) :
    Gains512 a u 2 (gainStep512 1#32 M A U) := fun r n => by
  have e : gainStep512 1#32 M A U (ix2 r n) = A (ix2 r n) * (if 1 ≤ r.val % 8 then U (ix2 ⟨r.val - 1, lt_of_le_of_lt (Nat.sub_le _ _) r.isLt⟩ n) else 0) + U (ix2 r n) := by
    show A (ix2 r n) * Scalar.select (M (ix2 r n)) (dynamicRotate 0 1#32 none U rotates_S512x512_d0 (ix2 r n)) (broadcast S512x512 (Scalar.ofBits .f32 0x00000000#32) (ix2 r n)) + U (ix2 r n) = _
    rw [rotate512_1, zeros512]
    exact congrArg (A (ix2 r n) * · + U (ix2 r n)) (pick r 1 (r.val % 8) (by decide) (Nat.mod_le _ _) _ (hM r n) (fun i => U (ix2 i n)) 0 ⟨(r.val + 512 - 1) % 512, Nat.mod_lt _ (by decide)⟩ rfl)
  rw [e]
  exact gain_step (d := 1) (a n) (u n) (hA r n) (hU r n) fun _ => hU _ n

theorem rotate512_2 (U : FVec Ideal S512x512 .f32) (r : Fin 512) (n : Fin 512) :
    dynamicRotate 0 2#32 none U rotates_S512x512_d0 (ix2 r n) = U (ix2 ⟨(r.val + 512 - 2) % 512, Nat.mod_lt _ (by decide)⟩ n) := by pointwise []

theorem decays512_2 {a : Fin 512 → ℕ → ℝ} {M : IVec S512x512 1} {A : FVec Ideal S512x512 .f32} (hM : Masks512 2 M) (hA : Decays512 a 2 A) :
    Decays512 a 4 (decayStep512 2#32 M A) := fun r n => by
  have e : decayStep512 2#32 M A (ix2 r n) = A (ix2 r n) * (if 2 ≤ r.val % 8 then A (ix2 ⟨r.val - 2, lt_of_le_of_lt (Nat.sub_le _ _) r.isLt⟩ n) else 1) := by
    show A (ix2 r n) * Scalar.select (M (ix2 r n)) (dynamicRotate 0 2#32 none A rotates_S512x512_d0 (ix2 r n)) (broadcast S512x512 (Scalar.ofBits .f32 0x3F800000#32) (ix2 r n)) = _
    rw [rotate512_2, ones512]
    exact congrArg (A (ix2 r n) * ·) (pick r 2 (r.val % 8) (by decide) (Nat.mod_le _ _) _ (hM r n) (fun i => A (ix2 i n)) 1 ⟨(r.val + 512 - 2) % 512, Nat.mod_lt _ (by decide)⟩ rfl)
  rw [e]
  exact decay_step (d := 2) (a n) (hA r n) fun _ => hA _ n

theorem gains512_2 {a u : Fin 512 → ℕ → ℝ} {M : IVec S512x512 1} {A U : FVec Ideal S512x512 .f32} (hM : Masks512 2 M) (hA : Decays512 a 2 A) (hU : Gains512 a u 2 U) :
    Gains512 a u 4 (gainStep512 2#32 M A U) := fun r n => by
  have e : gainStep512 2#32 M A U (ix2 r n) = A (ix2 r n) * (if 2 ≤ r.val % 8 then U (ix2 ⟨r.val - 2, lt_of_le_of_lt (Nat.sub_le _ _) r.isLt⟩ n) else 0) + U (ix2 r n) := by
    show A (ix2 r n) * Scalar.select (M (ix2 r n)) (dynamicRotate 0 2#32 none U rotates_S512x512_d0 (ix2 r n)) (broadcast S512x512 (Scalar.ofBits .f32 0x00000000#32) (ix2 r n)) + U (ix2 r n) = _
    rw [rotate512_2, zeros512]
    exact congrArg (A (ix2 r n) * · + U (ix2 r n)) (pick r 2 (r.val % 8) (by decide) (Nat.mod_le _ _) _ (hM r n) (fun i => U (ix2 i n)) 0 ⟨(r.val + 512 - 2) % 512, Nat.mod_lt _ (by decide)⟩ rfl)
  rw [e]
  exact gain_step (d := 2) (a n) (u n) (hA r n) (hU r n) fun _ => hU _ n

theorem rotate512_4 (U : FVec Ideal S512x512 .f32) (r : Fin 512) (n : Fin 512) :
    dynamicRotate 0 4#32 none U rotates_S512x512_d0 (ix2 r n) = U (ix2 ⟨(r.val + 512 - 4) % 512, Nat.mod_lt _ (by decide)⟩ n) := by pointwise []

theorem decays512_4 {a : Fin 512 → ℕ → ℝ} {M : IVec S512x512 1} {A : FVec Ideal S512x512 .f32} (hM : Masks512 4 M) (hA : Decays512 a 4 A) :
    Decays512 a 8 (decayStep512 4#32 M A) := fun r n => by
  have e : decayStep512 4#32 M A (ix2 r n) = A (ix2 r n) * (if 4 ≤ r.val % 8 then A (ix2 ⟨r.val - 4, lt_of_le_of_lt (Nat.sub_le _ _) r.isLt⟩ n) else 1) := by
    show A (ix2 r n) * Scalar.select (M (ix2 r n)) (dynamicRotate 0 4#32 none A rotates_S512x512_d0 (ix2 r n)) (broadcast S512x512 (Scalar.ofBits .f32 0x3F800000#32) (ix2 r n)) = _
    rw [rotate512_4, ones512]
    exact congrArg (A (ix2 r n) * ·) (pick r 4 (r.val % 8) (by decide) (Nat.mod_le _ _) _ (hM r n) (fun i => A (ix2 i n)) 1 ⟨(r.val + 512 - 4) % 512, Nat.mod_lt _ (by decide)⟩ rfl)
  rw [e]
  exact decay_step (d := 4) (a n) (hA r n) fun _ => hA _ n

theorem gains512_4 {a u : Fin 512 → ℕ → ℝ} {M : IVec S512x512 1} {A U : FVec Ideal S512x512 .f32} (hM : Masks512 4 M) (hA : Decays512 a 4 A) (hU : Gains512 a u 4 U) :
    Gains512 a u 8 (gainStep512 4#32 M A U) := fun r n => by
  have e : gainStep512 4#32 M A U (ix2 r n) = A (ix2 r n) * (if 4 ≤ r.val % 8 then U (ix2 ⟨r.val - 4, lt_of_le_of_lt (Nat.sub_le _ _) r.isLt⟩ n) else 0) + U (ix2 r n) := by
    show A (ix2 r n) * Scalar.select (M (ix2 r n)) (dynamicRotate 0 4#32 none U rotates_S512x512_d0 (ix2 r n)) (broadcast S512x512 (Scalar.ofBits .f32 0x00000000#32) (ix2 r n)) + U (ix2 r n) = _
    rw [rotate512_4, zeros512]
    exact congrArg (A (ix2 r n) * · + U (ix2 r n)) (pick r 4 (r.val % 8) (by decide) (Nat.mod_le _ _) _ (hM r n) (fun i => U (ix2 i n)) 0 ⟨(r.val + 512 - 4) % 512, Nat.mod_lt _ (by decide)⟩ rfl)
  rw [e]
  exact gain_step (d := 4) (a n) (u n) (hA r n) (hU r n) fun _ => hU _ n

/-- One step of the scan of 64 rows on the decays. -/
def decayStep64 (d : BitVec 32) (M : IVec S64x512 1) (A : FVec Ideal S64x512 .f32) : FVec Ideal S64x512 .f32 :=
  mulf A (select M (dynamicRotate 0 d none A rotates_S64x512_d0) (broadcast S64x512 (Scalar.ofBits .f32 0x3F800000#32)))

/-- One step of the scan of 64 rows on the inputs. -/
def gainStep64 (d : BitVec 32) (M : IVec S64x512 1) (A U : FVec Ideal S64x512 .f32) : FVec Ideal S64x512 .f32 :=
  addf (mulf A (select M (dynamicRotate 0 d none U rotates_S64x512_d0) (broadcast S64x512 (Scalar.ofBits .f32 0x00000000#32)))) U

/-- The rows' decays after the steps up to distance `d`. -/
def Decays64 (a : Fin 512 → ℕ → ℝ) (d : ℕ) (A : FVec Ideal S64x512 .f32) : Prop :=
  ∀ (r : Fin 64) (n : Fin 512), A (ix2 r n) = (decay (a n) r.val (min d (r.val % 64 + 1)) : ℝ)

/-- The rows' gathered inputs after the steps up to distance `d`. -/
def Gains64 (a u : Fin 512 → ℕ → ℝ) (d : ℕ) (U : FVec Ideal S64x512 .f32) : Prop :=
  ∀ (r : Fin 64) (n : Fin 512), U (ix2 r n) = (gain (a n) (u n) r.val (min d (r.val % 64 + 1)) : ℝ)

/-- The mask of a step: the row's place in its group is at least `d`. -/
def Masks64 (d : ℕ) (M : IVec S64x512 1) : Prop := ∀ (r : Fin 64) (n : Fin 512), M (ix2 r n) = if d ≤ r.val % 64 then 1#1 else 0#1

theorem zeros64 (r : Fin 64) (n : Fin 512) : broadcast S64x512 (Scalar.ofBits .f32 0x00000000#32 : Ideal .f32) (ix2 r n) = (0 : EReal) := by pointwise []

theorem ones64 (r : Fin 64) (n : Fin 512) : broadcast S64x512 (Scalar.ofBits .f32 0x3F800000#32 : Ideal .f32) (ix2 r n) = (1 : EReal) := by pointwise []

theorem rotate64_1 (U : FVec Ideal S64x512 .f32) (r : Fin 64) (n : Fin 512) :
    dynamicRotate 0 1#32 none U rotates_S64x512_d0 (ix2 r n) = U (ix2 ⟨(r.val + 64 - 1) % 64, Nat.mod_lt _ (by decide)⟩ n) := by pointwise []

theorem decays64_1 {a : Fin 512 → ℕ → ℝ} {M : IVec S64x512 1} {A : FVec Ideal S64x512 .f32} (hM : Masks64 1 M) (hA : Decays64 a 1 A) :
    Decays64 a 2 (decayStep64 1#32 M A) := fun r n => by
  have e : decayStep64 1#32 M A (ix2 r n) = A (ix2 r n) * (if 1 ≤ r.val % 64 then A (ix2 ⟨r.val - 1, lt_of_le_of_lt (Nat.sub_le _ _) r.isLt⟩ n) else 1) := by
    show A (ix2 r n) * Scalar.select (M (ix2 r n)) (dynamicRotate 0 1#32 none A rotates_S64x512_d0 (ix2 r n)) (broadcast S64x512 (Scalar.ofBits .f32 0x3F800000#32) (ix2 r n)) = _
    rw [rotate64_1, ones64]
    exact congrArg (A (ix2 r n) * ·) (pick r 1 (r.val % 64) (by decide) (Nat.mod_le _ _) _ (hM r n) (fun i => A (ix2 i n)) 1 ⟨(r.val + 64 - 1) % 64, Nat.mod_lt _ (by decide)⟩ rfl)
  rw [e]
  exact decay_step (d := 1) (a n) (hA r n) fun _ => hA _ n

theorem gains64_1 {a u : Fin 512 → ℕ → ℝ} {M : IVec S64x512 1} {A U : FVec Ideal S64x512 .f32} (hM : Masks64 1 M) (hA : Decays64 a 1 A) (hU : Gains64 a u 1 U) :
    Gains64 a u 2 (gainStep64 1#32 M A U) := fun r n => by
  have e : gainStep64 1#32 M A U (ix2 r n) = A (ix2 r n) * (if 1 ≤ r.val % 64 then U (ix2 ⟨r.val - 1, lt_of_le_of_lt (Nat.sub_le _ _) r.isLt⟩ n) else 0) + U (ix2 r n) := by
    show A (ix2 r n) * Scalar.select (M (ix2 r n)) (dynamicRotate 0 1#32 none U rotates_S64x512_d0 (ix2 r n)) (broadcast S64x512 (Scalar.ofBits .f32 0x00000000#32) (ix2 r n)) + U (ix2 r n) = _
    rw [rotate64_1, zeros64]
    exact congrArg (A (ix2 r n) * · + U (ix2 r n)) (pick r 1 (r.val % 64) (by decide) (Nat.mod_le _ _) _ (hM r n) (fun i => U (ix2 i n)) 0 ⟨(r.val + 64 - 1) % 64, Nat.mod_lt _ (by decide)⟩ rfl)
  rw [e]
  exact gain_step (d := 1) (a n) (u n) (hA r n) (hU r n) fun _ => hU _ n

theorem rotate64_2 (U : FVec Ideal S64x512 .f32) (r : Fin 64) (n : Fin 512) :
    dynamicRotate 0 2#32 none U rotates_S64x512_d0 (ix2 r n) = U (ix2 ⟨(r.val + 64 - 2) % 64, Nat.mod_lt _ (by decide)⟩ n) := by pointwise []

theorem decays64_2 {a : Fin 512 → ℕ → ℝ} {M : IVec S64x512 1} {A : FVec Ideal S64x512 .f32} (hM : Masks64 2 M) (hA : Decays64 a 2 A) :
    Decays64 a 4 (decayStep64 2#32 M A) := fun r n => by
  have e : decayStep64 2#32 M A (ix2 r n) = A (ix2 r n) * (if 2 ≤ r.val % 64 then A (ix2 ⟨r.val - 2, lt_of_le_of_lt (Nat.sub_le _ _) r.isLt⟩ n) else 1) := by
    show A (ix2 r n) * Scalar.select (M (ix2 r n)) (dynamicRotate 0 2#32 none A rotates_S64x512_d0 (ix2 r n)) (broadcast S64x512 (Scalar.ofBits .f32 0x3F800000#32) (ix2 r n)) = _
    rw [rotate64_2, ones64]
    exact congrArg (A (ix2 r n) * ·) (pick r 2 (r.val % 64) (by decide) (Nat.mod_le _ _) _ (hM r n) (fun i => A (ix2 i n)) 1 ⟨(r.val + 64 - 2) % 64, Nat.mod_lt _ (by decide)⟩ rfl)
  rw [e]
  exact decay_step (d := 2) (a n) (hA r n) fun _ => hA _ n

theorem gains64_2 {a u : Fin 512 → ℕ → ℝ} {M : IVec S64x512 1} {A U : FVec Ideal S64x512 .f32} (hM : Masks64 2 M) (hA : Decays64 a 2 A) (hU : Gains64 a u 2 U) :
    Gains64 a u 4 (gainStep64 2#32 M A U) := fun r n => by
  have e : gainStep64 2#32 M A U (ix2 r n) = A (ix2 r n) * (if 2 ≤ r.val % 64 then U (ix2 ⟨r.val - 2, lt_of_le_of_lt (Nat.sub_le _ _) r.isLt⟩ n) else 0) + U (ix2 r n) := by
    show A (ix2 r n) * Scalar.select (M (ix2 r n)) (dynamicRotate 0 2#32 none U rotates_S64x512_d0 (ix2 r n)) (broadcast S64x512 (Scalar.ofBits .f32 0x00000000#32) (ix2 r n)) + U (ix2 r n) = _
    rw [rotate64_2, zeros64]
    exact congrArg (A (ix2 r n) * · + U (ix2 r n)) (pick r 2 (r.val % 64) (by decide) (Nat.mod_le _ _) _ (hM r n) (fun i => U (ix2 i n)) 0 ⟨(r.val + 64 - 2) % 64, Nat.mod_lt _ (by decide)⟩ rfl)
  rw [e]
  exact gain_step (d := 2) (a n) (u n) (hA r n) (hU r n) fun _ => hU _ n

theorem rotate64_4 (U : FVec Ideal S64x512 .f32) (r : Fin 64) (n : Fin 512) :
    dynamicRotate 0 4#32 none U rotates_S64x512_d0 (ix2 r n) = U (ix2 ⟨(r.val + 64 - 4) % 64, Nat.mod_lt _ (by decide)⟩ n) := by pointwise []

theorem decays64_4 {a : Fin 512 → ℕ → ℝ} {M : IVec S64x512 1} {A : FVec Ideal S64x512 .f32} (hM : Masks64 4 M) (hA : Decays64 a 4 A) :
    Decays64 a 8 (decayStep64 4#32 M A) := fun r n => by
  have e : decayStep64 4#32 M A (ix2 r n) = A (ix2 r n) * (if 4 ≤ r.val % 64 then A (ix2 ⟨r.val - 4, lt_of_le_of_lt (Nat.sub_le _ _) r.isLt⟩ n) else 1) := by
    show A (ix2 r n) * Scalar.select (M (ix2 r n)) (dynamicRotate 0 4#32 none A rotates_S64x512_d0 (ix2 r n)) (broadcast S64x512 (Scalar.ofBits .f32 0x3F800000#32) (ix2 r n)) = _
    rw [rotate64_4, ones64]
    exact congrArg (A (ix2 r n) * ·) (pick r 4 (r.val % 64) (by decide) (Nat.mod_le _ _) _ (hM r n) (fun i => A (ix2 i n)) 1 ⟨(r.val + 64 - 4) % 64, Nat.mod_lt _ (by decide)⟩ rfl)
  rw [e]
  exact decay_step (d := 4) (a n) (hA r n) fun _ => hA _ n

theorem gains64_4 {a u : Fin 512 → ℕ → ℝ} {M : IVec S64x512 1} {A U : FVec Ideal S64x512 .f32} (hM : Masks64 4 M) (hA : Decays64 a 4 A) (hU : Gains64 a u 4 U) :
    Gains64 a u 8 (gainStep64 4#32 M A U) := fun r n => by
  have e : gainStep64 4#32 M A U (ix2 r n) = A (ix2 r n) * (if 4 ≤ r.val % 64 then U (ix2 ⟨r.val - 4, lt_of_le_of_lt (Nat.sub_le _ _) r.isLt⟩ n) else 0) + U (ix2 r n) := by
    show A (ix2 r n) * Scalar.select (M (ix2 r n)) (dynamicRotate 0 4#32 none U rotates_S64x512_d0 (ix2 r n)) (broadcast S64x512 (Scalar.ofBits .f32 0x00000000#32) (ix2 r n)) + U (ix2 r n) = _
    rw [rotate64_4, zeros64]
    exact congrArg (A (ix2 r n) * · + U (ix2 r n)) (pick r 4 (r.val % 64) (by decide) (Nat.mod_le _ _) _ (hM r n) (fun i => U (ix2 i n)) 0 ⟨(r.val + 64 - 4) % 64, Nat.mod_lt _ (by decide)⟩ rfl)
  rw [e]
  exact gain_step (d := 4) (a n) (u n) (hA r n) (hU r n) fun _ => hU _ n

theorem rotate64_8 (U : FVec Ideal S64x512 .f32) (r : Fin 64) (n : Fin 512) :
    dynamicRotate 0 8#32 none U rotates_S64x512_d0 (ix2 r n) = U (ix2 ⟨(r.val + 64 - 8) % 64, Nat.mod_lt _ (by decide)⟩ n) := by pointwise []

theorem decays64_8 {a : Fin 512 → ℕ → ℝ} {M : IVec S64x512 1} {A : FVec Ideal S64x512 .f32} (hM : Masks64 8 M) (hA : Decays64 a 8 A) :
    Decays64 a 16 (decayStep64 8#32 M A) := fun r n => by
  have e : decayStep64 8#32 M A (ix2 r n) = A (ix2 r n) * (if 8 ≤ r.val % 64 then A (ix2 ⟨r.val - 8, lt_of_le_of_lt (Nat.sub_le _ _) r.isLt⟩ n) else 1) := by
    show A (ix2 r n) * Scalar.select (M (ix2 r n)) (dynamicRotate 0 8#32 none A rotates_S64x512_d0 (ix2 r n)) (broadcast S64x512 (Scalar.ofBits .f32 0x3F800000#32) (ix2 r n)) = _
    rw [rotate64_8, ones64]
    exact congrArg (A (ix2 r n) * ·) (pick r 8 (r.val % 64) (by decide) (Nat.mod_le _ _) _ (hM r n) (fun i => A (ix2 i n)) 1 ⟨(r.val + 64 - 8) % 64, Nat.mod_lt _ (by decide)⟩ rfl)
  rw [e]
  exact decay_step (d := 8) (a n) (hA r n) fun _ => hA _ n

theorem gains64_8 {a u : Fin 512 → ℕ → ℝ} {M : IVec S64x512 1} {A U : FVec Ideal S64x512 .f32} (hM : Masks64 8 M) (hA : Decays64 a 8 A) (hU : Gains64 a u 8 U) :
    Gains64 a u 16 (gainStep64 8#32 M A U) := fun r n => by
  have e : gainStep64 8#32 M A U (ix2 r n) = A (ix2 r n) * (if 8 ≤ r.val % 64 then U (ix2 ⟨r.val - 8, lt_of_le_of_lt (Nat.sub_le _ _) r.isLt⟩ n) else 0) + U (ix2 r n) := by
    show A (ix2 r n) * Scalar.select (M (ix2 r n)) (dynamicRotate 0 8#32 none U rotates_S64x512_d0 (ix2 r n)) (broadcast S64x512 (Scalar.ofBits .f32 0x00000000#32) (ix2 r n)) + U (ix2 r n) = _
    rw [rotate64_8, zeros64]
    exact congrArg (A (ix2 r n) * · + U (ix2 r n)) (pick r 8 (r.val % 64) (by decide) (Nat.mod_le _ _) _ (hM r n) (fun i => U (ix2 i n)) 0 ⟨(r.val + 64 - 8) % 64, Nat.mod_lt _ (by decide)⟩ rfl)
  rw [e]
  exact gain_step (d := 8) (a n) (u n) (hA r n) (hU r n) fun _ => hU _ n

theorem rotate64_16 (U : FVec Ideal S64x512 .f32) (r : Fin 64) (n : Fin 512) :
    dynamicRotate 0 16#32 none U rotates_S64x512_d0 (ix2 r n) = U (ix2 ⟨(r.val + 64 - 16) % 64, Nat.mod_lt _ (by decide)⟩ n) := by pointwise []

theorem decays64_16 {a : Fin 512 → ℕ → ℝ} {M : IVec S64x512 1} {A : FVec Ideal S64x512 .f32} (hM : Masks64 16 M) (hA : Decays64 a 16 A) :
    Decays64 a 32 (decayStep64 16#32 M A) := fun r n => by
  have e : decayStep64 16#32 M A (ix2 r n) = A (ix2 r n) * (if 16 ≤ r.val % 64 then A (ix2 ⟨r.val - 16, lt_of_le_of_lt (Nat.sub_le _ _) r.isLt⟩ n) else 1) := by
    show A (ix2 r n) * Scalar.select (M (ix2 r n)) (dynamicRotate 0 16#32 none A rotates_S64x512_d0 (ix2 r n)) (broadcast S64x512 (Scalar.ofBits .f32 0x3F800000#32) (ix2 r n)) = _
    rw [rotate64_16, ones64]
    exact congrArg (A (ix2 r n) * ·) (pick r 16 (r.val % 64) (by decide) (Nat.mod_le _ _) _ (hM r n) (fun i => A (ix2 i n)) 1 ⟨(r.val + 64 - 16) % 64, Nat.mod_lt _ (by decide)⟩ rfl)
  rw [e]
  exact decay_step (d := 16) (a n) (hA r n) fun _ => hA _ n

theorem gains64_16 {a u : Fin 512 → ℕ → ℝ} {M : IVec S64x512 1} {A U : FVec Ideal S64x512 .f32} (hM : Masks64 16 M) (hA : Decays64 a 16 A) (hU : Gains64 a u 16 U) :
    Gains64 a u 32 (gainStep64 16#32 M A U) := fun r n => by
  have e : gainStep64 16#32 M A U (ix2 r n) = A (ix2 r n) * (if 16 ≤ r.val % 64 then U (ix2 ⟨r.val - 16, lt_of_le_of_lt (Nat.sub_le _ _) r.isLt⟩ n) else 0) + U (ix2 r n) := by
    show A (ix2 r n) * Scalar.select (M (ix2 r n)) (dynamicRotate 0 16#32 none U rotates_S64x512_d0 (ix2 r n)) (broadcast S64x512 (Scalar.ofBits .f32 0x00000000#32) (ix2 r n)) + U (ix2 r n) = _
    rw [rotate64_16, zeros64]
    exact congrArg (A (ix2 r n) * · + U (ix2 r n)) (pick r 16 (r.val % 64) (by decide) (Nat.mod_le _ _) _ (hM r n) (fun i => U (ix2 i n)) 0 ⟨(r.val + 64 - 16) % 64, Nat.mod_lt _ (by decide)⟩ rfl)
  rw [e]
  exact gain_step (d := 16) (a n) (u n) (hA r n) (hU r n) fun _ => hU _ n

theorem rotate64_32 (U : FVec Ideal S64x512 .f32) (r : Fin 64) (n : Fin 512) :
    dynamicRotate 0 32#32 none U rotates_S64x512_d0 (ix2 r n) = U (ix2 ⟨(r.val + 64 - 32) % 64, Nat.mod_lt _ (by decide)⟩ n) := by pointwise []

theorem decays64_32 {a : Fin 512 → ℕ → ℝ} {M : IVec S64x512 1} {A : FVec Ideal S64x512 .f32} (hM : Masks64 32 M) (hA : Decays64 a 32 A) :
    Decays64 a 64 (decayStep64 32#32 M A) := fun r n => by
  have e : decayStep64 32#32 M A (ix2 r n) = A (ix2 r n) * (if 32 ≤ r.val % 64 then A (ix2 ⟨r.val - 32, lt_of_le_of_lt (Nat.sub_le _ _) r.isLt⟩ n) else 1) := by
    show A (ix2 r n) * Scalar.select (M (ix2 r n)) (dynamicRotate 0 32#32 none A rotates_S64x512_d0 (ix2 r n)) (broadcast S64x512 (Scalar.ofBits .f32 0x3F800000#32) (ix2 r n)) = _
    rw [rotate64_32, ones64]
    exact congrArg (A (ix2 r n) * ·) (pick r 32 (r.val % 64) (by decide) (Nat.mod_le _ _) _ (hM r n) (fun i => A (ix2 i n)) 1 ⟨(r.val + 64 - 32) % 64, Nat.mod_lt _ (by decide)⟩ rfl)
  rw [e]
  exact decay_step (d := 32) (a n) (hA r n) fun _ => hA _ n

theorem gains64_32 {a u : Fin 512 → ℕ → ℝ} {M : IVec S64x512 1} {A U : FVec Ideal S64x512 .f32} (hM : Masks64 32 M) (hA : Decays64 a 32 A) (hU : Gains64 a u 32 U) :
    Gains64 a u 64 (gainStep64 32#32 M A U) := fun r n => by
  have e : gainStep64 32#32 M A U (ix2 r n) = A (ix2 r n) * (if 32 ≤ r.val % 64 then U (ix2 ⟨r.val - 32, lt_of_le_of_lt (Nat.sub_le _ _) r.isLt⟩ n) else 0) + U (ix2 r n) := by
    show A (ix2 r n) * Scalar.select (M (ix2 r n)) (dynamicRotate 0 32#32 none U rotates_S64x512_d0 (ix2 r n)) (broadcast S64x512 (Scalar.ofBits .f32 0x00000000#32) (ix2 r n)) + U (ix2 r n) = _
    rw [rotate64_32, zeros64]
    exact congrArg (A (ix2 r n) * · + U (ix2 r n)) (pick r 32 (r.val % 64) (by decide) (Nat.mod_le _ _) _ (hM r n) (fun i => U (ix2 i n)) 0 ⟨(r.val + 64 - 32) % 64, Nat.mod_lt _ (by decide)⟩ rfl)
  rw [e]
  exact gain_step (d := 32) (a n) (u n) (hA r n) (hU r n) fun _ => hU _ n

theorem mask8_1 : Masks512 1 (k0_pay28 k0_pay24 k0_pay25 k0_pay26) := fun r n => by
  have h : ∀ r : Fin 512, k0_pay28 k0_pay24 k0_pay25 k0_pay26 (ix2 r 0) = if 1 ≤ r.val % 8 then 1#1 else 0#1 := by decide +kernel
  exact Eq.trans rfl (h r)

theorem mask8_2 : Masks512 2 (k0_pay30 k0_pay24 k0_pay25 k0_pay26) := fun r n => by
  have h : ∀ r : Fin 512, k0_pay30 k0_pay24 k0_pay25 k0_pay26 (ix2 r 0) = if 2 ≤ r.val % 8 then 1#1 else 0#1 := by decide +kernel
  exact Eq.trans rfl (h r)

theorem mask8_4 : Masks512 4 (k0_pay32 k0_pay24 k0_pay25 k0_pay26) := fun r n => by
  have h : ∀ r : Fin 512, k0_pay32 k0_pay24 k0_pay25 k0_pay26 (ix2 r 0) = if 4 ≤ r.val % 8 then 1#1 else 0#1 := by decide +kernel
  exact Eq.trans rfl (h r)

theorem mask64_1 : Masks64 1 (k0_pay49 k0_pay47 k0_pay48) := fun r n => by
  have h : ∀ r : Fin 64, (k0_pay49 k0_pay47 k0_pay48) (ix2 r 0) = if 1 ≤ r.val % 64 then 1#1 else 0#1 := by decide +kernel
  exact Eq.trans rfl (h r)

theorem mask64_2 : Masks64 2 (k0_pay51 k0_pay47) := fun r n => by
  have h : ∀ r : Fin 64, (k0_pay51 k0_pay47) (ix2 r 0) = if 2 ≤ r.val % 64 then 1#1 else 0#1 := by decide +kernel
  exact Eq.trans rfl (h r)

theorem mask64_4 : Masks64 4 (k0_pay53 k0_pay47) := fun r n => by
  have h : ∀ r : Fin 64, (k0_pay53 k0_pay47) (ix2 r 0) = if 4 ≤ r.val % 64 then 1#1 else 0#1 := by decide +kernel
  exact Eq.trans rfl (h r)

theorem mask64_8 : Masks64 8 (k0_pay56 k0_pay47) := fun r n => by
  have h : ∀ r : Fin 64, (k0_pay56 k0_pay47) (ix2 r 0) = if 8 ≤ r.val % 64 then 1#1 else 0#1 := by decide +kernel
  exact Eq.trans rfl (h r)

theorem mask64_16 : Masks64 16 (cmpi .sge k0_pay47 (broadcast S64x512 16#32)) := fun r n => by
  have h : ∀ r : Fin 64, (cmpi .sge k0_pay47 (broadcast S64x512 16#32)) (ix2 r 0) = if 16 ≤ r.val % 64 then 1#1 else 0#1 := by decide +kernel
  exact Eq.trans rfl (h r)

theorem mask64_32 : Masks64 32 (cmpi .sge k0_pay47 (broadcast S64x512 32#32)) := fun r n => by
  have h : ∀ r : Fin 64, (cmpi .sge k0_pay47 (broadcast S64x512 32#32)) (ix2 r 0) = if 32 ≤ r.val % 64 then 1#1 else 0#1 := by decide +kernel
  exact Eq.trans rfl (h r)

section
variable {a u : Fin 512 → ℕ → ℝ} {A U : FVec Ideal S512x512 .f32} (hA : ∀ r n, A (ix2 r n) = (a n r.val : ℝ)) (hU : ∀ r n, U (ix2 r n) = (u n r.val : ℝ))

include hA in
theorem first_decays : Decays512 a 1 A := fun r n => by rw [hA r n, decay_one]

include hU in
theorem first_gains : Gains512 a u 1 U := fun r n => by rw [hU r n, gain_one]

include hA in
theorem decays_2 : Decays512 a 2 (k0_pay29 A k0_pay24 k0_pay25 k0_pay26) := decays512_1 mask8_1 (first_decays hA)

include hA in
theorem decays_4 : Decays512 a 4 (k0_pay31 A k0_pay24 k0_pay25 k0_pay26) := decays512_2 mask8_2 (decays_2 hA)

include hA in
/-- After the steps in groups of eight rows: the product of the decays from the group's first row on. -/
theorem decays_8 (r n : Fin 512) : k0_pay34 A k0_pay24 k0_pay25 k0_pay26 (ix2 r n) = (decay (a n) r.val (r.val % 8 + 1) : ℝ) := by
  have h := decays512_4 mask8_4 (decays_4 hA) r n
  rw [show min 8 (r.val % 8 + 1) = r.val % 8 + 1 by omega] at h
  exact h

include hA hU in
/-- After the steps in groups of eight rows: what the inputs from the group's first row on come to. -/
theorem gains_8 (r n : Fin 512) : k0_pay33 A U k0_pay24 k0_pay25 k0_pay26 (ix2 r n) = (gain (a n) (u n) r.val (r.val % 8 + 1) : ℝ) := by
  have h := gains512_4 mask8_4 (decays_4 hA) (gains512_2 mask8_2 (decays_2 hA) (gains512_1 mask8_1 (first_decays hA) (first_gains hU))) r n
  rw [show min 8 (r.val % 8 + 1) = r.val % 8 + 1 by omega] at h
  exact h
end

section
variable {a u : Fin 512 → ℕ → ℝ} {h : Fin 512 → ℝ} {A U : FVec Ideal S64x512 .f32} {H : FVec Ideal S1x512 .f32}
  (hA : ∀ r n, A (ix2 r n) = (a n r.val : ℝ)) (hU : ∀ r n, U (ix2 r n) = (u n r.val : ℝ)) (hH : ∀ n, H (ix2 0 n) = (h n : ℝ))

include hA in
theorem group_decays_1 : Decays64 a 1 A := fun r n => by rw [hA r n, decay_one]

include hU in
theorem group_gains_1 : Gains64 a u 1 U := fun r n => by rw [hU r n, gain_one]

include hA in
theorem group_decays_2 : Decays64 a 2 (k0_pay50 A k0_pay47 k0_pay48) := decays64_1 mask64_1 (group_decays_1 hA)

include hA in
theorem group_decays_4 : Decays64 a 4 (k0_pay52 A k0_pay47 k0_pay48) := decays64_2 mask64_2 (group_decays_2 hA)

include hA in
theorem group_decays_8 : Decays64 a 8 (k0_pay55 A k0_pay47 k0_pay48) := decays64_4 mask64_4 (group_decays_4 hA)

include hA hU in
theorem group_gains_8 : Gains64 a u 8 (k0_pay54 A U k0_pay47 k0_pay48) :=
  gains64_4 mask64_4 (group_decays_4 hA) (gains64_2 mask64_2 (group_decays_2 hA) (gains64_1 mask64_1 (group_decays_1 hA) (group_gains_1 hU)))

/-- The states after the groups, as the kernel computes them from the groups' ends `A`, `U` and the entering state `H`. -/
def ends (A U : FVec Ideal S64x512 .f32) (H : FVec Ideal S1x512 .f32) : FVec Ideal S64x512 .f32 :=
  k0_pay59 k0_pay47 (k0_pay54 A U k0_pay47 k0_pay48) (k0_pay55 A k0_pay47 k0_pay48) (k0_pay57 A k0_pay47 k0_pay48) (k0_pay58 A U k0_pay47 k0_pay48) H

/-- The states before the groups. -/
def starts (A U : FVec Ideal S64x512 .f32) (H : FVec Ideal S1x512 .f32) : FVec Ideal S64x512 .f32 :=
  k0_pay60 k0_pay47 (k0_pay54 A U k0_pay47 k0_pay48) (k0_pay55 A k0_pay47 k0_pay48) (k0_pay57 A k0_pay47 k0_pay48) (k0_pay58 A U k0_pay47 k0_pay48) H

theorem add_carried (D G : FVec Ideal S64x512 .f32) (H : FVec Ideal S1x512 .f32) (g : Fin 64) (n : Fin 512) :
    addf G (mulf D (broadcastTo S64x512 H broadcasts_S1x512_S64x512)) (ix2 g n) = G (ix2 g n) + D (ix2 g n) * H (ix2 0 n) := by
  pointwise []

include hA hU hH in
theorem ends_apply (g : Fin 64) (n : Fin 512) : ends A U H (ix2 g n) = (state (a n) (u n) (h n) (g.val + 1) : ℝ) := by
  have d16 := decays64_8 mask64_8 (group_decays_8 hA)
  have g16 := gains64_8 mask64_8 (group_decays_8 hA) (group_gains_8 hA hU)
  have d32 := decays64_16 mask64_16 d16
  have g32 := gains64_16 mask64_16 d16 g16
  have d64 := decays64_32 mask64_32 d32 g n
  have g64 := gains64_32 mask64_32 d32 g32 g n
  rw [show min 64 (g.val % 64 + 1) = g.val + 1 by omega] at d64 g64
  rw [state_back (a n) (u n) (h n) g.val (g.val + 1) le_rfl, Nat.sub_self]
  show _ = ((gain (a n) (u n) g.val (g.val + 1) + decay (a n) g.val (g.val + 1) * h n : ℝ) : EReal)
  rw [EReal.coe_add, EReal.coe_mul, ← d64, ← g64, ← hH n]
  exact Eq.trans rfl (add_carried _ _ H g n)

include hA hU hH in
theorem starts_apply (g : Fin 64) (n : Fin 512) : starts A U H (ix2 g n) = (state (a n) (u n) (h n) g.val : ℝ) := by
  have hm : ∀ g : Fin 64, cmpi .sge (iota .tc S64x512 32 [0] iota_S64x512_d0_w32) (broadcast S64x512 1#32) (ix2 g 0) = if 1 ≤ g.val then 1#1 else 0#1 := by decide +kernel
  have e : starts A U H (ix2 g n) = Scalar.select (cmpi .sge (iota .tc S64x512 32 [0] iota_S64x512_d0_w32) (broadcast S64x512 1#32) (ix2 g n))
      (ends A U H (ix2 ⟨(g.val + 64 - 1) % 64, Nat.mod_lt _ (by decide)⟩ n)) (H (ix2 0 n)) := by
    unfold starts k0_pay60
    show Scalar.select _ (dynamicRotate 0 1#32 none (ends A U H) rotates_S64x512_d0 (ix2 g n)) _ = _
    generalize ends A U H = E
    refine congr (congrArg (Scalar.select _) ?_) ?_
    · pointwise []
    · pointwise []
  have hm' : cmpi .sge (iota .tc S64x512 32 [0] iota_S64x512_d0_w32) (broadcast S64x512 1#32) (ix2 g n) = if 1 ≤ g.val then 1#1 else 0#1 := Eq.trans rfl (hm g)
  rw [e, pick g 1 g.val (by decide) le_rfl _ hm' (fun i => ends A U H (ix2 i n)) _ ⟨(g.val + 64 - 1) % 64, Nat.mod_lt _ (by decide)⟩ rfl]
  by_cases h1 : 1 ≤ g.val
  · rw [if_pos h1, ends_apply hA hU hH]
    show ((state (a n) (u n) (h n) (g.val - 1 + 1) : ℝ) : EReal) = _
    rw [Nat.sub_add_cancel h1]
  · rw [if_neg h1, hH, show g.val = 0 by omega]
    rfl
end

end Cert.KernelIdeal.Lru

end
-- ==== Proof.LruTile.lean ====
/- One grid point of the recurrence kernel as a function of its input blocks, the eight input rows before the tile and
   the state before it: the convolution, the gates, the scan inside groups of eight rows, the scan over the groups and the
   gated output. Nothing here speaks of memory; `Proof.LruRunA` and `Proof.LruRunB` show that the kernel's run computes it. -/
module

public import proofs.«01_k».proof.Proof.LruScan
public import proofs.«01_k».proof.Proof.Gen.KernelIdeal.Value
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.KernelIdeal.Lru

open Cert.KernelIdeal Cert.KernelIdeal.Gen Idealize.ShloMosaic Idealize.ShloMosaic.TcCoe Idealize.SL.Sem

/-- The ten input blocks of a grid point, in the order of the kernel's operands. -/
structure Blk (F : FTy → Type) [FloatOps F] where
  x0 : Vec F S1x512x512 .f32
  x1 : Vec F S1x512x512 .f32
  x2 : Vec F S4x512 .f32
  x3 : Vec F S1x512 .f32
  x4 : Vec F S4x128x128 .bf16
  x5 : Vec F S1x512 .f32
  x6 : Vec F S4x128x128 .bf16
  x7 : Vec F S1x512 .f32
  x8 : Vec F S1x512 .f32
  x9 : Vec F S512x64 .bf16

section Stages
variable {F : FTy → Type} [FloatOps F] (b : Blk F) (p : Vec F S8x512 .f32) (h0 : Vec F S1x512 .f32)

/-- 512 rows, from row `off` on, of the eight rows `p` followed by the 512 rows `u`. -/
def shiftRows (off : ℕ) (hoff : off ≤ 8) (p : Vec F S8x512 .f32) (u : Vec F S512x512 .f32) : Vec F S512x512 .f32 := fun j =>
  if h : off + (j 0).val < 8 then p (ix2 (⟨off + (j 0).val, h⟩ : Fin 8) (⟨(j 1).val, (j 1).isLt⟩ : Fin 512))
  else u (ix2 (⟨off + (j 0).val - 8, by have h : (j 0).val < 512 := (j 0).isLt; omega⟩ : Fin 512) (⟨(j 1).val, (j 1).isLt⟩ : Fin 512))

/-- The first eight rows of the 520-row buffer. -/
def firstRows (x : Vec F S520x512 .f32) : Vec F S8x512 .f32 := fun i =>
  x (ix2 (⟨(i 0).val, by have h : (i 0).val < 8 := (i 0).isLt; omega⟩ : Fin 520) (⟨(i 1).val, (i 1).isLt⟩ : Fin 512))

theorem inbh (h : Fin 4) : ∀ a : Fin 3, (![h.val, 0, 0] : Fin 3 → ℕ) a + S1x128x128.size a ≤ S4x128x128.size a := by
  intro a; have := h.isLt; match a with
  | ⟨0, _⟩ => show h.val + 1 ≤ 4; omega
  | ⟨1, _⟩ => show 0 + 128 ≤ 128; omega
  | ⟨2, _⟩ => show 0 + 128 ≤ 128; omega

/-- One head's gate weights. -/
def head (w : Vec F S4x128x128 .bf16) (h : Fin 4) : Vec F S1x128x128 .bf16 := View.ld w (Rect.unit ![h.val, 0, 0] S1x128x128.size (inbh h))

/-- The convolution's rows. -/
def conv : FVec F S512x512 .f32 :=
  k0_pay7 b.x0 b.x2 b.x3 (shiftRows 5 (by omega) p (k0_pay6 b.x0)) (shiftRows 6 (by omega) p (k0_pay6 b.x0)) (shiftRows 7 (by omega) p (k0_pay6 b.x0))

def conv0 : FVec F S512x128 .f32 :=
  k0_pay9 b.x0 b.x2 b.x3 (shiftRows 5 (by omega) p (k0_pay6 b.x0)) (shiftRows 6 (by omega) p (k0_pay6 b.x0)) (shiftRows 7 (by omega) p (k0_pay6 b.x0))

/-- The decays. -/
def decays : FVec F S512x512 .f32 :=
  k0_pay22 (k0_pay11 (conv0 b p) (head b.x4 0)) (k0_pay14 (conv b p) (head b.x4 1)) (k0_pay17 (conv b p) (head b.x4 2)) (k0_pay20 (conv b p) (head b.x4 3)) b.x5 b.x8

/-- The inputs of the recurrence. -/
def inputs : FVec F S512x512 .f32 :=
  k0_pay23 (conv b p) (k0_pay11 (conv0 b p) (head b.x4 0)) (k0_pay12 (conv0 b p) (head b.x6 0)) (k0_pay14 (conv b p) (head b.x4 1)) (k0_pay15 (conv b p) (head b.x6 1))
    (k0_pay17 (conv b p) (head b.x4 2)) (k0_pay18 (conv b p) (head b.x6 2)) (k0_pay19 (conv b p)) (k0_pay20 (conv b p) (head b.x4 3)) (head b.x6 3) b.x5 b.x7 b.x8

/-- The gains and the decays inside groups of eight rows. -/
def gains : FVec F S512x512 .f32 := k0_pay33 (decays b p) (inputs b p) k0_pay24 k0_pay25 k0_pay26
def scanned : FVec F S512x512 .f32 := k0_pay34 (decays b p) k0_pay24 k0_pay25 k0_pay26

/-- The last row of each group of eight rows, 128 columns. -/
def lastRows (w : Vec F S1x512x128 .f32) : Vec F S1x64x128 .f32 := fun j =>
  w (ix3 (0 : Fin 1) (⟨8 * (j 1).val + 7, by have h : (j 1).val < 64 := (j 1).isLt; omega⟩ : Fin 512) (⟨(j 2).val, (j 2).isLt⟩ : Fin 128))

def groupDecays : FVec F S64x512 .f32 :=
  k0_pay40 (lastRows (k0_pay35 (decays b p) k0_pay24 k0_pay25 k0_pay26)) (lastRows (k0_pay37 (k0_pay36 (decays b p) k0_pay24 k0_pay25 k0_pay26)))
    (lastRows (k0_pay38 (scanned b p))) (lastRows (k0_pay39 (scanned b p)))

def groupGains : FVec F S64x512 .f32 :=
  k0_pay46 (lastRows (k0_pay41 (gains b p))) (lastRows (k0_pay42 (gains b p))) (lastRows (k0_pay44 (k0_pay43 (gains b p)))) (lastRows (k0_pay45 (gains b p)))

/-- The output block. -/
def out : FVec F S1x512x512 .bf16 :=
  k0_pay1 (gains b p) (scanned b p) b.x9
    (k0_pay61 k0_pay47 (k0_pay54 (groupDecays b p) (groupGains b p) k0_pay47 k0_pay48) (k0_pay55 (groupDecays b p) k0_pay47 k0_pay48) (k0_pay57 (groupDecays b p) k0_pay47 k0_pay48) (k0_pay58 (groupDecays b p) (groupGains b p) k0_pay47 k0_pay48) h0)
    (k0_pay63 k0_pay47 (k0_pay54 (groupDecays b p) (groupGains b p) k0_pay47 k0_pay48) (k0_pay55 (groupDecays b p) k0_pay47 k0_pay48) (k0_pay57 (groupDecays b p) k0_pay47 k0_pay48) (k0_pay58 (groupDecays b p) (groupGains b p) k0_pay47 k0_pay48) h0)
    (k0_pay64 k0_pay47 (k0_pay54 (groupDecays b p) (groupGains b p) k0_pay47 k0_pay48) (k0_pay55 (groupDecays b p) k0_pay47 k0_pay48) (k0_pay57 (groupDecays b p) k0_pay47 k0_pay48) (k0_pay58 (groupDecays b p) (groupGains b p) k0_pay47 k0_pay48) h0)
    (constant S512x512 .f32 0x00000000#32) b.x1

/-- The state after the tile. -/
def next : FVec F S1x512 .f32 :=
  k0_pay2 (k0_pay59 k0_pay47 (k0_pay54 (groupDecays b p) (groupGains b p) k0_pay47 k0_pay48) (k0_pay55 (groupDecays b p) k0_pay47 k0_pay48) (k0_pay57 (groupDecays b p) k0_pay47 k0_pay48) (k0_pay58 (groupDecays b p) (groupGains b p) k0_pay47 k0_pay48) h0)

end Stages

section Reads
variable {sig : RefSig} {κ : Kind} {sp : Space} {F : FTy → Type} [FloatOps F]

/-- The 520-row buffer holds the eight carried rows and then the tile's rows; a load of 512 rows from row `off` on reads
    the carried rows first. -/
theorem readCov_up (v : View sig κ sp S520x512 .f32) (q : Vec F S8x512 .f32) (u : Vec F S512x512 .f32) (off : ℕ) (hoff : off ≤ 8) (h8 h0 hb) :
    v.readCov [(⟨Rect.unit ![8, 0] S512x512.size h8, u⟩ : View.Piece (Elt F) S520x512 .f32), ⟨Rect.unit ![0, 0] S8x512.size h0, q⟩]
      (Rect.unit (s := S520x512) ![off, 0] S512x512.size hb).toLoadRect = shiftRows off hoff q u := by
  funext j
  have hj0 : (j 0).val < 512 := (j 0).isLt
  unfold shiftRows
  split_ifs with h
  · refine (View.read_writes_cons_rows_of_not_mem (o := 8) (W := 512) v _ h8 u _ _ rfl rfl (Or.inl ?_)).trans ?_
    · show off + 1 * (j 0).val < 8; omega
    · refine View.read_writes_cons_rows_of_mem (o := 0) v _ h0 q _ _ (ix2 (⟨off + (j 0).val, h⟩ : Fin 8) (⟨(j 1).val, (j 1).isLt⟩ : Fin 512)) rfl ?_ ?_
      · show off + 1 * (j 0).val = 0 + (off + (j 0).val); omega
      · show 0 + 1 * (j 1).val = (j 1).val; omega
  · refine View.read_writes_cons_rows_of_mem (o := 8) v _ h8 u _ _ (ix2 (⟨off + (j 0).val - 8, by omega⟩ : Fin 512) (⟨(j 1).val, (j 1).isLt⟩ : Fin 512)) rfl ?_ ?_
    · show off + 1 * (j 0).val = 8 + (off + (j 0).val - 8); omega
    · show 0 + 1 * (j 1).val = (j 1).val; omega

/-- The same load where the carried rows are what the buffer held before the tile's rows were stored. -/
theorem readAt_up (v : View sig κ sp S520x512 .f32) (f : v.ty.Contents (Elt F)) (x : Vec F S520x512 .f32) (hx : v.read (Elt F) f = x) (u : Vec F S512x512 .f32)
    (off : ℕ) (hoff : off ≤ 8) (h8 hb) :
    v.readAt (Elt F) (Rect.unit (s := S520x512) ![off, 0] S512x512.size hb).toLoadRect (v.writes (Elt F) f [(⟨Rect.unit ![8, 0] S512x512.size h8, u⟩ : View.Piece (Elt F) S520x512 .f32)])
      = shiftRows off hoff (firstRows x) u := by
  funext j
  have hj0 : (j 0).val < 512 := (j 0).isLt
  unfold shiftRows
  split_ifs with h
  · refine (View.read_writes_cons_rows_of_not_mem (o := 8) (W := 512) v f h8 u _ _ rfl rfl (Or.inl ?_)).trans ?_
    · show off + 1 * (j 0).val < 8; omega
    · refine (congrFun hx _).trans ?_
      unfold firstRows
      refine congrArg x ?_
      funext a; apply Fin.ext
      match a with
      | ⟨0, _⟩ => show off + 1 * (j 0).val = off + (j 0).val; omega
      | ⟨1, _⟩ => show 0 + 1 * (j 1).val = (j 1).val; omega
  · refine View.read_writes_cons_rows_of_mem (o := 8) v f h8 u _ _ (ix2 (⟨off + (j 0).val - 8, by omega⟩ : Fin 512) (⟨(j 1).val, (j 1).isLt⟩ : Fin 512)) rfl ?_ ?_
    · show off + 1 * (j 0).val = 8 + (off + (j 0).val - 8); omega
    · show 0 + 1 * (j 1).val = (j 1).val; omega

theorem firstRows_canon (w : Vec F S8x512 .f32) (L : List (View.Piece (Elt F) S520x512 .f32)) (h) :
    firstRows (View.canon ((⟨Rect.unit ![0, 0] S8x512.size h, w⟩ : View.Piece (Elt F) S520x512 .f32) :: L)) = w := by
  funext j
  refine Eq.trans ?_ (View.canon_cons_emb (Val := Elt F) (Rect.unit (s := S520x512) ![0, 0] S8x512.size h) w L j)
  unfold firstRows
  refine congrArg _ ?_
  funext a; apply Fin.ext
  match a with
  | ⟨0, _⟩ => show (j 0).val = 0 + 1 * (j 0).val; omega
  | ⟨1, _⟩ => show (j 1).val = 0 + 1 * (j 1).val; omega

variable (v : View sig κ sp S4x512x128 .f32) (w3 w2 w1 w0 : Vec F S1x512x128 .f32)

theorem readCov_last0 (h3 h2 h1 h0 hb) :
    v.readCov [(⟨Rect.unit ![3, 0, 0] S1x512x128.size h3, w3⟩ : View.Piece (Elt F) S4x512x128 .f32), ⟨Rect.unit ![2, 0, 0] S1x512x128.size h2, w2⟩, ⟨Rect.unit ![1, 0, 0] S1x512x128.size h1, w1⟩, ⟨Rect.unit ![0, 0, 0] S1x512x128.size h0, w0⟩]
      ⟨![0, 7, 0], S1x64x128.size, ![1, 8, 1], hb⟩ = lastRows w0 := by
  funext j
  have hj0 : (j 0).val < 1 := (j 0).isLt
  have hj1 : (j 1).val < 64 := (j 1).isLt
  unfold lastRows
  refine (View.read_writes_cons_unit_of_not_mem v _ h3 w3 _ _ rfl (0 : Fin 3) (Or.inl (by show 0 + 1 * (j 0).val < 3; omega))).trans ?_
  refine (View.read_writes_cons_unit_of_not_mem v _ h2 w2 _ _ rfl (0 : Fin 3) (Or.inl (by show 0 + 1 * (j 0).val < 2; omega))).trans ?_
  refine (View.read_writes_cons_unit_of_not_mem v _ h1 w1 _ _ rfl (0 : Fin 3) (Or.inl (by show 0 + 1 * (j 0).val < 1; omega))).trans ?_
  refine View.read_writes_cons_unit_of_mem v _ h0 w0 _ _ (ix3 (0 : Fin 1) (⟨8 * (j 1).val + 7, by omega⟩ : Fin 512) (⟨(j 2).val, (j 2).isLt⟩ : Fin 128)) rfl ?_
  intro a
  match a with
  | ⟨0, _⟩ => show 0 + 1 * (j 0).val = 0 + 0; omega
  | ⟨1, _⟩ => show 7 + 8 * (j 1).val = 0 + (8 * (j 1).val + 7); omega
  | ⟨2, _⟩ => show 0 + 1 * (j 2).val = 0 + (j 2).val; omega

theorem readCov_last1 (h3 h2 h1 h0 hb) :
    v.readCov [(⟨Rect.unit ![3, 0, 0] S1x512x128.size h3, w3⟩ : View.Piece (Elt F) S4x512x128 .f32), ⟨Rect.unit ![2, 0, 0] S1x512x128.size h2, w2⟩, ⟨Rect.unit ![1, 0, 0] S1x512x128.size h1, w1⟩, ⟨Rect.unit ![0, 0, 0] S1x512x128.size h0, w0⟩]
      ⟨![1, 7, 0], S1x64x128.size, ![1, 8, 1], hb⟩ = lastRows w1 := by
  funext j
  have hj0 : (j 0).val < 1 := (j 0).isLt
  have hj1 : (j 1).val < 64 := (j 1).isLt
  unfold lastRows
  refine (View.read_writes_cons_unit_of_not_mem v _ h3 w3 _ _ rfl (0 : Fin 3) (Or.inl (by show 1 + 1 * (j 0).val < 3; omega))).trans ?_
  refine (View.read_writes_cons_unit_of_not_mem v _ h2 w2 _ _ rfl (0 : Fin 3) (Or.inl (by show 1 + 1 * (j 0).val < 2; omega))).trans ?_
  refine View.read_writes_cons_unit_of_mem v _ h1 w1 _ _ (ix3 (0 : Fin 1) (⟨8 * (j 1).val + 7, by omega⟩ : Fin 512) (⟨(j 2).val, (j 2).isLt⟩ : Fin 128)) rfl ?_
  intro a
  match a with
  | ⟨0, _⟩ => show 1 + 1 * (j 0).val = 1 + 0; omega
  | ⟨1, _⟩ => show 7 + 8 * (j 1).val = 0 + (8 * (j 1).val + 7); omega
  | ⟨2, _⟩ => show 0 + 1 * (j 2).val = 0 + (j 2).val; omega

theorem readCov_last2 (h3 h2 h1 h0 hb) :
    v.readCov [(⟨Rect.unit ![3, 0, 0] S1x512x128.size h3, w3⟩ : View.Piece (Elt F) S4x512x128 .f32), ⟨Rect.unit ![2, 0, 0] S1x512x128.size h2, w2⟩, ⟨Rect.unit ![1, 0, 0] S1x512x128.size h1, w1⟩, ⟨Rect.unit ![0, 0, 0] S1x512x128.size h0, w0⟩]
      ⟨![2, 7, 0], S1x64x128.size, ![1, 8, 1], hb⟩ = lastRows w2 := by
  funext j
  have hj0 : (j 0).val < 1 := (j 0).isLt
  have hj1 : (j 1).val < 64 := (j 1).isLt
  unfold lastRows
  refine (View.read_writes_cons_unit_of_not_mem v _ h3 w3 _ _ rfl (0 : Fin 3) (Or.inl (by show 2 + 1 * (j 0).val < 3; omega))).trans ?_
  refine View.read_writes_cons_unit_of_mem v _ h2 w2 _ _ (ix3 (0 : Fin 1) (⟨8 * (j 1).val + 7, by omega⟩ : Fin 512) (⟨(j 2).val, (j 2).isLt⟩ : Fin 128)) rfl ?_
  intro a
  match a with
  | ⟨0, _⟩ => show 2 + 1 * (j 0).val = 2 + 0; omega
  | ⟨1, _⟩ => show 7 + 8 * (j 1).val = 0 + (8 * (j 1).val + 7); omega
  | ⟨2, _⟩ => show 0 + 1 * (j 2).val = 0 + (j 2).val; omega

theorem readCov_last3 (h3 h2 h1 h0 hb) :
    v.readCov [(⟨Rect.unit ![3, 0, 0] S1x512x128.size h3, w3⟩ : View.Piece (Elt F) S4x512x128 .f32), ⟨Rect.unit ![2, 0, 0] S1x512x128.size h2, w2⟩, ⟨Rect.unit ![1, 0, 0] S1x512x128.size h1, w1⟩, ⟨Rect.unit ![0, 0, 0] S1x512x128.size h0, w0⟩]
      ⟨![3, 7, 0], S1x64x128.size, ![1, 8, 1], hb⟩ = lastRows w3 := by
  funext j
  have hj0 : (j 0).val < 1 := (j 0).isLt
  have hj1 : (j 1).val < 64 := (j 1).isLt
  unfold lastRows
  refine View.read_writes_cons_unit_of_mem v _ h3 w3 _ _ (ix3 (0 : Fin 1) (⟨8 * (j 1).val + 7, by omega⟩ : Fin 512) (⟨(j 2).val, (j 2).isLt⟩ : Fin 128)) rfl ?_
  intro a
  match a with
  | ⟨0, _⟩ => show 3 + 1 * (j 0).val = 3 + 0; omega
  | ⟨1, _⟩ => show 7 + 8 * (j 1).val = 0 + (8 * (j 1).val + 7); omega
  | ⟨2, _⟩ => show 0 + 1 * (j 2).val = 0 + (j 2).val; omega

end Reads

end Cert.KernelIdeal.Lru

end
-- ==== Proof.LruTileValue.lean ====
/- The recurrence kernel's tile, entry by entry: with the blocks of tile `k` of sequence `s`, the last eight rows before
   the tile and the state at its start, the tile's output rows are the layer's, and the state left is the layer's. -/
module

public import proofs.«01_k».proof.Proof.LruTile
public import proofs.«01_k».proof.Proof.LruGates

@[expose] public section

set_option maxRecDepth 16384

noncomputable section

namespace Cert.KernelIdeal.Lru

open Cert.KernelIdeal Cert.KernelIdeal.Gen Cert.LruSpec Idealize.ShloMosaic Idealize.ShloMosaic.TcCoe Idealize.SL.Sem

/-- Row `r` of tile `k` is position `512 * k + r`. -/
def rowAt (k : Fin 16) (r : Fin 512) : Fin 8192 := ⟨512 * k.val + r.val, by omega⟩

/-- The blocks and the carried values of tile `k` of sequence `s`. -/
structure TileOf (G : Args) (s : Fin 4) (k : Fin 16) (b : Blk Ideal) (p : Vec Ideal S8x512 .f32) (h0 : Vec Ideal S1x512 .f32) : Prop where
  x0 : ∀ r n, b.x0 (ix3 0 r n) = G.x s (rowAt k r) n
  x1 : ∀ r n, b.x1 (ix3 0 r n) = G.y s (rowAt k r) n
  x2 : ∀ j n, b.x2 (ix2 j n) = G.cw j n
  x3 : ∀ n, b.x3 (ix2 0 n) = G.cb n
  x4 : ∀ h i j, b.x4 (ix3 h i j) = G.wa h i j
  x5 : ∀ n, b.x5 (ix2 0 n) = G.ba n
  x6 : ∀ h i j, b.x6 (ix3 h i j) = G.wx h i j
  x7 : ∀ n, b.x7 (ix2 0 n) = G.bx n
  x8 : ∀ n, b.x8 (ix2 0 n) = Ideal.ofBits .f32 0xC1000000#32 * softplus (-G.lam n)
  x9 : ∀ i g, b.x9 (ix2 i g) = if i.val / 8 = g.val then 1 else 0
  before : ∀ r n, p (ix2 r n) = if h : 8 ≤ 512 * k.val + r.val then G.x s ⟨512 * k.val + r.val - 8, by omega⟩ n else 0
  start : ∀ n, h0 (ix2 0 n) = (H G s n (512 * k.val) : ℝ)

variable {G : Args} {s : Fin 4} {k : Fin 16} {b : Blk Ideal} {p : Vec Ideal S8x512 .f32} {h0 : Vec Ideal S1x512 .f32}

section
variable (hT : TileOf G s k b p h0)
include hT

theorem shift_apply (d : ℕ) (hd : d ≤ 8) (r n : Fin 512) : shiftRows (8 - d) (by omega) p (k0_pay6 b.x0) (ix2 r n) = back G s (rowAt k r) d n := by
  have e : ∀ r n : Fin 512, k0_pay6 b.x0 (ix2 r n) = b.x0 (ix3 0 r n) := by
    intro r n
    pointwise [k0_pay6, k0_pay5]
  unfold shiftRows back rowAt
  have h0' : ((ix2 r n : S512x512.Idx) 0).val = r.val := rfl
  have h1' : ((ix2 r n : S512x512.Idx) 1).val = n.val := rfl
  simp only [h0', h1']
  split_ifs with h1 h2 h2
  · rw [hT.before]
    rw [dif_pos (by show 8 ≤ 512 * k.val + (8 - d + r.val); omega)]
    exact congrArg (fun q => G.x s q n) (Fin.ext (by show 512 * k.val + (8 - d + r.val) - 8 = 512 * k.val + r.val - d; omega))
  · rw [hT.before]
    rw [dif_neg (by show ¬ 8 ≤ 512 * k.val + (8 - d + r.val); omega)]
  · rw [e, hT.x0]
    exact congrArg (fun q => G.x s q n) (Fin.ext (by show 512 * k.val + (8 - d + r.val - 8) = 512 * k.val + r.val - d; omega))
  · omega

theorem conv_apply (r n : Fin 512) : conv b p (ix2 r n) = LruSpec.conv G s (rowAt k r) n := by
  have e3 := shift_apply hT 3 (by omega) r n
  have e2 := shift_apply hT 2 (by omega) r n
  have e1 := shift_apply hT 1 (by omega) r n
  unfold conv LruSpec.conv
  rw [← e3, ← e2, ← e1, ← hT.x0, ← hT.x3, ← hT.x2, ← hT.x2, ← hT.x2, ← hT.x2]
  generalize shiftRows (8 - 3) _ p (k0_pay6 b.x0) = v3
  generalize shiftRows (8 - 2) _ p (k0_pay6 b.x0) = v2
  generalize shiftRows (8 - 1) _ p (k0_pay6 b.x0) = v1
  pointwise [k0_pay7, k0_pay5]
end

/-- A head's product with its gate weights. -/
def mat (G : Args) (s : Fin 4) (p : Fin 8192) (W : Fin 4 → Fin 128 → Fin 128 → EReal) (h : Fin 4) (n : Fin 128) : EReal :=
  ∑ x : Fin 128, LruSpec.conv G s p ⟨h.val * 128 + x.val, by omega⟩ * W h x n

theorem slice_dot {W : Fin 4 → Fin 128 → Fin 128 → EReal} {w : Vec Ideal S4x128x128 .bf16} (r : Fin 512) (n : Fin 128) (h : Fin 4) (C : FVec Ideal S512x512 .f32) (hC : ∀ n, C (ix2 r n) = LruSpec.conv G s (rowAt k r) n) (hw : ∀ h i j, w (ix3 h i j) = W h i j) :
    (∑ x : Fin 128, C (ix2 r ⟨h.val * 128 + x.val, by omega⟩) * w (ix3 h x n)) = mat G s (rowAt k r) W h n := by
  unfold mat
  exact Finset.sum_congr rfl fun x _ => by rw [hC, hw]

/-- Four heads side by side. -/
theorem heads_apply (M : Fin 4 → Fin 128 → EReal) (n : Fin 512) (m0 m1 m2 m3 : Fin 128 → EReal) (h0 : ∀ n, m0 n = M 0 n) (h1 : ∀ n, m1 n = M 1 n) (h2 : ∀ n, m2 n = M 2 n) (h3 : ∀ n, m3 n = M 3 n) :
    (if h : n.val < 128 then m0 ⟨n.val, h⟩ else if h : n.val - 128 < 128 then m1 ⟨n.val - 128, h⟩ else if h : n.val - 128 - 128 < 128 then m2 ⟨n.val - 128 - 128, h⟩
      else m3 ⟨n.val - 128 - 128 - 128, by omega⟩) = M ⟨n.val / 128, by omega⟩ ⟨n.val % 128, by omega⟩ := by
  split_ifs with c0 c1 c2
  · rw [h0]; exact congrArg₂ M (Fin.ext (by show 0 = n.val / 128; omega)) (Fin.ext (by show n.val = n.val % 128; omega))
  · rw [h1]; exact congrArg₂ M (Fin.ext (by show 1 = n.val / 128; omega)) (Fin.ext (by show n.val - 128 = n.val % 128; omega))
  · rw [h2]; exact congrArg₂ M (Fin.ext (by show 2 = n.val / 128; omega)) (Fin.ext (by show n.val - 128 - 128 = n.val % 128; omega))
  · rw [h3]; exact congrArg₂ M (Fin.ext (by show 3 = n.val / 128; omega)) (Fin.ext (by show n.val - 128 - 128 - 128 = n.val % 128; omega))

/-- The four column blocks of a row put back together. -/
theorem columns (f : Fin 512 → EReal) (n : Fin 512) :
    (if _h : n.val < 128 then f n else if h : n.val - 128 < 128 then f ⟨128 + (n.val - 128), by omega⟩ else if h : n.val - 128 - 128 < 128 then f ⟨256 + (n.val - 128 - 128), by omega⟩
      else f ⟨384 + (n.val - 128 - 128 - 128), by omega⟩) = f n := by
  split_ifs with c0 c1 c2
  · rfl
  · exact congrArg f (Fin.ext (by show 128 + (n.val - 128) = n.val; omega))
  · exact congrArg f (Fin.ext (by show 256 + (n.val - 128 - 128) = n.val; omega))
  · exact congrArg f (Fin.ext (by show 384 + (n.val - 128 - 128 - 128) = n.val; omega))

section
variable {W : Fin 4 → Fin 128 → Fin 128 → EReal} {w : Vec Ideal S4x128x128 .bf16} (hw : ∀ h i j, w (ix3 h i j) = W h i j) (r : Fin 512) (n : Fin 128)

variable (hT : TileOf G s k b p h0)
include hT hw

theorem mat0 : k0_pay11 (conv0 b p) (head w 0) (ix2 r n) = mat G s (rowAt k r) W 0 n := by
  rw [← slice_dot r n 0 (conv b p) (conv_apply hT r) hw]
  have e : conv0 b p = extractStridedSlice S512x128 ![0, 0] (conv b p) slices_S512x512_o0_0_S512x128 := rfl
  rw [e]
  generalize conv b p = C
  pointwise [k0_pay11, k0_pay10, head]

theorem mat0' : k0_pay12 (conv0 b p) (head w 0) (ix2 r n) = mat G s (rowAt k r) W 0 n := by
  rw [← slice_dot r n 0 (conv b p) (conv_apply hT r) hw]
  have e : conv0 b p = extractStridedSlice S512x128 ![0, 0] (conv b p) slices_S512x512_o0_0_S512x128 := rfl
  rw [e]
  generalize conv b p = C
  pointwise [k0_pay12, k0_pay10, head]

theorem mat1 : k0_pay14 (conv b p) (head w 1) (ix2 r n) = mat G s (rowAt k r) W 1 n := by
  rw [← slice_dot r n 1 (conv b p) (conv_apply hT r) hw]
  generalize conv b p = C
  pointwise [k0_pay14, k0_pay13, head]

theorem mat1' : k0_pay15 (conv b p) (head w 1) (ix2 r n) = mat G s (rowAt k r) W 1 n := by
  rw [← slice_dot r n 1 (conv b p) (conv_apply hT r) hw]
  generalize conv b p = C
  pointwise [k0_pay15, k0_pay13, head]

theorem mat2 : k0_pay17 (conv b p) (head w 2) (ix2 r n) = mat G s (rowAt k r) W 2 n := by
  rw [← slice_dot r n 2 (conv b p) (conv_apply hT r) hw]
  generalize conv b p = C
  pointwise [k0_pay17, k0_pay16, head]

theorem mat2' : k0_pay18 (conv b p) (head w 2) (ix2 r n) = mat G s (rowAt k r) W 2 n := by
  rw [← slice_dot r n 2 (conv b p) (conv_apply hT r) hw]
  generalize conv b p = C
  pointwise [k0_pay18, k0_pay16, head]

theorem mat3 : k0_pay20 (conv b p) (head w 3) (ix2 r n) = mat G s (rowAt k r) W 3 n := by
  rw [← slice_dot r n 3 (conv b p) (conv_apply hT r) hw]
  generalize conv b p = C
  pointwise [k0_pay20, k0_pay19, head]

theorem mat3' : matmul dot_S512x128_S128x128_S512x128_1_0_0_1_n_n none (k0_pay19 (conv b p)) (shapeCast (α := Ideal .bf16) S128x128 (head w 3) shapeCasts_S1x128x128_S128x128) (constant S512x128 .f32 0x00000000#32) (ix2 r n)
    = mat G s (rowAt k r) W 3 n := by
  rw [← slice_dot r n 3 (conv b p) (conv_apply hT r) hw]
  generalize conv b p = C
  pointwise [k0_pay19, head]
end

variable (hT : TileOf G s k b p h0)

include hT in
theorem log_apply (r n : Fin 512) :
    k0_pay21 (k0_pay11 (conv0 b p) (head b.x4 0)) (k0_pay14 (conv b p) (head b.x4 1)) (k0_pay17 (conv b p) (head b.x4 2)) (k0_pay20 (conv b p) (head b.x4 3)) b.x5 b.x8 (ix2 r n)
      = logA G s (rowAt k r) n := by
  have h := heads_apply (mat G s (rowAt k r) G.wa) n _ _ _ _ (fun n => mat0 hT.x4 r n hT) (fun n => mat1 hT.x4 r n hT) (fun n => mat2 hT.x4 r n hT) (fun n => mat3 hT.x4 r n hT)
  revert h
  generalize (k0_pay11 (conv0 b p) (head b.x4 0)) = m0
  generalize (k0_pay14 (conv b p) (head b.x4 1)) = m1
  generalize (k0_pay17 (conv b p) (head b.x4 2)) = m2
  generalize (k0_pay20 (conv b p) (head b.x4 3)) = m3
  intro h
  refine Eq.trans (b := b.x8 (ix2 0 n) * Ideal.logistic (_ + b.x5 (ix2 0 n))) (by pointwise [k0_pay21]; rfl) ?_
  rw [h, hT.x8, hT.x5]
  rfl

include hT in
theorem decays_apply (r n : Fin 512) : decays b p (ix2 r n) = decayAt G s (rowAt k r) n :=
  congrArg Ideal.exp (log_apply hT r n)

include hT in
theorem inputs_apply (r n : Fin 512) : inputs b p (ix2 r n) = inputAt G s (rowAt k r) n := by
  have hl := log_apply hT r n
  have hc := conv_apply hT r n
  have h := heads_apply (mat G s (rowAt k r) G.wx) n _ _ _ _ (fun n => mat0' hT.x6 r n hT) (fun n => mat1' hT.x6 r n hT) (fun n => mat2' hT.x6 r n hT) (fun n => mat3' hT.x6 r n hT)
  unfold inputs k0_pay23 k0_pay22
  revert h hl
  generalize matmul dot_S512x128_S128x128_S512x128_1_0_0_1_n_n none (k0_pay19 (conv b p)) (shapeCast (α := Ideal .bf16) S128x128 (head b.x6 3) shapeCasts_S1x128x128_S128x128) (constant S512x128 .f32 0x00000000#32) = m3
  generalize (k0_pay12 (conv0 b p) (head b.x6 0)) = m0
  generalize (k0_pay15 (conv b p) (head b.x6 1)) = m1
  generalize (k0_pay18 (conv b p) (head b.x6 2)) = m2
  generalize k0_pay21 (k0_pay11 (conv0 b p) (head b.x4 0)) (k0_pay14 (conv b p) (head b.x4 1)) (k0_pay17 (conv b p) (head b.x4 2)) (k0_pay20 (conv b p) (head b.x4 3)) b.x5 b.x8 = L
  intro hl h
  refine Eq.trans (b := Ideal.sqrt ((0 - Ideal.tanh (L (ix2 r n))) * (Ideal.exp (L (ix2 r n)) * Ideal.exp (L (ix2 r n)) + 1)) * (Ideal.logistic (_ + b.x7 (ix2 0 n)) * conv b p (ix2 r n))) (by pointwise []; rfl) ?_
  rw [h, hl, hc, hT.x7]
  rfl

/-- The tile's decays and inputs as sequences. -/
def aTile (G : Args) (s : Fin 4) (k : Fin 16) (n : Fin 512) (r : ℕ) : ℝ := aReal G s n (512 * k.val + r)
def uTile (G : Args) (s : Fin 4) (k : Fin 16) (n : Fin 512) (r : ℕ) : ℝ := uReal G s n (512 * k.val + r)

section
variable (hG : Finite G)

include hT in
theorem scanned_apply (r n : Fin 512) : scanned b p (ix2 r n) = (decay (aTile G s k n) r.val (r.val % 8 + 1) : ℝ) :=
  decays_8 (fun r n => (decays_apply hT r n).trans (decayAt_real G s _ n)) r n

include hT hG in
theorem gains_apply (r n : Fin 512) : gains b p (ix2 r n) = (gain (aTile G s k n) (uTile G s k n) r.val (r.val % 8 + 1) : ℝ) :=
  gains_8 (fun r n => (decays_apply hT r n).trans (decayAt_real G s _ n)) (fun r n => (inputs_apply hT r n).trans (inputAt_real hG s _ n)) r n

include hT in
theorem groupDecays_apply (g : Fin 64) (n : Fin 512) : groupDecays b p (ix2 g n) = (decay (aTile G s k n) (8 * g.val + 7) 8 : ℝ) := by
  have e : groupDecays b p (ix2 g n) = scanned b p (ix2 ⟨8 * g.val + 7, by omega⟩ n) := by
    unfold groupDecays
    have h35 : k0_pay35 (decays b p) k0_pay24 k0_pay25 k0_pay26 = shapeCast S1x512x128 (extractStridedSlice S512x128 ![0, 0] (scanned b p) slices_S512x512_o0_0_S512x128) shapeCasts_S512x128_S1x512x128 := rfl
    have h36 : k0_pay36 (decays b p) k0_pay24 k0_pay25 k0_pay26 = extractStridedSlice S512x128 ![0, 128] (scanned b p) slices_S512x512_o0_128_S512x128 := rfl
    rw [h35, h36]
    generalize scanned b p = S
    pointwise [k0_pay40, k0_pay37, k0_pay38, k0_pay39, lastRows]
    exact columns (fun n => S (ix2 ⟨8 * g.val + 7, by omega⟩ n)) n
  rw [e, scanned_apply hT]
  rw [show (8 * g.val + 7) % 8 + 1 = 8 by omega]

include hT hG in
theorem groupGains_apply (g : Fin 64) (n : Fin 512) : groupGains b p (ix2 g n) = (gain (aTile G s k n) (uTile G s k n) (8 * g.val + 7) 8 : ℝ) := by
  have e : groupGains b p (ix2 g n) = gains b p (ix2 ⟨8 * g.val + 7, by omega⟩ n) := by
    unfold groupGains
    generalize gains b p = S
    pointwise [k0_pay46, k0_pay41, k0_pay42, k0_pay43, k0_pay44, k0_pay45, lastRows]
    exact columns (fun n => S (ix2 ⟨8 * g.val + 7, by omega⟩ n)) n
  rw [e, gains_apply hT hG]
  rw [show (8 * g.val + 7) % 8 + 1 = 8 by omega]

/-- The state after `r` rows of the tile. -/
theorem tile_state (G : Args) (s : Fin 4) (k : Fin 16) (n : Fin 512) (r : ℕ) :
    state (aTile G s k n) (uTile G s k n) (H G s n (512 * k.val)) r = H G s n (512 * k.val + r) :=
  state_shift _ _ 0 (512 * k.val) r

include hT hG in
theorem starts_tile (g : Fin 64) (n : Fin 512) : starts (groupDecays b p) (groupGains b p) h0 (ix2 g n) = (H G s n (512 * k.val + 8 * g.val) : ℝ) := by
  rw [starts_apply (a := fun n g => decay (aTile G s k n) (8 * g + 7) 8) (u := fun n g => gain (aTile G s k n) (uTile G s k n) (8 * g + 7) 8) (groupDecays_apply hT) (groupGains_apply hT hG) hT.start g n, state_groups, tile_state]

include hT hG in
theorem next_apply (n : Fin 512) : next b p h0 (ix2 0 n) = (H G s n (512 * k.val + 512) : ℝ) := by
  have e : next b p h0 = k0_pay2 (ends (groupDecays b p) (groupGains b p) h0) := rfl
  have h := ends_apply (a := fun n g => decay (aTile G s k n) (8 * g + 7) 8) (u := fun n g => gain (aTile G s k n) (uTile G s k n) (8 * g + 7) 8) (groupDecays_apply hT) (groupGains_apply hT hG) hT.start (63 : Fin 64) n
  rw [state_groups, tile_state] at h
  rw [e]
  refine Eq.trans ?_ h
  generalize ends (groupDecays b p) (groupGains b p) h0 = E
  pointwise [k0_pay2]

/-- The three bf16 parts of the groups' starts: the first is the start and the others are zero. -/
def part1 (S : FVec Ideal S64x512 .f32) : FVec Ideal S64x512 .bf16 := truncf .bf16 S bitsLt_bf16_f32
def part2 (S : FVec Ideal S64x512 .f32) : FVec Ideal S64x512 .bf16 := truncf .bf16 (subf S (extf .f32 (part1 S) bitsLt_bf16_f32)) bitsLt_bf16_f32
def part3 (S : FVec Ideal S64x512 .f32) : FVec Ideal S64x512 .bf16 :=
  truncf .bf16 (subf (subf S (extf .f32 (part1 S) bitsLt_bf16_f32)) (extf .f32 (part2 S) bitsLt_bf16_f32)) bitsLt_bf16_f32

theorem part2_apply (S : FVec Ideal S64x512 .f32) {g : Fin 64} {n : Fin 512} {x : ℝ} (h : S (ix2 g n) = x) : part2 S (ix2 g n) = 0 := by
  have e : part2 S (ix2 g n) = S (ix2 g n) - S (ix2 g n) := rfl
  rw [e, h, ← EReal.coe_sub, sub_self, EReal.coe_zero]

theorem part3_apply (S : FVec Ideal S64x512 .f32) {g : Fin 64} {n : Fin 512} {x : ℝ} (h : S (ix2 g n) = x) : part3 S (ix2 g n) = 0 := by
  have e : part3 S (ix2 g n) = (S (ix2 g n) - S (ix2 g n)) - (S (ix2 g n) - S (ix2 g n)) := rfl
  rw [e, h, ← EReal.coe_sub, sub_self, ← EReal.coe_sub, sub_self, EReal.coe_zero]

theorem out_eq (b : Blk Ideal) (p : Vec Ideal S8x512 .f32) (h0 : Vec Ideal S1x512 .f32) : out b p h0 =
    k0_pay1 (gains b p) (scanned b p) b.x9 (part1 (starts (groupDecays b p) (groupGains b p) h0)) (part2 (starts (groupDecays b p) (groupGains b p) h0))
      (part3 (starts (groupDecays b p) (groupGains b p) h0)) (constant S512x512 .f32 0x00000000#32) b.x1 := rfl

include hT in
/-- The expansion matrix repeats each group's row eight times. -/
theorem expand_sum (V : FVec Ideal S64x512 .bf16) (r n : Fin 512) : (∑ x : Fin 64, b.x9 (ix2 r x) * V (ix2 x n)) = V (ix2 ⟨r.val / 8, by omega⟩ n) := by
  refine (Finset.sum_eq_single ⟨r.val / 8, by omega⟩ ?_ ?_).trans ?_
  · intro x _ hx
    rw [hT.x9, if_neg (fun h => hx (Fin.ext h.symm)), zero_mul]
  · intro h; exact absurd (Finset.mem_univ _) h
  · rw [hT.x9, if_pos rfl, one_mul]

include hT hG in
theorem out_apply (r n : Fin 512) : out b p h0 (ix3 0 r n) = layer G s (rowAt k r) n := by
  have hs := starts_tile hT hG ⟨r.val / 8, by omega⟩ n
  have hg := gains_apply hT hG r n
  have hd := scanned_apply hT r n
  have hx := expand_sum hT
  have hy := hT.x1 r n
  have hb := state_back (a := aTile G s k n) (u := uTile G s k n) (H G s n (512 * k.val)) r.val (r.val % 8 + 1) (by have := Nat.mod_le r.val 8; omega)
  rw [tile_state, tile_state, show r.val + 1 - (r.val % 8 + 1) = 8 * (r.val / 8) by omega] at hb
  rw [out_eq]
  revert hs hg hd
  generalize starts (groupDecays b p) (groupGains b p) h0 = S
  generalize gains b p = U
  generalize scanned b p = D
  intro hs hg hd
  have h1 : part1 S (ix2 ⟨r.val / 8, by omega⟩ n) = (H G s n (512 * k.val + 8 * (r.val / 8)) : ℝ) := hs
  have h2 := part2_apply S hs
  have h3 := part3_apply S hs
  revert h1 h2 h3
  generalize part1 S = P1
  generalize part2 S = P2
  generalize part3 S = P3
  intro h1 h2 h3
  refine Eq.trans (b := (U (ix2 r n) + D (ix2 r n) * ((∑ x : Fin 64, b.x9 (ix2 r x) * P1 (ix2 x n)) + (∑ x : Fin 64, b.x9 (ix2 r x) * P2 (ix2 x n)) + (∑ x : Fin 64, b.x9 (ix2 r x) * P3 (ix2 x n))))
    * gelu (b.x1 (ix3 0 r n))) ?_ ?_
  · unfold gelu
    pointwise [k0_pay1]
  · rw [hx, hx, hx, h1, h2, h3, add_zero, add_zero, hg, hd, hy, ← EReal.coe_mul, ← EReal.coe_add, ← hb]
    rfl

end

end Cert.KernelIdeal.Lru

end
-- ==== Proof.LruRunA.lean ====
/- The recurrence kernel's run, read: at the first tile of a sequence, where the rows and the state carried are zeroed first,
   the values the run names are the stages of `Proof.LruTile`. -/
module

public import proofs.«01_k».proof.Proof.LruTile

@[expose] public section

set_option maxRecDepth 16384

noncomputable section

namespace Cert.KernelIdeal.Lru.RunA

open Cert.KernelIdeal Cert.KernelIdeal.Gen Idealize.ShloMosaic Idealize.ShloMosaic.TcCoe Idealize.SL.Sem
open Cert.KernelIdeal.Gen.kernelRun0_A
open Cert.KernelIdeal.Lru

variable {F : FTy → Type} [FloatOps F]
variable (b : Blk F)
variable (c : Dev nD) (i : grid0.Coords) (a2 : Memref sig .tc .vmem S1x512x512 .f32) (e2 : a2.IsWhole) (a3 : Memref sig .tc .vmem S1x512x512 .f32) (e3 : a3.IsWhole) (a4 : Memref sig .tc .vmem S4x512 .f32) (e4 : a4.IsWhole) (a5 : Memref sig .tc .vmem S1x512 .f32) (e5 : a5.IsWhole) (a6 : Memref sig .tc .vmem S4x128x128 .bf16) (e6 : a6.IsWhole) (a7 : Memref sig .tc .vmem S1x512 .f32) (e7 : a7.IsWhole) (a8 : Memref sig .tc .vmem S4x128x128 .bf16) (e8 : a8.IsWhole) (a9 : Memref sig .tc .vmem S1x512 .f32) (e9 : a9.IsWhole) (a10 : Memref sig .tc .vmem S1x512 .f32) (e10 : a10.IsWhole) (a11 : Memref sig .tc .vmem S512x64 .bf16) (e11 : a11.IsWhole) (a12 : Memref sig .tc .vmem S1x512x512 .bf16) (e12 : a12.IsWhole) (a13 : Memref sig .tc .vmem S520x512 .f32) (e13 : a13.IsWhole) (a14 : Memref sig .tc .vmem S1x512 .f32) (e14 : a14.IsWhole) (a15 : Memref sig .tc .vmem S4x512x128 .f32) (e15 : a15.IsWhole) (a16 : Memref sig .tc .vmem S4x512x128 .f32) (e16 : a16.IsWhole) (hc0 : cond0_0 i)

theorem v17_eq : sl.v17 c a2 e2 a13 b.x0 = shiftRows 5 (by omega) (k0_pay3 (F := F)) (k0_pay6 b.x0) := by
  unfold sl.v17 sl.HS0_2; rw [readCov_up _ _ _ 5 (by omega)]; simp only [View.readAt_eq_ld, Memref.IsWhole.read_unread]; rw [View.ld_unit_lit] <;> first | rfl | decide

theorem v22_eq : sl.v22 c a2 e2 a13 b.x0 = shiftRows 6 (by omega) (k0_pay3 (F := F)) (k0_pay6 b.x0) := by
  unfold sl.v22 sl.HS0_2; rw [readCov_up _ _ _ 6 (by omega)]; simp only [View.readAt_eq_ld, Memref.IsWhole.read_unread]; rw [View.ld_unit_lit] <;> first | rfl | decide

theorem v27_eq : sl.v27 c a2 e2 a13 b.x0 = shiftRows 7 (by omega) (k0_pay3 (F := F)) (k0_pay6 b.x0) := by
  unfold sl.v27 sl.HS0_2; rw [readCov_up _ _ _ 7 (by omega)]; simp only [View.readAt_eq_ld, Memref.IsWhole.read_unread]; rw [View.ld_unit_lit] <;> first | rfl | decide

theorem v277_eq : sl.v277 c a14 = (k0_pay4 (F := F)) := by
  unfold sl.v277 sl.HS1_1; rw [View.readCov_cons_toLoadRect]

theorem r_eq : sl.r c a2 e2 a4 e4 a5 e5 a13 b.x0 b.x2 b.x3 = conv b (k0_pay3 (F := F)) := by
  unfold sl.r; rw [v17_eq, v22_eq, v27_eq]; simp only [View.readAt_eq_ld, Memref.IsWhole.read_unread]; rw [View.ld_unit_lit, View.ld_unit_lit, View.ld_unit_lit] <;> first | rfl | decide

theorem r_1_eq : sl.r_1 c a2 e2 a4 e4 a5 e5 a13 b.x0 b.x2 b.x3 = conv0 b (k0_pay3 (F := F)) := by
  unfold sl.r_1; rw [v17_eq, v22_eq, v27_eq]; simp only [View.readAt_eq_ld, Memref.IsWhole.read_unread]; rw [View.ld_unit_lit, View.ld_unit_lit, View.ld_unit_lit] <;> first | rfl | decide

theorem r_2_eq : sl.r_2 c a2 e2 a4 e4 a5 e5 a6 e6 a13 b.x0 b.x2 b.x3 b.x4 = k0_pay11 (conv0 b (k0_pay3 (F := F))) (head b.x4 0) := by
  unfold sl.r_2; simp only [r_1_eq, View.readAt_eq_ld, Memref.IsWhole.read_unread]; rfl

theorem r_3_eq : sl.r_3 c a2 e2 a4 e4 a5 e5 a8 e8 a13 b.x0 b.x2 b.x3 b.x6 = k0_pay12 (conv0 b (k0_pay3 (F := F))) (head b.x6 0) := by
  unfold sl.r_3; simp only [r_1_eq, View.readAt_eq_ld, Memref.IsWhole.read_unread]; rfl

theorem r_4_eq : sl.r_4 c a2 e2 a4 e4 a5 e5 a6 e6 a13 b.x0 b.x2 b.x3 b.x4 = k0_pay14 (conv b (k0_pay3 (F := F))) (head b.x4 1) := by
  unfold sl.r_4; simp only [r_eq, View.readAt_eq_ld, Memref.IsWhole.read_unread]; rfl

theorem r_5_eq : sl.r_5 c a2 e2 a4 e4 a5 e5 a8 e8 a13 b.x0 b.x2 b.x3 b.x6 = k0_pay15 (conv b (k0_pay3 (F := F))) (head b.x6 1) := by
  unfold sl.r_5; simp only [r_eq, View.readAt_eq_ld, Memref.IsWhole.read_unread]; rfl

theorem r_6_eq : sl.r_6 c a2 e2 a4 e4 a5 e5 a6 e6 a13 b.x0 b.x2 b.x3 b.x4 = k0_pay17 (conv b (k0_pay3 (F := F))) (head b.x4 2) := by
  unfold sl.r_6; simp only [r_eq, View.readAt_eq_ld, Memref.IsWhole.read_unread]; rfl

theorem r_7_eq : sl.r_7 c a2 e2 a4 e4 a5 e5 a8 e8 a13 b.x0 b.x2 b.x3 b.x6 = k0_pay18 (conv b (k0_pay3 (F := F))) (head b.x6 2) := by
  unfold sl.r_7; simp only [r_eq, View.readAt_eq_ld, Memref.IsWhole.read_unread]; rfl

theorem r_8_eq : sl.r_8 c a2 e2 a4 e4 a5 e5 a13 b.x0 b.x2 b.x3 = k0_pay19 (conv b (k0_pay3 (F := F))) := by
  unfold sl.r_8; simp only [r_eq, View.readAt_eq_ld, Memref.IsWhole.read_unread]

theorem r_9_eq : sl.r_9 c a2 e2 a4 e4 a5 e5 a6 e6 a13 b.x0 b.x2 b.x3 b.x4 = k0_pay20 (conv b (k0_pay3 (F := F))) (head b.x4 3) := by
  unfold sl.r_9; simp only [r_eq, View.readAt_eq_ld, Memref.IsWhole.read_unread]; rfl

theorem r_10_eq : sl.r_10 c a8 e8 b.x6 = head b.x6 3 := by
  unfold sl.r_10; simp only [View.readAt_eq_ld, Memref.IsWhole.read_unread]; rfl

theorem r_11_eq : sl.r_11 c a2 e2 a4 e4 a5 e5 a6 e6 a7 e7 a10 e10 a13 b.x0 b.x2 b.x3 b.x4 b.x5 b.x8 = decays b (k0_pay3 (F := F)) := by
  unfold sl.r_11; rw [r_2_eq, r_4_eq, r_6_eq, r_9_eq]; simp only [View.readAt_eq_ld, Memref.IsWhole.read_unread]; rw [View.ld_unit_lit, View.ld_unit_lit] <;> first | rfl | decide

theorem r_12_eq : sl.r_12 c a2 e2 a4 e4 a5 e5 a6 e6 a7 e7 a8 e8 a9 e9 a10 e10 a13 b.x0 b.x2 b.x3 b.x4 b.x5 b.x6 b.x7 b.x8 = inputs b (k0_pay3 (F := F)) := by
  unfold sl.r_12; rw [r_eq, r_2_eq, r_3_eq, r_4_eq, r_5_eq, r_6_eq, r_7_eq, r_8_eq, r_9_eq, r_10_eq]; simp only [View.readAt_eq_ld, Memref.IsWhole.read_unread]; rw [View.ld_unit_lit, View.ld_unit_lit, View.ld_unit_lit] <;> first | rfl | decide

theorem r_13_eq : sl.r_13 c a2 e2 a4 e4 a5 e5 a6 e6 a7 e7 a8 e8 a9 e9 a10 e10 a13 b.x0 b.x2 b.x3 b.x4 b.x5 b.x6 b.x7 b.x8 = gains b (k0_pay3 (F := F)) := by
  unfold sl.r_13; rw [r_11_eq, r_12_eq]; rfl

theorem r_14_eq : sl.r_14 c a2 e2 a4 e4 a5 e5 a6 e6 a7 e7 a10 e10 a13 b.x0 b.x2 b.x3 b.x4 b.x5 b.x8 = scanned b (k0_pay3 (F := F)) := by
  unfold sl.r_14; rw [r_11_eq]; rfl

theorem r_15_eq : sl.r_15 c a2 e2 a4 e4 a5 e5 a6 e6 a7 e7 a10 e10 a13 b.x0 b.x2 b.x3 b.x4 b.x5 b.x8 = k0_pay36 (decays b (k0_pay3 (F := F))) k0_pay24 k0_pay25 k0_pay26 := by
  unfold sl.r_15; rw [r_11_eq]

theorem r_17_eq : sl.r_17 c a2 e2 a4 e4 a5 e5 a6 e6 a7 e7 a8 e8 a9 e9 a10 e10 a13 b.x0 b.x2 b.x3 b.x4 b.x5 b.x6 b.x7 b.x8 = k0_pay43 (gains b (k0_pay3 (F := F))) := by
  unfold sl.r_17; rw [r_13_eq]

theorem v160_eq : sl.v160 c a2 e2 a4 e4 a5 e5 a6 e6 a7 e7 a10 e10 a13 a15 b.x0 b.x2 b.x3 b.x4 b.x5 b.x8 = lastRows (k0_pay35 (decays b (k0_pay3 (F := F))) k0_pay24 k0_pay25 k0_pay26) := by
  unfold sl.v160 sl.HS2_4; rw [r_11_eq, r_14_eq, r_15_eq, readCov_last0]

theorem v162_eq : sl.v162 c a2 e2 a4 e4 a5 e5 a6 e6 a7 e7 a10 e10 a13 a15 b.x0 b.x2 b.x3 b.x4 b.x5 b.x8 = lastRows (k0_pay37 (k0_pay36 (decays b (k0_pay3 (F := F))) k0_pay24 k0_pay25 k0_pay26)) := by
  unfold sl.v162 sl.HS2_4; rw [r_11_eq, r_14_eq, r_15_eq, readCov_last1]

theorem v164_eq : sl.v164 c a2 e2 a4 e4 a5 e5 a6 e6 a7 e7 a10 e10 a13 a15 b.x0 b.x2 b.x3 b.x4 b.x5 b.x8 = lastRows (k0_pay38 (scanned b (k0_pay3 (F := F)))) := by
  unfold sl.v164 sl.HS2_4; rw [r_11_eq, r_14_eq, r_15_eq, readCov_last2]

theorem v166_eq : sl.v166 c a2 e2 a4 e4 a5 e5 a6 e6 a7 e7 a10 e10 a13 a15 b.x0 b.x2 b.x3 b.x4 b.x5 b.x8 = lastRows (k0_pay39 (scanned b (k0_pay3 (F := F)))) := by
  unfold sl.v166 sl.HS2_4; rw [r_11_eq, r_14_eq, r_15_eq, readCov_last3]

theorem v185_eq : sl.v185 c a2 e2 a4 e4 a5 e5 a6 e6 a7 e7 a8 e8 a9 e9 a10 e10 a13 a16 b.x0 b.x2 b.x3 b.x4 b.x5 b.x6 b.x7 b.x8 = lastRows (k0_pay41 (gains b (k0_pay3 (F := F)))) := by
  unfold sl.v185 sl.HS3_4; rw [r_13_eq, r_17_eq, readCov_last0]

theorem v187_eq : sl.v187 c a2 e2 a4 e4 a5 e5 a6 e6 a7 e7 a8 e8 a9 e9 a10 e10 a13 a16 b.x0 b.x2 b.x3 b.x4 b.x5 b.x6 b.x7 b.x8 = lastRows (k0_pay42 (gains b (k0_pay3 (F := F)))) := by
  unfold sl.v187 sl.HS3_4; rw [r_13_eq, r_17_eq, readCov_last1]

theorem v189_eq : sl.v189 c a2 e2 a4 e4 a5 e5 a6 e6 a7 e7 a8 e8 a9 e9 a10 e10 a13 a16 b.x0 b.x2 b.x3 b.x4 b.x5 b.x6 b.x7 b.x8 = lastRows (k0_pay44 (k0_pay43 (gains b (k0_pay3 (F := F))))) := by
  unfold sl.v189 sl.HS3_4; rw [r_13_eq, r_17_eq, readCov_last2]

theorem v191_eq : sl.v191 c a2 e2 a4 e4 a5 e5 a6 e6 a7 e7 a8 e8 a9 e9 a10 e10 a13 a16 b.x0 b.x2 b.x3 b.x4 b.x5 b.x6 b.x7 b.x8 = lastRows (k0_pay45 (gains b (k0_pay3 (F := F)))) := by
  unfold sl.v191 sl.HS3_4; rw [r_13_eq, r_17_eq, readCov_last3]

theorem r_16_eq : sl.r_16 c a2 e2 a4 e4 a5 e5 a6 e6 a7 e7 a10 e10 a13 a15 b.x0 b.x2 b.x3 b.x4 b.x5 b.x8 = groupDecays b (k0_pay3 (F := F)) := by
  unfold sl.r_16; rw [v160_eq, v162_eq, v164_eq, v166_eq]; rfl

theorem r_18_eq : sl.r_18 c a2 e2 a4 e4 a5 e5 a6 e6 a7 e7 a8 e8 a9 e9 a10 e10 a13 a16 b.x0 b.x2 b.x3 b.x4 b.x5 b.x6 b.x7 b.x8 = groupGains b (k0_pay3 (F := F)) := by
  unfold sl.r_18; rw [v185_eq, v187_eq, v189_eq, v191_eq]; rfl

theorem r_19_eq : sl.r_19 c a2 e2 a4 e4 a5 e5 a6 e6 a7 e7 a8 e8 a9 e9 a10 e10 a13 a15 a16 b.x0 b.x2 b.x3 b.x4 b.x5 b.x6 b.x7 b.x8 = k0_pay54 (groupDecays b (k0_pay3 (F := F))) (groupGains b (k0_pay3 (F := F))) k0_pay47 k0_pay48 := by
  unfold sl.r_19; rw [r_16_eq, r_18_eq]

theorem r_20_eq : sl.r_20 c a2 e2 a4 e4 a5 e5 a6 e6 a7 e7 a10 e10 a13 a15 b.x0 b.x2 b.x3 b.x4 b.x5 b.x8 = k0_pay55 (groupDecays b (k0_pay3 (F := F))) k0_pay47 k0_pay48 := by
  unfold sl.r_20; rw [r_16_eq]

theorem r_21_eq : sl.r_21 c a2 e2 a4 e4 a5 e5 a6 e6 a7 e7 a10 e10 a13 a15 b.x0 b.x2 b.x3 b.x4 b.x5 b.x8 = k0_pay57 (groupDecays b (k0_pay3 (F := F))) k0_pay47 k0_pay48 := by
  unfold sl.r_21; rw [r_16_eq]

theorem r_22_eq : sl.r_22 c a2 e2 a4 e4 a5 e5 a6 e6 a7 e7 a8 e8 a9 e9 a10 e10 a13 a15 a16 b.x0 b.x2 b.x3 b.x4 b.x5 b.x6 b.x7 b.x8 = k0_pay58 (groupDecays b (k0_pay3 (F := F))) (groupGains b (k0_pay3 (F := F))) k0_pay47 k0_pay48 := by
  unfold sl.r_22; rw [r_16_eq, r_18_eq]

theorem r_23_eq : sl.r_23 c a2 e2 a4 e4 a5 e5 a6 e6 a7 e7 a8 e8 a9 e9 a10 e10 a13 a14 a15 a16 b.x0 b.x2 b.x3 b.x4 b.x5 b.x6 b.x7 b.x8 = k0_pay59 k0_pay47 (k0_pay54 (groupDecays b (k0_pay3 (F := F))) (groupGains b (k0_pay3 (F := F))) k0_pay47 k0_pay48) (k0_pay55 (groupDecays b (k0_pay3 (F := F))) k0_pay47 k0_pay48) (k0_pay57 (groupDecays b (k0_pay3 (F := F))) k0_pay47 k0_pay48) (k0_pay58 (groupDecays b (k0_pay3 (F := F))) (groupGains b (k0_pay3 (F := F))) k0_pay47 k0_pay48) (k0_pay4 (F := F)) := by
  unfold sl.r_23; rw [r_19_eq, r_20_eq, r_21_eq, r_22_eq]; rw [v277_eq]

theorem r_25_eq : sl.r_25 c a2 e2 a4 e4 a5 e5 a6 e6 a7 e7 a8 e8 a9 e9 a10 e10 a13 a14 a15 a16 b.x0 b.x2 b.x3 b.x4 b.x5 b.x6 b.x7 b.x8 = k0_pay61 k0_pay47 (k0_pay54 (groupDecays b (k0_pay3 (F := F))) (groupGains b (k0_pay3 (F := F))) k0_pay47 k0_pay48) (k0_pay55 (groupDecays b (k0_pay3 (F := F))) k0_pay47 k0_pay48) (k0_pay57 (groupDecays b (k0_pay3 (F := F))) k0_pay47 k0_pay48) (k0_pay58 (groupDecays b (k0_pay3 (F := F))) (groupGains b (k0_pay3 (F := F))) k0_pay47 k0_pay48) (k0_pay4 (F := F)) := by
  unfold sl.r_25; rw [r_19_eq, r_20_eq, r_21_eq, r_22_eq]; rw [v277_eq]

theorem r_26_eq : sl.r_26 c a2 e2 a4 e4 a5 e5 a6 e6 a7 e7 a8 e8 a9 e9 a10 e10 a13 a14 a15 a16 b.x0 b.x2 b.x3 b.x4 b.x5 b.x6 b.x7 b.x8 = k0_pay63 k0_pay47 (k0_pay54 (groupDecays b (k0_pay3 (F := F))) (groupGains b (k0_pay3 (F := F))) k0_pay47 k0_pay48) (k0_pay55 (groupDecays b (k0_pay3 (F := F))) k0_pay47 k0_pay48) (k0_pay57 (groupDecays b (k0_pay3 (F := F))) k0_pay47 k0_pay48) (k0_pay58 (groupDecays b (k0_pay3 (F := F))) (groupGains b (k0_pay3 (F := F))) k0_pay47 k0_pay48) (k0_pay4 (F := F)) := by
  unfold sl.r_26; rw [r_19_eq, r_20_eq, r_21_eq, r_22_eq]; rw [v277_eq]

theorem r_27_eq : sl.r_27 c a2 e2 a4 e4 a5 e5 a6 e6 a7 e7 a8 e8 a9 e9 a10 e10 a13 a14 a15 a16 b.x0 b.x2 b.x3 b.x4 b.x5 b.x6 b.x7 b.x8 = k0_pay64 k0_pay47 (k0_pay54 (groupDecays b (k0_pay3 (F := F))) (groupGains b (k0_pay3 (F := F))) k0_pay47 k0_pay48) (k0_pay55 (groupDecays b (k0_pay3 (F := F))) k0_pay47 k0_pay48) (k0_pay57 (groupDecays b (k0_pay3 (F := F))) k0_pay47 k0_pay48) (k0_pay58 (groupDecays b (k0_pay3 (F := F))) (groupGains b (k0_pay3 (F := F))) k0_pay47 k0_pay48) (k0_pay4 (F := F)) := by
  unfold sl.r_27; rw [r_19_eq, r_20_eq, r_21_eq, r_22_eq]; rw [v277_eq]

/-- The output block of the run. -/
theorem out_eq : out0_A_10 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 = out b (k0_pay3 (F := F)) (k0_pay4 (F := F)) := by
  unfold out0_A_10
  rw [View.read_writes_eq_canon _ _ _ (cover0_A_10 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9)]
  unfold kernelRun0_A
  dsimp only
  rw [View.canon_cons_unit_lit _ _ _ (by decide), r_13_eq, r_14_eq, r_25_eq, r_26_eq, r_27_eq]
  unfold sl.r_24 sl.cst_153
  simp only [View.readAt_eq_ld, Memref.IsWhole.read_unread]
  rw [View.ld_unit_lit, View.ld_unit_lit] <;> first | rfl | decide

/-- The state the run leaves. -/
theorem next_eq : sout0_A_1 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 = next b (k0_pay3 (F := F)) (k0_pay4 (F := F)) := by
  unfold sout0_A_1
  rw [View.read_writes_eq_canon _ _ _ (scover0_A_1 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9)]
  unfold kernelRun0_A
  dsimp only
  rw [View.canon_cons_unit_lit _ _ _ (by decide), r_23_eq]
  rfl

/-- The eight rows the run leaves for the next tile. -/
theorem rows_eq : firstRows (sout0_A_0 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9) = k0_pay8 b.x0 := by
  unfold sout0_A_0
  rw [View.read_writes_eq_canon _ _ _ (scover0_A_0 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9)]
  unfold kernelRun0_A
  dsimp only
  simp only [View.readAt_eq_ld, Memref.IsWhole.read_unread]
  rw [View.ld_unit_lit]
  · exact firstRows_canon _ _ _
  · decide

/-- The same facts over the ten blocks one by one. -/
theorem out_eq' (x0 : Vec F S1x512x512 .f32) (x1 : Vec F S1x512x512 .f32) (x2 : Vec F S4x512 .f32) (x3 : Vec F S1x512 .f32) (x4 : Vec F S4x128x128 .bf16) (x5 : Vec F S1x512 .f32) (x6 : Vec F S4x128x128 .bf16) (x7 : Vec F S1x512 .f32) (x8 : Vec F S1x512 .f32) (x9 : Vec F S512x64 .bf16) : out0_A_10 c i a2 e2 a3 e3 a4 e4 a5 e5 a6 e6 a7 e7 a8 e8 a9 e9 a10 e10 a11 e11 a12 e12 a13 e13 a14 e14 a15 e15 a16 e16 hc0 x0 x1 x2 x3 x4 x5 x6 x7 x8 x9 = out ⟨x0, x1, x2, x3, x4, x5, x6, x7, x8, x9⟩ (k0_pay3 (F := F)) (k0_pay4 (F := F)) := out_eq (b := ⟨x0, x1, x2, x3, x4, x5, x6, x7, x8, x9⟩) ..

theorem next_eq' (x0 : Vec F S1x512x512 .f32) (x1 : Vec F S1x512x512 .f32) (x2 : Vec F S4x512 .f32) (x3 : Vec F S1x512 .f32) (x4 : Vec F S4x128x128 .bf16) (x5 : Vec F S1x512 .f32) (x6 : Vec F S4x128x128 .bf16) (x7 : Vec F S1x512 .f32) (x8 : Vec F S1x512 .f32) (x9 : Vec F S512x64 .bf16) : sout0_A_1 c i a2 e2 a3 e3 a4 e4 a5 e5 a6 e6 a7 e7 a8 e8 a9 e9 a10 e10 a11 e11 a12 e12 a13 e13 a14 e14 a15 e15 a16 e16 hc0 x0 x1 x2 x3 x4 x5 x6 x7 x8 x9 = next ⟨x0, x1, x2, x3, x4, x5, x6, x7, x8, x9⟩ (k0_pay3 (F := F)) (k0_pay4 (F := F)) := next_eq (b := ⟨x0, x1, x2, x3, x4, x5, x6, x7, x8, x9⟩) ..

theorem rows_eq' (x0 : Vec F S1x512x512 .f32) (x1 : Vec F S1x512x512 .f32) (x2 : Vec F S4x512 .f32) (x3 : Vec F S1x512 .f32) (x4 : Vec F S4x128x128 .bf16) (x5 : Vec F S1x512 .f32) (x6 : Vec F S4x128x128 .bf16) (x7 : Vec F S1x512 .f32) (x8 : Vec F S1x512 .f32) (x9 : Vec F S512x64 .bf16) : firstRows (sout0_A_0 c i a2 e2 a3 e3 a4 e4 a5 e5 a6 e6 a7 e7 a8 e8 a9 e9 a10 e10 a11 e11 a12 e12 a13 e13 a14 e14 a15 e15 a16 e16 hc0 x0 x1 x2 x3 x4 x5 x6 x7 x8 x9) = k0_pay8 x0 := rows_eq (b := ⟨x0, x1, x2, x3, x4, x5, x6, x7, x8, x9⟩) ..

end Cert.KernelIdeal.Lru.RunA

end
-- ==== Proof.LruRunB.lean ====
/- The recurrence kernel's run, read: at a tile that takes the rows and the state carried from the tile before,
   the values the run names are the stages of `Proof.LruTile`. -/
module

public import proofs.«01_k».proof.Proof.LruTile

@[expose] public section

set_option maxRecDepth 16384

noncomputable section

namespace Cert.KernelIdeal.Lru.RunB

open Cert.KernelIdeal Cert.KernelIdeal.Gen Idealize.ShloMosaic Idealize.ShloMosaic.TcCoe Idealize.SL.Sem
open Cert.KernelIdeal.Gen.kernelRun0_B
open Cert.KernelIdeal.Lru

variable {F : FTy → Type} [FloatOps F]
variable (b : Blk F) (xs0 : Vec F S520x512 .f32) (xs1 : Vec F S1x512 .f32)
variable (c : Dev nD) (i : grid0.Coords) (a2 : Memref sig .tc .vmem S1x512x512 .f32) (e2 : a2.IsWhole) (a3 : Memref sig .tc .vmem S1x512x512 .f32) (e3 : a3.IsWhole) (a4 : Memref sig .tc .vmem S4x512 .f32) (e4 : a4.IsWhole) (a5 : Memref sig .tc .vmem S1x512 .f32) (e5 : a5.IsWhole) (a6 : Memref sig .tc .vmem S4x128x128 .bf16) (e6 : a6.IsWhole) (a7 : Memref sig .tc .vmem S1x512 .f32) (e7 : a7.IsWhole) (a8 : Memref sig .tc .vmem S4x128x128 .bf16) (e8 : a8.IsWhole) (a9 : Memref sig .tc .vmem S1x512 .f32) (e9 : a9.IsWhole) (a10 : Memref sig .tc .vmem S1x512 .f32) (e10 : a10.IsWhole) (a11 : Memref sig .tc .vmem S512x64 .bf16) (e11 : a11.IsWhole) (a12 : Memref sig .tc .vmem S1x512x512 .bf16) (e12 : a12.IsWhole) (a13 : Memref sig .tc .vmem S520x512 .f32) (e13 : a13.IsWhole) (a14 : Memref sig .tc .vmem S1x512 .f32) (e14 : a14.IsWhole) (a15 : Memref sig .tc .vmem S4x512x128 .f32) (e15 : a15.IsWhole) (a16 : Memref sig .tc .vmem S4x512x128 .f32) (e16 : a16.IsWhole) (hc0 : ¬cond0_0 i)

theorem r_eq : sl.r c a2 e2 a4 e4 a5 e5 a13 e13 b.x0 b.x2 b.x3 xs0 = conv b (firstRows xs0) := by
  unfold sl.r sl.HS0_1
  rw [readAt_up _ _ xs0 (Memref.IsWhole.read_unread ..) _ 5 (by omega), readAt_up _ _ xs0 (Memref.IsWhole.read_unread ..) _ 6 (by omega), readAt_up _ _ xs0 (Memref.IsWhole.read_unread ..) _ 7 (by omega)]
  simp only [View.readAt_eq_ld, Memref.IsWhole.read_unread]; rw [View.ld_unit_lit, View.ld_unit_lit, View.ld_unit_lit] <;> first | rfl | decide

theorem r_1_eq : sl.r_1 c a2 e2 a4 e4 a5 e5 a13 e13 b.x0 b.x2 b.x3 xs0 = conv0 b (firstRows xs0) := by
  unfold sl.r_1 sl.HS0_1
  rw [readAt_up _ _ xs0 (Memref.IsWhole.read_unread ..) _ 5 (by omega), readAt_up _ _ xs0 (Memref.IsWhole.read_unread ..) _ 6 (by omega), readAt_up _ _ xs0 (Memref.IsWhole.read_unread ..) _ 7 (by omega)]
  simp only [View.readAt_eq_ld, Memref.IsWhole.read_unread]; rw [View.ld_unit_lit, View.ld_unit_lit, View.ld_unit_lit] <;> first | rfl | decide

theorem r_2_eq : sl.r_2 c a2 e2 a4 e4 a5 e5 a6 e6 a13 e13 b.x0 b.x2 b.x3 b.x4 xs0 = k0_pay11 (conv0 b (firstRows xs0)) (head b.x4 0) := by
  unfold sl.r_2; simp only [r_1_eq, View.readAt_eq_ld, Memref.IsWhole.read_unread]; rfl

theorem r_3_eq : sl.r_3 c a2 e2 a4 e4 a5 e5 a8 e8 a13 e13 b.x0 b.x2 b.x3 b.x6 xs0 = k0_pay12 (conv0 b (firstRows xs0)) (head b.x6 0) := by
  unfold sl.r_3; simp only [r_1_eq, View.readAt_eq_ld, Memref.IsWhole.read_unread]; rfl

theorem r_4_eq : sl.r_4 c a2 e2 a4 e4 a5 e5 a6 e6 a13 e13 b.x0 b.x2 b.x3 b.x4 xs0 = k0_pay14 (conv b (firstRows xs0)) (head b.x4 1) := by
  unfold sl.r_4; simp only [r_eq, View.readAt_eq_ld, Memref.IsWhole.read_unread]; rfl

theorem r_5_eq : sl.r_5 c a2 e2 a4 e4 a5 e5 a8 e8 a13 e13 b.x0 b.x2 b.x3 b.x6 xs0 = k0_pay15 (conv b (firstRows xs0)) (head b.x6 1) := by
  unfold sl.r_5; simp only [r_eq, View.readAt_eq_ld, Memref.IsWhole.read_unread]; rfl

theorem r_6_eq : sl.r_6 c a2 e2 a4 e4 a5 e5 a6 e6 a13 e13 b.x0 b.x2 b.x3 b.x4 xs0 = k0_pay17 (conv b (firstRows xs0)) (head b.x4 2) := by
  unfold sl.r_6; simp only [r_eq, View.readAt_eq_ld, Memref.IsWhole.read_unread]; rfl

theorem r_7_eq : sl.r_7 c a2 e2 a4 e4 a5 e5 a8 e8 a13 e13 b.x0 b.x2 b.x3 b.x6 xs0 = k0_pay18 (conv b (firstRows xs0)) (head b.x6 2) := by
  unfold sl.r_7; simp only [r_eq, View.readAt_eq_ld, Memref.IsWhole.read_unread]; rfl

theorem r_8_eq : sl.r_8 c a2 e2 a4 e4 a5 e5 a13 e13 b.x0 b.x2 b.x3 xs0 = k0_pay19 (conv b (firstRows xs0)) := by
  unfold sl.r_8; simp only [r_eq, View.readAt_eq_ld, Memref.IsWhole.read_unread]

theorem r_9_eq : sl.r_9 c a2 e2 a4 e4 a5 e5 a6 e6 a13 e13 b.x0 b.x2 b.x3 b.x4 xs0 = k0_pay20 (conv b (firstRows xs0)) (head b.x4 3) := by
  unfold sl.r_9; simp only [r_eq, View.readAt_eq_ld, Memref.IsWhole.read_unread]; rfl

theorem r_10_eq : sl.r_10 c a8 e8 b.x6 = head b.x6 3 := by
  unfold sl.r_10; simp only [View.readAt_eq_ld, Memref.IsWhole.read_unread]; rfl

theorem r_11_eq : sl.r_11 c a2 e2 a4 e4 a5 e5 a6 e6 a7 e7 a10 e10 a13 e13 b.x0 b.x2 b.x3 b.x4 b.x5 b.x8 xs0 = decays b (firstRows xs0) := by
  unfold sl.r_11; rw [r_2_eq, r_4_eq, r_6_eq, r_9_eq]; simp only [View.readAt_eq_ld, Memref.IsWhole.read_unread]; rw [View.ld_unit_lit, View.ld_unit_lit] <;> first | rfl | decide

theorem r_12_eq : sl.r_12 c a2 e2 a4 e4 a5 e5 a6 e6 a7 e7 a8 e8 a9 e9 a10 e10 a13 e13 b.x0 b.x2 b.x3 b.x4 b.x5 b.x6 b.x7 b.x8 xs0 = inputs b (firstRows xs0) := by
  unfold sl.r_12; rw [r_eq, r_2_eq, r_3_eq, r_4_eq, r_5_eq, r_6_eq, r_7_eq, r_8_eq, r_9_eq, r_10_eq]; simp only [View.readAt_eq_ld, Memref.IsWhole.read_unread]; rw [View.ld_unit_lit, View.ld_unit_lit, View.ld_unit_lit] <;> first | rfl | decide

theorem r_13_eq : sl.r_13 c a2 e2 a4 e4 a5 e5 a6 e6 a7 e7 a8 e8 a9 e9 a10 e10 a13 e13 b.x0 b.x2 b.x3 b.x4 b.x5 b.x6 b.x7 b.x8 xs0 = gains b (firstRows xs0) := by
  unfold sl.r_13; rw [r_11_eq, r_12_eq]; rfl

theorem r_14_eq : sl.r_14 c a2 e2 a4 e4 a5 e5 a6 e6 a7 e7 a10 e10 a13 e13 b.x0 b.x2 b.x3 b.x4 b.x5 b.x8 xs0 = scanned b (firstRows xs0) := by
  unfold sl.r_14; rw [r_11_eq]; rfl

theorem r_15_eq : sl.r_15 c a2 e2 a4 e4 a5 e5 a6 e6 a7 e7 a10 e10 a13 e13 b.x0 b.x2 b.x3 b.x4 b.x5 b.x8 xs0 = k0_pay36 (decays b (firstRows xs0)) k0_pay24 k0_pay25 k0_pay26 := by
  unfold sl.r_15; rw [r_11_eq]

theorem r_17_eq : sl.r_17 c a2 e2 a4 e4 a5 e5 a6 e6 a7 e7 a8 e8 a9 e9 a10 e10 a13 e13 b.x0 b.x2 b.x3 b.x4 b.x5 b.x6 b.x7 b.x8 xs0 = k0_pay43 (gains b (firstRows xs0)) := by
  unfold sl.r_17; rw [r_13_eq]

theorem v160_eq : sl.v160 c a2 e2 a4 e4 a5 e5 a6 e6 a7 e7 a10 e10 a13 e13 a15 b.x0 b.x2 b.x3 b.x4 b.x5 b.x8 xs0 = lastRows (k0_pay35 (decays b (firstRows xs0)) k0_pay24 k0_pay25 k0_pay26) := by
  unfold sl.v160 sl.HS2_4; rw [r_11_eq, r_14_eq, r_15_eq, readCov_last0]

theorem v162_eq : sl.v162 c a2 e2 a4 e4 a5 e5 a6 e6 a7 e7 a10 e10 a13 e13 a15 b.x0 b.x2 b.x3 b.x4 b.x5 b.x8 xs0 = lastRows (k0_pay37 (k0_pay36 (decays b (firstRows xs0)) k0_pay24 k0_pay25 k0_pay26)) := by
  unfold sl.v162 sl.HS2_4; rw [r_11_eq, r_14_eq, r_15_eq, readCov_last1]

theorem v164_eq : sl.v164 c a2 e2 a4 e4 a5 e5 a6 e6 a7 e7 a10 e10 a13 e13 a15 b.x0 b.x2 b.x3 b.x4 b.x5 b.x8 xs0 = lastRows (k0_pay38 (scanned b (firstRows xs0))) := by
  unfold sl.v164 sl.HS2_4; rw [r_11_eq, r_14_eq, r_15_eq, readCov_last2]

theorem v166_eq : sl.v166 c a2 e2 a4 e4 a5 e5 a6 e6 a7 e7 a10 e10 a13 e13 a15 b.x0 b.x2 b.x3 b.x4 b.x5 b.x8 xs0 = lastRows (k0_pay39 (scanned b (firstRows xs0))) := by
  unfold sl.v166 sl.HS2_4; rw [r_11_eq, r_14_eq, r_15_eq, readCov_last3]

theorem v185_eq : sl.v185 c a2 e2 a4 e4 a5 e5 a6 e6 a7 e7 a8 e8 a9 e9 a10 e10 a13 e13 a16 b.x0 b.x2 b.x3 b.x4 b.x5 b.x6 b.x7 b.x8 xs0 = lastRows (k0_pay41 (gains b (firstRows xs0))) := by
  unfold sl.v185 sl.HS3_4; rw [r_13_eq, r_17_eq, readCov_last0]

theorem v187_eq : sl.v187 c a2 e2 a4 e4 a5 e5 a6 e6 a7 e7 a8 e8 a9 e9 a10 e10 a13 e13 a16 b.x0 b.x2 b.x3 b.x4 b.x5 b.x6 b.x7 b.x8 xs0 = lastRows (k0_pay42 (gains b (firstRows xs0))) := by
  unfold sl.v187 sl.HS3_4; rw [r_13_eq, r_17_eq, readCov_last1]

theorem v189_eq : sl.v189 c a2 e2 a4 e4 a5 e5 a6 e6 a7 e7 a8 e8 a9 e9 a10 e10 a13 e13 a16 b.x0 b.x2 b.x3 b.x4 b.x5 b.x6 b.x7 b.x8 xs0 = lastRows (k0_pay44 (k0_pay43 (gains b (firstRows xs0)))) := by
  unfold sl.v189 sl.HS3_4; rw [r_13_eq, r_17_eq, readCov_last2]

theorem v191_eq : sl.v191 c a2 e2 a4 e4 a5 e5 a6 e6 a7 e7 a8 e8 a9 e9 a10 e10 a13 e13 a16 b.x0 b.x2 b.x3 b.x4 b.x5 b.x6 b.x7 b.x8 xs0 = lastRows (k0_pay45 (gains b (firstRows xs0))) := by
  unfold sl.v191 sl.HS3_4; rw [r_13_eq, r_17_eq, readCov_last3]

theorem r_16_eq : sl.r_16 c a2 e2 a4 e4 a5 e5 a6 e6 a7 e7 a10 e10 a13 e13 a15 b.x0 b.x2 b.x3 b.x4 b.x5 b.x8 xs0 = groupDecays b (firstRows xs0) := by
  unfold sl.r_16; rw [v160_eq, v162_eq, v164_eq, v166_eq]; rfl

theorem r_18_eq : sl.r_18 c a2 e2 a4 e4 a5 e5 a6 e6 a7 e7 a8 e8 a9 e9 a10 e10 a13 e13 a16 b.x0 b.x2 b.x3 b.x4 b.x5 b.x6 b.x7 b.x8 xs0 = groupGains b (firstRows xs0) := by
  unfold sl.r_18; rw [v185_eq, v187_eq, v189_eq, v191_eq]; rfl

theorem r_19_eq : sl.r_19 c a2 e2 a4 e4 a5 e5 a6 e6 a7 e7 a8 e8 a9 e9 a10 e10 a13 e13 a15 a16 b.x0 b.x2 b.x3 b.x4 b.x5 b.x6 b.x7 b.x8 xs0 = k0_pay54 (groupDecays b (firstRows xs0)) (groupGains b (firstRows xs0)) k0_pay47 k0_pay48 := by
  unfold sl.r_19; rw [r_16_eq, r_18_eq]

theorem r_20_eq : sl.r_20 c a2 e2 a4 e4 a5 e5 a6 e6 a7 e7 a10 e10 a13 e13 a15 b.x0 b.x2 b.x3 b.x4 b.x5 b.x8 xs0 = k0_pay55 (groupDecays b (firstRows xs0)) k0_pay47 k0_pay48 := by
  unfold sl.r_20; rw [r_16_eq]

theorem r_21_eq : sl.r_21 c a2 e2 a4 e4 a5 e5 a6 e6 a7 e7 a10 e10 a13 e13 a15 b.x0 b.x2 b.x3 b.x4 b.x5 b.x8 xs0 = k0_pay57 (groupDecays b (firstRows xs0)) k0_pay47 k0_pay48 := by
  unfold sl.r_21; rw [r_16_eq]

theorem r_22_eq : sl.r_22 c a2 e2 a4 e4 a5 e5 a6 e6 a7 e7 a8 e8 a9 e9 a10 e10 a13 e13 a15 a16 b.x0 b.x2 b.x3 b.x4 b.x5 b.x6 b.x7 b.x8 xs0 = k0_pay58 (groupDecays b (firstRows xs0)) (groupGains b (firstRows xs0)) k0_pay47 k0_pay48 := by
  unfold sl.r_22; rw [r_16_eq, r_18_eq]

theorem r_23_eq : sl.r_23 c a2 e2 a4 e4 a5 e5 a6 e6 a7 e7 a8 e8 a9 e9 a10 e10 a13 e13 a14 e14 a15 a16 b.x0 b.x2 b.x3 b.x4 b.x5 b.x6 b.x7 b.x8 xs0 xs1 = k0_pay59 k0_pay47 (k0_pay54 (groupDecays b (firstRows xs0)) (groupGains b (firstRows xs0)) k0_pay47 k0_pay48) (k0_pay55 (groupDecays b (firstRows xs0)) k0_pay47 k0_pay48) (k0_pay57 (groupDecays b (firstRows xs0)) k0_pay47 k0_pay48) (k0_pay58 (groupDecays b (firstRows xs0)) (groupGains b (firstRows xs0)) k0_pay47 k0_pay48) xs1 := by
  unfold sl.r_23; rw [r_19_eq, r_20_eq, r_21_eq, r_22_eq]; simp only [View.readAt_eq_ld, Memref.IsWhole.read_unread]; rw [View.ld_unit_lit] <;> first | rfl | decide

theorem r_25_eq : sl.r_25 c a2 e2 a4 e4 a5 e5 a6 e6 a7 e7 a8 e8 a9 e9 a10 e10 a13 e13 a14 e14 a15 a16 b.x0 b.x2 b.x3 b.x4 b.x5 b.x6 b.x7 b.x8 xs0 xs1 = k0_pay61 k0_pay47 (k0_pay54 (groupDecays b (firstRows xs0)) (groupGains b (firstRows xs0)) k0_pay47 k0_pay48) (k0_pay55 (groupDecays b (firstRows xs0)) k0_pay47 k0_pay48) (k0_pay57 (groupDecays b (firstRows xs0)) k0_pay47 k0_pay48) (k0_pay58 (groupDecays b (firstRows xs0)) (groupGains b (firstRows xs0)) k0_pay47 k0_pay48) xs1 := by
  unfold sl.r_25; rw [r_19_eq, r_20_eq, r_21_eq, r_22_eq]; simp only [View.readAt_eq_ld, Memref.IsWhole.read_unread]; rw [View.ld_unit_lit] <;> first | rfl | decide

theorem r_26_eq : sl.r_26 c a2 e2 a4 e4 a5 e5 a6 e6 a7 e7 a8 e8 a9 e9 a10 e10 a13 e13 a14 e14 a15 a16 b.x0 b.x2 b.x3 b.x4 b.x5 b.x6 b.x7 b.x8 xs0 xs1 = k0_pay63 k0_pay47 (k0_pay54 (groupDecays b (firstRows xs0)) (groupGains b (firstRows xs0)) k0_pay47 k0_pay48) (k0_pay55 (groupDecays b (firstRows xs0)) k0_pay47 k0_pay48) (k0_pay57 (groupDecays b (firstRows xs0)) k0_pay47 k0_pay48) (k0_pay58 (groupDecays b (firstRows xs0)) (groupGains b (firstRows xs0)) k0_pay47 k0_pay48) xs1 := by
  unfold sl.r_26; rw [r_19_eq, r_20_eq, r_21_eq, r_22_eq]; simp only [View.readAt_eq_ld, Memref.IsWhole.read_unread]; rw [View.ld_unit_lit] <;> first | rfl | decide

theorem r_27_eq : sl.r_27 c a2 e2 a4 e4 a5 e5 a6 e6 a7 e7 a8 e8 a9 e9 a10 e10 a13 e13 a14 e14 a15 a16 b.x0 b.x2 b.x3 b.x4 b.x5 b.x6 b.x7 b.x8 xs0 xs1 = k0_pay64 k0_pay47 (k0_pay54 (groupDecays b (firstRows xs0)) (groupGains b (firstRows xs0)) k0_pay47 k0_pay48) (k0_pay55 (groupDecays b (firstRows xs0)) k0_pay47 k0_pay48) (k0_pay57 (groupDecays b (firstRows xs0)) k0_pay47 k0_pay48) (k0_pay58 (groupDecays b (firstRows xs0)) (groupGains b (firstRows xs0)) k0_pay47 k0_pay48) xs1 := by
  unfold sl.r_27; rw [r_19_eq, r_20_eq, r_21_eq, r_22_eq]; simp only [View.readAt_eq_ld, Memref.IsWhole.read_unread]; rw [View.ld_unit_lit] <;> first | rfl | decide

/-- The output block of the run. -/
theorem out_eq : out0_B_10 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 xs0 xs1 = out b (firstRows xs0) xs1 := by
  unfold out0_B_10
  rw [View.read_writes_eq_canon _ _ _ (cover0_B_10 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 xs0 xs1)]
  unfold kernelRun0_B
  dsimp only
  rw [View.canon_cons_unit_lit _ _ _ (by decide), r_13_eq, r_14_eq, r_25_eq, r_26_eq, r_27_eq]
  unfold sl.r_24 sl.cst_153
  simp only [View.readAt_eq_ld, Memref.IsWhole.read_unread]
  rw [View.ld_unit_lit, View.ld_unit_lit] <;> first | rfl | decide

/-- The state the run leaves. -/
theorem next_eq : sout0_B_1 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 xs0 xs1 = next b (firstRows xs0) xs1 := by
  unfold sout0_B_1
  rw [View.read_writes_eq_canon _ _ _ (scover0_B_1 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 xs0 xs1)]
  unfold kernelRun0_B
  dsimp only
  rw [View.canon_cons_unit_lit _ _ _ (by decide), r_23_eq]
  rfl

/-- The eight rows the run leaves for the next tile. -/
theorem rows_eq : firstRows (sout0_B_0 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 xs0 xs1) = k0_pay8 b.x0 := by
  unfold sout0_B_0
  rw [View.read_writes_eq_canon _ _ _ (scover0_B_0 c i a2 e2 a3 e3 a4 e4 a5 e5 a6 e6 a7 e7 a8 e8 a9 e9 a10 e10 a11 e11 a12 e12 a13 e13 a14 e14 a15 e15 a16 e16 hc0 b.x0 b.x1 b.x2 b.x3 b.x4 b.x5 b.x6 b.x7 b.x8 b.x9 xs0 xs1)]
  unfold kernelRun0_B
  dsimp only
  simp only [View.readAt_eq_ld, Memref.IsWhole.read_unread]
  rw [View.ld_unit_lit]
  · exact firstRows_canon _ _ _
  · decide

/-- The same facts over the ten blocks one by one. -/
theorem out_eq' (x0 : Vec F S1x512x512 .f32) (x1 : Vec F S1x512x512 .f32) (x2 : Vec F S4x512 .f32) (x3 : Vec F S1x512 .f32) (x4 : Vec F S4x128x128 .bf16) (x5 : Vec F S1x512 .f32) (x6 : Vec F S4x128x128 .bf16) (x7 : Vec F S1x512 .f32) (x8 : Vec F S1x512 .f32) (x9 : Vec F S512x64 .bf16) : out0_B_10 c i a2 e2 a3 e3 a4 e4 a5 e5 a6 e6 a7 e7 a8 e8 a9 e9 a10 e10 a11 e11 a12 e12 a13 e13 a14 e14 a15 e15 a16 e16 hc0 x0 x1 x2 x3 x4 x5 x6 x7 x8 x9 xs0 xs1 = out ⟨x0, x1, x2, x3, x4, x5, x6, x7, x8, x9⟩ (firstRows xs0) xs1 := out_eq (b := ⟨x0, x1, x2, x3, x4, x5, x6, x7, x8, x9⟩) ..

theorem next_eq' (x0 : Vec F S1x512x512 .f32) (x1 : Vec F S1x512x512 .f32) (x2 : Vec F S4x512 .f32) (x3 : Vec F S1x512 .f32) (x4 : Vec F S4x128x128 .bf16) (x5 : Vec F S1x512 .f32) (x6 : Vec F S4x128x128 .bf16) (x7 : Vec F S1x512 .f32) (x8 : Vec F S1x512 .f32) (x9 : Vec F S512x64 .bf16) : sout0_B_1 c i a2 e2 a3 e3 a4 e4 a5 e5 a6 e6 a7 e7 a8 e8 a9 e9 a10 e10 a11 e11 a12 e12 a13 e13 a14 e14 a15 e15 a16 e16 hc0 x0 x1 x2 x3 x4 x5 x6 x7 x8 x9 xs0 xs1 = next ⟨x0, x1, x2, x3, x4, x5, x6, x7, x8, x9⟩ (firstRows xs0) xs1 := next_eq (b := ⟨x0, x1, x2, x3, x4, x5, x6, x7, x8, x9⟩) ..

theorem rows_eq' (x0 : Vec F S1x512x512 .f32) (x1 : Vec F S1x512x512 .f32) (x2 : Vec F S4x512 .f32) (x3 : Vec F S1x512 .f32) (x4 : Vec F S4x128x128 .bf16) (x5 : Vec F S1x512 .f32) (x6 : Vec F S4x128x128 .bf16) (x7 : Vec F S1x512 .f32) (x8 : Vec F S1x512 .f32) (x9 : Vec F S512x64 .bf16) : firstRows (sout0_B_0 c i a2 e2 a3 e3 a4 e4 a5 e5 a6 e6 a7 e7 a8 e8 a9 e9 a10 e10 a11 e11 a12 e12 a13 e13 a14 e14 a15 e15 a16 e16 hc0 x0 x1 x2 x3 x4 x5 x6 x7 x8 x9 xs0 xs1) = k0_pay8 x0 := rows_eq (b := ⟨x0, x1, x2, x3, x4, x5, x6, x7, x8, x9⟩) ..

end Cert.KernelIdeal.Lru.RunB

end
-- ==== Proof.LruValue.lean ====
/- The recurrence kernel's output array: entry by entry it is the layer's output. Tile after tile of a sequence the run
   carries the last eight rows and the state; the first tile starts from zero rows and the zero state. -/
module

public import proofs.«01_k».proof.Proof.LruBlocks
public import proofs.«01_k».proof.Proof.LruTileValue
public import proofs.«01_k».proof.Proof.LruRunA
public import proofs.«01_k».proof.Proof.LruRunB

@[expose] public section

set_option maxRecDepth 16384

noncomputable section

namespace Cert.KernelIdeal.Lru

open Cert.KernelIdeal Cert.KernelIdeal.Gen Cert.LruSpec Idealize.ShloMosaic Idealize.ShloMosaic.TcCoe Idealize.SL.Sem

variable (m : (ℓ : Loc nD τ sig) → Buf (Elt Ideal) ℓ) (c : Dev nD)

/-- The blocks of grid point `t`. -/
def blkAt (t : Fin cfg0.N) : Blk Ideal :=
  ⟨iblk m c 0 t, iblk m c 1 t, iblk m c 2 t, iblk m c 3 t, iblk m c 4 t, iblk m c 5 t, iblk m c 6 t, iblk m c 7 t, iblk m c 8 t, iblk m c 9 t⟩

/-- The launch's arguments as the layer's arrays. -/
def args : Args where
  x s p n := m ((c : Thread nD τ).loc main_arg0) (ix3 s p ⟨2560 + n.val, by omega⟩)
  y s p n := m ((c : Thread nD τ).loc main_arg0) (ix3 s p ⟨3072 + n.val, by omega⟩)
  cw j n := m ((c : Thread nD τ).loc main_arg1) (ix2 j n)
  cb n := m ((c : Thread nD τ).loc main_arg2) (ix1 n)
  wa h i j := m ((c : Thread nD τ).loc main_arg3) (ix3 h i j)
  ba n := m ((c : Thread nD τ).loc main_arg4) (ix1 n)
  wx h i j := m ((c : Thread nD τ).loc main_arg5) (ix3 h i j)
  bx n := m ((c : Thread nD τ).loc main_arg6) (ix1 n)
  lam n := lamArg m c (ix1 n)

/-- The grid point before. -/
def before (t : Fin cfg0.N) : Fin cfg0.N := ⟨t.val - 1, lt_of_le_of_lt (Nat.sub_le _ _) t.isLt⟩

/-- The rows and the state carried into grid point `t`. -/
def prevRows (t : Fin cfg0.N) : Vec Ideal S8x512 .f32 :=
  if t.val % 16 = 0 then k0_pay3 (F := Ideal) else k0_pay8 (iblk m c 0 (before t))
def prevState (t : Fin cfg0.N) : Vec Ideal S1x512 .f32 :=
  if t.val % 16 = 0 then k0_pay4 (F := Ideal) else (outsAt0 m c (before t).val (before t).isLt).2.2

theorem outs_rows (t : Fin cfg0.N) : firstRows (outsAt0 m c t.val t.isLt).2.1 = k0_pay8 (iblk m c 0 t) := by
  by_cases h0 : t.val % 16 = 0
  · rw [outsAt0_A m c t h0]
    dsimp only
    exact RunA.rows_eq' (F := Ideal) ..
  · rw [outsAt0_B m c t h0]
    dsimp only
    exact RunB.rows_eq' (F := Ideal) ..

theorem outs_state (t : Fin cfg0.N) : (outsAt0 m c t.val t.isLt).2.2 = next (blkAt m c t) (prevRows m c t) (prevState m c t) := by
  unfold prevRows prevState
  by_cases h0 : t.val % 16 = 0
  · rw [outsAt0_A m c t h0, if_pos h0, if_pos h0]
    dsimp only [blkAt]
    exact RunA.next_eq' (F := Ideal) ..
  · rw [outsAt0_B m c t h0, if_neg h0, if_neg h0, ← outs_rows]
    dsimp only [blkAt]
    exact RunB.next_eq' (F := Ideal) ..

theorem outs_out (t : Fin cfg0.N) : (outsAt0 m c t.val t.isLt).1 = out (blkAt m c t) (prevRows m c t) (prevState m c t) := by
  unfold prevRows prevState
  by_cases h0 : t.val % 16 = 0
  · rw [outsAt0_A m c t h0, if_pos h0, if_pos h0]
    dsimp only [blkAt]
    exact RunA.out_eq' (F := Ideal) ..
  · rw [outsAt0_B m c t h0, if_neg h0, if_neg h0, ← outs_rows]
    dsimp only [blkAt]
    exact RunB.out_eq' (F := Ideal) ..

/-- A tile's blocks, with the rows and the state carried into it. -/
theorem tile_of (t : Fin cfg0.N)
    (hb : ∀ r n, prevRows m c t (ix2 r n) = if h : 8 ≤ 512 * (tileOf t).val + r.val then (args m c).x (seqOf t) ⟨512 * (tileOf t).val + r.val - 8, by omega⟩ n else 0)
    (hs : ∀ n, prevState m c t (ix2 0 n) = (H (args m c) (seqOf t) n (512 * (tileOf t).val) : ℝ)) :
    TileOf (args m c) (seqOf t) (tileOf t) (blkAt m c t) (prevRows m c t) (prevState m c t) where
  x0 r n := by dsimp only [blkAt, args, rowAt, tileOf]; exact x0_apply m c t r n
  x1 r n := by dsimp only [blkAt, args, rowAt, tileOf]; exact x1_apply m c t r n
  x2 j n := by dsimp only [blkAt, args, rowAt, tileOf]; exact x2_apply m c t j n
  x3 n := by dsimp only [blkAt, args, rowAt, tileOf]; exact x3_apply m c t n
  x4 h i j := by dsimp only [blkAt, args, rowAt, tileOf]; exact x4_apply m c t h i j
  x5 n := by dsimp only [blkAt, args, rowAt, tileOf]; exact x5_apply m c t n
  x6 h i j := by dsimp only [blkAt, args, rowAt, tileOf]; exact x6_apply m c t h i j
  x7 n := by dsimp only [blkAt, args, rowAt, tileOf]; exact x7_apply m c t n
  x8 n := by dsimp only [blkAt, args, rowAt, tileOf]; exact x8_apply m c t n
  x9 i g := by dsimp only [blkAt, args, rowAt, tileOf]; exact x9_apply m c t i g
  before := hb
  start := hs

theorem rows_apply (x : Vec Ideal S1x512x512 .f32) (r : Fin 8) (n : Fin 512) : k0_pay8 x (ix2 r n) = x (ix3 0 ⟨504 + r.val, by omega⟩ n) := by
  pointwise [k0_pay8, k0_pay5]

theorem zero_rows (r : Fin 8) (n : Fin 512) : k0_pay3 (F := Ideal) (ix2 r n) = 0 := by
  pointwise [k0_pay3]

theorem zero_state (n : Fin 512) : k0_pay4 (F := Ideal) (ix2 0 n) = 0 := by
  pointwise [k0_pay4]

theorem prevRows_apply (t : Fin cfg0.N) (r : Fin 8) (n : Fin 512) :
    prevRows m c t (ix2 r n) = if h : 8 ≤ 512 * (tileOf t).val + r.val then (args m c).x (seqOf t) ⟨512 * (tileOf t).val + r.val - 8, by omega⟩ n else 0 := by
  have ht := tlt t
  have hr := r.isLt
  have hk : (tileOf t).val = t.val % 16 := rfl
  unfold prevRows
  by_cases h0 : t.val % 16 = 0
  · rw [if_pos h0, dif_neg (by omega), zero_rows]
  · rw [if_neg h0, dif_pos (by omega), rows_apply, x0_apply]
    have e1 : seqOf (before t) = seqOf t := Fin.ext (by show (t.val - 1) / 16 = t.val / 16; omega)
    have e2 : (⟨512 * ((before t).val % 16) + (504 + r.val), by omega⟩ : Fin 8192) = ⟨512 * (tileOf t).val + r.val - 8, by omega⟩ :=
      Fin.ext (by show 512 * ((t.val - 1) % 16) + (504 + r.val) = 512 * (t.val % 16) + r.val - 8; omega)
    dsimp only [args]
    rw [e1, e2]

variable (hG : Finite (args m c))
include hG

theorem tile (k : ℕ) : ∀ t : Fin cfg0.N, t.val % 16 = k → TileOf (args m c) (seqOf t) (tileOf t) (blkAt m c t) (prevRows m c t) (prevState m c t) := by
  induction k with
  | zero =>
    intro t h0
    refine tile_of m c t (prevRows_apply m c t) fun n => ?_
    unfold prevState
    rw [if_pos h0, zero_state]
    have hk : 512 * (tileOf t).val = 0 := by show 512 * (t.val % 16) = 0; omega
    rw [hk]
    rfl
  | succ k ih =>
    intro t h
    have hk : 512 * (tileOf t).val = 512 * (tileOf (before t)).val + 512 := by
      show 512 * (t.val % 16) = 512 * ((t.val - 1) % 16) + 512; omega
    have hq : seqOf t = seqOf (before t) := Fin.ext (by show t.val / 16 = (t.val - 1) / 16; omega)
    refine tile_of m c t (prevRows_apply m c t) fun n => ?_
    unfold prevState
    rw [if_neg (by omega), outs_state, next_apply (ih (before t) (by show (t.val - 1) % 16 = k; omega)) hG, hk, hq]

/-- The output array at an index. -/
theorem final (i : S4x8192x512.Idx) : Cert.KernelIdeal.Value.G10 m c i = layer (args m c) (i 0) (i 1) (i 2) := by
  have h0 : (i 0).val < 4 := (i 0).isLt
  have h1 : (i 1).val < 8192 := (i 1).isLt
  have h2 : (i 2).val < 512 := (i 2).isLt
  have hN : cfg0.N = 64 := N_0
  have hp : Cert.KernelIdeal.Value.pt10Of i = 16 * (i 0).val + (i 1).val / 512 := by
    show 16 * ((i 0).val / 1 - 0) + 1 * ((i 1).val / 512 - 0) + 1 * ((i 2).val / 512 - 0) = _
    omega
  have hlt : Cert.KernelIdeal.Value.pt10Of i < cfg0.N := by rw [hp, hN]; omega
  unfold Cert.KernelIdeal.Value.G10
  rw [dif_pos hlt, ← Cert.KernelIdeal.Value.outsAt0_sweep m c _ hlt, outs_out m c ⟨_, hlt⟩]
  have hl : Cert.KernelIdeal.Value.loc10Of i = ix3 (0 : Fin 1) (⟨(i 1).val % 512, Nat.mod_lt _ (by decide)⟩ : Fin 512) (⟨(i 2).val, h2⟩ : Fin 512) := by
    funext a
    match a with
    | ⟨0, _⟩ => apply Fin.ext; show (i 0).val % 1 = 0; omega
    | ⟨1, _⟩ => rfl
    | ⟨2, _⟩ => apply Fin.ext; show (i 2).val % 512 = (i 2).val; omega
  rw [hl, out_apply (tile m c hG _ ⟨_, hlt⟩ rfl) hG]
  congr 1
  · apply Fin.ext
    show Cert.KernelIdeal.Value.pt10Of i / 16 = (i 0).val
    rw [hp]; omega
  · apply Fin.ext
    show 512 * (Cert.KernelIdeal.Value.pt10Of i % 16) + (i 1).val % 512 = (i 1).val
    rw [hp]; omega

end Cert.KernelIdeal.Lru

end
-- ==== Proof.LruRef.lean ====
/- The recurrence's reference before its loop, read at an index: the convolution, the two gates, the decay and the input of
   every step. -/
module

public import proofs.«01_k».proof.Proof.LruGates
public import proofs.«01_k».proof.Proof.Gen.ReferenceIdeal.Step

@[expose] public section

set_option maxRecDepth 16384

noncomputable section

namespace Cert.ReferenceIdeal.Lru

open Cert.ReferenceIdeal Cert.ReferenceIdeal.Gen Cert.ReferenceIdeal.Step Cert.LruSpec Idealize.ShloMosaic Idealize.ShloMosaic.TcCoe Idealize.SL.Sem

variable (a0 : FVec Ideal S4x8192x4608 .f32) (a1 : FVec Ideal S4x512 .f32) (a2 : FVec Ideal S512 .f32) (a3 : FVec Ideal S4x128x128 .f32)
  (a4 : FVec Ideal S512 .f32) (a5 : FVec Ideal S4x128x128 .f32) (a6 a7 : FVec Ideal S512 .f32)

/-- The reference's arguments as the layer's arrays. -/
def args : Args where
  x s p n := a0 (ix3 s p ⟨2560 + n.val, by omega⟩)
  y s p n := a0 (ix3 s p ⟨3072 + n.val, by omega⟩)
  cw j n := a1 (ix2 j n)
  cb n := a2 (ix1 n)
  wa h i j := a3 (ix3 h i j)
  ba n := a4 (ix1 n)
  wx h i j := a5 (ix3 h i j)
  bx n := a6 (ix1 n)
  lam n := a7 (ix1 n)

theorem zero_i32 : (FloatOps.sitofp FTy.f32 0#32 : Ideal FTy.f32) = (0 : EReal) := by
  show ((((0#32 : BitVec 32).toInt : ℤ) : ℝ) : EReal) = 0
  simp

/-- The padded rows: three rows of zeros, then the argument's. -/
theorem pad_apply (s : Fin 4) (q : Fin 8195) (n : Fin 512) :
    A_main_v1 (F := Ideal) a0 a1 a2 a3 a4 a5 a6 a7 (ix3 s q n) = if h : 3 ≤ q.val then a0 (ix3 s ⟨q.val - 3, by omega⟩ ⟨2560 + n.val, by omega⟩) else 0 := by
  have e : A_main_v1 (F := Ideal) a0 a1 a2 a3 a4 a5 a6 a7 (ix3 s q n) =
      if h : 3 ≤ q.val ∧ q.val - 3 < 8192 then a0 (ix3 s ⟨q.val - 3, h.2⟩ ⟨2560 + n.val, by omega⟩) else (FloatOps.sitofp FTy.f32 0#32 : Ideal FTy.f32) := by
    pointwise [A_main_v1, A_main_v0, K_main_call0_v0, K_main_c]
  rw [e]
  by_cases h : 3 ≤ q.val
  · rw [dif_pos ⟨h, by omega⟩, dif_pos h]
  · rw [dif_neg (fun h' => h h'.1), dif_neg h, zero_i32]

theorem pad_back (s : Fin 4) (p : Fin 8192) (n : Fin 512) (d : ℕ) (hd : d ≤ 3) (q : Fin 8195) (hq : q.val = 3 - d + p.val) :
    A_main_v1 (F := Ideal) a0 a1 a2 a3 a4 a5 a6 a7 (ix3 s q n) = back (args a0 a1 a2 a3 a4 a5 a6 a7) s p d n := by
  rw [pad_apply]
  unfold back
  by_cases h : d ≤ p.val
  · rw [dif_pos (show 3 ≤ q.val by omega), if_pos h]
    show a0 _ = a0 _
    congr 2
    exact Fin.ext (by show q.val - 3 = p.val - d; omega)
  · rw [dif_neg (show ¬ 3 ≤ q.val by omega), if_neg h]

theorem conv_apply (s : Fin 4) (p : Fin 8192) (n : Fin 512) :
    A_main_v31 (F := Ideal) a0 a1 a2 a3 a4 a5 a6 a7 (ix3 s p n) = conv (args a0 a1 a2 a3 a4 a5 a6 a7) s p n := by
  have s0 : A_main_v2 (F := Ideal) a0 a1 a2 a3 a4 a5 a6 a7 (ix3 s p n) = back (args a0 a1 a2 a3 a4 a5 a6 a7) s p 3 n := by
    have e : A_main_v2 (F := Ideal) a0 a1 a2 a3 a4 a5 a6 a7 (ix3 s p n) = A_main_v1 (F := Ideal) a0 a1 a2 a3 a4 a5 a6 a7 (ix3 s ⟨p.val, by omega⟩ n) := by
      pointwise [A_main_v2]
    rw [e, pad_back a0 a1 a2 a3 a4 a5 a6 a7 s p n 3 (by omega) _ (by show _ = 3 - 3 + p.val; simp)]
  have s1 : A_main_v11 (F := Ideal) a0 a1 a2 a3 a4 a5 a6 a7 (ix3 s p n) = back (args a0 a1 a2 a3 a4 a5 a6 a7) s p 2 n := by
    have e : A_main_v11 (F := Ideal) a0 a1 a2 a3 a4 a5 a6 a7 (ix3 s p n) = A_main_v1 (F := Ideal) a0 a1 a2 a3 a4 a5 a6 a7 (ix3 s ⟨1 + p.val, by omega⟩ n) := by
      pointwise [A_main_v11]
    rw [e, pad_back a0 a1 a2 a3 a4 a5 a6 a7 s p n 2 (by omega) _ (by show _ = 3 - 2 + p.val; rfl)]
  have s2 : A_main_v18 (F := Ideal) a0 a1 a2 a3 a4 a5 a6 a7 (ix3 s p n) = back (args a0 a1 a2 a3 a4 a5 a6 a7) s p 1 n := by
    have e : A_main_v18 (F := Ideal) a0 a1 a2 a3 a4 a5 a6 a7 (ix3 s p n) = A_main_v1 (F := Ideal) a0 a1 a2 a3 a4 a5 a6 a7 (ix3 s ⟨2 + p.val, by omega⟩ n) := by
      pointwise [A_main_v18]
    rw [e, pad_back a0 a1 a2 a3 a4 a5 a6 a7 s p n 1 (by omega) _ (by show _ = 3 - 1 + p.val; rfl)]
  have s3 : A_main_v25 (F := Ideal) a0 a1 a2 a3 a4 a5 a6 a7 (ix3 s p n) = back (args a0 a1 a2 a3 a4 a5 a6 a7) s p 0 n := by
    have e : A_main_v25 (F := Ideal) a0 a1 a2 a3 a4 a5 a6 a7 (ix3 s p n) = A_main_v1 (F := Ideal) a0 a1 a2 a3 a4 a5 a6 a7 (ix3 s ⟨3 + p.val, by omega⟩ n) := by
      pointwise [A_main_v25]
    rw [e, pad_back a0 a1 a2 a3 a4 a5 a6 a7 s p n 0 (by omega) _ (by show _ = 3 - 0 + p.val; rfl)]
  have w0 : A_main_v6 (F := Ideal) a0 a1 a2 a3 a4 a5 a6 a7 (ix3 s p n) = a1 (ix2 0 n) := by
    pointwise [A_main_v3, A_main_v4, A_main_v5, A_main_v6]
  have w1 : A_main_v15 (F := Ideal) a0 a1 a2 a3 a4 a5 a6 a7 (ix3 s p n) = a1 (ix2 1 n) := by
    pointwise [A_main_v12, A_main_v13, A_main_v14, A_main_v15]
  have w2 : A_main_v22 (F := Ideal) a0 a1 a2 a3 a4 a5 a6 a7 (ix3 s p n) = a1 (ix2 2 n) := by
    pointwise [A_main_v19, A_main_v20, A_main_v21, A_main_v22]
  have w3 : A_main_v29 (F := Ideal) a0 a1 a2 a3 a4 a5 a6 a7 (ix3 s p n) = a1 (ix2 3 n) := by
    pointwise [A_main_v26, A_main_v27, A_main_v28, A_main_v29]
  have b : A_main_v9 (F := Ideal) a0 a1 a2 a3 a4 a5 a6 a7 (ix3 s p n) = a2 (ix1 n) := by
    pointwise [A_main_v8, A_main_v9]
  have e : A_main_v31 (F := Ideal) a0 a1 a2 a3 a4 a5 a6 a7 (ix3 s p n) =
      ((((A_main_v9 (F := Ideal) a0 a1 a2 a3 a4 a5 a6 a7 (ix3 s p n) : EReal) + A_main_v2 (F := Ideal) a0 a1 a2 a3 a4 a5 a6 a7 (ix3 s p n) * A_main_v6 (F := Ideal) a0 a1 a2 a3 a4 a5 a6 a7 (ix3 s p n))
        + A_main_v11 (F := Ideal) a0 a1 a2 a3 a4 a5 a6 a7 (ix3 s p n) * A_main_v15 (F := Ideal) a0 a1 a2 a3 a4 a5 a6 a7 (ix3 s p n))
        + A_main_v18 (F := Ideal) a0 a1 a2 a3 a4 a5 a6 a7 (ix3 s p n) * A_main_v22 (F := Ideal) a0 a1 a2 a3 a4 a5 a6 a7 (ix3 s p n))
        + A_main_v25 (F := Ideal) a0 a1 a2 a3 a4 a5 a6 a7 (ix3 s p n) * A_main_v29 (F := Ideal) a0 a1 a2 a3 a4 a5 a6 a7 (ix3 s p n) := by
    pointwise [A_main_v31, A_main_v30, A_main_v24, A_main_v23, A_main_v17, A_main_v16, A_main_v10, A_main_v7]
  rw [e, s0, s1, s2, s3, w0, w1, w2, w3, b]
  have e0 : back (args a0 a1 a2 a3 a4 a5 a6 a7) s p 0 n = (args a0 a1 a2 a3 a4 a5 a6 a7).x s p n := by
    unfold back
    rw [if_pos (Nat.zero_le _)]
    rfl
  rw [e0]
  unfold conv
  show a2 (ix1 n) + _ * _ + _ * _ + _ * _ + _ * _ = a2 (ix1 n) + a1 (ix2 3 n) * _ + a1 (ix2 0 n) * _ + a1 (ix2 1 n) * _ + a1 (ix2 2 n) * _
  rw [mul_comm (a1 (ix2 3 n) : EReal), mul_comm (a1 (ix2 0 n) : EReal), mul_comm (a1 (ix2 1 n) : EReal), mul_comm (a1 (ix2 2 n) : EReal)]
  abel

theorem decayGate_apply (s : Fin 4) (p : Fin 8192) (n : Fin 512) :
    A_main_v44 (F := Ideal) a0 a1 a2 a3 a4 a5 a6 a7 (ix3 s p n) = gate (args a0 a1 a2 a3 a4 a5 a6 a7) (args a0 a1 a2 a3 a4 a5 a6 a7).wa (args a0 a1 a2 a3 a4 a5 a6 a7).ba s p n := by
  have e : A_main_v44 (F := Ideal) a0 a1 a2 a3 a4 a5 a6 a7 (ix3 s p n) =
      Ideal.div 1 (1 + Ideal.exp (-(∑ x : Fin 128, (a3 (ix3 ⟨n.val / 128, by omega⟩ x ⟨n.val % 128, by omega⟩) : EReal) *
        A_main_v31 (F := Ideal) a0 a1 a2 a3 a4 a5 a6 a7 (ix3 s p ⟨n.val / 128 * 128 + x.val, by omega⟩) + a4 (ix1 n)))) := by
    pointwise [A_main_v44, A_main_v33, A_main_v34, A_main_v35, A_main_v36, A_main_v37, A_main_v38, A_main_v39, A_main_v40, A_main_v42, A_main_v32, K_main_v43, K_main_cst_0, K_main_v41, K_main_cst]
  rw [e]
  simp only [conv_apply]
  unfold gate Ideal.logistic
  simp only [mul_comm (conv _ _ _ _)]
  rfl

theorem inputGate_apply (s : Fin 4) (p : Fin 8192) (n : Fin 512) :
    A_main_v56 (F := Ideal) a0 a1 a2 a3 a4 a5 a6 a7 (ix3 s p n) = gate (args a0 a1 a2 a3 a4 a5 a6 a7) (args a0 a1 a2 a3 a4 a5 a6 a7).wx (args a0 a1 a2 a3 a4 a5 a6 a7).bx s p n := by
  have e : A_main_v56 (F := Ideal) a0 a1 a2 a3 a4 a5 a6 a7 (ix3 s p n) =
      Ideal.div 1 (1 + Ideal.exp (-(∑ x : Fin 128, (a5 (ix3 ⟨n.val / 128, by omega⟩ x ⟨n.val % 128, by omega⟩) : EReal) *
        A_main_v31 (F := Ideal) a0 a1 a2 a3 a4 a5 a6 a7 (ix3 s p ⟨n.val / 128 * 128 + x.val, by omega⟩) + a6 (ix1 n)))) := by
    pointwise [A_main_v56, A_main_v45, A_main_v46, A_main_v47, A_main_v48, A_main_v49, A_main_v50, A_main_v51, A_main_v52, A_main_v54, A_main_v32, K_main_v55, K_main_cst_2, K_main_v53, K_main_cst_1]
  rw [e]
  simp only [conv_apply]
  unfold gate Ideal.logistic
  simp only [mul_comm (conv _ _ _ _)]
  rfl

theorem soft_apply (n : Fin 512) :
    A_main_v60 (F := Ideal) a0 a1 a2 a3 a4 a5 a6 a7 (ix1 n) = softplus (-(a7 (ix1 n) : EReal)) := by
  have e : A_main_v60 (F := Ideal) a0 a1 a2 a3 a4 a5 a6 a7 (ix1 n) = (if -(a7 (ix1 n) : EReal) ≠ -(a7 (ix1 n) : EReal) then -(a7 (ix1 n) : EReal) else
      max (-(a7 (ix1 n) : EReal)) 0 + Ideal.log1p (Ideal.exp (-FloatOps.absf (F := Ideal) (φ := .f32) (-(a7 (ix1 n) : EReal)))) : EReal) := by
    pointwise [A_main_v60, A_main_call1_v4, A_main_call1_v6, A_main_call1_v11, A_main_call1_v3, A_main_v59, K_main_call1_v2, K_main_call1_cst, A_main_call1_v10, A_main_call1_v9, A_main_call1_v8, A_main_call1_v7, A_main_call1_v1, K_main_call1_v0, K_main_call1_v5]
  rw [e, if_neg (fun h => h rfl)]
  rfl

theorem logA_apply (s : Fin 4) (p : Fin 8192) (n : Fin 512) :
    A_main_v63 (F := Ideal) a0 a1 a2 a3 a4 a5 a6 a7 (ix3 s p n) = logA (args a0 a1 a2 a3 a4 a5 a6 a7) s p n := by
  have e : A_main_v63 (F := Ideal) a0 a1 a2 a3 a4 a5 a6 a7 (ix3 s p n) =
      Ideal.ofBits .f32 0xC1000000#32 * A_main_v44 (F := Ideal) a0 a1 a2 a3 a4 a5 a6 a7 (ix3 s p n) * A_main_v60 (F := Ideal) a0 a1 a2 a3 a4 a5 a6 a7 (ix1 n) := by
    pointwise [A_main_v63, A_main_v62, A_main_v61, A_main_v58, K_main_v57, K_main_cst_3]
  rw [e, decayGate_apply, soft_apply, mul_assoc, mul_comm (gate _ _ _ _ _ _), ← mul_assoc]
  rfl

theorem decay_apply (s : Fin 4) (p : Fin 8192) (n : Fin 512) :
    A_main_v73 (F := Ideal) a0 a1 a2 a3 a4 a5 a6 a7 (ix3 p s n) = decayAt (args a0 a1 a2 a3 a4 a5 a6 a7) s p n := by
  have e : A_main_v73 (F := Ideal) a0 a1 a2 a3 a4 a5 a6 a7 (ix3 p s n) = Ideal.exp (A_main_v63 (F := Ideal) a0 a1 a2 a3 a4 a5 a6 a7 (ix3 s p n)) := by
    pointwise [A_main_v73, A_main_v64]
  rw [e, logA_apply]
  rfl

theorem input_apply (s : Fin 4) (p : Fin 8192) (n : Fin 512) :
    A_main_v74 (F := Ideal) a0 a1 a2 a3 a4 a5 a6 a7 (ix3 p s n) = inputAt (args a0 a1 a2 a3 a4 a5 a6 a7) s p n := by
  have e : A_main_v74 (F := Ideal) a0 a1 a2 a3 a4 a5 a6 a7 (ix3 p s n) =
      Ideal.sqrt (-(Ideal.exp (Ideal.ofBits .f32 0x40000000#32 * A_main_v63 (F := Ideal) a0 a1 a2 a3 a4 a5 a6 a7 (ix3 s p n)) - 1)) *
        (A_main_v56 (F := Ideal) a0 a1 a2 a3 a4 a5 a6 a7 (ix3 s p n) * A_main_v31 (F := Ideal) a0 a1 a2 a3 a4 a5 a6 a7 (ix3 s p n)) := by
    pointwise [A_main_v74, A_main_v71, A_main_v70, A_main_v69, A_main_v68, A_main_v67, A_main_v66, K_main_v65, K_main_cst_4]
  rw [e, logA_apply, inputGate_apply, conv_apply, scale_eq (logA_cases _ s p n)]
  rfl

end Cert.ReferenceIdeal.Lru
-- ==== Proof.LruLoop.lean ====
/- The recurrence's reference, its loop: after `k` trips the carried state is the layer's state after `k` steps and the first
   `k` rows of the carried output are the states of those steps. -/
module

public import proofs.«01_k».proof.Proof.LruRef
public import proofs.«01_k».proof.Proof.Gen.ReferenceIdeal.Run
public import Idealize.ShloMosaic.Lib.WordCmp

@[expose] public section

set_option maxRecDepth 16384

noncomputable section

namespace Cert.ReferenceIdeal.Lru

open Cert.ReferenceIdeal Cert.ReferenceIdeal.Gen Cert.ReferenceIdeal.Step Cert.ReferenceIdeal.Value Cert.LruSpec Idealize.ShloMosaic Idealize.ShloMosaic.TcCoe Idealize.ShloMosaic.StableHlo Idealize.SL.Sem

variable (m : (ℓ : Loc nD τ sig) → Buf (Elt Ideal) ℓ) (c : Dev nD)

/-- The buffers at the loop's entry. -/
def entry : Valuation τ sig (Elt Ideal) := entryContents preI m c

theorem entry_decay : entry m c (Proc.devRef .tc main_v76_0) = A_main_v73 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) := by
  simp only [entry, entryContents, afterL_cons, afterL_nil]
  after_reads_simp
  rfl

theorem entry_input : entry m c (Proc.devRef .tc main_v76_1) = A_main_v74 (F := Ideal) (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7)) := by
  simp only [entry, entryContents, afterL_cons, afterL_nil]
  after_reads_simp
  rfl

theorem entry_state : entry m c (Proc.devRef .tc main_v76_3) = K_main_v72 (F := Ideal) := by
  simp only [entry, entryContents, afterL_cons, afterL_nil]
  after_reads_simp
  rfl

/-! ## One trip -/

section Trip

variable (T : FVec Ideal S8192x4x512 .f32) (k : ℕ) (hk : k < 8192)

include hk

theorem start_eq (a : Fin 3) :
    ((![(fun _ => BitVec.ofNat 32 k), constantI S_ 32 0#32, constantI S_ 32 0#32] : Fin 3 → (⟨S_, .i32⟩ : BufTy).Contents (Elt Ideal)) a (Shape.Idx.first h_S_)).toInt =
      (((![k, 0, 0] : Fin 3 → ℕ) a : ℕ) : ℤ) := by
  fin_cases a
  · show (BitVec.ofNat 32 k).toInt = (k : ℤ)
    rw [BitVec.toInt_eq_toNat_of_lt (by rw [BitVec.toNat_ofNat]; omega), BitVec.toNat_ofNat, Nat.mod_eq_of_lt (by omega)]
  · rfl
  · rfl

theorem fits : S8192x4x512.Slices ![k, 0, 0] S1x4x512 := by
  refine ⟨rfl, fun a => ?_⟩
  fin_cases a
  · show k + 1 ≤ 8192
    omega
  · show 0 + 4 ≤ 4
    omega
  · show 0 + 512 ≤ 512
    omega

/-- Row `k` of a sequence. -/
theorem row_apply (s : Fin 4) (n : Fin 512) :
    shapeCast (α := Ideal .f32) S4x512 (Host.dynamicSlice S1x4x512 T (fun a => ((![(fun _ => BitVec.ofNat 32 k), constantI S_ 32 0#32, constantI S_ 32 0#32] :
      Fin 3 → (⟨S_, .i32⟩ : BufTy).Contents (Elt Ideal)) a (Shape.Idx.first h_S_)).toInt) sliceFits_S8192x4x512_S1x4x512) shapeCasts_S1x4x512_S4x512 (ix2 s n) =
    T (ix3 ⟨k, hk⟩ s n) := by
  rw [WordCmp.dynamicSlice_eq_extract S1x4x512 T _ sliceFits_S8192x4x512_S1x4x512 ![k, 0, 0] (fits k hk) (start_eq k hk)]
  pointwise

/-- Row `k` of a sequence replaced. -/
theorem put_apply (R : FVec Ideal S4x512 .f32) (p : Fin 8192) (s : Fin 4) (n : Fin 512) :
    Host.dynamicUpdateSlice T (broadcastInDim S1x4x512 ![1, 2] bcast_S4x512_S1x4x512_1_2 R) (fun a => ((![(fun _ => BitVec.ofNat 32 k), constantI S_ 32 0#32, constantI S_ 32 0#32] :
      Fin 3 → (⟨S_, .i32⟩ : BufTy).Contents (Elt Ideal)) a (Shape.Idx.first h_S_)).toInt) updateFits_S8192x4x512_S1x4x512 (ix3 p s n) =
    if p.val = k then R (ix2 s n) else T (ix3 p s n) := by
  rw [WordCmp.dynamicUpdateSlice_eq_update T _ _ updateFits_S8192x4x512_S1x4x512 ![k, 0, 0] (fits k hk) (start_eq k hk)]
  pointwise
  by_cases h : p.val = k
  · rw [if_pos h]
    simp [h]
  · rw [if_neg h]
    simp only [dite_eq_ite]
    rw [if_neg]
    omega

end Trip

/-! ## All trips -/

/-- The launch's arguments as the layer's arrays. -/
def argsOf : Args :=
  args (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7))

/-- The carried state, the rows written, and the value a trip computes. -/
def carried (V : Valuation τ sig (Elt Ideal)) : FVec Ideal S4x512 .f32 := V (Proc.devRef .tc main_v76_3)
def written (V : Valuation τ sig (Elt Ideal)) : FVec Ideal S8192x4x512 .f32 := V (Proc.devRef .tc main_v76_4)
def value (V : Valuation τ sig (Elt Ideal)) : FVec Ideal S4x512 .f32 := res_main_while0b_v97 V

/-- The carried buffers after `k` trips. -/
structure After (V : Valuation τ sig (Elt Ideal)) (k : ℕ) : Prop where
  decay : V (Proc.devRef .tc main_v76_0) = entry m c (Proc.devRef .tc main_v76_0)
  input : V (Proc.devRef .tc main_v76_1) = entry m c (Proc.devRef .tc main_v76_1)
  trip : V (Proc.devRef .tc main_v76_2) = fun _ => BitVec.ofNat 32 k
  state : ∀ (s : Fin 4) (n : Fin 512), (carried V (ix2 s n) : EReal) = (H (argsOf m c) s n k : ℝ)
  rows : ∀ (p : Fin 8192) (s : Fin 4) (n : Fin 512), p.val < k → (written V (ix3 p s n) : EReal) = (H (argsOf m c) s n (p.val + 1) : ℝ)

variable {m c}

theorem after_zero : After m c (entry m c) 0 where
  decay := rfl
  input := rfl
  trip := ctr_entry m c
  state s n := by
    unfold carried
    rw [entry_state]
    show Ideal.ofBits .f32 0x00000000#32 = _
    simp [H, LruSpec.state, Ideal.ofBits, Ideal.ieee]
  rows p s n h := absurd h (Nat.not_lt_zero _)

section Step

variable (hG : Finite (argsOf m c)) {V : Valuation τ sig (Elt Ideal)} {k : ℕ} (hk : k < 8192) (hV : After m c V k)

include hG hk hV

theorem value_eq (s : Fin 4) (n : Fin 512) : (value V (ix2 s n) : EReal) = (H (argsOf m c) s n (k + 1) : ℝ) := by
  have e : (value V (ix2 s n) : EReal) =
      (A_main_v73 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix3 ⟨k, hk⟩ s n) : EReal) *
        carried V (ix2 s n) +
      (A_main_v74 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (ix3 ⟨k, hk⟩ s n) : EReal) := by
    unfold value res_main_while0b_v97
    rw [hV.decay, hV.input, hV.trip, entry_decay, entry_input]
    exact congrArg₂ (· + ·) (congrArg (· * _) (row_apply _ k hk s n)) (row_apply _ k hk s n)
  rw [e, hV.state, decay_apply, input_apply]
  show decayAt (argsOf m c) s ⟨k, hk⟩ n * _ + inputAt (argsOf m c) s ⟨k, hk⟩ n = _
  rw [decayAt_real, inputAt_real hG]
  show _ = ((aReal (argsOf m c) s n k * H (argsOf m c) s n k + uReal (argsOf m c) s n k : ℝ) : EReal)
  push_cast
  rfl

theorem after_succ : After m c (STEP V) (k + 1) where
  decay := (STEP_main_v76_0 V).trans hV.decay
  input := (STEP_main_v76_1 V).trans hV.input
  trip := by
    rw [STEP_main_v76_2]
    unfold Value.step_main_v76_2
    rw [hV.trip]
    funext i
    show BitVec.ofNat 32 k + 1#32 = BitVec.ofNat 32 (k + 1)
    rw [BitVec.ofNat_add]
  state s n := by
    unfold carried
    rw [STEP_main_v76_3]
    exact value_eq hG hk hV s n
  rows p s n h := by
    unfold written
    rw [STEP_main_v76_4]
    unfold Value.step_main_v76_4
    rw [hV.trip]
    refine (put_apply _ k hk (res_main_while0b_v97 V) p s n).trans ?_
    by_cases hp : p.val = k
    · rw [if_pos hp, hp]
      exact value_eq hG hk hV s n
    · rw [if_neg hp]
      exact hV.rows p s n (by omega)

end Step

theorem after_all (hG : Finite (argsOf m c)) : ∀ k, k ≤ 8192 → After m c (STEP^[k] (entry m c)) k
  | 0, _ => after_zero
  | k + 1, h => by
    rw [Function.iterate_succ_apply']
    exact after_succ hG (by omega) (after_all hG k (by omega))

/-- The reference's result is the layer's output. -/
theorem out_apply (hG : Finite (argsOf m c)) (s : Fin 4) (p : Fin 8192) (n : Fin 512) :
    (out_main_v93 (STEP^[8192] (entry m c)) : FVec Ideal S4x8192x512 .bf16) (ix3 s p n) = layer (argsOf m c) s p n := by
  have hA := after_all hG 8192 le_rfl
  generalize hX : STEP^[8192] (entry m c) = X at hA ⊢
  have hy : X (Proc.devRef .tc main_arg0) = m (c.tc.loc main_arg0) := by
    rw [← hX]
    exact iter_main_arg0 m c 8192
  unfold out_main_v93
  rw [hy]
  have e : ∀ (O : FVec Ideal S8192x4x512 .f32) (a0 : FVec Ideal S4x8192x4608 .f32),
      (truncf .bf16 (mulf (transpose S4x8192x512 [1, 0, 2] O transposes_S8192x4x512_S4x8192x512_1_0_2) (mulf (extractStridedSlice S4x8192x512 ![0, 0, 3072] a0 slices_S4x8192x4608_S4x8192x512_0_0_3072) (mulf (broadcastInDim S4x8192x512 ![] bcast_S_S4x8192x512 (constant S_ .f32 0x3F000000#32)) (addf (broadcastInDim S4x8192x512 ![] bcast_S_S4x8192x512 (constant S_ .f32 0x3F800000#32)) (Host.tanh (mulf (broadcastInDim S4x8192x512 ![] bcast_S_S4x8192x512 (constant S_ .f32 0x3F4C422A#32)) (addf (extractStridedSlice S4x8192x512 ![0, 0, 3072] a0 slices_S4x8192x4608_S4x8192x512_0_0_3072) (mulf (broadcastInDim S4x8192x512 ![] bcast_S_S4x8192x512 (constant S_ .f32 0x3D372713#32)) (mulf (mulf (extractStridedSlice S4x8192x512 ![0, 0, 3072] a0 slices_S4x8192x4608_S4x8192x512_0_0_3072) (extractStridedSlice S4x8192x512 ![0, 0, 3072] a0 slices_S4x8192x4608_S4x8192x512_0_0_3072)) (extractStridedSlice S4x8192x512 ![0, 0, 3072] a0 slices_S4x8192x4608_S4x8192x512_0_0_3072)))))))))) bitsLt_bf16_f32 : FVec Ideal S4x8192x512 .bf16) (ix3 s p n) =
      (O (ix3 p s n) : EReal) * ((a0 (ix3 s p ⟨3072 + n.val, by omega⟩) : EReal) * (Ideal.ofBits .f32 0x3F000000#32 * (1 + Ideal.tanh (Ideal.ofBits .f32 0x3F4C422A#32 * (a0 (ix3 s p ⟨3072 + n.val, by omega⟩) + Ideal.ofBits .f32 0x3D372713#32 * (a0 (ix3 s p ⟨3072 + n.val, by omega⟩) * a0 (ix3 s p ⟨3072 + n.val, by omega⟩) * a0 (ix3 s p ⟨3072 + n.val, by omega⟩))))))) := by
    intro O a0
    pointwise
  refine (e _ _).trans ?_
  have h4 := hA.rows p s n p.isLt
  unfold written at h4
  rw [h4]
  unfold layer gelu
  rw [← mul_assoc ((argsOf m c).y s p n) ((argsOf m c).y s p n)]
  rfl

end Cert.ReferenceIdeal.Lru
-- ==== Proof.LruClaim.lean ====
/- The recurrence's kernel and its reference, from the same arguments with finite rows and a finite convolution, leave the same
   result. -/
module

public import proofs.«01_k».proof.Defs
public import proofs.«01_k».proof.Proof.LruValue
public import proofs.«01_k».proof.Proof.LruLoop

@[expose] public section

set_option maxRecDepth 16384

noncomputable section

namespace Cert.Pre_finite_inputs

open Idealize.ShloMosaic

/-- The function's side conditions. -/
theorem facts : Facts where
  slices_S4x8192x4608_S4x8192x512_0_0_2560 := by decide
  bcast_S_S4x8192x512 := by decide
  bcast_S_S512 := by decide
  bcast_S512_S1x1x512_2 := by decide
  bcast_S1x1x512_S4x8192x512_0_1_2 := by decide
  slices_S4x512_S1x512_0_0 := by decide
  shapeCasts_S1x512_S512 := by decide
  slices_S4x512_S1x512_1_0 := by decide
  slices_S4x512_S1x512_2_0 := by decide
  slices_S4x512_S1x512_3_0 := by decide

attribute [local instance] facts

variable (a0 : FVec Ideal S4x8192x4608 .f32) (a1 : FVec Ideal S4x512 .f32) (a2 : FVec Ideal S512 .f32) (a3 : FVec Ideal S4x128x128 .f32)
  (a4 : FVec Ideal S512 .f32) (a5 : FVec Ideal S4x128x128 .f32) (a6 a7 : FVec Ideal S512 .f32)

theorem and_one (a b : BitVec 1) : IntOp.andi a b = 1#1 ↔ a = 1#1 ∧ b = 1#1 := by
  show a &&& b = 1#1 ↔ _
  revert a b
  decide

theorem finite_of_one {v : EReal} (h : BitVec.ofBool (decide (FloatOps.absf (F := Ideal) (φ := .f32) v < Ideal.ofBits .f32 2139095040#32)) = 1#1) :
    ∃ r : ℝ, v = r := by
  have hb : FloatOps.absf (F := Ideal) (φ := .f32) v < Ideal.ofBits .f32 2139095040#32 := by
    by_contra hn
    rw [decide_eq_false hn] at h
    exact absurd h (by decide)
  have ht : Ideal.ofBits .f32 2139095040#32 = (⊤ : EReal) := by
    simp [Ideal.ofBits, Ideal.ieee]
  rw [ht] at hb
  induction v using EReal.rec with
  | bot => exact absurd hb (by show ¬ max (⊥ : EReal) (-⊥) < ⊤; simp)
  | top => exact absurd hb (by show ¬ max (⊤ : EReal) (-⊤) < ⊤; simp)
  | coe r => exact ⟨r, rfl⟩

/-- Where the function is all ones, the rows and the convolution's weights and biases are finite. -/
theorem finite_of_fn (h : fn (F := Ideal) a0 a1 a2 a3 a4 a5 a6 a7 = fun _ => 1#1) (s : Fin 4) (p : Fin 8192) (n : Fin 512) :
    (∃ r : ℝ, (a0 (ix3 s p ⟨2560 + n.val, by omega⟩) : EReal) = r) ∧ (∃ r : ℝ, (a2 (ix1 n) : EReal) = r) ∧ ∀ j : Fin 4, ∃ r : ℝ, (a1 (ix2 j n) : EReal) = r := by
  have e := congrFun h (ix3 s p n)
  have e' : fn (F := Ideal) a0 a1 a2 a3 a4 a5 a6 a7 (ix3 s p n) =
      IntOp.andi (IntOp.andi (IntOp.andi (IntOp.andi (IntOp.andi
        (BitVec.ofBool (decide (FloatOps.absf (F := Ideal) (φ := .f32) (a0 (ix3 s p ⟨2560 + n.val, by omega⟩)) < Ideal.ofBits .f32 2139095040#32)))
        (BitVec.ofBool (decide (FloatOps.absf (F := Ideal) (φ := .f32) (a2 (ix1 n)) < Ideal.ofBits .f32 2139095040#32))))
        (BitVec.ofBool (decide (FloatOps.absf (F := Ideal) (φ := .f32) (a1 (ix2 0 n)) < Ideal.ofBits .f32 2139095040#32))))
        (BitVec.ofBool (decide (FloatOps.absf (F := Ideal) (φ := .f32) (a1 (ix2 1 n)) < Ideal.ofBits .f32 2139095040#32))))
        (BitVec.ofBool (decide (FloatOps.absf (F := Ideal) (φ := .f32) (a1 (ix2 2 n)) < Ideal.ofBits .f32 2139095040#32))))
        (BitVec.ofBool (decide (FloatOps.absf (F := Ideal) (φ := .f32) (a1 (ix2 3 n)) < Ideal.ofBits .f32 2139095040#32))) := by
    pointwise [fn, fn_part1]
  rw [e'] at e
  simp only [and_one] at e
  obtain ⟨⟨⟨⟨⟨hx, hb⟩, h0⟩, h1⟩, h2⟩, h3⟩ := e
  refine ⟨finite_of_one hx, finite_of_one hb, fun j => ?_⟩
  fin_cases j
  · exact finite_of_one h0
  · exact finite_of_one h1
  · exact finite_of_one h2
  · exact finite_of_one h3

end Cert.Pre_finite_inputs

namespace Cert.Proof

open Idealize.ShloMosaic Idealize.ShloMosaic.TcCoe Idealize.SL.Sem

theorem lru_finite (m : (ℓ : Loc Cert.KernelIdeal.nD Cert.KernelIdeal.τ Cert.KernelIdeal.sig) → Buf (Elt Ideal) ℓ)
    (h : Cert.Pre_KernelIdeal_finite_inputs (hPre_finite_inputs := Cert.Pre_finite_inputs.facts) m) (c : Dev Cert.KernelIdeal.nD) :
    Cert.LruSpec.Finite (Cert.KernelIdeal.Lru.args m c) where
  x s p n := (Cert.Pre_finite_inputs.finite_of_fn _ _ _ _ _ _ _ _ (h c) s p n).1
  cw j n := (Cert.Pre_finite_inputs.finite_of_fn _ _ _ _ _ _ _ _ (h c) 0 0 n).2.2 j
  cb n := (Cert.Pre_finite_inputs.finite_of_fn _ _ _ _ _ _ _ _ (h c) 0 0 n).2.1

theorem lru_algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hagree
  refine ⟨fun c => Cert.KernelIdeal.Value.G10 m c, Cert.KernelIdeal.Value.run m g, ?_⟩
  refine (θ_run Cert.ReferenceIdeal.defs _ _).mono (fun r h c => ⟨?_, (h c).2⟩) (Cert.ReferenceIdeal.Value.run m' g')
  rw [(h c).1]
  have same : Cert.ReferenceIdeal.Lru.argsOf m' c = Cert.KernelIdeal.Lru.args m c := by
    obtain ⟨e0, e1, e2, e3, e4, e5, e6, e7⟩ := hagree c
    unfold Cert.ReferenceIdeal.Lru.argsOf
    rw [e0, e1, e2, e3, e4, e5, e6, e7]
    rfl
  have hG := lru_finite m hpre c
  funext i
  refine Eq.trans ?_ (Cert.KernelIdeal.Lru.final m c hG i).symm
  rw [← same] at hG ⊢
  have hi : i = ix3 (i 0) (i 1) (i 2) := by
    funext a
    fin_cases a <;> rfl
  rw [hi]
  exact Cert.ReferenceIdeal.Lru.out_apply hG (i 0) (i 1) (i 2)

end Cert.Proof

end
-- ==== Proof.ProjBlocks.lean ====
/- The blocks of a grid point of the input projection kernel, read from the launch arguments: the tile's rows of the
   input, the layer norm's scale and bias, and the weights and biases with their columns moved. -/
module

public import proofs.«01_k».proof.Proof.ProjHost
public import Idealize.ShloMosaic.Lib.Pipeline.ValueKit
public import Idealize.ShloMosaic.Lib.Pipeline.ReadBack
public import Idealize.ShloMosaic.Lib.Pointwise
public import proofs.«01_k».proof.Proof.ProjSpec

@[expose] public section

set_option maxRecDepth 16384

noncomputable section

namespace Cert.Kernel3Ideal.Proj

open Cert.Kernel3Ideal Cert.Kernel3Ideal.Gen Cert.ProjSpec Idealize.ShloMosaic Idealize.ShloMosaic.TcCoe Idealize.SL.Sem

variable (m : (ℓ : Loc nD τ sig) → Buf (Elt Ideal) ℓ) (c : Dev nD)

/-- Which block each window holds at a grid point. -/
theorem idx : ∀ t : Fin cfg0.N, win0_0.index t = ![t.val, 0] ∧ win0_1.index t = ![0, 0] ∧ win0_2.index t = ![0, 0] ∧ win0_3.index t = ![0, 0, 0]
    ∧ win0_4.index t = ![0, 0, 0] ∧ win0_5.index t = ![t.val, 0] ∧ win0_6.index t = ![t.val, 0] ∧ win0_7.index t = ![t.val, 0] :=
  (by decide +kernel : ∀ t : Fin grid0.N, _)

theorem tlt (t : Fin cfg0.N) : t.val < 64 := lt_of_lt_of_eq t.isLt N_0

/-- Tile `t`'s row `r` belongs to sequence `(512 * t + r) / 8192`, at position `(512 * t + r) % 8192`. -/
def seqOf (t : Fin cfg0.N) (r : Fin 512) : Fin 4 := ⟨(512 * t.val + r.val) / 8192, by have := tlt t; omega⟩
def posOf (t : Fin cfg0.N) (r : Fin 512) : Fin 8192 := ⟨(512 * t.val + r.val) % 8192, by omega⟩
def rowOf (t : Fin cfg0.N) (r : Fin 512) : Fin 32768 := ⟨512 * t.val + r.val, by have := tlt t; omega⟩

theorem x0_apply (t : Fin cfg0.N) (r : Fin 512) (d : Fin 1024) : (iblk m c 0 t : Vec Ideal S512x1024 .f32) (ix2 r d) = m ((c : Thread nD τ).loc main_arg0) (ix3 (seqOf t r) (posOf t r) d) := by
  have ht := tlt t
  unfold seqOf posOf
  blk_simp [iblk, idx t]
  entry_read
  pointwise
  blk_ext [idx t]

theorem x1_apply (t : Fin cfg0.N) (d : Fin 1024) : (iblk m c 1 t : Vec Ideal S1x1024 .f32) (ix2 0 d) = m ((c : Thread nD τ).loc main_arg1) (ix1 d) := by
  have ht := tlt t
  blk_simp [iblk, idx t]
  entry_read
  pointwise
  blk_ext [idx t]

theorem x2_apply (t : Fin cfg0.N) (d : Fin 1024) : (iblk m c 2 t : Vec Ideal S1x1024 .f32) (ix2 0 d) = m ((c : Thread nD τ).loc main_arg2) (ix1 d) := by
  have ht := tlt t
  blk_simp [iblk, idx t]
  entry_read
  pointwise
  blk_ext [idx t]

theorem x3_apply (t : Fin cfg0.N) (k : Fin 1024) (n : Fin 7680) :
    (iblk m c 3 t : Vec Ideal S1x1024x7680 .bf16) (ix3 0 k n) = entry (fun s => m ((c : Thread nD τ).loc main_arg3) (ix3 0 k s)) (moved n.val) := by
  rw [← wMoved]
  have ht := tlt t
  blk_ext [iblk, idx t]

theorem bias_row (n : Fin 7680) : (V m c main_v43 : Vec Ideal S2x1x7680 .f32) (ix3 0 0 n) = (V m c main_v42 : Vec Ideal S2x7680 .f32) (ix2 0 n) := by
  have e : ∀ σ : Valuation τ sig (Elt Ideal), StableHlo.after (List.drop 41 hostOps0) σ main_v43 =
      broadcastInDim S2x1x7680 ![0, 2] bcast_S2x7680_S2x1x7680_0_2 (StableHlo.after (List.drop 41 hostOps0) σ main_v42 : Vec Ideal S2x7680 .f32) := by
    intro σ
    simp only [hostOps0, List.drop_succ_cons, List.drop_zero]
    after_reads_simp
  rw [b_split, e, b_split]
  generalize StableHlo.after (List.drop 41 hostOps0) (StableHlo.after (List.take 41 hostOps0) fun b => m (c, b)) main_v42 = v
  pointwise

theorem x4_apply (t : Fin cfg0.N) (n : Fin 7680) :
    (iblk m c 4 t : Vec Ideal S1x1x7680 .f32) (ix3 0 0 n) = entry (fun s => m ((c : Thread nD τ).loc main_arg4) (ix2 0 s)) (moved n.val) := by
  rw [← bMoved, ← bias_row]
  have ht := tlt t
  blk_ext [iblk, idx t]

theorem read5 (t : Fin cfg0.N) (G : S32768x3072.Idx → EReal) (r : Fin 512) (d : Fin 3072) :
    (((cfg0.win 5).blk t).view.read (Elt Ideal) G : Vec Ideal S512x3072 .bf16) (ix2 r d) = G (ix2 (rowOf t r) d) := by
  have ht := tlt t
  unfold rowOf
  blk_ext [idx t]

theorem read6 (t : Fin cfg0.N) (G : S32768x4608.Idx → EReal) (r : Fin 512) (d : Fin 4608) :
    (((cfg0.win 6).blk t).view.read (Elt Ideal) G : Vec Ideal S512x4608 .f32) (ix2 r d) = G (ix2 (rowOf t r) d) := by
  have ht := tlt t
  unfold rowOf
  blk_ext [idx t]

theorem read7 (t : Fin cfg0.N) (G : S32768x1024.Idx → EReal) (r : Fin 512) (d : Fin 1024) :
    (((cfg0.win 7).blk t).view.read (Elt Ideal) G : Vec Ideal S512x1024 .f32) (ix2 r d) = G (ix2 (rowOf t r) d) := by
  have ht := tlt t
  unfold rowOf
  blk_ext [idx t]

end Cert.Kernel3Ideal.Proj

end
-- ==== Proof.ProjTile.lean ====
/- What the input projection kernel's body leaves in a tile's three result blocks, from the tile's operand blocks: the
   layer norm's rows, and their products with the weights' columns plus the bias. -/
module

public import proofs.«01_k».proof.Proof.Gen.Kernel3Ideal.Value
public import proofs.«01_k».proof.Proof.ProjSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Proj

open Cert.Kernel3Ideal Cert.Kernel3Ideal.Gen Cert.ProjSpec Cert.FfnSpec Idealize.ShloMosaic Idealize.ShloMosaic.TcCoe Idealize.SL.Sem

variable (x0 : Vec Ideal S512x1024 .f32) (x1 x2 : Vec Ideal S1x1024 .f32) (x3 : Vec Ideal S1x1024x7680 .bf16) (x4 : Vec Ideal S1x1x7680 .f32)

/-- The layer norm's row `r` of a tile. -/
def nrow (r : Fin 512) : Fin 1024 → EReal := lnorm (fun d => x0 (ix2 r d)) (fun d => x1 (ix2 0 d)) (fun d => x2 (ix2 0 d))

/-- Row `r` of a tile against column `q` of the weights, plus the bias. -/
def column (r : Fin 512) (q : Fin 7680) : EReal := ∑ k, nrow x0 x1 x2 r k * x3 (ix3 0 k q) + x4 (ix3 0 0 q)

theorem norm_apply (r : Fin 512) (d : Fin 1024) : k0_pay2 (View.ld x0 r0_0) (View.ld x1 r0_1) (View.ld x2 r0_1) (ix2 r d) = nrow x0 x1 x2 r d := by
  unfold nrow lnorm mean
  pointwise [k0_pay2]

theorem norm8_apply (r : Fin 512) (d : Fin 1024) : k0_pay8 x0 x1 x2 x3 x4 (ix2 r d) = nrow x0 x1 x2 r d := by
  rw [← norm_apply]
  pointwise [k0_pay8, k0_pay3]

theorem pay4_eq (w : Vec Ideal S1x1024x1536 .bf16) (b : Vec Ideal S1x1x1536 .f32) :
    k0_pay4 (View.ld x0 r0_0) (View.ld x1 r0_1) (View.ld x2 r0_1) w b = k0_pay5 (k0_pay8 x0 x1 x2 x3 x4) w b := rfl

theorem part5_apply (r : Fin 512) (n : Fin 1536) : k0_pay5 (k0_pay8 x0 x1 x2 x3 x4) (View.ld x3 r0_5) (View.ld x4 r0_6) (ix2 r n) = column x0 x1 x2 x3 x4 r ⟨1536 + n.val, by omega⟩ := by
  have e : ∀ X : FVec Ideal S512x1024 .bf16, k0_pay5 X (View.ld x3 r0_5) (View.ld x4 r0_6) (ix2 r n) =
      ∑ k : Fin 1024, X (ix2 r k) * x3 (ix3 0 k ⟨1536 + n.val, by omega⟩) + x4 (ix3 0 0 ⟨1536 + n.val, by omega⟩) := by
    intro X
    pointwise [k0_pay5]
  rw [e]
  unfold column
  exact congrArg (· + _) (Finset.sum_congr rfl fun k _ => congrArg (· * _) (norm8_apply x0 x1 x2 x3 x4 r k))

theorem part4_apply (r : Fin 512) (n : Fin 1536) : k0_pay5 (k0_pay8 x0 x1 x2 x3 x4) (View.ld x3 r0_2) (View.ld x4 r0_3) (ix2 r n) = column x0 x1 x2 x3 x4 r ⟨n.val, by omega⟩ := by
  have e : ∀ X : FVec Ideal S512x1024 .bf16, k0_pay5 X (View.ld x3 r0_2) (View.ld x4 r0_3) (ix2 r n) =
      ∑ k : Fin 1024, X (ix2 r k) * x3 (ix3 0 k ⟨n.val, by omega⟩) + x4 (ix3 0 0 ⟨n.val, by omega⟩) := by
    intro X
    pointwise [k0_pay5]
  rw [e]
  unfold column
  exact congrArg (· + _) (Finset.sum_congr rfl fun k _ => congrArg (· * _) (norm8_apply x0 x1 x2 x3 x4 r k))

theorem part6_apply (r : Fin 512) (n : Fin 1536) : k0_pay6 (k0_pay8 x0 x1 x2 x3 x4) (View.ld x3 r0_8) (View.ld x4 r0_9) (ix2 r n) = column x0 x1 x2 x3 x4 r ⟨3072 + n.val, by omega⟩ := by
  have e : ∀ X : FVec Ideal S512x1024 .bf16, k0_pay6 X (View.ld x3 r0_8) (View.ld x4 r0_9) (ix2 r n) =
      ∑ k : Fin 1024, X (ix2 r k) * x3 (ix3 0 k ⟨3072 + n.val, by omega⟩) + x4 (ix3 0 0 ⟨3072 + n.val, by omega⟩) := by
    intro X
    pointwise [k0_pay6]
  rw [e]
  unfold column
  exact congrArg (· + _) (Finset.sum_congr rfl fun k _ => congrArg (· * _) (norm8_apply x0 x1 x2 x3 x4 r k))

theorem part7_apply (r : Fin 512) (n : Fin 1536) : k0_pay7 (k0_pay8 x0 x1 x2 x3 x4) (View.ld x3 r0_11) (View.ld x4 r0_12) (ix2 r n) = column x0 x1 x2 x3 x4 r ⟨4608 + n.val, by omega⟩ := by
  have e : ∀ X : FVec Ideal S512x1024 .bf16, k0_pay7 X (View.ld x3 r0_11) (View.ld x4 r0_12) (ix2 r n) =
      ∑ k : Fin 1024, X (ix2 r k) * x3 (ix3 0 k ⟨4608 + n.val, by omega⟩) + x4 (ix3 0 0 ⟨4608 + n.val, by omega⟩) := by
    intro X
    pointwise [k0_pay7]
  rw [e]
  unfold column
  exact congrArg (· + _) (Finset.sum_congr rfl fun k _ => congrArg (· * _) (norm8_apply x0 x1 x2 x3 x4 r k))

theorem part1_apply (r : Fin 512) (n : Fin 1536) : k0_pay1 (k0_pay8 x0 x1 x2 x3 x4) (View.ld x3 r0_14) (View.ld x4 r0_15) (ix2 r n) = column x0 x1 x2 x3 x4 r ⟨6144 + n.val, by omega⟩ := by
  have e : ∀ X : FVec Ideal S512x1024 .bf16, k0_pay1 X (View.ld x3 r0_14) (View.ld x4 r0_15) (ix2 r n) =
      ∑ k : Fin 1024, X (ix2 r k) * x3 (ix3 0 k ⟨6144 + n.val, by omega⟩) + x4 (ix3 0 0 ⟨6144 + n.val, by omega⟩) := by
    intro X
    pointwise [k0_pay1]
  rw [e]
  unfold column
  exact congrArg (· + _) (Finset.sum_congr rfl fun k _ => congrArg (· * _) (norm8_apply x0 x1 x2 x3 x4 r k))

theorem out5_apply (r : Fin 512) (n : Fin 3072) : out0_5 x0 x1 x2 x3 x4 (ix2 r n) = column x0 x1 x2 x3 x4 r ⟨n.val, by omega⟩ := by
  unfold out0_5
  refine View.canon_apply_of_pieces (Val := Elt Ideal) (fun y : S512x3072.Idx => column x0 x1 x2 x3 x4 ⟨(y 0).val, (y 0).isLt⟩ ⟨(y 1).val, by have h : (y 1).val < 3072 := (y 1).isLt; omega⟩) _ ?_ (ix2 r n) (cover0_5 _ _ _)
  intro pc hpc
  simp only [List.mem_cons, List.not_mem_nil, or_false] at hpc
  rcases hpc with rfl | rfl
  · intro i
    idx_vars i
    refine (part5_apply x0 x1 x2 x3 x4 _ _).trans ?_
    exact congrArg₂ (column x0 x1 x2 x3 x4) (Fin.ext (by show i0.val = 0 + 1 * i0.val; omega)) (Fin.ext (by show 1536 + i1.val = (1536 + 1 * i1.val); omega))
  · intro i
    idx_vars i
    rw [pay4_eq x0 x1 x2 x3 x4]; refine (part4_apply x0 x1 x2 x3 x4 _ _).trans ?_
    exact congrArg₂ (column x0 x1 x2 x3 x4) (Fin.ext (by show i0.val = 0 + 1 * i0.val; omega)) (Fin.ext (by show i1.val = (0 + 1 * i1.val); omega))

theorem out6_apply (r : Fin 512) (n : Fin 4608) : out0_6 x0 x1 x2 x3 x4 (ix2 r n) = column x0 x1 x2 x3 x4 r ⟨3072 + n.val, by omega⟩ := by
  unfold out0_6
  refine View.canon_apply_of_pieces (Val := Elt Ideal) (fun y : S512x4608.Idx => column x0 x1 x2 x3 x4 ⟨(y 0).val, (y 0).isLt⟩ ⟨3072 + (y 1).val, by have h : (y 1).val < 4608 := (y 1).isLt; omega⟩) _ ?_ (ix2 r n) (cover0_6 _ _ _ _)
  intro pc hpc
  simp only [List.mem_cons, List.not_mem_nil, or_false] at hpc
  rcases hpc with rfl | rfl | rfl
  · intro i
    idx_vars i
    refine (part1_apply x0 x1 x2 x3 x4 _ _).trans ?_
    exact congrArg₂ (column x0 x1 x2 x3 x4) (Fin.ext (by show i0.val = 0 + 1 * i0.val; omega)) (Fin.ext (by show 6144 + i1.val = 3072 + (3072 + 1 * i1.val); omega))
  · intro i
    idx_vars i
    refine (part7_apply x0 x1 x2 x3 x4 _ _).trans ?_
    exact congrArg₂ (column x0 x1 x2 x3 x4) (Fin.ext (by show i0.val = 0 + 1 * i0.val; omega)) (Fin.ext (by show 4608 + i1.val = 3072 + (1536 + 1 * i1.val); omega))
  · intro i
    idx_vars i
    refine (part6_apply x0 x1 x2 x3 x4 _ _).trans ?_
    exact congrArg₂ (column x0 x1 x2 x3 x4) (Fin.ext (by show i0.val = 0 + 1 * i0.val; omega)) (Fin.ext (by show 3072 + i1.val = 3072 + (0 + 1 * i1.val); omega))

theorem out7_apply (r : Fin 512) (d : Fin 1024) : out0_7 x0 x1 x2 x3 x4 (ix2 r d) = nrow x0 x1 x2 r d := by
  unfold out0_7
  refine View.canon_apply_of_pieces (Val := Elt Ideal) (fun y : S512x1024.Idx => nrow x0 x1 x2 ⟨(y 0).val, (y 0).isLt⟩ ⟨(y 1).val, (y 1).isLt⟩) _ ?_ (ix2 r d) (cover0_7 _ _)
  intro pc hpc
  simp only [List.mem_cons, List.not_mem_nil, or_false] at hpc
  rcases hpc with rfl
  intro i
  idx_vars i
  refine (norm_apply x0 x1 x2 _ _).trans ?_
  exact congrArg₂ (nrow x0 x1 x2) (Fin.ext (by show i0.val = 0 + 1 * i0.val; omega)) (Fin.ext (by show i1.val = 0 + 1 * i1.val; omega))

end Cert.Kernel3Ideal.Proj

end
-- ==== Proof.ProjValue.lean ====
/- The input projection kernel's three result arrays: row `8192 * s + p` holds the layer norm's row for sequence `s`,
   position `p`, and its projections onto the merge gates' and the branches' columns. -/
module

public import proofs.«01_k».proof.Proof.ProjBlocks
public import proofs.«01_k».proof.Proof.ProjTile

@[expose] public section

set_option maxRecDepth 16384

noncomputable section

namespace Cert.Kernel3Ideal.Proj

open Cert.Kernel3Ideal Cert.Kernel3Ideal.Gen Cert.ProjSpec Cert.FfnSpec Idealize.ShloMosaic Idealize.ShloMosaic.TcCoe Idealize.SL.Sem

variable (m : (ℓ : Loc nD τ sig) → Buf (Elt Ideal) ℓ) (c : Dev nD)

/-- The launch's arguments as the projection's arrays. -/
def args : ProjSpec.Args where
  x s p d := m ((c : Thread nD τ).loc main_arg0) (ix3 s p d)
  g d := m ((c : Thread nD τ).loc main_arg1) (ix1 d)
  b d := m ((c : Thread nD τ).loc main_arg2) (ix1 d)
  w k q := m ((c : Thread nD τ).loc main_arg3) (ix3 0 k q)
  bias q := m ((c : Thread nD τ).loc main_arg4) (ix2 0 q)

theorem nrow_eq (t : Fin cfg0.N) (r : Fin 512) : nrow (iblk m c 0 t) (iblk m c 1 t) (iblk m c 2 t) r = rowNorm (args m c) (seqOf t r) (posOf t r) := by
  unfold nrow rowNorm
  simp only [x0_apply, x1_apply, x2_apply]
  rfl

theorem column_eq (t : Fin cfg0.N) (r : Fin 512) (q : Fin 7680) :
    column (iblk m c 0 t) (iblk m c 1 t) (iblk m c 2 t) (iblk m c 3 t) (iblk m c 4 t) r q = project (args m c) (seqOf t r) (posOf t r) (moved q.val) := by
  unfold column project
  rw [nrow_eq]
  simp only [x3_apply, x4_apply]
  rfl

/-- The tile and the row in it of a row of the flattened batch. -/
def tileOf (i : Fin 32768) : Fin cfg0.N := ⟨i.val / 512, lt_of_lt_of_eq (show i.val / 512 < 64 by omega) N_0.symm⟩
def inTile (i : Fin 32768) : Fin 512 := ⟨i.val % 512, by omega⟩

theorem row_tile (i : Fin 32768) : rowOf (tileOf i) (inTile i) = i := Fin.ext (by show 512 * (i.val / 512) + i.val % 512 = i.val; omega)
theorem seq_tile (i : Fin 32768) : seqOf (tileOf i) (inTile i) = seqIx i := Fin.ext (by show (512 * (i.val / 512) + i.val % 512) / 8192 = i.val / 8192; omega)
theorem pos_tile (i : Fin 32768) : posOf (tileOf i) (inTile i) = posIx i := Fin.ext (by show (512 * (i.val / 512) + i.val % 512) % 8192 = i.val % 8192; omega)

theorem flush5 : ∀ t : Fin cfg0.N, (cfg0.win 5).flush t = true := (by decide +kernel : ∀ t : Fin grid0.N, _)

theorem value5 (i : Fin 32768) (n : Fin 3072) : ((dats m 0 c).arrAt 5 cfg0.N : S32768x3072.Idx → EReal) (ix2 i n) = project (args m c) (seqIx i) (posIx i) (4376 + n.val) := by
  have h := congrFun (Value.blocks5 m c (tileOf i) (flush5 _)) (ix2 (inTile i) n)
  rw [Value.flushed5] at h
  have e := read5 (tileOf i) ((dats m 0 c).arrAt 5 cfg0.N) (inTile i) n
  rw [row_tile] at e
  refine e.symm.trans (h.trans ?_)
  refine (out5_apply (iblk m c 0 (tileOf i)) (iblk m c 1 (tileOf i)) (iblk m c 2 (tileOf i)) (iblk m c 3 (tileOf i)) (iblk m c 4 (tileOf i)) (inTile i) n).trans ?_
  exact (column_eq m c (tileOf i) (inTile i) _).trans (by rw [seq_tile, pos_tile]; exact congrArg _ (moved_gate _ n.isLt))

theorem flush6 : ∀ t : Fin cfg0.N, (cfg0.win 6).flush t = true := (by decide +kernel : ∀ t : Fin grid0.N, _)

theorem value6 (i : Fin 32768) (n : Fin 4608) : ((dats m 0 c).arrAt 6 cfg0.N : S32768x4608.Idx → EReal) (ix2 i n) = project (args m c) (seqIx i) (posIx i) (source n.val) := by
  have h := congrFun (Value.blocks6 m c (tileOf i) (flush6 _)) (ix2 (inTile i) n)
  rw [Value.flushed6] at h
  have e := read6 (tileOf i) ((dats m 0 c).arrAt 6 cfg0.N) (inTile i) n
  rw [row_tile] at e
  refine e.symm.trans (h.trans ?_)
  refine (out6_apply (iblk m c 0 (tileOf i)) (iblk m c 1 (tileOf i)) (iblk m c 2 (tileOf i)) (iblk m c 3 (tileOf i)) (iblk m c 4 (tileOf i)) (inTile i) n).trans ?_
  exact (column_eq m c (tileOf i) (inTile i) _).trans (by rw [seq_tile, pos_tile]; exact congrArg _ (moved_branch _))

theorem flush7 : ∀ t : Fin cfg0.N, (cfg0.win 7).flush t = true := (by decide +kernel : ∀ t : Fin grid0.N, _)

theorem value7 (i : Fin 32768) (n : Fin 1024) : ((dats m 0 c).arrAt 7 cfg0.N : S32768x1024.Idx → EReal) (ix2 i n) = rowNorm (args m c) (seqIx i) (posIx i) n := by
  have h := congrFun (Value.blocks7 m c (tileOf i) (flush7 _)) (ix2 (inTile i) n)
  rw [Value.flushed7] at h
  have e := read7 (tileOf i) ((dats m 0 c).arrAt 7 cfg0.N) (inTile i) n
  rw [row_tile] at e
  refine e.symm.trans (h.trans ?_)
  refine (out7_apply (iblk m c 0 (tileOf i)) (iblk m c 1 (tileOf i)) (iblk m c 2 (tileOf i)) (iblk m c 3 (tileOf i)) (iblk m c 4 (tileOf i)) (inTile i) n).trans ?_
  exact (congrFun (nrow_eq m c (tileOf i) (inTile i)) n).trans (by rw [seq_tile, pos_tile])

end Cert.Kernel3Ideal.Proj

end
-- ==== Proof.ProjClaim.lean ====
/- The input projection kernel and its reference, from the same arguments, leave the same three results. -/
module

public import proofs.«01_k».proof.Defs
public import proofs.«01_k».proof.Proof.ProjValue
public import proofs.«01_k».proof.Proof.ProjRef

@[expose] public section

set_option maxRecDepth 16384

noncomputable section

namespace Cert.Proof

open Idealize.ShloMosaic Idealize.ShloMosaic.TcCoe Idealize.SL.Sem

set_option maxHeartbeats 2000000 in
theorem proj_algebraic : Cert.algebraic_Kernel3Ideal_Reference3Ideal (hKernel3Ideal := Cert.Kernel3Ideal.Gen.facts) (hReference3Ideal := Cert.Reference3Ideal.Gen.facts) := by
  intro m g m' g' _ hagree
  have same : ∀ c : Dev Cert.Kernel3Ideal.nD, Cert.Reference3Ideal.Proj.args (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = Cert.Kernel3Ideal.Proj.args m c := fun c => by
    obtain ⟨e0, e1, e2, e3, e4⟩ := hagree c
    rw [e0, e1, e2, e3, e4]
    rfl
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N,
    fun c => (Cert.Kernel3Ideal.Gen.dats m 0 c).arrAt 7 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2.1.trans ?_, (h c).2.2.2⟩) (Cert.Reference3Ideal.Value.run m' g')
  · refine (Cert.Reference3Ideal.Read.val_main_v53_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))).trans (funext fun i => ?_)
    idx_vars i
    exact (Cert.Reference3Ideal.Proj.gates_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) i0 i1).trans ((congrArg (fun A => Cert.ProjSpec.project A (Cert.ProjSpec.seqIx i0) (Cert.ProjSpec.posIx i0) (4376 + i1.val)) (same c)).trans (Cert.Kernel3Ideal.Proj.value5 m c i0 i1).symm)
  · refine (Cert.Reference3Ideal.Read.val_main_v54_eq m' c).trans (funext fun i => ?_)
    idx_vars i
    exact (Cert.Reference3Ideal.Proj.cols_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) i0 i1).trans ((congrArg (fun A => Cert.ProjSpec.project A (Cert.ProjSpec.seqIx i0) (Cert.ProjSpec.posIx i0) (Cert.ProjSpec.source i1.val)) (same c)).trans (Cert.Kernel3Ideal.Proj.value6 m c i0 i1).symm)
  · refine (Cert.Reference3Ideal.Read.val_main_v55_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans (funext fun i => ?_)
    idx_vars i
    exact (Cert.Reference3Ideal.Proj.normed_apply (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) i0 i1).trans ((congrArg (fun A => Cert.ProjSpec.rowNorm A (Cert.ProjSpec.seqIx i0) (Cert.ProjSpec.posIx i0) i1) (same c)).trans (Cert.Kernel3Ideal.Proj.value7 m c i0 i1).symm)

end Cert.Proof

end
-- ==== Proof.lean ====
/- The certificate: the RG-LRU call, the HGRN2 call, the merge + ConvFFN call and the input projection call of both layers, and
   their references, terminate without a fault. The value of each but HGRN2 is its reference's (`Proof.LruClaim`;
   `Proof.FirstFfnClaim` and `Proof.FfnClaim` for merge + ConvFFN, `Proof.ProjClaim` and `Proof.NextClaim` for the
   projection, first layer and second). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.KernelIdeal.Value
public import proofs.«01_k».proof.Proof.Gen.Kernel2Ideal.Value
public import proofs.«01_k».proof.Proof.Gen.ReferenceIdeal
public import proofs.«01_k».proof.Proof.Gen.Reference2Ideal
public import proofs.«01_k».proof.Proof.Gen.ReferenceIdeal.Step
public import proofs.«01_k».proof.Proof.Gen.ReferenceIdeal.Run
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.FfnClaim
public import proofs.«01_k».proof.Proof.FirstFfnClaim
public import proofs.«01_k».proof.Proof.NextClaim
public import proofs.«01_k».proof.Proof.LruClaim
public import proofs.«01_k».proof.Proof.ProjClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite_inputs.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run m ρ),
    fun m ρ _ => (θ_run Cert.ReferenceIdeal.defs _ _).mono
      (fun r h => ⟨fun c => (h c).2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => (θ_run Cert.Reference2Ideal.defs _ _).mono
      (fun r h => ⟨fun c => (h c).2, sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run Cert.Reference3Ideal.defs _ _).mono
      (fun r h => ⟨fun c => (h c).2.2.2, sem_eq_zero_of_no_sems (by decide) r.2⟩) (Cert.Reference3Ideal.Value.run m ρ),
    fun m ρ _ => Cert.Kernel4.Gen.frame m ρ,
    fun m ρ _ => Cert.Kernel4Ideal.Gen.frame m ρ,
    fun m ρ _ => Cert.Kernel5.Gen.frame m ρ,
    fun m ρ _ => Cert.Kernel5Ideal.Gen.frame m ρ,
    fun m ρ _ => (θ_run Cert.Reference5Ideal.defs _ _).mono
      (fun r h => ⟨fun c => (h c).2.2, sem_eq_zero_of_no_sems (by decide) r.2⟩) (Cert.Reference5Ideal.Value.run m ρ),
    fun m ρ _ => Cert.Kernel6.Gen.frame m ρ,
    fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run m ρ),
    trivial, lru_algebraic, trivial, ffn_algebraic, trivial, proj_algebraic, trivial, trivial, next_algebraic, trivial, first_ffn_algebraic⟩

end Cert.Proof

end
